-- ==== Defs.lean ====
def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelSiblingRows (m : (ℓ : Loc Cert.KernelSiblingRows.nD Cert.KernelSiblingRows.τ Cert.KernelSiblingRows.sig) → Buf (Elt Bits) ℓ) : Prop :=
  True

def Pre_KernelSiblingRowsIdeal (m : (ℓ : Loc Cert.KernelSiblingRowsIdeal.nD Cert.KernelSiblingRowsIdeal.τ Cert.KernelSiblingRowsIdeal.sig) → Buf (Elt Ideal) ℓ) : Prop :=
  True

def Pre_ReferenceSiblingRowsIdeal (m : (ℓ : Loc Cert.ReferenceSiblingRowsIdeal.nD Cert.ReferenceSiblingRowsIdeal.τ Cert.ReferenceSiblingRowsIdeal.sig) → Buf (Elt Ideal) ℓ) : Prop :=
  True

def Pre_KernelOwnRows (m : (ℓ : Loc Cert.KernelOwnRows.nD Cert.KernelOwnRows.τ Cert.KernelOwnRows.sig) → Buf (Elt Bits) ℓ) : Prop :=
  True

def Pre_KernelOwnRowsIdeal (m : (ℓ : Loc Cert.KernelOwnRowsIdeal.nD Cert.KernelOwnRowsIdeal.τ Cert.KernelOwnRowsIdeal.sig) → Buf (Elt Ideal) ℓ) : Prop :=
  True

def Pre_ReferenceOwnRowsIdeal (m : (ℓ : Loc Cert.ReferenceOwnRowsIdeal.nD Cert.ReferenceOwnRowsIdeal.τ Cert.ReferenceOwnRowsIdeal.sig) → Buf (Elt Ideal) ℓ) : Prop :=
  True

def Pre_KernelProjDx (m : (ℓ : Loc Cert.KernelProjDx.nD Cert.KernelProjDx.τ Cert.KernelProjDx.sig) → Buf (Elt Bits) ℓ) : Prop :=
  True

def Pre_KernelProjDxIdeal (m : (ℓ : Loc Cert.KernelProjDxIdeal.nD Cert.KernelProjDxIdeal.τ Cert.KernelProjDxIdeal.sig) → Buf (Elt Ideal) ℓ) : Prop :=
  True

def Pre_ReferenceProjDxIdeal (m : (ℓ : Loc Cert.ReferenceProjDxIdeal.nD Cert.ReferenceProjDxIdeal.τ Cert.ReferenceProjDxIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelStepRow (m : (ℓ : Loc Cert.KernelStepRow.nD Cert.KernelStepRow.τ Cert.KernelStepRow.sig) → Buf (Elt Bits) ℓ) : Prop :=
  True

def Pre_KernelStepRowIdeal (m : (ℓ : Loc Cert.KernelStepRowIdeal.nD Cert.KernelStepRowIdeal.τ Cert.KernelStepRowIdeal.sig) → Buf (Elt Ideal) ℓ) : Prop :=
  True

def Pre_ReferenceStepRowIdeal (m : (ℓ : Loc Cert.ReferenceStepRowIdeal.nD Cert.ReferenceStepRowIdeal.τ Cert.ReferenceStepRowIdeal.sig) → Buf (Elt Ideal) ℓ) : Prop :=
  True

def Pre_KernelStepMeta (m : (ℓ : Loc Cert.KernelStepMeta.nD Cert.KernelStepMeta.τ Cert.KernelStepMeta.sig) → Buf (Elt Bits) ℓ) : Prop :=
  True

def Pre_KernelStepMetaIdeal (m : (ℓ : Loc Cert.KernelStepMetaIdeal.nD Cert.KernelStepMetaIdeal.τ Cert.KernelStepMetaIdeal.sig) → Buf (Elt Ideal) ℓ) : Prop :=
  True

def Pre_ReferenceStepMetaIdeal (m : (ℓ : Loc Cert.ReferenceStepMetaIdeal.nD Cert.ReferenceStepMetaIdeal.τ Cert.ReferenceStepMetaIdeal.sig) → Buf (Elt Ideal) ℓ) : Prop :=
  True

def Pre_KernelStepConv (m : (ℓ : Loc Cert.KernelStepConv.nD Cert.KernelStepConv.τ Cert.KernelStepConv.sig) → Buf (Elt Bits) ℓ) : Prop :=
  True

def Pre_KernelStepConvIdeal (m : (ℓ : Loc Cert.KernelStepConvIdeal.nD Cert.KernelStepConvIdeal.τ Cert.KernelStepConvIdeal.sig) → Buf (Elt Ideal) ℓ) : Prop :=
  True

def Pre_ReferenceStepConvIdeal (m : (ℓ : Loc Cert.ReferenceStepConvIdeal.nD Cert.ReferenceStepConvIdeal.τ Cert.ReferenceStepConvIdeal.sig) → Buf (Elt Ideal) ℓ) : Prop :=
  True

def Pre_KernelStepBias (m : (ℓ : Loc Cert.KernelStepBias.nD Cert.KernelStepBias.τ Cert.KernelStepBias.sig) → Buf (Elt Bits) ℓ) : Prop :=
  True

def Pre_KernelStepBiasIdeal (m : (ℓ : Loc Cert.KernelStepBiasIdeal.nD Cert.KernelStepBiasIdeal.τ Cert.KernelStepBiasIdeal.sig) → Buf (Elt Ideal) ℓ) : Prop :=
  True

def Pre_ReferenceStepBiasIdeal (m : (ℓ : Loc Cert.ReferenceStepBiasIdeal.nD Cert.ReferenceStepBiasIdeal.τ Cert.ReferenceStepBiasIdeal.sig) → Buf (Elt Ideal) ℓ) : Prop :=
  True

def Pre_KernelStepPool (m : (ℓ : Loc Cert.KernelStepPool.nD Cert.KernelStepPool.τ Cert.KernelStepPool.sig) → Buf (Elt Bits) ℓ) : Prop :=
  True

def Pre_KernelStepPoolIdeal (m : (ℓ : Loc Cert.KernelStepPoolIdeal.nD Cert.KernelStepPoolIdeal.τ Cert.KernelStepPoolIdeal.sig) → Buf (Elt Ideal) ℓ) : Prop :=
  True

def Pre_ReferenceStepPoolIdeal (m : (ℓ : Loc Cert.ReferenceStepPoolIdeal.nD Cert.ReferenceStepPoolIdeal.τ Cert.ReferenceStepPoolIdeal.sig) → Buf (Elt Ideal) ℓ) : Prop :=
  True

def Pre_KernelStepGate (m : (ℓ : Loc Cert.KernelStepGate.nD Cert.KernelStepGate.τ Cert.KernelStepGate.sig) → Buf (Elt Bits) ℓ) : Prop :=
  True

def Pre_KernelStepGateIdeal (m : (ℓ : Loc Cert.KernelStepGateIdeal.nD Cert.KernelStepGateIdeal.τ Cert.KernelStepGateIdeal.sig) → Buf (Elt Ideal) ℓ) : Prop :=
  True

def Pre_ReferenceStepGateIdeal (m : (ℓ : Loc Cert.ReferenceStepGateIdeal.nD Cert.ReferenceStepGateIdeal.τ Cert.ReferenceStepGateIdeal.sig) → Buf (Elt Ideal) ℓ) : Prop :=
  True

def Pre_KernelStepOut (m : (ℓ : Loc Cert.KernelStepOut.nD Cert.KernelStepOut.τ Cert.KernelStepOut.sig) → Buf (Elt Bits) ℓ) : Prop :=
  True

def Pre_KernelStepOutIdeal (m : (ℓ : Loc Cert.KernelStepOutIdeal.nD Cert.KernelStepOutIdeal.τ Cert.KernelStepOutIdeal.sig) → Buf (Elt Ideal) ℓ) : Prop :=
  True

def Pre_ReferenceStepOutIdeal (m : (ℓ : Loc Cert.ReferenceStepOutIdeal.nD Cert.ReferenceStepOutIdeal.τ Cert.ReferenceStepOutIdeal.sig) → Buf (Elt Ideal) ℓ) : Prop :=
  True

def Pre_KernelStepIn (m : (ℓ : Loc Cert.KernelStepIn.nD Cert.KernelStepIn.τ Cert.KernelStepIn.sig) → Buf (Elt Bits) ℓ) : Prop :=
  True

def Pre_KernelStepInIdeal (m : (ℓ : Loc Cert.KernelStepInIdeal.nD Cert.KernelStepInIdeal.τ Cert.KernelStepInIdeal.sig) → Buf (Elt Ideal) ℓ) : Prop :=
  True

def Pre_ReferenceStepInIdeal (m : (ℓ : Loc Cert.ReferenceStepInIdeal.nD Cert.ReferenceStepInIdeal.τ Cert.ReferenceStepInIdeal.sig) → Buf (Elt Ideal) ℓ) : Prop :=
  True

def Pre_KernelStepMlp (m : (ℓ : Loc Cert.KernelStepMlp.nD Cert.KernelStepMlp.τ Cert.KernelStepMlp.sig) → Buf (Elt Bits) ℓ) : Prop :=
  True

def Pre_KernelStepMlpIdeal (m : (ℓ : Loc Cert.KernelStepMlpIdeal.nD Cert.KernelStepMlpIdeal.τ Cert.KernelStepMlpIdeal.sig) → Buf (Elt Ideal) ℓ) : Prop :=
  True

def Pre_ReferenceStepMlpIdeal (m : (ℓ : Loc Cert.ReferenceStepMlpIdeal.nD Cert.ReferenceStepMlpIdeal.τ Cert.ReferenceStepMlpIdeal.sig) → Buf (Elt Ideal) ℓ) : Prop :=
  True

def Pre_KernelNormDx (m : (ℓ : Loc Cert.KernelNormDx.nD Cert.KernelNormDx.τ Cert.KernelNormDx.sig) → Buf (Elt Bits) ℓ) : Prop :=
  True

def Pre_KernelNormDxIdeal (m : (ℓ : Loc Cert.KernelNormDxIdeal.nD Cert.KernelNormDxIdeal.τ Cert.KernelNormDxIdeal.sig) → Buf (Elt Ideal) ℓ) : Prop :=
  True

def Pre_ReferenceNormDxIdeal (m : (ℓ : Loc Cert.ReferenceNormDxIdeal.nD Cert.ReferenceNormDxIdeal.τ Cert.ReferenceNormDxIdeal.sig) → Buf (Elt Ideal) ℓ) : Prop :=
  True

def Pre_KernelNorm2Dx (m : (ℓ : Loc Cert.KernelNorm2Dx.nD Cert.KernelNorm2Dx.τ Cert.KernelNorm2Dx.sig) → Buf (Elt Bits) ℓ) : Prop :=
  True

def Pre_KernelNorm2DxIdeal (m : (ℓ : Loc Cert.KernelNorm2DxIdeal.nD Cert.KernelNorm2DxIdeal.τ Cert.KernelNorm2DxIdeal.sig) → Buf (Elt Ideal) ℓ) : Prop :=
  True

def Pre_ReferenceNorm2DxIdeal (m : (ℓ : Loc Cert.ReferenceNorm2DxIdeal.nD Cert.ReferenceNorm2DxIdeal.τ Cert.ReferenceNorm2DxIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1)
      ∧ r.2.mem ((c.tc : Thread Cert.KernelUpDw.nD Cert.KernelUpDw.τ).loc Cert.KernelUpDw.main_arg2) = m ((c.tc : Thread Cert.KernelUpDw.nD Cert.KernelUpDw.τ).loc Cert.KernelUpDw.main_arg2))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
      ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1)
      ∧ r.2.mem ((c.tc : Thread Cert.ReferenceUpDwIdeal.nD Cert.ReferenceUpDwIdeal.τ).loc Cert.ReferenceUpDwIdeal.main_arg2) = m ((c.tc : Thread Cert.ReferenceUpDwIdeal.nD Cert.ReferenceUpDwIdeal.τ).loc Cert.ReferenceUpDwIdeal.main_arg2))
      ∧ r.2.sem = fun _ => 0)

def quiescent_KernelSiblingRows [hKernelSiblingRows : Cert.KernelSiblingRows.Facts] : Prop :=
  ∀ (m : (ℓ : Loc Cert.KernelSiblingRows.nD Cert.KernelSiblingRows.τ Cert.KernelSiblingRows.sig) → Buf (Elt Bits) ℓ) (g : Dev Cert.KernelSiblingRows.nD → PrngReg), Pre_KernelSiblingRows m →
    θ_run (Cert.KernelSiblingRows.defs (F := Bits)) (onTc (τ := Cert.KernelSiblingRows.τ) (Cert.KernelSiblingRows.main (F := Bits))) ⟨m, fun _ => 0, g⟩ (fun r => (∀ c : Dev Cert.KernelSiblingRows.nD,
      r.2.mem ((c.tc : Thread Cert.KernelSiblingRows.nD Cert.KernelSiblingRows.τ).loc Cert.KernelSiblingRows.main_arg0) = m ((c.tc : Thread Cert.KernelSiblingRows.nD Cert.KernelSiblingRows.τ).loc Cert.KernelSiblingRows.main_arg0)
      ∧ r.2.mem ((c.tc : Thread Cert.KernelSiblingRows.nD Cert.KernelSiblingRows.τ).loc Cert.KernelSiblingRows.main_arg1) = m ((c.tc : Thread Cert.KernelSiblingRows.nD Cert.KernelSiblingRows.τ).loc Cert.KernelSiblingRows.main_arg1)
      ∧ r.2.mem ((c.tc : Thread Cert.KernelSiblingRows.nD Cert.KernelSiblingRows.τ).loc Cert.KernelSiblingRows.main_arg2) = m ((c.tc : Thread Cert.KernelSiblingRows.nD Cert.KernelSiblingRows.τ).loc Cert.KernelSiblingRows.main_arg2)
      ∧ r.2.mem ((c.tc : Thread Cert.KernelSiblingRows.nD Cert.KernelSiblingRows.τ).loc Cert.KernelSiblingRows.main_arg3) = m ((c.tc : Thread Cert.KernelSiblingRows.nD Cert.KernelSiblingRows.τ).loc Cert.KernelSiblingRows.main_arg3)
      ∧ r.2.mem ((c.tc : Thread Cert.KernelSiblingRows.nD Cert.KernelSiblingRows.τ).loc Cert.KernelSiblingRows.main_arg4) = m ((c.tc : Thread Cert.KernelSiblingRows.nD Cert.KernelSiblingRows.τ).loc Cert.KernelSiblingRows.main_arg4)
      ∧ r.2.mem ((c.tc : Thread Cert.KernelSiblingRows.nD Cert.KernelSiblingRows.τ).loc Cert.KernelSiblingRows.main_arg5) = m ((c.tc : Thread Cert.KernelSiblingRows.nD Cert.KernelSiblingRows.τ).loc Cert.KernelSiblingRows.main_arg5)
      ∧ r.2.mem ((c.tc : Thread Cert.KernelSiblingRows.nD Cert.KernelSiblingRows.τ).loc Cert.KernelSiblingRows.main_arg6) = m ((c.tc : Thread Cert.KernelSiblingRows.nD Cert.KernelSiblingRows.τ).loc Cert.KernelSiblingRows.main_arg6)
      ∧ r.2.mem ((c.tc : Thread Cert.KernelSiblingRows.nD Cert.KernelSiblingRows.τ).loc Cert.KernelSiblingRows.main_arg7) = m ((c.tc : Thread Cert.KernelSiblingRows.nD Cert.KernelSiblingRows.τ).loc Cert.KernelSiblingRows.main_arg7))
      ∧ r.2.sem = fun _ => 0)

def quiescent_KernelSiblingRowsIdeal [hKernelSiblingRowsIdeal : Cert.KernelSiblingRowsIdeal.Facts] : Prop :=
  ∀ (m : (ℓ : Loc Cert.KernelSiblingRowsIdeal.nD Cert.KernelSiblingRowsIdeal.τ Cert.KernelSiblingRowsIdeal.sig) → Buf (Elt Ideal) ℓ) (g : Dev Cert.KernelSiblingRowsIdeal.nD → PrngReg), Pre_KernelSiblingRowsIdeal m →
    θ_run (Cert.KernelSiblingRowsIdeal.defs (F := Ideal)) (onTc (τ := Cert.KernelSiblingRowsIdeal.τ) (Cert.KernelSiblingRowsIdeal.main (F := Ideal))) ⟨m, fun _ => 0, g⟩ (fun r => (∀ c : Dev Cert.KernelSiblingRowsIdeal.nD,
      r.2.mem ((c.tc : Thread Cert.KernelSiblingRowsIdeal.nD Cert.KernelSiblingRowsIdeal.τ).loc Cert.KernelSiblingRowsIdeal.main_arg0) = m ((c.tc : Thread Cert.KernelSiblingRowsIdeal.nD Cert.KernelSiblingRowsIdeal.τ).loc Cert.KernelSiblingRowsIdeal.main_arg0)
      ∧ r.2.mem ((c.tc : Thread Cert.KernelSiblingRowsIdeal.nD Cert.KernelSiblingRowsIdeal.τ).loc Cert.KernelSiblingRowsIdeal.main_arg1) = m ((c.tc : Thread Cert.KernelSiblingRowsIdeal.nD Cert.KernelSiblingRowsIdeal.τ).loc Cert.KernelSiblingRowsIdeal.main_arg1)
      ∧ r.2.mem ((c.tc : Thread Cert.KernelSiblingRowsIdeal.nD Cert.KernelSiblingRowsIdeal.τ).loc Cert.KernelSiblingRowsIdeal.main_arg2) = m ((c.tc : Thread Cert.KernelSiblingRowsIdeal.nD Cert.KernelSiblingRowsIdeal.τ).loc Cert.KernelSiblingRowsIdeal.main_arg2)
      ∧ r.2.mem ((c.tc : Thread Cert.KernelSiblingRowsIdeal.nD Cert.KernelSiblingRowsIdeal.τ).loc Cert.KernelSiblingRowsIdeal.main_arg3) = m ((c.tc : Thread Cert.KernelSiblingRowsIdeal.nD Cert.KernelSiblingRowsIdeal.τ).loc Cert.KernelSiblingRowsIdeal.main_arg3)
      ∧ r.2.mem ((c.tc : Thread Cert.KernelSiblingRowsIdeal.nD Cert.KernelSiblingRowsIdeal.τ).loc Cert.KernelSiblingRowsIdeal.main_arg4) = m ((c.tc : Thread Cert.KernelSiblingRowsIdeal.nD Cert.KernelSiblingRowsIdeal.τ).loc Cert.KernelSiblingRowsIdeal.main_arg4)
      ∧ r.2.mem ((c.tc : Thread Cert.KernelSiblingRowsIdeal.nD Cert.KernelSiblingRowsIdeal.τ).loc Cert.KernelSiblingRowsIdeal.main_arg5) = m ((c.tc : Thread Cert.KernelSiblingRowsIdeal.nD Cert.KernelSiblingRowsIdeal.τ).loc Cert.KernelSiblingRowsIdeal.main_arg5)
      ∧ r.2.mem ((c.tc : Thread Cert.KernelSiblingRowsIdeal.nD Cert.KernelSiblingRowsIdeal.τ).loc Cert.KernelSiblingRowsIdeal.main_arg6) = m ((c.tc : Thread Cert.KernelSiblingRowsIdeal.nD Cert.KernelSiblingRowsIdeal.τ).loc Cert.KernelSiblingRowsIdeal.main_arg6)
      ∧ r.2.mem ((c.tc : Thread Cert.KernelSiblingRowsIdeal.nD Cert.KernelSiblingRowsIdeal.τ).loc Cert.KernelSiblingRowsIdeal.main_arg7) = m ((c.tc : Thread Cert.KernelSiblingRowsIdeal.nD Cert.KernelSiblingRowsIdeal.τ).loc Cert.KernelSiblingRowsIdeal.main_arg7))
      ∧ r.2.sem = fun _ => 0)

def quiescent_ReferenceSiblingRowsIdeal [hReferenceSiblingRowsIdeal : Cert.ReferenceSiblingRowsIdeal.Facts] : Prop :=
  ∀ (m : (ℓ : Loc Cert.ReferenceSiblingRowsIdeal.nD Cert.ReferenceSiblingRowsIdeal.τ Cert.ReferenceSiblingRowsIdeal.sig) → Buf (Elt Ideal) ℓ) (g : Dev Cert.ReferenceSiblingRowsIdeal.nD → PrngReg), Pre_ReferenceSiblingRowsIdeal m →
    θ_run (Cert.ReferenceSiblingRowsIdeal.defs (F := Ideal)) (onTc (τ := Cert.ReferenceSiblingRowsIdeal.τ) (Cert.ReferenceSiblingRowsIdeal.main (F := Ideal))) ⟨m, fun _ => 0, g⟩ (fun r => (∀ c : Dev Cert.ReferenceSiblingRowsIdeal.nD,
      r.2.mem ((c.tc : Thread Cert.ReferenceSiblingRowsIdeal.nD Cert.ReferenceSiblingRowsIdeal.τ).loc Cert.ReferenceSiblingRowsIdeal.main_arg0) = m ((c.tc : Thread Cert.ReferenceSiblingRowsIdeal.nD Cert.ReferenceSiblingRowsIdeal.τ).loc Cert.ReferenceSiblingRowsIdeal.main_arg0)
      ∧ r.2.mem ((c.tc : Thread Cert.ReferenceSiblingRowsIdeal.nD Cert.ReferenceSiblingRowsIdeal.τ).loc Cert.ReferenceSiblingRowsIdeal.main_arg1) = m ((c.tc : Thread Cert.ReferenceSiblingRowsIdeal.nD Cert.ReferenceSiblingRowsIdeal.τ).loc Cert.ReferenceSiblingRowsIdeal.main_arg1)
      ∧ r.2.mem ((c.tc : Thread Cert.ReferenceSiblingRowsIdeal.nD Cert.ReferenceSiblingRowsIdeal.τ).loc Cert.ReferenceSiblingRowsIdeal.main_arg2) = m ((c.tc : Thread Cert.ReferenceSiblingRowsIdeal.nD Cert.ReferenceSiblingRowsIdeal.τ).loc Cert.ReferenceSiblingRowsIdeal.main_arg2)
      ∧ r.2.mem ((c.tc : Thread Cert.ReferenceSiblingRowsIdeal.nD Cert.ReferenceSiblingRowsIdeal.τ).loc Cert.ReferenceSiblingRowsIdeal.main_arg3) = m ((c.tc : Thread Cert.ReferenceSiblingRowsIdeal.nD Cert.ReferenceSiblingRowsIdeal.τ).loc Cert.ReferenceSiblingRowsIdeal.main_arg3)
      ∧ r.2.mem ((c.tc : Thread Cert.ReferenceSiblingRowsIdeal.nD Cert.ReferenceSiblingRowsIdeal.τ).loc Cert.ReferenceSiblingRowsIdeal.main_arg4) = m ((c.tc : Thread Cert.ReferenceSiblingRowsIdeal.nD Cert.ReferenceSiblingRowsIdeal.τ).loc Cert.ReferenceSiblingRowsIdeal.main_arg4)
      ∧ r.2.mem ((c.tc : Thread Cert.ReferenceSiblingRowsIdeal.nD Cert.ReferenceSiblingRowsIdeal.τ).loc Cert.ReferenceSiblingRowsIdeal.main_arg5) = m ((c.tc : Thread Cert.ReferenceSiblingRowsIdeal.nD Cert.ReferenceSiblingRowsIdeal.τ).loc Cert.ReferenceSiblingRowsIdeal.main_arg5)
      ∧ r.2.mem ((c.tc : Thread Cert.ReferenceSiblingRowsIdeal.nD Cert.ReferenceSiblingRowsIdeal.τ).loc Cert.ReferenceSiblingRowsIdeal.main_arg6) = m ((c.tc : Thread Cert.ReferenceSiblingRowsIdeal.nD Cert.ReferenceSiblingRowsIdeal.τ).loc Cert.ReferenceSiblingRowsIdeal.main_arg6)
      ∧ r.2.mem ((c.tc : Thread Cert.ReferenceSiblingRowsIdeal.nD Cert.ReferenceSiblingRowsIdeal.τ).loc Cert.ReferenceSiblingRowsIdeal.main_arg7) = m ((c.tc : Thread Cert.ReferenceSiblingRowsIdeal.nD Cert.ReferenceSiblingRowsIdeal.τ).loc Cert.ReferenceSiblingRowsIdeal.main_arg7))
      ∧ r.2.sem = fun _ => 0)

def quiescent_KernelOwnRows [hKernelOwnRows : Cert.KernelOwnRows.Facts] : Prop :=
  ∀ (m : (ℓ : Loc Cert.KernelOwnRows.nD Cert.KernelOwnRows.τ Cert.KernelOwnRows.sig) → Buf (Elt Bits) ℓ) (g : Dev Cert.KernelOwnRows.nD → PrngReg), Pre_KernelOwnRows m →
    θ_run (Cert.KernelOwnRows.defs (F := Bits)) (onTc (τ := Cert.KernelOwnRows.τ) (Cert.KernelOwnRows.main (F := Bits))) ⟨m, fun _ => 0, g⟩ (fun r => (∀ c : Dev Cert.KernelOwnRows.nD,
      r.2.mem ((c.tc : Thread Cert.KernelOwnRows.nD Cert.KernelOwnRows.τ).loc Cert.KernelOwnRows.main_arg0) = m ((c.tc : Thread Cert.KernelOwnRows.nD Cert.KernelOwnRows.τ).loc Cert.KernelOwnRows.main_arg0)
      ∧ r.2.mem ((c.tc : Thread Cert.KernelOwnRows.nD Cert.KernelOwnRows.τ).loc Cert.KernelOwnRows.main_arg1) = m ((c.tc : Thread Cert.KernelOwnRows.nD Cert.KernelOwnRows.τ).loc Cert.KernelOwnRows.main_arg1)
      ∧ r.2.mem ((c.tc : Thread Cert.KernelOwnRows.nD Cert.KernelOwnRows.τ).loc Cert.KernelOwnRows.main_arg2) = m ((c.tc : Thread Cert.KernelOwnRows.nD Cert.KernelOwnRows.τ).loc Cert.KernelOwnRows.main_arg2)
      ∧ r.2.mem ((c.tc : Thread Cert.KernelOwnRows.nD Cert.KernelOwnRows.τ).loc Cert.KernelOwnRows.main_arg3) = m ((c.tc : Thread Cert.KernelOwnRows.nD Cert.KernelOwnRows.τ).loc Cert.KernelOwnRows.main_arg3)
      ∧ r.2.mem ((c.tc : Thread Cert.KernelOwnRows.nD Cert.KernelOwnRows.τ).loc Cert.KernelOwnRows.main_arg4) = m ((c.tc : Thread Cert.KernelOwnRows.nD Cert.KernelOwnRows.τ).loc Cert.KernelOwnRows.main_arg4)
      ∧ r.2.mem ((c.tc : Thread Cert.KernelOwnRows.nD Cert.KernelOwnRows.τ).loc Cert.KernelOwnRows.main_arg5) = m ((c.tc : Thread Cert.KernelOwnRows.nD Cert.KernelOwnRows.τ).loc Cert.KernelOwnRows.main_arg5))
      ∧ r.2.sem = fun _ => 0)

def quiescent_KernelOwnRowsIdeal [hKernelOwnRowsIdeal : Cert.KernelOwnRowsIdeal.Facts] : Prop :=
  ∀ (m : (ℓ : Loc Cert.KernelOwnRowsIdeal.nD Cert.KernelOwnRowsIdeal.τ Cert.KernelOwnRowsIdeal.sig) → Buf (Elt Ideal) ℓ) (g : Dev Cert.KernelOwnRowsIdeal.nD → PrngReg), Pre_KernelOwnRowsIdeal m →
    θ_run (Cert.KernelOwnRowsIdeal.defs (F := Ideal)) (onTc (τ := Cert.KernelOwnRowsIdeal.τ) (Cert.KernelOwnRowsIdeal.main (F := Ideal))) ⟨m, fun _ => 0, g⟩ (fun r => (∀ c : Dev Cert.KernelOwnRowsIdeal.nD,
      r.2.mem ((c.tc : Thread Cert.KernelOwnRowsIdeal.nD Cert.KernelOwnRowsIdeal.τ).loc Cert.KernelOwnRowsIdeal.main_arg0) = m ((c.tc : Thread Cert.KernelOwnRowsIdeal.nD Cert.KernelOwnRowsIdeal.τ).loc Cert.KernelOwnRowsIdeal.main_arg0)
      ∧ r.2.mem ((c.tc : Thread Cert.KernelOwnRowsIdeal.nD Cert.KernelOwnRowsIdeal.τ).loc Cert.KernelOwnRowsIdeal.main_arg1) = m ((c.tc : Thread Cert.KernelOwnRowsIdeal.nD Cert.KernelOwnRowsIdeal.τ).loc Cert.KernelOwnRowsIdeal.main_arg1)
      ∧ r.2.mem ((c.tc : Thread Cert.KernelOwnRowsIdeal.nD Cert.KernelOwnRowsIdeal.τ).loc Cert.KernelOwnRowsIdeal.main_arg2) = m ((c.tc : Thread Cert.KernelOwnRowsIdeal.nD Cert.KernelOwnRowsIdeal.τ).loc Cert.KernelOwnRowsIdeal.main_arg2)
      ∧ r.2.mem ((c.tc : Thread Cert.KernelOwnRowsIdeal.nD Cert.KernelOwnRowsIdeal.τ).loc Cert.KernelOwnRowsIdeal.main_arg3) = m ((c.tc : Thread Cert.KernelOwnRowsIdeal.nD Cert.KernelOwnRowsIdeal.τ).loc Cert.KernelOwnRowsIdeal.main_arg3)
      ∧ r.2.mem ((c.tc : Thread Cert.KernelOwnRowsIdeal.nD Cert.KernelOwnRowsIdeal.τ).loc Cert.KernelOwnRowsIdeal.main_arg4) = m ((c.tc : Thread Cert.KernelOwnRowsIdeal.nD Cert.KernelOwnRowsIdeal.τ).loc Cert.KernelOwnRowsIdeal.main_arg4)
      ∧ r.2.mem ((c.tc : Thread Cert.KernelOwnRowsIdeal.nD Cert.KernelOwnRowsIdeal.τ).loc Cert.KernelOwnRowsIdeal.main_arg5) = m ((c.tc : Thread Cert.KernelOwnRowsIdeal.nD Cert.KernelOwnRowsIdeal.τ).loc Cert.KernelOwnRowsIdeal.main_arg5))
      ∧ r.2.sem = fun _ => 0)

def quiescent_ReferenceOwnRowsIdeal [hReferenceOwnRowsIdeal : Cert.ReferenceOwnRowsIdeal.Facts] : Prop :=
  ∀ (m : (ℓ : Loc Cert.ReferenceOwnRowsIdeal.nD Cert.ReferenceOwnRowsIdeal.τ Cert.ReferenceOwnRowsIdeal.sig) → Buf (Elt Ideal) ℓ) (g : Dev Cert.ReferenceOwnRowsIdeal.nD → PrngReg), Pre_ReferenceOwnRowsIdeal m →
    θ_run (Cert.ReferenceOwnRowsIdeal.defs (F := Ideal)) (onTc (τ := Cert.ReferenceOwnRowsIdeal.τ) (Cert.ReferenceOwnRowsIdeal.main (F := Ideal))) ⟨m, fun _ => 0, g⟩ (fun r => (∀ c : Dev Cert.ReferenceOwnRowsIdeal.nD,
      r.2.mem ((c.tc : Thread Cert.ReferenceOwnRowsIdeal.nD Cert.ReferenceOwnRowsIdeal.τ).loc Cert.ReferenceOwnRowsIdeal.main_arg0) = m ((c.tc : Thread Cert.ReferenceOwnRowsIdeal.nD Cert.ReferenceOwnRowsIdeal.τ).loc Cert.ReferenceOwnRowsIdeal.main_arg0)
      ∧ r.2.mem ((c.tc : Thread Cert.ReferenceOwnRowsIdeal.nD Cert.ReferenceOwnRowsIdeal.τ).loc Cert.ReferenceOwnRowsIdeal.main_arg1) = m ((c.tc : Thread Cert.ReferenceOwnRowsIdeal.nD Cert.ReferenceOwnRowsIdeal.τ).loc Cert.ReferenceOwnRowsIdeal.main_arg1)
      ∧ r.2.mem ((c.tc : Thread Cert.ReferenceOwnRowsIdeal.nD Cert.ReferenceOwnRowsIdeal.τ).loc Cert.ReferenceOwnRowsIdeal.main_arg2) = m ((c.tc : Thread Cert.ReferenceOwnRowsIdeal.nD Cert.ReferenceOwnRowsIdeal.τ).loc Cert.ReferenceOwnRowsIdeal.main_arg2)
      ∧ r.2.mem ((c.tc : Thread Cert.ReferenceOwnRowsIdeal.nD Cert.ReferenceOwnRowsIdeal.τ).loc Cert.ReferenceOwnRowsIdeal.main_arg3) = m ((c.tc : Thread Cert.ReferenceOwnRowsIdeal.nD Cert.ReferenceOwnRowsIdeal.τ).loc Cert.ReferenceOwnRowsIdeal.main_arg3)
      ∧ r.2.mem ((c.tc : Thread Cert.ReferenceOwnRowsIdeal.nD Cert.ReferenceOwnRowsIdeal.τ).loc Cert.ReferenceOwnRowsIdeal.main_arg4) = m ((c.tc : Thread Cert.ReferenceOwnRowsIdeal.nD Cert.ReferenceOwnRowsIdeal.τ).loc Cert.ReferenceOwnRowsIdeal.main_arg4)
      ∧ r.2.mem ((c.tc : Thread Cert.ReferenceOwnRowsIdeal.nD Cert.ReferenceOwnRowsIdeal.τ).loc Cert.ReferenceOwnRowsIdeal.main_arg5) = m ((c.tc : Thread Cert.ReferenceOwnRowsIdeal.nD Cert.ReferenceOwnRowsIdeal.τ).loc Cert.ReferenceOwnRowsIdeal.main_arg5))
      ∧ r.2.sem = fun _ => 0)

def quiescent_KernelProjDx [hKernelProjDx : Cert.KernelProjDx.Facts] : Prop :=
  ∀ (m : (ℓ : Loc Cert.KernelProjDx.nD Cert.KernelProjDx.τ Cert.KernelProjDx.sig) → Buf (Elt Bits) ℓ) (g : Dev Cert.KernelProjDx.nD → PrngReg), Pre_KernelProjDx m →
    θ_run (Cert.KernelProjDx.defs (F := Bits)) (onTc (τ := Cert.KernelProjDx.τ) (Cert.KernelProjDx.main (F := Bits))) ⟨m, fun _ => 0, g⟩ (fun r => (∀ c : Dev Cert.KernelProjDx.nD,
      r.2.mem ((c.tc : Thread Cert.KernelProjDx.nD Cert.KernelProjDx.τ).loc Cert.KernelProjDx.main_arg0) = m ((c.tc : Thread Cert.KernelProjDx.nD Cert.KernelProjDx.τ).loc Cert.KernelProjDx.main_arg0)
      ∧ r.2.mem ((c.tc : Thread Cert.KernelProjDx.nD Cert.KernelProjDx.τ).loc Cert.KernelProjDx.main_arg1) = m ((c.tc : Thread Cert.KernelProjDx.nD Cert.KernelProjDx.τ).loc Cert.KernelProjDx.main_arg1)
      ∧ r.2.mem ((c.tc : Thread Cert.KernelProjDx.nD Cert.KernelProjDx.τ).loc Cert.KernelProjDx.main_arg2) = m ((c.tc : Thread Cert.KernelProjDx.nD Cert.KernelProjDx.τ).loc Cert.KernelProjDx.main_arg2)
      ∧ r.2.mem ((c.tc : Thread Cert.KernelProjDx.nD Cert.KernelProjDx.τ).loc Cert.KernelProjDx.main_arg3) = m ((c.tc : Thread Cert.KernelProjDx.nD Cert.KernelProjDx.τ).loc Cert.KernelProjDx.main_arg3))
      ∧ r.2.sem = fun _ => 0)

def quiescent_KernelProjDxIdeal [hKernelProjDxIdeal : Cert.KernelProjDxIdeal.Facts] : Prop :=
  ∀ (m : (ℓ : Loc Cert.KernelProjDxIdeal.nD Cert.KernelProjDxIdeal.τ Cert.KernelProjDxIdeal.sig) → Buf (Elt Ideal) ℓ) (g : Dev Cert.KernelProjDxIdeal.nD → PrngReg), Pre_KernelProjDxIdeal m →
    θ_run (Cert.KernelProjDxIdeal.defs (F := Ideal)) (onTc (τ := Cert.KernelProjDxIdeal.τ) (Cert.KernelProjDxIdeal.main (F := Ideal))) ⟨m, fun _ => 0, g⟩ (fun r => (∀ c : Dev Cert.KernelProjDxIdeal.nD,
      r.2.mem ((c.tc : Thread Cert.KernelProjDxIdeal.nD Cert.KernelProjDxIdeal.τ).loc Cert.KernelProjDxIdeal.main_arg0) = m ((c.tc : Thread Cert.KernelProjDxIdeal.nD Cert.KernelProjDxIdeal.τ).loc Cert.KernelProjDxIdeal.main_arg0)
      ∧ r.2.mem ((c.tc : Thread Cert.KernelProjDxIdeal.nD Cert.KernelProjDxIdeal.τ).loc Cert.KernelProjDxIdeal.main_arg1) = m ((c.tc : Thread Cert.KernelProjDxIdeal.nD Cert.KernelProjDxIdeal.τ).loc Cert.KernelProjDxIdeal.main_arg1)
      ∧ r.2.mem ((c.tc : Thread Cert.KernelProjDxIdeal.nD Cert.KernelProjDxIdeal.τ).loc Cert.KernelProjDxIdeal.main_arg2) = m ((c.tc : Thread Cert.KernelProjDxIdeal.nD Cert.KernelProjDxIdeal.τ).loc Cert.KernelProjDxIdeal.main_arg2)
      ∧ r.2.mem ((c.tc : Thread Cert.KernelProjDxIdeal.nD Cert.KernelProjDxIdeal.τ).loc Cert.KernelProjDxIdeal.main_arg3) = m ((c.tc : Thread Cert.KernelProjDxIdeal.nD Cert.KernelProjDxIdeal.τ).loc Cert.KernelProjDxIdeal.main_arg3))
      ∧ r.2.sem = fun _ => 0)

def quiescent_ReferenceProjDxIdeal [hReferenceProjDxIdeal : Cert.ReferenceProjDxIdeal.Facts] : Prop :=
  ∀ (m : (ℓ : Loc Cert.ReferenceProjDxIdeal.nD Cert.ReferenceProjDxIdeal.τ Cert.ReferenceProjDxIdeal.sig) → Buf (Elt Ideal) ℓ) (g : Dev Cert.ReferenceProjDxIdeal.nD → PrngReg), Pre_ReferenceProjDxIdeal m →
    θ_run (Cert.ReferenceProjDxIdeal.defs (F := Ideal)) (onTc (τ := Cert.ReferenceProjDxIdeal.τ) (Cert.ReferenceProjDxIdeal.main (F := Ideal))) ⟨m, fun _ => 0, g⟩ (fun r => (∀ c : Dev Cert.ReferenceProjDxIdeal.nD,
      r.2.mem ((c.tc : Thread Cert.ReferenceProjDxIdeal.nD Cert.ReferenceProjDxIdeal.τ).loc Cert.ReferenceProjDxIdeal.main_arg0) = m ((c.tc : Thread Cert.ReferenceProjDxIdeal.nD Cert.ReferenceProjDxIdeal.τ).loc Cert.ReferenceProjDxIdeal.main_arg0)
      ∧ r.2.mem ((c.tc : Thread Cert.ReferenceProjDxIdeal.nD Cert.ReferenceProjDxIdeal.τ).loc Cert.ReferenceProjDxIdeal.main_arg1) = m ((c.tc : Thread Cert.ReferenceProjDxIdeal.nD Cert.ReferenceProjDxIdeal.τ).loc Cert.ReferenceProjDxIdeal.main_arg1)
      ∧ r.2.mem ((c.tc : Thread Cert.ReferenceProjDxIdeal.nD Cert.ReferenceProjDxIdeal.τ).loc Cert.ReferenceProjDxIdeal.main_arg2) = m ((c.tc : Thread Cert.ReferenceProjDxIdeal.nD Cert.ReferenceProjDxIdeal.τ).loc Cert.ReferenceProjDxIdeal.main_arg2)
      ∧ r.2.mem ((c.tc : Thread Cert.ReferenceProjDxIdeal.nD Cert.ReferenceProjDxIdeal.τ).loc Cert.ReferenceProjDxIdeal.main_arg3) = m ((c.tc : Thread Cert.ReferenceProjDxIdeal.nD Cert.ReferenceProjDxIdeal.τ).loc Cert.ReferenceProjDxIdeal.main_arg3))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1)
      ∧ r.2.mem ((c.tc : Thread Cert.KernelUpDx.nD Cert.KernelUpDx.τ).loc Cert.KernelUpDx.main_arg2) = m ((c.tc : Thread Cert.KernelUpDx.nD Cert.KernelUpDx.τ).loc Cert.KernelUpDx.main_arg2)
      ∧ r.2.mem ((c.tc : Thread Cert.KernelUpDx.nD Cert.KernelUpDx.τ).loc Cert.KernelUpDx.main_arg3) = m ((c.tc : Thread Cert.KernelUpDx.nD Cert.KernelUpDx.τ).loc Cert.KernelUpDx.main_arg3))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
      ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
      ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1)
      ∧ r.2.mem ((c.tc : Thread Cert.ReferenceUpDxIdeal.nD Cert.ReferenceUpDxIdeal.τ).loc Cert.ReferenceUpDxIdeal.main_arg2) = m ((c.tc : Thread Cert.ReferenceUpDxIdeal.nD Cert.ReferenceUpDxIdeal.τ).loc Cert.ReferenceUpDxIdeal.main_arg2)
      ∧ r.2.mem ((c.tc : Thread Cert.ReferenceUpDxIdeal.nD Cert.ReferenceUpDxIdeal.τ).loc Cert.ReferenceUpDxIdeal.main_arg3) = m ((c.tc : Thread Cert.ReferenceUpDxIdeal.nD Cert.ReferenceUpDxIdeal.τ).loc Cert.ReferenceUpDxIdeal.main_arg3))
      ∧ r.2.sem = fun _ => 0)

def quiescent_KernelStepRow [hKernelStepRow : Cert.KernelStepRow.Facts] : Prop :=
  ∀ (m : (ℓ : Loc Cert.KernelStepRow.nD Cert.KernelStepRow.τ Cert.KernelStepRow.sig) → Buf (Elt Bits) ℓ) (g : Dev Cert.KernelStepRow.nD → PrngReg), Pre_KernelStepRow m →
    θ_run (Cert.KernelStepRow.defs (F := Bits)) (onTc (τ := Cert.KernelStepRow.τ) (Cert.KernelStepRow.main (F := Bits))) ⟨m, fun _ => 0, g⟩ (fun r => (∀ c : Dev Cert.KernelStepRow.nD,
      r.2.mem ((c.tc : Thread Cert.KernelStepRow.nD Cert.KernelStepRow.τ).loc Cert.KernelStepRow.main_arg0) = m ((c.tc : Thread Cert.KernelStepRow.nD Cert.KernelStepRow.τ).loc Cert.KernelStepRow.main_arg0)
      ∧ r.2.mem ((c.tc : Thread Cert.KernelStepRow.nD Cert.KernelStepRow.τ).loc Cert.KernelStepRow.main_arg1) = m ((c.tc : Thread Cert.KernelStepRow.nD Cert.KernelStepRow.τ).loc Cert.KernelStepRow.main_arg1)
      ∧ r.2.mem ((c.tc : Thread Cert.KernelStepRow.nD Cert.KernelStepRow.τ).loc Cert.KernelStepRow.main_arg2) = m ((c.tc : Thread Cert.KernelStepRow.nD Cert.KernelStepRow.τ).loc Cert.KernelStepRow.main_arg2)
      ∧ r.2.mem ((c.tc : Thread Cert.KernelStepRow.nD Cert.KernelStepRow.τ).loc Cert.KernelStepRow.main_arg3) = m ((c.tc : Thread Cert.KernelStepRow.nD Cert.KernelStepRow.τ).loc Cert.KernelStepRow.main_arg3))
      ∧ r.2.sem = fun _ => 0)

def quiescent_KernelStepRowIdeal [hKernelStepRowIdeal : Cert.KernelStepRowIdeal.Facts] : Prop :=
  ∀ (m : (ℓ : Loc Cert.KernelStepRowIdeal.nD Cert.KernelStepRowIdeal.τ Cert.KernelStepRowIdeal.sig) → Buf (Elt Ideal) ℓ) (g : Dev Cert.KernelStepRowIdeal.nD → PrngReg), Pre_KernelStepRowIdeal m →
    θ_run (Cert.KernelStepRowIdeal.defs (F := Ideal)) (onTc (τ := Cert.KernelStepRowIdeal.τ) (Cert.KernelStepRowIdeal.main (F := Ideal))) ⟨m, fun _ => 0, g⟩ (fun r => (∀ c : Dev Cert.KernelStepRowIdeal.nD,
      r.2.mem ((c.tc : Thread Cert.KernelStepRowIdeal.nD Cert.KernelStepRowIdeal.τ).loc Cert.KernelStepRowIdeal.main_arg0) = m ((c.tc : Thread Cert.KernelStepRowIdeal.nD Cert.KernelStepRowIdeal.τ).loc Cert.KernelStepRowIdeal.main_arg0)
      ∧ r.2.mem ((c.tc : Thread Cert.KernelStepRowIdeal.nD Cert.KernelStepRowIdeal.τ).loc Cert.KernelStepRowIdeal.main_arg1) = m ((c.tc : Thread Cert.KernelStepRowIdeal.nD Cert.KernelStepRowIdeal.τ).loc Cert.KernelStepRowIdeal.main_arg1)
      ∧ r.2.mem ((c.tc : Thread Cert.KernelStepRowIdeal.nD Cert.KernelStepRowIdeal.τ).loc Cert.KernelStepRowIdeal.main_arg2) = m ((c.tc : Thread Cert.KernelStepRowIdeal.nD Cert.KernelStepRowIdeal.τ).loc Cert.KernelStepRowIdeal.main_arg2)
      ∧ r.2.mem ((c.tc : Thread Cert.KernelStepRowIdeal.nD Cert.KernelStepRowIdeal.τ).loc Cert.KernelStepRowIdeal.main_arg3) = m ((c.tc : Thread Cert.KernelStepRowIdeal.nD Cert.KernelStepRowIdeal.τ).loc Cert.KernelStepRowIdeal.main_arg3))
      ∧ r.2.sem = fun _ => 0)

def quiescent_ReferenceStepRowIdeal [hReferenceStepRowIdeal : Cert.ReferenceStepRowIdeal.Facts] : Prop :=
  ∀ (m : (ℓ : Loc Cert.ReferenceStepRowIdeal.nD Cert.ReferenceStepRowIdeal.τ Cert.ReferenceStepRowIdeal.sig) → Buf (Elt Ideal) ℓ) (g : Dev Cert.ReferenceStepRowIdeal.nD → PrngReg), Pre_ReferenceStepRowIdeal m →
    θ_run (Cert.ReferenceStepRowIdeal.defs (F := Ideal)) (onTc (τ := Cert.ReferenceStepRowIdeal.τ) (Cert.ReferenceStepRowIdeal.main (F := Ideal))) ⟨m, fun _ => 0, g⟩ (fun r => (∀ c : Dev Cert.ReferenceStepRowIdeal.nD,
      r.2.mem ((c.tc : Thread Cert.ReferenceStepRowIdeal.nD Cert.ReferenceStepRowIdeal.τ).loc Cert.ReferenceStepRowIdeal.main_arg0) = m ((c.tc : Thread Cert.ReferenceStepRowIdeal.nD Cert.ReferenceStepRowIdeal.τ).loc Cert.ReferenceStepRowIdeal.main_arg0)
      ∧ r.2.mem ((c.tc : Thread Cert.ReferenceStepRowIdeal.nD Cert.ReferenceStepRowIdeal.τ).loc Cert.ReferenceStepRowIdeal.main_arg1) = m ((c.tc : Thread Cert.ReferenceStepRowIdeal.nD Cert.ReferenceStepRowIdeal.τ).loc Cert.ReferenceStepRowIdeal.main_arg1)
      ∧ r.2.mem ((c.tc : Thread Cert.ReferenceStepRowIdeal.nD Cert.ReferenceStepRowIdeal.τ).loc Cert.ReferenceStepRowIdeal.main_arg2) = m ((c.tc : Thread Cert.ReferenceStepRowIdeal.nD Cert.ReferenceStepRowIdeal.τ).loc Cert.ReferenceStepRowIdeal.main_arg2)
      ∧ r.2.mem ((c.tc : Thread Cert.ReferenceStepRowIdeal.nD Cert.ReferenceStepRowIdeal.τ).loc Cert.ReferenceStepRowIdeal.main_arg3) = m ((c.tc : Thread Cert.ReferenceStepRowIdeal.nD Cert.ReferenceStepRowIdeal.τ).loc Cert.ReferenceStepRowIdeal.main_arg3))
      ∧ r.2.sem = fun _ => 0)

def quiescent_KernelStepMeta [hKernelStepMeta : Cert.KernelStepMeta.Facts] : Prop :=
  ∀ (m : (ℓ : Loc Cert.KernelStepMeta.nD Cert.KernelStepMeta.τ Cert.KernelStepMeta.sig) → Buf (Elt Bits) ℓ) (g : Dev Cert.KernelStepMeta.nD → PrngReg), Pre_KernelStepMeta m →
    θ_run (Cert.KernelStepMeta.defs (F := Bits)) (onTc (τ := Cert.KernelStepMeta.τ) (Cert.KernelStepMeta.main (F := Bits))) ⟨m, fun _ => 0, g⟩ (fun r => (∀ c : Dev Cert.KernelStepMeta.nD,
      r.2.mem ((c.tc : Thread Cert.KernelStepMeta.nD Cert.KernelStepMeta.τ).loc Cert.KernelStepMeta.main_arg0) = m ((c.tc : Thread Cert.KernelStepMeta.nD Cert.KernelStepMeta.τ).loc Cert.KernelStepMeta.main_arg0)
      ∧ r.2.mem ((c.tc : Thread Cert.KernelStepMeta.nD Cert.KernelStepMeta.τ).loc Cert.KernelStepMeta.main_arg1) = m ((c.tc : Thread Cert.KernelStepMeta.nD Cert.KernelStepMeta.τ).loc Cert.KernelStepMeta.main_arg1)
      ∧ r.2.mem ((c.tc : Thread Cert.KernelStepMeta.nD Cert.KernelStepMeta.τ).loc Cert.KernelStepMeta.main_arg2) = m ((c.tc : Thread Cert.KernelStepMeta.nD Cert.KernelStepMeta.τ).loc Cert.KernelStepMeta.main_arg2)
      ∧ r.2.mem ((c.tc : Thread Cert.KernelStepMeta.nD Cert.KernelStepMeta.τ).loc Cert.KernelStepMeta.main_arg3) = m ((c.tc : Thread Cert.KernelStepMeta.nD Cert.KernelStepMeta.τ).loc Cert.KernelStepMeta.main_arg3))
      ∧ r.2.sem = fun _ => 0)

def quiescent_KernelStepMetaIdeal [hKernelStepMetaIdeal : Cert.KernelStepMetaIdeal.Facts] : Prop :=
  ∀ (m : (ℓ : Loc Cert.KernelStepMetaIdeal.nD Cert.KernelStepMetaIdeal.τ Cert.KernelStepMetaIdeal.sig) → Buf (Elt Ideal) ℓ) (g : Dev Cert.KernelStepMetaIdeal.nD → PrngReg), Pre_KernelStepMetaIdeal m →
    θ_run (Cert.KernelStepMetaIdeal.defs (F := Ideal)) (onTc (τ := Cert.KernelStepMetaIdeal.τ) (Cert.KernelStepMetaIdeal.main (F := Ideal))) ⟨m, fun _ => 0, g⟩ (fun r => (∀ c : Dev Cert.KernelStepMetaIdeal.nD,
      r.2.mem ((c.tc : Thread Cert.KernelStepMetaIdeal.nD Cert.KernelStepMetaIdeal.τ).loc Cert.KernelStepMetaIdeal.main_arg0) = m ((c.tc : Thread Cert.KernelStepMetaIdeal.nD Cert.KernelStepMetaIdeal.τ).loc Cert.KernelStepMetaIdeal.main_arg0)
      ∧ r.2.mem ((c.tc : Thread Cert.KernelStepMetaIdeal.nD Cert.KernelStepMetaIdeal.τ).loc Cert.KernelStepMetaIdeal.main_arg1) = m ((c.tc : Thread Cert.KernelStepMetaIdeal.nD Cert.KernelStepMetaIdeal.τ).loc Cert.KernelStepMetaIdeal.main_arg1)
      ∧ r.2.mem ((c.tc : Thread Cert.KernelStepMetaIdeal.nD Cert.KernelStepMetaIdeal.τ).loc Cert.KernelStepMetaIdeal.main_arg2) = m ((c.tc : Thread Cert.KernelStepMetaIdeal.nD Cert.KernelStepMetaIdeal.τ).loc Cert.KernelStepMetaIdeal.main_arg2)
      ∧ r.2.mem ((c.tc : Thread Cert.KernelStepMetaIdeal.nD Cert.KernelStepMetaIdeal.τ).loc Cert.KernelStepMetaIdeal.main_arg3) = m ((c.tc : Thread Cert.KernelStepMetaIdeal.nD Cert.KernelStepMetaIdeal.τ).loc Cert.KernelStepMetaIdeal.main_arg3))
      ∧ r.2.sem = fun _ => 0)

def quiescent_ReferenceStepMetaIdeal [hReferenceStepMetaIdeal : Cert.ReferenceStepMetaIdeal.Facts] : Prop :=
  ∀ (m : (ℓ : Loc Cert.ReferenceStepMetaIdeal.nD Cert.ReferenceStepMetaIdeal.τ Cert.ReferenceStepMetaIdeal.sig) → Buf (Elt Ideal) ℓ) (g : Dev Cert.ReferenceStepMetaIdeal.nD → PrngReg), Pre_ReferenceStepMetaIdeal m →
    θ_run (Cert.ReferenceStepMetaIdeal.defs (F := Ideal)) (onTc (τ := Cert.ReferenceStepMetaIdeal.τ) (Cert.ReferenceStepMetaIdeal.main (F := Ideal))) ⟨m, fun _ => 0, g⟩ (fun r => (∀ c : Dev Cert.ReferenceStepMetaIdeal.nD,
      r.2.mem ((c.tc : Thread Cert.ReferenceStepMetaIdeal.nD Cert.ReferenceStepMetaIdeal.τ).loc Cert.ReferenceStepMetaIdeal.main_arg0) = m ((c.tc : Thread Cert.ReferenceStepMetaIdeal.nD Cert.ReferenceStepMetaIdeal.τ).loc Cert.ReferenceStepMetaIdeal.main_arg0)
      ∧ r.2.mem ((c.tc : Thread Cert.ReferenceStepMetaIdeal.nD Cert.ReferenceStepMetaIdeal.τ).loc Cert.ReferenceStepMetaIdeal.main_arg1) = m ((c.tc : Thread Cert.ReferenceStepMetaIdeal.nD Cert.ReferenceStepMetaIdeal.τ).loc Cert.ReferenceStepMetaIdeal.main_arg1)
      ∧ r.2.mem ((c.tc : Thread Cert.ReferenceStepMetaIdeal.nD Cert.ReferenceStepMetaIdeal.τ).loc Cert.ReferenceStepMetaIdeal.main_arg2) = m ((c.tc : Thread Cert.ReferenceStepMetaIdeal.nD Cert.ReferenceStepMetaIdeal.τ).loc Cert.ReferenceStepMetaIdeal.main_arg2)
      ∧ r.2.mem ((c.tc : Thread Cert.ReferenceStepMetaIdeal.nD Cert.ReferenceStepMetaIdeal.τ).loc Cert.ReferenceStepMetaIdeal.main_arg3) = m ((c.tc : Thread Cert.ReferenceStepMetaIdeal.nD Cert.ReferenceStepMetaIdeal.τ).loc Cert.ReferenceStepMetaIdeal.main_arg3))
      ∧ r.2.sem = fun _ => 0)

def quiescent_KernelStepConv [hKernelStepConv : Cert.KernelStepConv.Facts] : Prop :=
  ∀ (m : (ℓ : Loc Cert.KernelStepConv.nD Cert.KernelStepConv.τ Cert.KernelStepConv.sig) → Buf (Elt Bits) ℓ) (g : Dev Cert.KernelStepConv.nD → PrngReg), Pre_KernelStepConv m →
    θ_run (Cert.KernelStepConv.defs (F := Bits)) (onTc (τ := Cert.KernelStepConv.τ) (Cert.KernelStepConv.main (F := Bits))) ⟨m, fun _ => 0, g⟩ (fun r => (∀ c : Dev Cert.KernelStepConv.nD,
      r.2.mem ((c.tc : Thread Cert.KernelStepConv.nD Cert.KernelStepConv.τ).loc Cert.KernelStepConv.main_arg0) = m ((c.tc : Thread Cert.KernelStepConv.nD Cert.KernelStepConv.τ).loc Cert.KernelStepConv.main_arg0)
      ∧ r.2.mem ((c.tc : Thread Cert.KernelStepConv.nD Cert.KernelStepConv.τ).loc Cert.KernelStepConv.main_arg1) = m ((c.tc : Thread Cert.KernelStepConv.nD Cert.KernelStepConv.τ).loc Cert.KernelStepConv.main_arg1)
      ∧ r.2.mem ((c.tc : Thread Cert.KernelStepConv.nD Cert.KernelStepConv.τ).loc Cert.KernelStepConv.main_arg2) = m ((c.tc : Thread Cert.KernelStepConv.nD Cert.KernelStepConv.τ).loc Cert.KernelStepConv.main_arg2)
      ∧ r.2.mem ((c.tc : Thread Cert.KernelStepConv.nD Cert.KernelStepConv.τ).loc Cert.KernelStepConv.main_arg3) = m ((c.tc : Thread Cert.KernelStepConv.nD Cert.KernelStepConv.τ).loc Cert.KernelStepConv.main_arg3))
      ∧ r.2.sem = fun _ => 0)

def quiescent_KernelStepConvIdeal [hKernelStepConvIdeal : Cert.KernelStepConvIdeal.Facts] : Prop :=
  ∀ (m : (ℓ : Loc Cert.KernelStepConvIdeal.nD Cert.KernelStepConvIdeal.τ Cert.KernelStepConvIdeal.sig) → Buf (Elt Ideal) ℓ) (g : Dev Cert.KernelStepConvIdeal.nD → PrngReg), Pre_KernelStepConvIdeal m →
    θ_run (Cert.KernelStepConvIdeal.defs (F := Ideal)) (onTc (τ := Cert.KernelStepConvIdeal.τ) (Cert.KernelStepConvIdeal.main (F := Ideal))) ⟨m, fun _ => 0, g⟩ (fun r => (∀ c : Dev Cert.KernelStepConvIdeal.nD,
      r.2.mem ((c.tc : Thread Cert.KernelStepConvIdeal.nD Cert.KernelStepConvIdeal.τ).loc Cert.KernelStepConvIdeal.main_arg0) = m ((c.tc : Thread Cert.KernelStepConvIdeal.nD Cert.KernelStepConvIdeal.τ).loc Cert.KernelStepConvIdeal.main_arg0)
      ∧ r.2.mem ((c.tc : Thread Cert.KernelStepConvIdeal.nD Cert.KernelStepConvIdeal.τ).loc Cert.KernelStepConvIdeal.main_arg1) = m ((c.tc : Thread Cert.KernelStepConvIdeal.nD Cert.KernelStepConvIdeal.τ).loc Cert.KernelStepConvIdeal.main_arg1)
      ∧ r.2.mem ((c.tc : Thread Cert.KernelStepConvIdeal.nD Cert.KernelStepConvIdeal.τ).loc Cert.KernelStepConvIdeal.main_arg2) = m ((c.tc : Thread Cert.KernelStepConvIdeal.nD Cert.KernelStepConvIdeal.τ).loc Cert.KernelStepConvIdeal.main_arg2)
      ∧ r.2.mem ((c.tc : Thread Cert.KernelStepConvIdeal.nD Cert.KernelStepConvIdeal.τ).loc Cert.KernelStepConvIdeal.main_arg3) = m ((c.tc : Thread Cert.KernelStepConvIdeal.nD Cert.KernelStepConvIdeal.τ).loc Cert.KernelStepConvIdeal.main_arg3))
      ∧ r.2.sem = fun _ => 0)

def quiescent_ReferenceStepConvIdeal [hReferenceStepConvIdeal : Cert.ReferenceStepConvIdeal.Facts] : Prop :=
  ∀ (m : (ℓ : Loc Cert.ReferenceStepConvIdeal.nD Cert.ReferenceStepConvIdeal.τ Cert.ReferenceStepConvIdeal.sig) → Buf (Elt Ideal) ℓ) (g : Dev Cert.ReferenceStepConvIdeal.nD → PrngReg), Pre_ReferenceStepConvIdeal m →
    θ_run (Cert.ReferenceStepConvIdeal.defs (F := Ideal)) (onTc (τ := Cert.ReferenceStepConvIdeal.τ) (Cert.ReferenceStepConvIdeal.main (F := Ideal))) ⟨m, fun _ => 0, g⟩ (fun r => (∀ c : Dev Cert.ReferenceStepConvIdeal.nD,
      r.2.mem ((c.tc : Thread Cert.ReferenceStepConvIdeal.nD Cert.ReferenceStepConvIdeal.τ).loc Cert.ReferenceStepConvIdeal.main_arg0) = m ((c.tc : Thread Cert.ReferenceStepConvIdeal.nD Cert.ReferenceStepConvIdeal.τ).loc Cert.ReferenceStepConvIdeal.main_arg0)
      ∧ r.2.mem ((c.tc : Thread Cert.ReferenceStepConvIdeal.nD Cert.ReferenceStepConvIdeal.τ).loc Cert.ReferenceStepConvIdeal.main_arg1) = m ((c.tc : Thread Cert.ReferenceStepConvIdeal.nD Cert.ReferenceStepConvIdeal.τ).loc Cert.ReferenceStepConvIdeal.main_arg1)
      ∧ r.2.mem ((c.tc : Thread Cert.ReferenceStepConvIdeal.nD Cert.ReferenceStepConvIdeal.τ).loc Cert.ReferenceStepConvIdeal.main_arg2) = m ((c.tc : Thread Cert.ReferenceStepConvIdeal.nD Cert.ReferenceStepConvIdeal.τ).loc Cert.ReferenceStepConvIdeal.main_arg2)
      ∧ r.2.mem ((c.tc : Thread Cert.ReferenceStepConvIdeal.nD Cert.ReferenceStepConvIdeal.τ).loc Cert.ReferenceStepConvIdeal.main_arg3) = m ((c.tc : Thread Cert.ReferenceStepConvIdeal.nD Cert.ReferenceStepConvIdeal.τ).loc Cert.ReferenceStepConvIdeal.main_arg3))
      ∧ r.2.sem = fun _ => 0)

def quiescent_KernelStepBias [hKernelStepBias : Cert.KernelStepBias.Facts] : Prop :=
  ∀ (m : (ℓ : Loc Cert.KernelStepBias.nD Cert.KernelStepBias.τ Cert.KernelStepBias.sig) → Buf (Elt Bits) ℓ) (g : Dev Cert.KernelStepBias.nD → PrngReg), Pre_KernelStepBias m →
    θ_run (Cert.KernelStepBias.defs (F := Bits)) (onTc (τ := Cert.KernelStepBias.τ) (Cert.KernelStepBias.main (F := Bits))) ⟨m, fun _ => 0, g⟩ (fun r => (∀ c : Dev Cert.KernelStepBias.nD,
      r.2.mem ((c.tc : Thread Cert.KernelStepBias.nD Cert.KernelStepBias.τ).loc Cert.KernelStepBias.main_arg0) = m ((c.tc : Thread Cert.KernelStepBias.nD Cert.KernelStepBias.τ).loc Cert.KernelStepBias.main_arg0)
      ∧ r.2.mem ((c.tc : Thread Cert.KernelStepBias.nD Cert.KernelStepBias.τ).loc Cert.KernelStepBias.main_arg1) = m ((c.tc : Thread Cert.KernelStepBias.nD Cert.KernelStepBias.τ).loc Cert.KernelStepBias.main_arg1)
      ∧ r.2.mem ((c.tc : Thread Cert.KernelStepBias.nD Cert.KernelStepBias.τ).loc Cert.KernelStepBias.main_arg2) = m ((c.tc : Thread Cert.KernelStepBias.nD Cert.KernelStepBias.τ).loc Cert.KernelStepBias.main_arg2)
      ∧ r.2.mem ((c.tc : Thread Cert.KernelStepBias.nD Cert.KernelStepBias.τ).loc Cert.KernelStepBias.main_arg3) = m ((c.tc : Thread Cert.KernelStepBias.nD Cert.KernelStepBias.τ).loc Cert.KernelStepBias.main_arg3))
      ∧ r.2.sem = fun _ => 0)

def quiescent_KernelStepBiasIdeal [hKernelStepBiasIdeal : Cert.KernelStepBiasIdeal.Facts] : Prop :=
  ∀ (m : (ℓ : Loc Cert.KernelStepBiasIdeal.nD Cert.KernelStepBiasIdeal.τ Cert.KernelStepBiasIdeal.sig) → Buf (Elt Ideal) ℓ) (g : Dev Cert.KernelStepBiasIdeal.nD → PrngReg), Pre_KernelStepBiasIdeal m →
    θ_run (Cert.KernelStepBiasIdeal.defs (F := Ideal)) (onTc (τ := Cert.KernelStepBiasIdeal.τ) (Cert.KernelStepBiasIdeal.main (F := Ideal))) ⟨m, fun _ => 0, g⟩ (fun r => (∀ c : Dev Cert.KernelStepBiasIdeal.nD,
      r.2.mem ((c.tc : Thread Cert.KernelStepBiasIdeal.nD Cert.KernelStepBiasIdeal.τ).loc Cert.KernelStepBiasIdeal.main_arg0) = m ((c.tc : Thread Cert.KernelStepBiasIdeal.nD Cert.KernelStepBiasIdeal.τ).loc Cert.KernelStepBiasIdeal.main_arg0)
      ∧ r.2.mem ((c.tc : Thread Cert.KernelStepBiasIdeal.nD Cert.KernelStepBiasIdeal.τ).loc Cert.KernelStepBiasIdeal.main_arg1) = m ((c.tc : Thread Cert.KernelStepBiasIdeal.nD Cert.KernelStepBiasIdeal.τ).loc Cert.KernelStepBiasIdeal.main_arg1)
      ∧ r.2.mem ((c.tc : Thread Cert.KernelStepBiasIdeal.nD Cert.KernelStepBiasIdeal.τ).loc Cert.KernelStepBiasIdeal.main_arg2) = m ((c.tc : Thread Cert.KernelStepBiasIdeal.nD Cert.KernelStepBiasIdeal.τ).loc Cert.KernelStepBiasIdeal.main_arg2)
      ∧ r.2.mem ((c.tc : Thread Cert.KernelStepBiasIdeal.nD Cert.KernelStepBiasIdeal.τ).loc Cert.KernelStepBiasIdeal.main_arg3) = m ((c.tc : Thread Cert.KernelStepBiasIdeal.nD Cert.KernelStepBiasIdeal.τ).loc Cert.KernelStepBiasIdeal.main_arg3))
      ∧ r.2.sem = fun _ => 0)

def quiescent_ReferenceStepBiasIdeal [hReferenceStepBiasIdeal : Cert.ReferenceStepBiasIdeal.Facts] : Prop :=
  ∀ (m : (ℓ : Loc Cert.ReferenceStepBiasIdeal.nD Cert.ReferenceStepBiasIdeal.τ Cert.ReferenceStepBiasIdeal.sig) → Buf (Elt Ideal) ℓ) (g : Dev Cert.ReferenceStepBiasIdeal.nD → PrngReg), Pre_ReferenceStepBiasIdeal m →
    θ_run (Cert.ReferenceStepBiasIdeal.defs (F := Ideal)) (onTc (τ := Cert.ReferenceStepBiasIdeal.τ) (Cert.ReferenceStepBiasIdeal.main (F := Ideal))) ⟨m, fun _ => 0, g⟩ (fun r => (∀ c : Dev Cert.ReferenceStepBiasIdeal.nD,
      r.2.mem ((c.tc : Thread Cert.ReferenceStepBiasIdeal.nD Cert.ReferenceStepBiasIdeal.τ).loc Cert.ReferenceStepBiasIdeal.main_arg0) = m ((c.tc : Thread Cert.ReferenceStepBiasIdeal.nD Cert.ReferenceStepBiasIdeal.τ).loc Cert.ReferenceStepBiasIdeal.main_arg0)
      ∧ r.2.mem ((c.tc : Thread Cert.ReferenceStepBiasIdeal.nD Cert.ReferenceStepBiasIdeal.τ).loc Cert.ReferenceStepBiasIdeal.main_arg1) = m ((c.tc : Thread Cert.ReferenceStepBiasIdeal.nD Cert.ReferenceStepBiasIdeal.τ).loc Cert.ReferenceStepBiasIdeal.main_arg1)
      ∧ r.2.mem ((c.tc : Thread Cert.ReferenceStepBiasIdeal.nD Cert.ReferenceStepBiasIdeal.τ).loc Cert.ReferenceStepBiasIdeal.main_arg2) = m ((c.tc : Thread Cert.ReferenceStepBiasIdeal.nD Cert.ReferenceStepBiasIdeal.τ).loc Cert.ReferenceStepBiasIdeal.main_arg2)
      ∧ r.2.mem ((c.tc : Thread Cert.ReferenceStepBiasIdeal.nD Cert.ReferenceStepBiasIdeal.τ).loc Cert.ReferenceStepBiasIdeal.main_arg3) = m ((c.tc : Thread Cert.ReferenceStepBiasIdeal.nD Cert.ReferenceStepBiasIdeal.τ).loc Cert.ReferenceStepBiasIdeal.main_arg3))
      ∧ r.2.sem = fun _ => 0)

def quiescent_KernelStepPool [hKernelStepPool : Cert.KernelStepPool.Facts] : Prop :=
  ∀ (m : (ℓ : Loc Cert.KernelStepPool.nD Cert.KernelStepPool.τ Cert.KernelStepPool.sig) → Buf (Elt Bits) ℓ) (g : Dev Cert.KernelStepPool.nD → PrngReg), Pre_KernelStepPool m →
    θ_run (Cert.KernelStepPool.defs (F := Bits)) (onTc (τ := Cert.KernelStepPool.τ) (Cert.KernelStepPool.main (F := Bits))) ⟨m, fun _ => 0, g⟩ (fun r => (∀ c : Dev Cert.KernelStepPool.nD,
      r.2.mem ((c.tc : Thread Cert.KernelStepPool.nD Cert.KernelStepPool.τ).loc Cert.KernelStepPool.main_arg0) = m ((c.tc : Thread Cert.KernelStepPool.nD Cert.KernelStepPool.τ).loc Cert.KernelStepPool.main_arg0)
      ∧ r.2.mem ((c.tc : Thread Cert.KernelStepPool.nD Cert.KernelStepPool.τ).loc Cert.KernelStepPool.main_arg1) = m ((c.tc : Thread Cert.KernelStepPool.nD Cert.KernelStepPool.τ).loc Cert.KernelStepPool.main_arg1)
      ∧ r.2.mem ((c.tc : Thread Cert.KernelStepPool.nD Cert.KernelStepPool.τ).loc Cert.KernelStepPool.main_arg2) = m ((c.tc : Thread Cert.KernelStepPool.nD Cert.KernelStepPool.τ).loc Cert.KernelStepPool.main_arg2)
      ∧ r.2.mem ((c.tc : Thread Cert.KernelStepPool.nD Cert.KernelStepPool.τ).loc Cert.KernelStepPool.main_arg3) = m ((c.tc : Thread Cert.KernelStepPool.nD Cert.KernelStepPool.τ).loc Cert.KernelStepPool.main_arg3)
      ∧ r.2.mem ((c.tc : Thread Cert.KernelStepPool.nD Cert.KernelStepPool.τ).loc Cert.KernelStepPool.main_arg4) = m ((c.tc : Thread Cert.KernelStepPool.nD Cert.KernelStepPool.τ).loc Cert.KernelStepPool.main_arg4)
      ∧ r.2.mem ((c.tc : Thread Cert.KernelStepPool.nD Cert.KernelStepPool.τ).loc Cert.KernelStepPool.main_arg5) = m ((c.tc : Thread Cert.KernelStepPool.nD Cert.KernelStepPool.τ).loc Cert.KernelStepPool.main_arg5))
      ∧ r.2.sem = fun _ => 0)

def quiescent_KernelStepPoolIdeal [hKernelStepPoolIdeal : Cert.KernelStepPoolIdeal.Facts] : Prop :=
  ∀ (m : (ℓ : Loc Cert.KernelStepPoolIdeal.nD Cert.KernelStepPoolIdeal.τ Cert.KernelStepPoolIdeal.sig) → Buf (Elt Ideal) ℓ) (g : Dev Cert.KernelStepPoolIdeal.nD → PrngReg), Pre_KernelStepPoolIdeal m →
    θ_run (Cert.KernelStepPoolIdeal.defs (F := Ideal)) (onTc (τ := Cert.KernelStepPoolIdeal.τ) (Cert.KernelStepPoolIdeal.main (F := Ideal))) ⟨m, fun _ => 0, g⟩ (fun r => (∀ c : Dev Cert.KernelStepPoolIdeal.nD,
      r.2.mem ((c.tc : Thread Cert.KernelStepPoolIdeal.nD Cert.KernelStepPoolIdeal.τ).loc Cert.KernelStepPoolIdeal.main_arg0) = m ((c.tc : Thread Cert.KernelStepPoolIdeal.nD Cert.KernelStepPoolIdeal.τ).loc Cert.KernelStepPoolIdeal.main_arg0)
      ∧ r.2.mem ((c.tc : Thread Cert.KernelStepPoolIdeal.nD Cert.KernelStepPoolIdeal.τ).loc Cert.KernelStepPoolIdeal.main_arg1) = m ((c.tc : Thread Cert.KernelStepPoolIdeal.nD Cert.KernelStepPoolIdeal.τ).loc Cert.KernelStepPoolIdeal.main_arg1)
      ∧ r.2.mem ((c.tc : Thread Cert.KernelStepPoolIdeal.nD Cert.KernelStepPoolIdeal.τ).loc Cert.KernelStepPoolIdeal.main_arg2) = m ((c.tc : Thread Cert.KernelStepPoolIdeal.nD Cert.KernelStepPoolIdeal.τ).loc Cert.KernelStepPoolIdeal.main_arg2)
      ∧ r.2.mem ((c.tc : Thread Cert.KernelStepPoolIdeal.nD Cert.KernelStepPoolIdeal.τ).loc Cert.KernelStepPoolIdeal.main_arg3) = m ((c.tc : Thread Cert.KernelStepPoolIdeal.nD Cert.KernelStepPoolIdeal.τ).loc Cert.KernelStepPoolIdeal.main_arg3)
      ∧ r.2.mem ((c.tc : Thread Cert.KernelStepPoolIdeal.nD Cert.KernelStepPoolIdeal.τ).loc Cert.KernelStepPoolIdeal.main_arg4) = m ((c.tc : Thread Cert.KernelStepPoolIdeal.nD Cert.KernelStepPoolIdeal.τ).loc Cert.KernelStepPoolIdeal.main_arg4)
      ∧ r.2.mem ((c.tc : Thread Cert.KernelStepPoolIdeal.nD Cert.KernelStepPoolIdeal.τ).loc Cert.KernelStepPoolIdeal.main_arg5) = m ((c.tc : Thread Cert.KernelStepPoolIdeal.nD Cert.KernelStepPoolIdeal.τ).loc Cert.KernelStepPoolIdeal.main_arg5))
      ∧ r.2.sem = fun _ => 0)

def quiescent_ReferenceStepPoolIdeal [hReferenceStepPoolIdeal : Cert.ReferenceStepPoolIdeal.Facts] : Prop :=
  ∀ (m : (ℓ : Loc Cert.ReferenceStepPoolIdeal.nD Cert.ReferenceStepPoolIdeal.τ Cert.ReferenceStepPoolIdeal.sig) → Buf (Elt Ideal) ℓ) (g : Dev Cert.ReferenceStepPoolIdeal.nD → PrngReg), Pre_ReferenceStepPoolIdeal m →
    θ_run (Cert.ReferenceStepPoolIdeal.defs (F := Ideal)) (onTc (τ := Cert.ReferenceStepPoolIdeal.τ) (Cert.ReferenceStepPoolIdeal.main (F := Ideal))) ⟨m, fun _ => 0, g⟩ (fun r => (∀ c : Dev Cert.ReferenceStepPoolIdeal.nD,
      r.2.mem ((c.tc : Thread Cert.ReferenceStepPoolIdeal.nD Cert.ReferenceStepPoolIdeal.τ).loc Cert.ReferenceStepPoolIdeal.main_arg0) = m ((c.tc : Thread Cert.ReferenceStepPoolIdeal.nD Cert.ReferenceStepPoolIdeal.τ).loc Cert.ReferenceStepPoolIdeal.main_arg0)
      ∧ r.2.mem ((c.tc : Thread Cert.ReferenceStepPoolIdeal.nD Cert.ReferenceStepPoolIdeal.τ).loc Cert.ReferenceStepPoolIdeal.main_arg1) = m ((c.tc : Thread Cert.ReferenceStepPoolIdeal.nD Cert.ReferenceStepPoolIdeal.τ).loc Cert.ReferenceStepPoolIdeal.main_arg1)
      ∧ r.2.mem ((c.tc : Thread Cert.ReferenceStepPoolIdeal.nD Cert.ReferenceStepPoolIdeal.τ).loc Cert.ReferenceStepPoolIdeal.main_arg2) = m ((c.tc : Thread Cert.ReferenceStepPoolIdeal.nD Cert.ReferenceStepPoolIdeal.τ).loc Cert.ReferenceStepPoolIdeal.main_arg2)
      ∧ r.2.mem ((c.tc : Thread Cert.ReferenceStepPoolIdeal.nD Cert.ReferenceStepPoolIdeal.τ).loc Cert.ReferenceStepPoolIdeal.main_arg3) = m ((c.tc : Thread Cert.ReferenceStepPoolIdeal.nD Cert.ReferenceStepPoolIdeal.τ).loc Cert.ReferenceStepPoolIdeal.main_arg3)
      ∧ r.2.mem ((c.tc : Thread Cert.ReferenceStepPoolIdeal.nD Cert.ReferenceStepPoolIdeal.τ).loc Cert.ReferenceStepPoolIdeal.main_arg4) = m ((c.tc : Thread Cert.ReferenceStepPoolIdeal.nD Cert.ReferenceStepPoolIdeal.τ).loc Cert.ReferenceStepPoolIdeal.main_arg4)
      ∧ r.2.mem ((c.tc : Thread Cert.ReferenceStepPoolIdeal.nD Cert.ReferenceStepPoolIdeal.τ).loc Cert.ReferenceStepPoolIdeal.main_arg5) = m ((c.tc : Thread Cert.ReferenceStepPoolIdeal.nD Cert.ReferenceStepPoolIdeal.τ).loc Cert.ReferenceStepPoolIdeal.main_arg5))
      ∧ r.2.sem = fun _ => 0)

def quiescent_KernelStepGate [hKernelStepGate : Cert.KernelStepGate.Facts] : Prop :=
  ∀ (m : (ℓ : Loc Cert.KernelStepGate.nD Cert.KernelStepGate.τ Cert.KernelStepGate.sig) → Buf (Elt Bits) ℓ) (g : Dev Cert.KernelStepGate.nD → PrngReg), Pre_KernelStepGate m →
    θ_run (Cert.KernelStepGate.defs (F := Bits)) (onTc (τ := Cert.KernelStepGate.τ) (Cert.KernelStepGate.main (F := Bits))) ⟨m, fun _ => 0, g⟩ (fun r => (∀ c : Dev Cert.KernelStepGate.nD,
      r.2.mem ((c.tc : Thread Cert.KernelStepGate.nD Cert.KernelStepGate.τ).loc Cert.KernelStepGate.main_arg0) = m ((c.tc : Thread Cert.KernelStepGate.nD Cert.KernelStepGate.τ).loc Cert.KernelStepGate.main_arg0)
      ∧ r.2.mem ((c.tc : Thread Cert.KernelStepGate.nD Cert.KernelStepGate.τ).loc Cert.KernelStepGate.main_arg1) = m ((c.tc : Thread Cert.KernelStepGate.nD Cert.KernelStepGate.τ).loc Cert.KernelStepGate.main_arg1)
      ∧ r.2.mem ((c.tc : Thread Cert.KernelStepGate.nD Cert.KernelStepGate.τ).loc Cert.KernelStepGate.main_arg2) = m ((c.tc : Thread Cert.KernelStepGate.nD Cert.KernelStepGate.τ).loc Cert.KernelStepGate.main_arg2)
      ∧ r.2.mem ((c.tc : Thread Cert.KernelStepGate.nD Cert.KernelStepGate.τ).loc Cert.KernelStepGate.main_arg3) = m ((c.tc : Thread Cert.KernelStepGate.nD Cert.KernelStepGate.τ).loc Cert.KernelStepGate.main_arg3)
      ∧ r.2.mem ((c.tc : Thread Cert.KernelStepGate.nD Cert.KernelStepGate.τ).loc Cert.KernelStepGate.main_arg4) = m ((c.tc : Thread Cert.KernelStepGate.nD Cert.KernelStepGate.τ).loc Cert.KernelStepGate.main_arg4)
      ∧ r.2.mem ((c.tc : Thread Cert.KernelStepGate.nD Cert.KernelStepGate.τ).loc Cert.KernelStepGate.main_arg5) = m ((c.tc : Thread Cert.KernelStepGate.nD Cert.KernelStepGate.τ).loc Cert.KernelStepGate.main_arg5))
      ∧ r.2.sem = fun _ => 0)

def quiescent_KernelStepGateIdeal [hKernelStepGateIdeal : Cert.KernelStepGateIdeal.Facts] : Prop :=
  ∀ (m : (ℓ : Loc Cert.KernelStepGateIdeal.nD Cert.KernelStepGateIdeal.τ Cert.KernelStepGateIdeal.sig) → Buf (Elt Ideal) ℓ) (g : Dev Cert.KernelStepGateIdeal.nD → PrngReg), Pre_KernelStepGateIdeal m →
    θ_run (Cert.KernelStepGateIdeal.defs (F := Ideal)) (onTc (τ := Cert.KernelStepGateIdeal.τ) (Cert.KernelStepGateIdeal.main (F := Ideal))) ⟨m, fun _ => 0, g⟩ (fun r => (∀ c : Dev Cert.KernelStepGateIdeal.nD,
      r.2.mem ((c.tc : Thread Cert.KernelStepGateIdeal.nD Cert.KernelStepGateIdeal.τ).loc Cert.KernelStepGateIdeal.main_arg0) = m ((c.tc : Thread Cert.KernelStepGateIdeal.nD Cert.KernelStepGateIdeal.τ).loc Cert.KernelStepGateIdeal.main_arg0)
      ∧ r.2.mem ((c.tc : Thread Cert.KernelStepGateIdeal.nD Cert.KernelStepGateIdeal.τ).loc Cert.KernelStepGateIdeal.main_arg1) = m ((c.tc : Thread Cert.KernelStepGateIdeal.nD Cert.KernelStepGateIdeal.τ).loc Cert.KernelStepGateIdeal.main_arg1)
      ∧ r.2.mem ((c.tc : Thread Cert.KernelStepGateIdeal.nD Cert.KernelStepGateIdeal.τ).loc Cert.KernelStepGateIdeal.main_arg2) = m ((c.tc : Thread Cert.KernelStepGateIdeal.nD Cert.KernelStepGateIdeal.τ).loc Cert.KernelStepGateIdeal.main_arg2)
      ∧ r.2.mem ((c.tc : Thread Cert.KernelStepGateIdeal.nD Cert.KernelStepGateIdeal.τ).loc Cert.KernelStepGateIdeal.main_arg3) = m ((c.tc : Thread Cert.KernelStepGateIdeal.nD Cert.KernelStepGateIdeal.τ).loc Cert.KernelStepGateIdeal.main_arg3)
      ∧ r.2.mem ((c.tc : Thread Cert.KernelStepGateIdeal.nD Cert.KernelStepGateIdeal.τ).loc Cert.KernelStepGateIdeal.main_arg4) = m ((c.tc : Thread Cert.KernelStepGateIdeal.nD Cert.KernelStepGateIdeal.τ).loc Cert.KernelStepGateIdeal.main_arg4)
      ∧ r.2.mem ((c.tc : Thread Cert.KernelStepGateIdeal.nD Cert.KernelStepGateIdeal.τ).loc Cert.KernelStepGateIdeal.main_arg5) = m ((c.tc : Thread Cert.KernelStepGateIdeal.nD Cert.KernelStepGateIdeal.τ).loc Cert.KernelStepGateIdeal.main_arg5))
      ∧ r.2.sem = fun _ => 0)

def quiescent_ReferenceStepGateIdeal [hReferenceStepGateIdeal : Cert.ReferenceStepGateIdeal.Facts] : Prop :=
  ∀ (m : (ℓ : Loc Cert.ReferenceStepGateIdeal.nD Cert.ReferenceStepGateIdeal.τ Cert.ReferenceStepGateIdeal.sig) → Buf (Elt Ideal) ℓ) (g : Dev Cert.ReferenceStepGateIdeal.nD → PrngReg), Pre_ReferenceStepGateIdeal m →
    θ_run (Cert.ReferenceStepGateIdeal.defs (F := Ideal)) (onTc (τ := Cert.ReferenceStepGateIdeal.τ) (Cert.ReferenceStepGateIdeal.main (F := Ideal))) ⟨m, fun _ => 0, g⟩ (fun r => (∀ c : Dev Cert.ReferenceStepGateIdeal.nD,
      r.2.mem ((c.tc : Thread Cert.ReferenceStepGateIdeal.nD Cert.ReferenceStepGateIdeal.τ).loc Cert.ReferenceStepGateIdeal.main_arg0) = m ((c.tc : Thread Cert.ReferenceStepGateIdeal.nD Cert.ReferenceStepGateIdeal.τ).loc Cert.ReferenceStepGateIdeal.main_arg0)
      ∧ r.2.mem ((c.tc : Thread Cert.ReferenceStepGateIdeal.nD Cert.ReferenceStepGateIdeal.τ).loc Cert.ReferenceStepGateIdeal.main_arg1) = m ((c.tc : Thread Cert.ReferenceStepGateIdeal.nD Cert.ReferenceStepGateIdeal.τ).loc Cert.ReferenceStepGateIdeal.main_arg1)
      ∧ r.2.mem ((c.tc : Thread Cert.ReferenceStepGateIdeal.nD Cert.ReferenceStepGateIdeal.τ).loc Cert.ReferenceStepGateIdeal.main_arg2) = m ((c.tc : Thread Cert.ReferenceStepGateIdeal.nD Cert.ReferenceStepGateIdeal.τ).loc Cert.ReferenceStepGateIdeal.main_arg2)
      ∧ r.2.mem ((c.tc : Thread Cert.ReferenceStepGateIdeal.nD Cert.ReferenceStepGateIdeal.τ).loc Cert.ReferenceStepGateIdeal.main_arg3) = m ((c.tc : Thread Cert.ReferenceStepGateIdeal.nD Cert.ReferenceStepGateIdeal.τ).loc Cert.ReferenceStepGateIdeal.main_arg3)
      ∧ r.2.mem ((c.tc : Thread Cert.ReferenceStepGateIdeal.nD Cert.ReferenceStepGateIdeal.τ).loc Cert.ReferenceStepGateIdeal.main_arg4) = m ((c.tc : Thread Cert.ReferenceStepGateIdeal.nD Cert.ReferenceStepGateIdeal.τ).loc Cert.ReferenceStepGateIdeal.main_arg4)
      ∧ r.2.mem ((c.tc : Thread Cert.ReferenceStepGateIdeal.nD Cert.ReferenceStepGateIdeal.τ).loc Cert.ReferenceStepGateIdeal.main_arg5) = m ((c.tc : Thread Cert.ReferenceStepGateIdeal.nD Cert.ReferenceStepGateIdeal.τ).loc Cert.ReferenceStepGateIdeal.main_arg5))
      ∧ r.2.sem = fun _ => 0)

def quiescent_KernelStepOut [hKernelStepOut : Cert.KernelStepOut.Facts] : Prop :=
  ∀ (m : (ℓ : Loc Cert.KernelStepOut.nD Cert.KernelStepOut.τ Cert.KernelStepOut.sig) → Buf (Elt Bits) ℓ) (g : Dev Cert.KernelStepOut.nD → PrngReg), Pre_KernelStepOut m →
    θ_run (Cert.KernelStepOut.defs (F := Bits)) (onTc (τ := Cert.KernelStepOut.τ) (Cert.KernelStepOut.main (F := Bits))) ⟨m, fun _ => 0, g⟩ (fun r => (∀ c : Dev Cert.KernelStepOut.nD,
      r.2.mem ((c.tc : Thread Cert.KernelStepOut.nD Cert.KernelStepOut.τ).loc Cert.KernelStepOut.main_arg0) = m ((c.tc : Thread Cert.KernelStepOut.nD Cert.KernelStepOut.τ).loc Cert.KernelStepOut.main_arg0)
      ∧ r.2.mem ((c.tc : Thread Cert.KernelStepOut.nD Cert.KernelStepOut.τ).loc Cert.KernelStepOut.main_arg1) = m ((c.tc : Thread Cert.KernelStepOut.nD Cert.KernelStepOut.τ).loc Cert.KernelStepOut.main_arg1)
      ∧ r.2.mem ((c.tc : Thread Cert.KernelStepOut.nD Cert.KernelStepOut.τ).loc Cert.KernelStepOut.main_arg2) = m ((c.tc : Thread Cert.KernelStepOut.nD Cert.KernelStepOut.τ).loc Cert.KernelStepOut.main_arg2)
      ∧ r.2.mem ((c.tc : Thread Cert.KernelStepOut.nD Cert.KernelStepOut.τ).loc Cert.KernelStepOut.main_arg3) = m ((c.tc : Thread Cert.KernelStepOut.nD Cert.KernelStepOut.τ).loc Cert.KernelStepOut.main_arg3)
      ∧ r.2.mem ((c.tc : Thread Cert.KernelStepOut.nD Cert.KernelStepOut.τ).loc Cert.KernelStepOut.main_arg4) = m ((c.tc : Thread Cert.KernelStepOut.nD Cert.KernelStepOut.τ).loc Cert.KernelStepOut.main_arg4)
      ∧ r.2.mem ((c.tc : Thread Cert.KernelStepOut.nD Cert.KernelStepOut.τ).loc Cert.KernelStepOut.main_arg5) = m ((c.tc : Thread Cert.KernelStepOut.nD Cert.KernelStepOut.τ).loc Cert.KernelStepOut.main_arg5))
      ∧ r.2.sem = fun _ => 0)

def quiescent_KernelStepOutIdeal [hKernelStepOutIdeal : Cert.KernelStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg), Pre_KernelStepOutIdeal m →
    θ_run (Cert.KernelStepOutIdeal.defs (F := Ideal)) (onTc (τ := Cert.KernelStepOutIdeal.τ) (Cert.KernelStepOutIdeal.main (F := Ideal))) ⟨m, fun _ => 0, g⟩ (fun r => (∀ c : Dev Cert.KernelStepOutIdeal.nD,
      r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
      ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
      ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
      ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
      ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4)
      ∧ r.2.mem ((c.tc : Thread Cert.KernelStepOutIdeal.nD Cert.KernelStepOutIdeal.τ).loc Cert.KernelStepOutIdeal.main_arg5) = m ((c.tc : Thread Cert.KernelStepOutIdeal.nD Cert.KernelStepOutIdeal.τ).loc Cert.KernelStepOutIdeal.main_arg5))
      ∧ r.2.sem = fun _ => 0)

def quiescent_ReferenceStepOutIdeal [hReferenceStepOutIdeal : Cert.ReferenceStepOutIdeal.Facts] : Prop :=
  ∀ (m : (ℓ : Loc Cert.ReferenceStepOutIdeal.nD Cert.ReferenceStepOutIdeal.τ Cert.ReferenceStepOutIdeal.sig) → Buf (Elt Ideal) ℓ) (g : Dev Cert.ReferenceStepOutIdeal.nD → PrngReg), Pre_ReferenceStepOutIdeal m →
    θ_run (Cert.ReferenceStepOutIdeal.defs (F := Ideal)) (onTc (τ := Cert.ReferenceStepOutIdeal.τ) (Cert.ReferenceStepOutIdeal.main (F := Ideal))) ⟨m, fun _ => 0, g⟩ (fun r => (∀ c : Dev Cert.ReferenceStepOutIdeal.nD,
      r.2.mem ((c.tc : Thread Cert.ReferenceStepOutIdeal.nD Cert.ReferenceStepOutIdeal.τ).loc Cert.ReferenceStepOutIdeal.main_arg0) = m ((c.tc : Thread Cert.ReferenceStepOutIdeal.nD Cert.ReferenceStepOutIdeal.τ).loc Cert.ReferenceStepOutIdeal.main_arg0)
      ∧ r.2.mem ((c.tc : Thread Cert.ReferenceStepOutIdeal.nD Cert.ReferenceStepOutIdeal.τ).loc Cert.ReferenceStepOutIdeal.main_arg1) = m ((c.tc : Thread Cert.ReferenceStepOutIdeal.nD Cert.ReferenceStepOutIdeal.τ).loc Cert.ReferenceStepOutIdeal.main_arg1)
      ∧ r.2.mem ((c.tc : Thread Cert.ReferenceStepOutIdeal.nD Cert.ReferenceStepOutIdeal.τ).loc Cert.ReferenceStepOutIdeal.main_arg2) = m ((c.tc : Thread Cert.ReferenceStepOutIdeal.nD Cert.ReferenceStepOutIdeal.τ).loc Cert.ReferenceStepOutIdeal.main_arg2)
      ∧ r.2.mem ((c.tc : Thread Cert.ReferenceStepOutIdeal.nD Cert.ReferenceStepOutIdeal.τ).loc Cert.ReferenceStepOutIdeal.main_arg3) = m ((c.tc : Thread Cert.ReferenceStepOutIdeal.nD Cert.ReferenceStepOutIdeal.τ).loc Cert.ReferenceStepOutIdeal.main_arg3)
      ∧ r.2.mem ((c.tc : Thread Cert.ReferenceStepOutIdeal.nD Cert.ReferenceStepOutIdeal.τ).loc Cert.ReferenceStepOutIdeal.main_arg4) = m ((c.tc : Thread Cert.ReferenceStepOutIdeal.nD Cert.ReferenceStepOutIdeal.τ).loc Cert.ReferenceStepOutIdeal.main_arg4)
      ∧ r.2.mem ((c.tc : Thread Cert.ReferenceStepOutIdeal.nD Cert.ReferenceStepOutIdeal.τ).loc Cert.ReferenceStepOutIdeal.main_arg5) = m ((c.tc : Thread Cert.ReferenceStepOutIdeal.nD Cert.ReferenceStepOutIdeal.τ).loc Cert.ReferenceStepOutIdeal.main_arg5))
      ∧ r.2.sem = fun _ => 0)

def quiescent_KernelStepIn [hKernelStepIn : Cert.KernelStepIn.Facts] : Prop :=
  ∀ (m : (ℓ : Loc Cert.KernelStepIn.nD Cert.KernelStepIn.τ Cert.KernelStepIn.sig) → Buf (Elt Bits) ℓ) (g : Dev Cert.KernelStepIn.nD → PrngReg), Pre_KernelStepIn m →
    θ_run (Cert.KernelStepIn.defs (F := Bits)) (onTc (τ := Cert.KernelStepIn.τ) (Cert.KernelStepIn.main (F := Bits))) ⟨m, fun _ => 0, g⟩ (fun r => (∀ c : Dev Cert.KernelStepIn.nD,
      r.2.mem ((c.tc : Thread Cert.KernelStepIn.nD Cert.KernelStepIn.τ).loc Cert.KernelStepIn.main_arg0) = m ((c.tc : Thread Cert.KernelStepIn.nD Cert.KernelStepIn.τ).loc Cert.KernelStepIn.main_arg0)
      ∧ r.2.mem ((c.tc : Thread Cert.KernelStepIn.nD Cert.KernelStepIn.τ).loc Cert.KernelStepIn.main_arg1) = m ((c.tc : Thread Cert.KernelStepIn.nD Cert.KernelStepIn.τ).loc Cert.KernelStepIn.main_arg1)
      ∧ r.2.mem ((c.tc : Thread Cert.KernelStepIn.nD Cert.KernelStepIn.τ).loc Cert.KernelStepIn.main_arg2) = m ((c.tc : Thread Cert.KernelStepIn.nD Cert.KernelStepIn.τ).loc Cert.KernelStepIn.main_arg2)
      ∧ r.2.mem ((c.tc : Thread Cert.KernelStepIn.nD Cert.KernelStepIn.τ).loc Cert.KernelStepIn.main_arg3) = m ((c.tc : Thread Cert.KernelStepIn.nD Cert.KernelStepIn.τ).loc Cert.KernelStepIn.main_arg3)
      ∧ r.2.mem ((c.tc : Thread Cert.KernelStepIn.nD Cert.KernelStepIn.τ).loc Cert.KernelStepIn.main_arg4) = m ((c.tc : Thread Cert.KernelStepIn.nD Cert.KernelStepIn.τ).loc Cert.KernelStepIn.main_arg4)
      ∧ r.2.mem ((c.tc : Thread Cert.KernelStepIn.nD Cert.KernelStepIn.τ).loc Cert.KernelStepIn.main_arg5) = m ((c.tc : Thread Cert.KernelStepIn.nD Cert.KernelStepIn.τ).loc Cert.KernelStepIn.main_arg5))
      ∧ r.2.sem = fun _ => 0)

def quiescent_KernelStepInIdeal [hKernelStepInIdeal : Cert.KernelStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg), Pre_KernelStepInIdeal m →
    θ_run (Cert.KernelStepInIdeal.defs (F := Ideal)) (onTc (τ := Cert.KernelStepInIdeal.τ) (Cert.KernelStepInIdeal.main (F := Ideal))) ⟨m, fun _ => 0, g⟩ (fun r => (∀ c : Dev Cert.KernelStepInIdeal.nD,
      r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
      ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
      ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2)
      ∧ r.2.mem ((c.tc : Thread Cert.KernelStepInIdeal.nD Cert.KernelStepInIdeal.τ).loc Cert.KernelStepInIdeal.main_arg3) = m ((c.tc : Thread Cert.KernelStepInIdeal.nD Cert.KernelStepInIdeal.τ).loc Cert.KernelStepInIdeal.main_arg3)
      ∧ r.2.mem ((c.tc : Thread Cert.KernelStepInIdeal.nD Cert.KernelStepInIdeal.τ).loc Cert.KernelStepInIdeal.main_arg4) = m ((c.tc : Thread Cert.KernelStepInIdeal.nD Cert.KernelStepInIdeal.τ).loc Cert.KernelStepInIdeal.main_arg4)
      ∧ r.2.mem ((c.tc : Thread Cert.KernelStepInIdeal.nD Cert.KernelStepInIdeal.τ).loc Cert.KernelStepInIdeal.main_arg5) = m ((c.tc : Thread Cert.KernelStepInIdeal.nD Cert.KernelStepInIdeal.τ).loc Cert.KernelStepInIdeal.main_arg5))
      ∧ r.2.sem = fun _ => 0)

def quiescent_ReferenceStepInIdeal [hReferenceStepInIdeal : Cert.ReferenceStepInIdeal.Facts] : Prop :=
  ∀ (m : (ℓ : Loc Cert.ReferenceStepInIdeal.nD Cert.ReferenceStepInIdeal.τ Cert.ReferenceStepInIdeal.sig) → Buf (Elt Ideal) ℓ) (g : Dev Cert.ReferenceStepInIdeal.nD → PrngReg), Pre_ReferenceStepInIdeal m →
    θ_run (Cert.ReferenceStepInIdeal.defs (F := Ideal)) (onTc (τ := Cert.ReferenceStepInIdeal.τ) (Cert.ReferenceStepInIdeal.main (F := Ideal))) ⟨m, fun _ => 0, g⟩ (fun r => (∀ c : Dev Cert.ReferenceStepInIdeal.nD,
      r.2.mem ((c.tc : Thread Cert.ReferenceStepInIdeal.nD Cert.ReferenceStepInIdeal.τ).loc Cert.ReferenceStepInIdeal.main_arg0) = m ((c.tc : Thread Cert.ReferenceStepInIdeal.nD Cert.ReferenceStepInIdeal.τ).loc Cert.ReferenceStepInIdeal.main_arg0)
      ∧ r.2.mem ((c.tc : Thread Cert.ReferenceStepInIdeal.nD Cert.ReferenceStepInIdeal.τ).loc Cert.ReferenceStepInIdeal.main_arg1) = m ((c.tc : Thread Cert.ReferenceStepInIdeal.nD Cert.ReferenceStepInIdeal.τ).loc Cert.ReferenceStepInIdeal.main_arg1)
      ∧ r.2.mem ((c.tc : Thread Cert.ReferenceStepInIdeal.nD Cert.ReferenceStepInIdeal.τ).loc Cert.ReferenceStepInIdeal.main_arg2) = m ((c.tc : Thread Cert.ReferenceStepInIdeal.nD Cert.ReferenceStepInIdeal.τ).loc Cert.ReferenceStepInIdeal.main_arg2)
      ∧ r.2.mem ((c.tc : Thread Cert.ReferenceStepInIdeal.nD Cert.ReferenceStepInIdeal.τ).loc Cert.ReferenceStepInIdeal.main_arg3) = m ((c.tc : Thread Cert.ReferenceStepInIdeal.nD Cert.ReferenceStepInIdeal.τ).loc Cert.ReferenceStepInIdeal.main_arg3)
      ∧ r.2.mem ((c.tc : Thread Cert.ReferenceStepInIdeal.nD Cert.ReferenceStepInIdeal.τ).loc Cert.ReferenceStepInIdeal.main_arg4) = m ((c.tc : Thread Cert.ReferenceStepInIdeal.nD Cert.ReferenceStepInIdeal.τ).loc Cert.ReferenceStepInIdeal.main_arg4)
      ∧ r.2.mem ((c.tc : Thread Cert.ReferenceStepInIdeal.nD Cert.ReferenceStepInIdeal.τ).loc Cert.ReferenceStepInIdeal.main_arg5) = m ((c.tc : Thread Cert.ReferenceStepInIdeal.nD Cert.ReferenceStepInIdeal.τ).loc Cert.ReferenceStepInIdeal.main_arg5))
      ∧ r.2.sem = fun _ => 0)

def quiescent_KernelStepMlp [hKernelStepMlp : Cert.KernelStepMlp.Facts] : Prop :=
  ∀ (m : (ℓ : Loc Cert.KernelStepMlp.nD Cert.KernelStepMlp.τ Cert.KernelStepMlp.sig) → Buf (Elt Bits) ℓ) (g : Dev Cert.KernelStepMlp.nD → PrngReg), Pre_KernelStepMlp m →
    θ_run (Cert.KernelStepMlp.defs (F := Bits)) (onTc (τ := Cert.KernelStepMlp.τ) (Cert.KernelStepMlp.main (F := Bits))) ⟨m, fun _ => 0, g⟩ (fun r => (∀ c : Dev Cert.KernelStepMlp.nD,
      r.2.mem ((c.tc : Thread Cert.KernelStepMlp.nD Cert.KernelStepMlp.τ).loc Cert.KernelStepMlp.main_arg0) = m ((c.tc : Thread Cert.KernelStepMlp.nD Cert.KernelStepMlp.τ).loc Cert.KernelStepMlp.main_arg0)
      ∧ r.2.mem ((c.tc : Thread Cert.KernelStepMlp.nD Cert.KernelStepMlp.τ).loc Cert.KernelStepMlp.main_arg1) = m ((c.tc : Thread Cert.KernelStepMlp.nD Cert.KernelStepMlp.τ).loc Cert.KernelStepMlp.main_arg1)
      ∧ r.2.mem ((c.tc : Thread Cert.KernelStepMlp.nD Cert.KernelStepMlp.τ).loc Cert.KernelStepMlp.main_arg2) = m ((c.tc : Thread Cert.KernelStepMlp.nD Cert.KernelStepMlp.τ).loc Cert.KernelStepMlp.main_arg2)
      ∧ r.2.mem ((c.tc : Thread Cert.KernelStepMlp.nD Cert.KernelStepMlp.τ).loc Cert.KernelStepMlp.main_arg3) = m ((c.tc : Thread Cert.KernelStepMlp.nD Cert.KernelStepMlp.τ).loc Cert.KernelStepMlp.main_arg3)
      ∧ r.2.mem ((c.tc : Thread Cert.KernelStepMlp.nD Cert.KernelStepMlp.τ).loc Cert.KernelStepMlp.main_arg4) = m ((c.tc : Thread Cert.KernelStepMlp.nD Cert.KernelStepMlp.τ).loc Cert.KernelStepMlp.main_arg4)
      ∧ r.2.mem ((c.tc : Thread Cert.KernelStepMlp.nD Cert.KernelStepMlp.τ).loc Cert.KernelStepMlp.main_arg5) = m ((c.tc : Thread Cert.KernelStepMlp.nD Cert.KernelStepMlp.τ).loc Cert.KernelStepMlp.main_arg5))
      ∧ r.2.sem = fun _ => 0)

def quiescent_KernelStepMlpIdeal [hKernelStepMlpIdeal : Cert.KernelStepMlpIdeal.Facts] : Prop :=
  ∀ (m : (ℓ : Loc Cert.KernelStepMlpIdeal.nD Cert.KernelStepMlpIdeal.τ Cert.KernelStepMlpIdeal.sig) → Buf (Elt Ideal) ℓ) (g : Dev Cert.KernelStepMlpIdeal.nD → PrngReg), Pre_KernelStepMlpIdeal m →
    θ_run (Cert.KernelStepMlpIdeal.defs (F := Ideal)) (onTc (τ := Cert.KernelStepMlpIdeal.τ) (Cert.KernelStepMlpIdeal.main (F := Ideal))) ⟨m, fun _ => 0, g⟩ (fun r => (∀ c : Dev Cert.KernelStepMlpIdeal.nD,
      r.2.mem ((c.tc : Thread Cert.KernelStepMlpIdeal.nD Cert.KernelStepMlpIdeal.τ).loc Cert.KernelStepMlpIdeal.main_arg0) = m ((c.tc : Thread Cert.KernelStepMlpIdeal.nD Cert.KernelStepMlpIdeal.τ).loc Cert.KernelStepMlpIdeal.main_arg0)
      ∧ r.2.mem ((c.tc : Thread Cert.KernelStepMlpIdeal.nD Cert.KernelStepMlpIdeal.τ).loc Cert.KernelStepMlpIdeal.main_arg1) = m ((c.tc : Thread Cert.KernelStepMlpIdeal.nD Cert.KernelStepMlpIdeal.τ).loc Cert.KernelStepMlpIdeal.main_arg1)
      ∧ r.2.mem ((c.tc : Thread Cert.KernelStepMlpIdeal.nD Cert.KernelStepMlpIdeal.τ).loc Cert.KernelStepMlpIdeal.main_arg2) = m ((c.tc : Thread Cert.KernelStepMlpIdeal.nD Cert.KernelStepMlpIdeal.τ).loc Cert.KernelStepMlpIdeal.main_arg2)
      ∧ r.2.mem ((c.tc : Thread Cert.KernelStepMlpIdeal.nD Cert.KernelStepMlpIdeal.τ).loc Cert.KernelStepMlpIdeal.main_arg3) = m ((c.tc : Thread Cert.KernelStepMlpIdeal.nD Cert.KernelStepMlpIdeal.τ).loc Cert.KernelStepMlpIdeal.main_arg3)
      ∧ r.2.mem ((c.tc : Thread Cert.KernelStepMlpIdeal.nD Cert.KernelStepMlpIdeal.τ).loc Cert.KernelStepMlpIdeal.main_arg4) = m ((c.tc : Thread Cert.KernelStepMlpIdeal.nD Cert.KernelStepMlpIdeal.τ).loc Cert.KernelStepMlpIdeal.main_arg4)
      ∧ r.2.mem ((c.tc : Thread Cert.KernelStepMlpIdeal.nD Cert.KernelStepMlpIdeal.τ).loc Cert.KernelStepMlpIdeal.main_arg5) = m ((c.tc : Thread Cert.KernelStepMlpIdeal.nD Cert.KernelStepMlpIdeal.τ).loc Cert.KernelStepMlpIdeal.main_arg5))
      ∧ r.2.sem = fun _ => 0)

def quiescent_ReferenceStepMlpIdeal [hReferenceStepMlpIdeal : Cert.ReferenceStepMlpIdeal.Facts] : Prop :=
  ∀ (m : (ℓ : Loc Cert.ReferenceStepMlpIdeal.nD Cert.ReferenceStepMlpIdeal.τ Cert.ReferenceStepMlpIdeal.sig) → Buf (Elt Ideal) ℓ) (g : Dev Cert.ReferenceStepMlpIdeal.nD → PrngReg), Pre_ReferenceStepMlpIdeal m →
    θ_run (Cert.ReferenceStepMlpIdeal.defs (F := Ideal)) (onTc (τ := Cert.ReferenceStepMlpIdeal.τ) (Cert.ReferenceStepMlpIdeal.main (F := Ideal))) ⟨m, fun _ => 0, g⟩ (fun r => (∀ c : Dev Cert.ReferenceStepMlpIdeal.nD,
      r.2.mem ((c.tc : Thread Cert.ReferenceStepMlpIdeal.nD Cert.ReferenceStepMlpIdeal.τ).loc Cert.ReferenceStepMlpIdeal.main_arg0) = m ((c.tc : Thread Cert.ReferenceStepMlpIdeal.nD Cert.ReferenceStepMlpIdeal.τ).loc Cert.ReferenceStepMlpIdeal.main_arg0)
      ∧ r.2.mem ((c.tc : Thread Cert.ReferenceStepMlpIdeal.nD Cert.ReferenceStepMlpIdeal.τ).loc Cert.ReferenceStepMlpIdeal.main_arg1) = m ((c.tc : Thread Cert.ReferenceStepMlpIdeal.nD Cert.ReferenceStepMlpIdeal.τ).loc Cert.ReferenceStepMlpIdeal.main_arg1)
      ∧ r.2.mem ((c.tc : Thread Cert.ReferenceStepMlpIdeal.nD Cert.ReferenceStepMlpIdeal.τ).loc Cert.ReferenceStepMlpIdeal.main_arg2) = m ((c.tc : Thread Cert.ReferenceStepMlpIdeal.nD Cert.ReferenceStepMlpIdeal.τ).loc Cert.ReferenceStepMlpIdeal.main_arg2)
      ∧ r.2.mem ((c.tc : Thread Cert.ReferenceStepMlpIdeal.nD Cert.ReferenceStepMlpIdeal.τ).loc Cert.ReferenceStepMlpIdeal.main_arg3) = m ((c.tc : Thread Cert.ReferenceStepMlpIdeal.nD Cert.ReferenceStepMlpIdeal.τ).loc Cert.ReferenceStepMlpIdeal.main_arg3)
      ∧ r.2.mem ((c.tc : Thread Cert.ReferenceStepMlpIdeal.nD Cert.ReferenceStepMlpIdeal.τ).loc Cert.ReferenceStepMlpIdeal.main_arg4) = m ((c.tc : Thread Cert.ReferenceStepMlpIdeal.nD Cert.ReferenceStepMlpIdeal.τ).loc Cert.ReferenceStepMlpIdeal.main_arg4)
      ∧ r.2.mem ((c.tc : Thread Cert.ReferenceStepMlpIdeal.nD Cert.ReferenceStepMlpIdeal.τ).loc Cert.ReferenceStepMlpIdeal.main_arg5) = m ((c.tc : Thread Cert.ReferenceStepMlpIdeal.nD Cert.ReferenceStepMlpIdeal.τ).loc Cert.ReferenceStepMlpIdeal.main_arg5))
      ∧ r.2.sem = fun _ => 0)

def quiescent_KernelNormDx [hKernelNormDx : Cert.KernelNormDx.Facts] : Prop :=
  ∀ (m : (ℓ : Loc Cert.KernelNormDx.nD Cert.KernelNormDx.τ Cert.KernelNormDx.sig) → Buf (Elt Bits) ℓ) (g : Dev Cert.KernelNormDx.nD → PrngReg), Pre_KernelNormDx m →
    θ_run (Cert.KernelNormDx.defs (F := Bits)) (onTc (τ := Cert.KernelNormDx.τ) (Cert.KernelNormDx.main (F := Bits))) ⟨m, fun _ => 0, g⟩ (fun r => (∀ c : Dev Cert.KernelNormDx.nD,
      r.2.mem ((c.tc : Thread Cert.KernelNormDx.nD Cert.KernelNormDx.τ).loc Cert.KernelNormDx.main_arg0) = m ((c.tc : Thread Cert.KernelNormDx.nD Cert.KernelNormDx.τ).loc Cert.KernelNormDx.main_arg0)
      ∧ r.2.mem ((c.tc : Thread Cert.KernelNormDx.nD Cert.KernelNormDx.τ).loc Cert.KernelNormDx.main_arg1) = m ((c.tc : Thread Cert.KernelNormDx.nD Cert.KernelNormDx.τ).loc Cert.KernelNormDx.main_arg1)
      ∧ r.2.mem ((c.tc : Thread Cert.KernelNormDx.nD Cert.KernelNormDx.τ).loc Cert.KernelNormDx.main_arg2) = m ((c.tc : Thread Cert.KernelNormDx.nD Cert.KernelNormDx.τ).loc Cert.KernelNormDx.main_arg2)
      ∧ r.2.mem ((c.tc : Thread Cert.KernelNormDx.nD Cert.KernelNormDx.τ).loc Cert.KernelNormDx.main_arg3) = m ((c.tc : Thread Cert.KernelNormDx.nD Cert.KernelNormDx.τ).loc Cert.KernelNormDx.main_arg3))
      ∧ r.2.sem = fun _ => 0)

def quiescent_KernelNormDxIdeal [hKernelNormDxIdeal : Cert.KernelNormDxIdeal.Facts] : Prop :=
  ∀ (m : (ℓ : Loc Cert.KernelNormDxIdeal.nD Cert.KernelNormDxIdeal.τ Cert.KernelNormDxIdeal.sig) → Buf (Elt Ideal) ℓ) (g : Dev Cert.KernelNormDxIdeal.nD → PrngReg), Pre_KernelNormDxIdeal m →
    θ_run (Cert.KernelNormDxIdeal.defs (F := Ideal)) (onTc (τ := Cert.KernelNormDxIdeal.τ) (Cert.KernelNormDxIdeal.main (F := Ideal))) ⟨m, fun _ => 0, g⟩ (fun r => (∀ c : Dev Cert.KernelNormDxIdeal.nD,
      r.2.mem ((c.tc : Thread Cert.KernelNormDxIdeal.nD Cert.KernelNormDxIdeal.τ).loc Cert.KernelNormDxIdeal.main_arg0) = m ((c.tc : Thread Cert.KernelNormDxIdeal.nD Cert.KernelNormDxIdeal.τ).loc Cert.KernelNormDxIdeal.main_arg0)
      ∧ r.2.mem ((c.tc : Thread Cert.KernelNormDxIdeal.nD Cert.KernelNormDxIdeal.τ).loc Cert.KernelNormDxIdeal.main_arg1) = m ((c.tc : Thread Cert.KernelNormDxIdeal.nD Cert.KernelNormDxIdeal.τ).loc Cert.KernelNormDxIdeal.main_arg1)
      ∧ r.2.mem ((c.tc : Thread Cert.KernelNormDxIdeal.nD Cert.KernelNormDxIdeal.τ).loc Cert.KernelNormDxIdeal.main_arg2) = m ((c.tc : Thread Cert.KernelNormDxIdeal.nD Cert.KernelNormDxIdeal.τ).loc Cert.KernelNormDxIdeal.main_arg2)
      ∧ r.2.mem ((c.tc : Thread Cert.KernelNormDxIdeal.nD Cert.KernelNormDxIdeal.τ).loc Cert.KernelNormDxIdeal.main_arg3) = m ((c.tc : Thread Cert.KernelNormDxIdeal.nD Cert.KernelNormDxIdeal.τ).loc Cert.KernelNormDxIdeal.main_arg3))
      ∧ r.2.sem = fun _ => 0)

def quiescent_ReferenceNormDxIdeal [hReferenceNormDxIdeal : Cert.ReferenceNormDxIdeal.Facts] : Prop :=
  ∀ (m : (ℓ : Loc Cert.ReferenceNormDxIdeal.nD Cert.ReferenceNormDxIdeal.τ Cert.ReferenceNormDxIdeal.sig) → Buf (Elt Ideal) ℓ) (g : Dev Cert.ReferenceNormDxIdeal.nD → PrngReg), Pre_ReferenceNormDxIdeal m →
    θ_run (Cert.ReferenceNormDxIdeal.defs (F := Ideal)) (onTc (τ := Cert.ReferenceNormDxIdeal.τ) (Cert.ReferenceNormDxIdeal.main (F := Ideal))) ⟨m, fun _ => 0, g⟩ (fun r => (∀ c : Dev Cert.ReferenceNormDxIdeal.nD,
      r.2.mem ((c.tc : Thread Cert.ReferenceNormDxIdeal.nD Cert.ReferenceNormDxIdeal.τ).loc Cert.ReferenceNormDxIdeal.main_arg0) = m ((c.tc : Thread Cert.ReferenceNormDxIdeal.nD Cert.ReferenceNormDxIdeal.τ).loc Cert.ReferenceNormDxIdeal.main_arg0)
      ∧ r.2.mem ((c.tc : Thread Cert.ReferenceNormDxIdeal.nD Cert.ReferenceNormDxIdeal.τ).loc Cert.ReferenceNormDxIdeal.main_arg1) = m ((c.tc : Thread Cert.ReferenceNormDxIdeal.nD Cert.ReferenceNormDxIdeal.τ).loc Cert.ReferenceNormDxIdeal.main_arg1)
      ∧ r.2.mem ((c.tc : Thread Cert.ReferenceNormDxIdeal.nD Cert.ReferenceNormDxIdeal.τ).loc Cert.ReferenceNormDxIdeal.main_arg2) = m ((c.tc : Thread Cert.ReferenceNormDxIdeal.nD Cert.ReferenceNormDxIdeal.τ).loc Cert.ReferenceNormDxIdeal.main_arg2)
      ∧ r.2.mem ((c.tc : Thread Cert.ReferenceNormDxIdeal.nD Cert.ReferenceNormDxIdeal.τ).loc Cert.ReferenceNormDxIdeal.main_arg3) = m ((c.tc : Thread Cert.ReferenceNormDxIdeal.nD Cert.ReferenceNormDxIdeal.τ).loc Cert.ReferenceNormDxIdeal.main_arg3))
      ∧ r.2.sem = fun _ => 0)

def quiescent_KernelNorm2Dx [hKernelNorm2Dx : Cert.KernelNorm2Dx.Facts] : Prop :=
  ∀ (m : (ℓ : Loc Cert.KernelNorm2Dx.nD Cert.KernelNorm2Dx.τ Cert.KernelNorm2Dx.sig) → Buf (Elt Bits) ℓ) (g : Dev Cert.KernelNorm2Dx.nD → PrngReg), Pre_KernelNorm2Dx m →
    θ_run (Cert.KernelNorm2Dx.defs (F := Bits)) (onTc (τ := Cert.KernelNorm2Dx.τ) (Cert.KernelNorm2Dx.main (F := Bits))) ⟨m, fun _ => 0, g⟩ (fun r => (∀ c : Dev Cert.KernelNorm2Dx.nD,
      r.2.mem ((c.tc : Thread Cert.KernelNorm2Dx.nD Cert.KernelNorm2Dx.τ).loc Cert.KernelNorm2Dx.main_arg0) = m ((c.tc : Thread Cert.KernelNorm2Dx.nD Cert.KernelNorm2Dx.τ).loc Cert.KernelNorm2Dx.main_arg0)
      ∧ r.2.mem ((c.tc : Thread Cert.KernelNorm2Dx.nD Cert.KernelNorm2Dx.τ).loc Cert.KernelNorm2Dx.main_arg1) = m ((c.tc : Thread Cert.KernelNorm2Dx.nD Cert.KernelNorm2Dx.τ).loc Cert.KernelNorm2Dx.main_arg1)
      ∧ r.2.mem ((c.tc : Thread Cert.KernelNorm2Dx.nD Cert.KernelNorm2Dx.τ).loc Cert.KernelNorm2Dx.main_arg2) = m ((c.tc : Thread Cert.KernelNorm2Dx.nD Cert.KernelNorm2Dx.τ).loc Cert.KernelNorm2Dx.main_arg2)
      ∧ r.2.mem ((c.tc : Thread Cert.KernelNorm2Dx.nD Cert.KernelNorm2Dx.τ).loc Cert.KernelNorm2Dx.main_arg3) = m ((c.tc : Thread Cert.KernelNorm2Dx.nD Cert.KernelNorm2Dx.τ).loc Cert.KernelNorm2Dx.main_arg3))
      ∧ r.2.sem = fun _ => 0)

def quiescent_KernelNorm2DxIdeal [hKernelNorm2DxIdeal : Cert.KernelNorm2DxIdeal.Facts] : Prop :=
  ∀ (m : (ℓ : Loc Cert.KernelNorm2DxIdeal.nD Cert.KernelNorm2DxIdeal.τ Cert.KernelNorm2DxIdeal.sig) → Buf (Elt Ideal) ℓ) (g : Dev Cert.KernelNorm2DxIdeal.nD → PrngReg), Pre_KernelNorm2DxIdeal m →
    θ_run (Cert.KernelNorm2DxIdeal.defs (F := Ideal)) (onTc (τ := Cert.KernelNorm2DxIdeal.τ) (Cert.KernelNorm2DxIdeal.main (F := Ideal))) ⟨m, fun _ => 0, g⟩ (fun r => (∀ c : Dev Cert.KernelNorm2DxIdeal.nD,
      r.2.mem ((c.tc : Thread Cert.KernelNorm2DxIdeal.nD Cert.KernelNorm2DxIdeal.τ).loc Cert.KernelNorm2DxIdeal.main_arg0) = m ((c.tc : Thread Cert.KernelNorm2DxIdeal.nD Cert.KernelNorm2DxIdeal.τ).loc Cert.KernelNorm2DxIdeal.main_arg0)
      ∧ r.2.mem ((c.tc : Thread Cert.KernelNorm2DxIdeal.nD Cert.KernelNorm2DxIdeal.τ).loc Cert.KernelNorm2DxIdeal.main_arg1) = m ((c.tc : Thread Cert.KernelNorm2DxIdeal.nD Cert.KernelNorm2DxIdeal.τ).loc Cert.KernelNorm2DxIdeal.main_arg1)
      ∧ r.2.mem ((c.tc : Thread Cert.KernelNorm2DxIdeal.nD Cert.KernelNorm2DxIdeal.τ).loc Cert.KernelNorm2DxIdeal.main_arg2) = m ((c.tc : Thread Cert.KernelNorm2DxIdeal.nD Cert.KernelNorm2DxIdeal.τ).loc Cert.KernelNorm2DxIdeal.main_arg2)
      ∧ r.2.mem ((c.tc : Thread Cert.KernelNorm2DxIdeal.nD Cert.KernelNorm2DxIdeal.τ).loc Cert.KernelNorm2DxIdeal.main_arg3) = m ((c.tc : Thread Cert.KernelNorm2DxIdeal.nD Cert.KernelNorm2DxIdeal.τ).loc Cert.KernelNorm2DxIdeal.main_arg3))
      ∧ r.2.sem = fun _ => 0)

def quiescent_ReferenceNorm2DxIdeal [hReferenceNorm2DxIdeal : Cert.ReferenceNorm2DxIdeal.Facts] : Prop :=
  ∀ (m : (ℓ : Loc Cert.ReferenceNorm2DxIdeal.nD Cert.ReferenceNorm2DxIdeal.τ Cert.ReferenceNorm2DxIdeal.sig) → Buf (Elt Ideal) ℓ) (g : Dev Cert.ReferenceNorm2DxIdeal.nD → PrngReg), Pre_ReferenceNorm2DxIdeal m →
    θ_run (Cert.ReferenceNorm2DxIdeal.defs (F := Ideal)) (onTc (τ := Cert.ReferenceNorm2DxIdeal.τ) (Cert.ReferenceNorm2DxIdeal.main (F := Ideal))) ⟨m, fun _ => 0, g⟩ (fun r => (∀ c : Dev Cert.ReferenceNorm2DxIdeal.nD,
      r.2.mem ((c.tc : Thread Cert.ReferenceNorm2DxIdeal.nD Cert.ReferenceNorm2DxIdeal.τ).loc Cert.ReferenceNorm2DxIdeal.main_arg0) = m ((c.tc : Thread Cert.ReferenceNorm2DxIdeal.nD Cert.ReferenceNorm2DxIdeal.τ).loc Cert.ReferenceNorm2DxIdeal.main_arg0)
      ∧ r.2.mem ((c.tc : Thread Cert.ReferenceNorm2DxIdeal.nD Cert.ReferenceNorm2DxIdeal.τ).loc Cert.ReferenceNorm2DxIdeal.main_arg1) = m ((c.tc : Thread Cert.ReferenceNorm2DxIdeal.nD Cert.ReferenceNorm2DxIdeal.τ).loc Cert.ReferenceNorm2DxIdeal.main_arg1)
      ∧ r.2.mem ((c.tc : Thread Cert.ReferenceNorm2DxIdeal.nD Cert.ReferenceNorm2DxIdeal.τ).loc Cert.ReferenceNorm2DxIdeal.main_arg2) = m ((c.tc : Thread Cert.ReferenceNorm2DxIdeal.nD Cert.ReferenceNorm2DxIdeal.τ).loc Cert.ReferenceNorm2DxIdeal.main_arg2)
      ∧ r.2.mem ((c.tc : Thread Cert.ReferenceNorm2DxIdeal.nD Cert.ReferenceNorm2DxIdeal.τ).loc Cert.ReferenceNorm2DxIdeal.main_arg3) = m ((c.tc : Thread Cert.ReferenceNorm2DxIdeal.nD Cert.ReferenceNorm2DxIdeal.τ).loc Cert.ReferenceNorm2DxIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1)
      ∧ r.2.mem ((c.tc : Thread Cert.KernelDownDx.nD Cert.KernelDownDx.τ).loc Cert.KernelDownDx.main_arg2) = m ((c.tc : Thread Cert.KernelDownDx.nD Cert.KernelDownDx.τ).loc Cert.KernelDownDx.main_arg2))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1)
      ∧ r.2.mem ((c.tc : Thread Cert.KernelDownDxIdeal.nD Cert.KernelDownDxIdeal.τ).loc Cert.KernelDownDxIdeal.main_arg2) = m ((c.tc : Thread Cert.KernelDownDxIdeal.nD Cert.KernelDownDxIdeal.τ).loc Cert.KernelDownDxIdeal.main_arg2))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1)
      ∧ r.2.mem ((c.tc : Thread Cert.ReferenceDownDxIdeal.nD Cert.ReferenceDownDxIdeal.τ).loc Cert.ReferenceDownDxIdeal.main_arg2) = m ((c.tc : Thread Cert.ReferenceDownDxIdeal.nD Cert.ReferenceDownDxIdeal.τ).loc Cert.ReferenceDownDxIdeal.main_arg2))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m ((c.tc : Thread Cert.KernelUpDwIdeal.nD Cert.KernelUpDwIdeal.τ).loc Cert.KernelUpDwIdeal.main_arg0) = Layout.block ⟨2, ![2048, 4224]⟩ ⟨2, ![16384, 4224]⟩ 0 8 c (m' (((0 : Dev Cert.ReferenceUpDwIdeal.nD).tc : Thread Cert.ReferenceUpDwIdeal.nD Cert.ReferenceUpDwIdeal.τ).loc Cert.ReferenceUpDwIdeal.main_arg0))
      ∧ m ((c.tc : Thread Cert.KernelUpDwIdeal.nD Cert.KernelUpDwIdeal.τ).loc Cert.KernelUpDwIdeal.main_arg1) = Layout.block ⟨2, ![4224, 8192]⟩ ⟨2, ![33792, 8192]⟩ 0 8 c (m' (((0 : Dev Cert.ReferenceUpDwIdeal.nD).tc : Thread Cert.ReferenceUpDwIdeal.nD Cert.ReferenceUpDwIdeal.τ).loc Cert.ReferenceUpDwIdeal.main_arg1))
      ∧ m ((c.tc : Thread Cert.KernelUpDwIdeal.nD Cert.KernelUpDwIdeal.τ).loc Cert.KernelUpDwIdeal.main_arg2) = Layout.block ⟨4, ![4, 2, 1024, 2048]⟩ ⟨4, ![32, 2, 1024, 2048]⟩ 0 8 c (m' (((0 : Dev Cert.ReferenceUpDwIdeal.nD).tc : Thread Cert.ReferenceUpDwIdeal.nD Cert.ReferenceUpDwIdeal.τ).loc Cert.ReferenceUpDwIdeal.main_arg2))) →
    ∃ (v0 : Buf (Elt Ideal) (((0 : Dev Cert.ReferenceUpDwIdeal.nD).tc : Thread Cert.ReferenceUpDwIdeal.nD Cert.ReferenceUpDwIdeal.τ).loc Cert.ReferenceUpDwIdeal.main_v6)) (v1 : Buf (Elt Ideal) (((0 : Dev Cert.ReferenceUpDwIdeal.nD).tc : Thread Cert.ReferenceUpDwIdeal.nD Cert.ReferenceUpDwIdeal.τ).loc Cert.ReferenceUpDwIdeal.main_v15)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v1_0) = Layout.block ⟨3, ![4, 2048, 2048]⟩ ⟨3, ![32, 2048, 2048]⟩ 0 8 c v0
          ∧ r.2.mem ((c.tc : Thread Cert.KernelUpDwIdeal.nD Cert.KernelUpDwIdeal.τ).loc Cert.KernelUpDwIdeal.main_v1_1) = Layout.block ⟨3, ![4, 1024, 2048]⟩ ⟨3, ![32, 1024, 2048]⟩ 0 8 c v1
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1)
          ∧ r.2.mem ((c.tc : Thread Cert.KernelUpDwIdeal.nD Cert.KernelUpDwIdeal.τ).loc Cert.KernelUpDwIdeal.main_arg2) = m ((c.tc : Thread Cert.KernelUpDwIdeal.nD Cert.KernelUpDwIdeal.τ).loc Cert.KernelUpDwIdeal.main_arg2))
      ∧ θ_run (Cert.ReferenceUpDwIdeal.defs (F := Ideal)) (onTc (τ := Cert.ReferenceUpDwIdeal.τ) (Cert.ReferenceUpDwIdeal.main (F := Ideal))) ⟨m', fun _ => 0, g'⟩ (fun r =>
          r.2.mem (((0 : Dev Cert.ReferenceUpDwIdeal.nD).tc : Thread Cert.ReferenceUpDwIdeal.nD Cert.ReferenceUpDwIdeal.τ).loc Cert.ReferenceUpDwIdeal.main_v6) = v0
          ∧ r.2.mem (((0 : Dev Cert.ReferenceUpDwIdeal.nD).tc : Thread Cert.ReferenceUpDwIdeal.nD Cert.ReferenceUpDwIdeal.τ).loc Cert.ReferenceUpDwIdeal.main_v15) = v1
          ∧ r.2.mem (((0 : Dev Cert.ReferenceUpDwIdeal.nD).tc : Thread Cert.ReferenceUpDwIdeal.nD Cert.ReferenceUpDwIdeal.τ).loc Cert.ReferenceUpDwIdeal.main_arg0) = m' (((0 : Dev Cert.ReferenceUpDwIdeal.nD).tc : Thread Cert.ReferenceUpDwIdeal.nD Cert.ReferenceUpDwIdeal.τ).loc Cert.ReferenceUpDwIdeal.main_arg0)
          ∧ r.2.mem (((0 : Dev Cert.ReferenceUpDwIdeal.nD).tc : Thread Cert.ReferenceUpDwIdeal.nD Cert.ReferenceUpDwIdeal.τ).loc Cert.ReferenceUpDwIdeal.main_arg1) = m' (((0 : Dev Cert.ReferenceUpDwIdeal.nD).tc : Thread Cert.ReferenceUpDwIdeal.nD Cert.ReferenceUpDwIdeal.τ).loc Cert.ReferenceUpDwIdeal.main_arg1)
          ∧ r.2.mem (((0 : Dev Cert.ReferenceUpDwIdeal.nD).tc : Thread Cert.ReferenceUpDwIdeal.nD Cert.ReferenceUpDwIdeal.τ).loc Cert.ReferenceUpDwIdeal.main_arg2) = m' (((0 : Dev Cert.ReferenceUpDwIdeal.nD).tc : Thread Cert.ReferenceUpDwIdeal.nD Cert.ReferenceUpDwIdeal.τ).loc Cert.ReferenceUpDwIdeal.main_arg2))

def preserves_KernelSiblingRows_KernelSiblingRowsIdeal : Prop :=
  True

def algebraic_KernelSiblingRowsIdeal_ReferenceSiblingRowsIdeal [hKernelSiblingRowsIdeal : Cert.KernelSiblingRowsIdeal.Facts] [hReferenceSiblingRowsIdeal : Cert.ReferenceSiblingRowsIdeal.Facts] : Prop :=
  ∀ (m : (ℓ : Loc Cert.KernelSiblingRowsIdeal.nD Cert.KernelSiblingRowsIdeal.τ Cert.KernelSiblingRowsIdeal.sig) → Buf (Elt Ideal) ℓ) (g : Dev Cert.KernelSiblingRowsIdeal.nD → PrngReg)
    (m' : (ℓ : Loc Cert.ReferenceSiblingRowsIdeal.nD Cert.ReferenceSiblingRowsIdeal.τ Cert.ReferenceSiblingRowsIdeal.sig) → Buf (Elt Ideal) ℓ) (g' : Dev Cert.ReferenceSiblingRowsIdeal.nD → PrngReg), Pre_KernelSiblingRowsIdeal m →
    (∀ c : Dev Cert.KernelSiblingRowsIdeal.nD,
      m ((c.tc : Thread Cert.KernelSiblingRowsIdeal.nD Cert.KernelSiblingRowsIdeal.τ).loc Cert.KernelSiblingRowsIdeal.main_arg0) = Layout.block ⟨2, ![1024, 4224]⟩ ⟨2, ![8192, 4224]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg0))
      ∧ m ((c.tc : Thread Cert.KernelSiblingRowsIdeal.nD Cert.KernelSiblingRowsIdeal.τ).loc Cert.KernelSiblingRowsIdeal.main_arg1) = Layout.block ⟨2, ![4224, 10240]⟩ ⟨2, ![33792, 10240]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg1))
      ∧ m ((c.tc : Thread Cert.KernelSiblingRowsIdeal.nD Cert.KernelSiblingRowsIdeal.τ).loc Cert.KernelSiblingRowsIdeal.main_arg2) = Layout.block ⟨4, ![4, 2, 256, 512]⟩ ⟨4, ![32, 2, 256, 512]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg2))
      ∧ m ((c.tc : Thread Cert.KernelSiblingRowsIdeal.nD Cert.KernelSiblingRowsIdeal.τ).loc Cert.KernelSiblingRowsIdeal.main_arg3) = Layout.block ⟨4, ![4, 2, 256, 256]⟩ ⟨4, ![32, 2, 256, 256]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg3))
      ∧ m ((c.tc : Thread Cert.KernelSiblingRowsIdeal.nD Cert.KernelSiblingRowsIdeal.τ).loc Cert.KernelSiblingRowsIdeal.main_arg4) = Layout.block ⟨4, ![4, 2, 256, 256]⟩ ⟨4, ![32, 2, 256, 256]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg4))
      ∧ m ((c.tc : Thread Cert.KernelSiblingRowsIdeal.nD Cert.KernelSiblingRowsIdeal.τ).loc Cert.KernelSiblingRowsIdeal.main_arg5) = Layout.block ⟨2, ![1024, 2048]⟩ ⟨2, ![8192, 2048]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg5))
      ∧ m ((c.tc : Thread Cert.KernelSiblingRowsIdeal.nD Cert.KernelSiblingRowsIdeal.τ).loc Cert.KernelSiblingRowsIdeal.main_arg6) = Layout.block ⟨2, ![1024, 2048]⟩ ⟨2, ![8192, 2048]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg6))
      ∧ m ((c.tc : Thread Cert.KernelSiblingRowsIdeal.nD Cert.KernelSiblingRowsIdeal.τ).loc Cert.KernelSiblingRowsIdeal.main_arg7) = Layout.block ⟨3, ![4, 256, 2048]⟩ ⟨3, ![32, 256, 2048]⟩ 0 8 c (m' (((0 : Dev Cert.ReferenceSiblingRowsIdeal.nD).tc : Thread Cert.ReferenceSiblingRowsIdeal.nD Cert.ReferenceSiblingRowsIdeal.τ).loc Cert.ReferenceSiblingRowsIdeal.main_arg7))) →
    ∃ (v0 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v6)) (v1 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v15)) (v2 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v24)) (v3 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v33)) (v4 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v36)) (v5 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v39)) (v6 : Buf (Elt Ideal) (((0 : Dev Cert.ReferenceSiblingRowsIdeal.nD).tc : Thread Cert.ReferenceSiblingRowsIdeal.nD Cert.ReferenceSiblingRowsIdeal.τ).loc Cert.ReferenceSiblingRowsIdeal.main_v55)),
      θ_run (Cert.KernelSiblingRowsIdeal.defs (F := Ideal)) (onTc (τ := Cert.KernelSiblingRowsIdeal.τ) (Cert.KernelSiblingRowsIdeal.main (F := Ideal))) ⟨m, fun _ => 0, g⟩ (fun r => ∀ c : Dev Cert.KernelSiblingRowsIdeal.nD,
          r.2.mem ((c.tc : Thread Cert.KernelSiblingRowsIdeal.nD Cert.KernelSiblingRowsIdeal.τ).loc Cert.KernelSiblingRowsIdeal.main_v1_0) = Layout.block ⟨3, ![4, 1024, 2560]⟩ ⟨3, ![32, 1024, 2560]⟩ 0 8 c v0
          ∧ r.2.mem ((c.tc : Thread Cert.KernelSiblingRowsIdeal.nD Cert.KernelSiblingRowsIdeal.τ).loc Cert.KernelSiblingRowsIdeal.main_v1_1) = Layout.block ⟨3, ![4, 256, 512]⟩ ⟨3, ![32, 256, 512]⟩ 0 8 c v1
          ∧ r.2.mem ((c.tc : Thread Cert.KernelSiblingRowsIdeal.nD Cert.KernelSiblingRowsIdeal.τ).loc Cert.KernelSiblingRowsIdeal.main_v1_2) = Layout.block ⟨3, ![4, 256, 256]⟩ ⟨3, ![32, 256, 256]⟩ 0 8 c v2
          ∧ r.2.mem ((c.tc : Thread Cert.KernelSiblingRowsIdeal.nD Cert.KernelSiblingRowsIdeal.τ).loc Cert.KernelSiblingRowsIdeal.main_v1_3) = Layout.block ⟨3, ![4, 256, 256]⟩ ⟨3, ![32, 256, 256]⟩ 0 8 c v3
          ∧ r.2.mem ((c.tc : Thread Cert.KernelSiblingRowsIdeal.nD Cert.KernelSiblingRowsIdeal.τ).loc Cert.KernelSiblingRowsIdeal.main_v1_4) = Layout.block ⟨2, ![1024, 2048]⟩ ⟨2, ![8192, 2048]⟩ 0 8 c v4
          ∧ r.2.mem ((c.tc : Thread Cert.KernelSiblingRowsIdeal.nD Cert.KernelSiblingRowsIdeal.τ).loc Cert.KernelSiblingRowsIdeal.main_v1_5) = Layout.block ⟨2, ![1024, 2048]⟩ ⟨2, ![8192, 2048]⟩ 0 8 c v5
          ∧ r.2.mem ((c.tc : Thread Cert.KernelSiblingRowsIdeal.nD Cert.KernelSiblingRowsIdeal.τ).loc Cert.KernelSiblingRowsIdeal.main_v1_6) = Layout.block ⟨3, ![3, 256, 2048]⟩ ⟨3, ![24, 256, 2048]⟩ 0 8 c v6
          ∧ r.2.mem ((c.tc : Thread Cert.KernelSiblingRowsIdeal.nD Cert.KernelSiblingRowsIdeal.τ).loc Cert.KernelSiblingRowsIdeal.main_arg0) = m ((c.tc : Thread Cert.KernelSiblingRowsIdeal.nD Cert.KernelSiblingRowsIdeal.τ).loc Cert.KernelSiblingRowsIdeal.main_arg0)
          ∧ r.2.mem ((c.tc : Thread Cert.KernelSiblingRowsIdeal.nD Cert.KernelSiblingRowsIdeal.τ).loc Cert.KernelSiblingRowsIdeal.main_arg1) = m ((c.tc : Thread Cert.KernelSiblingRowsIdeal.nD Cert.KernelSiblingRowsIdeal.τ).loc Cert.KernelSiblingRowsIdeal.main_arg1)
          ∧ r.2.mem ((c.tc : Thread Cert.KernelSiblingRowsIdeal.nD Cert.KernelSiblingRowsIdeal.τ).loc Cert.KernelSiblingRowsIdeal.main_arg2) = m ((c.tc : Thread Cert.KernelSiblingRowsIdeal.nD Cert.KernelSiblingRowsIdeal.τ).loc Cert.KernelSiblingRowsIdeal.main_arg2)
          ∧ r.2.mem ((c.tc : Thread Cert.KernelSiblingRowsIdeal.nD Cert.KernelSiblingRowsIdeal.τ).loc Cert.KernelSiblingRowsIdeal.main_arg3) = m ((c.tc : Thread Cert.KernelSiblingRowsIdeal.nD Cert.KernelSiblingRowsIdeal.τ).loc Cert.KernelSiblingRowsIdeal.main_arg3)
          ∧ r.2.mem ((c.tc : Thread Cert.KernelSiblingRowsIdeal.nD Cert.KernelSiblingRowsIdeal.τ).loc Cert.KernelSiblingRowsIdeal.main_arg4) = m ((c.tc : Thread Cert.KernelSiblingRowsIdeal.nD Cert.KernelSiblingRowsIdeal.τ).loc Cert.KernelSiblingRowsIdeal.main_arg4)
          ∧ r.2.mem ((c.tc : Thread Cert.KernelSiblingRowsIdeal.nD Cert.KernelSiblingRowsIdeal.τ).loc Cert.KernelSiblingRowsIdeal.main_arg5) = m ((c.tc : Thread Cert.KernelSiblingRowsIdeal.nD Cert.KernelSiblingRowsIdeal.τ).loc Cert.KernelSiblingRowsIdeal.main_arg5)
          ∧ r.2.mem ((c.tc : Thread Cert.KernelSiblingRowsIdeal.nD Cert.KernelSiblingRowsIdeal.τ).loc Cert.KernelSiblingRowsIdeal.main_arg6) = m ((c.tc : Thread Cert.KernelSiblingRowsIdeal.nD Cert.KernelSiblingRowsIdeal.τ).loc Cert.KernelSiblingRowsIdeal.main_arg6)
          ∧ r.2.mem ((c.tc : Thread Cert.KernelSiblingRowsIdeal.nD Cert.KernelSiblingRowsIdeal.τ).loc Cert.KernelSiblingRowsIdeal.main_arg7) = m ((c.tc : Thread Cert.KernelSiblingRowsIdeal.nD Cert.KernelSiblingRowsIdeal.τ).loc Cert.KernelSiblingRowsIdeal.main_arg7))
      ∧ θ_run (Cert.ReferenceSiblingRowsIdeal.defs (F := Ideal)) (onTc (τ := Cert.ReferenceSiblingRowsIdeal.τ) (Cert.ReferenceSiblingRowsIdeal.main (F := Ideal))) ⟨m', fun _ => 0, g'⟩ (fun r =>
          r.2.mem (((0 : Dev Cert.ReferenceSiblingRowsIdeal.nD).tc : Thread Cert.ReferenceSiblingRowsIdeal.nD Cert.ReferenceSiblingRowsIdeal.τ).loc Cert.ReferenceSiblingRowsIdeal.main_v6) = v0
          ∧ r.2.mem (((0 : Dev Cert.ReferenceSiblingRowsIdeal.nD).tc : Thread Cert.ReferenceSiblingRowsIdeal.nD Cert.ReferenceSiblingRowsIdeal.τ).loc Cert.ReferenceSiblingRowsIdeal.main_v15) = v1
          ∧ r.2.mem (((0 : Dev Cert.ReferenceSiblingRowsIdeal.nD).tc : Thread Cert.ReferenceSiblingRowsIdeal.nD Cert.ReferenceSiblingRowsIdeal.τ).loc Cert.ReferenceSiblingRowsIdeal.main_v24) = v2
          ∧ r.2.mem (((0 : Dev Cert.ReferenceSiblingRowsIdeal.nD).tc : Thread Cert.ReferenceSiblingRowsIdeal.nD Cert.ReferenceSiblingRowsIdeal.τ).loc Cert.ReferenceSiblingRowsIdeal.main_v33) = v3
          ∧ r.2.mem (((0 : Dev Cert.ReferenceSiblingRowsIdeal.nD).tc : Thread Cert.ReferenceSiblingRowsIdeal.nD Cert.ReferenceSiblingRowsIdeal.τ).loc Cert.ReferenceSiblingRowsIdeal.main_v36) = v4
          ∧ r.2.mem (((0 : Dev Cert.ReferenceSiblingRowsIdeal.nD).tc : Thread Cert.ReferenceSiblingRowsIdeal.nD Cert.ReferenceSiblingRowsIdeal.τ).loc Cert.ReferenceSiblingRowsIdeal.main_v39) = v5
          ∧ r.2.mem (((0 : Dev Cert.ReferenceSiblingRowsIdeal.nD).tc : Thread Cert.ReferenceSiblingRowsIdeal.nD Cert.ReferenceSiblingRowsIdeal.τ).loc Cert.ReferenceSiblingRowsIdeal.main_v55) = v6
          ∧ r.2.mem (((0 : Dev Cert.ReferenceSiblingRowsIdeal.nD).tc : Thread Cert.ReferenceSiblingRowsIdeal.nD Cert.ReferenceSiblingRowsIdeal.τ).loc Cert.ReferenceSiblingRowsIdeal.main_arg0) = m' (((0 : Dev Cert.ReferenceSiblingRowsIdeal.nD).tc : Thread Cert.ReferenceSiblingRowsIdeal.nD Cert.ReferenceSiblingRowsIdeal.τ).loc Cert.ReferenceSiblingRowsIdeal.main_arg0)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg1) = m' (((0 : Dev Cert.ReferenceSiblingRowsIdeal.nD).tc : Thread Cert.ReferenceSiblingRowsIdeal.nD Cert.ReferenceSiblingRowsIdeal.τ).loc Cert.ReferenceSiblingRowsIdeal.main_arg1)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg2) = m' (((0 : Dev Cert.ReferenceSiblingRowsIdeal.nD).tc : Thread Cert.ReferenceSiblingRowsIdeal.nD Cert.ReferenceSiblingRowsIdeal.τ).loc Cert.ReferenceSiblingRowsIdeal.main_arg2)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg3) = m' (((0 : Dev Cert.ReferenceSiblingRowsIdeal.nD).tc : Thread Cert.ReferenceSiblingRowsIdeal.nD Cert.ReferenceSiblingRowsIdeal.τ).loc Cert.ReferenceSiblingRowsIdeal.main_arg3)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg4) = m' (((0 : Dev Cert.ReferenceSiblingRowsIdeal.nD).tc : Thread Cert.ReferenceSiblingRowsIdeal.nD Cert.ReferenceSiblingRowsIdeal.τ).loc Cert.ReferenceSiblingRowsIdeal.main_arg4)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg5) = m' (((0 : Dev Cert.ReferenceSiblingRowsIdeal.nD).tc : Thread Cert.ReferenceSiblingRowsIdeal.nD Cert.ReferenceSiblingRowsIdeal.τ).loc Cert.ReferenceSiblingRowsIdeal.main_arg5)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg6) = m' (((0 : Dev Cert.ReferenceSiblingRowsIdeal.nD).tc : Thread Cert.ReferenceSiblingRowsIdeal.nD Cert.ReferenceSiblingRowsIdeal.τ).loc Cert.ReferenceSiblingRowsIdeal.main_arg6)
          ∧ r.2.mem (((0 : Dev Cert.ReferenceSiblingRowsIdeal.nD).tc : Thread Cert.ReferenceSiblingRowsIdeal.nD Cert.ReferenceSiblingRowsIdeal.τ).loc Cert.ReferenceSiblingRowsIdeal.main_arg7) = m' (((0 : Dev Cert.ReferenceSiblingRowsIdeal.nD).tc : Thread Cert.ReferenceSiblingRowsIdeal.nD Cert.ReferenceSiblingRowsIdeal.τ).loc Cert.ReferenceSiblingRowsIdeal.main_arg7))

def preserves_KernelOwnRows_KernelOwnRowsIdeal : Prop :=
  True

def algebraic_KernelOwnRowsIdeal_ReferenceOwnRowsIdeal [hKernelOwnRowsIdeal : Cert.KernelOwnRowsIdeal.Facts] [hReferenceOwnRowsIdeal : Cert.ReferenceOwnRowsIdeal.Facts] : Prop :=
  ∀ (m : (ℓ : Loc Cert.KernelOwnRowsIdeal.nD Cert.KernelOwnRowsIdeal.τ Cert.KernelOwnRowsIdeal.sig) → Buf (Elt Ideal) ℓ) (g : Dev Cert.KernelOwnRowsIdeal.nD → PrngReg)
    (m' : (ℓ : Loc Cert.ReferenceOwnRowsIdeal.nD Cert.ReferenceOwnRowsIdeal.τ Cert.ReferenceOwnRowsIdeal.sig) → Buf (Elt Ideal) ℓ) (g' : Dev Cert.ReferenceOwnRowsIdeal.nD → PrngReg), Pre_KernelOwnRowsIdeal m →
    (∀ c : Dev Cert.KernelOwnRowsIdeal.nD,
      m ((c.tc : Thread Cert.KernelOwnRowsIdeal.nD Cert.KernelOwnRowsIdeal.τ).loc Cert.KernelOwnRowsIdeal.main_arg0) = Layout.block ⟨2, ![1024, 4224]⟩ ⟨2, ![8192, 4224]⟩ 0 8 c (m' (((0 : Dev Cert.ReferenceOwnRowsIdeal.nD).tc : Thread Cert.ReferenceOwnRowsIdeal.nD Cert.ReferenceOwnRowsIdeal.τ).loc Cert.ReferenceOwnRowsIdeal.main_arg0))
      ∧ m ((c.tc : Thread Cert.KernelOwnRowsIdeal.nD Cert.KernelOwnRowsIdeal.τ).loc Cert.KernelOwnRowsIdeal.main_arg1) = Layout.block ⟨2, ![4224, 10240]⟩ ⟨2, ![33792, 10240]⟩ 0 8 c (m' (((0 : Dev Cert.ReferenceOwnRowsIdeal.nD).tc : Thread Cert.ReferenceOwnRowsIdeal.nD Cert.ReferenceOwnRowsIdeal.τ).loc Cert.ReferenceOwnRowsIdeal.main_arg1))
      ∧ m ((c.tc : Thread Cert.KernelOwnRowsIdeal.nD Cert.KernelOwnRowsIdeal.τ).loc Cert.KernelOwnRowsIdeal.main_arg2) = Layout.block ⟨3, ![4, 1024, 2560]⟩ ⟨3, ![32, 1024, 2560]⟩ 0 8 c (m' (((0 : Dev Cert.ReferenceOwnRowsIdeal.nD).tc : Thread Cert.ReferenceOwnRowsIdeal.nD Cert.ReferenceOwnRowsIdeal.τ).loc Cert.ReferenceOwnRowsIdeal.main_arg2))
      ∧ m ((c.tc : Thread Cert.KernelOwnRowsIdeal.nD Cert.KernelOwnRowsIdeal.τ).loc Cert.KernelOwnRowsIdeal.main_arg3) = Layout.block ⟨3, ![4, 256, 512]⟩ ⟨3, ![32, 256, 512]⟩ 0 8 c (m' (((0 : Dev Cert.ReferenceOwnRowsIdeal.nD).tc : Thread Cert.ReferenceOwnRowsIdeal.nD Cert.ReferenceOwnRowsIdeal.τ).loc Cert.ReferenceOwnRowsIdeal.main_arg3))
      ∧ m ((c.tc : Thread Cert.KernelOwnRowsIdeal.nD Cert.KernelOwnRowsIdeal.τ).loc Cert.KernelOwnRowsIdeal.main_arg4) = Layout.block ⟨3, ![4, 256, 256]⟩ ⟨3, ![32, 256, 256]⟩ 0 8 c (m' (((0 : Dev Cert.ReferenceOwnRowsIdeal.nD).tc : Thread Cert.ReferenceOwnRowsIdeal.nD Cert.ReferenceOwnRowsIdeal.τ).loc Cert.ReferenceOwnRowsIdeal.main_arg4))
      ∧ m ((c.tc : Thread Cert.KernelOwnRowsIdeal.nD Cert.KernelOwnRowsIdeal.τ).loc Cert.KernelOwnRowsIdeal.main_arg5) = Layout.block ⟨3, ![4, 256, 256]⟩ ⟨3, ![32, 256, 256]⟩ 0 8 c (m' (((0 : Dev Cert.ReferenceOwnRowsIdeal.nD).tc : Thread Cert.ReferenceOwnRowsIdeal.nD Cert.ReferenceOwnRowsIdeal.τ).loc Cert.ReferenceOwnRowsIdeal.main_arg5))) →
    ∃ (v0 : Buf (Elt Ideal) (((0 : Dev Cert.ReferenceOwnRowsIdeal.nD).tc : Thread Cert.ReferenceOwnRowsIdeal.nD Cert.ReferenceOwnRowsIdeal.τ).loc Cert.ReferenceOwnRowsIdeal.main_v6)) (v1 : Buf (Elt Ideal) (((0 : Dev Cert.ReferenceOwnRowsIdeal.nD).tc : Thread Cert.ReferenceOwnRowsIdeal.nD Cert.ReferenceOwnRowsIdeal.τ).loc Cert.ReferenceOwnRowsIdeal.main_v9)) (v2 : Buf (Elt Ideal) (((0 : Dev Cert.ReferenceOwnRowsIdeal.nD).tc : Thread Cert.ReferenceOwnRowsIdeal.nD Cert.ReferenceOwnRowsIdeal.τ).loc Cert.ReferenceOwnRowsIdeal.main_v25)) (v3 : Buf (Elt Ideal) (((0 : Dev Cert.ReferenceOwnRowsIdeal.nD).tc : Thread Cert.ReferenceOwnRowsIdeal.nD Cert.ReferenceOwnRowsIdeal.τ).loc Cert.ReferenceOwnRowsIdeal.main_v41)) (v4 : Buf (Elt Ideal) (((0 : Dev Cert.ReferenceOwnRowsIdeal.nD).tc : Thread Cert.ReferenceOwnRowsIdeal.nD Cert.ReferenceOwnRowsIdeal.τ).loc Cert.ReferenceOwnRowsIdeal.main_v57)),
      θ_run (Cert.KernelOwnRowsIdeal.defs (F := Ideal)) (onTc (τ := Cert.KernelOwnRowsIdeal.τ) (Cert.KernelOwnRowsIdeal.main (F := Ideal))) ⟨m, fun _ => 0, g⟩ (fun r => ∀ c : Dev Cert.KernelOwnRowsIdeal.nD,
          r.2.mem ((c.tc : Thread Cert.KernelOwnRowsIdeal.nD Cert.KernelOwnRowsIdeal.τ).loc Cert.KernelOwnRowsIdeal.main_v1_0) = Layout.block ⟨3, ![4, 1024, 2560]⟩ ⟨3, ![32, 1024, 2560]⟩ 0 8 c v0
          ∧ r.2.mem ((c.tc : Thread Cert.KernelOwnRowsIdeal.nD Cert.KernelOwnRowsIdeal.τ).loc Cert.KernelOwnRowsIdeal.main_v1_1) = Layout.block ⟨3, ![4, 1024, 2560]⟩ ⟨3, ![32, 1024, 2560]⟩ 0 8 c v1
          ∧ r.2.mem ((c.tc : Thread Cert.KernelOwnRowsIdeal.nD Cert.KernelOwnRowsIdeal.τ).loc Cert.KernelOwnRowsIdeal.main_v1_2) = Layout.block ⟨3, ![3, 256, 512]⟩ ⟨3, ![24, 256, 512]⟩ 0 8 c v2
          ∧ r.2.mem ((c.tc : Thread Cert.KernelOwnRowsIdeal.nD Cert.KernelOwnRowsIdeal.τ).loc Cert.KernelOwnRowsIdeal.main_v1_3) = Layout.block ⟨3, ![3, 256, 256]⟩ ⟨3, ![24, 256, 256]⟩ 0 8 c v3
          ∧ r.2.mem ((c.tc : Thread Cert.KernelOwnRowsIdeal.nD Cert.KernelOwnRowsIdeal.τ).loc Cert.KernelOwnRowsIdeal.main_v1_4) = Layout.block ⟨3, ![3, 256, 256]⟩ ⟨3, ![24, 256, 256]⟩ 0 8 c v4
          ∧ r.2.mem ((c.tc : Thread Cert.KernelOwnRowsIdeal.nD Cert.KernelOwnRowsIdeal.τ).loc Cert.KernelOwnRowsIdeal.main_arg0) = m ((c.tc : Thread Cert.KernelOwnRowsIdeal.nD Cert.KernelOwnRowsIdeal.τ).loc Cert.KernelOwnRowsIdeal.main_arg0)
          ∧ r.2.mem ((c.tc : Thread Cert.KernelOwnRowsIdeal.nD Cert.KernelOwnRowsIdeal.τ).loc Cert.KernelOwnRowsIdeal.main_arg1) = m ((c.tc : Thread Cert.KernelOwnRowsIdeal.nD Cert.KernelOwnRowsIdeal.τ).loc Cert.KernelOwnRowsIdeal.main_arg1)
          ∧ r.2.mem ((c.tc : Thread Cert.KernelOwnRowsIdeal.nD Cert.KernelOwnRowsIdeal.τ).loc Cert.KernelOwnRowsIdeal.main_arg2) = m ((c.tc : Thread Cert.KernelOwnRowsIdeal.nD Cert.KernelOwnRowsIdeal.τ).loc Cert.KernelOwnRowsIdeal.main_arg2)
          ∧ r.2.mem ((c.tc : Thread Cert.KernelOwnRowsIdeal.nD Cert.KernelOwnRowsIdeal.τ).loc Cert.KernelOwnRowsIdeal.main_arg3) = m ((c.tc : Thread Cert.KernelOwnRowsIdeal.nD Cert.KernelOwnRowsIdeal.τ).loc Cert.KernelOwnRowsIdeal.main_arg3)
          ∧ r.2.mem ((c.tc : Thread Cert.KernelOwnRowsIdeal.nD Cert.KernelOwnRowsIdeal.τ).loc Cert.KernelOwnRowsIdeal.main_arg4) = m ((c.tc : Thread Cert.KernelOwnRowsIdeal.nD Cert.KernelOwnRowsIdeal.τ).loc Cert.KernelOwnRowsIdeal.main_arg4)
          ∧ r.2.mem ((c.tc : Thread Cert.KernelOwnRowsIdeal.nD Cert.KernelOwnRowsIdeal.τ).loc Cert.KernelOwnRowsIdeal.main_arg5) = m ((c.tc : Thread Cert.KernelOwnRowsIdeal.nD Cert.KernelOwnRowsIdeal.τ).loc Cert.KernelOwnRowsIdeal.main_arg5))
      ∧ θ_run (Cert.ReferenceOwnRowsIdeal.defs (F := Ideal)) (onTc (τ := Cert.ReferenceOwnRowsIdeal.τ) (Cert.ReferenceOwnRowsIdeal.main (F := Ideal))) ⟨m', fun _ => 0, g'⟩ (fun r =>
          r.2.mem (((0 : Dev Cert.ReferenceOwnRowsIdeal.nD).tc : Thread Cert.ReferenceOwnRowsIdeal.nD Cert.ReferenceOwnRowsIdeal.τ).loc Cert.ReferenceOwnRowsIdeal.main_v6) = v0
          ∧ r.2.mem (((0 : Dev Cert.ReferenceOwnRowsIdeal.nD).tc : Thread Cert.ReferenceOwnRowsIdeal.nD Cert.ReferenceOwnRowsIdeal.τ).loc Cert.ReferenceOwnRowsIdeal.main_v9) = v1
          ∧ r.2.mem (((0 : Dev Cert.ReferenceOwnRowsIdeal.nD).tc : Thread Cert.ReferenceOwnRowsIdeal.nD Cert.ReferenceOwnRowsIdeal.τ).loc Cert.ReferenceOwnRowsIdeal.main_v25) = v2
          ∧ r.2.mem (((0 : Dev Cert.ReferenceOwnRowsIdeal.nD).tc : Thread Cert.ReferenceOwnRowsIdeal.nD Cert.ReferenceOwnRowsIdeal.τ).loc Cert.ReferenceOwnRowsIdeal.main_v41) = v3
          ∧ r.2.mem (((0 : Dev Cert.ReferenceOwnRowsIdeal.nD).tc : Thread Cert.ReferenceOwnRowsIdeal.nD Cert.ReferenceOwnRowsIdeal.τ).loc Cert.ReferenceOwnRowsIdeal.main_v57) = v4
          ∧ r.2.mem (((0 : Dev Cert.ReferenceOwnRowsIdeal.nD).tc : Thread Cert.ReferenceOwnRowsIdeal.nD Cert.ReferenceOwnRowsIdeal.τ).loc Cert.ReferenceOwnRowsIdeal.main_arg0) = m' (((0 : Dev Cert.ReferenceOwnRowsIdeal.nD).tc : Thread Cert.ReferenceOwnRowsIdeal.nD Cert.ReferenceOwnRowsIdeal.τ).loc Cert.ReferenceOwnRowsIdeal.main_arg0)
          ∧ r.2.mem (((0 : Dev Cert.ReferenceOwnRowsIdeal.nD).tc : Thread Cert.ReferenceOwnRowsIdeal.nD Cert.ReferenceOwnRowsIdeal.τ).loc Cert.ReferenceOwnRowsIdeal.main_arg1) = m' (((0 : Dev Cert.ReferenceOwnRowsIdeal.nD).tc : Thread Cert.ReferenceOwnRowsIdeal.nD Cert.ReferenceOwnRowsIdeal.τ).loc Cert.ReferenceOwnRowsIdeal.main_arg1)
          ∧ r.2.mem (((0 : Dev Cert.ReferenceOwnRowsIdeal.nD).tc : Thread Cert.ReferenceOwnRowsIdeal.nD Cert.ReferenceOwnRowsIdeal.τ).loc Cert.ReferenceOwnRowsIdeal.main_arg2) = m' (((0 : Dev Cert.ReferenceOwnRowsIdeal.nD).tc : Thread Cert.ReferenceOwnRowsIdeal.nD Cert.ReferenceOwnRowsIdeal.τ).loc Cert.ReferenceOwnRowsIdeal.main_arg2)
          ∧ r.2.mem (((0 : Dev Cert.ReferenceOwnRowsIdeal.nD).tc : Thread Cert.ReferenceOwnRowsIdeal.nD Cert.ReferenceOwnRowsIdeal.τ).loc Cert.ReferenceOwnRowsIdeal.main_arg3) = m' (((0 : Dev Cert.ReferenceOwnRowsIdeal.nD).tc : Thread Cert.ReferenceOwnRowsIdeal.nD Cert.ReferenceOwnRowsIdeal.τ).loc Cert.ReferenceOwnRowsIdeal.main_arg3)
          ∧ r.2.mem (((0 : Dev Cert.ReferenceOwnRowsIdeal.nD).tc : Thread Cert.ReferenceOwnRowsIdeal.nD Cert.ReferenceOwnRowsIdeal.τ).loc Cert.ReferenceOwnRowsIdeal.main_arg4) = m' (((0 : Dev Cert.ReferenceOwnRowsIdeal.nD).tc : Thread Cert.ReferenceOwnRowsIdeal.nD Cert.ReferenceOwnRowsIdeal.τ).loc Cert.ReferenceOwnRowsIdeal.main_arg4)
          ∧ r.2.mem (((0 : Dev Cert.ReferenceOwnRowsIdeal.nD).tc : Thread Cert.ReferenceOwnRowsIdeal.nD Cert.ReferenceOwnRowsIdeal.τ).loc Cert.ReferenceOwnRowsIdeal.main_arg5) = m' (((0 : Dev Cert.ReferenceOwnRowsIdeal.nD).tc : Thread Cert.ReferenceOwnRowsIdeal.nD Cert.ReferenceOwnRowsIdeal.τ).loc Cert.ReferenceOwnRowsIdeal.main_arg5))

def preserves_KernelProjDx_KernelProjDxIdeal : Prop :=
  True

def algebraic_KernelProjDxIdeal_ReferenceProjDxIdeal [hKernelProjDxIdeal : Cert.KernelProjDxIdeal.Facts] [hReferenceProjDxIdeal : Cert.ReferenceProjDxIdeal.Facts] : Prop :=
  ∀ (m : (ℓ : Loc Cert.KernelProjDxIdeal.nD Cert.KernelProjDxIdeal.τ Cert.KernelProjDxIdeal.sig) → Buf (Elt Ideal) ℓ) (g : Dev Cert.KernelProjDxIdeal.nD → PrngReg)
    (m' : (ℓ : Loc Cert.ReferenceProjDxIdeal.nD Cert.ReferenceProjDxIdeal.τ Cert.ReferenceProjDxIdeal.sig) → Buf (Elt Ideal) ℓ) (g' : Dev Cert.ReferenceProjDxIdeal.nD → PrngReg), Pre_KernelProjDxIdeal m →
    (∀ c : Dev Cert.KernelProjDxIdeal.nD,
      m ((c.tc : Thread Cert.KernelProjDxIdeal.nD Cert.KernelProjDxIdeal.τ).loc Cert.KernelProjDxIdeal.main_arg0) = Layout.block ⟨2, ![4224, 10240]⟩ ⟨2, ![33792, 10240]⟩ 0 8 c (m' (((0 : Dev Cert.ReferenceProjDxIdeal.nD).tc : Thread Cert.ReferenceProjDxIdeal.nD Cert.ReferenceProjDxIdeal.τ).loc Cert.ReferenceProjDxIdeal.main_arg0))
      ∧ m ((c.tc : Thread Cert.KernelProjDxIdeal.nD Cert.KernelProjDxIdeal.τ).loc Cert.KernelProjDxIdeal.main_arg1) = Layout.block ⟨3, ![4, 2048, 2560]⟩ ⟨3, ![32, 2048, 2560]⟩ 0 8 c (m' (((0 : Dev Cert.ReferenceProjDxIdeal.nD).tc : Thread Cert.ReferenceProjDxIdeal.nD Cert.ReferenceProjDxIdeal.τ).loc Cert.ReferenceProjDxIdeal.main_arg1))
      ∧ m ((c.tc : Thread Cert.KernelProjDxIdeal.nD Cert.KernelProjDxIdeal.τ).loc Cert.KernelProjDxIdeal.main_arg2) = Layout.block ⟨3, ![4, 1024, 2560]⟩ ⟨3, ![32, 1024, 2560]⟩ 0 8 c (m' (((0 : Dev Cert.ReferenceProjDxIdeal.nD).tc : Thread Cert.ReferenceProjDxIdeal.nD Cert.ReferenceProjDxIdeal.τ).loc Cert.ReferenceProjDxIdeal.main_arg2))
      ∧ m ((c.tc : Thread Cert.KernelProjDxIdeal.nD Cert.KernelProjDxIdeal.τ).loc Cert.KernelProjDxIdeal.main_arg3) = Layout.block ⟨2, ![256, 2048]⟩ ⟨2, ![2048, 2048]⟩ 0 8 c (m' (((0 : Dev Cert.ReferenceProjDxIdeal.nD).tc : Thread Cert.ReferenceProjDxIdeal.nD Cert.ReferenceProjDxIdeal.τ).loc Cert.ReferenceProjDxIdeal.main_arg3))) →
    ∃ (v0 : Buf (Elt Ideal) (((0 : Dev Cert.ReferenceProjDxIdeal.nD).tc : Thread Cert.ReferenceProjDxIdeal.nD Cert.ReferenceProjDxIdeal.τ).loc Cert.ReferenceProjDxIdeal.main_v6)) (v1 : Buf (Elt Ideal) (((0 : Dev Cert.ReferenceProjDxIdeal.nD).tc : Thread Cert.ReferenceProjDxIdeal.nD Cert.ReferenceProjDxIdeal.τ).loc Cert.ReferenceProjDxIdeal.main_v22)) (v2 : Buf (Elt Ideal) (((0 : Dev Cert.ReferenceProjDxIdeal.nD).tc : Thread Cert.ReferenceProjDxIdeal.nD Cert.ReferenceProjDxIdeal.τ).loc Cert.ReferenceProjDxIdeal.main_v25)),
      θ_run (Cert.KernelProjDxIdeal.defs (F := Ideal)) (onTc (τ := Cert.KernelProjDxIdeal.τ) (Cert.KernelProjDxIdeal.main (F := Ideal))) ⟨m, fun _ => 0, g⟩ (fun r => ∀ c : Dev Cert.KernelProjDxIdeal.nD,
          r.2.mem ((c.tc : Thread Cert.KernelProjDxIdeal.nD Cert.KernelProjDxIdeal.τ).loc Cert.KernelProjDxIdeal.main_v1_0) = Layout.block ⟨2, ![4224, 2048]⟩ ⟨2, ![33792, 2048]⟩ 0 8 c v0
          ∧ r.2.mem ((c.tc : Thread Cert.KernelProjDxIdeal.nD Cert.KernelProjDxIdeal.τ).loc Cert.KernelProjDxIdeal.main_v1_1) = Layout.block ⟨3, ![3, 1024, 2560]⟩ ⟨3, ![24, 1024, 2560]⟩ 0 8 c v1
          ∧ r.2.mem ((c.tc : Thread Cert.KernelProjDxIdeal.nD Cert.KernelProjDxIdeal.τ).loc Cert.KernelProjDxIdeal.main_v1_2) = Layout.block ⟨2, ![256, 2048]⟩ ⟨2, ![2048, 2048]⟩ 0 8 c v2
          ∧ r.2.mem ((c.tc : Thread Cert.KernelProjDxIdeal.nD Cert.KernelProjDxIdeal.τ).loc Cert.KernelProjDxIdeal.main_arg0) = m ((c.tc : Thread Cert.KernelProjDxIdeal.nD Cert.KernelProjDxIdeal.τ).loc Cert.KernelProjDxIdeal.main_arg0)
          ∧ r.2.mem ((c.tc : Thread Cert.KernelProjDxIdeal.nD Cert.KernelProjDxIdeal.τ).loc Cert.KernelProjDxIdeal.main_arg1) = m ((c.tc : Thread Cert.KernelProjDxIdeal.nD Cert.KernelProjDxIdeal.τ).loc Cert.KernelProjDxIdeal.main_arg1)
          ∧ r.2.mem ((c.tc : Thread Cert.KernelProjDxIdeal.nD Cert.KernelProjDxIdeal.τ).loc Cert.KernelProjDxIdeal.main_arg2) = m ((c.tc : Thread Cert.KernelProjDxIdeal.nD Cert.KernelProjDxIdeal.τ).loc Cert.KernelProjDxIdeal.main_arg2)
          ∧ r.2.mem ((c.tc : Thread Cert.KernelProjDxIdeal.nD Cert.KernelProjDxIdeal.τ).loc Cert.KernelProjDxIdeal.main_arg3) = m ((c.tc : Thread Cert.KernelProjDxIdeal.nD Cert.KernelProjDxIdeal.τ).loc Cert.KernelProjDxIdeal.main_arg3))
      ∧ θ_run (Cert.ReferenceProjDxIdeal.defs (F := Ideal)) (onTc (τ := Cert.ReferenceProjDxIdeal.τ) (Cert.ReferenceProjDxIdeal.main (F := Ideal))) ⟨m', fun _ => 0, g'⟩ (fun r =>
          r.2.mem (((0 : Dev Cert.ReferenceProjDxIdeal.nD).tc : Thread Cert.ReferenceProjDxIdeal.nD Cert.ReferenceProjDxIdeal.τ).loc Cert.ReferenceProjDxIdeal.main_v6) = v0
          ∧ r.2.mem (((0 : Dev Cert.ReferenceProjDxIdeal.nD).tc : Thread Cert.ReferenceProjDxIdeal.nD Cert.ReferenceProjDxIdeal.τ).loc Cert.ReferenceProjDxIdeal.main_v22) = v1
          ∧ r.2.mem (((0 : Dev Cert.ReferenceProjDxIdeal.nD).tc : Thread Cert.ReferenceProjDxIdeal.nD Cert.ReferenceProjDxIdeal.τ).loc Cert.ReferenceProjDxIdeal.main_v25) = v2
          ∧ r.2.mem (((0 : Dev Cert.ReferenceProjDxIdeal.nD).tc : Thread Cert.ReferenceProjDxIdeal.nD Cert.ReferenceProjDxIdeal.τ).loc Cert.ReferenceProjDxIdeal.main_arg0) = m' (((0 : Dev Cert.ReferenceProjDxIdeal.nD).tc : Thread Cert.ReferenceProjDxIdeal.nD Cert.ReferenceProjDxIdeal.τ).loc Cert.ReferenceProjDxIdeal.main_arg0)
          ∧ r.2.mem (((0 : Dev Cert.ReferenceProjDxIdeal.nD).tc : Thread Cert.ReferenceProjDxIdeal.nD Cert.ReferenceProjDxIdeal.τ).loc Cert.ReferenceProjDxIdeal.main_arg1) = m' (((0 : Dev Cert.ReferenceProjDxIdeal.nD).tc : Thread Cert.ReferenceProjDxIdeal.nD Cert.ReferenceProjDxIdeal.τ).loc Cert.ReferenceProjDxIdeal.main_arg1)
          ∧ r.2.mem (((0 : Dev Cert.ReferenceProjDxIdeal.nD).tc : Thread Cert.ReferenceProjDxIdeal.nD Cert.ReferenceProjDxIdeal.τ).loc Cert.ReferenceProjDxIdeal.main_arg2) = m' (((0 : Dev Cert.ReferenceProjDxIdeal.nD).tc : Thread Cert.ReferenceProjDxIdeal.nD Cert.ReferenceProjDxIdeal.τ).loc Cert.ReferenceProjDxIdeal.main_arg2)
          ∧ r.2.mem (((0 : Dev Cert.ReferenceProjDxIdeal.nD).tc : Thread Cert.ReferenceProjDxIdeal.nD Cert.ReferenceProjDxIdeal.τ).loc Cert.ReferenceProjDxIdeal.main_arg3) = m' (((0 : Dev Cert.ReferenceProjDxIdeal.nD).tc : Thread Cert.ReferenceProjDxIdeal.nD Cert.ReferenceProjDxIdeal.τ).loc Cert.ReferenceProjDxIdeal.main_arg3))

def preserves_KernelUpDx_KernelUpDxIdeal : Prop :=
  True

def algebraic_KernelUpDxIdeal_ReferenceUpDxIdeal_on_near_chips [hKernelUpDxIdeal : Cert.KernelUpDxIdeal.Facts] [hReferenceUpDxIdeal : Cert.ReferenceUpDxIdeal.Facts] [hOn_near_chips : Cert.On_near_chips.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m ((c.tc : Thread Cert.KernelUpDxIdeal.nD Cert.KernelUpDxIdeal.τ).loc Cert.KernelUpDxIdeal.main_arg0) = Layout.block ⟨2, ![4224, 8192]⟩ ⟨2, ![33792, 8192]⟩ 0 8 c (m' (((0 : Dev Cert.ReferenceUpDxIdeal.nD).tc : Thread Cert.ReferenceUpDxIdeal.nD Cert.ReferenceUpDxIdeal.τ).loc Cert.ReferenceUpDxIdeal.main_arg0))
      ∧ m ((c.tc : Thread Cert.KernelUpDxIdeal.nD Cert.KernelUpDxIdeal.τ).loc Cert.KernelUpDxIdeal.main_arg1) = Layout.block ⟨3, ![4, 2048, 2048]⟩ ⟨3, ![32, 2048, 2048]⟩ 0 8 c (m' (((0 : Dev Cert.ReferenceUpDxIdeal.nD).tc : Thread Cert.ReferenceUpDxIdeal.nD Cert.ReferenceUpDxIdeal.τ).loc Cert.ReferenceUpDxIdeal.main_arg1))
      ∧ m ((c.tc : Thread Cert.KernelUpDxIdeal.nD Cert.KernelUpDxIdeal.τ).loc Cert.KernelUpDxIdeal.main_arg2) = Layout.block ⟨3, ![4, 1024, 2048]⟩ ⟨3, ![32, 1024, 2048]⟩ 0 8 c (m' (((0 : Dev Cert.ReferenceUpDxIdeal.nD).tc : Thread Cert.ReferenceUpDxIdeal.nD Cert.ReferenceUpDxIdeal.τ).loc Cert.ReferenceUpDxIdeal.main_arg2))
      ∧ m ((c.tc : Thread Cert.KernelUpDxIdeal.nD Cert.KernelUpDxIdeal.τ).loc Cert.KernelUpDxIdeal.main_arg3) = Layout.block ⟨4, ![4, 2, 1024, 2048]⟩ ⟨4, ![32, 2, 1024, 2048]⟩ 0 8 c (m' (((0 : Dev Cert.ReferenceUpDxIdeal.nD).tc : Thread Cert.ReferenceUpDxIdeal.nD Cert.ReferenceUpDxIdeal.τ).loc Cert.ReferenceUpDxIdeal.main_arg3))) →
    ∃ (v0 : Buf (Elt Ideal) (((0 : Dev Cert.ReferenceUpDxIdeal.nD).tc : Thread Cert.ReferenceUpDxIdeal.nD Cert.ReferenceUpDxIdeal.τ).loc Cert.ReferenceUpDxIdeal.main_v6)) (v1 : Buf (Elt Ideal) (((0 : Dev Cert.ReferenceUpDxIdeal.nD).tc : Thread Cert.ReferenceUpDxIdeal.nD Cert.ReferenceUpDxIdeal.τ).loc Cert.ReferenceUpDxIdeal.main_v22)) (v2 : Buf (Elt Ideal) (((0 : Dev Cert.ReferenceUpDxIdeal.nD).tc : Thread Cert.ReferenceUpDxIdeal.nD Cert.ReferenceUpDxIdeal.τ).loc Cert.ReferenceUpDxIdeal.main_v31)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          (∀ i : (⟨2, ![4224, 2048]⟩ : Shape).Idx, (Layout.block ⟨2, ![4224, 2048]⟩ ⟨2, ![33792, 2048]⟩ 0 8 c ((Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).1) : (⟨2, ![4224, 2048]⟩ : Shape).Idx → _) i = 1#1 → r.2.mem ((c.tc : Thread Cert.KernelUpDxIdeal.nD Cert.KernelUpDxIdeal.τ).loc Cert.KernelUpDxIdeal.main_v1_0) i = (Layout.block ⟨2, ![4224, 2048]⟩ ⟨2, ![33792, 2048]⟩ 0 8 c v0 : (⟨2, ![4224, 2048]⟩ : Shape).Idx → _) i)
          ∧ (∀ i : (⟨3, ![3, 1024, 2048]⟩ : Shape).Idx, (Layout.block ⟨3, ![3, 1024, 2048]⟩ ⟨3, ![24, 1024, 2048]⟩ 0 8 c ((Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).2.1) : (⟨3, ![3, 1024, 2048]⟩ : Shape).Idx → _) i = 1#1 → r.2.mem ((c.tc : Thread Cert.KernelUpDxIdeal.nD Cert.KernelUpDxIdeal.τ).loc Cert.KernelUpDxIdeal.main_v1_1) i = (Layout.block ⟨3, ![3, 1024, 2048]⟩ ⟨3, ![24, 1024, 2048]⟩ 0 8 c v1 : (⟨3, ![3, 1024, 2048]⟩ : Shape).Idx → _) i)
          ∧ (∀ i : (⟨3, ![4, 1024, 2048]⟩ : Shape).Idx, (Layout.block ⟨3, ![4, 1024, 2048]⟩ ⟨3, ![32, 1024, 2048]⟩ 0 8 c ((Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).2.2) : (⟨3, ![4, 1024, 2048]⟩ : Shape).Idx → _) i = 1#1 → r.2.mem ((c.tc : Thread Cert.KernelUpDxIdeal.nD Cert.KernelUpDxIdeal.τ).loc Cert.KernelUpDxIdeal.main_v1_2) i = (Layout.block ⟨3, ![4, 1024, 2048]⟩ ⟨3, ![32, 1024, 2048]⟩ 0 8 c v2 : (⟨3, ![4, 1024, 2048]⟩ : Shape).Idx → _) i)
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1)
          ∧ r.2.mem ((c.tc : Thread Cert.KernelUpDxIdeal.nD Cert.KernelUpDxIdeal.τ).loc Cert.KernelUpDxIdeal.main_arg2) = m ((c.tc : Thread Cert.KernelUpDxIdeal.nD Cert.KernelUpDxIdeal.τ).loc Cert.KernelUpDxIdeal.main_arg2)
          ∧ r.2.mem ((c.tc : Thread Cert.KernelUpDxIdeal.nD Cert.KernelUpDxIdeal.τ).loc Cert.KernelUpDxIdeal.main_arg3) = m ((c.tc : Thread Cert.KernelUpDxIdeal.nD Cert.KernelUpDxIdeal.τ).loc Cert.KernelUpDxIdeal.main_arg3))
      ∧ θ_run (Cert.ReferenceUpDxIdeal.defs (F := Ideal)) (onTc (τ := Cert.ReferenceUpDxIdeal.τ) (Cert.ReferenceUpDxIdeal.main (F := Ideal))) ⟨m', fun _ => 0, g'⟩ (fun r =>
          (∀ i : (⟨2, ![33792, 2048]⟩ : Shape).Idx, (Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).1 i = 1#1 → r.2.mem (((0 : Dev Cert.ReferenceUpDxIdeal.nD).tc : Thread Cert.ReferenceUpDxIdeal.nD Cert.ReferenceUpDxIdeal.τ).loc Cert.ReferenceUpDxIdeal.main_v6) i = v0 i)
          ∧ (∀ i : (⟨3, ![24, 1024, 2048]⟩ : Shape).Idx, (Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).2.1 i = 1#1 → r.2.mem (((0 : Dev Cert.ReferenceUpDxIdeal.nD).tc : Thread Cert.ReferenceUpDxIdeal.nD Cert.ReferenceUpDxIdeal.τ).loc Cert.ReferenceUpDxIdeal.main_v22) i = v1 i)
          ∧ (∀ i : (⟨3, ![32, 1024, 2048]⟩ : Shape).Idx, (Cert.On_near_chips.fn (F := Ideal) (m' (((0 : Dev Cert.ReferenceUpDxIdeal.nD).tc : Thread Cert.ReferenceUpDxIdeal.nD Cert.ReferenceUpDxIdeal.τ).loc Cert.ReferenceUpDxIdeal.main_arg0)) (m' (((0 : Dev Cert.ReferenceUpDxIdeal.nD).tc : Thread Cert.ReferenceUpDxIdeal.nD Cert.ReferenceUpDxIdeal.τ).loc Cert.ReferenceUpDxIdeal.main_arg1)) (m' (((0 : Dev Cert.ReferenceUpDxIdeal.nD).tc : Thread Cert.ReferenceUpDxIdeal.nD Cert.ReferenceUpDxIdeal.τ).loc Cert.ReferenceUpDxIdeal.main_arg2)) (m' (((0 : Dev Cert.ReferenceUpDxIdeal.nD).tc : Thread Cert.ReferenceUpDxIdeal.nD Cert.ReferenceUpDxIdeal.τ).loc Cert.ReferenceUpDxIdeal.main_arg3))).2.2 i = 1#1 → r.2.mem (((0 : Dev Cert.ReferenceUpDxIdeal.nD).tc : Thread Cert.ReferenceUpDxIdeal.nD Cert.ReferenceUpDxIdeal.τ).loc Cert.ReferenceUpDxIdeal.main_v31) i = v2 i)
          ∧ r.2.mem (((0 : Dev Cert.ReferenceUpDxIdeal.nD).tc : Thread Cert.ReferenceUpDxIdeal.nD Cert.ReferenceUpDxIdeal.τ).loc Cert.ReferenceUpDxIdeal.main_arg0) = m' (((0 : Dev Cert.ReferenceUpDxIdeal.nD).tc : Thread Cert.ReferenceUpDxIdeal.nD Cert.ReferenceUpDxIdeal.τ).loc Cert.ReferenceUpDxIdeal.main_arg0)
          ∧ r.2.mem (((0 : Dev Cert.ReferenceUpDxIdeal.nD).tc : Thread Cert.ReferenceUpDxIdeal.nD Cert.ReferenceUpDxIdeal.τ).loc Cert.ReferenceUpDxIdeal.main_arg1) = m' (((0 : Dev Cert.ReferenceUpDxIdeal.nD).tc : Thread Cert.ReferenceUpDxIdeal.nD Cert.ReferenceUpDxIdeal.τ).loc Cert.ReferenceUpDxIdeal.main_arg1)
          ∧ r.2.mem (((0 : Dev Cert.ReferenceUpDxIdeal.nD).tc : Thread Cert.ReferenceUpDxIdeal.nD Cert.ReferenceUpDxIdeal.τ).loc Cert.ReferenceUpDxIdeal.main_arg2) = m' (((0 : Dev Cert.ReferenceUpDxIdeal.nD).tc : Thread Cert.ReferenceUpDxIdeal.nD Cert.ReferenceUpDxIdeal.τ).loc Cert.ReferenceUpDxIdeal.main_arg2)
          ∧ r.2.mem (((0 : Dev Cert.ReferenceUpDxIdeal.nD).tc : Thread Cert.ReferenceUpDxIdeal.nD Cert.ReferenceUpDxIdeal.τ).loc Cert.ReferenceUpDxIdeal.main_arg3) = m' (((0 : Dev Cert.ReferenceUpDxIdeal.nD).tc : Thread Cert.ReferenceUpDxIdeal.nD Cert.ReferenceUpDxIdeal.τ).loc Cert.ReferenceUpDxIdeal.main_arg3))

def preserves_KernelStepRow_KernelStepRowIdeal : Prop :=
  True

def algebraic_KernelStepRowIdeal_ReferenceStepRowIdeal [hKernelStepRowIdeal : Cert.KernelStepRowIdeal.Facts] [hReferenceStepRowIdeal : Cert.ReferenceStepRowIdeal.Facts] : Prop :=
  ∀ (m : (ℓ : Loc Cert.KernelStepRowIdeal.nD Cert.KernelStepRowIdeal.τ Cert.KernelStepRowIdeal.sig) → Buf (Elt Ideal) ℓ) (g : Dev Cert.KernelStepRowIdeal.nD → PrngReg)
    (m' : (ℓ : Loc Cert.ReferenceStepRowIdeal.nD Cert.ReferenceStepRowIdeal.τ Cert.ReferenceStepRowIdeal.sig) → Buf (Elt Ideal) ℓ) (g' : Dev Cert.ReferenceStepRowIdeal.nD → PrngReg), Pre_KernelStepRowIdeal m →
    (∀ c : Dev Cert.KernelStepRowIdeal.nD,
      m' ((c.tc : Thread Cert.ReferenceStepRowIdeal.nD Cert.ReferenceStepRowIdeal.τ).loc Cert.ReferenceStepRowIdeal.main_arg0) = m ((c.tc : Thread Cert.KernelStepRowIdeal.nD Cert.KernelStepRowIdeal.τ).loc Cert.KernelStepRowIdeal.main_arg0)
      ∧ m' ((c.tc : Thread Cert.ReferenceStepRowIdeal.nD Cert.ReferenceStepRowIdeal.τ).loc Cert.ReferenceStepRowIdeal.main_arg1) = m ((c.tc : Thread Cert.KernelStepRowIdeal.nD Cert.KernelStepRowIdeal.τ).loc Cert.KernelStepRowIdeal.main_arg1)
      ∧ m' ((c.tc : Thread Cert.ReferenceStepRowIdeal.nD Cert.ReferenceStepRowIdeal.τ).loc Cert.ReferenceStepRowIdeal.main_arg2) = m ((c.tc : Thread Cert.KernelStepRowIdeal.nD Cert.KernelStepRowIdeal.τ).loc Cert.KernelStepRowIdeal.main_arg2)
      ∧ m' ((c.tc : Thread Cert.ReferenceStepRowIdeal.nD Cert.ReferenceStepRowIdeal.τ).loc Cert.ReferenceStepRowIdeal.main_arg3) = m ((c.tc : Thread Cert.KernelStepRowIdeal.nD Cert.KernelStepRowIdeal.τ).loc Cert.KernelStepRowIdeal.main_arg3)) →
    ∃ (v0 : (c : Dev Cert.KernelStepRowIdeal.nD) → Buf (Elt Ideal) ((c.tc : Thread Cert.KernelStepRowIdeal.nD Cert.KernelStepRowIdeal.τ).loc Cert.KernelStepRowIdeal.main_v0_0)) (v1 : (c : Dev Cert.KernelStepRowIdeal.nD) → Buf (Elt Ideal) ((c.tc : Thread Cert.KernelStepRowIdeal.nD Cert.KernelStepRowIdeal.τ).loc Cert.KernelStepRowIdeal.main_v0_1)) (v2 : (c : Dev Cert.KernelStepRowIdeal.nD) → Buf (Elt Ideal) ((c.tc : Thread Cert.KernelStepRowIdeal.nD Cert.KernelStepRowIdeal.τ).loc Cert.KernelStepRowIdeal.main_v0_2)) (v3 : (c : Dev Cert.KernelStepRowIdeal.nD) → Buf (Elt Ideal) ((c.tc : Thread Cert.KernelStepRowIdeal.nD Cert.KernelStepRowIdeal.τ).loc Cert.KernelStepRowIdeal.main_v0_3)),
      θ_run (Cert.KernelStepRowIdeal.defs (F := Ideal)) (onTc (τ := Cert.KernelStepRowIdeal.τ) (Cert.KernelStepRowIdeal.main (F := Ideal))) ⟨m, fun _ => 0, g⟩ (fun r => ∀ c : Dev Cert.KernelStepRowIdeal.nD,
          r.2.mem ((c.tc : Thread Cert.KernelStepRowIdeal.nD Cert.KernelStepRowIdeal.τ).loc Cert.KernelStepRowIdeal.main_v0_0) = v0 c
          ∧ r.2.mem ((c.tc : Thread Cert.KernelStepRowIdeal.nD Cert.KernelStepRowIdeal.τ).loc Cert.KernelStepRowIdeal.main_v0_1) = v1 c
          ∧ r.2.mem ((c.tc : Thread Cert.KernelStepRowIdeal.nD Cert.KernelStepRowIdeal.τ).loc Cert.KernelStepRowIdeal.main_v0_2) = v2 c
          ∧ r.2.mem ((c.tc : Thread Cert.KernelStepRowIdeal.nD Cert.KernelStepRowIdeal.τ).loc Cert.KernelStepRowIdeal.main_v0_3) = v3 c
          ∧ r.2.mem ((c.tc : Thread Cert.KernelStepRowIdeal.nD Cert.KernelStepRowIdeal.τ).loc Cert.KernelStepRowIdeal.main_arg0) = m ((c.tc : Thread Cert.KernelStepRowIdeal.nD Cert.KernelStepRowIdeal.τ).loc Cert.KernelStepRowIdeal.main_arg0)
          ∧ r.2.mem ((c.tc : Thread Cert.KernelStepRowIdeal.nD Cert.KernelStepRowIdeal.τ).loc Cert.KernelStepRowIdeal.main_arg1) = m ((c.tc : Thread Cert.KernelStepRowIdeal.nD Cert.KernelStepRowIdeal.τ).loc Cert.KernelStepRowIdeal.main_arg1)
          ∧ r.2.mem ((c.tc : Thread Cert.KernelStepRowIdeal.nD Cert.KernelStepRowIdeal.τ).loc Cert.KernelStepRowIdeal.main_arg2) = m ((c.tc : Thread Cert.KernelStepRowIdeal.nD Cert.KernelStepRowIdeal.τ).loc Cert.KernelStepRowIdeal.main_arg2)
          ∧ r.2.mem ((c.tc : Thread Cert.KernelStepRowIdeal.nD Cert.KernelStepRowIdeal.τ).loc Cert.KernelStepRowIdeal.main_arg3) = m ((c.tc : Thread Cert.KernelStepRowIdeal.nD Cert.KernelStepRowIdeal.τ).loc Cert.KernelStepRowIdeal.main_arg3))
      ∧ θ_run (Cert.ReferenceStepRowIdeal.defs (F := Ideal)) (onTc (τ := Cert.ReferenceStepRowIdeal.τ) (Cert.ReferenceStepRowIdeal.main (F := Ideal))) ⟨m', fun _ => 0, g'⟩ (fun r => ∀ c : Dev Cert.ReferenceStepRowIdeal.nD,
          r.2.mem ((c.tc : Thread Cert.ReferenceStepRowIdeal.nD Cert.ReferenceStepRowIdeal.τ).loc Cert.ReferenceStepRowIdeal.main_arg1) = v0 c
          ∧ r.2.mem ((c.tc : Thread Cert.ReferenceStepRowIdeal.nD Cert.ReferenceStepRowIdeal.τ).loc Cert.ReferenceStepRowIdeal.main_v23) = v1 c
          ∧ r.2.mem ((c.tc : Thread Cert.ReferenceStepRowIdeal.nD Cert.ReferenceStepRowIdeal.τ).loc Cert.ReferenceStepRowIdeal.main_v4) = v2 c
          ∧ r.2.mem ((c.tc : Thread Cert.ReferenceStepRowIdeal.nD Cert.ReferenceStepRowIdeal.τ).loc Cert.ReferenceStepRowIdeal.main_v10) = v3 c
          ∧ r.2.mem ((c.tc : Thread Cert.ReferenceStepRowIdeal.nD Cert.ReferenceStepRowIdeal.τ).loc Cert.ReferenceStepRowIdeal.main_arg0) = m' ((c.tc : Thread Cert.ReferenceStepRowIdeal.nD Cert.ReferenceStepRowIdeal.τ).loc Cert.ReferenceStepRowIdeal.main_arg0)
          ∧ r.2.mem ((c.tc : Thread Cert.ReferenceStepRowIdeal.nD Cert.ReferenceStepRowIdeal.τ).loc Cert.ReferenceStepRowIdeal.main_arg1) = m' ((c.tc : Thread Cert.ReferenceStepRowIdeal.nD Cert.ReferenceStepRowIdeal.τ).loc Cert.ReferenceStepRowIdeal.main_arg1)
          ∧ r.2.mem ((c.tc : Thread Cert.ReferenceStepRowIdeal.nD Cert.ReferenceStepRowIdeal.τ).loc Cert.ReferenceStepRowIdeal.main_arg2) = m' ((c.tc : Thread Cert.ReferenceStepRowIdeal.nD Cert.ReferenceStepRowIdeal.τ).loc Cert.ReferenceStepRowIdeal.main_arg2)
          ∧ r.2.mem ((c.tc : Thread Cert.ReferenceStepRowIdeal.nD Cert.ReferenceStepRowIdeal.τ).loc Cert.ReferenceStepRowIdeal.main_arg3) = m' ((c.tc : Thread Cert.ReferenceStepRowIdeal.nD Cert.ReferenceStepRowIdeal.τ).loc Cert.ReferenceStepRowIdeal.main_arg3))

def preserves_KernelStepMeta_KernelStepMetaIdeal : Prop :=
  True

def algebraic_KernelStepMetaIdeal_ReferenceStepMetaIdeal [hKernelStepMetaIdeal : Cert.KernelStepMetaIdeal.Facts] [hReferenceStepMetaIdeal : Cert.ReferenceStepMetaIdeal.Facts] : Prop :=
  ∀ (m : (ℓ : Loc Cert.KernelStepMetaIdeal.nD Cert.KernelStepMetaIdeal.τ Cert.KernelStepMetaIdeal.sig) → Buf (Elt Ideal) ℓ) (g : Dev Cert.KernelStepMetaIdeal.nD → PrngReg)
    (m' : (ℓ : Loc Cert.ReferenceStepMetaIdeal.nD Cert.ReferenceStepMetaIdeal.τ Cert.ReferenceStepMetaIdeal.sig) → Buf (Elt Ideal) ℓ) (g' : Dev Cert.ReferenceStepMetaIdeal.nD → PrngReg), Pre_KernelStepMetaIdeal m →
    (∀ c : Dev Cert.KernelStepMetaIdeal.nD,
      m' ((c.tc : Thread Cert.ReferenceStepMetaIdeal.nD Cert.ReferenceStepMetaIdeal.τ).loc Cert.ReferenceStepMetaIdeal.main_arg0) = m ((c.tc : Thread Cert.KernelStepMetaIdeal.nD Cert.KernelStepMetaIdeal.τ).loc Cert.KernelStepMetaIdeal.main_arg0)
      ∧ m' ((c.tc : Thread Cert.ReferenceStepMetaIdeal.nD Cert.ReferenceStepMetaIdeal.τ).loc Cert.ReferenceStepMetaIdeal.main_arg1) = m ((c.tc : Thread Cert.KernelStepMetaIdeal.nD Cert.KernelStepMetaIdeal.τ).loc Cert.KernelStepMetaIdeal.main_arg1)
      ∧ m' ((c.tc : Thread Cert.ReferenceStepMetaIdeal.nD Cert.ReferenceStepMetaIdeal.τ).loc Cert.ReferenceStepMetaIdeal.main_arg2) = m ((c.tc : Thread Cert.KernelStepMetaIdeal.nD Cert.KernelStepMetaIdeal.τ).loc Cert.KernelStepMetaIdeal.main_arg2)
      ∧ m' ((c.tc : Thread Cert.ReferenceStepMetaIdeal.nD Cert.ReferenceStepMetaIdeal.τ).loc Cert.ReferenceStepMetaIdeal.main_arg3) = m ((c.tc : Thread Cert.KernelStepMetaIdeal.nD Cert.KernelStepMetaIdeal.τ).loc Cert.KernelStepMetaIdeal.main_arg3)) →
    ∃ (v0 : (c : Dev Cert.KernelStepMetaIdeal.nD) → Buf (Elt Ideal) ((c.tc : Thread Cert.KernelStepMetaIdeal.nD Cert.KernelStepMetaIdeal.τ).loc Cert.KernelStepMetaIdeal.main_v0_0)) (v1 : (c : Dev Cert.KernelStepMetaIdeal.nD) → Buf (Elt Ideal) ((c.tc : Thread Cert.KernelStepMetaIdeal.nD Cert.KernelStepMetaIdeal.τ).loc Cert.KernelStepMetaIdeal.main_v0_1)) (v2 : (c : Dev Cert.KernelStepMetaIdeal.nD) → Buf (Elt Ideal) ((c.tc : Thread Cert.KernelStepMetaIdeal.nD Cert.KernelStepMetaIdeal.τ).loc Cert.KernelStepMetaIdeal.main_v0_2)) (v3 : (c : Dev Cert.KernelStepMetaIdeal.nD) → Buf (Elt Ideal) ((c.tc : Thread Cert.KernelStepMetaIdeal.nD Cert.KernelStepMetaIdeal.τ).loc Cert.KernelStepMetaIdeal.main_v0_3)),
      θ_run (Cert.KernelStepMetaIdeal.defs (F := Ideal)) (onTc (τ := Cert.KernelStepMetaIdeal.τ) (Cert.KernelStepMetaIdeal.main (F := Ideal))) ⟨m, fun _ => 0, g⟩ (fun r => ∀ c : Dev Cert.KernelStepMetaIdeal.nD,
          r.2.mem ((c.tc : Thread Cert.KernelStepMetaIdeal.nD Cert.KernelStepMetaIdeal.τ).loc Cert.KernelStepMetaIdeal.main_v0_0) = v0 c
          ∧ r.2.mem ((c.tc : Thread Cert.KernelStepMetaIdeal.nD Cert.KernelStepMetaIdeal.τ).loc Cert.KernelStepMetaIdeal.main_v0_1) = v1 c
          ∧ r.2.mem ((c.tc : Thread Cert.KernelStepMetaIdeal.nD Cert.KernelStepMetaIdeal.τ).loc Cert.KernelStepMetaIdeal.main_v0_2) = v2 c
          ∧ r.2.mem ((c.tc : Thread Cert.KernelStepMetaIdeal.nD Cert.KernelStepMetaIdeal.τ).loc Cert.KernelStepMetaIdeal.main_v0_3) = v3 c
          ∧ r.2.mem ((c.tc : Thread Cert.KernelStepMetaIdeal.nD Cert.KernelStepMetaIdeal.τ).loc Cert.KernelStepMetaIdeal.main_arg0) = m ((c.tc : Thread Cert.KernelStepMetaIdeal.nD Cert.KernelStepMetaIdeal.τ).loc Cert.KernelStepMetaIdeal.main_arg0)
          ∧ r.2.mem ((c.tc : Thread Cert.KernelStepMetaIdeal.nD Cert.KernelStepMetaIdeal.τ).loc Cert.KernelStepMetaIdeal.main_arg1) = m ((c.tc : Thread Cert.KernelStepMetaIdeal.nD Cert.KernelStepMetaIdeal.τ).loc Cert.KernelStepMetaIdeal.main_arg1)
          ∧ r.2.mem ((c.tc : Thread Cert.KernelStepMetaIdeal.nD Cert.KernelStepMetaIdeal.τ).loc Cert.KernelStepMetaIdeal.main_arg2) = m ((c.tc : Thread Cert.KernelStepMetaIdeal.nD Cert.KernelStepMetaIdeal.τ).loc Cert.KernelStepMetaIdeal.main_arg2)
          ∧ r.2.mem ((c.tc : Thread Cert.KernelStepMetaIdeal.nD Cert.KernelStepMetaIdeal.τ).loc Cert.KernelStepMetaIdeal.main_arg3) = m ((c.tc : Thread Cert.KernelStepMetaIdeal.nD Cert.KernelStepMetaIdeal.τ).loc Cert.KernelStepMetaIdeal.main_arg3))
      ∧ θ_run (Cert.ReferenceStepMetaIdeal.defs (F := Ideal)) (onTc (τ := Cert.ReferenceStepMetaIdeal.τ) (Cert.ReferenceStepMetaIdeal.main (F := Ideal))) ⟨m', fun _ => 0, g'⟩ (fun r => ∀ c : Dev Cert.ReferenceStepMetaIdeal.nD,
          r.2.mem ((c.tc : Thread Cert.ReferenceStepMetaIdeal.nD Cert.ReferenceStepMetaIdeal.τ).loc Cert.ReferenceStepMetaIdeal.main_arg1) = v0 c
          ∧ r.2.mem ((c.tc : Thread Cert.ReferenceStepMetaIdeal.nD Cert.ReferenceStepMetaIdeal.τ).loc Cert.ReferenceStepMetaIdeal.main_v23) = v1 c
          ∧ r.2.mem ((c.tc : Thread Cert.ReferenceStepMetaIdeal.nD Cert.ReferenceStepMetaIdeal.τ).loc Cert.ReferenceStepMetaIdeal.main_v4) = v2 c
          ∧ r.2.mem ((c.tc : Thread Cert.ReferenceStepMetaIdeal.nD Cert.ReferenceStepMetaIdeal.τ).loc Cert.ReferenceStepMetaIdeal.main_v10) = v3 c
          ∧ r.2.mem ((c.tc : Thread Cert.ReferenceStepMetaIdeal.nD Cert.ReferenceStepMetaIdeal.τ).loc Cert.ReferenceStepMetaIdeal.main_arg0) = m' ((c.tc : Thread Cert.ReferenceStepMetaIdeal.nD Cert.ReferenceStepMetaIdeal.τ).loc Cert.ReferenceStepMetaIdeal.main_arg0)
          ∧ r.2.mem ((c.tc : Thread Cert.ReferenceStepMetaIdeal.nD Cert.ReferenceStepMetaIdeal.τ).loc Cert.ReferenceStepMetaIdeal.main_arg1) = m' ((c.tc : Thread Cert.ReferenceStepMetaIdeal.nD Cert.ReferenceStepMetaIdeal.τ).loc Cert.ReferenceStepMetaIdeal.main_arg1)
          ∧ r.2.mem ((c.tc : Thread Cert.ReferenceStepMetaIdeal.nD Cert.ReferenceStepMetaIdeal.τ).loc Cert.ReferenceStepMetaIdeal.main_arg2) = m' ((c.tc : Thread Cert.ReferenceStepMetaIdeal.nD Cert.ReferenceStepMetaIdeal.τ).loc Cert.ReferenceStepMetaIdeal.main_arg2)
          ∧ r.2.mem ((c.tc : Thread Cert.ReferenceStepMetaIdeal.nD Cert.ReferenceStepMetaIdeal.τ).loc Cert.ReferenceStepMetaIdeal.main_arg3) = m' ((c.tc : Thread Cert.ReferenceStepMetaIdeal.nD Cert.ReferenceStepMetaIdeal.τ).loc Cert.ReferenceStepMetaIdeal.main_arg3))

def preserves_KernelStepConv_KernelStepConvIdeal : Prop :=
  True

def algebraic_KernelStepConvIdeal_ReferenceStepConvIdeal [hKernelStepConvIdeal : Cert.KernelStepConvIdeal.Facts] [hReferenceStepConvIdeal : Cert.ReferenceStepConvIdeal.Facts] : Prop :=
  ∀ (m : (ℓ : Loc Cert.KernelStepConvIdeal.nD Cert.KernelStepConvIdeal.τ Cert.KernelStepConvIdeal.sig) → Buf (Elt Ideal) ℓ) (g : Dev Cert.KernelStepConvIdeal.nD → PrngReg)
    (m' : (ℓ : Loc Cert.ReferenceStepConvIdeal.nD Cert.ReferenceStepConvIdeal.τ Cert.ReferenceStepConvIdeal.sig) → Buf (Elt Ideal) ℓ) (g' : Dev Cert.ReferenceStepConvIdeal.nD → PrngReg), Pre_KernelStepConvIdeal m →
    (∀ c : Dev Cert.KernelStepConvIdeal.nD,
      m' ((c.tc : Thread Cert.ReferenceStepConvIdeal.nD Cert.ReferenceStepConvIdeal.τ).loc Cert.ReferenceStepConvIdeal.main_arg0) = m ((c.tc : Thread Cert.KernelStepConvIdeal.nD Cert.KernelStepConvIdeal.τ).loc Cert.KernelStepConvIdeal.main_arg0)
      ∧ m' ((c.tc : Thread Cert.ReferenceStepConvIdeal.nD Cert.ReferenceStepConvIdeal.τ).loc Cert.ReferenceStepConvIdeal.main_arg1) = m ((c.tc : Thread Cert.KernelStepConvIdeal.nD Cert.KernelStepConvIdeal.τ).loc Cert.KernelStepConvIdeal.main_arg1)
      ∧ m' ((c.tc : Thread Cert.ReferenceStepConvIdeal.nD Cert.ReferenceStepConvIdeal.τ).loc Cert.ReferenceStepConvIdeal.main_arg2) = m ((c.tc : Thread Cert.KernelStepConvIdeal.nD Cert.KernelStepConvIdeal.τ).loc Cert.KernelStepConvIdeal.main_arg2)
      ∧ m' ((c.tc : Thread Cert.ReferenceStepConvIdeal.nD Cert.ReferenceStepConvIdeal.τ).loc Cert.ReferenceStepConvIdeal.main_arg3) = m ((c.tc : Thread Cert.KernelStepConvIdeal.nD Cert.KernelStepConvIdeal.τ).loc Cert.KernelStepConvIdeal.main_arg3)) →
    ∃ (v0 : (c : Dev Cert.KernelStepConvIdeal.nD) → Buf (Elt Ideal) ((c.tc : Thread Cert.KernelStepConvIdeal.nD Cert.KernelStepConvIdeal.τ).loc Cert.KernelStepConvIdeal.main_v0_0)) (v1 : (c : Dev Cert.KernelStepConvIdeal.nD) → Buf (Elt Ideal) ((c.tc : Thread Cert.KernelStepConvIdeal.nD Cert.KernelStepConvIdeal.τ).loc Cert.KernelStepConvIdeal.main_v0_1)) (v2 : (c : Dev Cert.KernelStepConvIdeal.nD) → Buf (Elt Ideal) ((c.tc : Thread Cert.KernelStepConvIdeal.nD Cert.KernelStepConvIdeal.τ).loc Cert.KernelStepConvIdeal.main_v0_2)) (v3 : (c : Dev Cert.KernelStepConvIdeal.nD) → Buf (Elt Ideal) ((c.tc : Thread Cert.KernelStepConvIdeal.nD Cert.KernelStepConvIdeal.τ).loc Cert.KernelStepConvIdeal.main_v0_3)),
      θ_run (Cert.KernelStepConvIdeal.defs (F := Ideal)) (onTc (τ := Cert.KernelStepConvIdeal.τ) (Cert.KernelStepConvIdeal.main (F := Ideal))) ⟨m, fun _ => 0, g⟩ (fun r => ∀ c : Dev Cert.KernelStepConvIdeal.nD,
          r.2.mem ((c.tc : Thread Cert.KernelStepConvIdeal.nD Cert.KernelStepConvIdeal.τ).loc Cert.KernelStepConvIdeal.main_v0_0) = v0 c
          ∧ r.2.mem ((c.tc : Thread Cert.KernelStepConvIdeal.nD Cert.KernelStepConvIdeal.τ).loc Cert.KernelStepConvIdeal.main_v0_1) = v1 c
          ∧ r.2.mem ((c.tc : Thread Cert.KernelStepConvIdeal.nD Cert.KernelStepConvIdeal.τ).loc Cert.KernelStepConvIdeal.main_v0_2) = v2 c
          ∧ r.2.mem ((c.tc : Thread Cert.KernelStepConvIdeal.nD Cert.KernelStepConvIdeal.τ).loc Cert.KernelStepConvIdeal.main_v0_3) = v3 c
          ∧ r.2.mem ((c.tc : Thread Cert.KernelStepConvIdeal.nD Cert.KernelStepConvIdeal.τ).loc Cert.KernelStepConvIdeal.main_arg0) = m ((c.tc : Thread Cert.KernelStepConvIdeal.nD Cert.KernelStepConvIdeal.τ).loc Cert.KernelStepConvIdeal.main_arg0)
          ∧ r.2.mem ((c.tc : Thread Cert.KernelStepConvIdeal.nD Cert.KernelStepConvIdeal.τ).loc Cert.KernelStepConvIdeal.main_arg1) = m ((c.tc : Thread Cert.KernelStepConvIdeal.nD Cert.KernelStepConvIdeal.τ).loc Cert.KernelStepConvIdeal.main_arg1)
          ∧ r.2.mem ((c.tc : Thread Cert.KernelStepConvIdeal.nD Cert.KernelStepConvIdeal.τ).loc Cert.KernelStepConvIdeal.main_arg2) = m ((c.tc : Thread Cert.KernelStepConvIdeal.nD Cert.KernelStepConvIdeal.τ).loc Cert.KernelStepConvIdeal.main_arg2)
          ∧ r.2.mem ((c.tc : Thread Cert.KernelStepConvIdeal.nD Cert.KernelStepConvIdeal.τ).loc Cert.KernelStepConvIdeal.main_arg3) = m ((c.tc : Thread Cert.KernelStepConvIdeal.nD Cert.KernelStepConvIdeal.τ).loc Cert.KernelStepConvIdeal.main_arg3))
      ∧ θ_run (Cert.ReferenceStepConvIdeal.defs (F := Ideal)) (onTc (τ := Cert.ReferenceStepConvIdeal.τ) (Cert.ReferenceStepConvIdeal.main (F := Ideal))) ⟨m', fun _ => 0, g'⟩ (fun r => ∀ c : Dev Cert.ReferenceStepConvIdeal.nD,
          r.2.mem ((c.tc : Thread Cert.ReferenceStepConvIdeal.nD Cert.ReferenceStepConvIdeal.τ).loc Cert.ReferenceStepConvIdeal.main_arg1) = v0 c
          ∧ r.2.mem ((c.tc : Thread Cert.ReferenceStepConvIdeal.nD Cert.ReferenceStepConvIdeal.τ).loc Cert.ReferenceStepConvIdeal.main_v23) = v1 c
          ∧ r.2.mem ((c.tc : Thread Cert.ReferenceStepConvIdeal.nD Cert.ReferenceStepConvIdeal.τ).loc Cert.ReferenceStepConvIdeal.main_v4) = v2 c
          ∧ r.2.mem ((c.tc : Thread Cert.ReferenceStepConvIdeal.nD Cert.ReferenceStepConvIdeal.τ).loc Cert.ReferenceStepConvIdeal.main_v10) = v3 c
          ∧ r.2.mem ((c.tc : Thread Cert.ReferenceStepConvIdeal.nD Cert.ReferenceStepConvIdeal.τ).loc Cert.ReferenceStepConvIdeal.main_arg0) = m' ((c.tc : Thread Cert.ReferenceStepConvIdeal.nD Cert.ReferenceStepConvIdeal.τ).loc Cert.ReferenceStepConvIdeal.main_arg0)
          ∧ r.2.mem ((c.tc : Thread Cert.ReferenceStepConvIdeal.nD Cert.ReferenceStepConvIdeal.τ).loc Cert.ReferenceStepConvIdeal.main_arg1) = m' ((c.tc : Thread Cert.ReferenceStepConvIdeal.nD Cert.ReferenceStepConvIdeal.τ).loc Cert.ReferenceStepConvIdeal.main_arg1)
          ∧ r.2.mem ((c.tc : Thread Cert.ReferenceStepConvIdeal.nD Cert.ReferenceStepConvIdeal.τ).loc Cert.ReferenceStepConvIdeal.main_arg2) = m' ((c.tc : Thread Cert.ReferenceStepConvIdeal.nD Cert.ReferenceStepConvIdeal.τ).loc Cert.ReferenceStepConvIdeal.main_arg2)
          ∧ r.2.mem ((c.tc : Thread Cert.ReferenceStepConvIdeal.nD Cert.ReferenceStepConvIdeal.τ).loc Cert.ReferenceStepConvIdeal.main_arg3) = m' ((c.tc : Thread Cert.ReferenceStepConvIdeal.nD Cert.ReferenceStepConvIdeal.τ).loc Cert.ReferenceStepConvIdeal.main_arg3))

def preserves_KernelStepBias_KernelStepBiasIdeal : Prop :=
  True

def algebraic_KernelStepBiasIdeal_ReferenceStepBiasIdeal [hKernelStepBiasIdeal : Cert.KernelStepBiasIdeal.Facts] [hReferenceStepBiasIdeal : Cert.ReferenceStepBiasIdeal.Facts] : Prop :=
  ∀ (m : (ℓ : Loc Cert.KernelStepBiasIdeal.nD Cert.KernelStepBiasIdeal.τ Cert.KernelStepBiasIdeal.sig) → Buf (Elt Ideal) ℓ) (g : Dev Cert.KernelStepBiasIdeal.nD → PrngReg)
    (m' : (ℓ : Loc Cert.ReferenceStepBiasIdeal.nD Cert.ReferenceStepBiasIdeal.τ Cert.ReferenceStepBiasIdeal.sig) → Buf (Elt Ideal) ℓ) (g' : Dev Cert.ReferenceStepBiasIdeal.nD → PrngReg), Pre_KernelStepBiasIdeal m →
    (∀ c : Dev Cert.KernelStepBiasIdeal.nD,
      m' ((c.tc : Thread Cert.ReferenceStepBiasIdeal.nD Cert.ReferenceStepBiasIdeal.τ).loc Cert.ReferenceStepBiasIdeal.main_arg0) = m ((c.tc : Thread Cert.KernelStepBiasIdeal.nD Cert.KernelStepBiasIdeal.τ).loc Cert.KernelStepBiasIdeal.main_arg0)
      ∧ m' ((c.tc : Thread Cert.ReferenceStepBiasIdeal.nD Cert.ReferenceStepBiasIdeal.τ).loc Cert.ReferenceStepBiasIdeal.main_arg1) = m ((c.tc : Thread Cert.KernelStepBiasIdeal.nD Cert.KernelStepBiasIdeal.τ).loc Cert.KernelStepBiasIdeal.main_arg1)
      ∧ m' ((c.tc : Thread Cert.ReferenceStepBiasIdeal.nD Cert.ReferenceStepBiasIdeal.τ).loc Cert.ReferenceStepBiasIdeal.main_arg2) = m ((c.tc : Thread Cert.KernelStepBiasIdeal.nD Cert.KernelStepBiasIdeal.τ).loc Cert.KernelStepBiasIdeal.main_arg2)
      ∧ m' ((c.tc : Thread Cert.ReferenceStepBiasIdeal.nD Cert.ReferenceStepBiasIdeal.τ).loc Cert.ReferenceStepBiasIdeal.main_arg3) = m ((c.tc : Thread Cert.KernelStepBiasIdeal.nD Cert.KernelStepBiasIdeal.τ).loc Cert.KernelStepBiasIdeal.main_arg3)) →
    ∃ (v0 : (c : Dev Cert.KernelStepBiasIdeal.nD) → Buf (Elt Ideal) ((c.tc : Thread Cert.KernelStepBiasIdeal.nD Cert.KernelStepBiasIdeal.τ).loc Cert.KernelStepBiasIdeal.main_v0_0)) (v1 : (c : Dev Cert.KernelStepBiasIdeal.nD) → Buf (Elt Ideal) ((c.tc : Thread Cert.KernelStepBiasIdeal.nD Cert.KernelStepBiasIdeal.τ).loc Cert.KernelStepBiasIdeal.main_v0_1)) (v2 : (c : Dev Cert.KernelStepBiasIdeal.nD) → Buf (Elt Ideal) ((c.tc : Thread Cert.KernelStepBiasIdeal.nD Cert.KernelStepBiasIdeal.τ).loc Cert.KernelStepBiasIdeal.main_v0_2)) (v3 : (c : Dev Cert.KernelStepBiasIdeal.nD) → Buf (Elt Ideal) ((c.tc : Thread Cert.KernelStepBiasIdeal.nD Cert.KernelStepBiasIdeal.τ).loc Cert.KernelStepBiasIdeal.main_v0_3)),
      θ_run (Cert.KernelStepBiasIdeal.defs (F := Ideal)) (onTc (τ := Cert.KernelStepBiasIdeal.τ) (Cert.KernelStepBiasIdeal.main (F := Ideal))) ⟨m, fun _ => 0, g⟩ (fun r => ∀ c : Dev Cert.KernelStepBiasIdeal.nD,
          r.2.mem ((c.tc : Thread Cert.KernelStepBiasIdeal.nD Cert.KernelStepBiasIdeal.τ).loc Cert.KernelStepBiasIdeal.main_v0_0) = v0 c
          ∧ r.2.mem ((c.tc : Thread Cert.KernelStepBiasIdeal.nD Cert.KernelStepBiasIdeal.τ).loc Cert.KernelStepBiasIdeal.main_v0_1) = v1 c
          ∧ r.2.mem ((c.tc : Thread Cert.KernelStepBiasIdeal.nD Cert.KernelStepBiasIdeal.τ).loc Cert.KernelStepBiasIdeal.main_v0_2) = v2 c
          ∧ r.2.mem ((c.tc : Thread Cert.KernelStepBiasIdeal.nD Cert.KernelStepBiasIdeal.τ).loc Cert.KernelStepBiasIdeal.main_v0_3) = v3 c
          ∧ r.2.mem ((c.tc : Thread Cert.KernelStepBiasIdeal.nD Cert.KernelStepBiasIdeal.τ).loc Cert.KernelStepBiasIdeal.main_arg0) = m ((c.tc : Thread Cert.KernelStepBiasIdeal.nD Cert.KernelStepBiasIdeal.τ).loc Cert.KernelStepBiasIdeal.main_arg0)
          ∧ r.2.mem ((c.tc : Thread Cert.KernelStepBiasIdeal.nD Cert.KernelStepBiasIdeal.τ).loc Cert.KernelStepBiasIdeal.main_arg1) = m ((c.tc : Thread Cert.KernelStepBiasIdeal.nD Cert.KernelStepBiasIdeal.τ).loc Cert.KernelStepBiasIdeal.main_arg1)
          ∧ r.2.mem ((c.tc : Thread Cert.KernelStepBiasIdeal.nD Cert.KernelStepBiasIdeal.τ).loc Cert.KernelStepBiasIdeal.main_arg2) = m ((c.tc : Thread Cert.KernelStepBiasIdeal.nD Cert.KernelStepBiasIdeal.τ).loc Cert.KernelStepBiasIdeal.main_arg2)
          ∧ r.2.mem ((c.tc : Thread Cert.KernelStepBiasIdeal.nD Cert.KernelStepBiasIdeal.τ).loc Cert.KernelStepBiasIdeal.main_arg3) = m ((c.tc : Thread Cert.KernelStepBiasIdeal.nD Cert.KernelStepBiasIdeal.τ).loc Cert.KernelStepBiasIdeal.main_arg3))
      ∧ θ_run (Cert.ReferenceStepBiasIdeal.defs (F := Ideal)) (onTc (τ := Cert.ReferenceStepBiasIdeal.τ) (Cert.ReferenceStepBiasIdeal.main (F := Ideal))) ⟨m', fun _ => 0, g'⟩ (fun r => ∀ c : Dev Cert.ReferenceStepBiasIdeal.nD,
          r.2.mem ((c.tc : Thread Cert.ReferenceStepBiasIdeal.nD Cert.ReferenceStepBiasIdeal.τ).loc Cert.ReferenceStepBiasIdeal.main_arg1) = v0 c
          ∧ r.2.mem ((c.tc : Thread Cert.ReferenceStepBiasIdeal.nD Cert.ReferenceStepBiasIdeal.τ).loc Cert.ReferenceStepBiasIdeal.main_v23) = v1 c
          ∧ r.2.mem ((c.tc : Thread Cert.ReferenceStepBiasIdeal.nD Cert.ReferenceStepBiasIdeal.τ).loc Cert.ReferenceStepBiasIdeal.main_v4) = v2 c
          ∧ r.2.mem ((c.tc : Thread Cert.ReferenceStepBiasIdeal.nD Cert.ReferenceStepBiasIdeal.τ).loc Cert.ReferenceStepBiasIdeal.main_v10) = v3 c
          ∧ r.2.mem ((c.tc : Thread Cert.ReferenceStepBiasIdeal.nD Cert.ReferenceStepBiasIdeal.τ).loc Cert.ReferenceStepBiasIdeal.main_arg0) = m' ((c.tc : Thread Cert.ReferenceStepBiasIdeal.nD Cert.ReferenceStepBiasIdeal.τ).loc Cert.ReferenceStepBiasIdeal.main_arg0)
          ∧ r.2.mem ((c.tc : Thread Cert.ReferenceStepBiasIdeal.nD Cert.ReferenceStepBiasIdeal.τ).loc Cert.ReferenceStepBiasIdeal.main_arg1) = m' ((c.tc : Thread Cert.ReferenceStepBiasIdeal.nD Cert.ReferenceStepBiasIdeal.τ).loc Cert.ReferenceStepBiasIdeal.main_arg1)
          ∧ r.2.mem ((c.tc : Thread Cert.ReferenceStepBiasIdeal.nD Cert.ReferenceStepBiasIdeal.τ).loc Cert.ReferenceStepBiasIdeal.main_arg2) = m' ((c.tc : Thread Cert.ReferenceStepBiasIdeal.nD Cert.ReferenceStepBiasIdeal.τ).loc Cert.ReferenceStepBiasIdeal.main_arg2)
          ∧ r.2.mem ((c.tc : Thread Cert.ReferenceStepBiasIdeal.nD Cert.ReferenceStepBiasIdeal.τ).loc Cert.ReferenceStepBiasIdeal.main_arg3) = m' ((c.tc : Thread Cert.ReferenceStepBiasIdeal.nD Cert.ReferenceStepBiasIdeal.τ).loc Cert.ReferenceStepBiasIdeal.main_arg3))

def preserves_KernelStepPool_KernelStepPoolIdeal : Prop :=
  True

def algebraic_KernelStepPoolIdeal_ReferenceStepPoolIdeal [hKernelStepPoolIdeal : Cert.KernelStepPoolIdeal.Facts] [hReferenceStepPoolIdeal : Cert.ReferenceStepPoolIdeal.Facts] : Prop :=
  ∀ (m : (ℓ : Loc Cert.KernelStepPoolIdeal.nD Cert.KernelStepPoolIdeal.τ Cert.KernelStepPoolIdeal.sig) → Buf (Elt Ideal) ℓ) (g : Dev Cert.KernelStepPoolIdeal.nD → PrngReg)
    (m' : (ℓ : Loc Cert.ReferenceStepPoolIdeal.nD Cert.ReferenceStepPoolIdeal.τ Cert.ReferenceStepPoolIdeal.sig) → Buf (Elt Ideal) ℓ) (g' : Dev Cert.ReferenceStepPoolIdeal.nD → PrngReg), Pre_KernelStepPoolIdeal m →
    (∀ c : Dev Cert.KernelStepPoolIdeal.nD,
      m' ((c.tc : Thread Cert.ReferenceStepPoolIdeal.nD Cert.ReferenceStepPoolIdeal.τ).loc Cert.ReferenceStepPoolIdeal.main_arg0) = m ((c.tc : Thread Cert.KernelStepPoolIdeal.nD Cert.KernelStepPoolIdeal.τ).loc Cert.KernelStepPoolIdeal.main_arg0)
      ∧ m' ((c.tc : Thread Cert.ReferenceStepPoolIdeal.nD Cert.ReferenceStepPoolIdeal.τ).loc Cert.ReferenceStepPoolIdeal.main_arg1) = m ((c.tc : Thread Cert.KernelStepPoolIdeal.nD Cert.KernelStepPoolIdeal.τ).loc Cert.KernelStepPoolIdeal.main_arg1)
      ∧ m' ((c.tc : Thread Cert.ReferenceStepPoolIdeal.nD Cert.ReferenceStepPoolIdeal.τ).loc Cert.ReferenceStepPoolIdeal.main_arg2) = m ((c.tc : Thread Cert.KernelStepPoolIdeal.nD Cert.KernelStepPoolIdeal.τ).loc Cert.KernelStepPoolIdeal.main_arg2)
      ∧ m' ((c.tc : Thread Cert.ReferenceStepPoolIdeal.nD Cert.ReferenceStepPoolIdeal.τ).loc Cert.ReferenceStepPoolIdeal.main_arg3) = m ((c.tc : Thread Cert.KernelStepPoolIdeal.nD Cert.KernelStepPoolIdeal.τ).loc Cert.KernelStepPoolIdeal.main_arg3)
      ∧ m' ((c.tc : Thread Cert.ReferenceStepPoolIdeal.nD Cert.ReferenceStepPoolIdeal.τ).loc Cert.ReferenceStepPoolIdeal.main_arg4) = m ((c.tc : Thread Cert.KernelStepPoolIdeal.nD Cert.KernelStepPoolIdeal.τ).loc Cert.KernelStepPoolIdeal.main_arg4)
      ∧ m' ((c.tc : Thread Cert.ReferenceStepPoolIdeal.nD Cert.ReferenceStepPoolIdeal.τ).loc Cert.ReferenceStepPoolIdeal.main_arg5) = m ((c.tc : Thread Cert.KernelStepPoolIdeal.nD Cert.KernelStepPoolIdeal.τ).loc Cert.KernelStepPoolIdeal.main_arg5)) →
    ∃ (v0 : (c : Dev Cert.KernelStepPoolIdeal.nD) → Buf (Elt Ideal) ((c.tc : Thread Cert.KernelStepPoolIdeal.nD Cert.KernelStepPoolIdeal.τ).loc Cert.KernelStepPoolIdeal.main_v0_0)) (v1 : (c : Dev Cert.KernelStepPoolIdeal.nD) → Buf (Elt Ideal) ((c.tc : Thread Cert.KernelStepPoolIdeal.nD Cert.KernelStepPoolIdeal.τ).loc Cert.KernelStepPoolIdeal.main_v0_1)) (v2 : (c : Dev Cert.KernelStepPoolIdeal.nD) → Buf (Elt Ideal) ((c.tc : Thread Cert.KernelStepPoolIdeal.nD Cert.KernelStepPoolIdeal.τ).loc Cert.KernelStepPoolIdeal.main_v0_2)) (v3 : (c : Dev Cert.KernelStepPoolIdeal.nD) → Buf (Elt Ideal) ((c.tc : Thread Cert.KernelStepPoolIdeal.nD Cert.KernelStepPoolIdeal.τ).loc Cert.KernelStepPoolIdeal.main_v0_3)),
      θ_run (Cert.KernelStepPoolIdeal.defs (F := Ideal)) (onTc (τ := Cert.KernelStepPoolIdeal.τ) (Cert.KernelStepPoolIdeal.main (F := Ideal))) ⟨m, fun _ => 0, g⟩ (fun r => ∀ c : Dev Cert.KernelStepPoolIdeal.nD,
          r.2.mem ((c.tc : Thread Cert.KernelStepPoolIdeal.nD Cert.KernelStepPoolIdeal.τ).loc Cert.KernelStepPoolIdeal.main_v0_0) = v0 c
          ∧ r.2.mem ((c.tc : Thread Cert.KernelStepPoolIdeal.nD Cert.KernelStepPoolIdeal.τ).loc Cert.KernelStepPoolIdeal.main_v0_1) = v1 c
          ∧ r.2.mem ((c.tc : Thread Cert.KernelStepPoolIdeal.nD Cert.KernelStepPoolIdeal.τ).loc Cert.KernelStepPoolIdeal.main_v0_2) = v2 c
          ∧ r.2.mem ((c.tc : Thread Cert.KernelStepPoolIdeal.nD Cert.KernelStepPoolIdeal.τ).loc Cert.KernelStepPoolIdeal.main_v0_3) = v3 c
          ∧ r.2.mem ((c.tc : Thread Cert.KernelStepPoolIdeal.nD Cert.KernelStepPoolIdeal.τ).loc Cert.KernelStepPoolIdeal.main_arg0) = m ((c.tc : Thread Cert.KernelStepPoolIdeal.nD Cert.KernelStepPoolIdeal.τ).loc Cert.KernelStepPoolIdeal.main_arg0)
          ∧ r.2.mem ((c.tc : Thread Cert.KernelStepPoolIdeal.nD Cert.KernelStepPoolIdeal.τ).loc Cert.KernelStepPoolIdeal.main_arg1) = m ((c.tc : Thread Cert.KernelStepPoolIdeal.nD Cert.KernelStepPoolIdeal.τ).loc Cert.KernelStepPoolIdeal.main_arg1)
          ∧ r.2.mem ((c.tc : Thread Cert.KernelStepPoolIdeal.nD Cert.KernelStepPoolIdeal.τ).loc Cert.KernelStepPoolIdeal.main_arg2) = m ((c.tc : Thread Cert.KernelStepPoolIdeal.nD Cert.KernelStepPoolIdeal.τ).loc Cert.KernelStepPoolIdeal.main_arg2)
          ∧ r.2.mem ((c.tc : Thread Cert.KernelStepPoolIdeal.nD Cert.KernelStepPoolIdeal.τ).loc Cert.KernelStepPoolIdeal.main_arg3) = m ((c.tc : Thread Cert.KernelStepPoolIdeal.nD Cert.KernelStepPoolIdeal.τ).loc Cert.KernelStepPoolIdeal.main_arg3)
          ∧ r.2.mem ((c.tc : Thread Cert.KernelStepPoolIdeal.nD Cert.KernelStepPoolIdeal.τ).loc Cert.KernelStepPoolIdeal.main_arg4) = m ((c.tc : Thread Cert.KernelStepPoolIdeal.nD Cert.KernelStepPoolIdeal.τ).loc Cert.KernelStepPoolIdeal.main_arg4)
          ∧ r.2.mem ((c.tc : Thread Cert.KernelStepPoolIdeal.nD Cert.KernelStepPoolIdeal.τ).loc Cert.KernelStepPoolIdeal.main_arg5) = m ((c.tc : Thread Cert.KernelStepPoolIdeal.nD Cert.KernelStepPoolIdeal.τ).loc Cert.KernelStepPoolIdeal.main_arg5))
      ∧ θ_run (Cert.ReferenceStepPoolIdeal.defs (F := Ideal)) (onTc (τ := Cert.ReferenceStepPoolIdeal.τ) (Cert.ReferenceStepPoolIdeal.main (F := Ideal))) ⟨m', fun _ => 0, g'⟩ (fun r => ∀ c : Dev Cert.ReferenceStepPoolIdeal.nD,
          r.2.mem ((c.tc : Thread Cert.ReferenceStepPoolIdeal.nD Cert.ReferenceStepPoolIdeal.τ).loc Cert.ReferenceStepPoolIdeal.main_v7) = v0 c
          ∧ r.2.mem ((c.tc : Thread Cert.ReferenceStepPoolIdeal.nD Cert.ReferenceStepPoolIdeal.τ).loc Cert.ReferenceStepPoolIdeal.main_v31) = v1 c
          ∧ r.2.mem ((c.tc : Thread Cert.ReferenceStepPoolIdeal.nD Cert.ReferenceStepPoolIdeal.τ).loc Cert.ReferenceStepPoolIdeal.main_v12) = v2 c
          ∧ r.2.mem ((c.tc : Thread Cert.ReferenceStepPoolIdeal.nD Cert.ReferenceStepPoolIdeal.τ).loc Cert.ReferenceStepPoolIdeal.main_v18) = v3 c
          ∧ r.2.mem ((c.tc : Thread Cert.ReferenceStepPoolIdeal.nD Cert.ReferenceStepPoolIdeal.τ).loc Cert.ReferenceStepPoolIdeal.main_arg0) = m' ((c.tc : Thread Cert.ReferenceStepPoolIdeal.nD Cert.ReferenceStepPoolIdeal.τ).loc Cert.ReferenceStepPoolIdeal.main_arg0)
          ∧ r.2.mem ((c.tc : Thread Cert.ReferenceStepPoolIdeal.nD Cert.ReferenceStepPoolIdeal.τ).loc Cert.ReferenceStepPoolIdeal.main_arg1) = m' ((c.tc : Thread Cert.ReferenceStepPoolIdeal.nD Cert.ReferenceStepPoolIdeal.τ).loc Cert.ReferenceStepPoolIdeal.main_arg1)
          ∧ r.2.mem ((c.tc : Thread Cert.ReferenceStepPoolIdeal.nD Cert.ReferenceStepPoolIdeal.τ).loc Cert.ReferenceStepPoolIdeal.main_arg2) = m' ((c.tc : Thread Cert.ReferenceStepPoolIdeal.nD Cert.ReferenceStepPoolIdeal.τ).loc Cert.ReferenceStepPoolIdeal.main_arg2)
          ∧ r.2.mem ((c.tc : Thread Cert.ReferenceStepPoolIdeal.nD Cert.ReferenceStepPoolIdeal.τ).loc Cert.ReferenceStepPoolIdeal.main_arg3) = m' ((c.tc : Thread Cert.ReferenceStepPoolIdeal.nD Cert.ReferenceStepPoolIdeal.τ).loc Cert.ReferenceStepPoolIdeal.main_arg3)
          ∧ r.2.mem ((c.tc : Thread Cert.ReferenceStepPoolIdeal.nD Cert.ReferenceStepPoolIdeal.τ).loc Cert.ReferenceStepPoolIdeal.main_arg4) = m' ((c.tc : Thread Cert.ReferenceStepPoolIdeal.nD Cert.ReferenceStepPoolIdeal.τ).loc Cert.ReferenceStepPoolIdeal.main_arg4)
          ∧ r.2.mem ((c.tc : Thread Cert.ReferenceStepPoolIdeal.nD Cert.ReferenceStepPoolIdeal.τ).loc Cert.ReferenceStepPoolIdeal.main_arg5) = m' ((c.tc : Thread Cert.ReferenceStepPoolIdeal.nD Cert.ReferenceStepPoolIdeal.τ).loc Cert.ReferenceStepPoolIdeal.main_arg5))

def preserves_KernelStepGate_KernelStepGateIdeal : Prop :=
  True

def algebraic_KernelStepGateIdeal_ReferenceStepGateIdeal [hKernelStepGateIdeal : Cert.KernelStepGateIdeal.Facts] [hReferenceStepGateIdeal : Cert.ReferenceStepGateIdeal.Facts] : Prop :=
  ∀ (m : (ℓ : Loc Cert.KernelStepGateIdeal.nD Cert.KernelStepGateIdeal.τ Cert.KernelStepGateIdeal.sig) → Buf (Elt Ideal) ℓ) (g : Dev Cert.KernelStepGateIdeal.nD → PrngReg)
    (m' : (ℓ : Loc Cert.ReferenceStepGateIdeal.nD Cert.ReferenceStepGateIdeal.τ Cert.ReferenceStepGateIdeal.sig) → Buf (Elt Ideal) ℓ) (g' : Dev Cert.ReferenceStepGateIdeal.nD → PrngReg), Pre_KernelStepGateIdeal m →
    (∀ c : Dev Cert.KernelStepGateIdeal.nD,
      m' ((c.tc : Thread Cert.ReferenceStepGateIdeal.nD Cert.ReferenceStepGateIdeal.τ).loc Cert.ReferenceStepGateIdeal.main_arg0) = m ((c.tc : Thread Cert.KernelStepGateIdeal.nD Cert.KernelStepGateIdeal.τ).loc Cert.KernelStepGateIdeal.main_arg0)
      ∧ m' ((c.tc : Thread Cert.ReferenceStepGateIdeal.nD Cert.ReferenceStepGateIdeal.τ).loc Cert.ReferenceStepGateIdeal.main_arg1) = m ((c.tc : Thread Cert.KernelStepGateIdeal.nD Cert.KernelStepGateIdeal.τ).loc Cert.KernelStepGateIdeal.main_arg1)
      ∧ m' ((c.tc : Thread Cert.ReferenceStepGateIdeal.nD Cert.ReferenceStepGateIdeal.τ).loc Cert.ReferenceStepGateIdeal.main_arg2) = m ((c.tc : Thread Cert.KernelStepGateIdeal.nD Cert.KernelStepGateIdeal.τ).loc Cert.KernelStepGateIdeal.main_arg2)
      ∧ m' ((c.tc : Thread Cert.ReferenceStepGateIdeal.nD Cert.ReferenceStepGateIdeal.τ).loc Cert.ReferenceStepGateIdeal.main_arg3) = m ((c.tc : Thread Cert.KernelStepGateIdeal.nD Cert.KernelStepGateIdeal.τ).loc Cert.KernelStepGateIdeal.main_arg3)
      ∧ m' ((c.tc : Thread Cert.ReferenceStepGateIdeal.nD Cert.ReferenceStepGateIdeal.τ).loc Cert.ReferenceStepGateIdeal.main_arg4) = m ((c.tc : Thread Cert.KernelStepGateIdeal.nD Cert.KernelStepGateIdeal.τ).loc Cert.KernelStepGateIdeal.main_arg4)
      ∧ m' ((c.tc : Thread Cert.ReferenceStepGateIdeal.nD Cert.ReferenceStepGateIdeal.τ).loc Cert.ReferenceStepGateIdeal.main_arg5) = m ((c.tc : Thread Cert.KernelStepGateIdeal.nD Cert.KernelStepGateIdeal.τ).loc Cert.KernelStepGateIdeal.main_arg5)) →
    ∃ (v0 : (c : Dev Cert.KernelStepGateIdeal.nD) → Buf (Elt Ideal) ((c.tc : Thread Cert.KernelStepGateIdeal.nD Cert.KernelStepGateIdeal.τ).loc Cert.KernelStepGateIdeal.main_v0_0)) (v1 : (c : Dev Cert.KernelStepGateIdeal.nD) → Buf (Elt Ideal) ((c.tc : Thread Cert.KernelStepGateIdeal.nD Cert.KernelStepGateIdeal.τ).loc Cert.KernelStepGateIdeal.main_v0_1)) (v2 : (c : Dev Cert.KernelStepGateIdeal.nD) → Buf (Elt Ideal) ((c.tc : Thread Cert.KernelStepGateIdeal.nD Cert.KernelStepGateIdeal.τ).loc Cert.KernelStepGateIdeal.main_v0_2)) (v3 : (c : Dev Cert.KernelStepGateIdeal.nD) → Buf (Elt Ideal) ((c.tc : Thread Cert.KernelStepGateIdeal.nD Cert.KernelStepGateIdeal.τ).loc Cert.KernelStepGateIdeal.main_v0_3)),
      θ_run (Cert.KernelStepGateIdeal.defs (F := Ideal)) (onTc (τ := Cert.KernelStepGateIdeal.τ) (Cert.KernelStepGateIdeal.main (F := Ideal))) ⟨m, fun _ => 0, g⟩ (fun r => ∀ c : Dev Cert.KernelStepGateIdeal.nD,
          r.2.mem ((c.tc : Thread Cert.KernelStepGateIdeal.nD Cert.KernelStepGateIdeal.τ).loc Cert.KernelStepGateIdeal.main_v0_0) = v0 c
          ∧ r.2.mem ((c.tc : Thread Cert.KernelStepGateIdeal.nD Cert.KernelStepGateIdeal.τ).loc Cert.KernelStepGateIdeal.main_v0_1) = v1 c
          ∧ r.2.mem ((c.tc : Thread Cert.KernelStepGateIdeal.nD Cert.KernelStepGateIdeal.τ).loc Cert.KernelStepGateIdeal.main_v0_2) = v2 c
          ∧ r.2.mem ((c.tc : Thread Cert.KernelStepGateIdeal.nD Cert.KernelStepGateIdeal.τ).loc Cert.KernelStepGateIdeal.main_v0_3) = v3 c
          ∧ r.2.mem ((c.tc : Thread Cert.KernelStepGateIdeal.nD Cert.KernelStepGateIdeal.τ).loc Cert.KernelStepGateIdeal.main_arg0) = m ((c.tc : Thread Cert.KernelStepGateIdeal.nD Cert.KernelStepGateIdeal.τ).loc Cert.KernelStepGateIdeal.main_arg0)
          ∧ r.2.mem ((c.tc : Thread Cert.KernelStepGateIdeal.nD Cert.KernelStepGateIdeal.τ).loc Cert.KernelStepGateIdeal.main_arg1) = m ((c.tc : Thread Cert.KernelStepGateIdeal.nD Cert.KernelStepGateIdeal.τ).loc Cert.KernelStepGateIdeal.main_arg1)
          ∧ r.2.mem ((c.tc : Thread Cert.KernelStepGateIdeal.nD Cert.KernelStepGateIdeal.τ).loc Cert.KernelStepGateIdeal.main_arg2) = m ((c.tc : Thread Cert.KernelStepGateIdeal.nD Cert.KernelStepGateIdeal.τ).loc Cert.KernelStepGateIdeal.main_arg2)
          ∧ r.2.mem ((c.tc : Thread Cert.KernelStepGateIdeal.nD Cert.KernelStepGateIdeal.τ).loc Cert.KernelStepGateIdeal.main_arg3) = m ((c.tc : Thread Cert.KernelStepGateIdeal.nD Cert.KernelStepGateIdeal.τ).loc Cert.KernelStepGateIdeal.main_arg3)
          ∧ r.2.mem ((c.tc : Thread Cert.KernelStepGateIdeal.nD Cert.KernelStepGateIdeal.τ).loc Cert.KernelStepGateIdeal.main_arg4) = m ((c.tc : Thread Cert.KernelStepGateIdeal.nD Cert.KernelStepGateIdeal.τ).loc Cert.KernelStepGateIdeal.main_arg4)
          ∧ r.2.mem ((c.tc : Thread Cert.KernelStepGateIdeal.nD Cert.KernelStepGateIdeal.τ).loc Cert.KernelStepGateIdeal.main_arg5) = m ((c.tc : Thread Cert.KernelStepGateIdeal.nD Cert.KernelStepGateIdeal.τ).loc Cert.KernelStepGateIdeal.main_arg5))
      ∧ θ_run (Cert.ReferenceStepGateIdeal.defs (F := Ideal)) (onTc (τ := Cert.ReferenceStepGateIdeal.τ) (Cert.ReferenceStepGateIdeal.main (F := Ideal))) ⟨m', fun _ => 0, g'⟩ (fun r => ∀ c : Dev Cert.ReferenceStepGateIdeal.nD,
          r.2.mem ((c.tc : Thread Cert.ReferenceStepGateIdeal.nD Cert.ReferenceStepGateIdeal.τ).loc Cert.ReferenceStepGateIdeal.main_v7) = v0 c
          ∧ r.2.mem ((c.tc : Thread Cert.ReferenceStepGateIdeal.nD Cert.ReferenceStepGateIdeal.τ).loc Cert.ReferenceStepGateIdeal.main_v31) = v1 c
          ∧ r.2.mem ((c.tc : Thread Cert.ReferenceStepGateIdeal.nD Cert.ReferenceStepGateIdeal.τ).loc Cert.ReferenceStepGateIdeal.main_v12) = v2 c
          ∧ r.2.mem ((c.tc : Thread Cert.ReferenceStepGateIdeal.nD Cert.ReferenceStepGateIdeal.τ).loc Cert.ReferenceStepGateIdeal.main_v18) = v3 c
          ∧ r.2.mem ((c.tc : Thread Cert.ReferenceStepGateIdeal.nD Cert.ReferenceStepGateIdeal.τ).loc Cert.ReferenceStepGateIdeal.main_arg0) = m' ((c.tc : Thread Cert.ReferenceStepGateIdeal.nD Cert.ReferenceStepGateIdeal.τ).loc Cert.ReferenceStepGateIdeal.main_arg0)
          ∧ r.2.mem ((c.tc : Thread Cert.ReferenceStepGateIdeal.nD Cert.ReferenceStepGateIdeal.τ).loc Cert.ReferenceStepGateIdeal.main_arg1) = m' ((c.tc : Thread Cert.ReferenceStepGateIdeal.nD Cert.ReferenceStepGateIdeal.τ).loc Cert.ReferenceStepGateIdeal.main_arg1)
          ∧ r.2.mem ((c.tc : Thread Cert.ReferenceStepGateIdeal.nD Cert.ReferenceStepGateIdeal.τ).loc Cert.ReferenceStepGateIdeal.main_arg2) = m' ((c.tc : Thread Cert.ReferenceStepGateIdeal.nD Cert.ReferenceStepGateIdeal.τ).loc Cert.ReferenceStepGateIdeal.main_arg2)
          ∧ r.2.mem ((c.tc : Thread Cert.ReferenceStepGateIdeal.nD Cert.ReferenceStepGateIdeal.τ).loc Cert.ReferenceStepGateIdeal.main_arg3) = m' ((c.tc : Thread Cert.ReferenceStepGateIdeal.nD Cert.ReferenceStepGateIdeal.τ).loc Cert.ReferenceStepGateIdeal.main_arg3)
          ∧ r.2.mem ((c.tc : Thread Cert.ReferenceStepGateIdeal.nD Cert.ReferenceStepGateIdeal.τ).loc Cert.ReferenceStepGateIdeal.main_arg4) = m' ((c.tc : Thread Cert.ReferenceStepGateIdeal.nD Cert.ReferenceStepGateIdeal.τ).loc Cert.ReferenceStepGateIdeal.main_arg4)
          ∧ r.2.mem ((c.tc : Thread Cert.ReferenceStepGateIdeal.nD Cert.ReferenceStepGateIdeal.τ).loc Cert.ReferenceStepGateIdeal.main_arg5) = m' ((c.tc : Thread Cert.ReferenceStepGateIdeal.nD Cert.ReferenceStepGateIdeal.τ).loc Cert.ReferenceStepGateIdeal.main_arg5))

def preserves_KernelStepOut_KernelStepOutIdeal : Prop :=
  True

def algebraic_KernelStepOutIdeal_ReferenceStepOutIdeal [hKernelStepOutIdeal : Cert.KernelStepOutIdeal.Facts] [hReferenceStepOutIdeal : Cert.ReferenceStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg)
    (m' : (ℓ : Loc Cert.ReferenceStepOutIdeal.nD Cert.ReferenceStepOutIdeal.τ Cert.ReferenceStepOutIdeal.sig) → Buf (Elt Ideal) ℓ) (g' : Dev Cert.ReferenceStepOutIdeal.nD → PrngReg), Pre_KernelStepOutIdeal m →
    (∀ c : Dev Cert.KernelStepOutIdeal.nD,
      m' ((c.tc : Thread Cert.ReferenceStepOutIdeal.nD Cert.ReferenceStepOutIdeal.τ).loc Cert.ReferenceStepOutIdeal.main_arg0) = m ((c.tc : Thread Cert.KernelStepOutIdeal.nD Cert.KernelStepOutIdeal.τ).loc Cert.KernelStepOutIdeal.main_arg0)
      ∧ m' ((c.tc : Thread Cert.ReferenceStepOutIdeal.nD Cert.ReferenceStepOutIdeal.τ).loc Cert.ReferenceStepOutIdeal.main_arg1) = m ((c.tc : Thread Cert.KernelStepOutIdeal.nD Cert.KernelStepOutIdeal.τ).loc Cert.KernelStepOutIdeal.main_arg1)
      ∧ m' ((c.tc : Thread Cert.ReferenceStepOutIdeal.nD Cert.ReferenceStepOutIdeal.τ).loc Cert.ReferenceStepOutIdeal.main_arg2) = m ((c.tc : Thread Cert.KernelStepOutIdeal.nD Cert.KernelStepOutIdeal.τ).loc Cert.KernelStepOutIdeal.main_arg2)
      ∧ m' ((c.tc : Thread Cert.ReferenceStepOutIdeal.nD Cert.ReferenceStepOutIdeal.τ).loc Cert.ReferenceStepOutIdeal.main_arg3) = m ((c.tc : Thread Cert.KernelStepOutIdeal.nD Cert.KernelStepOutIdeal.τ).loc Cert.KernelStepOutIdeal.main_arg3)
      ∧ m' ((c.tc : Thread Cert.ReferenceStepOutIdeal.nD Cert.ReferenceStepOutIdeal.τ).loc Cert.ReferenceStepOutIdeal.main_arg4) = m ((c.tc : Thread Cert.KernelStepOutIdeal.nD Cert.KernelStepOutIdeal.τ).loc Cert.KernelStepOutIdeal.main_arg4)
      ∧ m' ((c.tc : Thread Cert.ReferenceStepOutIdeal.nD Cert.ReferenceStepOutIdeal.τ).loc Cert.ReferenceStepOutIdeal.main_arg5) = m ((c.tc : Thread Cert.KernelStepOutIdeal.nD Cert.KernelStepOutIdeal.τ).loc Cert.KernelStepOutIdeal.main_arg5)) →
    ∃ (v0 : (c : Dev Cert.KernelStepOutIdeal.nD) → Buf (Elt Ideal) ((c.tc : Thread Cert.KernelStepOutIdeal.nD Cert.KernelStepOutIdeal.τ).loc Cert.KernelStepOutIdeal.main_v0_0)) (v1 : (c : Dev Cert.KernelStepOutIdeal.nD) → Buf (Elt Ideal) ((c.tc : Thread Cert.KernelStepOutIdeal.nD Cert.KernelStepOutIdeal.τ).loc Cert.KernelStepOutIdeal.main_v0_1)) (v2 : (c : Dev Cert.KernelStepOutIdeal.nD) → Buf (Elt Ideal) ((c.tc : Thread Cert.KernelStepOutIdeal.nD Cert.KernelStepOutIdeal.τ).loc Cert.KernelStepOutIdeal.main_v0_2)) (v3 : (c : Dev Cert.KernelStepOutIdeal.nD) → Buf (Elt Ideal) ((c.tc : Thread Cert.KernelStepOutIdeal.nD Cert.KernelStepOutIdeal.τ).loc Cert.KernelStepOutIdeal.main_v0_3)),
      θ_run (Cert.KernelStepOutIdeal.defs (F := Ideal)) (onTc (τ := Cert.KernelStepOutIdeal.τ) (Cert.KernelStepOutIdeal.main (F := Ideal))) ⟨m, fun _ => 0, g⟩ (fun r => ∀ c : Dev Cert.KernelStepOutIdeal.nD,
          r.2.mem ((c.tc : Thread Cert.KernelStepOutIdeal.nD Cert.KernelStepOutIdeal.τ).loc Cert.KernelStepOutIdeal.main_v0_0) = v0 c
          ∧ r.2.mem ((c.tc : Thread Cert.KernelStepOutIdeal.nD Cert.KernelStepOutIdeal.τ).loc Cert.KernelStepOutIdeal.main_v0_1) = v1 c
          ∧ r.2.mem ((c.tc : Thread Cert.KernelStepOutIdeal.nD Cert.KernelStepOutIdeal.τ).loc Cert.KernelStepOutIdeal.main_v0_2) = v2 c
          ∧ r.2.mem ((c.tc : Thread Cert.KernelStepOutIdeal.nD Cert.KernelStepOutIdeal.τ).loc Cert.KernelStepOutIdeal.main_v0_3) = v3 c
          ∧ r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
          ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
          ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
          ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
          ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4)
          ∧ r.2.mem ((c.tc : Thread Cert.KernelStepOutIdeal.nD Cert.KernelStepOutIdeal.τ).loc Cert.KernelStepOutIdeal.main_arg5) = m ((c.tc : Thread Cert.KernelStepOutIdeal.nD Cert.KernelStepOutIdeal.τ).loc Cert.KernelStepOutIdeal.main_arg5))
      ∧ θ_run (Cert.ReferenceStepOutIdeal.defs (F := Ideal)) (onTc (τ := Cert.ReferenceStepOutIdeal.τ) (Cert.ReferenceStepOutIdeal.main (F := Ideal))) ⟨m', fun _ => 0, g'⟩ (fun r => ∀ c : Dev Cert.ReferenceStepOutIdeal.nD,
          r.2.mem ((c.tc : Thread Cert.ReferenceStepOutIdeal.nD Cert.ReferenceStepOutIdeal.τ).loc Cert.ReferenceStepOutIdeal.main_v7) = v0 c
          ∧ r.2.mem ((c.tc : Thread Cert.ReferenceStepOutIdeal.nD Cert.ReferenceStepOutIdeal.τ).loc Cert.ReferenceStepOutIdeal.main_v31) = v1 c
          ∧ r.2.mem ((c.tc : Thread Cert.ReferenceStepOutIdeal.nD Cert.ReferenceStepOutIdeal.τ).loc Cert.ReferenceStepOutIdeal.main_v12) = v2 c
          ∧ r.2.mem ((c.tc : Thread Cert.ReferenceStepOutIdeal.nD Cert.ReferenceStepOutIdeal.τ).loc Cert.ReferenceStepOutIdeal.main_v18) = v3 c
          ∧ r.2.mem ((c.tc : Thread Cert.ReferenceStepOutIdeal.nD Cert.ReferenceStepOutIdeal.τ).loc Cert.ReferenceStepOutIdeal.main_arg0) = m' ((c.tc : Thread Cert.ReferenceStepOutIdeal.nD Cert.ReferenceStepOutIdeal.τ).loc Cert.ReferenceStepOutIdeal.main_arg0)
          ∧ r.2.mem ((c.tc : Thread Cert.ReferenceStepOutIdeal.nD Cert.ReferenceStepOutIdeal.τ).loc Cert.ReferenceStepOutIdeal.main_arg1) = m' ((c.tc : Thread Cert.ReferenceStepOutIdeal.nD Cert.ReferenceStepOutIdeal.τ).loc Cert.ReferenceStepOutIdeal.main_arg1)
          ∧ r.2.mem ((c.tc : Thread Cert.ReferenceStepOutIdeal.nD Cert.ReferenceStepOutIdeal.τ).loc Cert.ReferenceStepOutIdeal.main_arg2) = m' ((c.tc : Thread Cert.ReferenceStepOutIdeal.nD Cert.ReferenceStepOutIdeal.τ).loc Cert.ReferenceStepOutIdeal.main_arg2)
          ∧ r.2.mem ((c.tc : Thread Cert.ReferenceStepOutIdeal.nD Cert.ReferenceStepOutIdeal.τ).loc Cert.ReferenceStepOutIdeal.main_arg3) = m' ((c.tc : Thread Cert.ReferenceStepOutIdeal.nD Cert.ReferenceStepOutIdeal.τ).loc Cert.ReferenceStepOutIdeal.main_arg3)
          ∧ r.2.mem ((c.tc : Thread Cert.ReferenceStepOutIdeal.nD Cert.ReferenceStepOutIdeal.τ).loc Cert.ReferenceStepOutIdeal.main_arg4) = m' ((c.tc : Thread Cert.ReferenceStepOutIdeal.nD Cert.ReferenceStepOutIdeal.τ).loc Cert.ReferenceStepOutIdeal.main_arg4)
          ∧ r.2.mem ((c.tc : Thread Cert.ReferenceStepOutIdeal.nD Cert.ReferenceStepOutIdeal.τ).loc Cert.ReferenceStepOutIdeal.main_arg5) = m' ((c.tc : Thread Cert.ReferenceStepOutIdeal.nD Cert.ReferenceStepOutIdeal.τ).loc Cert.ReferenceStepOutIdeal.main_arg5))

def preserves_KernelStepIn_KernelStepInIdeal : Prop :=
  True

def algebraic_KernelStepInIdeal_ReferenceStepInIdeal [hKernelStepInIdeal : Cert.KernelStepInIdeal.Facts] [hReferenceStepInIdeal : Cert.ReferenceStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg)
    (m' : (ℓ : Loc Cert.ReferenceStepInIdeal.nD Cert.ReferenceStepInIdeal.τ Cert.ReferenceStepInIdeal.sig) → Buf (Elt Ideal) ℓ) (g' : Dev Cert.ReferenceStepInIdeal.nD → PrngReg), Pre_KernelStepInIdeal m →
    (∀ c : Dev Cert.KernelStepInIdeal.nD,
      m' ((c.tc : Thread Cert.ReferenceStepInIdeal.nD Cert.ReferenceStepInIdeal.τ).loc Cert.ReferenceStepInIdeal.main_arg0) = m ((c.tc : Thread Cert.KernelStepInIdeal.nD Cert.KernelStepInIdeal.τ).loc Cert.KernelStepInIdeal.main_arg0)
      ∧ m' ((c.tc : Thread Cert.ReferenceStepInIdeal.nD Cert.ReferenceStepInIdeal.τ).loc Cert.ReferenceStepInIdeal.main_arg1) = m ((c.tc : Thread Cert.KernelStepInIdeal.nD Cert.KernelStepInIdeal.τ).loc Cert.KernelStepInIdeal.main_arg1)
      ∧ m' ((c.tc : Thread Cert.ReferenceStepInIdeal.nD Cert.ReferenceStepInIdeal.τ).loc Cert.ReferenceStepInIdeal.main_arg2) = m ((c.tc : Thread Cert.KernelStepInIdeal.nD Cert.KernelStepInIdeal.τ).loc Cert.KernelStepInIdeal.main_arg2)
      ∧ m' ((c.tc : Thread Cert.ReferenceStepInIdeal.nD Cert.ReferenceStepInIdeal.τ).loc Cert.ReferenceStepInIdeal.main_arg3) = m ((c.tc : Thread Cert.KernelStepInIdeal.nD Cert.KernelStepInIdeal.τ).loc Cert.KernelStepInIdeal.main_arg3)
      ∧ m' ((c.tc : Thread Cert.ReferenceStepInIdeal.nD Cert.ReferenceStepInIdeal.τ).loc Cert.ReferenceStepInIdeal.main_arg4) = m ((c.tc : Thread Cert.KernelStepInIdeal.nD Cert.KernelStepInIdeal.τ).loc Cert.KernelStepInIdeal.main_arg4)
      ∧ m' ((c.tc : Thread Cert.ReferenceStepInIdeal.nD Cert.ReferenceStepInIdeal.τ).loc Cert.ReferenceStepInIdeal.main_arg5) = m ((c.tc : Thread Cert.KernelStepInIdeal.nD Cert.KernelStepInIdeal.τ).loc Cert.KernelStepInIdeal.main_arg5)) →
    ∃ (v0 : (c : Dev Cert.KernelStepInIdeal.nD) → Buf (Elt Ideal) ((c.tc : Thread Cert.KernelStepInIdeal.nD Cert.KernelStepInIdeal.τ).loc Cert.KernelStepInIdeal.main_v0_0)) (v1 : (c : Dev Cert.KernelStepInIdeal.nD) → Buf (Elt Ideal) ((c.tc : Thread Cert.KernelStepInIdeal.nD Cert.KernelStepInIdeal.τ).loc Cert.KernelStepInIdeal.main_v0_1)) (v2 : (c : Dev Cert.KernelStepInIdeal.nD) → Buf (Elt Ideal) ((c.tc : Thread Cert.KernelStepInIdeal.nD Cert.KernelStepInIdeal.τ).loc Cert.KernelStepInIdeal.main_v0_2)) (v3 : (c : Dev Cert.KernelStepInIdeal.nD) → Buf (Elt Ideal) ((c.tc : Thread Cert.KernelStepInIdeal.nD Cert.KernelStepInIdeal.τ).loc Cert.KernelStepInIdeal.main_v0_3)),
      θ_run (Cert.KernelStepInIdeal.defs (F := Ideal)) (onTc (τ := Cert.KernelStepInIdeal.τ) (Cert.KernelStepInIdeal.main (F := Ideal))) ⟨m, fun _ => 0, g⟩ (fun r => ∀ c : Dev Cert.KernelStepInIdeal.nD,
          r.2.mem ((c.tc : Thread Cert.KernelStepInIdeal.nD Cert.KernelStepInIdeal.τ).loc Cert.KernelStepInIdeal.main_v0_0) = v0 c
          ∧ r.2.mem ((c.tc : Thread Cert.KernelStepInIdeal.nD Cert.KernelStepInIdeal.τ).loc Cert.KernelStepInIdeal.main_v0_1) = v1 c
          ∧ r.2.mem ((c.tc : Thread Cert.KernelStepInIdeal.nD Cert.KernelStepInIdeal.τ).loc Cert.KernelStepInIdeal.main_v0_2) = v2 c
          ∧ r.2.mem ((c.tc : Thread Cert.KernelStepInIdeal.nD Cert.KernelStepInIdeal.τ).loc Cert.KernelStepInIdeal.main_v0_3) = v3 c
          ∧ r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
          ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
          ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2)
          ∧ r.2.mem ((c.tc : Thread Cert.KernelStepInIdeal.nD Cert.KernelStepInIdeal.τ).loc Cert.KernelStepInIdeal.main_arg3) = m ((c.tc : Thread Cert.KernelStepInIdeal.nD Cert.KernelStepInIdeal.τ).loc Cert.KernelStepInIdeal.main_arg3)
          ∧ r.2.mem ((c.tc : Thread Cert.KernelStepInIdeal.nD Cert.KernelStepInIdeal.τ).loc Cert.KernelStepInIdeal.main_arg4) = m ((c.tc : Thread Cert.KernelStepInIdeal.nD Cert.KernelStepInIdeal.τ).loc Cert.KernelStepInIdeal.main_arg4)
          ∧ r.2.mem ((c.tc : Thread Cert.KernelStepInIdeal.nD Cert.KernelStepInIdeal.τ).loc Cert.KernelStepInIdeal.main_arg5) = m ((c.tc : Thread Cert.KernelStepInIdeal.nD Cert.KernelStepInIdeal.τ).loc Cert.KernelStepInIdeal.main_arg5))
      ∧ θ_run (Cert.ReferenceStepInIdeal.defs (F := Ideal)) (onTc (τ := Cert.ReferenceStepInIdeal.τ) (Cert.ReferenceStepInIdeal.main (F := Ideal))) ⟨m', fun _ => 0, g'⟩ (fun r => ∀ c : Dev Cert.ReferenceStepInIdeal.nD,
          r.2.mem ((c.tc : Thread Cert.ReferenceStepInIdeal.nD Cert.ReferenceStepInIdeal.τ).loc Cert.ReferenceStepInIdeal.main_v7) = v0 c
          ∧ r.2.mem ((c.tc : Thread Cert.ReferenceStepInIdeal.nD Cert.ReferenceStepInIdeal.τ).loc Cert.ReferenceStepInIdeal.main_v31) = v1 c
          ∧ r.2.mem ((c.tc : Thread Cert.ReferenceStepInIdeal.nD Cert.ReferenceStepInIdeal.τ).loc Cert.ReferenceStepInIdeal.main_v12) = v2 c
          ∧ r.2.mem ((c.tc : Thread Cert.ReferenceStepInIdeal.nD Cert.ReferenceStepInIdeal.τ).loc Cert.ReferenceStepInIdeal.main_v18) = v3 c
          ∧ r.2.mem ((c.tc : Thread Cert.ReferenceStepInIdeal.nD Cert.ReferenceStepInIdeal.τ).loc Cert.ReferenceStepInIdeal.main_arg0) = m' ((c.tc : Thread Cert.ReferenceStepInIdeal.nD Cert.ReferenceStepInIdeal.τ).loc Cert.ReferenceStepInIdeal.main_arg0)
          ∧ r.2.mem ((c.tc : Thread Cert.ReferenceStepInIdeal.nD Cert.ReferenceStepInIdeal.τ).loc Cert.ReferenceStepInIdeal.main_arg1) = m' ((c.tc : Thread Cert.ReferenceStepInIdeal.nD Cert.ReferenceStepInIdeal.τ).loc Cert.ReferenceStepInIdeal.main_arg1)
          ∧ r.2.mem ((c.tc : Thread Cert.ReferenceStepInIdeal.nD Cert.ReferenceStepInIdeal.τ).loc Cert.ReferenceStepInIdeal.main_arg2) = m' ((c.tc : Thread Cert.ReferenceStepInIdeal.nD Cert.ReferenceStepInIdeal.τ).loc Cert.ReferenceStepInIdeal.main_arg2)
          ∧ r.2.mem ((c.tc : Thread Cert.ReferenceStepInIdeal.nD Cert.ReferenceStepInIdeal.τ).loc Cert.ReferenceStepInIdeal.main_arg3) = m' ((c.tc : Thread Cert.ReferenceStepInIdeal.nD Cert.ReferenceStepInIdeal.τ).loc Cert.ReferenceStepInIdeal.main_arg3)
          ∧ r.2.mem ((c.tc : Thread Cert.ReferenceStepInIdeal.nD Cert.ReferenceStepInIdeal.τ).loc Cert.ReferenceStepInIdeal.main_arg4) = m' ((c.tc : Thread Cert.ReferenceStepInIdeal.nD Cert.ReferenceStepInIdeal.τ).loc Cert.ReferenceStepInIdeal.main_arg4)
          ∧ r.2.mem ((c.tc : Thread Cert.ReferenceStepInIdeal.nD Cert.ReferenceStepInIdeal.τ).loc Cert.ReferenceStepInIdeal.main_arg5) = m' ((c.tc : Thread Cert.ReferenceStepInIdeal.nD Cert.ReferenceStepInIdeal.τ).loc Cert.ReferenceStepInIdeal.main_arg5))

def preserves_KernelStepMlp_KernelStepMlpIdeal : Prop :=
  True

def algebraic_KernelStepMlpIdeal_ReferenceStepMlpIdeal [hKernelStepMlpIdeal : Cert.KernelStepMlpIdeal.Facts] [hReferenceStepMlpIdeal : Cert.ReferenceStepMlpIdeal.Facts] : Prop :=
  ∀ (m : (ℓ : Loc Cert.KernelStepMlpIdeal.nD Cert.KernelStepMlpIdeal.τ Cert.KernelStepMlpIdeal.sig) → Buf (Elt Ideal) ℓ) (g : Dev Cert.KernelStepMlpIdeal.nD → PrngReg)
    (m' : (ℓ : Loc Cert.ReferenceStepMlpIdeal.nD Cert.ReferenceStepMlpIdeal.τ Cert.ReferenceStepMlpIdeal.sig) → Buf (Elt Ideal) ℓ) (g' : Dev Cert.ReferenceStepMlpIdeal.nD → PrngReg), Pre_KernelStepMlpIdeal m →
    (∀ c : Dev Cert.KernelStepMlpIdeal.nD,
      m' ((c.tc : Thread Cert.ReferenceStepMlpIdeal.nD Cert.ReferenceStepMlpIdeal.τ).loc Cert.ReferenceStepMlpIdeal.main_arg0) = m ((c.tc : Thread Cert.KernelStepMlpIdeal.nD Cert.KernelStepMlpIdeal.τ).loc Cert.KernelStepMlpIdeal.main_arg0)
      ∧ m' ((c.tc : Thread Cert.ReferenceStepMlpIdeal.nD Cert.ReferenceStepMlpIdeal.τ).loc Cert.ReferenceStepMlpIdeal.main_arg1) = m ((c.tc : Thread Cert.KernelStepMlpIdeal.nD Cert.KernelStepMlpIdeal.τ).loc Cert.KernelStepMlpIdeal.main_arg1)
      ∧ m' ((c.tc : Thread Cert.ReferenceStepMlpIdeal.nD Cert.ReferenceStepMlpIdeal.τ).loc Cert.ReferenceStepMlpIdeal.main_arg2) = m ((c.tc : Thread Cert.KernelStepMlpIdeal.nD Cert.KernelStepMlpIdeal.τ).loc Cert.KernelStepMlpIdeal.main_arg2)
      ∧ m' ((c.tc : Thread Cert.ReferenceStepMlpIdeal.nD Cert.ReferenceStepMlpIdeal.τ).loc Cert.ReferenceStepMlpIdeal.main_arg3) = m ((c.tc : Thread Cert.KernelStepMlpIdeal.nD Cert.KernelStepMlpIdeal.τ).loc Cert.KernelStepMlpIdeal.main_arg3)
      ∧ m' ((c.tc : Thread Cert.ReferenceStepMlpIdeal.nD Cert.ReferenceStepMlpIdeal.τ).loc Cert.ReferenceStepMlpIdeal.main_arg4) = m ((c.tc : Thread Cert.KernelStepMlpIdeal.nD Cert.KernelStepMlpIdeal.τ).loc Cert.KernelStepMlpIdeal.main_arg4)
      ∧ m' ((c.tc : Thread Cert.ReferenceStepMlpIdeal.nD Cert.ReferenceStepMlpIdeal.τ).loc Cert.ReferenceStepMlpIdeal.main_arg5) = m ((c.tc : Thread Cert.KernelStepMlpIdeal.nD Cert.KernelStepMlpIdeal.τ).loc Cert.KernelStepMlpIdeal.main_arg5)) →
    ∃ (v0 : (c : Dev Cert.KernelStepMlpIdeal.nD) → Buf (Elt Ideal) ((c.tc : Thread Cert.KernelStepMlpIdeal.nD Cert.KernelStepMlpIdeal.τ).loc Cert.KernelStepMlpIdeal.main_v0_0)) (v1 : (c : Dev Cert.KernelStepMlpIdeal.nD) → Buf (Elt Ideal) ((c.tc : Thread Cert.KernelStepMlpIdeal.nD Cert.KernelStepMlpIdeal.τ).loc Cert.KernelStepMlpIdeal.main_v0_1)) (v2 : (c : Dev Cert.KernelStepMlpIdeal.nD) → Buf (Elt Ideal) ((c.tc : Thread Cert.KernelStepMlpIdeal.nD Cert.KernelStepMlpIdeal.τ).loc Cert.KernelStepMlpIdeal.main_v0_2)) (v3 : (c : Dev Cert.KernelStepMlpIdeal.nD) → Buf (Elt Ideal) ((c.tc : Thread Cert.KernelStepMlpIdeal.nD Cert.KernelStepMlpIdeal.τ).loc Cert.KernelStepMlpIdeal.main_v0_3)),
      θ_run (Cert.KernelStepMlpIdeal.defs (F := Ideal)) (onTc (τ := Cert.KernelStepMlpIdeal.τ) (Cert.KernelStepMlpIdeal.main (F := Ideal))) ⟨m, fun _ => 0, g⟩ (fun r => ∀ c : Dev Cert.KernelStepMlpIdeal.nD,
          r.2.mem ((c.tc : Thread Cert.KernelStepMlpIdeal.nD Cert.KernelStepMlpIdeal.τ).loc Cert.KernelStepMlpIdeal.main_v0_0) = v0 c
          ∧ r.2.mem ((c.tc : Thread Cert.KernelStepMlpIdeal.nD Cert.KernelStepMlpIdeal.τ).loc Cert.KernelStepMlpIdeal.main_v0_1) = v1 c
          ∧ r.2.mem ((c.tc : Thread Cert.KernelStepMlpIdeal.nD Cert.KernelStepMlpIdeal.τ).loc Cert.KernelStepMlpIdeal.main_v0_2) = v2 c
          ∧ r.2.mem ((c.tc : Thread Cert.KernelStepMlpIdeal.nD Cert.KernelStepMlpIdeal.τ).loc Cert.KernelStepMlpIdeal.main_v0_3) = v3 c
          ∧ r.2.mem ((c.tc : Thread Cert.KernelStepMlpIdeal.nD Cert.KernelStepMlpIdeal.τ).loc Cert.KernelStepMlpIdeal.main_arg0) = m ((c.tc : Thread Cert.KernelStepMlpIdeal.nD Cert.KernelStepMlpIdeal.τ).loc Cert.KernelStepMlpIdeal.main_arg0)
          ∧ r.2.mem ((c.tc : Thread Cert.KernelStepMlpIdeal.nD Cert.KernelStepMlpIdeal.τ).loc Cert.KernelStepMlpIdeal.main_arg1) = m ((c.tc : Thread Cert.KernelStepMlpIdeal.nD Cert.KernelStepMlpIdeal.τ).loc Cert.KernelStepMlpIdeal.main_arg1)
          ∧ r.2.mem ((c.tc : Thread Cert.KernelStepMlpIdeal.nD Cert.KernelStepMlpIdeal.τ).loc Cert.KernelStepMlpIdeal.main_arg2) = m ((c.tc : Thread Cert.KernelStepMlpIdeal.nD Cert.KernelStepMlpIdeal.τ).loc Cert.KernelStepMlpIdeal.main_arg2)
          ∧ r.2.mem ((c.tc : Thread Cert.KernelStepMlpIdeal.nD Cert.KernelStepMlpIdeal.τ).loc Cert.KernelStepMlpIdeal.main_arg3) = m ((c.tc : Thread Cert.KernelStepMlpIdeal.nD Cert.KernelStepMlpIdeal.τ).loc Cert.KernelStepMlpIdeal.main_arg3)
          ∧ r.2.mem ((c.tc : Thread Cert.KernelStepMlpIdeal.nD Cert.KernelStepMlpIdeal.τ).loc Cert.KernelStepMlpIdeal.main_arg4) = m ((c.tc : Thread Cert.KernelStepMlpIdeal.nD Cert.KernelStepMlpIdeal.τ).loc Cert.KernelStepMlpIdeal.main_arg4)
          ∧ r.2.mem ((c.tc : Thread Cert.KernelStepMlpIdeal.nD Cert.KernelStepMlpIdeal.τ).loc Cert.KernelStepMlpIdeal.main_arg5) = m ((c.tc : Thread Cert.KernelStepMlpIdeal.nD Cert.KernelStepMlpIdeal.τ).loc Cert.KernelStepMlpIdeal.main_arg5))
      ∧ θ_run (Cert.ReferenceStepMlpIdeal.defs (F := Ideal)) (onTc (τ := Cert.ReferenceStepMlpIdeal.τ) (Cert.ReferenceStepMlpIdeal.main (F := Ideal))) ⟨m', fun _ => 0, g'⟩ (fun r => ∀ c : Dev Cert.ReferenceStepMlpIdeal.nD,
          r.2.mem ((c.tc : Thread Cert.ReferenceStepMlpIdeal.nD Cert.ReferenceStepMlpIdeal.τ).loc Cert.ReferenceStepMlpIdeal.main_v7) = v0 c
          ∧ r.2.mem ((c.tc : Thread Cert.ReferenceStepMlpIdeal.nD Cert.ReferenceStepMlpIdeal.τ).loc Cert.ReferenceStepMlpIdeal.main_v31) = v1 c
          ∧ r.2.mem ((c.tc : Thread Cert.ReferenceStepMlpIdeal.nD Cert.ReferenceStepMlpIdeal.τ).loc Cert.ReferenceStepMlpIdeal.main_v12) = v2 c
          ∧ r.2.mem ((c.tc : Thread Cert.ReferenceStepMlpIdeal.nD Cert.ReferenceStepMlpIdeal.τ).loc Cert.ReferenceStepMlpIdeal.main_v18) = v3 c
          ∧ r.2.mem ((c.tc : Thread Cert.ReferenceStepMlpIdeal.nD Cert.ReferenceStepMlpIdeal.τ).loc Cert.ReferenceStepMlpIdeal.main_arg0) = m' ((c.tc : Thread Cert.ReferenceStepMlpIdeal.nD Cert.ReferenceStepMlpIdeal.τ).loc Cert.ReferenceStepMlpIdeal.main_arg0)
          ∧ r.2.mem ((c.tc : Thread Cert.ReferenceStepMlpIdeal.nD Cert.ReferenceStepMlpIdeal.τ).loc Cert.ReferenceStepMlpIdeal.main_arg1) = m' ((c.tc : Thread Cert.ReferenceStepMlpIdeal.nD Cert.ReferenceStepMlpIdeal.τ).loc Cert.ReferenceStepMlpIdeal.main_arg1)
          ∧ r.2.mem ((c.tc : Thread Cert.ReferenceStepMlpIdeal.nD Cert.ReferenceStepMlpIdeal.τ).loc Cert.ReferenceStepMlpIdeal.main_arg2) = m' ((c.tc : Thread Cert.ReferenceStepMlpIdeal.nD Cert.ReferenceStepMlpIdeal.τ).loc Cert.ReferenceStepMlpIdeal.main_arg2)
          ∧ r.2.mem ((c.tc : Thread Cert.ReferenceStepMlpIdeal.nD Cert.ReferenceStepMlpIdeal.τ).loc Cert.ReferenceStepMlpIdeal.main_arg3) = m' ((c.tc : Thread Cert.ReferenceStepMlpIdeal.nD Cert.ReferenceStepMlpIdeal.τ).loc Cert.ReferenceStepMlpIdeal.main_arg3)
          ∧ r.2.mem ((c.tc : Thread Cert.ReferenceStepMlpIdeal.nD Cert.ReferenceStepMlpIdeal.τ).loc Cert.ReferenceStepMlpIdeal.main_arg4) = m' ((c.tc : Thread Cert.ReferenceStepMlpIdeal.nD Cert.ReferenceStepMlpIdeal.τ).loc Cert.ReferenceStepMlpIdeal.main_arg4)
          ∧ r.2.mem ((c.tc : Thread Cert.ReferenceStepMlpIdeal.nD Cert.ReferenceStepMlpIdeal.τ).loc Cert.ReferenceStepMlpIdeal.main_arg5) = m' ((c.tc : Thread Cert.ReferenceStepMlpIdeal.nD Cert.ReferenceStepMlpIdeal.τ).loc Cert.ReferenceStepMlpIdeal.main_arg5))

def preserves_KernelNormDx_KernelNormDxIdeal : Prop :=
  True

def algebraic_KernelNormDxIdeal_ReferenceNormDxIdeal [hKernelNormDxIdeal : Cert.KernelNormDxIdeal.Facts] [hReferenceNormDxIdeal : Cert.ReferenceNormDxIdeal.Facts] : Prop :=
  ∀ (m : (ℓ : Loc Cert.KernelNormDxIdeal.nD Cert.KernelNormDxIdeal.τ Cert.KernelNormDxIdeal.sig) → Buf (Elt Ideal) ℓ) (g : Dev Cert.KernelNormDxIdeal.nD → PrngReg)
    (m' : (ℓ : Loc Cert.ReferenceNormDxIdeal.nD Cert.ReferenceNormDxIdeal.τ Cert.ReferenceNormDxIdeal.sig) → Buf (Elt Ideal) ℓ) (g' : Dev Cert.ReferenceNormDxIdeal.nD → PrngReg), Pre_KernelNormDxIdeal m →
    (∀ c : Dev Cert.KernelNormDxIdeal.nD,
      m' ((c.tc : Thread Cert.ReferenceNormDxIdeal.nD Cert.ReferenceNormDxIdeal.τ).loc Cert.ReferenceNormDxIdeal.main_arg0) = m ((c.tc : Thread Cert.KernelNormDxIdeal.nD Cert.KernelNormDxIdeal.τ).loc Cert.KernelNormDxIdeal.main_arg0)
      ∧ m' ((c.tc : Thread Cert.ReferenceNormDxIdeal.nD Cert.ReferenceNormDxIdeal.τ).loc Cert.ReferenceNormDxIdeal.main_arg1) = m ((c.tc : Thread Cert.KernelNormDxIdeal.nD Cert.KernelNormDxIdeal.τ).loc Cert.KernelNormDxIdeal.main_arg1)
      ∧ m' ((c.tc : Thread Cert.ReferenceNormDxIdeal.nD Cert.ReferenceNormDxIdeal.τ).loc Cert.ReferenceNormDxIdeal.main_arg2) = m ((c.tc : Thread Cert.KernelNormDxIdeal.nD Cert.KernelNormDxIdeal.τ).loc Cert.KernelNormDxIdeal.main_arg2)
      ∧ m' ((c.tc : Thread Cert.ReferenceNormDxIdeal.nD Cert.ReferenceNormDxIdeal.τ).loc Cert.ReferenceNormDxIdeal.main_arg3) = m ((c.tc : Thread Cert.KernelNormDxIdeal.nD Cert.KernelNormDxIdeal.τ).loc Cert.KernelNormDxIdeal.main_arg3)) →
    ∃ (v0 : (c : Dev Cert.KernelNormDxIdeal.nD) → Buf (Elt Ideal) ((c.tc : Thread Cert.KernelNormDxIdeal.nD Cert.KernelNormDxIdeal.τ).loc Cert.KernelNormDxIdeal.main_v0_0)),
      θ_run (Cert.KernelNormDxIdeal.defs (F := Ideal)) (onTc (τ := Cert.KernelNormDxIdeal.τ) (Cert.KernelNormDxIdeal.main (F := Ideal))) ⟨m, fun _ => 0, g⟩ (fun r => ∀ c : Dev Cert.KernelNormDxIdeal.nD,
          r.2.mem ((c.tc : Thread Cert.KernelNormDxIdeal.nD Cert.KernelNormDxIdeal.τ).loc Cert.KernelNormDxIdeal.main_v0_0) = v0 c
          ∧ r.2.mem ((c.tc : Thread Cert.KernelNormDxIdeal.nD Cert.KernelNormDxIdeal.τ).loc Cert.KernelNormDxIdeal.main_arg0) = m ((c.tc : Thread Cert.KernelNormDxIdeal.nD Cert.KernelNormDxIdeal.τ).loc Cert.KernelNormDxIdeal.main_arg0)
          ∧ r.2.mem ((c.tc : Thread Cert.KernelNormDxIdeal.nD Cert.KernelNormDxIdeal.τ).loc Cert.KernelNormDxIdeal.main_arg1) = m ((c.tc : Thread Cert.KernelNormDxIdeal.nD Cert.KernelNormDxIdeal.τ).loc Cert.KernelNormDxIdeal.main_arg1)
          ∧ r.2.mem ((c.tc : Thread Cert.KernelNormDxIdeal.nD Cert.KernelNormDxIdeal.τ).loc Cert.KernelNormDxIdeal.main_arg2) = m ((c.tc : Thread Cert.KernelNormDxIdeal.nD Cert.KernelNormDxIdeal.τ).loc Cert.KernelNormDxIdeal.main_arg2)
          ∧ r.2.mem ((c.tc : Thread Cert.KernelNormDxIdeal.nD Cert.KernelNormDxIdeal.τ).loc Cert.KernelNormDxIdeal.main_arg3) = m ((c.tc : Thread Cert.KernelNormDxIdeal.nD Cert.KernelNormDxIdeal.τ).loc Cert.KernelNormDxIdeal.main_arg3))
      ∧ θ_run (Cert.ReferenceNormDxIdeal.defs (F := Ideal)) (onTc (τ := Cert.ReferenceNormDxIdeal.τ) (Cert.ReferenceNormDxIdeal.main (F := Ideal))) ⟨m', fun _ => 0, g'⟩ (fun r => ∀ c : Dev Cert.ReferenceNormDxIdeal.nD,
          r.2.mem ((c.tc : Thread Cert.ReferenceNormDxIdeal.nD Cert.ReferenceNormDxIdeal.τ).loc Cert.ReferenceNormDxIdeal.main_v36) = v0 c
          ∧ r.2.mem ((c.tc : Thread Cert.ReferenceNormDxIdeal.nD Cert.ReferenceNormDxIdeal.τ).loc Cert.ReferenceNormDxIdeal.main_arg0) = m' ((c.tc : Thread Cert.ReferenceNormDxIdeal.nD Cert.ReferenceNormDxIdeal.τ).loc Cert.ReferenceNormDxIdeal.main_arg0)
          ∧ r.2.mem ((c.tc : Thread Cert.ReferenceNormDxIdeal.nD Cert.ReferenceNormDxIdeal.τ).loc Cert.ReferenceNormDxIdeal.main_arg1) = m' ((c.tc : Thread Cert.ReferenceNormDxIdeal.nD Cert.ReferenceNormDxIdeal.τ).loc Cert.ReferenceNormDxIdeal.main_arg1)
          ∧ r.2.mem ((c.tc : Thread Cert.ReferenceNormDxIdeal.nD Cert.ReferenceNormDxIdeal.τ).loc Cert.ReferenceNormDxIdeal.main_arg2) = m' ((c.tc : Thread Cert.ReferenceNormDxIdeal.nD Cert.ReferenceNormDxIdeal.τ).loc Cert.ReferenceNormDxIdeal.main_arg2)
          ∧ r.2.mem ((c.tc : Thread Cert.ReferenceNormDxIdeal.nD Cert.ReferenceNormDxIdeal.τ).loc Cert.ReferenceNormDxIdeal.main_arg3) = m' ((c.tc : Thread Cert.ReferenceNormDxIdeal.nD Cert.ReferenceNormDxIdeal.τ).loc Cert.ReferenceNormDxIdeal.main_arg3))

def preserves_KernelNorm2Dx_KernelNorm2DxIdeal : Prop :=
  True

def algebraic_KernelNorm2DxIdeal_ReferenceNorm2DxIdeal [hKernelNorm2DxIdeal : Cert.KernelNorm2DxIdeal.Facts] [hReferenceNorm2DxIdeal : Cert.ReferenceNorm2DxIdeal.Facts] : Prop :=
  ∀ (m : (ℓ : Loc Cert.KernelNorm2DxIdeal.nD Cert.KernelNorm2DxIdeal.τ Cert.KernelNorm2DxIdeal.sig) → Buf (Elt Ideal) ℓ) (g : Dev Cert.KernelNorm2DxIdeal.nD → PrngReg)
    (m' : (ℓ : Loc Cert.ReferenceNorm2DxIdeal.nD Cert.ReferenceNorm2DxIdeal.τ Cert.ReferenceNorm2DxIdeal.sig) → Buf (Elt Ideal) ℓ) (g' : Dev Cert.ReferenceNorm2DxIdeal.nD → PrngReg), Pre_KernelNorm2DxIdeal m →
    (∀ c : Dev Cert.KernelNorm2DxIdeal.nD,
      m' ((c.tc : Thread Cert.ReferenceNorm2DxIdeal.nD Cert.ReferenceNorm2DxIdeal.τ).loc Cert.ReferenceNorm2DxIdeal.main_arg0) = m ((c.tc : Thread Cert.KernelNorm2DxIdeal.nD Cert.KernelNorm2DxIdeal.τ).loc Cert.KernelNorm2DxIdeal.main_arg0)
      ∧ m' ((c.tc : Thread Cert.ReferenceNorm2DxIdeal.nD Cert.ReferenceNorm2DxIdeal.τ).loc Cert.ReferenceNorm2DxIdeal.main_arg1) = m ((c.tc : Thread Cert.KernelNorm2DxIdeal.nD Cert.KernelNorm2DxIdeal.τ).loc Cert.KernelNorm2DxIdeal.main_arg1)
      ∧ m' ((c.tc : Thread Cert.ReferenceNorm2DxIdeal.nD Cert.ReferenceNorm2DxIdeal.τ).loc Cert.ReferenceNorm2DxIdeal.main_arg2) = m ((c.tc : Thread Cert.KernelNorm2DxIdeal.nD Cert.KernelNorm2DxIdeal.τ).loc Cert.KernelNorm2DxIdeal.main_arg2)
      ∧ m' ((c.tc : Thread Cert.ReferenceNorm2DxIdeal.nD Cert.ReferenceNorm2DxIdeal.τ).loc Cert.ReferenceNorm2DxIdeal.main_arg3) = m ((c.tc : Thread Cert.KernelNorm2DxIdeal.nD Cert.KernelNorm2DxIdeal.τ).loc Cert.KernelNorm2DxIdeal.main_arg3)) →
    ∃ (v0 : (c : Dev Cert.KernelNorm2DxIdeal.nD) → Buf (Elt Ideal) ((c.tc : Thread Cert.KernelNorm2DxIdeal.nD Cert.KernelNorm2DxIdeal.τ).loc Cert.KernelNorm2DxIdeal.main_v0_0)) (v1 : (c : Dev Cert.KernelNorm2DxIdeal.nD) → Buf (Elt Ideal) ((c.tc : Thread Cert.KernelNorm2DxIdeal.nD Cert.KernelNorm2DxIdeal.τ).loc Cert.KernelNorm2DxIdeal.main_v0_1)),
      θ_run (Cert.KernelNorm2DxIdeal.defs (F := Ideal)) (onTc (τ := Cert.KernelNorm2DxIdeal.τ) (Cert.KernelNorm2DxIdeal.main (F := Ideal))) ⟨m, fun _ => 0, g⟩ (fun r => ∀ c : Dev Cert.KernelNorm2DxIdeal.nD,
          r.2.mem ((c.tc : Thread Cert.KernelNorm2DxIdeal.nD Cert.KernelNorm2DxIdeal.τ).loc Cert.KernelNorm2DxIdeal.main_v0_0) = v0 c
          ∧ r.2.mem ((c.tc : Thread Cert.KernelNorm2DxIdeal.nD Cert.KernelNorm2DxIdeal.τ).loc Cert.KernelNorm2DxIdeal.main_v0_1) = v1 c
          ∧ r.2.mem ((c.tc : Thread Cert.KernelNorm2DxIdeal.nD Cert.KernelNorm2DxIdeal.τ).loc Cert.KernelNorm2DxIdeal.main_arg0) = m ((c.tc : Thread Cert.KernelNorm2DxIdeal.nD Cert.KernelNorm2DxIdeal.τ).loc Cert.KernelNorm2DxIdeal.main_arg0)
          ∧ r.2.mem ((c.tc : Thread Cert.KernelNorm2DxIdeal.nD Cert.KernelNorm2DxIdeal.τ).loc Cert.KernelNorm2DxIdeal.main_arg1) = m ((c.tc : Thread Cert.KernelNorm2DxIdeal.nD Cert.KernelNorm2DxIdeal.τ).loc Cert.KernelNorm2DxIdeal.main_arg1)
          ∧ r.2.mem ((c.tc : Thread Cert.KernelNorm2DxIdeal.nD Cert.KernelNorm2DxIdeal.τ).loc Cert.KernelNorm2DxIdeal.main_arg2) = m ((c.tc : Thread Cert.KernelNorm2DxIdeal.nD Cert.KernelNorm2DxIdeal.τ).loc Cert.KernelNorm2DxIdeal.main_arg2)
          ∧ r.2.mem ((c.tc : Thread Cert.KernelNorm2DxIdeal.nD Cert.KernelNorm2DxIdeal.τ).loc Cert.KernelNorm2DxIdeal.main_arg3) = m ((c.tc : Thread Cert.KernelNorm2DxIdeal.nD Cert.KernelNorm2DxIdeal.τ).loc Cert.KernelNorm2DxIdeal.main_arg3))
      ∧ θ_run (Cert.ReferenceNorm2DxIdeal.defs (F := Ideal)) (onTc (τ := Cert.ReferenceNorm2DxIdeal.τ) (Cert.ReferenceNorm2DxIdeal.main (F := Ideal))) ⟨m', fun _ => 0, g'⟩ (fun r => ∀ c : Dev Cert.ReferenceNorm2DxIdeal.nD,
          r.2.mem ((c.tc : Thread Cert.ReferenceNorm2DxIdeal.nD Cert.ReferenceNorm2DxIdeal.τ).loc Cert.ReferenceNorm2DxIdeal.main_v37) = v0 c
          ∧ r.2.mem ((c.tc : Thread Cert.ReferenceNorm2DxIdeal.nD Cert.ReferenceNorm2DxIdeal.τ).loc Cert.ReferenceNorm2DxIdeal.main_v38) = v1 c
          ∧ r.2.mem ((c.tc : Thread Cert.ReferenceNorm2DxIdeal.nD Cert.ReferenceNorm2DxIdeal.τ).loc Cert.ReferenceNorm2DxIdeal.main_arg0) = m' ((c.tc : Thread Cert.ReferenceNorm2DxIdeal.nD Cert.ReferenceNorm2DxIdeal.τ).loc Cert.ReferenceNorm2DxIdeal.main_arg0)
          ∧ r.2.mem ((c.tc : Thread Cert.ReferenceNorm2DxIdeal.nD Cert.ReferenceNorm2DxIdeal.τ).loc Cert.ReferenceNorm2DxIdeal.main_arg1) = m' ((c.tc : Thread Cert.ReferenceNorm2DxIdeal.nD Cert.ReferenceNorm2DxIdeal.τ).loc Cert.ReferenceNorm2DxIdeal.main_arg1)
          ∧ r.2.mem ((c.tc : Thread Cert.ReferenceNorm2DxIdeal.nD Cert.ReferenceNorm2DxIdeal.τ).loc Cert.ReferenceNorm2DxIdeal.main_arg2) = m' ((c.tc : Thread Cert.ReferenceNorm2DxIdeal.nD Cert.ReferenceNorm2DxIdeal.τ).loc Cert.ReferenceNorm2DxIdeal.main_arg2)
          ∧ r.2.mem ((c.tc : Thread Cert.ReferenceNorm2DxIdeal.nD Cert.ReferenceNorm2DxIdeal.τ).loc Cert.ReferenceNorm2DxIdeal.main_arg3) = m' ((c.tc : Thread Cert.ReferenceNorm2DxIdeal.nD Cert.ReferenceNorm2DxIdeal.τ).loc Cert.ReferenceNorm2DxIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)
      ∧ m' ((c.tc : Thread Cert.ReferenceDownDxIdeal.nD Cert.ReferenceDownDxIdeal.τ).loc Cert.ReferenceDownDxIdeal.main_arg2) = m ((c.tc : Thread Cert.KernelDownDxIdeal.nD Cert.KernelDownDxIdeal.τ).loc Cert.KernelDownDxIdeal.main_arg2)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1)
          ∧ r.2.mem ((c.tc : Thread Cert.KernelDownDxIdeal.nD Cert.KernelDownDxIdeal.τ).loc Cert.KernelDownDxIdeal.main_arg2) = m ((c.tc : Thread Cert.KernelDownDxIdeal.nD Cert.KernelDownDxIdeal.τ).loc Cert.KernelDownDxIdeal.main_arg2))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v7) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1)
          ∧ r.2.mem ((c.tc : Thread Cert.ReferenceDownDxIdeal.nD Cert.ReferenceDownDxIdeal.τ).loc Cert.ReferenceDownDxIdeal.main_arg2) = m' ((c.tc : Thread Cert.ReferenceDownDxIdeal.nD Cert.ReferenceDownDxIdeal.τ).loc Cert.ReferenceDownDxIdeal.main_arg2))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v4) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v1) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v1) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def Claim : Prop :=
  ∃ (hKernelUpDw : Cert.KernelUpDw.Facts) (hKernelUpDwIdeal : Cert.KernelUpDwIdeal.Facts) (hReferenceUpDwIdeal : Cert.ReferenceUpDwIdeal.Facts) (hKernelSiblingRows : Cert.KernelSiblingRows.Facts) (hKernelSiblingRowsIdeal : Cert.KernelSiblingRowsIdeal.Facts) (hReferenceSiblingRowsIdeal : Cert.ReferenceSiblingRowsIdeal.Facts) (hKernelOwnRows : Cert.KernelOwnRows.Facts) (hKernelOwnRowsIdeal : Cert.KernelOwnRowsIdeal.Facts) (hReferenceOwnRowsIdeal : Cert.ReferenceOwnRowsIdeal.Facts) (hKernelProjDx : Cert.KernelProjDx.Facts) (hKernelProjDxIdeal : Cert.KernelProjDxIdeal.Facts) (hReferenceProjDxIdeal : Cert.ReferenceProjDxIdeal.Facts) (hKernelUpDx : Cert.KernelUpDx.Facts) (hKernelUpDxIdeal : Cert.KernelUpDxIdeal.Facts) (hReferenceUpDxIdeal : Cert.ReferenceUpDxIdeal.Facts) (hKernelStepRow : Cert.KernelStepRow.Facts) (hKernelStepRowIdeal : Cert.KernelStepRowIdeal.Facts) (hReferenceStepRowIdeal : Cert.ReferenceStepRowIdeal.Facts) (hKernelStepMeta : Cert.KernelStepMeta.Facts) (hKernelStepMetaIdeal : Cert.KernelStepMetaIdeal.Facts) (hReferenceStepMetaIdeal : Cert.ReferenceStepMetaIdeal.Facts) (hKernelStepConv : Cert.KernelStepConv.Facts) (hKernelStepConvIdeal : Cert.KernelStepConvIdeal.Facts) (hReferenceStepConvIdeal : Cert.ReferenceStepConvIdeal.Facts) (hKernelStepBias : Cert.KernelStepBias.Facts) (hKernelStepBiasIdeal : Cert.KernelStepBiasIdeal.Facts) (hReferenceStepBiasIdeal : Cert.ReferenceStepBiasIdeal.Facts) (hKernelStepPool : Cert.KernelStepPool.Facts) (hKernelStepPoolIdeal : Cert.KernelStepPoolIdeal.Facts) (hReferenceStepPoolIdeal : Cert.ReferenceStepPoolIdeal.Facts) (hKernelStepGate : Cert.KernelStepGate.Facts) (hKernelStepGateIdeal : Cert.KernelStepGateIdeal.Facts) (hReferenceStepGateIdeal : Cert.ReferenceStepGateIdeal.Facts) (hKernelStepOut : Cert.KernelStepOut.Facts) (hKernelStepOutIdeal : Cert.KernelStepOutIdeal.Facts) (hReferenceStepOutIdeal : Cert.ReferenceStepOutIdeal.Facts) (hKernelStepIn : Cert.KernelStepIn.Facts) (hKernelStepInIdeal : Cert.KernelStepInIdeal.Facts) (hReferenceStepInIdeal : Cert.ReferenceStepInIdeal.Facts) (hKernelStepMlp : Cert.KernelStepMlp.Facts) (hKernelStepMlpIdeal : Cert.KernelStepMlpIdeal.Facts) (hReferenceStepMlpIdeal : Cert.ReferenceStepMlpIdeal.Facts) (hKernelNormDx : Cert.KernelNormDx.Facts) (hKernelNormDxIdeal : Cert.KernelNormDxIdeal.Facts) (hReferenceNormDxIdeal : Cert.ReferenceNormDxIdeal.Facts) (hKernelNorm2Dx : Cert.KernelNorm2Dx.Facts) (hKernelNorm2DxIdeal : Cert.KernelNorm2DxIdeal.Facts) (hReferenceNorm2DxIdeal : Cert.ReferenceNorm2DxIdeal.Facts) (hKernelDown : Cert.KernelDown.Facts) (hKernelDownIdeal : Cert.KernelDownIdeal.Facts) (hReferenceDownIdeal : Cert.ReferenceDownIdeal.Facts) (hKernelDownDx : Cert.KernelDownDx.Facts) (hKernelDownDxIdeal : Cert.KernelDownDxIdeal.Facts) (hReferenceDownDxIdeal : Cert.ReferenceDownDxIdeal.Facts) (hKernelDownDw : Cert.KernelDownDw.Facts) (hKernelDownDwIdeal : Cert.KernelDownDwIdeal.Facts) (hReferenceDownDwIdeal : Cert.ReferenceDownDwIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hOn_near_chips : Cert.On_near_chips.Facts),
    quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelSiblingRows (hKernelSiblingRows := hKernelSiblingRows)
    ∧ quiescent_KernelSiblingRowsIdeal (hKernelSiblingRowsIdeal := hKernelSiblingRowsIdeal)
    ∧ quiescent_ReferenceSiblingRowsIdeal (hReferenceSiblingRowsIdeal := hReferenceSiblingRowsIdeal)
    ∧ quiescent_KernelOwnRows (hKernelOwnRows := hKernelOwnRows)
    ∧ quiescent_KernelOwnRowsIdeal (hKernelOwnRowsIdeal := hKernelOwnRowsIdeal)
    ∧ quiescent_ReferenceOwnRowsIdeal (hReferenceOwnRowsIdeal := hReferenceOwnRowsIdeal)
    ∧ quiescent_KernelProjDx (hKernelProjDx := hKernelProjDx)
    ∧ quiescent_KernelProjDxIdeal (hKernelProjDxIdeal := hKernelProjDxIdeal)
    ∧ quiescent_ReferenceProjDxIdeal (hReferenceProjDxIdeal := hReferenceProjDxIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelStepRow (hKernelStepRow := hKernelStepRow)
    ∧ quiescent_KernelStepRowIdeal (hKernelStepRowIdeal := hKernelStepRowIdeal)
    ∧ quiescent_ReferenceStepRowIdeal (hReferenceStepRowIdeal := hReferenceStepRowIdeal)
    ∧ quiescent_KernelStepMeta (hKernelStepMeta := hKernelStepMeta)
    ∧ quiescent_KernelStepMetaIdeal (hKernelStepMetaIdeal := hKernelStepMetaIdeal)
    ∧ quiescent_ReferenceStepMetaIdeal (hReferenceStepMetaIdeal := hReferenceStepMetaIdeal)
    ∧ quiescent_KernelStepConv (hKernelStepConv := hKernelStepConv)
    ∧ quiescent_KernelStepConvIdeal (hKernelStepConvIdeal := hKernelStepConvIdeal)
    ∧ quiescent_ReferenceStepConvIdeal (hReferenceStepConvIdeal := hReferenceStepConvIdeal)
    ∧ quiescent_KernelStepBias (hKernelStepBias := hKernelStepBias)
    ∧ quiescent_KernelStepBiasIdeal (hKernelStepBiasIdeal := hKernelStepBiasIdeal)
    ∧ quiescent_ReferenceStepBiasIdeal (hReferenceStepBiasIdeal := hReferenceStepBiasIdeal)
    ∧ quiescent_KernelStepPool (hKernelStepPool := hKernelStepPool)
    ∧ quiescent_KernelStepPoolIdeal (hKernelStepPoolIdeal := hKernelStepPoolIdeal)
    ∧ quiescent_ReferenceStepPoolIdeal (hReferenceStepPoolIdeal := hReferenceStepPoolIdeal)
    ∧ quiescent_KernelStepGate (hKernelStepGate := hKernelStepGate)
    ∧ quiescent_KernelStepGateIdeal (hKernelStepGateIdeal := hKernelStepGateIdeal)
    ∧ quiescent_ReferenceStepGateIdeal (hReferenceStepGateIdeal := hReferenceStepGateIdeal)
    ∧ quiescent_KernelStepOut (hKernelStepOut := hKernelStepOut)
    ∧ quiescent_KernelStepOutIdeal (hKernelStepOutIdeal := hKernelStepOutIdeal)
    ∧ quiescent_ReferenceStepOutIdeal (hReferenceStepOutIdeal := hReferenceStepOutIdeal)
    ∧ quiescent_KernelStepIn (hKernelStepIn := hKernelStepIn)
    ∧ quiescent_KernelStepInIdeal (hKernelStepInIdeal := hKernelStepInIdeal)
    ∧ quiescent_ReferenceStepInIdeal (hReferenceStepInIdeal := hReferenceStepInIdeal)
    ∧ quiescent_KernelStepMlp (hKernelStepMlp := hKernelStepMlp)
    ∧ quiescent_KernelStepMlpIdeal (hKernelStepMlpIdeal := hKernelStepMlpIdeal)
    ∧ quiescent_ReferenceStepMlpIdeal (hReferenceStepMlpIdeal := hReferenceStepMlpIdeal)
    ∧ quiescent_KernelNormDx (hKernelNormDx := hKernelNormDx)
    ∧ quiescent_KernelNormDxIdeal (hKernelNormDxIdeal := hKernelNormDxIdeal)
    ∧ quiescent_ReferenceNormDxIdeal (hReferenceNormDxIdeal := hReferenceNormDxIdeal)
    ∧ quiescent_KernelNorm2Dx (hKernelNorm2Dx := hKernelNorm2Dx)
    ∧ quiescent_KernelNorm2DxIdeal (hKernelNorm2DxIdeal := hKernelNorm2DxIdeal)
    ∧ quiescent_ReferenceNorm2DxIdeal (hReferenceNorm2DxIdeal := hReferenceNorm2DxIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelSiblingRows_KernelSiblingRowsIdeal
    ∧ algebraic_KernelSiblingRowsIdeal_ReferenceSiblingRowsIdeal (hKernelSiblingRowsIdeal := hKernelSiblingRowsIdeal) (hReferenceSiblingRowsIdeal := hReferenceSiblingRowsIdeal)
    ∧ preserves_KernelOwnRows_KernelOwnRowsIdeal
    ∧ algebraic_KernelOwnRowsIdeal_ReferenceOwnRowsIdeal (hKernelOwnRowsIdeal := hKernelOwnRowsIdeal) (hReferenceOwnRowsIdeal := hReferenceOwnRowsIdeal)
    ∧ preserves_KernelProjDx_KernelProjDxIdeal
    ∧ algebraic_KernelProjDxIdeal_ReferenceProjDxIdeal (hKernelProjDxIdeal := hKernelProjDxIdeal) (hReferenceProjDxIdeal := hReferenceProjDxIdeal)
    ∧ preserves_KernelUpDx_KernelUpDxIdeal
    ∧ algebraic_KernelUpDxIdeal_ReferenceUpDxIdeal_on_near_chips (hKernelUpDxIdeal := hKernelUpDxIdeal) (hReferenceUpDxIdeal := hReferenceUpDxIdeal) (hOn_near_chips := hOn_near_chips)
    ∧ preserves_KernelStepRow_KernelStepRowIdeal
    ∧ algebraic_KernelStepRowIdeal_ReferenceStepRowIdeal (hKernelStepRowIdeal := hKernelStepRowIdeal) (hReferenceStepRowIdeal := hReferenceStepRowIdeal)
    ∧ preserves_KernelStepMeta_KernelStepMetaIdeal
    ∧ algebraic_KernelStepMetaIdeal_ReferenceStepMetaIdeal (hKernelStepMetaIdeal := hKernelStepMetaIdeal) (hReferenceStepMetaIdeal := hReferenceStepMetaIdeal)
    ∧ preserves_KernelStepConv_KernelStepConvIdeal
    ∧ algebraic_KernelStepConvIdeal_ReferenceStepConvIdeal (hKernelStepConvIdeal := hKernelStepConvIdeal) (hReferenceStepConvIdeal := hReferenceStepConvIdeal)
    ∧ preserves_KernelStepBias_KernelStepBiasIdeal
    ∧ algebraic_KernelStepBiasIdeal_ReferenceStepBiasIdeal (hKernelStepBiasIdeal := hKernelStepBiasIdeal) (hReferenceStepBiasIdeal := hReferenceStepBiasIdeal)
    ∧ preserves_KernelStepPool_KernelStepPoolIdeal
    ∧ algebraic_KernelStepPoolIdeal_ReferenceStepPoolIdeal (hKernelStepPoolIdeal := hKernelStepPoolIdeal) (hReferenceStepPoolIdeal := hReferenceStepPoolIdeal)
    ∧ preserves_KernelStepGate_KernelStepGateIdeal
    ∧ algebraic_KernelStepGateIdeal_ReferenceStepGateIdeal (hKernelStepGateIdeal := hKernelStepGateIdeal) (hReferenceStepGateIdeal := hReferenceStepGateIdeal)
    ∧ preserves_KernelStepOut_KernelStepOutIdeal
    ∧ algebraic_KernelStepOutIdeal_ReferenceStepOutIdeal (hKernelStepOutIdeal := hKernelStepOutIdeal) (hReferenceStepOutIdeal := hReferenceStepOutIdeal)
    ∧ preserves_KernelStepIn_KernelStepInIdeal
    ∧ algebraic_KernelStepInIdeal_ReferenceStepInIdeal (hKernelStepInIdeal := hKernelStepInIdeal) (hReferenceStepInIdeal := hReferenceStepInIdeal)
    ∧ preserves_KernelStepMlp_KernelStepMlpIdeal
    ∧ algebraic_KernelStepMlpIdeal_ReferenceStepMlpIdeal (hKernelStepMlpIdeal := hKernelStepMlpIdeal) (hReferenceStepMlpIdeal := hReferenceStepMlpIdeal)
    ∧ preserves_KernelNormDx_KernelNormDxIdeal
    ∧ algebraic_KernelNormDxIdeal_ReferenceNormDxIdeal (hKernelNormDxIdeal := hKernelNormDxIdeal) (hReferenceNormDxIdeal := hReferenceNormDxIdeal)
    ∧ preserves_KernelNorm2Dx_KernelNorm2DxIdeal
    ∧ algebraic_KernelNorm2DxIdeal_ReferenceNorm2DxIdeal (hKernelNorm2DxIdeal := hKernelNorm2DxIdeal) (hReferenceNorm2DxIdeal := hReferenceNorm2DxIdeal)
    ∧ preserves_KernelDown_KernelDownIdeal
    ∧ algebraic_KernelDownIdeal_ReferenceDownIdeal (hKernelDownIdeal := hKernelDownIdeal) (hReferenceDownIdeal := hReferenceDownIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
-- ==== On_near_chips.lean ====
abbrev S33792x8192 : Shape := ⟨2, ![33792, 8192]⟩
abbrev S32x2048x2048 : Shape := ⟨3, ![32, 2048, 2048]⟩
abbrev S32x1024x2048 : Shape := ⟨3, ![32, 1024, 2048]⟩
abbrev S32x2x1024x2048 : Shape := ⟨4, ![32, 2, 1024, 2048]⟩
abbrev S24x1024x2048 : Shape := ⟨3, ![24, 1024, 2048]⟩
abbrev S_ : Shape := ⟨0, ![]⟩
abbrev S33792x2048 : Shape := ⟨2, ![33792, 2048]⟩

class Facts : Prop where
  bcast_S_S24x1024x2048 : S_.BroadcastsInDim S24x1024x2048 (![] : Fin 0 → Fin S24x1024x2048.rank)
  bcast_S_S33792x2048 : S_.BroadcastsInDim S33792x2048 (![] : Fin 0 → Fin S33792x2048.rank)
  bcast_S_S32x1024x2048 : S_.BroadcastsInDim S32x1024x2048 (![] : Fin 0 → Fin S32x1024x2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S24x1024x2048 32) (arg1 : IVec S_ 32) : IVec S24x1024x2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S24x1024x2048 32 := broadcastInDim S24x1024x2048 ![] bcast_S_S24x1024x2048 v2
  let v4 : IVec S24x1024x2048 32 := Host.remsi arg0 v3
  let c_1 : IVec S_ 32 := constantI S_ 32 0#32
  let v5 : IVec S24x1024x2048 32 := broadcastInDim S24x1024x2048 ![] bcast_S_S24x1024x2048 c_1
  let v6 : IVec S24x1024x2048 1 := cmpi .ne v4 v5
  let c_2 : IVec S_ 32 := constantI S_ 32 0#32
  let v7 : IVec S24x1024x2048 32 := broadcastInDim S24x1024x2048 ![] bcast_S_S24x1024x2048 c_2
  let v8 : IVec S24x1024x2048 1 := cmpi .slt v4 v7
  let c_3 : IVec S_ 32 := constantI S_ 32 0#32
  let v9 : IVec S_ 1 := cmpi .slt v2 c_3
  let v10 : IVec S24x1024x2048 1 := broadcastInDim S24x1024x2048 ![] bcast_S_S24x1024x2048 v9
  let v11 : IVec S24x1024x2048 1 := cmpi .ne v8 v10
  let v12 : IVec S24x1024x2048 1 := andi v11 v6
  let v13 : IVec S24x1024x2048 32 := broadcastInDim S24x1024x2048 ![] bcast_S_S24x1024x2048 v2
  let v14 : IVec S24x1024x2048 32 := addi v4 v13
  let v15 : IVec S24x1024x2048 32 := select v12 v14 v4
  v15

def fn {F : FTy → Type} [FloatOps F] (main_arg0 : FVec F S33792x8192 .bf16) (main_arg1 : FVec F S32x2048x2048 .bf16) (main_arg2 : FVec F S32x1024x2048 .bf16) (main_arg3 : FVec F S32x2x1024x2048 .bf16) : IVec S33792x2048 1 × IVec S24x1024x2048 1 × IVec S32x1024x2048 1 :=
  let main_v0 : IVec S24x1024x2048 32 := iotaInDim S24x1024x2048 32 0
  let main_c : IVec S_ 32 := constantI S_ 32 3#32
  let main_v1 : IVec S24x1024x2048 32 := fn_remainder (F := F) main_v0 main_c
  let main_c_0 : IVec S_ 1 := constantI S_ 1 1#1
  let main_v2 : IVec S33792x2048 1 := broadcastInDim S33792x2048 ![] bcast_S_S33792x2048 main_c_0
  let main_c_1 : IVec S_ 32 := constantI S_ 32 2#32
  let main_v3 : IVec S24x1024x2048 32 := broadcastInDim S24x1024x2048 ![] bcast_S_S24x1024x2048 main_c_1
  let main_v4 : IVec S24x1024x2048 1 := cmpi .slt main_v1 main_v3
  let main_c_2 : IVec S_ 1 := constantI S_ 1 1#1
  let main_v5 : IVec S32x1024x2048 1 := broadcastInDim S32x1024x2048 ![] bcast_S_S32x1024x2048 main_c_2
  (main_v2, main_v4, main_v5)
-- ==== KernelUpDw.lean ====
abbrev S2048x4224 : Shape := ⟨2, ![2048, 4224]⟩
abbrev S4224x8192 : Shape := ⟨2, ![4224, 8192]⟩
abbrev S4x2x1024x2048 : Shape := ⟨4, ![4, 2, 1024, 2048]⟩
abbrev S4x2048x2048 : Shape := ⟨3, ![4, 2048, 2048]⟩
abbrev S4x1024x2048 : Shape := ⟨3, ![4, 1024, 2048]⟩
abbrev S1024x4224 : Shape := ⟨2, ![1024, 4224]⟩
abbrev S4224x1024 : Shape := ⟨2, ![4224, 1024]⟩
abbrev S1x1024x1024 : Shape := ⟨3, ![1, 1024, 1024]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x4224, .bf16⟩
  | .hbm, ⟨1, _⟩ => ⟨S4224x8192, .bf16⟩
  | .hbm, ⟨2, _⟩ => ⟨S4x2x1024x2048, .bf16⟩
  | .hbm, ⟨3, _⟩ => ⟨S4x2048x2048, .bf16⟩
  | .hbm, ⟨4, _⟩ => ⟨S4x1024x2048, .bf16⟩
  | .local _ .vmem, ⟨0, _⟩ => ⟨S1024x4224, .bf16⟩
  | .local _ .vmem, ⟨1, _⟩ => ⟨S1024x4224, .bf16⟩
  | .local _ .vmem, ⟨2, _⟩ => ⟨S4224x1024, .bf16⟩
  | .local _ .vmem, ⟨3, _⟩ => ⟨S4224x1024, .bf16⟩
  | .local _ .vmem, ⟨4, _⟩ => ⟨S1x1024x1024, .bf16⟩
  | .local _ .vmem, ⟨5, _⟩ => ⟨S1x1024x1024, .bf16⟩
  | _, _ => ⟨S2048x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d23 : Dev nD) : Fin 4 → Nat :=
  let c0_i32_23 : BitVec 32 := 0#32
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c0_i32_33 : BitVec 32 := 0#32
  let c0_i32_34 : BitVec 32 := 0#32
  ![0, v32.toNat, 0, 0]
def k0_dev1 (d23 : Dev nD) : Nat :=
  let c0_i32_28 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_27 : BitVec 32 := 4#32
  let v40 : BitVec 32 := Scalar.muli v25 c4_i32_27
  let v41 : BitVec 32 := Scalar.addi c0_i32_28 v40
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_29 : BitVec 32 := 2#32
  let v42 : BitVec 32 := Scalar.muli v28 c2_i32_29
  let v43 : BitVec 32 := Scalar.addi v41 v42
  let c1_i32_16 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v33 : BitVec 32 := Scalar.subi c1_i32_16 v31
  let c1_i32_30 : BitVec 32 := 1#32
  let v44 : BitVec 32 := Scalar.muli v33 c1_i32_30
  let v45 : BitVec 32 := Scalar.addi v43 v44
  v45.toNat
def k0_off2 (d23 : Dev nD) : Fin 4 → Nat :=
  let c1_i32_35 : BitVec 32 := 1#32
  let c1_i32_17 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v34 : BitVec 32 := Scalar.subi c1_i32_17 v31
  let c0_i32_45 : BitVec 32 := 0#32
  let c0_i32_46 : BitVec 32 := 0#32
  ![1, v34.toNat, 0, 0]
def k0_dev2 (d23 : Dev nD) : Nat :=
  let c0_i32_40 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_39 : BitVec 32 := 4#32
  let v54 : BitVec 32 := Scalar.muli v25 c4_i32_39
  let v55 : BitVec 32 := Scalar.addi c0_i32_40 v54
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_41 : BitVec 32 := 2#32
  let v56 : BitVec 32 := Scalar.muli v28 c2_i32_41
  let v57 : BitVec 32 := Scalar.addi v55 v56
  let c1_i32_18 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v35 : BitVec 32 := Scalar.subi c1_i32_18 v31
  let c1_i32_42 : BitVec 32 := 1#32
  let v58 : BitVec 32 := Scalar.muli v35 c1_i32_42
  let v59 : BitVec 32 := Scalar.addi v57 v58
  v59.toNat
def k0_off3 (d23 : Dev nD) : Fin 4 → Nat :=
  let c2_i32_47 : BitVec 32 := 2#32
  let c1_i32_19 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v36 : BitVec 32 := Scalar.subi c1_i32_19 v31
  let c0_i32_57 : BitVec 32 := 0#32
  let c0_i32_58 : BitVec 32 := 0#32
  ![2, v36.toNat, 0, 0]
def k0_dev3 (d23 : Dev nD) : Nat :=
  let c0_i32_52 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_51 : BitVec 32 := 4#32
  let v68 : BitVec 32 := Scalar.muli v25 c4_i32_51
  let v69 : BitVec 32 := Scalar.addi c0_i32_52 v68
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_53 : BitVec 32 := 2#32
  let v70 : BitVec 32 := Scalar.muli v28 c2_i32_53
  let v71 : BitVec 32 := Scalar.addi v69 v70
  let c1_i32_20 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v37 : BitVec 32 := Scalar.subi c1_i32_20 v31
  let c1_i32_54 : BitVec 32 := 1#32
  let v72 : BitVec 32 := Scalar.muli v37 c1_i32_54
  let v73 : BitVec 32 := Scalar.addi v71 v72
  v73.toNat
def k0_off4 (d23 : Dev nD) : Fin 4 → Nat :=
  let c3_i32 : BitVec 32 := 3#32
  let c1_i32_21 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v38 : BitVec 32 := Scalar.subi c1_i32_21 v31
  let c0_i32_68 : BitVec 32 := 0#32
  let c0_i32_69 : BitVec 32 := 0#32
  ![3, v38.toNat, 0, 0]
def k0_dev4 (d23 : Dev nD) : Nat :=
  let c0_i32_63 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_62 : BitVec 32 := 4#32
  let v82 : BitVec 32 := Scalar.muli v25 c4_i32_62
  let v83 : BitVec 32 := Scalar.addi c0_i32_63 v82
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_64 : BitVec 32 := 2#32
  let v84 : BitVec 32 := Scalar.muli v28 c2_i32_64
  let v85 : BitVec 32 := Scalar.addi v83 v84
  let c1_i32_22 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v39 : BitVec 32 := Scalar.subi c1_i32_22 v31
  let c1_i32_65 : BitVec 32 := 1#32
  let v86 : BitVec 32 := Scalar.muli v39 c1_i32_65
  let v87 : BitVec 32 := Scalar.addi v85 v86
  v87.toNat
def k0_cond2 (i : grid0.Coords) : BitVec 1 :=
  let arg0 : BitVec 32 := BitVec.ofNat 32 (i 0).val
  let c1_i32 : BitVec 32 := 1#32
  let v5 : BitVec 1 := Scalar.cmpi .eq arg0 c1_i32
  let arg1 : BitVec 32 := BitVec.ofNat 32 (i 1).val
  let c7_i32 : BitVec 32 := 7#32
  let v6 : BitVec 1 := Scalar.cmpi .eq arg1 c7_i32
  let v8 : BitVec 1 := Scalar.andi v5 v6
  let arg2 : BitVec 32 := BitVec.ofNat 32 (i 2).val
  let c0_i32_2 : BitVec 32 := 0#32
  let v7 : BitVec 1 := Scalar.cmpi .eq arg2 c0_i32_2
  let v9 : BitVec 1 := Scalar.andi v8 v7
  let v21 : BitVec 32 := Scalar.extui v9
  let c0_i32_10 : BitVec 32 := 0#32
  let v22 : BitVec 1 := Scalar.cmpi .ne v21 c0_i32_10
  v22

def k0_off5 (d23 : Dev nD) : Fin 4 → Nat :=
  let c0_i32_75 : BitVec 32 := 0#32
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c0_i32_79 : BitVec 32 := 0#32
  let c0_i32_80 : BitVec 32 := 0#32
  ![0, v32.toNat, 0, 0]
def k0_off6 (d23 : Dev nD) : Fin 4 → Nat :=
  let c1_i32_84 : BitVec 32 := 1#32
  let c1_i32_18 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v35 : BitVec 32 := Scalar.subi c1_i32_18 v31
  let c0_i32_88 : BitVec 32 := 0#32
  let c0_i32_89 : BitVec 32 := 0#32
  ![1, v35.toNat, 0, 0]
def k0_off7 (d23 : Dev nD) : Fin 4 → Nat :=
  let c2_i32_93 : BitVec 32 := 2#32
  let c1_i32_21 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v38 : BitVec 32 := Scalar.subi c1_i32_21 v31
  let c0_i32_97 : BitVec 32 := 0#32
  let c0_i32_98 : BitVec 32 := 0#32
  ![2, v38.toNat, 0, 0]
def k0_off8 (d23 : Dev nD) : Fin 4 → Nat :=
  let c3_i32_102 : BitVec 32 := 3#32
  let c1_i32_24 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v41 : BitVec 32 := Scalar.subi c1_i32_24 v31
  let c0_i32_106 : BitVec 32 := 0#32
  let c0_i32_107 : BitVec 32 := 0#32
  ![3, v41.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S16384x4224 : Shape := ⟨2, ![16384, 4224]⟩
abbrev S33792x8192 : Shape := ⟨2, ![33792, 8192]⟩
abbrev S32x2x1024x2048 : Shape := ⟨4, ![32, 2, 1024, 2048]⟩
abbrev S8x2048x4224 : Shape := ⟨3, ![8, 2048, 4224]⟩
abbrev S8x4224x8192 : Shape := ⟨3, ![8, 4224, 8192]⟩
abbrev S8x2048x8192 : Shape := ⟨3, ![8, 2048, 8192]⟩
abbrev S8x2048x4x2048 : Shape := ⟨4, ![8, 2048, 4, 2048]⟩
abbrev S8x4x2048x2048 : Shape := ⟨4, ![8, 4, 2048, 2048]⟩
abbrev S32x2048x2048 : Shape := ⟨3, ![32, 2048, 2048]⟩
abbrev S4x2x4x2x1024x2048 : Shape := ⟨6, ![4, 2, 4, 2, 1024, 2048]⟩
abbrev S4x1x4x1x1024x2048 : Shape := ⟨6, ![4, 1, 4, 1, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩
abbrev S32x1024x2048 : Shape := ⟨3, ![32, 1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x4224, .bf16⟩
  | .hbm, ⟨1, _⟩ => ⟨S33792x8192, .bf16⟩
  | .hbm, ⟨2, _⟩ => ⟨S32x2x1024x2048, .bf16⟩
  | .hbm, ⟨3, _⟩ => ⟨S8x2048x4224, .bf16⟩
  | .hbm, ⟨4, _⟩ => ⟨S8x4224x8192, .bf16⟩
  | .hbm, ⟨5, _⟩ => ⟨S8x2048x8192, .f32⟩
  | .hbm, ⟨6, _⟩ => ⟨S8x2048x8192, .bf16⟩
  | .hbm, ⟨7, _⟩ => ⟨S8x2048x4x2048, .bf16⟩
  | .hbm, ⟨8, _⟩ => ⟨S8x4x2048x2048, .bf16⟩
  | .hbm, ⟨9, _⟩ => ⟨S32x2048x2048, .bf16⟩
  | .hbm, ⟨10, _⟩ => ⟨S4x2x4x2x1024x2048, .bf16⟩
  | .hbm, ⟨11, _⟩ => ⟨S4x1x4x1x1024x2048, .bf16⟩
  | .hbm, ⟨12, _⟩ => ⟨S4x4x1024x2048, .bf16⟩
  | .hbm, ⟨13, _⟩ => ⟨S4x1x4x1x1024x2048, .bf16⟩
  | .hbm, ⟨14, _⟩ => ⟨S4x4x1024x2048, .bf16⟩
  | .hbm, ⟨15, _⟩ => ⟨S4x1x4x1024x2048, .bf16⟩
  | .hbm, ⟨16, _⟩ => ⟨S4x1x4x1024x2048, .bf16⟩
  | .hbm, ⟨17, _⟩ => ⟨S4x2x4x1024x2048, .bf16⟩
  | .hbm, ⟨18, _⟩ => ⟨S32x1024x2048, .bf16⟩
  | _, _ => ⟨S16384x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== KernelSiblingRows.lean ====
abbrev S1024x4224 : Shape := ⟨2, ![1024, 4224]⟩
abbrev S4224x10240 : Shape := ⟨2, ![4224, 10240]⟩
abbrev S4x2x256x512 : Shape := ⟨4, ![4, 2, 256, 512]⟩
abbrev S4x2x256x256 : Shape := ⟨4, ![4, 2, 256, 256]⟩
abbrev S1024x2048 : Shape := ⟨2, ![1024, 2048]⟩
abbrev S4x256x2048 : Shape := ⟨3, ![4, 256, 2048]⟩
abbrev S4x1024x2560 : Shape := ⟨3, ![4, 1024, 2560]⟩
abbrev S4x256x512 : Shape := ⟨3, ![4, 256, 512]⟩
abbrev S4x256x256 : Shape := ⟨3, ![4, 256, 256]⟩
abbrev S3x256x2048 : Shape := ⟨3, ![3, 256, 2048]⟩
abbrev S4224x1280 : Shape := ⟨2, ![4224, 1280]⟩
abbrev S1x1024x1280 : Shape := ⟨3, ![1, 1024, 1280]⟩
abbrev S12 : Shape := ⟨1, ![12]⟩
abbrev S2 : Shape := ⟨1, ![2]⟩
abbrev S3 : Shape := ⟨1, ![3]⟩
abbrev S1 : Shape := ⟨1, ![1]⟩
abbrev S_ : Shape := ⟨0, ![]⟩
abbrev S1x256x512 : Shape := ⟨3, ![1, 256, 512]⟩
abbrev S256x512 : Shape := ⟨2, ![256, 512]⟩
abbrev S1x1x256x512 : Shape := ⟨4, ![1, 1, 256, 512]⟩
abbrev S1x256x256 : Shape := ⟨3, ![1, 256, 256]⟩
abbrev S256x256 : Shape := ⟨2, ![256, 256]⟩
abbrev S1x1x256x256 : Shape := ⟨4, ![1, 1, 256, 256]⟩
abbrev S1x256x2048 : Shape := ⟨3, ![1, 256, 2048]⟩
abbrev S256x2048 : Shape := ⟨2, ![256, 2048]⟩
abbrev S1024x1280 : Shape := ⟨2, ![1024, 1280]⟩

abbrev nBuf : Space → Nat
  | .hbm => 15
  | .vmem => 5
  | .smem => 0
  | _ => 0

abbrev bufTy : (tb : Table) → Fin (tcTables nBuf tb) → BufTy
  | .hbm, ⟨0, _⟩ => ⟨S1024x4224, .bf16⟩
  | .hbm, ⟨1, _⟩ => ⟨S4224x10240, .bf16⟩
  | .hbm, ⟨2, _⟩ => ⟨S4x2x256x512, .bf16⟩
  | .hbm, ⟨3, _⟩ => ⟨S4x2x256x256, .bf16⟩
  | .hbm, ⟨4, _⟩ => ⟨S4x2x256x256, .bf16⟩
  | .hbm, ⟨5, _⟩ => ⟨S1024x2048, .f32⟩
  | .hbm, ⟨6, _⟩ => ⟨S1024x2048, .f32⟩
  | .hbm, ⟨7, _⟩ => ⟨S4x256x2048, .bf16⟩
  | .hbm, ⟨8, _⟩ => ⟨S4x1024x2560, .bf16⟩
  | .hbm, ⟨9, _⟩ => ⟨S4x256x512, .bf16⟩
  | .hbm, ⟨10, _⟩ => ⟨S4x256x256, .bf16⟩
  | .hbm, ⟨11, _⟩ => ⟨S4x256x256, .bf16⟩
  | .hbm, ⟨12, _⟩ => ⟨S1024x2048, .f32⟩
  | .hbm, ⟨13, _⟩ => ⟨S1024x2048, .f32⟩
  | .hbm, ⟨14, _⟩ => ⟨S3x256x2048, .bf16⟩
  | .local _ .vmem, ⟨0, _⟩ => ⟨S1024x4224, .bf16⟩
  | .local _ .vmem, ⟨1, _⟩ => ⟨S4224x1280, .bf16⟩
  | .local _ .vmem, ⟨2, _⟩ => ⟨S4224x1280, .bf16⟩
  | .local _ .vmem, ⟨3, _⟩ => ⟨S1x1024x1280, .bf16⟩
  | .local _ .vmem, ⟨4, _⟩ => ⟨S1x1024x1280, .bf16⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨3, ![1, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_4 : BitVec 32 := 0#32
  let v11 : BitVec 1 := Scalar.cmpi .ne v10 c0_i32_4
  v11

def k0_off1 (d23 : Dev nD) : Fin 4 → Nat :=
  let c0_i32_39 : BitVec 32 := 0#32
  let c1_i32_15 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v32 : BitVec 32 := Scalar.subi c1_i32_15 v31
  let c0_i32_49 : BitVec 32 := 0#32
  let c0_i32_50 : BitVec 32 := 0#32
  ![0, v32.toNat, 0, 0]
def k0_dev1 (d23 : Dev nD) : Nat :=
  let c0_i32_44 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_43 : BitVec 32 := 4#32
  let v56 : BitVec 32 := Scalar.muli v25 c4_i32_43
  let v57 : BitVec 32 := Scalar.addi c0_i32_44 v56
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_45 : BitVec 32 := 2#32
  let v58 : BitVec 32 := Scalar.muli v28 c2_i32_45
  let v59 : BitVec 32 := Scalar.addi v57 v58
  let c1_i32_16 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v33 : BitVec 32 := Scalar.subi c1_i32_16 v31
  let c1_i32_46 : BitVec 32 := 1#32
  let v60 : BitVec 32 := Scalar.muli v33 c1_i32_46
  let v61 : BitVec 32 := Scalar.addi v59 v60
  v61.toNat
def k0_off2 (d23 : Dev nD) : Fin 4 → Nat :=
  let c1_i32_51 : BitVec 32 := 1#32
  let c1_i32_17 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v34 : BitVec 32 := Scalar.subi c1_i32_17 v31
  let c0_i32_61 : BitVec 32 := 0#32
  let c0_i32_62 : BitVec 32 := 0#32
  ![1, v34.toNat, 0, 0]
def k0_dev2 (d23 : Dev nD) : Nat :=
  let c0_i32_56 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_55 : BitVec 32 := 4#32
  let v70 : BitVec 32 := Scalar.muli v25 c4_i32_55
  let v71 : BitVec 32 := Scalar.addi c0_i32_56 v70
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_57 : BitVec 32 := 2#32
  let v72 : BitVec 32 := Scalar.muli v28 c2_i32_57
  let v73 : BitVec 32 := Scalar.addi v71 v72
  let c1_i32_18 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v35 : BitVec 32 := Scalar.subi c1_i32_18 v31
  let c1_i32_58 : BitVec 32 := 1#32
  let v74 : BitVec 32 := Scalar.muli v35 c1_i32_58
  let v75 : BitVec 32 := Scalar.addi v73 v74
  v75.toNat
def k0_off3 (d23 : Dev nD) : Fin 4 → Nat :=
  let c2_i32_63 : BitVec 32 := 2#32
  let c1_i32_19 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v36 : BitVec 32 := Scalar.subi c1_i32_19 v31
  let c0_i32_73 : BitVec 32 := 0#32
  let c0_i32_74 : BitVec 32 := 0#32
  ![2, v36.toNat, 0, 0]
def k0_dev3 (d23 : Dev nD) : Nat :=
  let c0_i32_68 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_67 : BitVec 32 := 4#32
  let v84 : BitVec 32 := Scalar.muli v25 c4_i32_67
  let v85 : BitVec 32 := Scalar.addi c0_i32_68 v84
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_69 : BitVec 32 := 2#32
  let v86 : BitVec 32 := Scalar.muli v28 c2_i32_69
  let v87 : BitVec 32 := Scalar.addi v85 v86
  let c1_i32_20 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v37 : BitVec 32 := Scalar.subi c1_i32_20 v31
  let c1_i32_70 : BitVec 32 := 1#32
  let v88 : BitVec 32 := Scalar.muli v37 c1_i32_70
  let v89 : BitVec 32 := Scalar.addi v87 v88
  v89.toNat
def k0_off4 (d23 : Dev nD) : Fin 4 → Nat :=
  let c3_i32 : BitVec 32 := 3#32
  let c1_i32_21 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v38 : BitVec 32 := Scalar.subi c1_i32_21 v31
  let c0_i32_84 : BitVec 32 := 0#32
  let c0_i32_85 : BitVec 32 := 0#32
  ![3, v38.toNat, 0, 0]
def k0_dev4 (d23 : Dev nD) : Nat :=
  let c0_i32_79 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_78 : BitVec 32 := 4#32
  let v98 : BitVec 32 := Scalar.muli v25 c4_i32_78
  let v99 : BitVec 32 := Scalar.addi c0_i32_79 v98
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_80 : BitVec 32 := 2#32
  let v100 : BitVec 32 := Scalar.muli v28 c2_i32_80
  let v101 : BitVec 32 := Scalar.addi v99 v100
  let c1_i32_22 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v39 : BitVec 32 := Scalar.subi c1_i32_22 v31
  let c1_i32_81 : BitVec 32 := 1#32
  let v102 : BitVec 32 := Scalar.muli v39 c1_i32_81
  let v103 : BitVec 32 := Scalar.addi v101 v102
  v103.toNat
def k0_off5 (d23 : Dev nD) : Fin 4 → Nat :=
  let c0_i32_86 : BitVec 32 := 0#32
  let c1_i32_23 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v40 : BitVec 32 := Scalar.subi c1_i32_23 v31
  let c0_i32_96 : BitVec 32 := 0#32
  let c0_i32_97 : BitVec 32 := 0#32
  ![0, v40.toNat, 0, 0]
def k0_dev5 (d23 : Dev nD) : Nat :=
  let c0_i32_91 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_90 : BitVec 32 := 4#32
  let v112 : BitVec 32 := Scalar.muli v25 c4_i32_90
  let v113 : BitVec 32 := Scalar.addi c0_i32_91 v112
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_92 : BitVec 32 := 2#32
  let v114 : BitVec 32 := Scalar.muli v28 c2_i32_92
  let v115 : BitVec 32 := Scalar.addi v113 v114
  let c1_i32_24 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v41 : BitVec 32 := Scalar.subi c1_i32_24 v31
  let c1_i32_93 : BitVec 32 := 1#32
  let v116 : BitVec 32 := Scalar.muli v41 c1_i32_93
  let v117 : BitVec 32 := Scalar.addi v115 v116
  v117.toNat
def k0_off6 (d23 : Dev nD) : Fin 4 → Nat :=
  let c1_i32_98 : BitVec 32 := 1#32
  let c1_i32_25 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v42 : BitVec 32 := Scalar.subi c1_i32_25 v31
  let c0_i32_107 : BitVec 32 := 0#32
  let c0_i32_108 : BitVec 32 := 0#32
  ![1, v42.toNat, 0, 0]
def k0_dev6 (d23 : Dev nD) : Nat :=
  let c0_i32_102 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_101 : BitVec 32 := 4#32
  let v126 : BitVec 32 := Scalar.muli v25 c4_i32_101
  let v127 : BitVec 32 := Scalar.addi c0_i32_102 v126
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_103 : BitVec 32 := 2#32
  let v128 : BitVec 32 := Scalar.muli v28 c2_i32_103
  let v129 : BitVec 32 := Scalar.addi v127 v128
  let c1_i32_26 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v43 : BitVec 32 := Scalar.subi c1_i32_26 v31
  let c1_i32_104 : BitVec 32 := 1#32
  let v130 : BitVec 32 := Scalar.muli v43 c1_i32_104
  let v131 : BitVec 32 := Scalar.addi v129 v130
  v131.toNat
def k0_off7 (d23 : Dev nD) : Fin 4 → Nat :=
  let c2_i32_109 : BitVec 32 := 2#32
  let c1_i32_27 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v44 : BitVec 32 := Scalar.subi c1_i32_27 v31
  let c0_i32_118 : BitVec 32 := 0#32
  let c0_i32_119 : BitVec 32 := 0#32
  ![2, v44.toNat, 0, 0]
def k0_dev7 (d23 : Dev nD) : Nat :=
  let c0_i32_113 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_112 : BitVec 32 := 4#32
  let v140 : BitVec 32 := Scalar.muli v25 c4_i32_112
  let v141 : BitVec 32 := Scalar.addi c0_i32_113 v140
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_114 : BitVec 32 := 2#32
  let v142 : BitVec 32 := Scalar.muli v28 c2_i32_114
  let v143 : BitVec 32 := Scalar.addi v141 v142
  let c1_i32_28 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v45 : BitVec 32 := Scalar.subi c1_i32_28 v31
  let c1_i32_115 : BitVec 32 := 1#32
  let v144 : BitVec 32 := Scalar.muli v45 c1_i32_115
  let v145 : BitVec 32 := Scalar.addi v143 v144
  v145.toNat
def k0_off8 (d23 : Dev nD) : Fin 4 → Nat :=
  let c3_i32_120 : BitVec 32 := 3#32
  let c1_i32_29 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v46 : BitVec 32 := Scalar.subi c1_i32_29 v31
  let c0_i32_130 : BitVec 32 := 0#32
  let c0_i32_131 : BitVec 32 := 0#32
  ![3, v46.toNat, 0, 0]
def k0_dev8 (d23 : Dev nD) : Nat :=
  let c0_i32_125 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_124 : BitVec 32 := 4#32
  let v154 : BitVec 32 := Scalar.muli v25 c4_i32_124
  let v155 : BitVec 32 := Scalar.addi c0_i32_125 v154
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_126 : BitVec 32 := 2#32
  let v156 : BitVec 32 := Scalar.muli v28 c2_i32_126
  let v157 : BitVec 32 := Scalar.addi v155 v156
  let c1_i32_30 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v47 : BitVec 32 := Scalar.subi c1_i32_30 v31
  let c1_i32_127 : BitVec 32 := 1#32
  let v158 : BitVec 32 := Scalar.muli v47 c1_i32_127
  let v159 : BitVec 32 := Scalar.addi v157 v158
  v159.toNat
def k0_dev9 (d23 : Dev nD) : Nat :=
  let c0_i32_136 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_135 : BitVec 32 := 4#32
  let v168 : BitVec 32 := Scalar.muli v25 c4_i32_135
  let v169 : BitVec 32 := Scalar.addi c0_i32_136 v168
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_137 : BitVec 32 := 2#32
  let v170 : BitVec 32 := Scalar.muli v28 c2_i32_137
  let v171 : BitVec 32 := Scalar.addi v169 v170
  let c1_i32_32 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v49 : BitVec 32 := Scalar.subi c1_i32_32 v31
  let c1_i32_138 : BitVec 32 := 1#32
  let v172 : BitVec 32 := Scalar.muli v49 c1_i32_138
  let v173 : BitVec 32 := Scalar.addi v171 v172
  v173.toNat
def k0_dev10 (d23 : Dev nD) : Nat :=
  let c0_i32_147 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_146 : BitVec 32 := 4#32
  let v182 : BitVec 32 := Scalar.muli v25 c4_i32_146
  let v183 : BitVec 32 := Scalar.addi c0_i32_147 v182
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_148 : BitVec 32 := 2#32
  let v184 : BitVec 32 := Scalar.muli v28 c2_i32_148
  let v185 : BitVec 32 := Scalar.addi v183 v184
  let c1_i32_34 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v51 : BitVec 32 := Scalar.subi c1_i32_34 v31
  let c1_i32_149 : BitVec 32 := 1#32
  let v186 : BitVec 32 := Scalar.muli v51 c1_i32_149
  let v187 : BitVec 32 := Scalar.addi v185 v186
  v187.toNat
def k0_dev11 (d23 : Dev nD) : Nat :=
  let c0_i32_158 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_157 : BitVec 32 := 4#32
  let v196 : BitVec 32 := Scalar.muli v25 c4_i32_157
  let v197 : BitVec 32 := Scalar.addi c0_i32_158 v196
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_159 : BitVec 32 := 2#32
  let v198 : BitVec 32 := Scalar.muli v28 c2_i32_159
  let v199 : BitVec 32 := Scalar.addi v197 v198
  let c1_i32_36 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v53 : BitVec 32 := Scalar.subi c1_i32_36 v31
  let c1_i32_160 : BitVec 32 := 1#32
  let v200 : BitVec 32 := Scalar.muli v53 c1_i32_160
  let v201 : BitVec 32 := Scalar.addi v199 v200
  v201.toNat
def k0_dev12 (d23 : Dev nD) : Nat :=
  let c0_i32_169 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_168 : BitVec 32 := 4#32
  let v210 : BitVec 32 := Scalar.muli v25 c4_i32_168
  let v211 : BitVec 32 := Scalar.addi c0_i32_169 v210
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_170 : BitVec 32 := 2#32
  let v212 : BitVec 32 := Scalar.muli v28 c2_i32_170
  let v213 : BitVec 32 := Scalar.addi v211 v212
  let c1_i32_38 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v55 : BitVec 32 := Scalar.subi c1_i32_38 v31
  let c1_i32_171 : BitVec 32 := 1#32
  let v214 : BitVec 32 := Scalar.muli v55 c1_i32_171
  let v215 : BitVec 32 := Scalar.addi v213 v214
  v215.toNat
def k0_dev13 (d23 : Dev nD) : Nat :=
  let c0_i32_187 : BitVec 32 := 0#32
  let v224 : BitVec 32 := Dev.word d23
  let c4_i32_177 : BitVec 32 := 4#32
  let v225 : BitVec 32 := Scalar.divsi v224 c4_i32_177
  let c2_i32_176 : BitVec 32 := 2#32
  let v226 : BitVec 32 := Scalar.remsi v225 c2_i32_176
  let c4_i32_186 : BitVec 32 := 4#32
  let v235 : BitVec 32 := Scalar.muli v226 c4_i32_186
  let v236 : BitVec 32 := Scalar.addi c0_i32_187 v235
  let v227 : BitVec 32 := Dev.word d23
  let c2_i32_179 : BitVec 32 := 2#32
  let v228 : BitVec 32 := Scalar.divsi v227 c2_i32_179
  let c2_i32_178 : BitVec 32 := 2#32
  let v229 : BitVec 32 := Scalar.remsi v228 c2_i32_178
  let c2_i32_188 : BitVec 32 := 2#32
  let v237 : BitVec 32 := Scalar.muli v229 c2_i32_188
  let v238 : BitVec 32 := Scalar.addi v236 v237
  let c1_i32_182 : BitVec 32 := 1#32
  let v230 : BitVec 32 := Dev.word d23
  let c1_i32_181 : BitVec 32 := 1#32
  let v231 : BitVec 32 := Scalar.divsi v230 c1_i32_181
  let c2_i32_180 : BitVec 32 := 2#32
  let v232 : BitVec 32 := Scalar.remsi v231 c2_i32_180
  let v233 : BitVec 32 := Scalar.subi c1_i32_182 v232
  let c1_i32_189 : BitVec 32 := 1#32
  let v239 : BitVec 32 := Scalar.muli v233 c1_i32_189
  let v240 : BitVec 32 := Scalar.addi v238 v239
  v240.toNat
def k0_dev14 (d23 : Dev nD) : Nat :=
  let c0_i32_193 : BitVec 32 := 0#32
  let v224 : BitVec 32 := Dev.word d23
  let c4_i32_177 : BitVec 32 := 4#32
  let v225 : BitVec 32 := Scalar.divsi v224 c4_i32_177
  let c2_i32_176 : BitVec 32 := 2#32
  let v226 : BitVec 32 := Scalar.remsi v225 c2_i32_176
  let c4_i32_192 : BitVec 32 := 4#32
  let v245 : BitVec 32 := Scalar.muli v226 c4_i32_192
  let v246 : BitVec 32 := Scalar.addi c0_i32_193 v245
  let v227 : BitVec 32 := Dev.word d23
  let c2_i32_179 : BitVec 32 := 2#32
  let v228 : BitVec 32 := Scalar.divsi v227 c2_i32_179
  let c2_i32_178 : BitVec 32 := 2#32
  let v229 : BitVec 32 := Scalar.remsi v228 c2_i32_178
  let c2_i32_194 : BitVec 32 := 2#32
  let v247 : BitVec 32 := Scalar.muli v229 c2_i32_194
  let v248 : BitVec 32 := Scalar.addi v246 v247
  let c1_i32_183 : BitVec 32 := 1#32
  let v230 : BitVec 32 := Dev.word d23
  let c1_i32_181 : BitVec 32 := 1#32
  let v231 : BitVec 32 := Scalar.divsi v230 c1_i32_181
  let c2_i32_180 : BitVec 32 := 2#32
  let v232 : BitVec 32 := Scalar.remsi v231 c2_i32_180
  let v234 : BitVec 32 := Scalar.subi c1_i32_183 v232
  let c1_i32_195 : BitVec 32 := 1#32
  let v249 : BitVec 32 := Scalar.muli v234 c1_i32_195
  let v250 : BitVec 32 := Scalar.addi v248 v249
  v250.toNat
def k0_off9 (d23 : Dev nD) : Fin 3 → Nat :=
  let c2_i32_206 : BitVec 32 := 2#32
  let c1_i32_202 : BitVec 32 := 1#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let v264 : BitVec 32 := Scalar.subi c1_i32_202 v257
  let v268 : BitVec 32 := Scalar.muli c2_i32_206 v264
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let v269 : BitVec 32 := Scalar.addi v268 v260
  let c0_i32_218 : BitVec 32 := 0#32
  let c0_i32_219 : BitVec 32 := 0#32
  ![v269.toNat, 0, 0]
def k0_dev15 (d23 : Dev nD) : Nat :=
  let c0_i32_213 : BitVec 32 := 0#32
  let c1_i32_202 : BitVec 32 := 1#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let v264 : BitVec 32 := Scalar.subi c1_i32_202 v257
  let c4_i32_212 : BitVec 32 := 4#32
  let v274 : BitVec 32 := Scalar.muli v264 c4_i32_212
  let v275 : BitVec 32 := Scalar.addi c0_i32_213 v274
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let c2_i32_214 : BitVec 32 := 2#32
  let v276 : BitVec 32 := Scalar.muli v260 c2_i32_214
  let v277 : BitVec 32 := Scalar.addi v275 v276
  let v261 : BitVec 32 := Dev.word d23
  let c1_i32_201 : BitVec 32 := 1#32
  let v262 : BitVec 32 := Scalar.divsi v261 c1_i32_201
  let c2_i32_200 : BitVec 32 := 2#32
  let v263 : BitVec 32 := Scalar.remsi v262 c2_i32_200
  let c1_i32_215 : BitVec 32 := 1#32
  let v278 : BitVec 32 := Scalar.muli v263 c1_i32_215
  let v279 : BitVec 32 := Scalar.addi v277 v278
  v279.toNat
def k0_off10 (d23 : Dev nD) : Fin 3 → Nat :=
  let c2_i32_207 : BitVec 32 := 2#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let v270 : BitVec 32 := Scalar.muli c2_i32_207 v257
  let c1_i32_203 : BitVec 32 := 1#32
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let v265 : BitVec 32 := Scalar.subi c1_i32_203 v260
  let v271 : BitVec 32 := Scalar.addi v270 v265
  let c0_i32_229 : BitVec 32 := 0#32
  let c0_i32_230 : BitVec 32 := 0#32
  ![v271.toNat, 0, 0]
def k0_dev16 (d23 : Dev nD) : Nat :=
  let c0_i32_224 : BitVec 32 := 0#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let c4_i32_223 : BitVec 32 := 4#32
  let v288 : BitVec 32 := Scalar.muli v257 c4_i32_223
  let v289 : BitVec 32 := Scalar.addi c0_i32_224 v288
  let c1_i32_203 : BitVec 32 := 1#32
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let v265 : BitVec 32 := Scalar.subi c1_i32_203 v260
  let c2_i32_225 : BitVec 32 := 2#32
  let v290 : BitVec 32 := Scalar.muli v265 c2_i32_225
  let v291 : BitVec 32 := Scalar.addi v289 v290
  let v261 : BitVec 32 := Dev.word d23
  let c1_i32_201 : BitVec 32 := 1#32
  let v262 : BitVec 32 := Scalar.divsi v261 c1_i32_201
  let c2_i32_200 : BitVec 32 := 2#32
  let v263 : BitVec 32 := Scalar.remsi v262 c2_i32_200
  let c1_i32_226 : BitVec 32 := 1#32
  let v292 : BitVec 32 := Scalar.muli v263 c1_i32_226
  let v293 : BitVec 32 := Scalar.addi v291 v292
  v293.toNat
def k0_off11 (d23 : Dev nD) : Fin 3 → Nat :=
  let c2_i32_208 : BitVec 32 := 2#32
  let c1_i32_204 : BitVec 32 := 1#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let v266 : BitVec 32 := Scalar.subi c1_i32_204 v257
  let v272 : BitVec 32 := Scalar.muli c2_i32_208 v266
  let c1_i32_205 : BitVec 32 := 1#32
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let v267 : BitVec 32 := Scalar.subi c1_i32_205 v260
  let v273 : BitVec 32 := Scalar.addi v272 v267
  let c0_i32_240 : BitVec 32 := 0#32
  let c0_i32_241 : BitVec 32 := 0#32
  ![v273.toNat, 0, 0]
def k0_dev17 (d23 : Dev nD) : Nat :=
  let c0_i32_235 : BitVec 32 := 0#32
  let c1_i32_204 : BitVec 32 := 1#32
  let v255 : BitVec 32 := Dev.word d23
  let c4_i32_197 : BitVec 32 := 4#32
  let v256 : BitVec 32 := Scalar.divsi v255 c4_i32_197
  let c2_i32_196 : BitVec 32 := 2#32
  let v257 : BitVec 32 := Scalar.remsi v256 c2_i32_196
  let v266 : BitVec 32 := Scalar.subi c1_i32_204 v257
  let c4_i32_234 : BitVec 32 := 4#32
  let v302 : BitVec 32 := Scalar.muli v266 c4_i32_234
  let v303 : BitVec 32 := Scalar.addi c0_i32_235 v302
  let c1_i32_205 : BitVec 32 := 1#32
  let v258 : BitVec 32 := Dev.word d23
  let c2_i32_199 : BitVec 32 := 2#32
  let v259 : BitVec 32 := Scalar.divsi v258 c2_i32_199
  let c2_i32_198 : BitVec 32 := 2#32
  let v260 : BitVec 32 := Scalar.remsi v259 c2_i32_198
  let v267 : BitVec 32 := Scalar.subi c1_i32_205 v260
  let c2_i32_236 : BitVec 32 := 2#32
  let v304 : BitVec 32 := Scalar.muli v267 c2_i32_236
  let v305 : BitVec 32 := Scalar.addi v303 v304
  let v261 : BitVec 32 := Dev.word d23
  let c1_i32_201 : BitVec 32 := 1#32
  let v262 : BitVec 32 := Scalar.divsi v261 c1_i32_201
  let c2_i32_200 : BitVec 32 := 2#32
  let v263 : BitVec 32 := Scalar.remsi v262 c2_i32_200
  let c1_i32_237 : BitVec 32 := 1#32
  let v306 : BitVec 32 := Scalar.muli v263 c1_i32_237
  let v307 : BitVec 32 := Scalar.addi v305 v306
  v307.toNat
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c7_i32 : BitVec 32 := 7#32
  let v6 : BitVec 1 := Scalar.cmpi .eq arg1 c7_i32
  let v8 : BitVec 1 := Scalar.andi v5 v6
  let arg2 : BitVec 32 := BitVec.ofNat 32 (i 2).val
  let c0_i32_3 : BitVec 32 := 0#32
  let v7 : BitVec 1 := Scalar.cmpi .eq arg2 c0_i32_3
  let v9 : BitVec 1 := Scalar.andi v8 v7
  let v21 : BitVec 32 := Scalar.extui v9
  let c0_i32_11 : BitVec 32 := 0#32
  let v22 : BitVec 1 := Scalar.cmpi .ne v21 c0_i32_11
  v22

def k0_off12 (d23 : Dev nD) : Fin 4 → Nat :=
  let c0_i32_189 : BitVec 32 := 0#32
  let c1_i32_15 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v32 : BitVec 32 := Scalar.subi c1_i32_15 v31
  let c0_i32_193 : BitVec 32 := 0#32
  let c0_i32_194 : BitVec 32 := 0#32
  ![0, v32.toNat, 0, 0]
def k0_off13 (d23 : Dev nD) : Fin 4 → Nat :=
  let c1_i32_198 : BitVec 32 := 1#32
  let c1_i32_18 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v35 : BitVec 32 := Scalar.subi c1_i32_18 v31
  let c0_i32_202 : BitVec 32 := 0#32
  let c0_i32_203 : BitVec 32 := 0#32
  ![1, v35.toNat, 0, 0]
def k0_off14 (d23 : Dev nD) : Fin 4 → Nat :=
  let c2_i32_207 : BitVec 32 := 2#32
  let c1_i32_21 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v38 : BitVec 32 := Scalar.subi c1_i32_21 v31
  let c0_i32_211 : BitVec 32 := 0#32
  let c0_i32_212 : BitVec 32 := 0#32
  ![2, v38.toNat, 0, 0]
def k0_off15 (d23 : Dev nD) : Fin 4 → Nat :=
  let c3_i32_216 : BitVec 32 := 3#32
  let c1_i32_24 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v41 : BitVec 32 := Scalar.subi c1_i32_24 v31
  let c0_i32_220 : BitVec 32 := 0#32
  let c0_i32_221 : BitVec 32 := 0#32
  ![3, v41.toNat, 0, 0]
def k0_off16 (d23 : Dev nD) : Fin 4 → Nat :=
  let c0_i32_225 : BitVec 32 := 0#32
  let c1_i32_27 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v44 : BitVec 32 := Scalar.subi c1_i32_27 v31
  let c0_i32_229 : BitVec 32 := 0#32
  let c0_i32_230 : BitVec 32 := 0#32
  ![0, v44.toNat, 0, 0]
def k0_off17 (d23 : Dev nD) : Fin 4 → Nat :=
  let c1_i32_234 : BitVec 32 := 1#32
  let c1_i32_30 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v47 : BitVec 32 := Scalar.subi c1_i32_30 v31
  let c0_i32_238 : BitVec 32 := 0#32
  let c0_i32_239 : BitVec 32 := 0#32
  ![1, v47.toNat, 0, 0]
def k0_off18 (d23 : Dev nD) : Fin 4 → Nat :=
  let c2_i32_243 : BitVec 32 := 2#32
  let c1_i32_33 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v50 : BitVec 32 := Scalar.subi c1_i32_33 v31
  let c0_i32_247 : BitVec 32 := 0#32
  let c0_i32_248 : BitVec 32 := 0#32
  ![2, v50.toNat, 0, 0]
def k0_off19 (d23 : Dev nD) : Fin 4 → Nat :=
  let c3_i32_252 : BitVec 32 := 3#32
  let c1_i32_36 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v53 : BitVec 32 := Scalar.subi c1_i32_36 v31
  let c0_i32_256 : BitVec 32 := 0#32
  let c0_i32_257 : BitVec 32 := 0#32
  ![3, v53.toNat, 0, 0]
def k0_off20 (d23 : Dev nD) : Fin 3 → Nat :=
  let c2_i32_334 : BitVec 32 := 2#32
  let c1_i32_330 : BitVec 32 := 1#32
  let v317 : BitVec 32 := Dev.word d23
  let c4_i32_325 : BitVec 32 := 4#32
  let v318 : BitVec 32 := Scalar.divsi v317 c4_i32_325
  let c2_i32_324 : BitVec 32 := 2#32
  let v319 : BitVec 32 := Scalar.remsi v318 c2_i32_324
  let v326 : BitVec 32 := Scalar.subi c1_i32_330 v319
  let v330 : BitVec 32 := Scalar.muli c2_i32_334 v326
  let v320 : BitVec 32 := Dev.word d23
  let c2_i32_327 : BitVec 32 := 2#32
  let v321 : BitVec 32 := Scalar.divsi v320 c2_i32_327
  let c2_i32_326 : BitVec 32 := 2#32
  let v322 : BitVec 32 := Scalar.remsi v321 c2_i32_326
  let v331 : BitVec 32 := Scalar.addi v330 v322
  let c0_i32_377 : BitVec 32 := 0#32
  let c0_i32_378 : BitVec 32 := 0#32
  ![v331.toNat, 0, 0]
def k0_off21 (d23 : Dev nD) : Fin 3 → Nat :=
  let c2_i32_335 : BitVec 32 := 2#32
  let v317 : BitVec 32 := Dev.word d23
  let c4_i32_325 : BitVec 32 := 4#32
  let v318 : BitVec 32 := Scalar.divsi v317 c4_i32_325
  let c2_i32_324 : BitVec 32 := 2#32
  let v319 : BitVec 32 := Scalar.remsi v318 c2_i32_324
  let v332 : BitVec 32 := Scalar.muli c2_i32_335 v319
  let c1_i32_331 : BitVec 32 := 1#32
  let v320 : BitVec 32 := Dev.word d23
  let c2_i32_327 : BitVec 32 := 2#32
  let v321 : BitVec 32 := Scalar.divsi v320 c2_i32_327
  let c2_i32_326 : BitVec 32 := 2#32
  let v322 : BitVec 32 := Scalar.remsi v321 c2_i32_326
  let v327 : BitVec 32 := Scalar.subi c1_i32_331 v322
  let v333 : BitVec 32 := Scalar.addi v332 v327
  let c0_i32_385 : BitVec 32 := 0#32
  let c0_i32_386 : BitVec 32 := 0#32
  ![v333.toNat, 0, 0]
def k0_off22 (d23 : Dev nD) : Fin 3 → Nat :=
  let c2_i32_336 : BitVec 32 := 2#32
  let c1_i32_332 : BitVec 32 := 1#32
  let v317 : BitVec 32 := Dev.word d23
  let c4_i32_325 : BitVec 32 := 4#32
  let v318 : BitVec 32 := Scalar.divsi v317 c4_i32_325
  let c2_i32_324 : BitVec 32 := 2#32
  let v319 : BitVec 32 := Scalar.remsi v318 c2_i32_324
  let v328 : BitVec 32 := Scalar.subi c1_i32_332 v319
  let v334 : BitVec 32 := Scalar.muli c2_i32_336 v328
  let c1_i32_333 : BitVec 32 := 1#32
  let v320 : BitVec 32 := Dev.word d23
  let c2_i32_327 : BitVec 32 := 2#32
  let v321 : BitVec 32 := Scalar.divsi v320 c2_i32_327
  let c2_i32_326 : BitVec 32 := 2#32
  let v322 : BitVec 32 := Scalar.remsi v321 c2_i32_326
  let v329 : BitVec 32 := Scalar.subi c1_i32_333 v322
  let v335 : BitVec 32 := Scalar.addi v334 v329
  let c0_i32_393 : BitVec 32 := 0#32
  let c0_i32_394 : BitVec 32 := 0#32
  ![v335.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSiblingRowsIdeal.lean ====
abbrev S8192x4224 : Shape := ⟨2, ![8192, 4224]⟩
abbrev S33792x10240 : Shape := ⟨2, ![33792, 10240]⟩
abbrev S32x2x256x512 : Shape := ⟨4, ![32, 2, 256, 512]⟩
abbrev S32x2x256x256 : Shape := ⟨4, ![32, 2, 256, 256]⟩
abbrev S8192x2048 : Shape := ⟨2, ![8192, 2048]⟩
abbrev S32x256x2048 : Shape := ⟨3, ![32, 256, 2048]⟩
abbrev S8x1024x4224 : Shape := ⟨3, ![8, 1024, 4224]⟩
abbrev S8x4224x10240 : Shape := ⟨3, ![8, 4224, 10240]⟩
abbrev S8x1024x10240 : Shape := ⟨3, ![8, 1024, 10240]⟩
abbrev S8x1024x4x2560 : Shape := ⟨4, ![8, 1024, 4, 2560]⟩
abbrev S8x4x1024x2560 : Shape := ⟨4, ![8, 4, 1024, 2560]⟩
abbrev S32x1024x2560 : Shape := ⟨3, ![32, 1024, 2560]⟩
abbrev S4x2x4x2x256x512 : Shape := ⟨6, ![4, 2, 4, 2, 256, 512]⟩
abbrev S4x1x4x1x256x512 : Shape := ⟨6, ![4, 1, 4, 1, 256, 512]⟩
abbrev S4x4x256x512 : Shape := ⟨4, ![4, 4, 256, 512]⟩
abbrev S4x1x4x256x512 : Shape := ⟨5, ![4, 1, 4, 256, 512]⟩
abbrev S4x2x4x256x512 : Shape := ⟨5, ![4, 2, 4, 256, 512]⟩
abbrev S32x256x512 : Shape := ⟨3, ![32, 256, 512]⟩
abbrev S4x2x4x2x256x256 : Shape := ⟨6, ![4, 2, 4, 2, 256, 256]⟩
abbrev S4x1x4x1x256x256 : Shape := ⟨6, ![4, 1, 4, 1, 256, 256]⟩
abbrev S4x4x256x256 : Shape := ⟨4, ![4, 4, 256, 256]⟩
abbrev S4x1x4x256x256 : Shape := ⟨5, ![4, 1, 4, 256, 256]⟩
abbrev S4x2x4x256x256 : Shape := ⟨5, ![4, 2, 4, 256, 256]⟩
abbrev S32x256x256 : Shape := ⟨3, ![32, 256, 256]⟩
abbrev S4x2x1024x2048 : Shape := ⟨4, ![4, 2, 1024, 2048]⟩
abbrev S2x256x2048 : Shape := ⟨3, ![2, 256, 2048]⟩
abbrev S24x256x2048 : Shape := ⟨3, ![24, 256, 2048]⟩
abbrev S4x3x2x256x2048 : Shape := ⟨5, ![4, 3, 2, 256, 2048]⟩
abbrev S4x2x3x256x2048 : Shape := ⟨5, ![4, 2, 3, 256, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S33792x10240, .bf16⟩
  | .hbm, ⟨2, _⟩ => ⟨S32x2x256x512, .bf16⟩
  | .hbm, ⟨3, _⟩ => ⟨S32x2x256x256, .bf16⟩
  | .hbm, ⟨4, _⟩ => ⟨S32x2x256x256, .bf16⟩
  | .hbm, ⟨5, _⟩ => ⟨S8192x2048, .f32⟩
  | .hbm, ⟨6, _⟩ => ⟨S8192x2048, .f32⟩
  | .hbm, ⟨7, _⟩ => ⟨S32x256x2048, .bf16⟩
  | .hbm, ⟨8, _⟩ => ⟨S8x1024x4224, .bf16⟩
  | .hbm, ⟨9, _⟩ => ⟨S8x4224x10240, .bf16⟩
  | .hbm, ⟨10, _⟩ => ⟨S8x1024x10240, .f32⟩
  | .hbm, ⟨11, _⟩ => ⟨S8x1024x10240, .bf16⟩
  | .hbm, ⟨12, _⟩ => ⟨S8x1024x4x2560, .bf16⟩
  | .hbm, ⟨13, _⟩ => ⟨S8x4x1024x2560, .bf16⟩
  | .hbm, ⟨14, _⟩ => ⟨S32x1024x2560, .bf16⟩
  | .hbm, ⟨15, _⟩ => ⟨S4x2x4x2x256x512, .bf16⟩
  | .hbm, ⟨16, _⟩ => ⟨S4x1x4x1x256x512, .bf16⟩
  | .hbm, ⟨17, _⟩ => ⟨S4x4x256x512, .bf16⟩
  | .hbm, ⟨18, _⟩ => ⟨S4x1x4x1x256x512, .bf16⟩
  | .hbm, ⟨19, _⟩ => ⟨S4x4x256x512, .bf16⟩
  | .hbm, ⟨20, _⟩ => ⟨S4x1x4x256x512, .bf16⟩
  | .hbm, ⟨21, _⟩ => ⟨S4x1x4x256x512, .bf16⟩
  | .hbm, ⟨22, _⟩ => ⟨S4x2x4x256x512, .bf16⟩
  | .hbm, ⟨23, _⟩ => ⟨S32x256x512, .bf16⟩
  | .hbm, ⟨24, _⟩ => ⟨S4x2x4x2x256x256, .bf16⟩
  | .hbm, ⟨25, _⟩ => ⟨S4x1x4x1x256x256, .bf16⟩
  | .hbm, ⟨26, _⟩ => ⟨S4x4x256x256, .bf16⟩
  | .hbm, ⟨27, _⟩ => ⟨S4x1x4x1x256x256, .bf16⟩
  | .hbm, ⟨28, _⟩ => ⟨S4x4x256x256, .bf16⟩
  | .hbm, ⟨29, _⟩ => ⟨S4x1x4x256x256, .bf16⟩
  | .hbm, ⟨30, _⟩ => ⟨S4x1x4x256x256, .bf16⟩
  | .hbm, ⟨31, _⟩ => ⟨S4x2x4x256x256, .bf16⟩
  | .hbm, ⟨32, _⟩ => ⟨S32x256x256, .bf16⟩
  | .hbm, ⟨33, _⟩ => ⟨S4x2x4x2x256x256, .bf16⟩
  | .hbm, ⟨34, _⟩ => ⟨S4x1x4x1x256x256, .bf16⟩
  | .hbm, ⟨35, _⟩ => ⟨S4x4x256x256, .bf16⟩
  | .hbm, ⟨36, _⟩ => ⟨S4x1x4x1x256x256, .bf16⟩
  | .hbm, ⟨37, _⟩ => ⟨S4x4x256x256, .bf16⟩
  | .hbm, ⟨38, _⟩ => ⟨S4x1x4x256x256, .bf16⟩
  | .hbm, ⟨39, _⟩ => ⟨S4x1x4x256x256, .bf16⟩
  | .hbm, ⟨40, _⟩ => ⟨S4x2x4x256x256, .bf16⟩
  | .hbm, ⟨41, _⟩ => ⟨S32x256x256, .bf16⟩
  | .hbm, ⟨42, _⟩ => ⟨S4x2x1024x2048, .f32⟩
  | .hbm, ⟨43, _⟩ => ⟨S4x2x1024x2048, .f32⟩
  | .hbm, ⟨44, _⟩ => ⟨S8192x2048, .f32⟩
  | .hbm, ⟨45, _⟩ => ⟨S4x2x1024x2048, .f32⟩
  | .hbm, ⟨46, _⟩ => ⟨S4x2x1024x2048, .f32⟩
  | .hbm, ⟨47, _⟩ => ⟨S8192x2048, .f32⟩
  | .hbm, ⟨48, _⟩ => ⟨S2x256x2048, .bf16⟩
  | .hbm, ⟨49, _⟩ => ⟨S2x256x2048, .bf16⟩
  | .hbm, ⟨50, _⟩ => ⟨S2x256x2048, .bf16⟩
  | .hbm, ⟨51, _⟩ => ⟨S2x256x2048, .bf16⟩
  | .hbm, ⟨52, _⟩ => ⟨S2x256x2048, .bf16⟩
  | .hbm, ⟨53, _⟩ => ⟨S2x256x2048, .bf16⟩
  | .hbm, ⟨54, _⟩ => ⟨S2x256x2048, .bf16⟩
  | .hbm, ⟨55, _⟩ => ⟨S2x256x2048, .bf16⟩
  | .hbm, ⟨56, _⟩ => ⟨S2x256x2048, .bf16⟩
  | .hbm, ⟨57, _⟩ => ⟨S2x256x2048, .bf16⟩
  | .hbm, ⟨58, _⟩ => ⟨S2x256x2048, .bf16⟩
  | .hbm, ⟨59, _⟩ => ⟨S2x256x2048, .bf16⟩
  | .hbm, ⟨60, _⟩ => ⟨S24x256x2048, .bf16⟩
  | .hbm, ⟨61, _⟩ => ⟨S4x3x2x256x2048, .bf16⟩
  | .hbm, ⟨62, _⟩ => ⟨S4x2x3x256x2048, .bf16⟩
  | .hbm, ⟨63, _⟩ => ⟨S24x256x2048, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩

abbrev nD : Nat := 1
abbrev τ : Topo := Topo.v7x

variable {F : FTy → Type} [FloatOps F]
-- ==== KernelOwnRows.lean ====
abbrev S1024x4224 : Shape := ⟨2, ![1024, 4224]⟩
abbrev S4224x10240 : Shape := ⟨2, ![4224, 10240]⟩
abbrev S4x1024x2560 : Shape := ⟨3, ![4, 1024, 2560]⟩
abbrev S4x256x512 : Shape := ⟨3, ![4, 256, 512]⟩
abbrev S4x256x256 : Shape := ⟨3, ![4, 256, 256]⟩
abbrev S3x256x512 : Shape := ⟨3, ![3, 256, 512]⟩
abbrev S3x256x256 : Shape := ⟨3, ![3, 256, 256]⟩
abbrev S4224x1280 : Shape := ⟨2, ![4224, 1280]⟩
abbrev S1x1024x1280 : Shape := ⟨3, ![1, 1024, 1280]⟩
abbrev S1 : Shape := ⟨1, ![1]⟩
abbrev S9 : Shape := ⟨1, ![9]⟩
abbrev S_ : Shape := ⟨0, ![]⟩
abbrev S1x256x512 : Shape := ⟨3, ![1, 256, 512]⟩
abbrev S256x512 : Shape := ⟨2, ![256, 512]⟩
abbrev S1x256x256 : Shape := ⟨3, ![1, 256, 256]⟩
abbrev S256x256 : Shape := ⟨2, ![256, 256]⟩
abbrev S1024x1280 : Shape := ⟨2, ![1024, 1280]⟩

abbrev nBuf : Space → Nat
  | .hbm => 11
  | .vmem => 5
  | .smem => 0
  | _ => 0

abbrev bufTy : (tb : Table) → Fin (tcTables nBuf tb) → BufTy
  | .hbm, ⟨0, _⟩ => ⟨S1024x4224, .bf16⟩
  | .hbm, ⟨1, _⟩ => ⟨S4224x10240, .bf16⟩
  | .hbm, ⟨2, _⟩ => ⟨S4x1024x2560, .bf16⟩
  | .hbm, ⟨3, _⟩ => ⟨S4x256x512, .bf16⟩
  | .hbm, ⟨4, _⟩ => ⟨S4x256x256, .bf16⟩
  | .hbm, ⟨5, _⟩ => ⟨S4x256x256, .bf16⟩
  | .hbm, ⟨6, _⟩ => ⟨S4x1024x2560, .bf16⟩
  | .hbm, ⟨7, _⟩ => ⟨S4x1024x2560, .bf16⟩
  | .hbm, ⟨8, _⟩ => ⟨S3x256x512, .bf16⟩
  | .hbm, ⟨9, _⟩ => ⟨S3x256x256, .bf16⟩
  | .hbm, ⟨10, _⟩ => ⟨S3x256x256, .bf16⟩
  | .local _ .vmem, ⟨0, _⟩ => ⟨S1024x4224, .bf16⟩
  | .local _ .vmem, ⟨1, _⟩ => ⟨S4224x1280, .bf16⟩
  | .local _ .vmem, ⟨2, _⟩ => ⟨S4224x1280, .bf16⟩
  | .local _ .vmem, ⟨3, _⟩ => ⟨S1x1024x1280, .bf16⟩
  | .local _ .vmem, ⟨4, _⟩ => ⟨S1x1024x1280, .bf16⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨3, ![1, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_4 : BitVec 32 := 0#32
  let v11 : BitVec 1 := Scalar.cmpi .ne v10 c0_i32_4
  v11

def k0_dev1 (d23 : Dev nD) : Nat :=
  let c0_i32_19 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_18 : BitVec 32 := 4#32
  let v33 : BitVec 32 := Scalar.muli v25 c4_i32_18
  let v34 : BitVec 32 := Scalar.addi c0_i32_19 v33
  let v26 : BitVec 32 := Dev.word d23
  let c2_i32_13 : BitVec 32 := 2#32
  let v27 : BitVec 32 := Scalar.divsi v26 c2_i32_13
  let c2_i32_12 : BitVec 32 := 2#32
  let v28 : BitVec 32 := Scalar.remsi v27 c2_i32_12
  let c2_i32_20 : BitVec 32 := 2#32
  let v35 : BitVec 32 := Scalar.muli v28 c2_i32_20
  let v36 : BitVec 32 := Scalar.addi v34 v35
  let c1_i32_15 : BitVec 32 := 1#32
  let v29 : BitVec 32 := Dev.word d23
  let c1_i32 : BitVec 32 := 1#32
  let v30 : BitVec 32 := Scalar.divsi v29 c1_i32
  let c2_i32_14 : BitVec 32 := 2#32
  let v31 : BitVec 32 := Scalar.remsi v30 c2_i32_14
  let v32 : BitVec 32 := Scalar.subi c1_i32_15 v31
  let c1_i32_21 : BitVec 32 := 1#32
  let v37 : BitVec 32 := Scalar.muli v32 c1_i32_21
  let v38 : BitVec 32 := Scalar.addi v36 v37
  v38.toNat
def k0_off1 (d23 : Dev nD) : Fin 3 → Nat :=
  let c2_i32_32 : BitVec 32 := 2#32
  let c1_i32_28 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v52 : BitVec 32 := Scalar.subi c1_i32_28 v45
  let v56 : BitVec 32 := Scalar.muli c2_i32_32 v52
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v57 : BitVec 32 := Scalar.addi v56 v48
  let c0_i32_50 : BitVec 32 := 0#32
  let c0_i32_51 : BitVec 32 := 0#32
  ![v57.toNat, 0, 0]
def k0_dev2 (d23 : Dev nD) : Nat :=
  let c0_i32_45 : BitVec 32 := 0#32
  let c1_i32_28 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v52 : BitVec 32 := Scalar.subi c1_i32_28 v45
  let c4_i32_44 : BitVec 32 := 4#32
  let v74 : BitVec 32 := Scalar.muli v52 c4_i32_44
  let v75 : BitVec 32 := Scalar.addi c0_i32_45 v74
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let c2_i32_46 : BitVec 32 := 2#32
  let v76 : BitVec 32 := Scalar.muli v48 c2_i32_46
  let v77 : BitVec 32 := Scalar.addi v75 v76
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_47 : BitVec 32 := 1#32
  let v78 : BitVec 32 := Scalar.muli v51 c1_i32_47
  let v79 : BitVec 32 := Scalar.addi v77 v78
  v79.toNat
def k0_off2 (d23 : Dev nD) : Fin 3 → Nat :=
  let c2_i32_33 : BitVec 32 := 2#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v58 : BitVec 32 := Scalar.muli c2_i32_33 v45
  let c1_i32_29 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v53 : BitVec 32 := Scalar.subi c1_i32_29 v48
  let v59 : BitVec 32 := Scalar.addi v58 v53
  let c0_i32_61 : BitVec 32 := 0#32
  let c0_i32_62 : BitVec 32 := 0#32
  ![v59.toNat, 0, 0]
def k0_dev3 (d23 : Dev nD) : Nat :=
  let c0_i32_56 : BitVec 32 := 0#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let c4_i32_55 : BitVec 32 := 4#32
  let v88 : BitVec 32 := Scalar.muli v45 c4_i32_55
  let v89 : BitVec 32 := Scalar.addi c0_i32_56 v88
  let c1_i32_29 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v53 : BitVec 32 := Scalar.subi c1_i32_29 v48
  let c2_i32_57 : BitVec 32 := 2#32
  let v90 : BitVec 32 := Scalar.muli v53 c2_i32_57
  let v91 : BitVec 32 := Scalar.addi v89 v90
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_58 : BitVec 32 := 1#32
  let v92 : BitVec 32 := Scalar.muli v51 c1_i32_58
  let v93 : BitVec 32 := Scalar.addi v91 v92
  v93.toNat
def k0_off3 (d23 : Dev nD) : Fin 3 → Nat :=
  let c2_i32_34 : BitVec 32 := 2#32
  let c1_i32_30 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v54 : BitVec 32 := Scalar.subi c1_i32_30 v45
  let v60 : BitVec 32 := Scalar.muli c2_i32_34 v54
  let c1_i32_31 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v55 : BitVec 32 := Scalar.subi c1_i32_31 v48
  let v61 : BitVec 32 := Scalar.addi v60 v55
  let c0_i32_72 : BitVec 32 := 0#32
  let c0_i32_73 : BitVec 32 := 0#32
  ![v61.toNat, 0, 0]
def k0_dev4 (d23 : Dev nD) : Nat :=
  let c0_i32_67 : BitVec 32 := 0#32
  let c1_i32_30 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v54 : BitVec 32 := Scalar.subi c1_i32_30 v45
  let c4_i32_66 : BitVec 32 := 4#32
  let v102 : BitVec 32 := Scalar.muli v54 c4_i32_66
  let v103 : BitVec 32 := Scalar.addi c0_i32_67 v102
  let c1_i32_31 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v55 : BitVec 32 := Scalar.subi c1_i32_31 v48
  let c2_i32_68 : BitVec 32 := 2#32
  let v104 : BitVec 32 := Scalar.muli v55 c2_i32_68
  let v105 : BitVec 32 := Scalar.addi v103 v104
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_69 : BitVec 32 := 1#32
  let v106 : BitVec 32 := Scalar.muli v51 c1_i32_69
  let v107 : BitVec 32 := Scalar.addi v105 v106
  v107.toNat
def k0_off4 (d23 : Dev nD) : Fin 3 → Nat :=
  let c2_i32_35 : BitVec 32 := 2#32
  let c1_i32_28 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v52 : BitVec 32 := Scalar.subi c1_i32_28 v45
  let v62 : BitVec 32 := Scalar.muli c2_i32_35 v52
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v63 : BitVec 32 := Scalar.addi v62 v48
  let c0_i32_82 : BitVec 32 := 0#32
  let c0_i32_83 : BitVec 32 := 0#32
  ![v63.toNat, 0, 0]
def k0_dev5 (d23 : Dev nD) : Nat :=
  let c0_i32_77 : BitVec 32 := 0#32
  let c1_i32_28 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v52 : BitVec 32 := Scalar.subi c1_i32_28 v45
  let c4_i32_76 : BitVec 32 := 4#32
  let v116 : BitVec 32 := Scalar.muli v52 c4_i32_76
  let v117 : BitVec 32 := Scalar.addi c0_i32_77 v116
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let c2_i32_78 : BitVec 32 := 2#32
  let v118 : BitVec 32 := Scalar.muli v48 c2_i32_78
  let v119 : BitVec 32 := Scalar.addi v117 v118
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_79 : BitVec 32 := 1#32
  let v120 : BitVec 32 := Scalar.muli v51 c1_i32_79
  let v121 : BitVec 32 := Scalar.addi v119 v120
  v121.toNat
def k0_off5 (d23 : Dev nD) : Fin 3 → Nat :=
  let c2_i32_36 : BitVec 32 := 2#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v64 : BitVec 32 := Scalar.muli c2_i32_36 v45
  let c1_i32_29 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v53 : BitVec 32 := Scalar.subi c1_i32_29 v48
  let v65 : BitVec 32 := Scalar.addi v64 v53
  let c0_i32_93 : BitVec 32 := 0#32
  let c0_i32_94 : BitVec 32 := 0#32
  ![v65.toNat, 0, 0]
def k0_dev6 (d23 : Dev nD) : Nat :=
  let c0_i32_88 : BitVec 32 := 0#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let c4_i32_87 : BitVec 32 := 4#32
  let v130 : BitVec 32 := Scalar.muli v45 c4_i32_87
  let v131 : BitVec 32 := Scalar.addi c0_i32_88 v130
  let c1_i32_29 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v53 : BitVec 32 := Scalar.subi c1_i32_29 v48
  let c2_i32_89 : BitVec 32 := 2#32
  let v132 : BitVec 32 := Scalar.muli v53 c2_i32_89
  let v133 : BitVec 32 := Scalar.addi v131 v132
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_90 : BitVec 32 := 1#32
  let v134 : BitVec 32 := Scalar.muli v51 c1_i32_90
  let v135 : BitVec 32 := Scalar.addi v133 v134
  v135.toNat
def k0_off6 (d23 : Dev nD) : Fin 3 → Nat :=
  let c2_i32_37 : BitVec 32 := 2#32
  let c1_i32_30 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v54 : BitVec 32 := Scalar.subi c1_i32_30 v45
  let v66 : BitVec 32 := Scalar.muli c2_i32_37 v54
  let c1_i32_31 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v55 : BitVec 32 := Scalar.subi c1_i32_31 v48
  let v67 : BitVec 32 := Scalar.addi v66 v55
  let c0_i32_103 : BitVec 32 := 0#32
  let c0_i32_104 : BitVec 32 := 0#32
  ![v67.toNat, 0, 0]
def k0_dev7 (d23 : Dev nD) : Nat :=
  let c0_i32_98 : BitVec 32 := 0#32
  let c1_i32_30 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v54 : BitVec 32 := Scalar.subi c1_i32_30 v45
  let c4_i32_97 : BitVec 32 := 4#32
  let v144 : BitVec 32 := Scalar.muli v54 c4_i32_97
  let v145 : BitVec 32 := Scalar.addi c0_i32_98 v144
  let c1_i32_31 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v55 : BitVec 32 := Scalar.subi c1_i32_31 v48
  let c2_i32_99 : BitVec 32 := 2#32
  let v146 : BitVec 32 := Scalar.muli v55 c2_i32_99
  let v147 : BitVec 32 := Scalar.addi v145 v146
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_100 : BitVec 32 := 1#32
  let v148 : BitVec 32 := Scalar.muli v51 c1_i32_100
  let v149 : BitVec 32 := Scalar.addi v147 v148
  v149.toNat
def k0_dev8 (d23 : Dev nD) : Nat :=
  let c0_i32_108 : BitVec 32 := 0#32
  let c1_i32_28 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v52 : BitVec 32 := Scalar.subi c1_i32_28 v45
  let c4_i32_107 : BitVec 32 := 4#32
  let v158 : BitVec 32 := Scalar.muli v52 c4_i32_107
  let v159 : BitVec 32 := Scalar.addi c0_i32_108 v158
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let c2_i32_109 : BitVec 32 := 2#32
  let v160 : BitVec 32 := Scalar.muli v48 c2_i32_109
  let v161 : BitVec 32 := Scalar.addi v159 v160
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_110 : BitVec 32 := 1#32
  let v162 : BitVec 32 := Scalar.muli v51 c1_i32_110
  let v163 : BitVec 32 := Scalar.addi v161 v162
  v163.toNat
def k0_dev9 (d23 : Dev nD) : Nat :=
  let c0_i32_119 : BitVec 32 := 0#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let c4_i32_118 : BitVec 32 := 4#32
  let v172 : BitVec 32 := Scalar.muli v45 c4_i32_118
  let v173 : BitVec 32 := Scalar.addi c0_i32_119 v172
  let c1_i32_29 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v53 : BitVec 32 := Scalar.subi c1_i32_29 v48
  let c2_i32_120 : BitVec 32 := 2#32
  let v174 : BitVec 32 := Scalar.muli v53 c2_i32_120
  let v175 : BitVec 32 := Scalar.addi v173 v174
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_121 : BitVec 32 := 1#32
  let v176 : BitVec 32 := Scalar.muli v51 c1_i32_121
  let v177 : BitVec 32 := Scalar.addi v175 v176
  v177.toNat
def k0_dev10 (d23 : Dev nD) : Nat :=
  let c0_i32_129 : BitVec 32 := 0#32
  let c1_i32_30 : BitVec 32 := 1#32
  let v43 : BitVec 32 := Dev.word d23
  let c4_i32_23 : BitVec 32 := 4#32
  let v44 : BitVec 32 := Scalar.divsi v43 c4_i32_23
  let c2_i32_22 : BitVec 32 := 2#32
  let v45 : BitVec 32 := Scalar.remsi v44 c2_i32_22
  let v54 : BitVec 32 := Scalar.subi c1_i32_30 v45
  let c4_i32_128 : BitVec 32 := 4#32
  let v186 : BitVec 32 := Scalar.muli v54 c4_i32_128
  let v187 : BitVec 32 := Scalar.addi c0_i32_129 v186
  let c1_i32_31 : BitVec 32 := 1#32
  let v46 : BitVec 32 := Dev.word d23
  let c2_i32_25 : BitVec 32 := 2#32
  let v47 : BitVec 32 := Scalar.divsi v46 c2_i32_25
  let c2_i32_24 : BitVec 32 := 2#32
  let v48 : BitVec 32 := Scalar.remsi v47 c2_i32_24
  let v55 : BitVec 32 := Scalar.subi c1_i32_31 v48
  let c2_i32_130 : BitVec 32 := 2#32
  let v188 : BitVec 32 := Scalar.muli v55 c2_i32_130
  let v189 : BitVec 32 := Scalar.addi v187 v188
  let v49 : BitVec 32 := Dev.word d23
  let c1_i32_27 : BitVec 32 := 1#32
  let v50 : BitVec 32 := Scalar.divsi v49 c1_i32_27
  let c2_i32_26 : BitVec 32 := 2#32
  let v51 : BitVec 32 := Scalar.remsi v50 c2_i32_26
  let c1_i32_131 : BitVec 32 := 1#32
  let v190 : BitVec 32 := Scalar.muli v51 c1_i32_131
  let v191 : BitVec 32 := Scalar.addi v189 v190
  v191.toNat
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c7_i32 : BitVec 32 := 7#32
  let v6 : BitVec 1 := Scalar.cmpi .eq arg1 c7_i32
  let v8 : BitVec 1 := Scalar.andi v5 v6
  let arg2 : BitVec 32 := BitVec.ofNat 32 (i 2).val
  let c0_i32_3 : BitVec 32 := 0#32
  let v7 : BitVec 1 := Scalar.cmpi .eq arg2 c0_i32_3
  let v9 : BitVec 1 := Scalar.andi v8 v7
  let v21 : BitVec 32 := Scalar.extui v9
  let c0_i32_11 : BitVec 32 := 0#32
  let v22 : BitVec 1 := Scalar.cmpi .ne v21 c0_i32_11
  v22

def k0_off7 (d23 : Dev nD) : Fin 3 → Nat :=
  let c2_i32_36 : BitVec 32 := 2#32
  let c1_i32_32 : BitVec 32 := 1#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v53 : BitVec 32 := Scalar.subi c1_i32_32 v46
  let v57 : BitVec 32 := Scalar.muli c2_i32_36 v53
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v58 : BitVec 32 := Scalar.addi v57 v49
  let c0_i32_153 : BitVec 32 := 0#32
  let c0_i32_154 : BitVec 32 := 0#32
  ![v58.toNat, 0, 0]
def k0_off8 (d23 : Dev nD) : Fin 3 → Nat :=
  let c2_i32_37 : BitVec 32 := 2#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v59 : BitVec 32 := Scalar.muli c2_i32_37 v46
  let c1_i32_33 : BitVec 32 := 1#32
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v54 : BitVec 32 := Scalar.subi c1_i32_33 v49
  let v60 : BitVec 32 := Scalar.addi v59 v54
  let c0_i32_161 : BitVec 32 := 0#32
  let c0_i32_162 : BitVec 32 := 0#32
  ![v60.toNat, 0, 0]
def k0_off9 (d23 : Dev nD) : Fin 3 → Nat :=
  let c2_i32_38 : BitVec 32 := 2#32
  let c1_i32_34 : BitVec 32 := 1#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v55 : BitVec 32 := Scalar.subi c1_i32_34 v46
  let v61 : BitVec 32 := Scalar.muli c2_i32_38 v55
  let c1_i32_35 : BitVec 32 := 1#32
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v56 : BitVec 32 := Scalar.subi c1_i32_35 v49
  let v62 : BitVec 32 := Scalar.addi v61 v56
  let c0_i32_169 : BitVec 32 := 0#32
  let c0_i32_170 : BitVec 32 := 0#32
  ![v62.toNat, 0, 0]
def k0_off10 (d23 : Dev nD) : Fin 3 → Nat :=
  let c2_i32_39 : BitVec 32 := 2#32
  let c1_i32_32 : BitVec 32 := 1#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v53 : BitVec 32 := Scalar.subi c1_i32_32 v46
  let v63 : BitVec 32 := Scalar.muli c2_i32_39 v53
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v64 : BitVec 32 := Scalar.addi v63 v49
  let c0_i32_177 : BitVec 32 := 0#32
  let c0_i32_178 : BitVec 32 := 0#32
  ![v64.toNat, 0, 0]
def k0_off11 (d23 : Dev nD) : Fin 3 → Nat :=
  let c2_i32_40 : BitVec 32 := 2#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v65 : BitVec 32 := Scalar.muli c2_i32_40 v46
  let c1_i32_33 : BitVec 32 := 1#32
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v54 : BitVec 32 := Scalar.subi c1_i32_33 v49
  let v66 : BitVec 32 := Scalar.addi v65 v54
  let c0_i32_185 : BitVec 32 := 0#32
  let c0_i32_186 : BitVec 32 := 0#32
  ![v66.toNat, 0, 0]
def k0_off12 (d23 : Dev nD) : Fin 3 → Nat :=
  let c2_i32_41 : BitVec 32 := 2#32
  let c1_i32_34 : BitVec 32 := 1#32
  let v44 : BitVec 32 := Dev.word d23
  let c4_i32_27 : BitVec 32 := 4#32
  let v45 : BitVec 32 := Scalar.divsi v44 c4_i32_27
  let c2_i32_26 : BitVec 32 := 2#32
  let v46 : BitVec 32 := Scalar.remsi v45 c2_i32_26
  let v55 : BitVec 32 := Scalar.subi c1_i32_34 v46
  let v67 : BitVec 32 := Scalar.muli c2_i32_41 v55
  let c1_i32_35 : BitVec 32 := 1#32
  let v47 : BitVec 32 := Dev.word d23
  let c2_i32_29 : BitVec 32 := 2#32
  let v48 : BitVec 32 := Scalar.divsi v47 c2_i32_29
  let c2_i32_28 : BitVec 32 := 2#32
  let v49 : BitVec 32 := Scalar.remsi v48 c2_i32_28
  let v56 : BitVec 32 := Scalar.subi c1_i32_35 v49
  let v68 : BitVec 32 := Scalar.addi v67 v56
  let c0_i32_193 : BitVec 32 := 0#32
  let c0_i32_194 : BitVec 32 := 0#32
  ![v68.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOwnRowsIdeal.lean ====
abbrev S8192x4224 : Shape := ⟨2, ![8192, 4224]⟩
abbrev S33792x10240 : Shape := ⟨2, ![33792, 10240]⟩
abbrev S32x1024x2560 : Shape := ⟨3, ![32, 1024, 2560]⟩
abbrev S32x256x512 : Shape := ⟨3, ![32, 256, 512]⟩
abbrev S32x256x256 : Shape := ⟨3, ![32, 256, 256]⟩
abbrev S8x1024x4224 : Shape := ⟨3, ![8, 1024, 4224]⟩
abbrev S8x4224x10240 : Shape := ⟨3, ![8, 4224, 10240]⟩
abbrev S8x1024x10240 : Shape := ⟨3, ![8, 1024, 10240]⟩
abbrev S8x1024x4x2560 : Shape := ⟨4, ![8, 1024, 4, 2560]⟩
abbrev S8x4x1024x2560 : Shape := ⟨4, ![8, 4, 1024, 2560]⟩
abbrev S4x2x4x1024x2560 : Shape := ⟨5, ![4, 2, 4, 1024, 2560]⟩
abbrev S2x256x512 : Shape := ⟨3, ![2, 256, 512]⟩
abbrev S24x256x512 : Shape := ⟨3, ![24, 256, 512]⟩
abbrev S4x3x2x256x512 : Shape := ⟨5, ![4, 3, 2, 256, 512]⟩
abbrev S4x2x3x256x512 : Shape := ⟨5, ![4, 2, 3, 256, 512]⟩
abbrev S2x256x256 : Shape := ⟨3, ![2, 256, 256]⟩
abbrev S24x256x256 : Shape := ⟨3, ![24, 256, 256]⟩
abbrev S4x3x2x256x256 : Shape := ⟨5, ![4, 3, 2, 256, 256]⟩
abbrev S4x2x3x256x256 : Shape := ⟨5, ![4, 2, 3, 256, 256]⟩

abbrev nBuf : Space → Nat
  | .hbm => 64
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S33792x10240, .bf16⟩
  | .hbm, ⟨2, _⟩ => ⟨S32x1024x2560, .bf16⟩
  | .hbm, ⟨3, _⟩ => ⟨S32x256x512, .bf16⟩
  | .hbm, ⟨4, _⟩ => ⟨S32x256x256, .bf16⟩
  | .hbm, ⟨5, _⟩ => ⟨S32x256x256, .bf16⟩
  | .hbm, ⟨6, _⟩ => ⟨S8x1024x4224, .bf16⟩
  | .hbm, ⟨7, _⟩ => ⟨S8x4224x10240, .bf16⟩
  | .hbm, ⟨8, _⟩ => ⟨S8x1024x10240, .f32⟩
  | .hbm, ⟨9, _⟩ => ⟨S8x1024x10240, .bf16⟩
  | .hbm, ⟨10, _⟩ => ⟨S8x1024x4x2560, .bf16⟩
  | .hbm, ⟨11, _⟩ => ⟨S8x4x1024x2560, .bf16⟩
  | .hbm, ⟨12, _⟩ => ⟨S32x1024x2560, .bf16⟩
  | .hbm, ⟨13, _⟩ => ⟨S4x2x4x1024x2560, .bf16⟩
  | .hbm, ⟨14, _⟩ => ⟨S4x2x4x1024x2560, .bf16⟩
  | .hbm, ⟨15, _⟩ => ⟨S32x1024x2560, .bf16⟩
  | .hbm, ⟨16, _⟩ => ⟨S2x256x512, .bf16⟩
  | .hbm, ⟨17, _⟩ => ⟨S2x256x512, .bf16⟩
  | .hbm, ⟨18, _⟩ => ⟨S2x256x512, .bf16⟩
  | .hbm, ⟨19, _⟩ => ⟨S2x256x512, .bf16⟩
  | .hbm, ⟨20, _⟩ => ⟨S2x256x512, .bf16⟩
  | .hbm, ⟨21, _⟩ => ⟨S2x256x512, .bf16⟩
  | .hbm, ⟨22, _⟩ => ⟨S2x256x512, .bf16⟩
  | .hbm, ⟨23, _⟩ => ⟨S2x256x512, .bf16⟩
  | .hbm, ⟨24, _⟩ => ⟨S2x256x512, .bf16⟩
  | .hbm, ⟨25, _⟩ => ⟨S2x256x512, .bf16⟩
  | .hbm, ⟨26, _⟩ => ⟨S2x256x512, .bf16⟩
  | .hbm, ⟨27, _⟩ => ⟨S2x256x512, .bf16⟩
  | .hbm, ⟨28, _⟩ => ⟨S24x256x512, .bf16⟩
  | .hbm, ⟨29, _⟩ => ⟨S4x3x2x256x512, .bf16⟩
  | .hbm, ⟨30, _⟩ => ⟨S4x2x3x256x512, .bf16⟩
  | .hbm, ⟨31, _⟩ => ⟨S24x256x512, .bf16⟩
  | .hbm, ⟨32, _⟩ => ⟨S2x256x256, .bf16⟩
  | .hbm, ⟨33, _⟩ => ⟨S2x256x256, .bf16⟩
  | .hbm, ⟨34, _⟩ => ⟨S2x256x256, .bf16⟩
  | .hbm, ⟨35, _⟩ => ⟨S2x256x256, .bf16⟩
  | .hbm, ⟨36, _⟩ => ⟨S2x256x256, .bf16⟩
  | .hbm, ⟨37, _⟩ => ⟨S2x256x256, .bf16⟩
  | .hbm, ⟨38, _⟩ => ⟨S2x256x256, .bf16⟩
  | .hbm, ⟨39, _⟩ => ⟨S2x256x256, .bf16⟩
  | .hbm, ⟨40, _⟩ => ⟨S2x256x256, .bf16⟩
  | .hbm, ⟨41, _⟩ => ⟨S2x256x256, .bf16⟩
  | .hbm, ⟨42, _⟩ => ⟨S2x256x256, .bf16⟩
  | .hbm, ⟨43, _⟩ => ⟨S2x256x256, .bf16⟩
  | .hbm, ⟨44, _⟩ => ⟨S24x256x256, .bf16⟩
  | .hbm, ⟨45, _⟩ => ⟨S4x3x2x256x256, .bf16⟩
  | .hbm, ⟨46, _⟩ => ⟨S4x2x3x256x256, .bf16⟩
  | .hbm, ⟨47, _⟩ => ⟨S24x256x256, .bf16⟩
  | .hbm, ⟨48, _⟩ => ⟨S2x256x256, .bf16⟩
  | .hbm, ⟨49, _⟩ => ⟨S2x256x256, .bf16⟩
  | .hbm, ⟨50, _⟩ => ⟨S2x256x256, .bf16⟩
  | .hbm, ⟨51, _⟩ => ⟨S2x256x256, .bf16⟩
  | .hbm, ⟨52, _⟩ => ⟨S2x256x256, .bf16⟩
  | .hbm, ⟨53, _⟩ => ⟨S2x256x256, .bf16⟩
  | .hbm, ⟨54, _⟩ => ⟨S2x256x256, .bf16⟩
  | .hbm, ⟨55, _⟩ => ⟨S2x256x256, .bf16⟩
  | .hbm, ⟨56, _⟩ => ⟨S2x256x256, .bf16⟩
  | .hbm, ⟨57, _⟩ => ⟨S2x256x256, .bf16⟩
  | .hbm, ⟨58, _⟩ => ⟨S2x256x256, .bf16⟩
  | .hbm, ⟨59, _⟩ => ⟨S2x256x256, .bf16⟩
  | .hbm, ⟨60, _⟩ => ⟨S24x256x256, .bf16⟩
  | .hbm, ⟨61, _⟩ => ⟨S4x3x2x256x256, .bf16⟩
  | .hbm, ⟨62, _⟩ => ⟨S4x2x3x256x256, .bf16⟩
  | .hbm, ⟨63, _⟩ => ⟨S24x256x256, .bf16⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]
-- ==== KernelProjDx.lean ====
abbrev S4224x10240 : Shape := ⟨2, ![4224, 10240]⟩
abbrev S4x2048x2560 : Shape := ⟨3, ![4, 2048, 2560]⟩
abbrev S4x1024x2560 : Shape := ⟨3, ![4, 1024, 2560]⟩
abbrev S256x2048 : Shape := ⟨2, ![256, 2048]⟩
abbrev S4224x2048 : Shape := ⟨2, ![4224, 2048]⟩
abbrev S3x1024x2560 : Shape := ⟨3, ![3, 1024, 2560]⟩
abbrev S1408x2560 : Shape := ⟨2, ![1408, 2560]⟩
abbrev S1x1024x2560 : Shape := ⟨3, ![1, 1024, 2560]⟩
abbrev S1408x1024 : Shape := ⟨2, ![1408, 1024]⟩
abbrev S3 : Shape := ⟨1, ![3]⟩
abbrev S1 : Shape := ⟨1, ![1]⟩
abbrev S_ : Shape := ⟨0, ![]⟩
abbrev S1024x2560 : Shape := ⟨2, ![1024, 2560]⟩

abbrev nBuf : Space → Nat
  | .hbm => 7
  | .vmem => 7
  | .smem => 0
  | _ => 0

abbrev bufTy : (tb : Table) → Fin (tcTables nBuf tb) → BufTy
  | .hbm, ⟨0, _⟩ => ⟨S4224x10240, .bf16⟩
  | .hbm, ⟨1, _⟩ => ⟨S4x2048x2560, .bf16⟩
  | .hbm, ⟨2, _⟩ => ⟨S4x1024x2560, .bf16⟩
  | .hbm, ⟨3, _⟩ => ⟨S256x2048, .f32⟩
  | .hbm, ⟨4, _⟩ => ⟨S4224x2048, .bf16⟩
  | .hbm, ⟨5, _⟩ => ⟨S3x1024x2560, .bf16⟩
  | .hbm, ⟨6, _⟩ => ⟨S256x2048, .f32⟩
  | .local _ .vmem, ⟨0, _⟩ => ⟨S1408x2560, .bf16⟩
  | .local _ .vmem, ⟨1, _⟩ => ⟨S1408x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![3, 2, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_2 : BitVec 32 := 0#32
  let v11 : BitVec 1 := Scalar.cmpi .ne v10 c0_i32_2
  v11

def k0_off1 (d28 : Dev nD) : Fin 3 → Nat :=
  let c2_i32_23 : BitVec 32 := 2#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let v41 : BitVec 32 := Scalar.muli c2_i32_23 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_35 : BitVec 32 := 0#32
  let c0_i32_36 : BitVec 32 := 0#32
  ![v42.toNat, 0, 0]
def k0_dev1 (d28 : Dev nD) : Nat :=
  let c0_i32_30 : BitVec 32 := 0#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let c4_i32_29 : BitVec 32 := 4#32
  let v47 : BitVec 32 := Scalar.muli v37 c4_i32_29
  let v48 : BitVec 32 := Scalar.addi c0_i32_30 v47
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_31 : BitVec 32 := 2#32
  let v49 : BitVec 32 := Scalar.muli v33 c2_i32_31
  let v50 : BitVec 32 := Scalar.addi v48 v49
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_32 : BitVec 32 := 1#32
  let v51 : BitVec 32 := Scalar.muli v36 c1_i32_32
  let v52 : BitVec 32 := Scalar.addi v50 v51
  v52.toNat
def k0_off2 (d28 : Dev nD) : Fin 3 → Nat :=
  let c2_i32_24 : BitVec 32 := 2#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v43 : BitVec 32 := Scalar.muli c2_i32_24 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v44 : BitVec 32 := Scalar.addi v43 v38
  let c0_i32_46 : BitVec 32 := 0#32
  let c0_i32_47 : BitVec 32 := 0#32
  ![v44.toNat, 0, 0]
def k0_dev2 (d28 : Dev nD) : Nat :=
  let c0_i32_41 : BitVec 32 := 0#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let c4_i32_40 : BitVec 32 := 4#32
  let v61 : BitVec 32 := Scalar.muli v30 c4_i32_40
  let v62 : BitVec 32 := Scalar.addi c0_i32_41 v61
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let c2_i32_42 : BitVec 32 := 2#32
  let v63 : BitVec 32 := Scalar.muli v38 c2_i32_42
  let v64 : BitVec 32 := Scalar.addi v62 v63
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_43 : BitVec 32 := 1#32
  let v65 : BitVec 32 := Scalar.muli v36 c1_i32_43
  let v66 : BitVec 32 := Scalar.addi v64 v65
  v66.toNat
def k0_off3 (d28 : Dev nD) : Fin 3 → Nat :=
  let c2_i32_25 : BitVec 32 := 2#32
  let c1_i32_21 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v39 : BitVec 32 := Scalar.subi c1_i32_21 v30
  let v45 : BitVec 32 := Scalar.muli c2_i32_25 v39
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let v46 : BitVec 32 := Scalar.addi v45 v40
  let c0_i32_57 : BitVec 32 := 0#32
  let c0_i32_58 : BitVec 32 := 0#32
  ![v46.toNat, 0, 0]
def k0_dev3 (d28 : Dev nD) : Nat :=
  let c0_i32_52 : BitVec 32 := 0#32
  let c1_i32_21 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v39 : BitVec 32 := Scalar.subi c1_i32_21 v30
  let c4_i32_51 : BitVec 32 := 4#32
  let v75 : BitVec 32 := Scalar.muli v39 c4_i32_51
  let v76 : BitVec 32 := Scalar.addi c0_i32_52 v75
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let c2_i32_53 : BitVec 32 := 2#32
  let v77 : BitVec 32 := Scalar.muli v40 c2_i32_53
  let v78 : BitVec 32 := Scalar.addi v76 v77
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_54 : BitVec 32 := 1#32
  let v79 : BitVec 32 := Scalar.muli v36 c1_i32_54
  let v80 : BitVec 32 := Scalar.addi v78 v79
  v80.toNat
def k0_dev4 (d28 : Dev nD) : Nat :=
  let c0_i32_69 : BitVec 32 := 0#32
  let v89 : BitVec 32 := Dev.word d28
  let c4_i32_60 : BitVec 32 := 4#32
  let v90 : BitVec 32 := Scalar.divsi v89 c4_i32_60
  let c2_i32_59 : BitVec 32 := 2#32
  let v91 : BitVec 32 := Scalar.remsi v90 c2_i32_59
  let c4_i32_68 : BitVec 32 := 4#32
  let v99 : BitVec 32 := Scalar.muli v91 c4_i32_68
  let v100 : BitVec 32 := Scalar.addi c0_i32_69 v99
  let v92 : BitVec 32 := Dev.word d28
  let c2_i32_62 : BitVec 32 := 2#32
  let v93 : BitVec 32 := Scalar.divsi v92 c2_i32_62
  let c2_i32_61 : BitVec 32 := 2#32
  let v94 : BitVec 32 := Scalar.remsi v93 c2_i32_61
  let c2_i32_70 : BitVec 32 := 2#32
  let v101 : BitVec 32 := Scalar.muli v94 c2_i32_70
  let v102 : BitVec 32 := Scalar.addi v100 v101
  let c1_i32_65 : BitVec 32 := 1#32
  let v95 : BitVec 32 := Dev.word d28
  let c1_i32_64 : BitVec 32 := 1#32
  let v96 : BitVec 32 := Scalar.divsi v95 c1_i32_64
  let c2_i32_63 : BitVec 32 := 2#32
  let v97 : BitVec 32 := Scalar.remsi v96 c2_i32_63
  let v98 : BitVec 32 := Scalar.subi c1_i32_65 v97
  let c1_i32_71 : BitVec 32 := 1#32
  let v103 : BitVec 32 := Scalar.muli v98 c1_i32_71
  let v104 : BitVec 32 := Scalar.addi v102 v103
  v104.toNat
def k0_cond5 (i : grid0.Coords) : BitVec 1 :=
  let arg0 : BitVec 32 := BitVec.ofNat 32 (i 0).val
  let c2_i32 : BitVec 32 := 2#32
  let v5 : BitVec 1 := Scalar.cmpi .eq arg0 c2_i32
  let arg1 : BitVec 32 := BitVec.ofNat 32 (i 1).val
  let c1_i32 : BitVec 32 := 1#32
  let v6 : BitVec 1 := Scalar.cmpi .eq arg1 c1_i32
  let v8 : BitVec 1 := Scalar.andi v5 v6
  let arg2 : BitVec 32 := BitVec.ofNat 32 (i 2).val
  let c3_i32 : BitVec 32 := 3#32
  let v7 : BitVec 1 := Scalar.cmpi .eq arg2 c3_i32
  let v9 : BitVec 1 := Scalar.andi v8 v7
  let v26 : BitVec 32 := Scalar.extui v9
  let c0_i32_13 : BitVec 32 := 0#32
  let v27 : BitVec 1 := Scalar.cmpi .ne v26 c0_i32_13
  v27

def k0_off4 (d28 : Dev nD) : Fin 3 → Nat :=
  let c2_i32_23 : BitVec 32 := 2#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let v41 : BitVec 32 := Scalar.muli c2_i32_23 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_66 : BitVec 32 := 0#32
  let c0_i32_67 : BitVec 32 := 0#32
  ![v42.toNat, 0, 0]
def k0_off5 (d28 : Dev nD) : Fin 3 → Nat :=
  let c2_i32_24 : BitVec 32 := 2#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v43 : BitVec 32 := Scalar.muli c2_i32_24 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v44 : BitVec 32 := Scalar.addi v43 v38
  let c0_i32_74 : BitVec 32 := 0#32
  let c0_i32_75 : BitVec 32 := 0#32
  ![v44.toNat, 0, 0]
def k0_off6 (d28 : Dev nD) : Fin 3 → Nat :=
  let c2_i32_25 : BitVec 32 := 2#32
  let c1_i32_21 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v39 : BitVec 32 := Scalar.subi c1_i32_21 v30
  let v45 : BitVec 32 := Scalar.muli c2_i32_25 v39
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let v46 : BitVec 32 := Scalar.addi v45 v40
  let c0_i32_82 : BitVec 32 := 0#32
  let c0_i32_83 : BitVec 32 := 0#32
  ![v46.toNat, 0, 0]
def k0_cond4 (i : grid0.Coords) : BitVec 1 :=
  let arg2 : BitVec 32 := BitVec.ofNat 32 (i 2).val
  let c3_i32_11 : BitVec 32 := 3#32
  let v23 : BitVec 1 := Scalar.cmpi .eq arg2 c3_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjDxIdeal.lean ====
abbrev S33792x10240 : Shape := ⟨2, ![33792, 10240]⟩
abbrev S32x2048x2560 : Shape := ⟨3, ![32, 2048, 2560]⟩
abbrev S32x1024x2560 : Shape := ⟨3, ![32, 1024, 2560]⟩
abbrev S2048x2048 : Shape := ⟨2, ![2048, 2048]⟩
abbrev S8x4x2048x2560 : Shape := ⟨4, ![8, 4, 2048, 2560]⟩
abbrev S8x2048x4x2560 : Shape := ⟨4, ![8, 2048, 4, 2560]⟩
abbrev S8x2048x10240 : Shape := ⟨3, ![8, 2048, 10240]⟩
abbrev S8x4224x10240 : Shape := ⟨3, ![8, 4224, 10240]⟩
abbrev S8x4224x2048 : Shape := ⟨3, ![8, 4224, 2048]⟩
abbrev S33792x2048 : Shape := ⟨2, ![33792, 2048]⟩
abbrev S2x1024x2560 : Shape := ⟨3, ![2, 1024, 2560]⟩
abbrev S24x1024x2560 : Shape := ⟨3, ![24, 1024, 2560]⟩
abbrev S4x3x2x1024x2560 : Shape := ⟨5, ![4, 3, 2, 1024, 2560]⟩
abbrev S4x2x3x1024x2560 : Shape := ⟨5, ![4, 2, 3, 1024, 2560]⟩
abbrev S4x2x256x2048 : Shape := ⟨4, ![4, 2, 256, 2048]⟩

abbrev nBuf : Space → Nat
  | .hbm => 30
  | .vmem => 0
  | .smem => 0
  | _ => 0

abbrev bufTy : (tb : Table) → Fin (tcTables nBuf tb) → BufTy
  | .hbm, ⟨0, _⟩ => ⟨S33792x10240, .bf16⟩
  | .hbm, ⟨1, _⟩ => ⟨S32x2048x2560, .bf16⟩
  | .hbm, ⟨2, _⟩ => ⟨S32x1024x2560, .bf16⟩
  | .hbm, ⟨3, _⟩ => ⟨S2048x2048, .f32⟩
  | .hbm, ⟨4, _⟩ => ⟨S8x4x2048x2560, .bf16⟩
  | .hbm, ⟨5, _⟩ => ⟨S8x2048x4x2560, .bf16⟩
  | .hbm, ⟨6, _⟩ => ⟨S8x2048x10240, .bf16⟩
  | .hbm, ⟨7, _⟩ => ⟨S8x4224x10240, .bf16⟩
  | .hbm, ⟨8, _⟩ => ⟨S8x4224x2048, .f32⟩
  | .hbm, ⟨9, _⟩ => ⟨S8x4224x2048, .bf16⟩
  | .hbm, ⟨10, _⟩ => ⟨S33792x2048, .bf16⟩
  | .hbm, ⟨11, _⟩ => ⟨S2x1024x2560, .bf16⟩
  | .hbm, ⟨12, _⟩ => ⟨S2x1024x2560, .bf16⟩
  | .hbm, ⟨13, _⟩ => ⟨S2x1024x2560, .bf16⟩
  | .hbm, ⟨14, _⟩ => ⟨S2x1024x2560, .bf16⟩
  | .hbm, ⟨15, _⟩ => ⟨S2x1024x2560, .bf16⟩
  | .hbm, ⟨16, _⟩ => ⟨S2x1024x2560, .bf16⟩
  | .hbm, ⟨17, _⟩ => ⟨S2x1024x2560, .bf16⟩
  | .hbm, ⟨18, _⟩ => ⟨S2x1024x2560, .bf16⟩
  | .hbm, ⟨19, _⟩ => ⟨S2x1024x2560, .bf16⟩
  | .hbm, ⟨20, _⟩ => ⟨S2x1024x2560, .bf16⟩
  | .hbm, ⟨21, _⟩ => ⟨S2x1024x2560, .bf16⟩
  | .hbm, ⟨22, _⟩ => ⟨S2x1024x2560, .bf16⟩
  | .hbm, ⟨23, _⟩ => ⟨S24x1024x2560, .bf16⟩
  | .hbm, ⟨24, _⟩ => ⟨S4x3x2x1024x2560, .bf16⟩
  | .hbm, ⟨25, _⟩ => ⟨S4x2x3x1024x2560, .bf16⟩
  | .hbm, ⟨26, _⟩ => ⟨S24x1024x2560, .bf16⟩
  | .hbm, ⟨27, _⟩ => ⟨S4x2x256x2048, .f32⟩
  | .hbm, ⟨28, _⟩ => ⟨S4x2x256x2048, .f32⟩
  | .hbm, ⟨29, _⟩ => ⟨S2048x2048, .f32⟩
  | _, _ => ⟨S33792x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== KernelUpDx.lean ====
abbrev S4224x8192 : Shape := ⟨2, ![4224, 8192]⟩
abbrev S4x2048x2048 : Shape := ⟨3, ![4, 2048, 2048]⟩
abbrev S4x1024x2048 : Shape := ⟨3, ![4, 1024, 2048]⟩
abbrev S4x2x1024x2048 : Shape := ⟨4, ![4, 2, 1024, 2048]⟩
abbrev S4224x2048 : Shape := ⟨2, ![4224, 2048]⟩
abbrev S3x1024x2048 : Shape := ⟨3, ![3, 1024, 2048]⟩
abbrev S1408x2048 : Shape := ⟨2, ![1408, 2048]⟩
abbrev S1x1024x2048 : Shape := ⟨3, ![1, 1024, 2048]⟩
abbrev S1408x1024 : Shape := ⟨2, ![1408, 1024]⟩
abbrev S2 : Shape := ⟨1, ![2]⟩
abbrev S4 : Shape := ⟨1, ![4]⟩
abbrev S1 : Shape := ⟨1, ![1]⟩
abbrev S_ : Shape := ⟨0, ![]⟩
abbrev S1024x2048 : Shape := ⟨2, ![1024, 2048]⟩
abbrev S1x1x1024x2048 : Shape := ⟨4, ![1, 1, 1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S4x2048x2048, .bf16⟩
  | .hbm, ⟨2, _⟩ => ⟨S4x1024x2048, .bf16⟩
  | .hbm, ⟨3, _⟩ => ⟨S4x2x1024x2048, .bf16⟩
  | .hbm, ⟨4, _⟩ => ⟨S4224x2048, .bf16⟩
  | .hbm, ⟨5, _⟩ => ⟨S3x1024x2048, .bf16⟩
  | .hbm, ⟨6, _⟩ => ⟨S4x1024x2048, .bf16⟩
  | .local _ .vmem, ⟨0, _⟩ => ⟨S1408x2048, .bf16⟩
  | .local _ .vmem, ⟨1, _⟩ => ⟨S1408x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![3, 2, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_2 : BitVec 32 := 0#32
  let v11 : BitVec 1 := Scalar.cmpi .ne v10 c0_i32_2
  v11

def k0_off1 (d28 : Dev nD) : Fin 3 → Nat :=
  let c2_i32_21 : BitVec 32 := 2#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let v39 : BitVec 32 := Scalar.muli c2_i32_21 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.addi v39 v33
  let c0_i32_32 : BitVec 32 := 0#32
  let c0_i32_33 : BitVec 32 := 0#32
  ![v40.toNat, 0, 0]
def k0_dev1 (d28 : Dev nD) : Nat :=
  let c0_i32_27 : BitVec 32 := 0#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let c4_i32_26 : BitVec 32 := 4#32
  let v43 : BitVec 32 := Scalar.muli v37 c4_i32_26
  let v44 : BitVec 32 := Scalar.addi c0_i32_27 v43
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_28 : BitVec 32 := 2#32
  let v45 : BitVec 32 := Scalar.muli v33 c2_i32_28
  let v46 : BitVec 32 := Scalar.addi v44 v45
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_29 : BitVec 32 := 1#32
  let v47 : BitVec 32 := Scalar.muli v36 c1_i32_29
  let v48 : BitVec 32 := Scalar.addi v46 v47
  v48.toNat
def k0_off2 (d28 : Dev nD) : Fin 3 → Nat :=
  let c2_i32_22 : BitVec 32 := 2#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v41 : BitVec 32 := Scalar.muli c2_i32_22 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v42 : BitVec 32 := Scalar.addi v41 v38
  let c0_i32_43 : BitVec 32 := 0#32
  let c0_i32_44 : BitVec 32 := 0#32
  ![v42.toNat, 0, 0]
def k0_dev2 (d28 : Dev nD) : Nat :=
  let c0_i32_38 : BitVec 32 := 0#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let c4_i32_37 : BitVec 32 := 4#32
  let v57 : BitVec 32 := Scalar.muli v30 c4_i32_37
  let v58 : BitVec 32 := Scalar.addi c0_i32_38 v57
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let c2_i32_39 : BitVec 32 := 2#32
  let v59 : BitVec 32 := Scalar.muli v38 c2_i32_39
  let v60 : BitVec 32 := Scalar.addi v58 v59
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_40 : BitVec 32 := 1#32
  let v61 : BitVec 32 := Scalar.muli v36 c1_i32_40
  let v62 : BitVec 32 := Scalar.addi v60 v61
  v62.toNat
def k0_off3 (d28 : Dev nD) : Fin 4 → Nat :=
  let c0_i32_59 : BitVec 32 := 0#32
  let c1_i32_51 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v80 : BitVec 32 := Scalar.subi c1_i32_51 v79
  let c0_i32_69 : BitVec 32 := 0#32
  let c0_i32_70 : BitVec 32 := 0#32
  ![0, v80.toNat, 0, 0]
def k0_dev3 (d28 : Dev nD) : Nat :=
  let c0_i32_64 : BitVec 32 := 0#32
  let v71 : BitVec 32 := Dev.word d28
  let c4_i32_46 : BitVec 32 := 4#32
  let v72 : BitVec 32 := Scalar.divsi v71 c4_i32_46
  let c2_i32_45 : BitVec 32 := 2#32
  let v73 : BitVec 32 := Scalar.remsi v72 c2_i32_45
  let c4_i32_63 : BitVec 32 := 4#32
  let v88 : BitVec 32 := Scalar.muli v73 c4_i32_63
  let v89 : BitVec 32 := Scalar.addi c0_i32_64 v88
  let v74 : BitVec 32 := Dev.word d28
  let c2_i32_48 : BitVec 32 := 2#32
  let v75 : BitVec 32 := Scalar.divsi v74 c2_i32_48
  let c2_i32_47 : BitVec 32 := 2#32
  let v76 : BitVec 32 := Scalar.remsi v75 c2_i32_47
  let c2_i32_65 : BitVec 32 := 2#32
  let v90 : BitVec 32 := Scalar.muli v76 c2_i32_65
  let v91 : BitVec 32 := Scalar.addi v89 v90
  let c1_i32_52 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v81 : BitVec 32 := Scalar.subi c1_i32_52 v79
  let c1_i32_66 : BitVec 32 := 1#32
  let v92 : BitVec 32 := Scalar.muli v81 c1_i32_66
  let v93 : BitVec 32 := Scalar.addi v91 v92
  v93.toNat
def k0_off4 (d28 : Dev nD) : Fin 4 → Nat :=
  let c1_i32_71 : BitVec 32 := 1#32
  let c1_i32_53 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v82 : BitVec 32 := Scalar.subi c1_i32_53 v79
  let c0_i32_81 : BitVec 32 := 0#32
  let c0_i32_82 : BitVec 32 := 0#32
  ![1, v82.toNat, 0, 0]
def k0_dev4 (d28 : Dev nD) : Nat :=
  let c0_i32_76 : BitVec 32 := 0#32
  let v71 : BitVec 32 := Dev.word d28
  let c4_i32_46 : BitVec 32 := 4#32
  let v72 : BitVec 32 := Scalar.divsi v71 c4_i32_46
  let c2_i32_45 : BitVec 32 := 2#32
  let v73 : BitVec 32 := Scalar.remsi v72 c2_i32_45
  let c4_i32_75 : BitVec 32 := 4#32
  let v102 : BitVec 32 := Scalar.muli v73 c4_i32_75
  let v103 : BitVec 32 := Scalar.addi c0_i32_76 v102
  let v74 : BitVec 32 := Dev.word d28
  let c2_i32_48 : BitVec 32 := 2#32
  let v75 : BitVec 32 := Scalar.divsi v74 c2_i32_48
  let c2_i32_47 : BitVec 32 := 2#32
  let v76 : BitVec 32 := Scalar.remsi v75 c2_i32_47
  let c2_i32_77 : BitVec 32 := 2#32
  let v104 : BitVec 32 := Scalar.muli v76 c2_i32_77
  let v105 : BitVec 32 := Scalar.addi v103 v104
  let c1_i32_54 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v83 : BitVec 32 := Scalar.subi c1_i32_54 v79
  let c1_i32_78 : BitVec 32 := 1#32
  let v106 : BitVec 32 := Scalar.muli v83 c1_i32_78
  let v107 : BitVec 32 := Scalar.addi v105 v106
  v107.toNat
def k0_off5 (d28 : Dev nD) : Fin 4 → Nat :=
  let c2_i32_83 : BitVec 32 := 2#32
  let c1_i32_55 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v84 : BitVec 32 := Scalar.subi c1_i32_55 v79
  let c0_i32_93 : BitVec 32 := 0#32
  let c0_i32_94 : BitVec 32 := 0#32
  ![2, v84.toNat, 0, 0]
def k0_dev5 (d28 : Dev nD) : Nat :=
  let c0_i32_88 : BitVec 32 := 0#32
  let v71 : BitVec 32 := Dev.word d28
  let c4_i32_46 : BitVec 32 := 4#32
  let v72 : BitVec 32 := Scalar.divsi v71 c4_i32_46
  let c2_i32_45 : BitVec 32 := 2#32
  let v73 : BitVec 32 := Scalar.remsi v72 c2_i32_45
  let c4_i32_87 : BitVec 32 := 4#32
  let v116 : BitVec 32 := Scalar.muli v73 c4_i32_87
  let v117 : BitVec 32 := Scalar.addi c0_i32_88 v116
  let v74 : BitVec 32 := Dev.word d28
  let c2_i32_48 : BitVec 32 := 2#32
  let v75 : BitVec 32 := Scalar.divsi v74 c2_i32_48
  let c2_i32_47 : BitVec 32 := 2#32
  let v76 : BitVec 32 := Scalar.remsi v75 c2_i32_47
  let c2_i32_89 : BitVec 32 := 2#32
  let v118 : BitVec 32 := Scalar.muli v76 c2_i32_89
  let v119 : BitVec 32 := Scalar.addi v117 v118
  let c1_i32_56 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v85 : BitVec 32 := Scalar.subi c1_i32_56 v79
  let c1_i32_90 : BitVec 32 := 1#32
  let v120 : BitVec 32 := Scalar.muli v85 c1_i32_90
  let v121 : BitVec 32 := Scalar.addi v119 v120
  v121.toNat
def k0_off6 (d28 : Dev nD) : Fin 4 → Nat :=
  let c3_i32_95 : BitVec 32 := 3#32
  let c1_i32_57 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v86 : BitVec 32 := Scalar.subi c1_i32_57 v79
  let c0_i32_105 : BitVec 32 := 0#32
  let c0_i32_106 : BitVec 32 := 0#32
  ![3, v86.toNat, 0, 0]
def k0_dev6 (d28 : Dev nD) : Nat :=
  let c0_i32_100 : BitVec 32 := 0#32
  let v71 : BitVec 32 := Dev.word d28
  let c4_i32_46 : BitVec 32 := 4#32
  let v72 : BitVec 32 := Scalar.divsi v71 c4_i32_46
  let c2_i32_45 : BitVec 32 := 2#32
  let v73 : BitVec 32 := Scalar.remsi v72 c2_i32_45
  let c4_i32_99 : BitVec 32 := 4#32
  let v130 : BitVec 32 := Scalar.muli v73 c4_i32_99
  let v131 : BitVec 32 := Scalar.addi c0_i32_100 v130
  let v74 : BitVec 32 := Dev.word d28
  let c2_i32_48 : BitVec 32 := 2#32
  let v75 : BitVec 32 := Scalar.divsi v74 c2_i32_48
  let c2_i32_47 : BitVec 32 := 2#32
  let v76 : BitVec 32 := Scalar.remsi v75 c2_i32_47
  let c2_i32_101 : BitVec 32 := 2#32
  let v132 : BitVec 32 := Scalar.muli v76 c2_i32_101
  let v133 : BitVec 32 := Scalar.addi v131 v132
  let c1_i32_58 : BitVec 32 := 1#32
  let v77 : BitVec 32 := Dev.word d28
  let c1_i32_50 : BitVec 32 := 1#32
  let v78 : BitVec 32 := Scalar.divsi v77 c1_i32_50
  let c2_i32_49 : BitVec 32 := 2#32
  let v79 : BitVec 32 := Scalar.remsi v78 c2_i32_49
  let v87 : BitVec 32 := Scalar.subi c1_i32_58 v79
  let c1_i32_102 : BitVec 32 := 1#32
  let v134 : BitVec 32 := Scalar.muli v87 c1_i32_102
  let v135 : BitVec 32 := Scalar.addi v133 v134
  v135.toNat
def k0_cond5 (i : grid0.Coords) : BitVec 1 :=
  let arg0 : BitVec 32 := BitVec.ofNat 32 (i 0).val
  let c2_i32 : BitVec 32 := 2#32
  let v5 : BitVec 1 := Scalar.cmpi .eq arg0 c2_i32
  let arg1 : BitVec 32 := BitVec.ofNat 32 (i 1).val
  let c1_i32 : BitVec 32 := 1#32
  let v6 : BitVec 1 := Scalar.cmpi .eq arg1 c1_i32
  let v8 : BitVec 1 := Scalar.andi v5 v6
  let arg2 : BitVec 32 := BitVec.ofNat 32 (i 2).val
  let c3_i32 : BitVec 32 := 3#32
  let v7 : BitVec 1 := Scalar.cmpi .eq arg2 c3_i32
  let v9 : BitVec 1 := Scalar.andi v8 v7
  let v26 : BitVec 32 := Scalar.extui v9
  let c0_i32_13 : BitVec 32 := 0#32
  let v27 : BitVec 1 := Scalar.cmpi .ne v26 c0_i32_13
  v27

def k0_off7 (d28 : Dev nD) : Fin 3 → Nat :=
  let c2_i32_21 : BitVec 32 := 2#32
  let c1_i32_19 : BitVec 32 := 1#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v37 : BitVec 32 := Scalar.subi c1_i32_19 v30
  let v39 : BitVec 32 := Scalar.muli c2_i32_21 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.addi v39 v33
  let c0_i32_51 : BitVec 32 := 0#32
  let c0_i32_52 : BitVec 32 := 0#32
  ![v40.toNat, 0, 0]
def k0_off8 (d28 : Dev nD) : Fin 3 → Nat :=
  let c2_i32_22 : BitVec 32 := 2#32
  let v28 : BitVec 32 := Dev.word d28
  let c4_i32 : BitVec 32 := 4#32
  let v29 : BitVec 32 := Scalar.divsi v28 c4_i32
  let c2_i32_14 : BitVec 32 := 2#32
  let v30 : BitVec 32 := Scalar.remsi v29 c2_i32_14
  let v41 : BitVec 32 := Scalar.muli c2_i32_22 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v42 : BitVec 32 := Scalar.addi v41 v38
  let c0_i32_59 : BitVec 32 := 0#32
  let c0_i32_60 : BitVec 32 := 0#32
  ![v42.toNat, 0, 0]
def k0_off9 (d28 : Dev nD) : Fin 4 → Nat :=
  let c0_i32_130 : BitVec 32 := 0#32
  let c1_i32_69 : BitVec 32 := 1#32
  let v85 : BitVec 32 := Dev.word d28
  let c1_i32_68 : BitVec 32 := 1#32
  let v86 : BitVec 32 := Scalar.divsi v85 c1_i32_68
  let c2_i32_67 : BitVec 32 := 2#32
  let v87 : BitVec 32 := Scalar.remsi v86 c2_i32_67
  let v88 : BitVec 32 := Scalar.subi c1_i32_69 v87
  let c0_i32_134 : BitVec 32 := 0#32
  let c0_i32_135 : BitVec 32 := 0#32
  ![0, v88.toNat, 0, 0]
def k0_off10 (d28 : Dev nD) : Fin 4 → Nat :=
  let c1_i32_139 : BitVec 32 := 1#32
  let c1_i32_72 : BitVec 32 := 1#32
  let v85 : BitVec 32 := Dev.word d28
  let c1_i32_68 : BitVec 32 := 1#32
  let v86 : BitVec 32 := Scalar.divsi v85 c1_i32_68
  let c2_i32_67 : BitVec 32 := 2#32
  let v87 : BitVec 32 := Scalar.remsi v86 c2_i32_67
  let v91 : BitVec 32 := Scalar.subi c1_i32_72 v87
  let c0_i32_143 : BitVec 32 := 0#32
  let c0_i32_144 : BitVec 32 := 0#32
  ![1, v91.toNat, 0, 0]
def k0_off11 (d28 : Dev nD) : Fin 4 → Nat :=
  let c2_i32_148 : BitVec 32 := 2#32
  let c1_i32_75 : BitVec 32 := 1#32
  let v85 : BitVec 32 := Dev.word d28
  let c1_i32_68 : BitVec 32 := 1#32
  let v86 : BitVec 32 := Scalar.divsi v85 c1_i32_68
  let c2_i32_67 : BitVec 32 := 2#32
  let v87 : BitVec 32 := Scalar.remsi v86 c2_i32_67
  let v94 : BitVec 32 := Scalar.subi c1_i32_75 v87
  let c0_i32_152 : BitVec 32 := 0#32
  let c0_i32_153 : BitVec 32 := 0#32
  ![2, v94.toNat, 0, 0]
def k0_off12 (d28 : Dev nD) : Fin 4 → Nat :=
  let c3_i32_157 : BitVec 32 := 3#32
  let c1_i32_78 : BitVec 32 := 1#32
  let v85 : BitVec 32 := Dev.word d28
  let c1_i32_68 : BitVec 32 := 1#32
  let v86 : BitVec 32 := Scalar.divsi v85 c1_i32_68
  let c2_i32_67 : BitVec 32 := 2#32
  let v87 : BitVec 32 := Scalar.remsi v86 c2_i32_67
  let v97 : BitVec 32 := Scalar.subi c1_i32_78 v87
  let c0_i32_161 : BitVec 32 := 0#32
  let c0_i32_162 : BitVec 32 := 0#32
  ![3, v97.toNat, 0, 0]
def k0_cond4 (i : grid0.Coords) : BitVec 1 :=
  let arg2 : BitVec 32 := BitVec.ofNat 32 (i 2).val
  let c3_i32_11 : BitVec 32 := 3#32
  let v23 : BitVec 1 := Scalar.cmpi .eq arg2 c3_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S33792x8192 : Shape := ⟨2, ![33792, 8192]⟩
abbrev S32x2048x2048 : Shape := ⟨3, ![32, 2048, 2048]⟩
abbrev S32x1024x2048 : Shape := ⟨3, ![32, 1024, 2048]⟩
abbrev S32x2x1024x2048 : Shape := ⟨4, ![32, 2, 1024, 2048]⟩
abbrev S8x4x2048x2048 : Shape := ⟨4, ![8, 4, 2048, 2048]⟩
abbrev S8x2048x4x2048 : Shape := ⟨4, ![8, 2048, 4, 2048]⟩
abbrev S8x2048x8192 : Shape := ⟨3, ![8, 2048, 8192]⟩
abbrev S8x4224x8192 : Shape := ⟨3, ![8, 4224, 8192]⟩
abbrev S8x4224x2048 : Shape := ⟨3, ![8, 4224, 2048]⟩
abbrev S33792x2048 : Shape := ⟨2, ![33792, 2048]⟩
abbrev S2x1024x2048 : Shape := ⟨3, ![2, 1024, 2048]⟩
abbrev S24x1024x2048 : Shape := ⟨3, ![24, 1024, 2048]⟩
abbrev S4x3x2x1024x2048 : Shape := ⟨5, ![4, 3, 2, 1024, 2048]⟩
abbrev S4x2x3x1024x2048 : Shape := ⟨5, ![4, 2, 3, 1024, 2048]⟩
abbrev S4x2x4x2x1024x2048 : Shape := ⟨6, ![4, 2, 4, 2, 1024, 2048]⟩
abbrev S4x1x4x1x1024x2048 : Shape := ⟨6, ![4, 1, 4, 1, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩

abbrev nBuf : Space → Nat
  | .hbm => 36
  | .vmem => 0
  | .smem => 0
  | _ => 0

abbrev bufTy : (tb : Table) → Fin (tcTables nBuf tb) → BufTy
  | .hbm, ⟨0, _⟩ => ⟨S33792x8192, .bf16⟩
  | .hbm, ⟨1, _⟩ => ⟨S32x2048x2048, .bf16⟩
  | .hbm, ⟨2, _⟩ => ⟨S32x1024x2048, .bf16⟩
  | .hbm, ⟨3, _⟩ => ⟨S32x2x1024x2048, .bf16⟩
  | .hbm, ⟨4, _⟩ => ⟨S8x4x2048x2048, .bf16⟩
  | .hbm, ⟨5, _⟩ => ⟨S8x2048x4x2048, .bf16⟩
  | .hbm, ⟨6, _⟩ => ⟨S8x2048x8192, .bf16⟩
  | .hbm, ⟨7, _⟩ => ⟨S8x4224x8192, .bf16⟩
  | .hbm, ⟨8, _⟩ => ⟨S8x4224x2048, .f32⟩
  | .hbm, ⟨9, _⟩ => ⟨S8x4224x2048, .bf16⟩
  | .hbm, ⟨10, _⟩ => ⟨S33792x2048, .bf16⟩
  | .hbm, ⟨11, _⟩ => ⟨S2x1024x2048, .bf16⟩
  | .hbm, ⟨12, _⟩ => ⟨S2x1024x2048, .bf16⟩
  | .hbm, ⟨13, _⟩ => ⟨S2x1024x2048, .bf16⟩
  | .hbm, ⟨14, _⟩ => ⟨S2x1024x2048, .bf16⟩
  | .hbm, ⟨15, _⟩ => ⟨S2x1024x2048, .bf16⟩
  | .hbm, ⟨16, _⟩ => ⟨S2x1024x2048, .bf16⟩
  | .hbm, ⟨17, _⟩ => ⟨S2x1024x2048, .bf16⟩
  | .hbm, ⟨18, _⟩ => ⟨S2x1024x2048, .bf16⟩
  | .hbm, ⟨19, _⟩ => ⟨S2x1024x2048, .bf16⟩
  | .hbm, ⟨20, _⟩ => ⟨S2x1024x2048, .bf16⟩
  | .hbm, ⟨21, _⟩ => ⟨S2x1024x2048, .bf16⟩
  | .hbm, ⟨22, _⟩ => ⟨S2x1024x2048, .bf16⟩
  | .hbm, ⟨23, _⟩ => ⟨S24x1024x2048, .bf16⟩
  | .hbm, ⟨24, _⟩ => ⟨S4x3x2x1024x2048, .bf16⟩
  | .hbm, ⟨25, _⟩ => ⟨S4x2x3x1024x2048, .bf16⟩
  | .hbm, ⟨26, _⟩ => ⟨S24x1024x2048, .bf16⟩
  | .hbm, ⟨27, _⟩ => ⟨S4x2x4x2x1024x2048, .bf16⟩
  | .hbm, ⟨28, _⟩ => ⟨S4x1x4x1x1024x2048, .bf16⟩
  | .hbm, ⟨29, _⟩ => ⟨S4x4x1024x2048, .bf16⟩
  | .hbm, ⟨30, _⟩ => ⟨S4x1x4x1x1024x2048, .bf16⟩
  | .hbm, ⟨31, _⟩ => ⟨S4x4x1024x2048, .bf16⟩
  | .hbm, ⟨32, _⟩ => ⟨S4x1x4x1024x2048, .bf16⟩
  | .hbm, ⟨33, _⟩ => ⟨S4x1x4x1024x2048, .bf16⟩
  | .hbm, ⟨34, _⟩ => ⟨S4x2x4x1024x2048, .bf16⟩
  | .hbm, ⟨35, _⟩ => ⟨S32x1024x2048, .bf16⟩
  | _, _ => ⟨S33792x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== KernelStepRow.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelStepRowIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceStepRowIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepMeta.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelStepMetaIdeal.lean ====
abbrev S16x512 : Shape := ⟨2, ![16, 512]⟩

abbrev nBuf : Space → Nat
  | .hbm => 8
  | .vmem => 8
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512, .f32⟩
  | .hbm, ⟨7, _⟩ => ⟨S16x512, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceStepMetaIdeal.lean ====
abbrev S16x512 : Shape := ⟨2, ![16, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S_, .f32⟩
  | .hbm, ⟨5, _⟩ => ⟨S16x512, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512, .f32⟩
  | .hbm, ⟨11, _⟩ => ⟨S_, .f32⟩
  | .hbm, ⟨12, _⟩ => ⟨S16x512, .f32⟩
  | .hbm, ⟨13, _⟩ => ⟨S16x512, .f32⟩
  | .hbm, ⟨14, _⟩ => ⟨S16x512, .f32⟩
  | .hbm, ⟨15, _⟩ => ⟨S_, .f32⟩
  | .hbm, ⟨16, _⟩ => ⟨S16x512, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16x512, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512, .f32⟩
  | .hbm, ⟨26, _⟩ => ⟨S_, .f32⟩
  | .hbm, ⟨27, _⟩ => ⟨S16x512, .f32⟩
  | .hbm, ⟨28, _⟩ => ⟨S16x512, .f32⟩
  | .hbm, ⟨29, _⟩ => ⟨S16x512, .f32⟩
  | .hbm, ⟨30, _⟩ => ⟨S_, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S_, .f32⟩
  | .hbm, ⟨35, _⟩ => ⟨S16x512, .f32⟩
  | .hbm, ⟨36, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepConv.lean ====
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelStepConvIdeal.lean ====
abbrev S4x512 : Shape := ⟨2, ![4, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .hbm, ⟨7, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceStepConvIdeal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepBias.lean ====
abbrev S8x64 : Shape := ⟨2, ![8, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceStepBiasIdeal.lean ====
abbrev S8x64 : Shape := ⟨2, ![8, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S_, .f32⟩
  | .hbm, ⟨5, _⟩ => ⟨S8x64, .f32⟩
  | .hbm, ⟨6, _⟩ => ⟨S8x64, .f32⟩
  | .hbm, ⟨7, _⟩ => ⟨S_, .f32⟩
  | .hbm, ⟨8, _⟩ => ⟨S8x64, .f32⟩
  | .hbm, ⟨9, _⟩ => ⟨S8x64, .f32⟩
  | .hbm, ⟨10, _⟩ => ⟨S8x64, .f32⟩
  | .hbm, ⟨11, _⟩ => ⟨S_, .f32⟩
  | .hbm, ⟨12, _⟩ => ⟨S8x64, .f32⟩
  | .hbm, ⟨13, _⟩ => ⟨S8x64, .f32⟩
  | .hbm, ⟨14, _⟩ => ⟨S8x64, .f32⟩
  | .hbm, ⟨15, _⟩ => ⟨S_, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S_, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S_, .f32⟩
  | .hbm, ⟨31, _⟩ => ⟨S8x64, .f32⟩
  | .hbm, ⟨32, _⟩ => ⟨S8x64, .f32⟩
  | .hbm, ⟨33, _⟩ => ⟨S8x64, .f32⟩
  | .hbm, ⟨34, _⟩ => ⟨S_, .f32⟩
  | .hbm, ⟨35, _⟩ => ⟨S8x64, .f32⟩
  | .hbm, ⟨36, _⟩ => ⟨S8x64, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepPool.lean ====
abbrev S2x256x512 : Shape := ⟨3, ![2, 256, 512]⟩
abbrev S256x512 : Shape := ⟨2, ![256, 512]⟩
abbrev S1 : Shape := ⟨1, ![1]⟩
abbrev S1x256x512 : Shape := ⟨3, ![1, 256, 512]⟩

abbrev nBuf : Space → Nat
  | .hbm => 9
  | .vmem => 18
  | .smem => 1
  | _ => 0

abbrev bufTy : (tb : Table) → Fin (tcTables nBuf tb) → BufTy
  | .hbm, ⟨0, _⟩ => ⟨S2x256x512, .f32⟩
  | .hbm, ⟨1, _⟩ => ⟨S256x512, .f32⟩
  | .hbm, ⟨2, _⟩ => ⟨S256x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelStepPoolIdeal.lean ====
abbrev S2x256x512 : Shape := ⟨3, ![2, 256, 512]⟩
abbrev S256x512 : Shape := ⟨2, ![256, 512]⟩
abbrev S1 : Shape := ⟨1, ![1]⟩
abbrev S1x256x512 : Shape := ⟨3, ![1, 256, 512]⟩

abbrev nBuf : Space → Nat
  | .hbm => 9
  | .vmem => 18
  | .smem => 1
  | _ => 0

abbrev bufTy : (tb : Table) → Fin (tcTables nBuf tb) → BufTy
  | .hbm, ⟨0, _⟩ => ⟨S2x256x512, .f32⟩
  | .hbm, ⟨1, _⟩ => ⟨S256x512, .f32⟩
  | .hbm, ⟨2, _⟩ => ⟨S256x512, .f32⟩
  | .hbm, ⟨3, _⟩ => ⟨S2x256x512, .f32⟩
  | .hbm, ⟨4, _⟩ => ⟨S2x256x512, .f32⟩
  | .hbm, ⟨5, _⟩ => ⟨S2x256x512, .f32⟩
  | .hbm, ⟨6, _⟩ => ⟨S2x256x512, .f32⟩
  | .hbm, ⟨7, _⟩ => ⟨S2x256x512, .f32⟩
  | .hbm, ⟨8, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceStepPoolIdeal.lean ====
abbrev S2x256x512 : Shape := ⟨3, ![2, 256, 512]⟩
abbrev S256x512 : Shape := ⟨2, ![256, 512]⟩
abbrev S1 : Shape := ⟨1, ![1]⟩
abbrev S2 : Shape := ⟨1, ![2]⟩
abbrev S2x1x1 : Shape := ⟨3, ![2, 1, 1]⟩
abbrev S_ : Shape := ⟨0, ![]⟩
abbrev S1x256x512 : Shape := ⟨3, ![1, 256, 512]⟩

abbrev nBuf : Space → Nat
  | .hbm => 50
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S256x512, .f32⟩
  | .hbm, ⟨2, _⟩ => ⟨S256x512, .f32⟩
  | .hbm, ⟨3, _⟩ => ⟨S2x256x512, .f32⟩
  | .hbm, ⟨4, _⟩ => ⟨S2x256x512, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S1x256x512, .f32⟩
  | .hbm, ⟨12, _⟩ => ⟨S1x256x512, .f32⟩
  | .hbm, ⟨13, _⟩ => ⟨S2x256x512, .i1⟩
  | .hbm, ⟨14, _⟩ => ⟨S2x256x512, .f32⟩
  | .hbm, ⟨15, _⟩ => ⟨S2x256x512, .f32⟩
  | .hbm, ⟨16, _⟩ => ⟨S2x256x512, .f32⟩
  | .hbm, ⟨17, _⟩ => ⟨S_, .f32⟩
  | .hbm, ⟨18, _⟩ => ⟨S2x256x512, .f32⟩
  | .hbm, ⟨19, _⟩ => ⟨S2x256x512, .f32⟩
  | .hbm, ⟨20, _⟩ => ⟨S_, .f32⟩
  | .hbm, ⟨21, _⟩ => ⟨S2x256x512, .f32⟩
  | .hbm, ⟨22, _⟩ => ⟨S2x256x512, .f32⟩
  | .hbm, ⟨23, _⟩ => ⟨S2x256x512, .f32⟩
  | .hbm, ⟨24, _⟩ => ⟨S_, .f32⟩
  | .hbm, ⟨25, _⟩ => ⟨S2x256x512, .f32⟩
  | .hbm, ⟨26, _⟩ => ⟨S2x256x512, .f32⟩
  | .hbm, ⟨27, _⟩ => ⟨S2x256x512, .f32⟩
  | .hbm, ⟨28, _⟩ => ⟨S_, .f32⟩
  | .hbm, ⟨29, _⟩ => ⟨S2x256x512, .f32⟩
  | .hbm, ⟨30, _⟩ => ⟨S2x256x512, .f32⟩
  | .hbm, ⟨31, _⟩ => ⟨S2x256x512, .f32⟩
  | .hbm, ⟨32, _⟩ => ⟨S_, .f32⟩
  | .hbm, ⟨33, _⟩ => ⟨S2x256x512, .f32⟩
  | .hbm, ⟨34, _⟩ => ⟨S2x256x512, .f32⟩
  | .hbm, ⟨35, _⟩ => ⟨S_, .f32⟩
  | .hbm, ⟨36, _⟩ => ⟨S2x256x512, .f32⟩
  | .hbm, ⟨37, _⟩ => ⟨S2x256x512, .f32⟩
  | .hbm, ⟨38, _⟩ => ⟨S2x256x512, .f32⟩
  | .hbm, ⟨39, _⟩ => ⟨S_, .f32⟩
  | .hbm, ⟨40, _⟩ => ⟨S2x256x512, .f32⟩
  | .hbm, ⟨41, _⟩ => ⟨S2x256x512, .f32⟩
  | .hbm, ⟨42, _⟩ => ⟨S2x256x512, .f32⟩
  | .hbm, ⟨43, _⟩ => ⟨S_, .f32⟩
  | .hbm, ⟨44, _⟩ => ⟨S2x256x512, .f32⟩
  | .hbm, ⟨45, _⟩ => ⟨S2x256x512, .f32⟩
  | .hbm, ⟨46, _⟩ => ⟨S2x256x512, .f32⟩
  | .hbm, ⟨47, _⟩ => ⟨S_, .f32⟩
  | .hbm, ⟨48, _⟩ => ⟨S2x256x512, .f32⟩
  | .hbm, ⟨49, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelStepGate.lean ====
abbrev S2x256x256 : Shape := ⟨3, ![2, 256, 256]⟩
abbrev S256x256 : Shape := ⟨2, ![256, 256]⟩
abbrev S1 : Shape := ⟨1, ![1]⟩
abbrev S1x256x256 : Shape := ⟨3, ![1, 256, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelStepGateIdeal.lean ====
abbrev S2x256x256 : Shape := ⟨3, ![2, 256, 256]⟩
abbrev S256x256 : Shape := ⟨2, ![256, 256]⟩
abbrev S1 : Shape := ⟨1, ![1]⟩
abbrev S1x256x256 : Shape := ⟨3, ![1, 256, 256]⟩

abbrev nBuf : Space → Nat
  | .hbm => 9
  | .vmem => 18
  | .smem => 1
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S1x256x256, .f32⟩
  | .local _ .vmem, ⟨1, _⟩ => ⟨S1x256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceStepGateIdeal.lean ====
abbrev S2x256x256 : Shape := ⟨3, ![2, 256, 256]⟩
abbrev S256x256 : Shape := ⟨2, ![256, 256]⟩
abbrev S1 : Shape := ⟨1, ![1]⟩
abbrev S2 : Shape := ⟨1, ![2]⟩
abbrev S2x1x1 : Shape := ⟨3, ![2, 1, 1]⟩
abbrev S_ : Shape := ⟨0, ![]⟩
abbrev S1x256x256 : Shape := ⟨3, ![1, 256, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S256x256, .f32⟩
  | .hbm, ⟨2, _⟩ => ⟨S256x256, .f32⟩
  | .hbm, ⟨3, _⟩ => ⟨S2x256x256, .f32⟩
  | .hbm, ⟨4, _⟩ => ⟨S2x256x256, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S1x256x256, .f32⟩
  | .hbm, ⟨12, _⟩ => ⟨S1x256x256, .f32⟩
  | .hbm, ⟨13, _⟩ => ⟨S2x256x256, .i1⟩
  | .hbm, ⟨14, _⟩ => ⟨S2x256x256, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S2x256x256, .f32⟩
  | .hbm, ⟨28, _⟩ => ⟨S_, .f32⟩
  | .hbm, ⟨29, _⟩ => ⟨S2x256x256, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S_, .f32⟩
  | .hbm, ⟨36, _⟩ => ⟨S2x256x256, .f32⟩
  | .hbm, ⟨37, _⟩ => ⟨S2x256x256, .f32⟩
  | .hbm, ⟨38, _⟩ => ⟨S2x256x256, .f32⟩
  | .hbm, ⟨39, _⟩ => ⟨S_, .f32⟩
  | .hbm, ⟨40, _⟩ => ⟨S2x256x256, .f32⟩
  | .hbm, ⟨41, _⟩ => ⟨S2x256x256, .f32⟩
  | .hbm, ⟨42, _⟩ => ⟨S2x256x256, .f32⟩
  | .hbm, ⟨43, _⟩ => ⟨S_, .f32⟩
  | .hbm, ⟨44, _⟩ => ⟨S2x256x256, .f32⟩
  | .hbm, ⟨45, _⟩ => ⟨S2x256x256, .f32⟩
  | .hbm, ⟨46, _⟩ => ⟨S2x256x256, .f32⟩
  | .hbm, ⟨47, _⟩ => ⟨S_, .f32⟩
  | .hbm, ⟨48, _⟩ => ⟨S2x256x256, .f32⟩
  | .hbm, ⟨49, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelStepOut.lean ====
abbrev S2x256x2048 : Shape := ⟨3, ![2, 256, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S256x2048, .f32⟩
  | .hbm, ⟨2, _⟩ => ⟨S256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelStepOutIdeal.lean ====
abbrev S2x256x2048 : Shape := ⟨3, ![2, 256, 2048]⟩
abbrev S256x2048 : Shape := ⟨2, ![256, 2048]⟩
abbrev S1 : Shape := ⟨1, ![1]⟩
abbrev S1x256x2048 : Shape := ⟨3, ![1, 256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S256x2048, .f32⟩
  | .hbm, ⟨2, _⟩ => ⟨S256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceStepOutIdeal.lean ====
abbrev S2x256x2048 : Shape := ⟨3, ![2, 256, 2048]⟩
abbrev S256x2048 : Shape := ⟨2, ![256, 2048]⟩
abbrev S1 : Shape := ⟨1, ![1]⟩
abbrev S2 : Shape := ⟨1, ![2]⟩
abbrev S2x1x1 : Shape := ⟨3, ![2, 1, 1]⟩
abbrev S_ : Shape := ⟨0, ![]⟩
abbrev S1x256x2048 : Shape := ⟨3, ![1, 256, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S256x2048, .f32⟩
  | .hbm, ⟨2, _⟩ => ⟨S256x2048, .f32⟩
  | .hbm, ⟨3, _⟩ => ⟨S2x256x2048, .f32⟩
  | .hbm, ⟨4, _⟩ => ⟨S2x256x2048, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S1x256x2048, .f32⟩
  | .hbm, ⟨12, _⟩ => ⟨S1x256x2048, .f32⟩
  | .hbm, ⟨13, _⟩ => ⟨S2x256x2048, .i1⟩
  | .hbm, ⟨14, _⟩ => ⟨S2x256x2048, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S_, .f32⟩
  | .hbm, ⟨21, _⟩ => ⟨S2x256x2048, .f32⟩
  | .hbm, ⟨22, _⟩ => ⟨S2x256x2048, .f32⟩
  | .hbm, ⟨23, _⟩ => ⟨S2x256x2048, .f32⟩
  | .hbm, ⟨24, _⟩ => ⟨S_, .f32⟩
  | .hbm, ⟨25, _⟩ => ⟨S2x256x2048, .f32⟩
  | .hbm, ⟨26, _⟩ => ⟨S2x256x2048, .f32⟩
  | .hbm, ⟨27, _⟩ => ⟨S2x256x2048, .f32⟩
  | .hbm, ⟨28, _⟩ => ⟨S_, .f32⟩
  | .hbm, ⟨29, _⟩ => ⟨S2x256x2048, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S_, .f32⟩
  | .hbm, ⟨36, _⟩ => ⟨S2x256x2048, .f32⟩
  | .hbm, ⟨37, _⟩ => ⟨S2x256x2048, .f32⟩
  | .hbm, ⟨38, _⟩ => ⟨S2x256x2048, .f32⟩
  | .hbm, ⟨39, _⟩ => ⟨S_, .f32⟩
  | .hbm, ⟨40, _⟩ => ⟨S2x256x2048, .f32⟩
  | .hbm, ⟨41, _⟩ => ⟨S2x256x2048, .f32⟩
  | .hbm, ⟨42, _⟩ => ⟨S2x256x2048, .f32⟩
  | .hbm, ⟨43, _⟩ => ⟨S_, .f32⟩
  | .hbm, ⟨44, _⟩ => ⟨S2x256x2048, .f32⟩
  | .hbm, ⟨45, _⟩ => ⟨S2x256x2048, .f32⟩
  | .hbm, ⟨46, _⟩ => ⟨S2x256x2048, .f32⟩
  | .hbm, ⟨47, _⟩ => ⟨S_, .f32⟩
  | .hbm, ⟨48, _⟩ => ⟨S2x256x2048, .f32⟩
  | .hbm, ⟨49, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelStepIn.lean ====
abbrev S2x1024x2560 : Shape := ⟨3, ![2, 1024, 2560]⟩
abbrev S1024x2560 : Shape := ⟨2, ![1024, 2560]⟩
abbrev S1 : Shape := ⟨1, ![1]⟩
abbrev S1x256x2560 : Shape := ⟨3, ![1, 256, 2560]⟩
abbrev S256x2560 : Shape := ⟨2, ![256, 2560]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x2560, .f32⟩
  | .hbm, ⟨1, _⟩ => ⟨S1024x2560, .f32⟩
  | .hbm, ⟨2, _⟩ => ⟨S1024x2560, .f32⟩
  | .hbm, ⟨3, _⟩ => ⟨S2x1024x2560, .f32⟩
  | .hbm, ⟨4, _⟩ => ⟨S2x1024x2560, .f32⟩
  | .hbm, ⟨5, _⟩ => ⟨S2x1024x2560, .f32⟩
  | .hbm, ⟨6, _⟩ => ⟨S2x1024x2560, .f32⟩
  | .hbm, ⟨7, _⟩ => ⟨S2x1024x2560, .f32⟩
  | .hbm, ⟨8, _⟩ => ⟨S2x1024x2560, .f32⟩
  | .local _ .vmem, ⟨0, _⟩ => ⟨S1x256x2560, .f32⟩
  | .local _ .vmem, ⟨1, _⟩ => ⟨S1x256x2560, .f32⟩
  | .local _ .vmem, ⟨2, _⟩ => ⟨S256x2560, .f32⟩
  | .local _ .vmem, ⟨3, _⟩ => ⟨S256x2560, .f32⟩
  | .local _ .vmem, ⟨4, _⟩ => ⟨S256x2560, .f32⟩
  | .local _ .vmem, ⟨5, _⟩ => ⟨S256x2560, .f32⟩
  | .local _ .vmem, ⟨6, _⟩ => ⟨S1x256x2560, .f32⟩
  | .local _ .vmem, ⟨7, _⟩ => ⟨S1x256x2560, .f32⟩
  | .local _ .vmem, ⟨8, _⟩ => ⟨S1x256x2560, .f32⟩
  | .local _ .vmem, ⟨9, _⟩ => ⟨S1x256x2560, .f32⟩
  | .local _ .vmem, ⟨10, _⟩ => ⟨S1x256x2560, .f32⟩
  | .local _ .vmem, ⟨11, _⟩ => ⟨S1x256x2560, .f32⟩
  | .local _ .vmem, ⟨12, _⟩ => ⟨S1x256x2560, .f32⟩
  | .local _ .vmem, ⟨13, _⟩ => ⟨S1x256x2560, .f32⟩
  | .local _ .vmem, ⟨14, _⟩ => ⟨S1x256x2560, .f32⟩
  | .local _ .vmem, ⟨15, _⟩ => ⟨S1x256x2560, .f32⟩
  | .local _ .vmem, ⟨16, _⟩ => ⟨S1x256x2560, .f32⟩
  | .local _ .vmem, ⟨17, _⟩ => ⟨S1x256x2560, .f32⟩
  | .local _ .smem, ⟨0, _⟩ => ⟨S1, .i32⟩
  | _, _ => ⟨S2x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelStepInIdeal.lean ====
abbrev S2x1024x2560 : Shape := ⟨3, ![2, 1024, 2560]⟩
abbrev S1024x2560 : Shape := ⟨2, ![1024, 2560]⟩
abbrev S1 : Shape := ⟨1, ![1]⟩
abbrev S1x256x2560 : Shape := ⟨3, ![1, 256, 2560]⟩
abbrev S256x2560 : Shape := ⟨2, ![256, 2560]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x2560, .f32⟩
  | .hbm, ⟨1, _⟩ => ⟨S1024x2560, .f32⟩
  | .hbm, ⟨2, _⟩ => ⟨S1024x2560, .f32⟩
  | .hbm, ⟨3, _⟩ => ⟨S2x1024x2560, .f32⟩
  | .hbm, ⟨4, _⟩ => ⟨S2x1024x2560, .f32⟩
  | .hbm, ⟨5, _⟩ => ⟨S2x1024x2560, .f32⟩
  | .hbm, ⟨6, _⟩ => ⟨S2x1024x2560, .f32⟩
  | .hbm, ⟨7, _⟩ => ⟨S2x1024x2560, .f32⟩
  | .hbm, ⟨8, _⟩ => ⟨S2x1024x2560, .f32⟩
  | .local _ .vmem, ⟨0, _⟩ => ⟨S1x256x2560, .f32⟩
  | .local _ .vmem, ⟨1, _⟩ => ⟨S1x256x2560, .f32⟩
  | .local _ .vmem, ⟨2, _⟩ => ⟨S256x2560, .f32⟩
  | .local _ .vmem, ⟨3, _⟩ => ⟨S256x2560, .f32⟩
  | .local _ .vmem, ⟨4, _⟩ => ⟨S256x2560, .f32⟩
  | .local _ .vmem, ⟨5, _⟩ => ⟨S256x2560, .f32⟩
  | .local _ .vmem, ⟨6, _⟩ => ⟨S1x256x2560, .f32⟩
  | .local _ .vmem, ⟨7, _⟩ => ⟨S1x256x2560, .f32⟩
  | .local _ .vmem, ⟨8, _⟩ => ⟨S1x256x2560, .f32⟩
  | .local _ .vmem, ⟨9, _⟩ => ⟨S1x256x2560, .f32⟩
  | .local _ .vmem, ⟨10, _⟩ => ⟨S1x256x2560, .f32⟩
  | .local _ .vmem, ⟨11, _⟩ => ⟨S1x256x2560, .f32⟩
  | .local _ .vmem, ⟨12, _⟩ => ⟨S1x256x2560, .f32⟩
  | .local _ .vmem, ⟨13, _⟩ => ⟨S1x256x2560, .f32⟩
  | .local _ .vmem, ⟨14, _⟩ => ⟨S1x256x2560, .f32⟩
  | .local _ .vmem, ⟨15, _⟩ => ⟨S1x256x2560, .f32⟩
  | .local _ .vmem, ⟨16, _⟩ => ⟨S1x256x2560, .f32⟩
  | .local _ .vmem, ⟨17, _⟩ => ⟨S1x256x2560, .f32⟩
  | .local _ .smem, ⟨0, _⟩ => ⟨S1, .i32⟩
  | _, _ => ⟨S2x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceStepInIdeal.lean ====
abbrev S2x1024x2560 : Shape := ⟨3, ![2, 1024, 2560]⟩
abbrev S1024x2560 : Shape := ⟨2, ![1024, 2560]⟩
abbrev S1 : Shape := ⟨1, ![1]⟩
abbrev S2 : Shape := ⟨1, ![2]⟩
abbrev S2x1x1 : Shape := ⟨3, ![2, 1, 1]⟩
abbrev S_ : Shape := ⟨0, ![]⟩
abbrev S1x1024x2560 : Shape := ⟨3, ![1, 1024, 2560]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x2560, .f32⟩
  | .hbm, ⟨1, _⟩ => ⟨S1024x2560, .f32⟩
  | .hbm, ⟨2, _⟩ => ⟨S1024x2560, .f32⟩
  | .hbm, ⟨3, _⟩ => ⟨S2x1024x2560, .f32⟩
  | .hbm, ⟨4, _⟩ => ⟨S2x1024x2560, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S1x1024x2560, .f32⟩
  | .hbm, ⟨12, _⟩ => ⟨S1x1024x2560, .f32⟩
  | .hbm, ⟨13, _⟩ => ⟨S2x1024x2560, .i1⟩
  | .hbm, ⟨14, _⟩ => ⟨S2x1024x2560, .f32⟩
  | .hbm, ⟨15, _⟩ => ⟨S2x1024x2560, .f32⟩
  | .hbm, ⟨16, _⟩ => ⟨S2x1024x2560, .f32⟩
  | .hbm, ⟨17, _⟩ => ⟨S_, .f32⟩
  | .hbm, ⟨18, _⟩ => ⟨S2x1024x2560, .f32⟩
  | .hbm, ⟨19, _⟩ => ⟨S2x1024x2560, .f32⟩
  | .hbm, ⟨20, _⟩ => ⟨S_, .f32⟩
  | .hbm, ⟨21, _⟩ => ⟨S2x1024x2560, .f32⟩
  | .hbm, ⟨22, _⟩ => ⟨S2x1024x2560, .f32⟩
  | .hbm, ⟨23, _⟩ => ⟨S2x1024x2560, .f32⟩
  | .hbm, ⟨24, _⟩ => ⟨S_, .f32⟩
  | .hbm, ⟨25, _⟩ => ⟨S2x1024x2560, .f32⟩
  | .hbm, ⟨26, _⟩ => ⟨S2x1024x2560, .f32⟩
  | .hbm, ⟨27, _⟩ => ⟨S2x1024x2560, .f32⟩
  | .hbm, ⟨28, _⟩ => ⟨S_, .f32⟩
  | .hbm, ⟨29, _⟩ => ⟨S2x1024x2560, .f32⟩
  | .hbm, ⟨30, _⟩ => ⟨S2x1024x2560, .f32⟩
  | .hbm, ⟨31, _⟩ => ⟨S2x1024x2560, .f32⟩
  | .hbm, ⟨32, _⟩ => ⟨S_, .f32⟩
  | .hbm, ⟨33, _⟩ => ⟨S2x1024x2560, .f32⟩
  | .hbm, ⟨34, _⟩ => ⟨S2x1024x2560, .f32⟩
  | .hbm, ⟨35, _⟩ => ⟨S_, .f32⟩
  | .hbm, ⟨36, _⟩ => ⟨S2x1024x2560, .f32⟩
  | .hbm, ⟨37, _⟩ => ⟨S2x1024x2560, .f32⟩
  | .hbm, ⟨38, _⟩ => ⟨S2x1024x2560, .f32⟩
  | .hbm, ⟨39, _⟩ => ⟨S_, .f32⟩
  | .hbm, ⟨40, _⟩ => ⟨S2x1024x2560, .f32⟩
  | .hbm, ⟨41, _⟩ => ⟨S2x1024x2560, .f32⟩
  | .hbm, ⟨42, _⟩ => ⟨S2x1024x2560, .f32⟩
  | .hbm, ⟨43, _⟩ => ⟨S_, .f32⟩
  | .hbm, ⟨44, _⟩ => ⟨S2x1024x2560, .f32⟩
  | .hbm, ⟨45, _⟩ => ⟨S2x1024x2560, .f32⟩
  | .hbm, ⟨46, _⟩ => ⟨S2x1024x2560, .f32⟩
  | .hbm, ⟨47, _⟩ => ⟨S_, .f32⟩
  | .hbm, ⟨48, _⟩ => ⟨S2x1024x2560, .f32⟩
  | .hbm, ⟨49, _⟩ => ⟨S2x1024x2560, .f32⟩
  | _, _ => ⟨S2x1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelStepMlp.lean ====
abbrev S2x1024x2048 : Shape := ⟨3, ![2, 1024, 2048]⟩
abbrev S1024x2048 : Shape := ⟨2, ![1024, 2048]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S2x1024x2048, .f32⟩
  | .hbm, ⟨1, _⟩ => ⟨S1024x2048, .f32⟩
  | .hbm, ⟨2, _⟩ => ⟨S1024x2048, .f32⟩
  | .hbm, ⟨3, _⟩ => ⟨S2x1024x2048, .f32⟩
  | .hbm, ⟨4, _⟩ => ⟨S2x1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let c0_i32 : BitVec 32 := 0#32
  let v2 : BitVec 32 := Scalar.select v1 c0_i32 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceStepMlpIdeal.lean ====
abbrev S2x1024x2048 : Shape := ⟨3, ![2, 1024, 2048]⟩
abbrev S1024x2048 : Shape := ⟨2, ![1024, 2048]⟩
abbrev S1 : Shape := ⟨1, ![1]⟩
abbrev S2 : Shape := ⟨1, ![2]⟩
abbrev S2x1x1 : Shape := ⟨3, ![2, 1, 1]⟩
abbrev S_ : Shape := ⟨0, ![]⟩
abbrev S1x1024x2048 : Shape := ⟨3, ![1, 1024, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S1024x2048, .f32⟩
  | .hbm, ⟨2, _⟩ => ⟨S1024x2048, .f32⟩
  | .hbm, ⟨3, _⟩ => ⟨S2x1024x2048, .f32⟩
  | .hbm, ⟨4, _⟩ => ⟨S2x1024x2048, .f32⟩
  | .hbm, ⟨5, _⟩ => ⟨S1, .i32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S1x1024x2048, .f32⟩
  | .hbm, ⟨12, _⟩ => ⟨S1x1024x2048, .f32⟩
  | .hbm, ⟨13, _⟩ => ⟨S2x1024x2048, .i1⟩
  | .hbm, ⟨14, _⟩ => ⟨S2x1024x2048, .f32⟩
  | .hbm, ⟨15, _⟩ => ⟨S2x1024x2048, .f32⟩
  | .hbm, ⟨16, _⟩ => ⟨S2x1024x2048, .f32⟩
  | .hbm, ⟨17, _⟩ => ⟨S_, .f32⟩
  | .hbm, ⟨18, _⟩ => ⟨S2x1024x2048, .f32⟩
  | .hbm, ⟨19, _⟩ => ⟨S2x1024x2048, .f32⟩
  | .hbm, ⟨20, _⟩ => ⟨S_, .f32⟩
  | .hbm, ⟨21, _⟩ => ⟨S2x1024x2048, .f32⟩
  | .hbm, ⟨22, _⟩ => ⟨S2x1024x2048, .f32⟩
  | .hbm, ⟨23, _⟩ => ⟨S2x1024x2048, .f32⟩
  | .hbm, ⟨24, _⟩ => ⟨S_, .f32⟩
  | .hbm, ⟨25, _⟩ => ⟨S2x1024x2048, .f32⟩
  | .hbm, ⟨26, _⟩ => ⟨S2x1024x2048, .f32⟩
  | .hbm, ⟨27, _⟩ => ⟨S2x1024x2048, .f32⟩
  | .hbm, ⟨28, _⟩ => ⟨S_, .f32⟩
  | .hbm, ⟨29, _⟩ => ⟨S2x1024x2048, .f32⟩
  | .hbm, ⟨30, _⟩ => ⟨S2x1024x2048, .f32⟩
  | .hbm, ⟨31, _⟩ => ⟨S2x1024x2048, .f32⟩
  | .hbm, ⟨32, _⟩ => ⟨S_, .f32⟩
  | .hbm, ⟨33, _⟩ => ⟨S2x1024x2048, .f32⟩
  | .hbm, ⟨34, _⟩ => ⟨S2x1024x2048, .f32⟩
  | .hbm, ⟨35, _⟩ => ⟨S_, .f32⟩
  | .hbm, ⟨36, _⟩ => ⟨S2x1024x2048, .f32⟩
  | .hbm, ⟨37, _⟩ => ⟨S2x1024x2048, .f32⟩
  | .hbm, ⟨38, _⟩ => ⟨S2x1024x2048, .f32⟩
  | .hbm, ⟨39, _⟩ => ⟨S_, .f32⟩
  | .hbm, ⟨40, _⟩ => ⟨S2x1024x2048, .f32⟩
  | .hbm, ⟨41, _⟩ => ⟨S2x1024x2048, .f32⟩
  | .hbm, ⟨42, _⟩ => ⟨S2x1024x2048, .f32⟩
  | .hbm, ⟨43, _⟩ => ⟨S_, .f32⟩
  | .hbm, ⟨44, _⟩ => ⟨S2x1024x2048, .f32⟩
  | .hbm, ⟨45, _⟩ => ⟨S2x1024x2048, .f32⟩
  | .hbm, ⟨46, _⟩ => ⟨S2x1024x2048, .f32⟩
  | .hbm, ⟨47, _⟩ => ⟨S_, .f32⟩
  | .hbm, ⟨48, _⟩ => ⟨S2x1024x2048, .f32⟩
  | .hbm, ⟨49, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== KernelNormDx.lean ====
abbrev S4224x2048 : Shape := ⟨2, ![4224, 2048]⟩
abbrev S1x2048 : Shape := ⟨2, ![1, 2048]⟩
abbrev S4096x2048 : Shape := ⟨2, ![4096, 2048]⟩
abbrev S16x2048 : Shape := ⟨2, ![16, 2048]⟩
abbrev S8x2048 : Shape := ⟨2, ![8, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .hbm, ⟨3, _⟩ => ⟨S4224x2048, .bf16⟩
  | .hbm, ⟨4, _⟩ => ⟨S4096x2048, .f32⟩
  | .hbm, ⟨5, _⟩ => ⟨S16x2048, .f32⟩
  | .hbm, ⟨6, _⟩ => ⟨S8x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .f32⟩
  | .local _ .vmem, ⟨8, _⟩ => ⟨S128x2048, .f32⟩
  | .local _ .vmem, ⟨9, _⟩ => ⟨S16x2048, .f32⟩
  | .local _ .vmem, ⟨10, _⟩ => ⟨S8x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v39 : BitVec 1 := Scalar.cmpi .slt arg0 c32_i32
  let v40 : BitVec 32 := Scalar.extui v39
  let c0_i32_17 : BitVec 32 := 0#32
  let v41 : BitVec 1 := Scalar.cmpi .ne v40 c0_i32_17
  v41

def k0_cond3 (i : grid0.Coords) : BitVec 1 :=
  let arg0 : BitVec 32 := BitVec.ofNat 32 (i 0).val
  let c32_i32_18 : BitVec 32 := 32#32
  let v42 : BitVec 1 := Scalar.cmpi .eq arg0 c32_i32_18
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormDxIdeal.lean ====
abbrev S4224x2048 : Shape := ⟨2, ![4224, 2048]⟩
abbrev S1x2048 : Shape := ⟨2, ![1, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .hbm, ⟨3, _⟩ => ⟨S4224x2048, .bf16⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | .hbm, ⟨25, _⟩ => ⟨S4096x2048, .f32⟩
  | .hbm, ⟨26, _⟩ => ⟨S4096x2048, .bf16⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== KernelNorm2Dx.lean ====
abbrev S4224x2048 : Shape := ⟨2, ![4224, 2048]⟩
abbrev S1x2048 : Shape := ⟨2, ![1, 2048]⟩
abbrev S8x2048 : Shape := ⟨2, ![8, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .hbm, ⟨3, _⟩ => ⟨S4224x2048, .bf16⟩
  | .hbm, ⟨4, _⟩ => ⟨S4224x2048, .bf16⟩
  | .hbm, ⟨5, _⟩ => ⟨S8x2048, .f32⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | .local _ .vmem, ⟨5, _⟩ => ⟨S384x2048, .bf16⟩
  | .local _ .vmem, ⟨6, _⟩ => ⟨S384x2048, .bf16⟩
  | .local _ .vmem, ⟨7, _⟩ => ⟨S384x2048, .bf16⟩
  | .local _ .vmem, ⟨8, _⟩ => ⟨S384x2048, .bf16⟩
  | .local _ .vmem, ⟨9, _⟩ => ⟨S8x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNorm2DxIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩
abbrev S8x2048 : Shape := ⟨2, ![8, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .hbm, ⟨3, _⟩ => ⟨S4224x2048, .bf16⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S_, .f32⟩
  | .hbm, ⟨32, _⟩ => ⟨S4224, .f32⟩
  | .hbm, ⟨33, _⟩ => ⟨S4224x1, .f32⟩
  | .hbm, ⟨34, _⟩ => ⟨S4224x2048, .f32⟩
  | .hbm, ⟨35, _⟩ => ⟨S4224x2048, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S_, .f32⟩
  | .hbm, ⟨41, _⟩ => ⟨S4224, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .bf16⟩
  | .hbm, ⟨50, _⟩ => ⟨S_, .i32⟩
  | .hbm, ⟨51, _⟩ => ⟨S_, .f32⟩
  | .hbm, ⟨52, _⟩ => ⟨S8x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call0_v0 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== KernelDown.lean ====
abbrev S4224x8192 : Shape := ⟨2, ![4224, 8192]⟩
abbrev S8192x2048 : Shape := ⟨2, ![8192, 2048]⟩
abbrev S4224x2048 : Shape := ⟨2, ![4224, 2048]⟩
abbrev S704x8192 : Shape := ⟨2, ![704, 8192]⟩
abbrev S8192x256 : Shape := ⟨2, ![8192, 256]⟩
abbrev S704x256 : Shape := ⟨2, ![704, 256]⟩

abbrev nBuf : Space → Nat
  | .hbm => 4
  | .vmem => 8
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S4224x2048, .f32⟩
  | .local _ .vmem, ⟨0, _⟩ => ⟨S704x8192, .bf16⟩
  | .local _ .vmem, ⟨1, _⟩ => ⟨S704x8192, .bf16⟩
  | .local _ .vmem, ⟨2, _⟩ => ⟨S8192x256, .bf16⟩
  | .local _ .vmem, ⟨3, _⟩ => ⟨S8192x256, .bf16⟩
  | .local _ .vmem, ⟨4, _⟩ => ⟨S704x256, .f32⟩
  | .local _ .vmem, ⟨5, _⟩ => ⟨S704x256, .f32⟩
  | .local _ .vmem, ⟨6, _⟩ => ⟨S704x256, .f32⟩
  | .local _ .vmem, ⟨7, _⟩ => ⟨S704x256, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4224x8192 : Shape := ⟨2, ![4224, 8192]⟩
abbrev S8192x2048 : Shape := ⟨2, ![8192, 2048]⟩
abbrev S4224x2048 : Shape := ⟨2, ![4224, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S8192x2048, .bf16⟩
  | .hbm, ⟨2, _⟩ => ⟨S4224x2048, .f32⟩
  | .hbm, ⟨3, _⟩ => ⟨S_, .bf16⟩
  | .hbm, ⟨4, _⟩ => ⟨S4224x8192, .bf16⟩
  | .hbm, ⟨5, _⟩ => ⟨S4224x8192, .bf16⟩
  | .hbm, ⟨6, _⟩ => ⟨S4224x8192, .bf16⟩
  | .hbm, ⟨7, _⟩ => ⟨S4224x2048, .f32⟩
  | .hbm, ⟨8, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDownDx.lean ====
abbrev S4224x2048 : Shape := ⟨2, ![4224, 2048]⟩
abbrev S8192x2048 : Shape := ⟨2, ![8192, 2048]⟩
abbrev S4224x8192 : Shape := ⟨2, ![4224, 8192]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .bf16⟩
  | .hbm, ⟨3, _⟩ => ⟨S4224x8192, .bf16⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownDxIdeal.lean ====
abbrev S4224x2048 : Shape := ⟨2, ![4224, 2048]⟩
abbrev S8192x2048 : Shape := ⟨2, ![8192, 2048]⟩
abbrev S4224x8192 : Shape := ⟨2, ![4224, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S8192x2048, .bf16⟩
  | .hbm, ⟨2, _⟩ => ⟨S4224x8192, .bf16⟩
  | .hbm, ⟨3, _⟩ => ⟨S4224x8192, .f32⟩
  | .hbm, ⟨4, _⟩ => ⟨S4224x8192, .f32⟩
  | .hbm, ⟨5, _⟩ => ⟨S_, .f32⟩
  | .hbm, ⟨6, _⟩ => ⟨S4224x8192, .f32⟩
  | .hbm, ⟨7, _⟩ => ⟨S4224x8192, .f32⟩
  | .hbm, ⟨8, _⟩ => ⟨S_, .f32⟩
  | .hbm, ⟨9, _⟩ => ⟨S4224x8192, .f32⟩
  | .hbm, ⟨10, _⟩ => ⟨S4224x8192, .f32⟩
  | .hbm, ⟨11, _⟩ => ⟨S4224x8192, .f32⟩
  | .hbm, ⟨12, _⟩ => ⟨S4224x8192, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDownDw.lean ====
abbrev S4224x8192 : Shape := ⟨2, ![4224, 8192]⟩
abbrev S4224x2048 : Shape := ⟨2, ![4224, 2048]⟩
abbrev S8192x2048 : Shape := ⟨2, ![8192, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S8192x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S4224x8192 : Shape := ⟨2, ![4224, 8192]⟩
abbrev S4224x2048 : Shape := ⟨2, ![4224, 2048]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S4224x2048, .bf16⟩
  | .hbm, ⟨2, _⟩ => ⟨S_, .bf16⟩
  | .hbm, ⟨3, _⟩ => ⟨S4224x8192, .bf16⟩
  | .hbm, ⟨4, _⟩ => ⟨S4224x8192, .bf16⟩
  | .hbm, ⟨5, _⟩ => ⟨S4224x8192, .bf16⟩
  | .hbm, ⟨6, _⟩ => ⟨S8192x2048, .f32⟩
  | .hbm, ⟨7, _⟩ => ⟨S8192x2048, .bf16⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOutDx.lean ====
abbrev S4224x2048 : Shape := ⟨2, ![4224, 2048]⟩
abbrev S2048x2048 : Shape := ⟨2, ![2048, 2048]⟩
abbrev S1408x2048 : Shape := ⟨2, ![1408, 2048]⟩
abbrev S1024x2048 : Shape := ⟨2, ![1024, 2048]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .bf16⟩
  | .local _ .vmem, ⟨0, _⟩ => ⟨S1408x2048, .bf16⟩
  | .local _ .vmem, ⟨1, _⟩ => ⟨S1408x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1408x1024, .bf16⟩
  | .local _ .vmem, ⟨5, _⟩ => ⟨S1408x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S4224x2048 : Shape := ⟨2, ![4224, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOutDw.lean ====
abbrev S4224x2048 : Shape := ⟨2, ![4224, 2048]⟩
abbrev S2048x2048 : Shape := ⟨2, ![2048, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S4224x2048 : Shape := ⟨2, ![4224, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S2048x2048, .f32⟩
  | .hbm, ⟨3, _⟩ => ⟨S2048x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reads.lean ====
/-
  Blocks of arrays cut along their first axis, read at coordinates.
-/
module

public import Idealize.ShloMosaic.Lib.Pointwise
public import Idealize.ShloMosaic.Lib.Layout

@[expose] public section

namespace Cert.Exchange

open Idealize.ShloMosaic

variable {α : Type} {n N k : ℕ}

/-- Row `a` of block `c` is row `c * n + a` of the whole. -/
theorem row_lt (e : N = k * n) (c : Fin k) (a : Fin n) : c.val * n + a.val < N := by
  have h : (c.val + 1) * n ≤ k * n := Nat.mul_le_mul_right n c.isLt
  have := a.isLt
  rw [Nat.succ_mul] at h
  omega

theorem block2 {p : ℕ} (c : Fin k) (v : (⟨2, ![N, p]⟩ : Shape).Idx → α) (h : Layout.Tiles ⟨2, ![n, p]⟩ ⟨2, ![N, p]⟩ 0 k)
    (a : Fin n) (b : Fin p) :
    Layout.block ⟨2, ![n, p]⟩ ⟨2, ![N, p]⟩ 0 k c v h (ix2 a b) = v (ix2 ⟨c.val * n + a.val, row_lt (h.size 0) c a⟩ b) :=
  congrArg v (funext fun x => match x with | ⟨0, _⟩ => rfl | ⟨1, _⟩ => rfl)

theorem block3 {p q : ℕ} (c : Fin k) (v : (⟨3, ![N, p, q]⟩ : Shape).Idx → α) (h : Layout.Tiles ⟨3, ![n, p, q]⟩ ⟨3, ![N, p, q]⟩ 0 k)
    (a : Fin n) (b : Fin p) (d : Fin q) :
    Layout.block ⟨3, ![n, p, q]⟩ ⟨3, ![N, p, q]⟩ 0 k c v h (ix3 a b d) = v (ix3 ⟨c.val * n + a.val, row_lt (h.size 0) c a⟩ b d) :=
  congrArg v (funext fun x => match x with | ⟨0, _⟩ => rfl | ⟨1, _⟩ => rfl | ⟨2, _⟩ => rfl)

theorem block4 {p q s : ℕ} (c : Fin k) (v : (⟨4, ![N, p, q, s]⟩ : Shape).Idx → α)
    (h : Layout.Tiles ⟨4, ![n, p, q, s]⟩ ⟨4, ![N, p, q, s]⟩ 0 k) (a : Fin n) (b : Fin p) (d : Fin q) (e : Fin s) :
    Layout.block ⟨4, ![n, p, q, s]⟩ ⟨4, ![N, p, q, s]⟩ 0 k c v h (ix4 a b d e)
      = v (ix4 ⟨c.val * n + a.val, row_lt (h.size 0) c a⟩ b d e) :=
  congrArg v (funext fun x => match x with | ⟨0, _⟩ => rfl | ⟨1, _⟩ => rfl | ⟨2, _⟩ => rfl | ⟨3, _⟩ => rfl)

/-- Two elements with equal coordinates are one. -/
theorem congr_ix2 {a b : ℕ} {x x' : Fin a} {y y' : Fin b} (hx : x.val = x'.val) (hy : y.val = y'.val) : ix2 x y = ix2 x' y' := by
  obtain rfl := Fin.ext hx; obtain rfl := Fin.ext hy; rfl

theorem congr_ix3 {a b d : ℕ} {x x' : Fin a} {y y' : Fin b} {z z' : Fin d} (hx : x.val = x'.val) (hy : y.val = y'.val)
    (hz : z.val = z'.val) : ix3 x y z = ix3 x' y' z' := by
  obtain rfl := Fin.ext hx; obtain rfl := Fin.ext hy; obtain rfl := Fin.ext hz; rfl

theorem congr_ix4 {a b d e : ℕ} {x x' : Fin a} {y y' : Fin b} {z z' : Fin d} {w w' : Fin e} (hx : x.val = x'.val) (hy : y.val = y'.val)
    (hz : z.val = z'.val) (hw : w.val = w'.val) : ix4 x y z w = ix4 x' y' z' w' := by
  obtain rfl := Fin.ext hx; obtain rfl := Fin.ext hy; obtain rfl := Fin.ext hz; obtain rfl := Fin.ext hw; rfl

end Cert.Exchange
-- ==== Proof.FirstTalk.lean ====
/-
  The launch of a program whose FIRST operation is a kernel that copies into its peers' arrays without asking them.

  Such a kernel has no handshake: a device's copy may land, and credit the peer's receive semaphore, before the peer has
  taken a step.  So everything a copy needs must be dealt before any device runs, for all devices at once: the kernel's own
  semaphore counters (the cells are allocated from them), the elements of the peers' arrays the copies write, the
  arrays they read, what each core owes and is owed.  `θ_run_talk_first` is that launch: one step `hinit` over all
  devices from all of this to the state `pre c` each device enters the kernel with; the region; then any segments
  (host operations, further kernels) that no copy touches.
-/
module

public import Idealize.ShloMosaic.Lib.Pipeline.Regions
public import Idealize.ShloMosaic.Lib.Pipeline.Kit

@[expose] public section

set_option Elab.async false

noncomputable section

namespace Cert.FirstTalk

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open PCS
open Idealize.ShloMosaic.Pipeline.PerCore (cellsWaits EntryPre EntryPost cellsSems0 idleSems0 cellsGhost toksInit)

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- What core `c` holds on entering the kernel, its own counters already given away: its scoped buffers, the staging
    cells' counters, the counters nothing uses, its idle operation slot. -/
abbrev shell (c : Dev nD) : sProp 𝕄 :=
  iprop(scopedBufs (c.tc : Thread nD τ) ∗ cellsSems0 (pinD pcs a) p c ∗ idleSems0 (pinD pcs a) phinj p (fun _ => ho) c
    ∗ opIdle (c.tc : Thread nD τ))

include hw in
omit [Fintype P] in
/-- A core's boundary is its shell and its own counters at zero. -/
theorem boundary_shell (c : Dev nD) :
    (boundary (c.tc : Thread nD τ) : sProp 𝕄) ⊢ iprop(shell pcs a phinj p ho c ∗ ownSems0 osem c) := by
  classical
  have hss := PerCore.scopedSems0_split (pinD pcs a) phinj p (fun _ => hw) (fun _ => ho) (Ix := Ix) (Val := Val) (Name := Name) (U := U) (Lvl := Lvl) c
  unfold boundary
  rw [hss]
  iintro ⟨Hbuf, ⟨⟨Hst, Hown⟩, Hrest⟩, Hop⟩
  isplitr [Hown]
  · isplitl [Hbuf]; · iexact Hbuf
    isplitl [Hst]; · iexact Hst
    isplitl [Hrest] <;> iassumption
  · iexact Hown

include hw in
/-- The kernel's step on core `c`, entered with its own counters given away: from the shell, the state `pre`, the level
    facts and the staging cells' ghost state to the whole boundary and the state `post`. -/
theorem wp_talk [Preorder Lvl] [∀ e, Nonempty (Val e)] [Infinite Name] [EP.LandsIn (upEmb : UEmb _ 𝕄)]
    (c : Dev nD)
    (hbody : BodyObligationLoose (pdats p c) defs₀ 𝒱₀ ι Set.univ)
    (hne : ∀ w : Fin (pcs p).W, 0 < ((pcs p).spec w).block.numel)
    (hstage : ∀ (w : Fin (pcs p).W) (s : Fin ((pcs p).spec w).nbuf), (((pcs p).spec w).stage s).IsWhole)
    (hwaits : (levAts L lv : sProp 𝕄) ⊢ cellsWaits (pinD pcs a) pdats ι p c)
    (pre post X Y Z : sProp 𝕄)
    (hentry : pre ⊢ iprop((pdats p c).arrays ((pdats p c).arrAt · 0) ∗ prefHeld (pcs p).pre c (fun _ => fullShare) (a c p).1
        ∗ (pdats p c).owesAt ι 0 ∗ X ∗ Z))
    (hin : iprop(X ∗ prefHeld (pcs p).pre c (fun _ => fullShare) (a c p).1 ∗ scopedRest (pcs p).spec c) ⊢ (pdats p c).Φ 0)
    (hout : (pdats p c).Φ (Fin.last (pinD pcs a c p).N) ⊢ iprop(Y ∗ ownSems0 osem c ∗ scopedRest (pcs p).spec c))
    (hexit : iprop((pdats p c).arrays ((pdats p c).arrAt · (pinD pcs a c p).N) ∗ (pdats p c).owesAt ι (Fin.last (pinD pcs a c p).N) ∗ Y ∗ Z) ⊢ post)
    {α : Type} (k : PUnit → Prog (TpuEff nD τ sig Val (Sig Λ₀ P fun p => (pcs p).Adm) .tc) α) (Q : α → sProp 𝕄) :
    iprop((iprop(boundary (c.tc : Thread nD τ) ∗ post) -∗ wp frame (wpE 𝔻 𝕍 (c.tc : Thread nD τ) none) Set.univ (k ⟨⟩) Q)
        ∗ shell pcs a phinj p ho c ∗ pre ∗ levAts L lv ∗ cellsGhost (pinD pcs a) EP p c ∗ toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => hw) (fun _ => ho) (Ix := Ix) (Val := Val) (Name := Name) (U := U) (Lvl := Lvl) c
  have hsb := PerCore.scopedBufs_split (pinD pcs a) p c hw.stage_scoped hw.stage_inj hstage (nD := nD) (τ := τ) (Ix := Ix) (Val := Val) (Name := Name) (U := U) (Lvl := Lvl)
  have hback : iprop((pdats p c).Φ (Fin.last (pinD pcs a c p).N) ∗ cellsSems0 (pinD pcs a) p c ∗ Dat.staging (pinD pcs a c p) c
        ∗ idleSems0 (pinD pcs a) phinj p (fun _ => ho) c)
      ⊢ iprop(Y ∗ scopedSems0 (c.tc : Thread nD τ) ∗ scopedBufs (c.tc : Thread nD τ)) := by
    rw [hss, hsb]
    iintro ⟨Hinv, Hst, Hstg, Hrest⟩
    ihave H := hout $$ Hinv
    icases H with ⟨HY, Hown, Hsr⟩
    isplitl [HY]; · iexact HY
    isplitl [Hst Hown Hrest]
    · isplitl [Hst Hown]; · isplitl [Hst] <;> iassumption
      iexact Hrest
    · isplitl [Hstg] <;> iassumption
  iintro ⟨Hk, ⟨Hbuf, Hst, Hrest, Hop⟩, Hpre, #Hla, Hg, Ht⟩
  ihave Hw := hwaits $$ Hla
  iapply (fupd_wp frame (wpE 𝔻 𝕍 (c.tc : Thread nD τ) none) Set.univ _ _)
  imod (PerCore.cellsInit_alloc (pinD pcs a) pdats EP phinj p c) $$ [Hst Hg] with ⟨%κ, -, Hinit⟩
  · isplitl [Hst] <;> iassumption
  ihave H := hentry $$ Hpre
  icases H with ⟨Harr, Hpf, HO, HX, HZ⟩
  imodintro
  iapply (PerCore.wp_customCall_entry_frame pcs a pdats ι EP κ phinj p defs₀ 𝒱₀ (fun _ => fullShare) c Set.univ (fun _ _ => Set.mem_univ _)
      hbody hne none (fun u h => nomatch h) (X := X) (Y := Y) (R := scopedRest (pcs p).spec c)
      (I := idleSems0 (pinD pcs a) phinj p (fun _ => ho) c) (Entails.of_eq hsb) hin hback (k := k) (Q := Q)) $$ [Harr HO Hw Hinit Ht Hpf HX Hrest Hbuf]
  · isplitl [Harr HO Hw Hinit Ht]
    · unfold PerCore.EntryPre
      isplitl [Harr]; · iexact Harr
      isplitl [HO]; · iexact HO
      isplitl [Hw]; · iexact Hw
      isplitl [Hinit] <;> iassumption
    isplitl [Hpf]; · iexact Hpf
    isplitl [HX]; · iexact HX
    isplitl [Hrest]; · iexact Hrest
    iexact Hbuf
  iintro ⟨Hpost, HY, Hsem, Hbuf⟩
  unfold PerCore.EntryPost
  icases Hpost with ⟨Harr, HO⟩
  ihave Hp := hexit $$ [Harr HO HY HZ]
  · isplitl [Harr]; · iexact Harr
    isplitl [HO]; · iexact HO
    isplitl [HY] <;> iassumption
  iapply Hk
  isplitr [Hp]
  · unfold boundary
    isplitl [Hbuf]; · iexact Hbuf
    isplitl [Hsem] <;> iassumption
  · iexact Hp

omit [Fintype P] in
/-- The levels assigned once for the machine: every TensorCore's rights spent on `lv`, the other threads' cells having no
    index with a level. -/
theorem levels_assign [Preorder Lvl] (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hthread (d : Dev nD) (q : Proc τ) (hq : q ∈ Finset.univ.erase Proc.tc) : (coreLevAts ((d, q) : Thread nD τ) L lv : sProp 𝕄) = BI.emp := by
    unfold coreLevAts
    exact (bigSep_congr (Ψ := fun _ : SemLoc sig => (BI.emp : sProp 𝕄)) fun sm _ => by
      rw [hL (((d, q) : Thread nD τ), sm) (Finset.ne_of_mem_erase hq), BI.bigSep_empty]).trans (BI.bigSep_emp_const _)
  have hother : (bigSep Finset.univ fun d : Dev nD => bigSep (Finset.univ.erase Proc.tc) fun q => (coreLevAts ((d, q) : Thread nD τ) L lv : sProp 𝕄)) = BI.emp :=
    (bigSep_congr (Ψ := fun _ : Dev nD => (BI.emp : sProp 𝕄)) fun d _ =>
      (bigSep_congr (Ψ := fun _ : Proc τ => (BI.emp : sProp 𝕄)) (hthread d)).trans (BI.bigSep_emp_const _)).trans (BI.bigSep_emp_const _)
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv)]
  show (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄))
  rw [hother, bigSep_sep']
  iintro ⟨-, H⟩
  isplitl [H]; · iexact H
  iempintro

/-- A separating conjunction of six parts over all devices, part by part. -/
theorem split6 (A B C D E F : Dev nD → sProp 𝕄) :
    (bigSep Finset.univ fun c => iprop(A c ∗ B c ∗ C c ∗ D c ∗ E c ∗ F c))
      = iprop(bigSep Finset.univ A ∗ bigSep Finset.univ B ∗ bigSep Finset.univ C ∗ bigSep Finset.univ D ∗ bigSep Finset.univ E ∗ bigSep Finset.univ F) := by
  rw [bigSep_sep', bigSep_sep', bigSep_sep', bigSep_sep', bigSep_sep']

include hw ho phinj in
/-- The launch described in the header. -/
theorem θ_run_talk_first [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (segs : Dev nD → List (PerCore.Seg pcs a pdats ι defs₀ 𝒱₀ L lv))
    (hmain : ∀ c (Q : PUnit → sProp 𝕄),
      wp frame (wpE 𝔻 𝕍 (c.tc : Thread nD τ) none) Set.univ (.op (.customCall (entry p) ()) fun _ => PerCore.Seg.run (segs c)) Q
        ⊢ wp frame (wpE 𝔻 𝕍 (c.tc : Thread nD τ) none) Set.univ (main c) Q)
    (hnd : ∀ c, (PerCore.Seg.pipes (segs c)).Nodup) (hfirst : ∀ c, p ∉ PerCore.Seg.pipes (segs c))
    (hbody : ∀ c, BodyObligationLoose (pdats p c) defs₀ 𝒱₀ ι Set.univ)
    (hne : ∀ w : Fin (pcs p).W, 0 < ((pcs p).spec w).block.numel)
    (hstage : ∀ (w : Fin (pcs p).W) (s : Fin ((pcs p).spec w).nbuf), (((pcs p).spec w).stage s).IsWhole)
    (O₀ : Dev nD → CellTallies nD τ sig Ix) (hL : ∀ g : GSem nD τ sig, g.1.2 ≠ .tc → L g = ∅)
    (hwaits : ∀ c, (levAts L lv : sProp 𝕄) ⊢ cellsWaits (pinD pcs a) pdats ι p c)
    (G : sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ G))
    (pre post X Y Z Tₙ : Dev nD → sProp 𝕄)
    (hinit : iprop((bigSep Finset.univ fun c : Dev nD => ownSems0 osem c)
          ∗ (bigSep Finset.univ fun c : Dev nD => unscopedBufs c (fun b => m ((c.tc : Thread nD τ).loc b)))
          ∗ (bigSep Finset.univ fun c : Dev nD => owes (c.tc : Thread nD τ) (O₀ c) ∅)
          ∗ (bigSep Finset.univ fun c : Dev nD => launchCred O₀ c) ∗ G ∗ levAts L lv)
      ⊢ |={Set.univ}=> bigSep Finset.univ pre)
    (hentry : ∀ c, pre c ⊢ iprop((pdats p c).arrays ((pdats p c).arrAt · 0) ∗ prefHeld (pcs p).pre c (fun _ => fullShare) (a c p).1
        ∗ (pdats p c).owesAt ι 0 ∗ X c ∗ Z c))
    (hin : ∀ c, iprop(X c ∗ prefHeld (pcs p).pre c (fun _ => fullShare) (a c p).1 ∗ scopedRest (pcs p).spec c) ⊢ (pdats p c).Φ 0)
    (hout : ∀ c, (pdats p c).Φ (Fin.last (pinD pcs a c p).N) ⊢ iprop(Y c ∗ ownSems0 osem c ∗ scopedRest (pcs p).spec c))
    (hexit : ∀ c, iprop((pdats p c).arrays ((pdats p c).arrAt · (pinD pcs a c p).N) ∗ (pdats p c).owesAt ι (Fin.last (pinD pcs a c p).N) ∗ Y c ∗ Z c)
      ⊢ post c)
    (hch : ∀ c, PerCore.Seg.ChainsAt c post (segs c) fun c => iprop(Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(shell pcs a phinj p ho c ∗ pre c ∗ levAts L lv ∗ PerCore.ghostOn pcs a EP Finset.univ c)
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => fin)
      (fun _ => iprop(emp)) Set.univ ?_ (fun _ c => ?_) fun _ => ?_))
  · -- the launch, over all devices at once
    have hone (c : Dev nD) :
        coreInit (Ix := Ix) (Name := Name) (U := U) (Lvl := Lvl) (owing O₀) 0 (⟨m, fun _ => 0, g⟩ : MemSt nD τ sig Val) (c.tc : Thread nD τ)
          ⊢ iprop(shell pcs a phinj p ho c ∗ ownSems0 osem c ∗ unscopedBufs c (fun b => m ((c.tc : Thread nD τ).loc b))
              ∗ owes (c.tc : Thread nD τ) (O₀ c) ∅ ∗ launchCred O₀ c ∗ levels0 c) :=
      (coreInit_boundary_owing O₀ m g c).trans (by
        iintro ⟨Hb, Hbufs, -, HO, Hlv, -, Hcr⟩
        ihave H := (boundary_shell pcs a phinj p hw ho c) $$ Hb
        icases H with ⟨Hsh, Hown⟩
        isplitl [Hsh]; · iexact Hsh
        isplitl [Hown]; · iexact Hown
        isplitl [Hbufs]; · iexact Hbufs
        isplitl [HO]; · iexact HO
        isplitl [Hcr] <;> iassumption)
    have hall := BIBase.Entails.trans (bigSep_mono (s := (Finset.univ : Finset (Dev nD))) fun c _ => hone c) (Entails.of_eq (split6 _ _ _ _ _ _))
    have hghost : iprop((bigSep Finset.univ fun c : Dev nD => bigSep Finset.univ fun q => cellsGhost (pinD pcs a) EP q c)
          ∗ (bigSep Finset.univ fun c : Dev nD => bigSep Finset.univ fun q => (toksInit (pinD pcs a) EP q c : sProp 𝕄)))
        ⊢ bigSep Finset.univ fun c : Dev nD => PerCore.ghostOn pcs a EP Finset.univ c := by
      rw [← bigSep_sep']
      exact bigSep_mono fun c _ => Entails.of_eq (show _ = PerCore.ghostOn pcs a EP Finset.univ c by unfold PerCore.ghostOn; rw [bigSep_sep'])
    iintro ⟨Hcores, Hu⟩
    ihave Hc := hall $$ Hcores
    icases Hc with ⟨Hsh, Hown, Hbufs, HO, Hcr, Hlv⟩
    imod (levels_assign L lv hL) $$ Hlv with #Hla
    imod hu₀ $$ Hu with ⟨HP, HG⟩
    imod (PerCore.fund_ghost (pinD pcs a) EP phinj) $$ HP with ⟨Hg, Ht⟩
    imod hinit $$ [Hown Hbufs HO Hcr HG] with Hpre
    · isplitl [Hown]; · iexact Hown
      isplitl [Hbufs]; · iexact Hbufs
      isplitl [HO]; · iexact HO
      isplitl [Hcr]; · iexact Hcr
      isplitl [HG]; · iexact HG
      iexact Hla
    imodintro
    iexists ()
    isplitr []
    · simp only [start, shell, bigSep_sep']
      isplitl [Hsh]; · iexact Hsh
      isplitl [Hpre]; · iexact Hpre
      isplitr; · iapply (BI.bigSep_intro_persistent (S := Finset.univ) fun (c : Dev nD) _ => (BI.Entails.refl (levAts L lv : sProp 𝕄))); iexact Hla
      iapply hghost
      isplitl [Hg] <;> iassumption
    · iempintro
  · -- each core's run: the kernel, then the segments
    simp only [start]
    refine BIBase.Entails.trans ?_ (hmain c _)
    rw [PerCore.ghostOn_erase pcs a EP (Finset.mem_univ p)]
    iintro ⟨Hsh, Hpre, #Hla, ⟨Hg, Ht⟩, Hrest⟩
    iapply (wp_talk pcs a pdats ι phinj p hw ho EP defs₀ 𝒱₀ L lv c (hbody c) hne hstage (hwaits c) (pre c) (post c) (X c) (Y c) (Z c)
      (hentry c) (hin c) (hout c) (hexit c) (fun _ => PerCore.Seg.run (segs c)) _)
    isplitl [Hrest]
    · iintro ⟨Hbd, Hpost⟩
      iapply (PerCore.wp_segs pcs a pdats ι phinj EP defs₀ 𝒱₀ L lv c (segs c) (Finset.univ.erase p) post _ (hnd c)
        (fun q hq => Finset.mem_erase.mpr ⟨fun h => hfirst c (h ▸ hq), Finset.mem_univ q⟩) (hch c))
      isplitr [Hbd Hpost Hrest]
      · iintro ⟨Hbd', HT, HW⟩
        unfold Idealize.ShloMosaic.post; simp only [liftTc_tc, fin]
        isplitl [HT Hbd']
        · isplitl [HT] <;> iassumption
        · iexact HW
      · isplitl [Hbd]; · iexact Hbd
        isplitl [Hpost]; · iexact Hpost
        isplitr; · iexact Hla
        iexact Hrest
    · isplitl [Hsh]; · iexact Hsh
      isplitl [Hpre]; · iexact Hpre
      isplitr; · iexact Hla
      isplitl [Hg] <;> iassumption
  · -- the last states read against a final state
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.FirstTalk

end
-- ==== Proof.Exchange.lean ====
/-
  Copies between devices that ask for nothing first, beside a pipelined kernel: a fixed number of remote copies, the
  same on every device, all started at the kernel's first grid point and all awaited at its last. Copy `k` of device `c`
  goes to `peer k c`, and `peer k` is its own inverse. A copy has two semaphores, both of the kernel's own: `sS k`, on
  the sender, counts the bytes read out, and `rS k`, on the peer, counts the bytes landed. Every one of these counters
  is a cell with one round of one duty. The duty of a send cell pays the source back (`sendPay`), the duty of a
  receive cell pays the landing place with what landed in it (`recvPay`).

  The module says what each device holds before its copies start (`pend`), while they fly (`flight`) and after
  they landed, gives the two rules that take a copy and a wait, and makes the state before from what the launch deals
  (`ready`), where the place a copy lands in is handed from the device it lies on to the device that sends.
-/
module

public import Idealize.ShloMosaic.Lib.Pipeline.Regions
public import Idealize.ShloMosaic.Lib.Pipeline.Kit
public import Idealize.ShloMosaic.Lib.Pipeline.Launch
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The resource algebra: the pipeline's rounds and the copies' rounds -/

/-- One rounds algebra over the machine's cells. -/
abbrev UC (nD : Nat) (τ : Topo) (sig : RefSig) : Type := URounds (GSem nD τ sig) Unit
/-- Two of them: the pipeline's, and that of the copies. -/
abbrev UX (nD : Nat) (τ : Topo) (sig : RefSig) : Type := UC nD τ sig × UC nD τ sig

section Alg
variable {nD : Nat} {τ : Topo} {sig : RefSig} {Val : EltTy → Type}

/-- The pipeline's rounds in the machine's algebra, -/
def EP : Emb (UC nD τ sig) (MT nD τ sig Unit Val ℕ (UX nD τ sig) ℕ) :=
  (Emb.inl : Emb (UC nD τ sig) (UX nD τ sig)).trans
    (uEmb (nD := nD) (sig := sig) (Ix := Unit) (Val := Val) (Name := ℕ) (U := UX nD τ sig) (Lvl := ℕ)).toEmb
/-- and those of the copies. -/
def ER : Emb (UC nD τ sig) (MT nD τ sig Unit Val ℕ (UX nD τ sig) ℕ) :=
  (Emb.inr : Emb (UC nD τ sig) (UX nD τ sig)).trans
    (uEmb (nD := nD) (sig := sig) (Ix := Unit) (Val := Val) (Name := ℕ) (U := UX nD τ sig) (Lvl := ℕ)).toEmb

instance EP_landsIn : (EP : Emb (UC nD τ sig) (MT nD τ sig Unit Val ℕ (UX nD τ sig) ℕ)).LandsIn
    (upEmb : UEmb _ (MT nD τ sig Unit Val ℕ (UX nD τ sig) ℕ)) := by unfold EP; infer_instance
instance ER_landsIn : (ER : Emb (UC nD τ sig) (MT nD τ sig Unit Val ℕ (UX nD τ sig) ℕ)).LandsIn
    (upEmb : UEmb _ (MT nD τ sig Unit Val ℕ (UX nD τ sig) ℕ)) := by unfold ER; infer_instance

/-- The launch's ghost element splits into its two parts. -/
theorem ownU_split (a b : UC nD τ sig) :
    (ownU (a, b) : sProp (MT nD τ sig Unit Val ℕ (UX nD τ sig) ℕ)) ⊢ iprop(BI.own (EP a) ∗ BI.own (ER b)) :=
  BI.own_op_elim ((uEmb (nD := nD) (sig := sig) (Ix := Unit) (Val := Val) (Name := ℕ) (U := UX nD τ sig) (Lvl := ℕ)).toEmb.op_of_mem
    (Prod.mk_mem_op (URA.mem_op_one a) (URA.mem_one_op b)))

end Alg

/-! ## The copies -/

/-- `n` copies per device: where each goes, its two semaphores, the units it counts, and the assertions about its source
    (`sendPay k c`, held by the sender `c`) and about its landing place on device `c` before (`home k c`) and after
    (`recvPay k c`). `order` lists the copies as the kernel starts them. -/
structure Talk (nD : Nat) (τ : Topo) (sig : RefSig) (Val : EltTy → Type) (n : Nat) where
  order : List (Fin n)
  peer : Fin n → Dev nD → Dev nD
  sS : Fin n → DmaSem sig
  rS : Fin n → DmaSem sig
  amt : Fin n → ℕ
  sendPay : Fin n → Dev nD → sProp (MT nD τ sig Unit Val ℕ (UX nD τ sig) ℕ)
  recvPay : Fin n → Dev nD → sProp (MT nD τ sig Unit Val ℕ (UX nD τ sig) ℕ)
  home : Fin n → Dev nD → sProp (MT nD τ sig Unit Val ℕ (UX nD τ sig) ℕ)

variable {nD : Nat} {τ : Topo} {sig : RefSig} {Val : EltTy → Type} {n : Nat}

local notation "𝕄" => MT nD τ sig Unit Val ℕ (UX nD τ sig) ℕ

namespace Talk
variable (X : Talk nD τ sig Val n)

/-- The copies' semaphores, the send ones and the receive ones. -/
def osem : Fin n ⊕ Fin n → SemLoc sig
  | .inl k => .dma (X.sS k)
  | .inr k => .dma (X.rS k)

/-- What the data must satisfy. -/
structure Facts : Prop where
  nodup : X.order.Nodup
  all : Finset.univ = X.order.toFinset
  peer_peer : ∀ k c, X.peer k (X.peer k c) = c
  inj : Function.Injective X.osem
  amt_pos : ∀ k, 0 < X.amt k
  send_storable : ∀ k c, BI.Storable (upEmb : UEmb _ 𝕄) (X.sendPay k c)
  recv_storable : ∀ k c, BI.Storable (upEmb : UEmb _ 𝕄) (X.recvPay k c)

/-- Device `c`'s send cell of copy `k`, -/
abbrev sendCell (c : Dev nD) (k : Fin n) : GSem nD τ sig := ((c : Thread nD τ), .dma (X.sS k))
/-- its receive cell, -/
abbrev recvCell (c : Dev nD) (k : Fin n) : GSem nD τ sig := ((c : Thread nD τ), .dma (X.rS k))
/-- and its cells by one index. -/
abbrev kcell (ck : Dev nD × (Fin n ⊕ Fin n)) : GSem nD τ sig := ((ck.1 : Thread nD τ), X.osem ck.2)

/-- The copy a semaphore belongs to. -/
def decode (s : SemLoc sig) : Option (Fin n ⊕ Fin n) := Function.partialInv X.osem s

open Classical in
/-- One round of one duty on every cell; what it pays is the source back or the landing place. -/
def Rd : Rounds.Schedule (GSem nD τ sig) Unit 𝕄 where
  duties g r := if r = 0 ∧ g.1.2 = .tc ∧ (X.decode g.2).isSome then {()} else ∅
  unitless _ := False
  amount g _ _ := match X.decode g.2 with
    | some (.inl k) => if 0 < X.amt k then X.amt k else 1
    | some (.inr k) => if 0 < X.amt k then X.amt k else 1
    | none => 1
  payload g _ _ := match X.decode g.2 with
    | some (.inl k) => X.sendPay k g.1.1
    | some (.inr k) => X.recvPay k g.1.1
    | none => iprop(emp)
  amount_pos g _ _ _ := by
    show 0 < _
    rcases X.decode g.2 with _ | (k | k)
    · exact Nat.one_pos
    · show 0 < (if 0 < X.amt k then X.amt k else 1); split; · assumption
      · exact Nat.one_pos
    · show 0 < (if 0 < X.amt k then X.amt k else 1); split; · assumption
      · exact Nat.one_pos

variable {X}

namespace Facts
variable (hX : X.Facts)
include hX

theorem decode_osem (x : Fin n ⊕ Fin n) : X.decode (X.osem x) = some x := Function.partialInv_left hX.inj x

theorem kcell_inj : Function.Injective X.kcell := fun a b h => by
  have h1 : a.1 = b.1 := congrArg (fun g : GSem nD τ sig => g.1.1) h
  have h2 : a.2 = b.2 := hX.inj (congrArg (fun g : GSem nD τ sig => g.2) h)
  exact Prod.ext h1 h2

theorem duties_kcell (ck : Dev nD × (Fin n ⊕ Fin n)) : X.Rd.duties (X.kcell ck) 0 = {()} := by
  show (if _ then _ else _) = _
  rw [if_pos ⟨rfl, rfl, by show (X.decode (X.osem ck.2)).isSome = true; rw [hX.decode_osem]; rfl⟩]

omit hX in
theorem duties_later (g : GSem nD τ sig) : ∀ r, 0 + 1 ≤ r → X.Rd.duties g r = ∅ := fun r hr => by
  show (if _ then _ else _) = _
  rw [if_neg (fun h => by omega)]

theorem amount_send (c : Dev nD) (k : Fin n) : X.Rd.amount (X.sendCell c k) 0 () = X.amt k := by
  show (match X.decode (X.osem (.inl k)) with | some (.inl k) => _ | some (.inr k) => _ | none => _) = _
  rw [hX.decode_osem]; exact if_pos (hX.amt_pos k)
theorem amount_recv (c : Dev nD) (k : Fin n) : X.Rd.amount (X.recvCell c k) 0 () = X.amt k := by
  show (match X.decode (X.osem (.inr k)) with | some (.inl k) => _ | some (.inr k) => _ | none => _) = _
  rw [hX.decode_osem]; exact if_pos (hX.amt_pos k)
theorem payload_send (c : Dev nD) (k : Fin n) : X.Rd.payload (X.sendCell c k) 0 () = X.sendPay k c := by
  show (match X.decode (X.osem (.inl k)) with | some (.inl k) => _ | some (.inr k) => _ | none => _) = _
  rw [hX.decode_osem]
theorem payload_recv (c : Dev nD) (k : Fin n) : X.Rd.payload (X.recvCell c k) 0 () = X.recvPay k c := by
  show (match X.decode (X.osem (.inr k)) with | some (.inl k) => _ | some (.inr k) => _ | none => _) = _
  rw [hX.decode_osem]

theorem payload_storable (g : GSem nD τ sig) (r : ℕ) (d : Unit) : BI.Storable (upEmb : UEmb _ 𝕄) (X.Rd.payload g r d) := by
  show BI.Storable _ (match X.decode g.2 with | some (.inl k) => _ | some (.inr k) => _ | none => _)
  rcases X.decode g.2 with _ | (k | k)
  · show BI.Storable _ iprop(emp); infer_instance
  · exact hX.send_storable k _
  · exact hX.recv_storable k _

theorem expect_send (c : Dev nD) (k : Fin n) : X.Rd.expect (X.sendCell c k) 0 = X.amt k := by
  have e := hX.duties_kcell (c, .inl k)
  unfold Schedule.expect Schedule.amountOf
  rw [show X.Rd.duties (X.sendCell c k) 0 = {()} from e, Finset.sum_singleton, hX.amount_send]
theorem expect_recv (c : Dev nD) (k : Fin n) : X.Rd.expect (X.recvCell c k) 0 = X.amt k := by
  have e := hX.duties_kcell (c, .inr k)
  unfold Schedule.expect Schedule.amountOf
  rw [show X.Rd.duties (X.recvCell c k) 0 = {()} from e, Finset.sum_singleton, hX.amount_recv]

theorem rest_send (c : Dev nD) (k : Fin n) :
    bigSep (X.Rd.duties (X.sendCell c k) 0 \ ∅) (fun d => X.Rd.payload (X.sendCell c k) 0 d) = X.sendPay k c := by
  rw [Finset.sdiff_empty, show X.Rd.duties (X.sendCell c k) 0 = {()} from hX.duties_kcell (c, .inl k), bigSep_singleton, hX.payload_send]
theorem rest_recv (c : Dev nD) (k : Fin n) :
    bigSep (X.Rd.duties (X.recvCell c k) 0 \ ∅) (fun d => X.Rd.payload (X.recvCell c k) 0 d) = X.recvPay k c := by
  rw [Finset.sdiff_empty, show X.Rd.duties (X.recvCell c k) 0 = {()} from hX.duties_kcell (c, .inr k), bigSep_singleton, hX.payload_recv]

end Facts

/-! ## What a device owes and holds -/

variable (X)

/-- What device `c` owes for the copies of a list: the landing units of each, to the cell on the peer. -/
def owedL (c : Dev nD) : List (Fin n) → CellTallies nD τ sig Unit
  | [] => 0
  | k :: l => owedL c l + tallyAt (X.recvCell (X.peer k c) k) () (X.amt k)

/-- What it owes at launch. -/
def owed₀ (c : Dev nD) : CellTallies nD τ sig Unit := X.owedL c X.order

/-- The records everyone may consult: the cells' invariants and that round 0 of each is reached. -/
def records (K : Dev nD × (Fin n ⊕ Fin n) → ℕ) : sProp 𝕄 :=
  iprop((bigSep Finset.univ fun ck => cellInv ER X.Rd (K ck) (X.kcell ck)) ∗ bigSep Finset.univ fun ck => reached ER (X.kcell ck) 0)

instance records_persistent (K : Dev nD × (Fin n ⊕ Fin n) → ℕ) : BI.Persistent (X.records K) := by unfold records; infer_instance

/-- A copy not yet started: both positions of `c`, the two tokens it pays, the landing place on the peer, the credit of
    the copy `c` itself will receive. -/
def armed (c : Dev nD) (k : Fin n) : sProp 𝕄 :=
  iprop(atPos ER (X.sendCell c k) 0 ∅ 0 ∗ atPos ER (X.recvCell c k) 0 ∅ 0 ∗ dutyTok ER (X.sendCell c k) 0 ()
    ∗ dutyTok ER (X.recvCell (X.peer k c) k) 0 () ∗ X.home k (X.peer k c) ∗ cred (tallyAt (X.recvCell c k) () (X.amt k)))

/-- The right to wait for the read-out of copy `k`, -/
def sendRight (c : Dev nD) (k : Fin n) : sProp 𝕄 :=
  iprop(atPos ER (X.sendCell c k) 0 ∅ 0 ∗ cred (tallyAt (X.sendCell c k) () (X.amt k)))
/-- and for what lands on `c`. -/
def recvRight (c : Dev nD) (k : Fin n) : sProp 𝕄 :=
  iprop(atPos ER (X.recvCell c k) 0 ∅ 0 ∗ cred (tallyAt (X.recvCell c k) () (X.amt k)))
/-- After the read-out: the counter back at zero, the source back. -/
def sendBack (c : Dev nD) (k : Fin n) : sProp 𝕄 := iprop(semVal (X.sendCell c k) 0 ∗ X.sendPay k c)
/-- After the landing: the counter back at zero, the landing place written. -/
def recvBack (c : Dev nD) (k : Fin n) : sProp 𝕄 := iprop(semVal (X.recvCell c k) 0 ∗ X.recvPay k c)

/-- The copies of a list not yet started, with their sources. -/
def pendL (c : Dev nD) : List (Fin n) → sProp 𝕄
  | [] => iprop(emp)
  | k :: l => iprop((X.armed c k ∗ X.sendPay k c) ∗ pendL c l)

/-- All copies in flight. -/
def flight (c : Dev nD) : sProp 𝕄 := bigSep Finset.univ fun k => iprop(X.sendRight c k ∗ X.recvRight c k)
/-- All copies landed. -/
def done (c : Dev nD) : sProp 𝕄 := bigSep Finset.univ fun k => iprop(X.sendBack c k ∗ X.recvBack c k)

variable {X}

theorem pendL_cons (c : Dev nD) (k : Fin n) (l : List (Fin n)) :
    X.pendL c (k :: l) = iprop((X.armed c k ∗ X.sendPay k c) ∗ X.pendL c l) := rfl

theorem inv_at (K : Dev nD × (Fin n ⊕ Fin n) → ℕ) (ck : Dev nD × (Fin n ⊕ Fin n)) :
    X.records K ⊢ cellInv ER X.Rd (K ck) (X.kcell ck) := by
  unfold records; exact (sep_elim_left).trans (bigSep_elim (Finset.mem_univ ck))
theorem reached_at (K : Dev nD × (Fin n ⊕ Fin n) → ℕ) (ck : Dev nD × (Fin n ⊕ Fin n)) :
    X.records K ⊢ reached ER (X.kcell ck) 0 := by
  unfold records; exact (sep_elim_right).trans (bigSep_elim (Finset.mem_univ ck))

/-! ## A copy started -/

namespace Facts
variable (hX : X.Facts)
include hX

variable {Λ₀ : Labels} {defs : Defs nD τ sig Val Λ₀} (𝒱 : Variants)

/-- Copy `k` of device `c`, the first of the list not yet started, to a device `p` that is `peer k c`: from the state
    with `k :: l` to come to the state with `l` to come and `k` in flight. -/
theorem send_step {sp sp' : Space} {s : Shape} {e : EltTy} (K : Dev nD × (Fin n ⊕ Fin n) → ℕ) (c p : Dev nD) (k : Fin n) (l : List (Fin n))
    (hp : p = X.peer k c)
    {src : Memref sig .tc sp s e} {dst : Memref sig (Dev.tc p : Thread nD τ).2.kind sp' s e}
    {hsc : dst.view.ref.isScScratch = false} {hsrc : src.view.WordExact} {hdst : dst.view.WordExact}
    {hsem : DmaTarget.Typed sp (.dma (X.rS k)) (.remote (Dev.tc p : Thread nD τ) dst (.dma (X.sS k)) hsc)}
    {α : Type} {Q : α → sProp 𝕄} {kk : PUnit → Prog (TpuEff nD τ sig Val Λ₀ .tc) α}
    (fs : Buf Val (src.view.loc (c : Thread nD τ))) (fd : Buf Val (dst.view.loc (Dev.tc p : Thread nD τ))) (W : Waits sig Unit)
    (hN : dst.view.amount (.dma (X.rS k)) = X.amt k)
    (hsp : X.sendPay k c = (src.view.loc (c : Thread nD τ) ↦[src.view.set]{fullShare} fs))
    (hhm : X.home k p = (dst.view.loc (Dev.tc p : Thread nD τ) ↦[dst.view.set]{fullShare} fd))
    (hrp : X.recvPay k p = (dst.view.loc (Dev.tc p : Thread nD τ) ↦[dst.view.set]{fullShare}
      (dst.view.write Val fd (src.view.read Val fs) Finset.univ))) :
    iprop(X.records K ∗ X.pendL c (k :: l) ∗ owes (c : Thread nD τ) (X.owedL c (k :: l)) W)
      ⊢ iprop(((X.sendRight c k ∗ X.recvRight c k) ∗ X.pendL c l ∗ owes (c : Thread nD τ) (X.owedL c l) W
            -∗ wp frame (wpE defs 𝒱 (c : Thread nD τ) none) Set.univ (kk ⟨⟩) Q)
          -∗ wp frame (wpE defs 𝒱 (c : Thread nD τ) none) Set.univ
              (.op (.enqueueDma src (.remote (Dev.tc p : Thread nD τ) dst (.dma (X.sS k)) hsc) (.dma (X.rS k)) hsrc hdst hsem) kk) Q) := by
  haveI := hX.payload_storable
  subst hp
  rw [pendL_cons, hsp]
  unfold armed
  rw [hhm]
  iintro ⟨#HR, ⟨⟨⟨Has, Har, Hts, Htr, Hd, Hcr⟩, Hs⟩, Hl⟩, HO⟩ Hk
  iapply (Rounds.wp_send_pointsTo 𝒱 ER X.Rd (c : Thread nD τ) none (κ₁ := K (c, .inl k)) (κ₂ := K (X.peer k c, .inr k))
    (r₁ := 0) (r₂ := 0) (d₁ := ()) (d₂ := ()) (fd := fd) (fs := fs) (q := fullShare)
    (c' := (Dev.tc (X.peer k c) : Thread nD τ)) (sS := .dma (X.sS k)) (sem := .dma (X.rS k))
    (by rw [show X.Rd.duties (X.sendCell c k) 0 = {()} from hX.duties_kcell (c, .inl k)]; exact Finset.mem_singleton_self _)
    (by rw [show X.Rd.duties (X.recvCell (X.peer k c) k) 0 = {()} from hX.duties_kcell (X.peer k c, .inr k)]; exact Finset.mem_singleton_self _)
    () () (X.amt k) hN (hX.amount_send c k) (hX.amount_recv (X.peer k c) k) (X.owedL c l) rfl (W := W)
    (by rw [show X.Rd.payload (X.sendCell c k) 0 () = _ from hX.payload_send c k, hsp])
    (by rw [show X.Rd.payload (X.recvCell (X.peer k c) k) 0 () = _ from hX.payload_recv (X.peer k c) k, hrp]))
    $$ [Hs Hd HO Hts Htr]
  · isplitr; · iapply (inv_at K (c, .inl k)); iexact HR
    isplitr; · iapply (inv_at K (X.peer k c, .inr k)); iexact HR
    isplitl [Hs]; · iexact Hs
    isplitl [Hd]; · iexact Hd
    isplitl [HO]; · iexact HO
    isplitl [Hts]; · iexact Hts
    isplitr; · iapply (reached_at K (c, .inl k)); iexact HR
    isplitl [Htr]; · iexact Htr
    iapply (reached_at K (X.peer k c, .inr k)); iexact HR
  iintro ⟨Hcs, HO⟩
  iapply Hk
  unfold sendRight recvRight
  isplitl [Has Har Hcs Hcr]
  · isplitl [Has Hcs]
    · isplitl [Has] <;> iassumption
    · isplitl [Har] <;> iassumption
  isplitl [Hl]; · iexact Hl
  iexact HO

/-! ## A copy awaited -/

/-- The wait for the read-out of copy `k`, owing nothing. -/
theorem wait_send {sp sp' : Space} {s s' : Shape} {e e' : EltTy} (K : Dev nD × (Fin n ⊕ Fin n) → ℕ) (c : Dev nD) (k : Fin n)
    {src : Memref sig .tc sp s e} {dst : Memref sig .tc sp' s' e'}
    {h1 : src.view.WordExact} {h2 : dst.view.WordExact} {α : Type} {Q : α → sProp 𝕄} {kk : PUnit → Prog (TpuEff nD τ sig Val Λ₀ .tc) α}
    (W : Waits sig Unit) (hN : dst.view.dmaCredit = X.amt k) :
    iprop(X.records K ∗ X.sendRight c k ∗ owes (c : Thread nD τ) 0 W)
      ⊢ iprop((X.sendBack c k ∗ owes (c : Thread nD τ) 0 (insert (SemLoc.dma (X.sS k), ()) W)
            -∗ wp frame (wpE defs 𝒱 (c : Thread nD τ) none) Set.univ (kk ⟨⟩) Q)
          -∗ wp frame (wpE defs 𝒱 (c : Thread nD τ) none) Set.univ (.op (.waitDma2 (X.sS k) src dst h1 h2) kk) Q) := by
  haveI := hX.payload_storable
  unfold sendRight sendBack
  iintro ⟨#HR, ⟨Hat, Hc⟩, HO⟩ Hk
  iapply (Rounds.wp_wait_rest_token 𝒱 ER X.Rd (c : Thread nD τ) none (κ := K (c, .inl k))
      (wpE_waitDma2_eq 𝒱 (c : Thread nD τ) none Set.univ) (Set.mem_univ _) () (O := 0) (W := W) (R := 0) (m := 0) (T := ∅)
      (by rw [Nat.zero_add, hN]; exact (hX.expect_send c k).symm)) $$ [Hc HO Hat]
  · isplitr; · iapply (inv_at K (c, .inl k)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (hX.rest_send c k)) $$ Hpay
  imod (Rounds.cell_close ER X.Rd (g := X.sendCell c k) (Set.mem_univ (K (c, .inl k))) (fun h => h) (R := 0 + 1) (duties_later (X := X) (X.sendCell c k))) $$ [Hat] with Hz
  · isplitr; · iapply (inv_at K (c, .inl k)); iexact HR
    iexact Hat
  iapply Hk
  isplitr [HO]
  · isplitl [Hz] <;> iassumption
  · iexact HO

/-- The wait for what lands on `c` by copy `k`, owing nothing. -/
theorem wait_recv {sp sp' : Space} {s s' : Shape} {e e' : EltTy} (K : Dev nD × (Fin n ⊕ Fin n) → ℕ) (c : Dev nD) (k : Fin n)
    {src : Memref sig .tc sp s e} {dst : Memref sig .tc sp' s' e'}
    {h1 : src.view.WordExact} {h2 : dst.view.WordExact} {α : Type} {Q : α → sProp 𝕄} {kk : PUnit → Prog (TpuEff nD τ sig Val Λ₀ .tc) α}
    (W : Waits sig Unit) (hN : dst.view.dmaCredit = X.amt k) :
    iprop(X.records K ∗ X.recvRight c k ∗ owes (c : Thread nD τ) 0 W)
      ⊢ iprop((X.recvBack c k ∗ owes (c : Thread nD τ) 0 (insert (SemLoc.dma (X.rS k), ()) W)
            -∗ wp frame (wpE defs 𝒱 (c : Thread nD τ) none) Set.univ (kk ⟨⟩) Q)
          -∗ wp frame (wpE defs 𝒱 (c : Thread nD τ) none) Set.univ (.op (.waitDma2 (X.rS k) src dst h1 h2) kk) Q) := by
  haveI := hX.payload_storable
  unfold recvRight recvBack
  iintro ⟨#HR, ⟨Hat, Hc⟩, HO⟩ Hk
  iapply (Rounds.wp_wait_rest_token 𝒱 ER X.Rd (c : Thread nD τ) none (κ := K (c, .inr k))
      (wpE_waitDma2_eq 𝒱 (c : Thread nD τ) none Set.univ) (Set.mem_univ _) () (O := 0) (W := W) (R := 0) (m := 0) (T := ∅)
      (by rw [Nat.zero_add, hN]; exact (hX.expect_recv c k).symm)) $$ [Hc HO Hat]
  · isplitr; · iapply (inv_at K (c, .inr k)); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (hX.rest_recv c k)) $$ Hpay
  imod (Rounds.cell_close ER X.Rd (g := X.recvCell c k) (Set.mem_univ (K (c, .inr k))) (fun h => h) (R := 0 + 1) (duties_later (X := X) (X.recvCell c k))) $$ [Hat] with Hz
  · isplitr; · iapply (inv_at K (c, .inr k)); iexact HR
    iexact Hat
  iapply Hk
  isplitr [HO]
  · isplitl [Hz] <;> iassumption
  · iexact HO

end Facts

/-! ## The launch -/

/-- The cells of all devices, -/
def cells (hX : X.Facts) : Finset (GSem nD τ sig) := Finset.univ.map ⟨X.kcell, hX.kcell_inj⟩
/-- and the tokens of their duties. -/
def toks (hX : X.Facts) : Finset (GSem nD τ sig × ℕ × Unit) :=
  (cells hX).map ⟨fun g => (g, 0, ()), fun _ _ h => congrArg Prod.fst h⟩

/-- What the launch's element deals for the copies: the cells' round states, marks, positions, tokens. -/
def fund (X : Talk nD τ sig Val n) : sProp 𝕄 :=
  iprop((bigSep Finset.univ fun ck => roundState ER X.Rd (X.kcell ck) 0) ∗ (bigSep Finset.univ fun ck => reached ER (X.kcell ck) 0)
    ∗ (bigSep Finset.univ fun ck => atPos ER (X.kcell ck) 0 ∅ 0) ∗ bigSep Finset.univ fun ck => dutyTok ER (X.kcell ck) 0 ())

theorem fund_own (hX : X.Facts) : BI.own (ER (initOf (cells hX) (toks hX))) ⊢ iprop(|==> fund X) := by
  refine (Rounds.fund ER X.Rd (cells hX) (toks hX)).trans (BI.bupd_mono ?_)
  unfold fund toks cells
  rw [bigSep_map, bigSep_map, bigSep_map, bigSep_map, bigSep_map]
  exact BI.Entails.refl _

/-- A persistent assertion beside a `bigSep` serves every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The list form of what is not yet started is the family's. -/
theorem pendL_eq (hX : X.Facts) (c : Dev nD) :
    X.pendL c X.order = bigSep Finset.univ fun k => iprop(X.armed c k ∗ X.sendPay k c) := by
  rw [hX.all]
  have hn := hX.nodup
  generalize X.order = l at hn ⊢
  induction l with
  | nil => rfl
  | cons k l ih =>
    rw [pendL_cons, ih hn.of_cons, List.toFinset_cons, bigSep_insert (by simpa using (List.nodup_cons.mp hn).1)]
    rfl

/-- The launch's credit for the copies of a list is, on each device, that of its own receive cells. -/
theorem cred_list (hX : X.Facts) (c : Dev nD) (l : List (Fin n)) (hn : l.Nodup) :
    (Pipeline.launchCred (fun d => X.owedL d l) c : sProp 𝕄) ⊢ bigSep l.toFinset fun k => cred (tallyAt (X.recvCell c k) () (X.amt k)) := by
  induction l with
  | nil => exact Entails.of_eq (Pipeline.launchCred_zero c)
  | cons k l ih =>
    have e := Pipeline.launchCred_add (nD := nD) (τ := τ) (sig := sig) (Val := Val) (Name := ℕ) (U := UX nD τ sig) (Lvl := ℕ)
      (fun d => X.owedL d l) (fun d => tallyAt (X.recvCell (X.peer k d) k) () (X.amt k)) c
    have e2 := Pipeline.launchCred_tallyAt (nD := nD) (τ := τ) (sig := sig) (Val := Val) (Name := ℕ) (U := UX nD τ sig) (Lvl := ℕ)
      (.dma (X.rS k)) (X.peer k) (X.peer k) (hX.peer_peer k) (hX.peer_peer k) () (X.amt k) c
    show Pipeline.launchCred (fun d => X.owedL d l + tallyAt (X.recvCell (X.peer k d) k) () (X.amt k)) c ⊢ _
    rw [e, List.toFinset_cons, bigSep_insert (by simpa using (List.nodup_cons.mp hn).1)]
    show iprop(_ ∗ _) ⊢ iprop(_ ∗ _)
    iintro ⟨H1, H2⟩
    isplitl [H2]
    · iapply e2; iexact H2
    · iapply (ih hn.of_cons); iexact H1

/-- The launch's credit: on each device that of its receive cells. -/
theorem cred_all (hX : X.Facts) (c : Dev nD) :
    (Pipeline.launchCred X.owed₀ c : sProp 𝕄) ⊢ bigSep Finset.univ fun k => cred (tallyAt (X.recvCell c k) () (X.amt k)) := by
  rw [hX.all]; exact cred_list hX c X.order hX.nodup

/-- What is handed to a peer for every copy: an assertion about each device's copy `k`, held by that device's peer. -/
theorem around (hX : X.Facts) (Φ : Fin n → Dev nD → sProp 𝕄) :
    (bigSep Finset.univ fun c => bigSep Finset.univ fun k => Φ k c) = bigSep Finset.univ fun c => bigSep Finset.univ fun k => Φ k (X.peer k c) := by
  have swap (Ψ : Dev nD → Fin n → sProp 𝕄) :
      (bigSep Finset.univ fun c => bigSep Finset.univ fun k => Ψ c k) = bigSep Finset.univ fun k => bigSep Finset.univ fun c => Ψ c k := by
    rw [← bigSep_univ_prod (fun ck : Dev nD × Fin n => Ψ ck.1 ck.2), bigSep_univ_equiv (Equiv.prodComm (Fin n) (Dev nD)),
      bigSep_univ_prod]
    rfl
  rw [swap, swap (fun c k => Φ k (X.peer k c))]
  refine bigSep_congr fun k _ => ?_
  exact bigSep_univ_equiv (⟨X.peer k, X.peer k, hX.peer_peer k, hX.peer_peer k⟩ : Dev nD ≃ Dev nD) (Φ k)

/-- One device's share of what the launch deals for the copies. -/
def share (X : Talk nD τ sig Val n) (c : Dev nD) : sProp 𝕄 :=
  iprop((bigSep Finset.univ fun x : Fin n ⊕ Fin n => atPos ER (X.kcell (c, x)) 0 ∅ 0)
      ∗ ((bigSep Finset.univ fun k => dutyTok ER (X.sendCell c k) 0 ()) ∗ bigSep Finset.univ fun k => dutyTok ER (X.recvCell (X.peer k c) k) 0 ())
      ∗ (bigSep Finset.univ fun k => cred (tallyAt (X.recvCell c k) () (X.amt k)))
      ∗ (bigSep Finset.univ fun k => X.home k (X.peer k c)) ∗ bigSep Finset.univ fun k => X.sendPay k c)

theorem share_pend (hX : X.Facts) (K : Dev nD × (Fin n ⊕ Fin n) → ℕ) (c : Dev nD) :
    iprop(X.records K ∗ X.share c) ⊢ iprop(∃ K, X.records K ∗ X.pendL c X.order) := by
  unfold share
  iintro ⟨#HR, Hat, ⟨Hts, Htr⟩, Hc, Hh, Hs⟩
  iexists K
  isplitr; · iexact HR
  rw [pendL_eq hX]
  unfold armed
  rw [bigSep_sep', bigSep_sep', bigSep_sep', bigSep_sep', bigSep_sep', bigSep_sep']
  ihave Hat := (show (bigSep Finset.univ fun x : Fin n ⊕ Fin n => (atPos ER (X.kcell (c, x)) 0 ∅ 0 : sProp 𝕄))
      ⊢ iprop((bigSep Finset.univ fun k => atPos ER (X.sendCell c k) 0 ∅ 0) ∗ bigSep Finset.univ fun k => atPos ER (X.recvCell c k) 0 ∅ 0) from
    Entails.of_eq (bigSep_univ_sum _)) $$ Hat
  icases Hat with ⟨Ha1, Ha2⟩
  isplitr [Hs]
  · isplitl [Ha1]; · iexact Ha1
    isplitl [Ha2]; · iexact Ha2
    isplitl [Hts]; · iexact Hts
    isplitl [Htr]; · iexact Htr
    isplitl [Hh]; · iexact Hh
    iexact Hc
  · iexact Hs

/-- The state before the copies, on every device, from what the launch deals: the counters at zero, the ghost state, the
    credit, every landing place and every source. -/
theorem ready (hX : X.Facts) :
    iprop((bigSep Finset.univ fun c => Pipeline.ownSems0 X.osem c) ∗ fund X ∗ (bigSep Finset.univ fun c => Pipeline.launchCred X.owed₀ c)
        ∗ (bigSep Finset.univ fun c => bigSep Finset.univ fun k => X.home k c) ∗ (bigSep Finset.univ fun c => bigSep Finset.univ fun k => X.sendPay k c))
      ⊢ |={Set.univ}=> bigSep Finset.univ fun c => iprop(∃ K, X.records K ∗ X.pendL c X.order) := by
  haveI := hX.payload_storable
  unfold fund
  iintro ⟨Hos, ⟨Hst, #Hr, Hat, Htk⟩, Hcr, Hh, Hs⟩
  ihave Hcr := (show (bigSep Finset.univ (fun c => Pipeline.launchCred X.owed₀ c) : sProp 𝕄)
      ⊢ bigSep Finset.univ fun c => bigSep Finset.univ fun k => cred (tallyAt (X.recvCell c k) () (X.amt k)) from
    bigSep_mono fun c _ => cred_all hX c) $$ Hcr
  imod (show iprop((bigSep Finset.univ fun c => Pipeline.ownSems0 X.osem c) ∗ bigSep Finset.univ fun ck => roundState ER X.Rd (X.kcell ck) 0)
      ⊢ |={Set.univ}=> bigSep Finset.univ fun ck => iprop(∃ κ : ℕ, cellInv ER X.Rd κ (X.kcell ck)) from by
    unfold Pipeline.ownSems0
    rw [← bigSep_univ_prod (fun ck : Dev nD × (Fin n ⊕ Fin n) => (semVal (X.kcell ck) 0 : sProp 𝕄)), ← bigSep_sep']
    refine (bigSep_mono fun ck _ => ?_).trans (bigSep_fupd _ _)
    refine (Rounds.body_intro ER X.Rd (X.kcell ck)).trans ?_
    exact inv_alloc) $$ [Hos Hst] with HI
  · isplitl [Hos] <;> iassumption
  imodintro
  ihave HK := (BI.bigSep_exists_pi Finset.univ (fun (ck : Dev nD × (Fin n ⊕ Fin n)) (κ : ℕ) => (cellInv ER X.Rd κ (X.kcell ck) : sProp 𝕄))) $$ HI
  icases HK with ⟨%K, #HI⟩
  iapply (show iprop(X.records K ∗ bigSep Finset.univ fun c => X.share c) ⊢ bigSep Finset.univ fun c => iprop(∃ K, X.records K ∗ X.pendL c X.order) from
    bigSep_with_persistent fun c _ => share_pend hX K c)
  isplitr
  · unfold records
    isplitr; · iexact HI
    iexact Hr
  unfold share
  rw [bigSep_sep', bigSep_sep', bigSep_sep', bigSep_sep', bigSep_sep']
  isplitl [Hat]
  · iapply (Entails.of_eq (bigSep_univ_prod (fun ck : Dev nD × (Fin n ⊕ Fin n) => (atPos ER (X.kcell ck) 0 ∅ 0 : sProp 𝕄)))); iexact Hat
  isplitl [Htk]
  · rw [← around hX (fun k c => (dutyTok ER (X.recvCell c k) 0 () : sProp 𝕄)), ← bigSep_sep']
    iapply (show (bigSep Finset.univ fun ck : Dev nD × (Fin n ⊕ Fin n) => (dutyTok ER (X.kcell ck) 0 () : sProp 𝕄)) ⊢ _ from
      (Entails.of_eq (bigSep_univ_prod _)).trans (bigSep_mono (fun c _ => Entails.of_eq (bigSep_univ_sum (fun x : Fin n ⊕ Fin n => (dutyTok ER (X.kcell (c, x)) 0 () : sProp 𝕄))))))
    iexact Htk
  isplitl [Hcr]; · iexact Hcr
  isplitl [Hh]
  · rw [← around hX (fun k c => X.home k c)]; iexact Hh
  iexact Hs

end Talk
end Cert.Exchange
end
-- ==== Proof.TalkRun.lean ====
/-
  The run of a program that is one pipelined kernel with the copies of Exchange.lean beside it: from the body obligation,
  how a device's buffers split into the windows' arrays, the copies' sources and landing places and the rest, and how they
  join again once every copy has landed, to the contents every array and every other buffer ends with.
-/
module

public import proofs.«01_k».proof.Proof.FirstTalk
public import proofs.«01_k».proof.Proof.Exchange
public import Idealize.ShloMosaic.Lib.Pipeline.Frame

@[expose] public section

set_option Elab.async false

noncomputable section

namespace Cert.Exchange

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {n : Nat}

local notation "𝕄" => MT nD τ sig Unit Val ℕ (UX nD τ sig) ℕ

namespace Talk
variable (X : Talk nD τ sig Val n)

/-! ## Levels: a receive cell above everything else -/

/-- The TensorCores' cells are the ones waited on. -/
def L (g : GSem nD τ sig) : Finset Unit := if g.1.2 = .tc then {()} else ∅
/-- Receive cells sit at level 1, all others at 0. -/
def lv (g : GSem nD τ sig) (_ : Unit) : ℕ := match X.decode g.2 with
  | some (.inr _) => 1
  | _ => 0

theorem L_tc (c : Dev nD) (sm : SemLoc sig) : L ((c : Thread nD τ), sm) = {()} := if_pos rfl
theorem L_ne (g : GSem nD τ sig) (h : g.1.2 ≠ .tc) : L g = ∅ := if_neg h

variable {X}

/-- What is owed is owed to receive cells of TensorCores. -/
theorem owedL_pos {c : Dev nD} {l : List (Fin n)} {g : GSem nD τ sig} {u : Unit} (h : 0 < X.owedL c l g u) :
    ∃ d k, g = X.recvCell d k := by
  induction l with
  | nil => exact absurd h (Nat.lt_irrefl 0)
  | cons k l ih =>
    unfold owedL at h
    rw [Pi.add_apply, Finsupp.add_apply, tallyAt_apply] at h
    by_cases h' : g = X.recvCell (X.peer k c) k ∧ u = ()
    · exact ⟨_, _, h'.1⟩
    · rw [if_neg h', Nat.add_zero] at h; exact ih h

/-- A core may wait on a semaphore that is no copy's, owing what it owed at launch or nothing. -/
theorem mayWait_stage (hX : X.Facts) (c : Dev nD) (q : DmaSem sig) (hq : ∀ k, X.osem k ≠ .dma q) (O : CellTallies nD τ sig Unit)
    (hO : O = X.owed₀ c ∨ O = 0) : (levAts L X.lv : sProp 𝕄) ⊢ MayWait (c : Thread nD τ) (.dma q) () O := by
  rcases hO with rfl | rfl
  · refine MayOwe.of_cut (L := L) (lev := X.lv) 0 (fun p hp => by rw [Finset.mem_singleton.mp hp, L_tc]; exact Finset.mem_singleton_self _)
      (fun g u hg => by obtain ⟨d, k, rfl⟩ := owedL_pos hg; rw [L_tc]; exact Finset.mem_singleton_self _)
      (fun p hp => by
        rw [Finset.mem_singleton.mp hp]; dsimp only [lv]
        rcases e : X.decode (.dma q) with _ | (k | k)
        · exact Nat.le_refl _
        · exact Nat.le_refl _
        · exact absurd ((Function.partialInv_of_injective hX.inj _ _).mp e) (hq _))
      (fun g u hg => by
        obtain ⟨d, k, rfl⟩ := owedL_pos hg
        dsimp only [lv]
        rw [show X.decode (.dma (X.rS k)) = some (.inr k) from hX.decode_osem (.inr k)]
        exact Nat.one_pos)
  · rw [MayWait_zero]; iintro -; iempintro

end Talk

/-! ## The run -/

section Run
variable {Λ₀ : Labels} {P : Type} [Fintype P] [DecidableEq P] [∀ e, Nonempty (Val e)]
variable (cfgs : P → Cfg sig Λ₀) (dats : (p : P) → (c : Dev nD) → Dat τ Val Unit ℕ (UX nD τ sig) ℕ (cfgs p) c)
  (p : P) (hlaunch : LaunchFacts (nD := nD) (τ := τ) cfgs p)
  (X : Talk nD τ sig Val n) (hX : X.Facts) (ho : OwnSemFacts (cfgs p).spec X.osem)
  (defs₀ : Defs nD τ sig Val Λ₀) (𝒱₀ : Variants)
  (m : (ℓ : Loc nD τ sig) → Buf Val ℓ)

/-- What a device's copies are built from and rebuild: `Z` the part of its buffers no copy touches, `Vn` the contents
    the buffers that are no window's array end with. -/
structure Splits (Z : Dev nD → sProp 𝕄) (Vn : (c : Dev nD) → (b : Ref sig .tc) → Buf Val ((c.tc : Thread nD τ).loc b)) : Prop where
  split : ∀ c, (unscopedRest (cfgs p).spec c (fun b => m ((c.tc : Thread nD τ).loc b)) : sProp 𝕄)
    ⊢ iprop((bigSep Finset.univ fun k => X.home k c) ∗ (bigSep Finset.univ fun k => X.sendPay k c) ∗ Z c)
  join : ∀ c, iprop((bigSep Finset.univ fun k => X.recvPay k c) ∗ (bigSep Finset.univ fun k => X.sendPay k c) ∗ Z c)
    ⊢ (unscopedRest (cfgs p).spec c (Vn c) : sProp 𝕄)

include hlaunch hX ho in
theorem θ_run_talk (g : Dev nD → PrngReg)
    (main : Dev nD → Prog (TpuEff nD τ sig Val (Sig Λ₀ P fun p => ((cfgs p).toPCfg (Val := Val)).Adm) .tc) PUnit)
    (hmain : ∀ c, main c = .op (.customCall (entry p) ()) fun _ => .ret ⟨⟩)
    (hbody : ∀ c, BodyObligationLoose (dats p c) defs₀ 𝒱₀ () Set.univ)
    (hA : ∀ c w, (dats p c).A w = m ((c.tc : Thread nD τ).loc (arrRef (cfgs p).spec w)))
    (hshare : ∀ c w, (dats p c).share w = fullShare)
    (howed₀ : ∀ c, (dats p c).owed 0 = X.owed₀ c) (howed : ∀ c t, (dats p c).owed t = X.owed₀ c ∨ (dats p c).owed t = 0)
    (howedN : ∀ c, (dats p c).owed (Fin.last _) = 0)
    (hΦ₀ : ∀ c, iprop((∃ K, X.records K ∗ X.pendL c X.order) ∗ scopedRest (cfgs p).spec c) ⊢ (dats p c).Φ 0)
    (hΦN : ∀ c, (dats p c).Φ (Fin.last _) ⊢ iprop(X.done c ∗ scopedRest (cfgs p).spec c))
    (Z : Dev nD → sProp 𝕄) (Vn : (c : Dev nD) → (b : Ref sig .tc) → Buf Val ((c.tc : Thread nD τ).loc b))
    (hZ : Splits cfgs p X m Z Vn) :
    θ_run (Pipeline.defs (fun p => (cfgs p).toPCfg) defs₀) (onTc main) ⟨m, fun _ => 0, g⟩ (fun r =>
      (∀ c : Dev nD, (∀ w, r.2.mem (((cfgs p).spec w).arr.view.loc (c.tc : Thread nD τ)) = (dats p c).arrAt w (cfgs p).N)
        ∧ ∀ b ∈ restRefs sig (cfgs p).spec, r.2.mem ((c.tc : Thread nD τ).loc b) = Vn c b)
      ∧ ∀ g' : GSem nD τ sig, (g'.1.2 ≠ .tc ∨ g'.2.isScoped .tc = true) → r.2.sem g' = 0) := by
  refine FirstTalk.θ_run_talk_first (fun p => (cfgs p).toPCfg) (fun _ p => (cfgs p).toPCfg_adm) dats () hlaunch.cellOf_inj p
    hlaunch.win.to₀ ho EP defs₀ 𝒱₀ Talk.L X.lv m g main (fun _ => [])
    (fun c Q => by rw [hmain c]; exact BI.Entails.refl _) (fun _ => List.nodup_nil) (fun _ => by simp)
    hbody hlaunch.block_pos hlaunch.stage_whole X.owed₀ Talk.L_ne
    (fun c => PerCore.cellsWaits_intro _ dats () p c fun w s t => Talk.mayWait_stage hX c _ (fun k => ho.disj k w s) _ (howed c t))
    (Talk.fund X)
    (initOf (PerCore.cells (fun _ : Dev nD => cfgs) hlaunch.cellOf_inj)
      (PerCore.launchToks (fun _ : Dev nD => cfgs) hlaunch.cellOf_inj),
      initOf (Talk.cells hX) (Talk.toks hX)) ?_
    (fun c => iprop((bigSep Finset.univ fun w => (((c.tc : Thread nD τ).loc (arrRef (cfgs p).spec w)) ↦{fullShare} m ((c.tc : Thread nD τ).loc (arrRef (cfgs p).spec w)) : sProp 𝕄))
      ∗ owes (c.tc : Thread nD τ) (X.owed₀ c) ∅ ∗ (∃ K, X.records K ∗ X.pendL c X.order) ∗ Z c))
    (fun c => iprop((dats p c).arrays ((dats p c).arrAt · (cfgs p).N) ∗ unscopedRest (cfgs p).spec c (Vn c) ∗ (dats p c).owesAt () (Fin.last _)))
    (fun c => iprop(∃ K, X.records K ∗ X.pendL c X.order))
    (fun c => iprop((bigSep Finset.univ fun k => X.recvPay k c) ∗ (bigSep Finset.univ fun k => X.sendPay k c)))
    Z
    (fun c => iprop((dats p c).arrays ((dats p c).arrAt · (cfgs p).N) ∗ unscopedRest (cfgs p).spec c (Vn c)))
    ?_ ?_ ?_ ?_ ?_ ?_
    (fun c s => (∀ w, s.mem (((cfgs p).spec w).arr.view.loc (c.tc : Thread nD τ)) = (dats p c).arrAt w (cfgs p).N)
        ∧ ∀ b ∈ restRefs sig (cfgs p).spec, s.mem ((c.tc : Thread nD τ).loc b) = Vn c b)
    ?_ (fun s h hs => ⟨h, hs⟩)
  · iintro Hu
    ihave H := (ownU_split _ _) $$ Hu
    icases H with ⟨HP, HX⟩
    imod (Talk.fund_own hX) $$ HX with HX
    imodintro
    isplitl [HP]; · iexact HP
    iexact HX
  · iintro ⟨Hos, Hb, HO, Hc, HG, -⟩
    ihave Hb := (show (bigSep Finset.univ fun c : Dev nD => unscopedBufs c (fun b => m ((c.tc : Thread nD τ).loc b)) : sProp 𝕄)
        ⊢ iprop((bigSep Finset.univ fun c : Dev nD => bigSep Finset.univ fun w => (((c.tc : Thread nD τ).loc (arrRef (cfgs p).spec w)) ↦{fullShare} m ((c.tc : Thread nD τ).loc (arrRef (cfgs p).spec w)) : sProp 𝕄))
          ∗ (bigSep Finset.univ fun c => bigSep Finset.univ fun k => X.home k c) ∗ (bigSep Finset.univ fun c => bigSep Finset.univ fun k => X.sendPay k c)
          ∗ bigSep Finset.univ Z) from by
      rw [← bigSep_sep', ← bigSep_sep', ← bigSep_sep']
      refine bigSep_mono fun c _ => ?_
      rw [unscopedBufs_split cfgs p hlaunch.win.arr_unscoped hlaunch.win.arr_inj c]
      exact sep_mono_right (hZ.split c)) $$ Hb
    icases Hb with ⟨Ha, Hh, Hs, HZ⟩
    imod (Talk.ready hX) $$ [Hos HG Hc Hh Hs] with Hr
    · isplitl [Hos]; · iexact Hos
      isplitl [HG]; · iexact HG
      isplitl [Hc]; · iexact Hc
      isplitl [Hh] <;> iassumption
    imodintro
    rw [bigSep_sep', bigSep_sep', bigSep_sep']
    isplitl [Ha]; · iexact Ha
    isplitl [HO]; · iexact HO
    isplitl [Hr] <;> iassumption
  · intro c
    iintro ⟨Ha, HO, Hr, HZ⟩
    isplitl [Ha]
    · iapply (show (bigSep Finset.univ fun w => (((c.tc : Thread nD τ).loc (arrRef (cfgs p).spec w)) ↦{fullShare} m ((c.tc : Thread nD τ).loc (arrRef (cfgs p).spec w)) : sProp 𝕄))
          ⊢ (dats p c).arrays ((dats p c).arrAt · 0) from by
        rw [arrays_eq cfgs dats p c hlaunch.arr_whole (hshare c)]
        exact bigSep_mono fun w _ => by rw [show (dats p c).arrAt w 0 = (dats p c).A w from rfl, hA c w]; exact BI.Entails.refl _)
      iexact Ha
    isplitr
    · iapply (show (iprop(emp) : sProp 𝕄) ⊢ prefHeld ((cfgs p).toPCfg (Val := Val)).pre c (fun _ => fullShare) ((cfgs p).toPCfg_adm).1 from by
        unfold prefHeld; exact Entails.of_eq (by rfl))
      iempintro
    isplitl [HO]
    · unfold Dat.owesAt owesWithin
      rw [howed₀ c]
      iexists ∅
      isplitr; · ipureintro; exact fun _ h => absurd h (by simp)
      iexact HO
    isplitl [Hr] <;> iassumption
  · intro c
    iintro ⟨Hr, -, Hs⟩
    iapply (hΦ₀ c)
    isplitl [Hr] <;> iassumption
  · intro c
    refine (hΦN c).trans ?_
    unfold Talk.done
    rw [bigSep_sep']
    unfold Talk.sendBack Talk.recvBack
    rw [bigSep_sep', bigSep_sep']
    iintro ⟨⟨⟨Hsz, Hsp⟩, Hrz, Hrp⟩, Hs⟩
    isplitl [Hrp Hsp]
    · isplitl [Hrp] <;> iassumption
    isplitl [Hsz Hrz]
    · iapply (show iprop((bigSep Finset.univ fun k => (semVal (X.sendCell c k) 0 : sProp 𝕄)) ∗ bigSep Finset.univ fun k => semVal (X.recvCell c k) 0)
        ⊢ ownSems0 X.osem c from Entails.of_eq (bigSep_univ_sum (fun k => (semVal ((c.tc : Thread nD τ), X.osem k) 0 : sProp 𝕄))).symm)
      isplitl [Hsz] <;> iassumption
    iexact Hs
  · intro c
    iintro ⟨Ha, HO, ⟨Hr, Hs⟩, HZ⟩
    isplitl [Ha]; · iexact Ha
    isplitl [Hr Hs HZ]
    · iapply (hZ.join c)
      isplitl [Hr]; · iexact Hr
      isplitl [Hs] <;> iassumption
    iexact HO
  · intro c
    show iprop((dats p c).arrays ((dats p c).arrAt · (cfgs p).N) ∗ unscopedRest (cfgs p).spec c (Vn c) ∗ (dats p c).owesAt () (Fin.last _))
      ⊢ iprop(((dats p c).arrays ((dats p c).arrAt · (cfgs p).N) ∗ unscopedRest (cfgs p).spec c (Vn c)) ∗ ∃ W, owes (c.tc : Thread nD τ) 0 W)
    unfold Dat.owesAt owesWithin
    rw [howedN c]
    iintro ⟨Ha, Hu, ⟨%W, -, HO⟩⟩
    isplitl [Ha Hu]
    · isplitl [Ha] <;> iassumption
    iexists W; iexact HO
  · intro c s'
    rw [arrays_eq cfgs dats p c hlaunch.arr_whole (hshare c)]
    unfold unscopedRest
    iintro ⟨⟨Ha, Hu⟩, HSI⟩
    ihave H1 := (pointsTo_read_all Finset.univ (fun w => (c.tc : Thread nD τ).loc (arrRef (cfgs p).spec w)) (fun w => (dats p c).arrAt w (cfgs p).N) s') $$ [Ha HSI]
    · isplitl [Ha] <;> iassumption
    icases H1 with ⟨%h1, HSI⟩
    ihave H2 := (pointsTo_read_all (restRefs sig (cfgs p).spec) (fun b => (c.tc : Thread nD τ).loc b) (Vn c) s') $$ [Hu HSI]
    · isplitl [Hu] <;> iassumption
    icases H2 with ⟨%h2, HSI⟩
    imodintro
    isplitr
    · ipureintro; exact ⟨fun w => h1 w (Finset.mem_univ w), h2⟩
    iexact HSI

end Run

end Cert.Exchange
end
-- ==== Proof.Copies.lean ====
/-
  A kernel's copies read off its program: each copy is a source and a landing place, both slices of arrays the kernel's
  devices hold in their own memories. From them the data of Exchange.lean — what a copy's two semaphores hand over —, and
  the two entailments of TalkRun.lean that take the arrays apart into sources, landing places and what is left, and put
  them together again with every landing place rewritten.
-/
module

public import proofs.«01_k».proof.Proof.TalkRun
public import Idealize.ShloMosaic.Lib.Pipeline.ValueKit

@[expose] public section

set_option Elab.async false

noncomputable section

namespace Cert.Exchange

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

/-- One copy every device makes: where it reads and where it lands, by the sending device; the device it is sent to; its
    two semaphores; and the units its landing is worth. -/
structure Copy (nD : Nat) (sig : RefSig) where
  s : Shape
  e : EltTy
  src : Dev nD → Memref sig .tc .hbm s e
  dst : Dev nD → Memref sig .tc .hbm s e
  peer : Dev nD → Dev nD
  sS : DmaSem sig
  rS : DmaSem sig
  amt : ℕ
  amt_eq : ∀ c, (dst c).view.dmaCredit = amt
  amt_pos : 0 < amt

variable {nD : Nat} {τ : Topo} {sig : RefSig} {Val : EltTy → Type} {n : Nat}

local notation "𝕄" => MT nD τ sig Unit Val ℕ (UX nD τ sig) ℕ

/-- A bundle of resources in a list's order. -/
def sepL {M : Type} [URA M] (Φ : Fin n → sProp M) : List (Fin n) → sProp M
  | [] => iprop(emp)
  | k :: l => iprop(Φ k ∗ sepL Φ l)

theorem bigSep_sepL {M : Type} [URA M] (Φ : Fin n → sProp M) : ∀ l : List (Fin n), l.Nodup → bigSep l.toFinset Φ = sepL Φ l
  | [], _ => by rw [List.toFinset_nil, bigSep_empty]; rfl
  | k :: l, h => by
    rw [List.toFinset_cons, bigSep_insert (by rw [List.mem_toFinset]; exact (List.nodup_cons.mp h).1), bigSep_sepL Φ l (List.nodup_cons.mp h).2]
    rfl

theorem bigSep_order {M : Type} [URA M] (Φ : Fin n → sProp M) {l : List (Fin n)} (h : l.Nodup) (ha : Finset.univ = l.toFinset) :
    bigSep Finset.univ Φ = sepL Φ l := by rw [ha]; exact bigSep_sepL Φ l h

section Talk
variable (C : Fin n → Copy nD sig) (order : List (Fin n)) (m : (ℓ : Loc nD τ sig) → Buf Val ℓ)

/-- The copies' data: a send semaphore gives back the source, a receive semaphore hands over the landing place rewritten. -/
def talkOf : Talk nD τ sig Val n where
  order := order
  peer := fun k => (C k).peer
  sS := fun k => (C k).sS
  rS := fun k => (C k).rS
  amt := fun k => (C k).amt
  sendPay := fun k c => ((C k).src c).view.loc (c : Thread nD τ) ↦[((C k).src c).view.set]{fullShare} m _
  recvPay := fun k c => ((C k).dst ((C k).peer c)).view.loc (c : Thread nD τ) ↦[((C k).dst ((C k).peer c)).view.set]{fullShare}
    ((C k).dst ((C k).peer c)).view.write Val (m (((C k).dst ((C k).peer c)).view.loc (c : Thread nD τ)))
      (((C k).src ((C k).peer c)).view.read Val (m (((C k).src ((C k).peer c)).view.loc ((C k).peer c : Thread nD τ)))) Finset.univ
  home := fun k c => ((C k).dst ((C k).peer c)).view.loc (c : Thread nD τ) ↦[((C k).dst ((C k).peer c)).view.set]{fullShare} m _

/-- The copies' semaphores, the send ones and the receive ones. -/
def semOf : Fin n ⊕ Fin n → SemLoc sig
  | .inl k => .dma (C k).sS
  | .inr k => .dma (C k).rS

/-- What the copies must satisfy: listed once each, between partners, on semaphores of their own. -/
structure Copies : Prop where
  nodup : order.Nodup
  all : Finset.univ = order.toFinset
  peer_peer : ∀ k c, (C k).peer ((C k).peer c) = c
  inj : Function.Injective (semOf C)

theorem Copies.facts (h : Copies C order) : (talkOf C order m).Facts where
  nodup := h.nodup
  all := h.all
  peer_peer := h.peer_peer
  inj := fun a b hab => h.inj (by
    rcases a with a | a <;> rcases b with b | b <;> exact hab)
  amt_pos := fun k => (C k).amt_pos
  send_storable := fun k c => by unfold talkOf; infer_instance
  recv_storable := fun k c => by unfold talkOf; infer_instance

/-! ## Taking the arrays apart -/

/-- The copy a source or a landing place is of. -/
def ix : Fin n ⊕ Fin n → Fin n
  | .inl k => k
  | .inr k => k

/-- The sources and the landing places on a device. -/
def place (c : Dev nD) : (j : Fin n ⊕ Fin n) → Memref sig .tc .hbm (C (ix j)).s (C (ix j)).e
  | .inl k => (C k).src c
  | .inr k => (C k).dst ((C k).peer c)

/-- A view's elements in a buffer: none where the view is of another buffer. -/
def inBuf {sp : Space} {s : Shape} {e : EltTy} (v : View sig .tc sp s e) (b : Ref sig .tc) : Finset b.ty.Idx :=
  if h : v.ref = b then h ▸ v.set else ∅

theorem inBuf_self {sp : Space} {s : Shape} {e : EltTy} (v : View sig .tc sp s e) : inBuf v v.ref = v.set := dif_pos rfl

theorem inBuf_ne {sp : Space} {s : Shape} {e : EltTy} (v : View sig .tc sp s e) (b : Ref sig .tc) (h : v.ref ≠ b) : inBuf v b = ∅ := dif_neg h

/-- A number read off an element of a buffer is, of an element in a view, the number of the view's. -/
theorem key_of_mem (key : (b : Ref sig .tc) → b.ty.Idx → ℕ) {sp : Space} {s : Shape} {e : EltTy} (v : View sig .tc sp s e) (k : ℕ)
    (hk : ∀ y : s.Idx, key v.ref (v.emb y) = k) (b : Ref sig .tc) (x : b.ty.Idx) (h : x ∈ inBuf v b) : v.ref = b ∧ key b x = k := by
  unfold inBuf at h
  split at h
  · rename_i e
    subst e
    obtain ⟨y, -, hy⟩ := Finset.mem_map.mp h
    exact ⟨rfl, (congrArg (key v.ref) hy.symm).trans (hk y)⟩
  · exact absurd h (Finset.notMem_empty _)

/-- The elements of a buffer in no source and no landing place. -/
def outside (c : Dev nD) (b : Ref sig .tc) : Finset b.ty.Idx :=
  Finset.univ \ Finset.univ.biUnion fun j => inBuf (place C c j).view b

/-- The places are apart: a number read off an element tells which place of its buffer it is in. -/
structure Apart : Prop where
  key : ∃ (key : (b : Ref sig .tc) → b.ty.Idx → ℕ) (at' : Dev nD → Fin n ⊕ Fin n → ℕ),
    (∀ c j y, key (place C c j).view.ref ((place C c j).view.emb y) = at' c j)
    ∧ ∀ c i j, (place C c i).view.ref = (place C c j).view.ref → at' c i = at' c j → i = j

theorem Apart.disjoint (h : Apart C) (c : Dev nD) (b : Ref sig .tc) (i j : Fin n ⊕ Fin n) (hij : i ≠ j) :
    Disjoint (inBuf (place C c i).view b) (inBuf (place C c j).view b) := by
  obtain ⟨key, at', hk, hi⟩ := h.key
  rw [Finset.disjoint_left]
  intro x hx hx'
  have h1 := key_of_mem key _ _ (hk c i) b x hx
  have h2 := key_of_mem key _ _ (hk c j) b x hx'
  exact hij (hi c i j (h1.1.trans h2.1.symm) (h1.2.symm.trans h2.2))

theorem bigSep_swap {M : Type} [URA M] {I J : Type} [DecidableEq I] [Fintype J] (R : Finset I) (Φ : I → J → sProp M) :
    bigSep R (fun b => bigSep Finset.univ fun j => Φ b j) = bigSep Finset.univ fun j => bigSep R fun b => Φ b j := by
  induction R using Finset.induction_on with
  | empty => rw [bigSep_empty]; simp only [bigSep_empty]; exact (bigSep_emp_const _).symm
  | insert b R hb ih =>
    rw [bigSep_insert hb, ih, ← bigSep_sep]
    exact bigSep_congr fun j _ => by rw [bigSep_insert hb]

/-- Whole arrays are the sources and landing places in them, and what is outside of those. -/
theorem arrays_eq (h : Apart C) (c : Dev nD) (R : Finset (Ref sig .tc)) (hR : ∀ j, (place C c j).view.ref ∈ R)
    (V : (b : Ref sig .tc) → Buf Val ((c : Thread nD τ).loc b)) :
    (bigSep R (fun b => ((c : Thread nD τ).loc b) ↦{fullShare} V b) : sProp 𝕄)
      = iprop((bigSep Finset.univ fun j => ((c : Thread nD τ).loc (place C c j).view.ref) ↦[(place C c j).view.set]{fullShare} V (place C c j).view.ref)
          ∗ bigSep R fun b => ((c : Thread nD τ).loc b) ↦[outside C c b]{fullShare} V b) := by
  have h1 : ∀ b : Ref sig .tc, (((c : Thread nD τ).loc b) ↦{fullShare} V b : sProp 𝕄)
      = iprop((bigSep Finset.univ fun j => ((c : Thread nD τ).loc b) ↦[inBuf (place C c j).view b]{fullShare} V b)
          ∗ ((c : Thread nD τ).loc b) ↦[outside C c b]{fullShare} V b) := fun b => by
    rw [← pointsTo_biUnion (ℓ := (c : Thread nD τ).loc b) Finset.univ (fun j => inBuf (place C c j).view b) fun i _ j _ hij => h.disjoint C c b i j hij]
    have hs := pointsTo_split_subset (Ix := Unit) (Name := ℕ) (U := UX nD τ sig) (Lvl := ℕ) (ℓ := (c : Thread nD τ).loc b) (f := V b) (q := fullShare)
      (Finset.subset_univ (Finset.univ.biUnion fun j => inBuf (place C c j).view b))
    exact BI.equiv_iff.mp ⟨hs.1, hs.2⟩
  have h2 : ∀ j, (bigSep R fun b => (((c : Thread nD τ).loc b) ↦[inBuf (place C c j).view b]{fullShare} V b : sProp 𝕄))
      = (((c : Thread nD τ).loc (place C c j).view.ref) ↦[(place C c j).view.set]{fullShare} V (place C c j).view.ref) := fun j => by
    rw [bigSep_erase (hR j), inBuf_self]
    rw [bigSep_congr (Ψ := fun _ => (iprop(emp) : sProp 𝕄)) fun b hb => by
      rw [inBuf_ne _ _ (Finset.ne_of_mem_erase hb).symm]
      exact pointsTo_empty]
    refine (congrArg (BI.sep _) (bigSep_emp_const _)).trans ?_
    exact BI.equiv_iff.mp BI.sep_emp
  refine (bigSep_congr fun b _ => h1 b).trans ((bigSep_sep R _ _).trans ?_)
  refine congrArg (fun P : sProp 𝕄 => iprop(P ∗ bigSep R fun b => ((c : Thread nD τ).loc b) ↦[outside C c b]{fullShare} V b)) ?_
  exact (bigSep_swap R _).trans (bigSep_congr fun j _ => h2 j)

/-! ## The two entailments -/

section Splits
variable {Λ₀ : Labels} {P : Type} [Fintype P] [DecidableEq P] (cfgs : P → Pipeline.Cfg sig Λ₀) (p : P)

/-- The buffers that are no window's array. -/
abbrev restOf : Finset (Ref sig .tc) :=
  (Finset.univ.filter fun b : Ref sig .tc => ¬ b.isScoped) \ Finset.univ.image (arrRef (cfgs p).spec)

/-- What of a device's other arrays no copy touches. -/
def kept (c : Dev nD) : sProp 𝕄 :=
  bigSep (restOf cfgs p) fun b => ((c : Thread nD τ).loc b) ↦[outside C c b]{fullShare} m ((c : Thread nD τ).loc b)

/-- What the contents a device's other arrays end with must be: on a landing place what the source held; in no landing
    place as before; in the sources' arrays as before. -/
structure Lands (Vn : (c : Dev nD) → (b : Ref sig .tc) → Buf Val ((c : Thread nD τ).loc b)) : Prop where
  landed : ∀ k c, ((C k).dst ((C k).peer c)).view.read Val (Vn c ((C k).dst ((C k).peer c)).view.ref)
    = ((C k).src ((C k).peer c)).view.read Val (m (((C k).src ((C k).peer c)).view.loc ((C k).peer c : Thread nD τ)))
  source : ∀ k c, Vn c ((C k).src c).view.ref = m (((C k).src c).view.loc (c : Thread nD τ))
  same : ∀ c, ∀ b ∈ restOf cfgs p, ∀ x ∈ outside C c b, Vn c b x = m ((c : Thread nD τ).loc b) x

theorem splits (h : Apart C) (hR : ∀ c j, (place C c j).view.ref ∈ restOf cfgs p)
    (Vn : (c : Dev nD) → (b : Ref sig .tc) → Buf Val ((c : Thread nD τ).loc b)) (hV : Lands C m cfgs p Vn) :
    Splits cfgs p (talkOf C order m) m (kept C m cfgs p) Vn where
  split := fun c => by
    unfold unscopedRest
    refine (Entails.of_eq (arrays_eq C h c (restOf cfgs p) (hR c) fun b => m ((c : Thread nD τ).loc b))).trans ?_
    iintro ⟨Hp, Hz⟩
    ihave Hp := (show (bigSep Finset.univ fun j => ((c : Thread nD τ).loc (place C c j).view.ref) ↦[(place C c j).view.set]{fullShare} m ((c : Thread nD τ).loc (place C c j).view.ref) : sProp 𝕄)
      ⊢ iprop((bigSep Finset.univ fun k => (talkOf C order m).sendPay k c) ∗ bigSep Finset.univ fun k => (talkOf C order m).home k c) from
      Entails.of_eq (bigSep_univ_sum _)) $$ Hp
    icases Hp with ⟨Hs, Hh⟩
    isplitl [Hh]; · iexact Hh
    isplitl [Hs]; · iexact Hs
    unfold kept; iexact Hz
  join := fun c => by
    unfold unscopedRest
    refine BIBase.Entails.trans ?_ (Entails.of_eq (arrays_eq C h c (restOf cfgs p) (hR c) (Vn c)).symm)
    have h1 : ∀ k, (talkOf C order m).sendPay k c
        = (((c : Thread nD τ).loc (place C c (.inl k)).view.ref) ↦[(place C c (.inl k)).view.set]{fullShare} Vn c (place C c (.inl k)).view.ref) := fun k => by
      show (((c : Thread nD τ).loc ((C k).src c).view.ref) ↦[((C k).src c).view.set]{fullShare} m _ : sProp 𝕄)
        = (((c : Thread nD τ).loc ((C k).src c).view.ref) ↦[((C k).src c).view.set]{fullShare} Vn c ((C k).src c).view.ref)
      rw [hV.source k c]
    have h2 : ∀ k, (talkOf C order m).recvPay k c
        = (((c : Thread nD τ).loc (place C c (.inr k)).view.ref) ↦[(place C c (.inr k)).view.set]{fullShare} Vn c (place C c (.inr k)).view.ref) := fun k => by
      refine pointsTo_congr fun i hi => ?_
      obtain ⟨y, -, rfl⟩ := Finset.mem_map.mp hi
      rw [View.write_emb_of_mem _ _ (Finset.mem_univ y), ← hV.landed k c, View.read_apply, _root_.cast_cast, _root_.cast_eq]
      rfl
    have h3 : kept C m cfgs p c = (bigSep (restOf cfgs p) fun b => ((c : Thread nD τ).loc b) ↦[outside C c b]{fullShare} Vn c b : sProp 𝕄) :=
      bigSep_congr fun b hb => pointsTo_congr fun x hx => (hV.same c b hb x hx).symm
    rw [h3, bigSep_congr fun k _ => h1 k, bigSep_congr fun k _ => h2 k]
    iintro ⟨Hh, Hs, Hz⟩
    isplitl [Hh Hs]
    · iapply (show iprop((bigSep Finset.univ fun k => ((c : Thread nD τ).loc (place C c (.inl k)).view.ref) ↦[(place C c (.inl k)).view.set]{fullShare} Vn c (place C c (.inl k)).view.ref)
          ∗ bigSep Finset.univ fun k => ((c : Thread nD τ).loc (place C c (.inr k)).view.ref) ↦[(place C c (.inr k)).view.set]{fullShare} Vn c (place C c (.inr k)).view.ref)
        ⊢ (bigSep Finset.univ fun j => ((c : Thread nD τ).loc (place C c j).view.ref) ↦[(place C c j).view.set]{fullShare} Vn c (place C c j).view.ref : sProp 𝕄) from
        Entails.of_eq (bigSep_univ_sum fun j => (((c : Thread nD τ).loc (place C c j).view.ref) ↦[(place C c j).view.set]{fullShare} Vn c (place C c j).view.ref : sProp 𝕄)).symm)
      isplitl [Hs]; · iexact Hs
      iexact Hh
    · iexact Hz

end Splits

end Talk

/-! ## Reading a slot off an element -/

/-- An element's first coordinate. -/
def lead (b : Ref sig .tc) (x : b.ty.Idx) : ℕ := if h : 0 < b.ty.shape.rank then (x ⟨0, h⟩).val else 0

/-- A squeezed slice of a whole array, one element thick along the first axis, lies at one first coordinate. -/
theorem lead_slot (b : Ref sig .tc) (off size : Fin b.ty.shape.rank → ℕ) (inb) (hr) (s' : Shape) (hq : (Rect.unit off size inb).shape.Squeezes s')
    (h0 : 0 < b.ty.shape.rank) (h1 : size ⟨0, h0⟩ = 1) (y : s'.Idx) :
    lead b ((((Memref.whole b).slice (Rect.unit off size inb) hr).squeeze s' hq).view.emb y) = off ⟨0, h0⟩ := by
  unfold lead
  rw [dif_pos h0]
  show ((Rect.unit off size inb).emb (Shape.reshapeEquiv hq.numel_eq y) ⟨0, h0⟩ : ℕ) = _
  rw [ValueKit.rect_emb_unit_val]
  have := (Shape.reshapeEquiv hq.numel_eq y ⟨0, h0⟩).isLt
  have h2 : (Rect.unit off size inb).shape.size ⟨0, h0⟩ = 1 := h1
  omega

end Cert.Exchange

end
-- ==== Proof.UpDwTalk.lean ====
/-
  The copies of the weight-gradient kernel of the up projection: copy `k` sends the sibling its half of slot `k` of the
  gradients, into slot `k` of its landing array.
-/
module

public import proofs.«01_k».proof.Proof.Copies
public import proofs.«01_k».proof.Proof.Gen.KernelUpDwIdeal.Launch
public import proofs.«01_k».proof.Proof.Gen.KernelUpDwIdeal.Frame
public import proofs.«01_k».proof.Proof.Gen.KernelUpDwIdeal.Points
public import proofs.«01_k».proof.Proof.Gen.KernelUpDwIdeal.Skeleton

@[expose] public section

noncomputable section

namespace Cert.UpDw

open Cert.KernelUpDwIdeal Cert.KernelUpDwIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

/-- The first point of the grid, where the copies are sent. -/
theorem cond1_first : k0_cond1 (grid0.coords t0_0) = 1#1 := by decide

/-- The landing places: slots of the landing array. -/
abbrev slot (k : ℕ) (h : ∀ a, (![k, 0, 0] : Fin 3 → ℕ) a + S1x1024x2048.size a ≤ S4x1024x2048.size a) : Memref sig .tc .hbm S1024x2048 .bf16 :=
  ((Memref.whole main_v1_1 : Memref sig .tc .hbm S4x1024x2048 .bf16).slice (Rect.unit (s := S4x1024x2048) ![k, 0, 0] S1x1024x2048.size h) (fun _ => rfl)).squeeze
    S1024x2048 squeezes_S1x1024x2048_S1024x2048

/-- The sources: the sibling's half of a slot of the gradients. -/
abbrev half (off : Fin 4 → ℕ) (h : ∀ a, off a + S1x1x1024x2048.size a ≤ S4x2x1024x2048.size a) : Memref sig .tc .hbm S1024x2048 .bf16 :=
  ((Memref.whole main_arg2 : Memref sig .tc .hbm S4x2x1024x2048 .bf16).slice (Rect.unit (s := S4x2x1024x2048) off S1x1x1024x2048.size h) (fun _ => rfl)).squeeze
    S1024x2048 squeezes_S1x1x1024x2048_S1024x2048

/-- Copy 0, -/
def copy0 : Copy nD sig where
  s := S1024x2048
  e := .bf16
  src := fun c => half (k0_off1 c) (k0_off1_inb (grid0.coords t0_0) c cond1_first)
  dst := fun _ => slot 0 inb_S4x1024x2048_S1x1024x2048_0_0_0
  peer := fun c => ⟨k0_dev1 c, k0_dev1_lt (grid0.coords t0_0) c cond1_first⟩
  sS := ((cc0_scratch0.slice (Rect.unit (s := S4) ![0] S1.size inb_S4_S1_0)).squeeze S_ squeezes_S1_S_).sem
  rS := ((cc0_scratch1.slice (Rect.unit (s := S4) ![0] S1.size inb_S4_S1_0)).squeeze S_ squeezes_S1_S_).sem
  amt := (slot 0 inb_S4x1024x2048_S1x1024x2048_0_0_0).view.dmaCredit
  amt_eq := fun _ => rfl
  amt_pos := View.dmaCredit_pos _ (by decide)

/-- copy 1, -/
def copy1 : Copy nD sig where
  s := S1024x2048
  e := .bf16
  src := fun c => half (k0_off2 c) (k0_off2_inb (grid0.coords t0_0) c cond1_first)
  dst := fun _ => slot 1 inb_S4x1024x2048_S1x1024x2048_1_0_0
  peer := fun c => ⟨k0_dev2 c, k0_dev2_lt (grid0.coords t0_0) c cond1_first⟩
  sS := ((cc0_scratch0.slice (Rect.unit (s := S4) ![1] S1.size inb_S4_S1_1)).squeeze S_ squeezes_S1_S_).sem
  rS := ((cc0_scratch1.slice (Rect.unit (s := S4) ![1] S1.size inb_S4_S1_1)).squeeze S_ squeezes_S1_S_).sem
  amt := (slot 1 inb_S4x1024x2048_S1x1024x2048_1_0_0).view.dmaCredit
  amt_eq := fun _ => rfl
  amt_pos := View.dmaCredit_pos _ (by decide)

/-- copy 2 -/
def copy2 : Copy nD sig where
  s := S1024x2048
  e := .bf16
  src := fun c => half (k0_off3 c) (k0_off3_inb (grid0.coords t0_0) c cond1_first)
  dst := fun _ => slot 2 inb_S4x1024x2048_S1x1024x2048_2_0_0
  peer := fun c => ⟨k0_dev3 c, k0_dev3_lt (grid0.coords t0_0) c cond1_first⟩
  sS := ((cc0_scratch0.slice (Rect.unit (s := S4) ![2] S1.size inb_S4_S1_2)).squeeze S_ squeezes_S1_S_).sem
  rS := ((cc0_scratch1.slice (Rect.unit (s := S4) ![2] S1.size inb_S4_S1_2)).squeeze S_ squeezes_S1_S_).sem
  amt := (slot 2 inb_S4x1024x2048_S1x1024x2048_2_0_0).view.dmaCredit
  amt_eq := fun _ => rfl
  amt_pos := View.dmaCredit_pos _ (by decide)

/-- and copy 3. -/
def copy3 : Copy nD sig where
  s := S1024x2048
  e := .bf16
  src := fun c => half (k0_off4 c) (k0_off4_inb (grid0.coords t0_0) c cond1_first)
  dst := fun _ => slot 3 inb_S4x1024x2048_S1x1024x2048_3_0_0
  peer := fun c => ⟨k0_dev4 c, k0_dev4_lt (grid0.coords t0_0) c cond1_first⟩
  sS := ((cc0_scratch0.slice (Rect.unit (s := S4) ![3] S1.size inb_S4_S1_3)).squeeze S_ squeezes_S1_S_).sem
  rS := ((cc0_scratch1.slice (Rect.unit (s := S4) ![3] S1.size inb_S4_S1_3)).squeeze S_ squeezes_S1_S_).sem
  amt := (slot 3 inb_S4x1024x2048_S1x1024x2048_3_0_0).view.dmaCredit
  amt_eq := fun _ => rfl
  amt_pos := View.dmaCredit_pos _ (by decide)

/-- The four copies, -/
def copies : Fin 4 → Copy nD sig
  | 0 => copy0
  | 1 => copy1
  | 2 => copy2
  | 3 => copy3

/-- in the order they are sent. -/
def order : List (Fin 4) := [0, 1, 2, 3]

theorem copies_ok : Copies copies order where
  nodup := by decide
  all := by decide
  peer_peer := by decide
  inj := by decide

/-- Each place is one slot of its array. -/
theorem copies_apart : Apart copies where
  key := ⟨lead, fun _ j => (ix j).val, fun c j y => match j, y with
    | .inl 0, y => (lead_slot main_arg2 (k0_off1 c) S1x1x1024x2048.size (k0_off1_inb (grid0.coords t0_0) c cond1_first) (fun _ => rfl)
        S1024x2048 squeezes_S1x1x1024x2048_S1024x2048 (Nat.succ_pos 3) rfl y).trans (by rw [k0_off1_eq]; rfl)
    | .inl 1, y => (lead_slot main_arg2 (k0_off2 c) S1x1x1024x2048.size (k0_off2_inb (grid0.coords t0_0) c cond1_first) (fun _ => rfl)
        S1024x2048 squeezes_S1x1x1024x2048_S1024x2048 (Nat.succ_pos 3) rfl y).trans (by rw [k0_off2_eq]; rfl)
    | .inl 2, y => (lead_slot main_arg2 (k0_off3 c) S1x1x1024x2048.size (k0_off3_inb (grid0.coords t0_0) c cond1_first) (fun _ => rfl)
        S1024x2048 squeezes_S1x1x1024x2048_S1024x2048 (Nat.succ_pos 3) rfl y).trans (by rw [k0_off3_eq]; rfl)
    | .inl 3, y => (lead_slot main_arg2 (k0_off4 c) S1x1x1024x2048.size (k0_off4_inb (grid0.coords t0_0) c cond1_first) (fun _ => rfl)
        S1024x2048 squeezes_S1x1x1024x2048_S1024x2048 (Nat.succ_pos 3) rfl y).trans (by rw [k0_off4_eq]; rfl)
    | .inr 0, y => lead_slot main_v1_1 ![0, 0, 0] S1x1024x2048.size inb_S4x1024x2048_S1x1024x2048_0_0_0 (fun _ => rfl)
        S1024x2048 squeezes_S1x1024x2048_S1024x2048 (Nat.succ_pos 2) rfl y
    | .inr 1, y => lead_slot main_v1_1 ![1, 0, 0] S1x1024x2048.size inb_S4x1024x2048_S1x1024x2048_1_0_0 (fun _ => rfl)
        S1024x2048 squeezes_S1x1024x2048_S1024x2048 (Nat.succ_pos 2) rfl y
    | .inr 2, y => lead_slot main_v1_1 ![2, 0, 0] S1x1024x2048.size inb_S4x1024x2048_S1x1024x2048_2_0_0 (fun _ => rfl)
        S1024x2048 squeezes_S1x1024x2048_S1024x2048 (Nat.succ_pos 2) rfl y
    | .inr 3, y => lead_slot main_v1_1 ![3, 0, 0] S1x1024x2048.size inb_S4x1024x2048_S1x1024x2048_3_0_0 (fun _ => rfl)
        S1024x2048 squeezes_S1x1024x2048_S1024x2048 (Nat.succ_pos 2) rfl y, by decide⟩

/-- The copies' semaphores are neither the staging buffers' nor one another's. -/
theorem ownSems : Pipeline.OwnSemFacts spec0 (semOf copies) := by
  decide

/-- Every place is in an array that is no window's. -/
theorem places_rest : ∀ c j, (place copies c j).view.ref ∈ restOf cfgs (0 : Fin 1) := by decide

end Cert.UpDw

end
-- ==== Proof.TalkBody.lean ====
/-
  What a kernel body with copies holds at each grid point: at the first, the copies not yet started; between, the copies
  in flight; after the last, the copies landed. And the steps of such a body: sending one copy, taking back a source,
  taking a landed place, and a branch of the body taken at one end of the grid only.
-/
module

public import proofs.«01_k».proof.Proof.Copies
public import Idealize.ShloMosaic.Lib.Pipeline.FrameBody
public import Idealize.ShloMosaic.Lib.Pipeline.Value

@[expose] public section

set_option Elab.async false

noncomputable section

namespace Cert.Exchange

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {n : Nat}

local notation "𝕄" => MT nD τ sig Unit Val ℕ (UX nD τ sig) ℕ

namespace Talk
variable (X : Talk nD τ sig Val n)

/-- The copies before point `t` of `N`. -/
def before (N : ℕ) (c : Dev nD) (t : ℕ) : sProp 𝕄 :=
  if t = 0 then iprop(∃ K, X.records K ∗ X.pendL c X.order) else if t < N then iprop(∃ K, X.records K ∗ X.flight c) else X.done c

/-- What device `c` owes before point `t`. -/
def owedAt (c : Dev nD) (t : ℕ) : CellTallies nD τ sig Unit := if t = 0 then X.owed₀ c else 0

/-- The copies in flight, nothing owed. -/
def mid (c : Dev nD) : sProp 𝕄 := iprop(∃ K, X.records K ∗ X.flight c ∗ ∃ W, owes (c : Thread nD τ) 0 W)

/-- The copies landed, nothing owed. -/
def landed (c : Dev nD) : sProp 𝕄 := iprop(X.done c ∗ ∃ W, owes (c : Thread nD τ) 0 W)

/-- The copies not started, everything owed. -/
def waiting (c : Dev nD) : sProp 𝕄 := iprop(∃ K, X.records K ∗ X.pendL c X.order ∗ ∃ W, owes (c : Thread nD τ) (X.owed₀ c) W)

theorem before_first (N : ℕ) (c : Dev nD) : iprop(X.before N c 0 ∗ ∃ W, owes (c : Thread nD τ) (X.owedAt c 0) W) ⊢ X.waiting c := by
  unfold before owedAt waiting
  rw [if_pos rfl, if_pos rfl]
  iintro ⟨⟨%K, HR, HP⟩, HO⟩
  iexists K
  isplitl [HR]; · iexact HR
  isplitl [HP]; · iexact HP
  iexact HO

theorem before_later (N : ℕ) (c : Dev nD) (t : ℕ) (h : t ≠ 0) (hN : t < N) :
    iprop(X.before N c t ∗ ∃ W, owes (c : Thread nD τ) (X.owedAt c t) W) ⊢ X.mid c := by
  unfold before owedAt mid
  rw [if_neg h, if_pos hN, if_neg h]
  iintro ⟨⟨%K, HR, HP⟩, HO⟩
  iexists K
  isplitl [HR]; · iexact HR
  isplitl [HP]; · iexact HP
  iexact HO

theorem after_between (N : ℕ) (c : Dev nD) (t : ℕ) (hN : t + 1 < N) :
    X.mid c ⊢ iprop(X.before N c (t + 1) ∗ ∃ W, owes (c : Thread nD τ) (X.owedAt c (t + 1)) W) := by
  unfold before owedAt mid
  rw [if_neg (Nat.succ_ne_zero t), if_pos hN, if_neg (Nat.succ_ne_zero t)]
  iintro ⟨%K, HR, HP, HO⟩
  isplitl [HR HP]
  · iexists K
    isplitl [HR]; · iexact HR
    iexact HP
  iexact HO

theorem after_last (N : ℕ) (c : Dev nD) (t : ℕ) (hN : t + 1 = N) :
    X.landed c ⊢ iprop(X.before N c (t + 1) ∗ ∃ W, owes (c : Thread nD τ) (X.owedAt c (t + 1)) W) := by
  unfold before owedAt landed
  rw [if_neg (Nat.succ_ne_zero t), if_neg (by omega), if_neg (Nat.succ_ne_zero t)]

theorem owedAt_or (c : Dev nD) (t : ℕ) : X.owedAt c t = X.owed₀ c ∨ X.owedAt c t = 0 := by
  unfold owedAt
  by_cases h : t = 0
  · exact Or.inl (if_pos h)
  · exact Or.inr (if_neg h)

end Talk

section Steps
variable {C : Fin n → Copy nD sig} {order : List (Fin n)} (h : Copies C order) (m : (ℓ : Loc nD τ sig) → Buf Val ℓ)
variable {Λ₀ : Labels} {defs : Defs nD τ sig Val Λ₀} (𝒱 : Variants)

theorem recvPay_peer (k : Fin n) (c q : Dev nD) (hq : (C k).peer q = c) :
    (talkOf C order m).recvPay k q = (((C k).dst c).view.loc (Dev.tc q : Thread nD τ) ↦[((C k).dst c).view.set]{fullShare}
      (((C k).dst c).view.write Val (m (((C k).dst c).view.loc (Dev.tc q : Thread nD τ)))
        (((C k).src c).view.read Val (m (((C k).src c).view.loc (c : Thread nD τ)))) Finset.univ) : sProp 𝕄) := by
  subst hq; rfl

theorem home_peer (k : Fin n) (c q : Dev nD) (hq : (C k).peer q = c) :
    (talkOf C order m).home k q = (((C k).dst c).view.loc (Dev.tc q : Thread nD τ) ↦[((C k).dst c).view.set]{fullShare}
      m (((C k).dst c).view.loc (Dev.tc q : Thread nD τ)) : sProp 𝕄) := by
  subst hq; rfl

include h in
/-- One copy is sent. -/
theorem send_copy (K : Dev nD × (Fin n ⊕ Fin n) → ℕ) (c : Dev nD) (k : Fin n) (l : List (Fin n))
    {hsc : ((C k).dst c).view.ref.isScScratch = false} {hsrc : ((C k).src c).view.WordExact} {hdst : ((C k).dst c).view.WordExact}
    {hsem : DmaTarget.Typed .hbm (.dma (C k).rS) (.remote (Dev.tc ((C k).peer c) : Thread nD τ) ((C k).dst c) (.dma (C k).sS) hsc)}
    {α : Type} {Q : α → sProp 𝕄} {kk : PUnit → Prog (TpuEff nD τ sig Val Λ₀ .tc) α} (W : Waits sig Unit) :
    iprop((talkOf C order m).records K ∗ (talkOf C order m).pendL c (k :: l) ∗ owes (c : Thread nD τ) ((talkOf C order m).owedL c (k :: l)) W)
      ⊢ iprop((((talkOf C order m).sendRight c k ∗ (talkOf C order m).recvRight c k) ∗ (talkOf C order m).pendL c l
              ∗ owes (c : Thread nD τ) ((talkOf C order m).owedL c l) W
            -∗ wp frame (wpE defs 𝒱 (c : Thread nD τ) none) Set.univ (kk ⟨⟩) Q)
          -∗ wp frame (wpE defs 𝒱 (c : Thread nD τ) none) Set.univ
            (.op (.enqueueDma ((C k).src c) (.remote (Dev.tc ((C k).peer c) : Thread nD τ) ((C k).dst c) (.dma (C k).sS) hsc)
              (.dma (C k).rS) hsrc hdst hsem) kk) Q) :=
  (h.facts C order m).send_step 𝒱 K c ((C k).peer c) k l rfl (m _) (m _) W ((C k).amt_eq c) rfl
    (home_peer m k c _ (h.peer_peer k c)) (recvPay_peer m k c _ (h.peer_peer k c))

/-- What a copy's two waits start from, and end at. -/
def inFlight (C : Fin n → Copy nD sig) (order : List (Fin n)) (m : (ℓ : Loc nD τ sig) → Buf Val ℓ) (c : Dev nD) (k : Fin n) : sProp 𝕄 :=
  iprop((talkOf C order m).sendRight c k ∗ (talkOf C order m).recvRight c k)
def isDone (C : Fin n → Copy nD sig) (order : List (Fin n)) (m : (ℓ : Loc nD τ sig) → Buf Val ℓ) (c : Dev nD) (k : Fin n) : sProp 𝕄 :=
  iprop((talkOf C order m).sendBack c k ∗ (talkOf C order m).recvBack c k)

include h in
theorem flight_eq (c : Dev nD) : (talkOf C order m).flight c = sepL (inFlight C order m c) order :=
  bigSep_order _ h.nodup h.all
include h in
theorem done_eq (c : Dev nD) : (talkOf C order m).done c = sepL (isDone C order m c) order :=
  bigSep_order _ h.nodup h.all

end Steps

/-- A branch the body takes at one end of the grid: the two ways meet at the rest of the body. -/
theorem wp_branch {Λ₀ : Labels} {defs : Defs nD τ sig Val Λ₀} (𝒱 : Variants) (c : Dev nD) {p : Prop} [Decidable p] {α : Type}
    {A : p → Prog (TpuEff nD τ sig Val Λ₀ .tc) α} {B : Prog (TpuEff nD τ sig Val Λ₀ .tc) α} {Q : α → sProp 𝕄} {P R : sProp 𝕄}
    (hA : ∀ hp : p, P ⊢ iprop((R -∗ wp frame (wpE defs 𝒱 (c : Thread nD τ) none) Set.univ B Q)
      -∗ wp frame (wpE defs 𝒱 (c : Thread nD τ) none) Set.univ (A hp) Q))
    (hB : ¬ p → P ⊢ R) :
    P ⊢ iprop((R -∗ wp frame (wpE defs 𝒱 (c : Thread nD τ) none) Set.univ B Q)
      -∗ wp frame (wpE defs 𝒱 (c : Thread nD τ) none) Set.univ (if hp : p then A hp else B) Q) := by
  by_cases hp : p
  · rw [dif_pos hp]; exact hA hp
  · rw [dif_neg hp]
    iintro HP Hk
    iapply Hk
    iapply (hB hp)
    iexact HP

/-! ## Loads and stores of a whole staging buffer -/

section Whole
variable {Λ₀ : Labels} {defs : Defs nD τ sig Val Λ₀} (𝒱 : Variants)

theorem read_full {sp : Space} {s : Shape} {e : EltTy} (v : View sig .tc sp s e) {off : Fin s.rank → ℕ} (hoff : off = fun _ => 0)
    (inb : ∀ a, off a + s.size a ≤ s.size a) (f : v.ty.Contents Val) :
    (v.slice (Rect.unit off s.size inb)).read Val f = v.read Val f :=
  View.ld_unit_zero hoff inb (v.read Val f)

/-- A load of all of a buffer, -/
theorem load_full (c : Dev nD) {cs : CoreSpace} {s : Shape} {e : EltTy} {M : Memref sig .tc cs s e} {off : Fin s.rank → ℕ} (hoff : off = fun _ => 0)
    {inb : ∀ a, off a + s.size a ≤ s.size a} {hl : M.view.LoadsAt (Rect.unit off s.size inb).toLoadRect} {α : Type} {Q : α → sProp 𝕄}
    {kk : (s.Idx → Val e) → Prog (TpuEff nD τ sig Val Λ₀ .tc) α} (Y : s.Idx → Val e) :
    owns (c : Thread nD τ) M fullShare Y
      ⊢ iprop((owns (c : Thread nD τ) M fullShare Y -∗ wp frame (wpE defs 𝒱 (c : Thread nD τ) none) Set.univ (kk Y) Q)
        -∗ wp frame (wpE defs 𝒱 (c : Thread nD τ) none) Set.univ (.op (.load M (Rect.unit off s.size inb).toLoadRect hl) kk) Q) := by
  unfold owns
  iintro ⟨%f, %hf, H⟩ Hk
  iapply (wp_load 𝒱 (c : Thread nD τ) none Set.univ (m := M) (r := (Rect.unit off s.size inb).toLoadRect) (hl := hl) (S := M.view.set)
    (Finset.map_subset_map.mpr (Finset.subset_univ _))) $$ H
  iintro H
  rw [show M.view.readAt Val (Rect.unit off s.size inb).toLoadRect f = Y from (read_full M.view hoff inb f).trans hf]
  iapply Hk
  iexists f
  isplitr; · ipureintro; exact hf
  iexact H

/-- and a store to all of it. -/
theorem store_full (c : Dev nD) {cs : CoreSpace} {s : Shape} {e : EltTy} {M : Memref sig .tc cs s e} {off : Fin s.rank → ℕ} (hoff : off = fun _ => 0)
    {inb : ∀ a, off a + s.size a ≤ s.size a} {w : s.Idx → Val e}
    {hx : (M.access (Rect.unit off s.size inb)).Stores Finset.univ} {hm} {α : Type} {Q : α → sProp 𝕄}
    {kk : PUnit → Prog (TpuEff nD τ sig Val Λ₀ .tc) α} (Y : s.Idx → Val e) :
    owns (c : Thread nD τ) M fullShare Y
      ⊢ iprop((owns (c : Thread nD τ) M fullShare w -∗ wp frame (wpE defs 𝒱 (c : Thread nD τ) none) Set.univ (kk ⟨⟩) Q)
        -∗ wp frame (wpE defs 𝒱 (c : Thread nD τ) none) Set.univ (.op (.store M (Rect.unit off s.size inb) w Finset.univ hx hm) kk) Q) := by
  unfold owns
  iintro ⟨%f, %hf, H⟩ Hk
  iapply (wp_store 𝒱 (c : Thread nD τ) none Set.univ (m := M) (r := Rect.unit off s.size inb) (Mk := Finset.univ)
    (show (M.access (Rect.unit off s.size inb)).set ⊆ M.view.set by
      rw [show (M.access (Rect.unit off s.size inb)).set = M.view.setOn (Rect.unit off s.size inb).set from View.set_slice _ _]
      exact Finset.map_subset_map.mpr (Finset.subset_univ _))) $$ H
  iintro H
  iapply Hk
  iexists ((M.access (Rect.unit off s.size inb)).write Val f w Finset.univ)
  isplitr
  · ipureintro
    exact (read_full M.view hoff inb _).symm.trans (View.read_write_univ _ _)
  iexact H

end Whole

end Cert.Exchange

end
-- ==== Proof.UpDwBody.lean ====
/-
  The kernel body of the up projection's weight gradient, over any float values: at the first grid point it starts the
  four copies, at every point it stores the product of its two blocks, at the last point it waits for the copies.
-/
module

public import proofs.«01_k».proof.Proof.UpDwTalk
public import proofs.«01_k».proof.Proof.TalkBody

@[expose] public section

set_option Elab.async false

noncomputable section

namespace Cert.UpDw

open Cert.KernelUpDwIdeal Cert.KernelUpDwIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UX nD τ sig) ℕ

variable (m : (ℓ : Loc nD τ sig) → Buf (Elt F) ℓ)

/-- The copies' data. -/
abbrev X : Talk nD τ sig (Elt F) 4 := talkOf copies order m

abbrev 𝒱₀ : Variants := Variants.none

/-- The run's data on device `c`: the argument arrays, each point's product, the copies' progress. -/
def dats (_ : Fin 1) (c : Dev nD) : Dat τ (Elt F) Unit ℕ (UX nD τ sig) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := (X m).before grid0.N c t.val
  q _ := fullShare
  owed t := (X m).owedAt c t.val

/-- What the body finds in its two input buffers. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rfl) t d).trans
    (by unfold Dat.fetched Dat.blockOf iblk; rfl)

theorem hz2 : (![0, 0] : Fin 2 → Nat) = fun _ => 0 := funext fun a => by fin_cases a <;> rfl
theorem hz3 : (![0, 0, 0] : Fin 3 → Nat) = fun _ => 0 := funext fun a => by fin_cases a <;> rfl

theorem cond1_iff : ∀ t : Fin grid0.N, k0_cond1 (grid0.coords t) = 1#1 ↔ t.val = 0 := by decide
theorem cond2_iff : ∀ t : Fin grid0.N, k0_cond2 (grid0.coords t) = 1#1 ↔ t.val + 1 = grid0.N := by decide

/-- What device `c` holds besides its staging buffers. -/
abbrev stage (c : Dev nD) (t : ℕ) : sProp 𝕄 :=
  iprop((X m).before grid0.N c t ∗ ∃ W, owes (c : Thread nD τ) ((X m).owedAt c t) W)

set_option maxHeartbeats 1600000 in
/-- The body, run symbolically at a point `t`. -/
theorem sound_body (c : Dev nD) (t : Fin cfg0.N) (Q : PUnit → sProp 𝕄) (f2) :
    iprop(stage m c t.val
        ∗ owns (c : Thread nD τ) (st0_0 t) fullShare (iblk m c 0 t) ∗ owns (c : Thread nD τ) (st0_1 t) fullShare (iblk m c 1 t)
        ∗ owns (c : Thread nD τ) (st0_2 t) fullShare f2
        ∗ ((stage m c (t.val + 1)
          ∗ owns (c : Thread nD τ) (st0_0 t) fullShare (iblk m c 0 t) ∗ owns (c : Thread nD τ) (st0_1 t) fullShare (iblk m c 1 t)
          ∗ owns (c : Thread nD τ) (st0_2 t) fullShare (k0_pay1 (iblk m c 0 t) (iblk m c 1 t))) -∗ Q ⟨⟩))
      ⊢ wp frame (wpE (defs₀ (F := F)) 𝒱₀ c none) Set.univ (bodyAt0 (F := F) t) Q := by
  unfold bodyAt0
  simp only [cc0_mlp_up_dw_eq_skeleton]; unfold cc0_mlp_up_dw_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨Hst, H0, H1, H2, Hk⟩
  -- the copies are sent at the first point
  iapply (wp_branch 𝒱₀ c (P := stage m c t.val) (R := (X m).mid c) ?hA ?hB) $$ Hst
  case hA =>
    intro h1
    have ht : t.val = 0 := (cond1_iff t).mp h1
    rw [wp_deviceId, ht]
    iintro Hst Hk
    ihave Hst := ((X m).before_first grid0.N c) $$ Hst
    unfold Talk.waiting
    icases Hst with ⟨%K, #HR, HP, %W, HO⟩
    iapply (send_copy copies_ok m 𝒱₀ K c 0 [1, 2, 3] W) $$ [HP HO]
    · isplitr; · iexact HR
      isplitl [HP]; · iexact HP
      iexact HO
    iintro ⟨HF0, HP, HO⟩
    iapply (send_copy copies_ok m 𝒱₀ K c 1 [2, 3] W) $$ [HP HO]
    · isplitr; · iexact HR
      isplitl [HP]; · iexact HP
      iexact HO
    iintro ⟨HF1, HP, HO⟩
    iapply (send_copy copies_ok m 𝒱₀ K c 2 [3] W) $$ [HP HO]
    · isplitr; · iexact HR
      isplitl [HP]; · iexact HP
      iexact HO
    iintro ⟨HF2, HP, HO⟩
    iapply (send_copy copies_ok m 𝒱₀ K c 3 [] W) $$ [HP HO]
    · isplitr; · iexact HR
      isplitl [HP]; · iexact HP
      iexact HO
    iintro ⟨HF3, HP, HO⟩
    iapply Hk
    unfold Talk.mid
    iexists K
    isplitr; · iexact HR
    isplitr [HO]
    · iapply (show iprop(inFlight copies order m c 0 ∗ inFlight copies order m c 1 ∗ inFlight copies order m c 2 ∗ inFlight copies order m c 3 ∗ emp)
        ⊢ (X m).flight c from Entails.of_eq (flight_eq copies_ok m c).symm)
      unfold inFlight
      isplitl [HF0]; · iexact HF0
      isplitl [HF1]; · iexact HF1
      isplitl [HF2]; · iexact HF2
      isplitl [HF3]; · iexact HF3
      iempintro
    iexists W; iexact HO
  case hB =>
    intro h1
    exact (X m).before_later grid0.N c t.val (fun e => h1 ((cond1_iff t).mpr e)) t.isLt
  iintro Hmid
  -- the product of the point's blocks
  iapply (load_full 𝒱₀ c hz2 (iblk m c 0 t)) $$ H0; iintro H0
  iapply (load_full 𝒱₀ c hz2 (iblk m c 1 t)) $$ H1; iintro H1
  iapply (load_full 𝒱₀ c hz3 f2) $$ H2; iintro H2
  iapply (store_full 𝒱₀ c hz3 f2) $$ H2; iintro H2
  -- the copies are waited for at the last point
  iapply (wp_branch 𝒱₀ c (P := (X m).mid c) (R := stage m c (t.val + 1)) ?hA2 ?hB2) $$ Hmid
  case hA2 =>
    intro h2
    have ht : t.val + 1 = grid0.N := (cond2_iff t).mp h2
    rw [wp_deviceId]
    iintro Hmid Hk
    unfold Talk.mid
    icases Hmid with ⟨%K, #HR, HF, %W, HO⟩
    ihave HF := (show (X m).flight c ⊢ iprop(inFlight copies order m c 0 ∗ inFlight copies order m c 1 ∗ inFlight copies order m c 2 ∗ inFlight copies order m c 3 ∗ emp) from Entails.of_eq (flight_eq copies_ok m c)) $$ HF
    unfold inFlight
    icases HF with ⟨⟨HS0, HV0⟩, ⟨HS1, HV1⟩, ⟨HS2, HV2⟩, ⟨HS3, HV3⟩, -⟩
    iapply ((copies_ok.facts copies order m).wait_recv 𝒱₀ K c 0 _ rfl) $$ [HV0 HO]
    · isplitr; · iexact HR
      isplitl [HV0]; · iexact HV0
      iexact HO
    iintro ⟨HV0, HO⟩
    iapply ((copies_ok.facts copies order m).wait_recv 𝒱₀ K c 1 _ rfl) $$ [HV1 HO]
    · isplitr; · iexact HR
      isplitl [HV1]; · iexact HV1
      iexact HO
    iintro ⟨HV1, HO⟩
    iapply ((copies_ok.facts copies order m).wait_recv 𝒱₀ K c 2 _ rfl) $$ [HV2 HO]
    · isplitr; · iexact HR
      isplitl [HV2]; · iexact HV2
      iexact HO
    iintro ⟨HV2, HO⟩
    iapply ((copies_ok.facts copies order m).wait_recv 𝒱₀ K c 3 _ rfl) $$ [HV3 HO]
    · isplitr; · iexact HR
      isplitl [HV3]; · iexact HV3
      iexact HO
    iintro ⟨HV3, HO⟩
    iapply ((copies_ok.facts copies order m).wait_send 𝒱₀ K c 0 _ rfl) $$ [HS0 HO]
    · isplitr; · iexact HR
      isplitl [HS0]; · iexact HS0
      iexact HO
    iintro ⟨HS0, HO⟩
    iapply ((copies_ok.facts copies order m).wait_send 𝒱₀ K c 1 _ rfl) $$ [HS1 HO]
    · isplitr; · iexact HR
      isplitl [HS1]; · iexact HS1
      iexact HO
    iintro ⟨HS1, HO⟩
    iapply ((copies_ok.facts copies order m).wait_send 𝒱₀ K c 2 _ rfl) $$ [HS2 HO]
    · isplitr; · iexact HR
      isplitl [HS2]; · iexact HS2
      iexact HO
    iintro ⟨HS2, HO⟩
    iapply ((copies_ok.facts copies order m).wait_send 𝒱₀ K c 3 _ rfl) $$ [HS3 HO]
    · isplitr; · iexact HR
      isplitl [HS3]; · iexact HS3
      iexact HO
    iintro ⟨HS3, HO⟩
    iapply Hk
    iapply ((X m).after_last grid0.N c t.val ht)
    unfold Talk.landed
    isplitr [HO]
    · iapply (show iprop(isDone copies order m c 0 ∗ isDone copies order m c 1 ∗ isDone copies order m c 2 ∗ isDone copies order m c 3 ∗ emp)
        ⊢ (X m).done c from Entails.of_eq (done_eq copies_ok m c).symm)
      unfold isDone
      isplitl [HS0 HV0]
      · isplitl [HS0]; · iexact HS0
        iexact HV0
      isplitl [HS1 HV1]
      · isplitl [HS1]; · iexact HS1
        iexact HV1
      isplitl [HS2 HV2]
      · isplitl [HS2]; · iexact HS2
        iexact HV2
      isplitl [HS3 HV3]
      · isplitl [HS3]; · iexact HS3
        iexact HV3
      iempintro
    iexists _; iexact HO
  case hB2 =>
    intro h2
    exact (X m).after_between grid0.N c t.val (Nat.lt_of_le_of_ne t.isLt fun e => h2 ((cond2_iff t).mpr e))
  iintro Hst
  rw [wp_ret]; imodintro
  iapply Hk
  isplitl [Hst]; · iexact Hst
  isplitl [H0]; · iexact H0
  isplitl [H1]; · iexact H1
  iexact H2

/-- The body obligation. -/
theorem body_obligation (c : Dev nD) : BodyObligation (dats m 0 c) (defs₀ (F := F)) 𝒱₀ () Set.univ := fun t => by
  rw [bigSep_W0, bigSep_W0]
  show iprop((X m).before grid0.N c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 (F := F) t) fun _ =>
      iprop((X m).before grid0.N c (t.val + 1) ∗ (dats m 0 c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (k0_pay1 (iblk m c 0 t) (iblk m c 1 t)))
  iintro ⟨HΦ, Ho, ⟨%d0, H0⟩, ⟨%d1, H1⟩, ⟨%d2, H2⟩⟩
  rw [before_0, before_1]
  unfold Dat.owesAt Pipeline.owesWithin
  icases Ho with ⟨%W, %hW, HO⟩
  iapply (sound_body m c t _ ((dats m 0 c).before 2 t d2))
  isplitl [HΦ HO]
  · isplitl [HΦ]; · iexact HΦ
    iexists W; iexact HO
  isplitl [H0]; · iexact H0
  isplitl [H1]; · iexact H1
  isplitl [H2]; · iexact H2
  iintro ⟨⟨HΦ, %W', HO⟩, H0, H1, H2⟩
  isplitl [HΦ]; · iexact HΦ
  isplitl [HO]
  · iexists W'
    isplitr; · ipureintro; exact fun _ _ => Or.inl trivial
    iexact HO
  isplitl [H0]; · iexact H0
  isplitl [H1]; · iexact H1
  iexact H2

end Cert.UpDw

end
-- ==== Proof.Landing.lean ====
/-
  The contents a device's arrays end with: every copy's landing place rewritten with what the sender's source held, one
  after the other; as the places are apart, each ends with what its own copy brought.
-/
module

public import proofs.«01_k».proof.Proof.Copies

@[expose] public section

set_option Elab.async false

noncomputable section

namespace Cert.Exchange

open Idealize.ShloMosaic Idealize.ShloMosaic.TcCoe Idealize.ShloMosaic.Pipeline
open Idealize.SL Idealize.SL.RA Idealize.SL.BI
open Idealize.SL.Sem

variable {nD : Nat} {τ : Topo} {sig : RefSig} {Val : EltTy → Type} {n : Nat}
variable (C : Fin n → Copy nD sig) (order : List (Fin n)) (m : (ℓ : Loc nD τ sig) → Buf Val ℓ)

/-- What copy `k` brings to device `c`. -/
def brought (c : Dev nD) (k : Fin n) : (C k).s.Idx → Val (C k).e :=
  ((C k).src ((C k).peer c)).view.read Val (m (((C k).src ((C k).peer c)).view.loc ((C k).peer c : Thread nD τ)))

/-- Where it lands on device `c`. -/
abbrev spot (c : Dev nD) (k : Fin n) : Memref sig .tc .hbm (C k).s (C k).e := (C k).dst ((C k).peer c)

/-- The arrays after the copies of a list have landed. -/
def landAll (c : Dev nD) : List (Fin n) → ((b : Ref sig .tc) → Buf Val ((c : Thread nD τ).loc b)) → (b : Ref sig .tc) → Buf Val ((c : Thread nD τ).loc b)
  | [], V => V
  | k :: l, V => landAll c l (Function.update V (spot C c k).view.ref
      ((spot C c k).view.write Val (V (spot C c k).view.ref) (brought C m c k) Finset.univ))

/-- The contents device `c`'s arrays end with. -/
def ending (c : Dev nD) : (b : Ref sig .tc) → Buf Val ((c : Thread nD τ).loc b) :=
  landAll C m c order fun b => m ((c : Thread nD τ).loc b)

theorem landAll_ne (c : Dev nD) (b : Ref sig .tc) : ∀ (l : List (Fin n)) (V : (b : Ref sig .tc) → Buf Val ((c : Thread nD τ).loc b)),
    (∀ k ∈ l, (spot C c k).view.ref ≠ b) → landAll C m c l V b = V b
  | [], V, _ => rfl
  | k :: l, V, h => (landAll_ne c b l _ fun k' hk => h k' (List.mem_cons_of_mem _ hk)).trans
      (Function.update_of_ne (h k List.mem_cons_self).symm _ _)

theorem landAll_apply (c : Dev nD) (b : Ref sig .tc) (x : b.ty.Idx) : ∀ (l : List (Fin n)) (V : (b : Ref sig .tc) → Buf Val ((c : Thread nD τ).loc b)),
    (∀ k ∈ l, x ∉ inBuf (spot C c k).view b) → landAll C m c l V b x = V b x
  | [], V, _ => rfl
  | k :: l, V, h => by
    refine (landAll_apply c b x l _ fun k' hk => h k' (List.mem_cons_of_mem _ hk)).trans ?_
    by_cases e : (spot C c k).view.ref = b
    · subst e
      rw [Function.update_self]
      refine View.write_of_not_mem _ _ _ fun hx => h k List.mem_cons_self ?_
      rw [inBuf_self]; exact hx
    · rw [Function.update_of_ne (Ne.symm e)]

variable {C} in
theorem landAll_landed (h : Apart C) (c : Dev nD) (k : Fin n) : ∀ (l : List (Fin n)) (V : (b : Ref sig .tc) → Buf Val ((c : Thread nD τ).loc b)),
    l.Nodup → k ∈ l → (spot C c k).view.read Val (landAll C m c l V (spot C c k).view.ref) = brought C m c k
  | [], V, _, hk => absurd hk List.not_mem_nil
  | k' :: l, V, hl, hk => by
    by_cases e : k = k'
    · subst e
      funext y
      have h1 := landAll_apply C m c (spot C c k).view.ref ((spot C c k).view.emb y) l
        (Function.update V (spot C c k).view.ref ((spot C c k).view.write Val (V (spot C c k).view.ref) (brought C m c k) Finset.univ))
        fun k' hk' hx => by
          have hne : (Sum.inr k : Fin n ⊕ Fin n) ≠ .inr k' := fun e => (List.nodup_cons.mp hl).1 (by rw [Sum.inr.inj e]; exact hk')
          refine Finset.disjoint_left.mp (h.disjoint C c (spot C c k).view.ref (.inr k) (.inr k') hne) ?_ hx
          show _ ∈ inBuf (spot C c k).view (spot C c k).view.ref
          rw [inBuf_self]
          exact Finset.mem_map_of_mem _ (Finset.mem_univ y)
      rw [Function.update_self] at h1
      show (spot C c k).view.read Val (landAll C m c l _ (spot C c k).view.ref) y = _
      rw [View.read_apply]
      exact (congrArg _ h1).trans ((View.read_apply _ _).symm.trans (congrFun (View.read_write_univ _ _) y))
    · exact landAll_landed h c k l _ (List.nodup_cons.mp hl).2 ((List.mem_cons.mp hk).resolve_left e)

section Lands
variable {Λ₀ : Labels} {P : Type} [Fintype P] [DecidableEq P] (cfgs : P → Pipeline.Cfg sig Λ₀) (p : P)

variable {C order} in
/-- They are what the copies leave, where no source shares an array with a landing place. -/
theorem ending_lands (h : Copies C order) (ha : Apart C) (hs : ∀ c k k', (spot C c k').view.ref ≠ ((C k).src c).view.ref) :
    Lands C m cfgs p (ending C order m) where
  landed := fun k c => landAll_landed m ha c k order _ h.nodup (by
    have : k ∈ order.toFinset := by rw [← h.all]; exact Finset.mem_univ k
    exact List.mem_toFinset.mp this)
  source := fun k c => landAll_ne C m c _ order _ fun k' _ => hs c k k'
  same := fun c b _ x hx => landAll_apply C m c b x order _ fun k _ hk => by
    refine (Finset.mem_sdiff.mp hx).2 (Finset.mem_biUnion.mpr ⟨.inr k, Finset.mem_univ _, hk⟩)

variable {C order} in
/-- An element of a landing place ends with what the copy brought there. -/
theorem ending_at (h : Copies C order) (ha : Apart C) (c : Dev nD) (k : Fin n) (y : (C k).s.Idx) :
    (spot C c k).view.read Val (ending C order m c (spot C c k).view.ref) y = brought C m c k y :=
  congrFun (landAll_landed m ha c k order _ h.nodup (by
    have : k ∈ order.toFinset := by rw [← h.all]; exact Finset.mem_univ k
    exact List.mem_toFinset.mp this)) y

/-- An array with no landing place ends as it began. -/
theorem ending_ne (c : Dev nD) (b : Ref sig .tc) (h : ∀ k, (spot C c k).view.ref ≠ b) : ending C order m c b = m ((c : Thread nD τ).loc b) :=
  landAll_ne C m c b order _ fun k _ => h k

end Lands

end Cert.Exchange

end
-- ==== Proof.UpDwRun.lean ====
/-
  The whole run of the up projection's weight gradient, over any float values: where its results end, its arguments
  unchanged and every semaphore back at zero. Both frames are this run.
-/
module

public import proofs.«01_k».proof.Defs
public import proofs.«01_k».proof.Proof.UpDwBody
public import proofs.«01_k».proof.Proof.Landing
public import proofs.«01_k».proof.Proof.Gen.KernelUpDw

@[expose] public section

set_option Elab.async false

noncomputable section

namespace Cert.UpDw

open Cert.KernelUpDwIdeal Cert.KernelUpDwIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]
variable (m : (ℓ : Loc nD τ sig) → Buf (Elt F) ℓ)

theorem elt_nonempty : ∀ e, Nonempty (Elt F e) := fun e => inferInstance

/-- No source shares an array with a landing place. -/
theorem spots_apart : ∀ c k k', (spot copies c k').view.ref ≠ ((copies k).src c).view.ref := by decide

theorem spots_ref : ∀ c k, (spot copies c k).view.ref = main_v1_1 := by decide

theorem run_main (g : Dev nD → PrngReg) :
    θ_run (Cert.KernelUpDwIdeal.defs (F := F)) (onTc (τ := τ) (main (F := F))) ⟨m, fun _ => 0, g⟩ (fun r => (∀ c : Dev nD,
      r.2.mem ((c : Thread nD τ).loc main_v1_0) = (dats m 0 c).arrAt 2 cfg0.N
      ∧ r.2.mem ((c : Thread nD τ).loc main_v1_1) = ending copies order m c main_v1_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  refine (θ_run Cert.KernelUpDwIdeal.defs _ _).mono (fun r h => ⟨fun c => ⟨(h.1 c).1 2, ?_, ?_, ?_, ?_⟩, sem_eq_zero_of_scoped (by decide) h.2⟩)
    (θ_run_talk cfgs (dats m) 0 launch0 (X m) (copies_ok.facts copies order m) ownSems defs₀ 𝒱₀ m g (main (F := F))
      (fun c => rfl) (fun c => (body_obligation m c).loose) (fun c w => rfl) (fun c w => by fin_cases w <;> rfl)
      (fun c => rfl) (fun c t => (X m).owedAt_or c t.val) (fun c => rfl)
      (fun c => ?_) (fun c => ?_) (kept copies m cfgs 0) (ending copies order m)
      (splits copies order m cfgs 0 copies_apart places_rest _ (ending_lands m cfgs 0 copies_ok copies_apart spots_apart)))
  · exact (h.1 c).2 main_v1_1 (Pipeline.mem_restRefs_of main_v1_1 (by decide) (by decide))
  · exact ((h.1 c).1 0).trans ((dats m 0 c).arrAt_in 0 rfl _)
  · exact ((h.1 c).1 1).trans ((dats m 0 c).arrAt_in 1 rfl _)
  · exact ((h.1 c).2 main_arg2 (Pipeline.mem_restRefs_of main_arg2 (by decide) (by decide))).trans
      (ending_ne copies order m c main_arg2 fun k => by rw [spots_ref]; decide)
  · show _ ⊢ (X m).before grid0.N c 0
    unfold Talk.before
    rw [if_pos rfl]
    iintro ⟨H, -⟩; iexact H
  · show (X m).before grid0.N c grid0.N ⊢ _
    unfold Talk.before
    rw [if_neg (by decide), if_neg (Nat.lt_irrefl _), scopedRest0_eq]
    iintro H
    isplitl [H]; · iexact H
    iempintro

/-- The arguments end unchanged, the semaphores at zero. -/
theorem run_frame (g : Dev nD → PrngReg) :
    θ_run (Cert.KernelUpDwIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run Cert.KernelUpDwIdeal.defs _ _).mono (fun _ h => ⟨fun c => (h.1 c).2.2, h.2⟩) (run_main m g)

theorem frame_ideal : Cert.quiescent_KernelUpDwIdeal := fun m g _ => run_frame (F := Ideal) m g

/-- The two printed programs have one body table. -/
theorem bodies_eq : Cert.KernelUpDw.defs₀ (F := F) = Cert.KernelUpDwIdeal.defs₀ (F := F) :=
  congrArg (Defs.onTc (τ := Cert.KernelUpDw.τ)) (funext fun b => funext fun a => match b, a with
    | ⟨0, _⟩, (t, s) => rfl
    | ⟨_ + 1, h⟩, _ => absurd h (Nat.not_lt.2 (Nat.le_add_left _ _)))

theorem defs_eq : Cert.KernelUpDw.defs (F := F) = Cert.KernelUpDwIdeal.defs (F := F) := by
  unfold Cert.KernelUpDw.defs Cert.KernelUpDwIdeal.defs
  rw [bodies_eq]
  rfl

theorem frame_kernel : Cert.quiescent_KernelUpDw := fun m g _ => by
  rw [defs_eq]
  exact run_frame (F := Bits) m g

end Cert.UpDw

end
-- ==== Proof.UpDwRef.lean ====
/-
  The run of the reference of the up projection's weight gradient: on its one device, over any float values, where its results end and its
  arguments unchanged.
-/
module

public import Idealize.ShloMosaic.Lib.StableHlo.Run
public import Idealize.ShloMosaic.Lib.Pipeline.Frame
public import proofs.«01_k».proof.Defs
public import proofs.«01_k».proof.Proof.Gen.ReferenceUpDwIdeal

@[expose] public section

noncomputable section

namespace Cert.UpDw.Ref

open Cert.ReferenceUpDwIdeal Cert.ReferenceUpDwIdeal.Gen
open Idealize.ShloMosaic Idealize.ShloMosaic.TcCoe Idealize.ShloMosaic.StableHlo Idealize.SL.Sem

variable {F : FTy → Type} [FloatOps F]

/-- Result 0 of the arguments. -/
def out0 (x0 : FVec F S16384x4224 .bf16) (x1 : FVec F S33792x8192 .bf16) : FVec F S32x2048x2048 .bf16 :=
  (shapeCast S32x2048x2048 (transpose S8x4x2048x2048 [0, 2, 1, 3] (shapeCast S8x2048x4x2048 (truncf .bf16 (Host.dotGeneral dot_S8x2048x4224_S8x4224x8192_S8x2048x8192_2_1_1_2_0_0 none (shapeCast S8x2048x4224 x0 shapeCasts_S16384x4224_S8x2048x4224) (shapeCast S8x4224x8192 x1 shapeCasts_S33792x8192_S8x4224x8192)) bitsLt_bf16_f32) shapeCasts_S8x2048x8192_S8x2048x4x2048) transposes_S8x2048x4x2048_S8x4x2048x2048_0_2_1_3) shapeCasts_S8x4x2048x2048_S32x2048x2048)

/-- Result 1 of the arguments. -/
def out1 (x2 : FVec F S32x2x1024x2048 .bf16) : FVec F S32x1024x2048 .bf16 :=
  (shapeCast S32x1024x2048 (concatenate S4x2x4x1024x2048 1 [⟨S4x1x4x1024x2048, (broadcastInDim S4x1x4x1024x2048 ![0, 2, 3, 4] bcast_S4x4x1024x2048_S4x1x4x1024x2048_0_2_3_4 (shapeCast S4x4x1024x2048 (extractStridedSlice S4x1x4x1x1024x2048 ![0, 1, 0, 0, 0, 0] (shapeCast S4x2x4x2x1024x2048 x2 shapeCasts_S32x2x1024x2048_S4x2x4x2x1024x2048) slices_S4x2x4x2x1024x2048_S4x1x4x1x1024x2048_0_1_0_0_0_0) shapeCasts_S4x1x4x1x1024x2048_S4x4x1024x2048))⟩, ⟨S4x1x4x1024x2048, (broadcastInDim S4x1x4x1024x2048 ![0, 2, 3, 4] bcast_S4x4x1024x2048_S4x1x4x1024x2048_0_2_3_4 (shapeCast S4x4x1024x2048 (extractStridedSlice S4x1x4x1x1024x2048 ![0, 0, 0, 1, 0, 0] (shapeCast S4x2x4x2x1024x2048 x2 shapeCasts_S32x2x1024x2048_S4x2x4x2x1024x2048) slices_S4x2x4x2x1024x2048_S4x1x4x1x1024x2048_0_0_0_1_0_0) shapeCasts_S4x1x4x1x1024x2048_S4x4x1024x2048))⟩] concatenates_S4x1x4x1024x2048_S4x1x4x1024x2048_S4x2x4x1024x2048_d1) shapeCasts_S4x2x4x1024x2048_S32x1024x2048)

/-- The operations of the run, in order. -/
abbrev ops : List (HloOp τ sig (Elt F)) :=
  [ reshape main_arg0 main_v0 rfl shapeCasts_S16384x4224_S8x2048x4224,
    reshape main_arg1 main_v1 rfl shapeCasts_S33792x8192_S8x4224x8192,
    binary main_v0 main_v1 main_v2 (fun l r => Host.dotGeneral dot_S8x2048x4224_S8x4224x8192_S8x2048x8192_2_1_1_2_0_0 none l r),
    unary main_v2 main_v3 (truncf .bf16 · bitsLt_bf16_f32),
    reshape main_v3 main_v4 rfl shapeCasts_S8x2048x8192_S8x2048x4x2048,
    unary main_v4 main_v5 (transpose S8x4x2048x2048 [0, 2, 1, 3] · transposes_S8x2048x4x2048_S8x4x2048x2048_0_2_1_3),
    reshape main_v5 main_v6 rfl shapeCasts_S8x4x2048x2048_S32x2048x2048,
    reshape main_arg2 main_v7 rfl shapeCasts_S32x2x1024x2048_S4x2x4x2x1024x2048,
    unary main_v7 main_v8 (extractStridedSlice S4x1x4x1x1024x2048 ![0, 1, 0, 0, 0, 0] · slices_S4x2x4x2x1024x2048_S4x1x4x1x1024x2048_0_1_0_0_0_0),
    reshape main_v8 main_v9 rfl shapeCasts_S4x1x4x1x1024x2048_S4x4x1024x2048,
    unary main_v7 main_v10 (extractStridedSlice S4x1x4x1x1024x2048 ![0, 0, 0, 1, 0, 0] · slices_S4x2x4x2x1024x2048_S4x1x4x1x1024x2048_0_0_0_1_0_0),
    reshape main_v10 main_v11 rfl shapeCasts_S4x1x4x1x1024x2048_S4x4x1024x2048,
    unary main_v9 main_v12 (broadcastInDim S4x1x4x1024x2048 ![0, 2, 3, 4] bcast_S4x4x1024x2048_S4x1x4x1024x2048_0_2_3_4),
    unary main_v11 main_v13 (broadcastInDim S4x1x4x1024x2048 ![0, 2, 3, 4] bcast_S4x4x1024x2048_S4x1x4x1024x2048_0_2_3_4),
    binary main_v12 main_v13 main_v14 (fun a b => concatenate S4x2x4x1024x2048 1 [⟨S4x1x4x1024x2048, a⟩, ⟨S4x1x4x1024x2048, b⟩] concatenates_S4x1x4x1024x2048_S4x1x4x1024x2048_S4x2x4x1024x2048_d1),
    reshape main_v14 main_v15 rfl shapeCasts_S4x2x4x1024x2048_S32x1024x2048 ]

theorem main_eq (c : Dev nD) : main (F := F) c = seq ops := rfl

theorem out0_eq (V : Valuation τ sig (Elt F)) : after ops V (main_v6 : DevRef τ sig) = out0 (V (main_arg0 : DevRef τ sig)) (V (main_arg1 : DevRef τ sig)) := by
  after_results
  rfl

theorem out1_eq (V : Valuation τ sig (Elt F)) : after ops V (main_v15 : DevRef τ sig) = out1 (V (main_arg2 : DevRef τ sig)) := by
  after_results
  rfl

theorem x0_eq (V : Valuation τ sig (Elt F)) : after ops V (main_arg0 : DevRef τ sig) = V (main_arg0 : DevRef τ sig) := by
  after_results

theorem x1_eq (V : Valuation τ sig (Elt F)) : after ops V (main_arg1 : DevRef τ sig) = V (main_arg1 : DevRef τ sig) := by
  after_results

theorem x2_eq (V : Valuation τ sig (Elt F)) : after ops V (main_arg2 : DevRef τ sig) = V (main_arg2 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., binary_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v6) = out0 (m ((c : Thread nD τ).loc main_arg0)) (m ((c : Thread nD τ).loc main_arg1))
      ∧ r.2.mem ((c : Thread nD τ).loc main_v15) = out1 (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c main_v6).trans (out0_eq _), (h c main_v15).trans (out1_eq _), (h c main_arg0).trans (x0_eq _), (h c main_arg1).trans (x1_eq _), (h c main_arg2).trans (x2_eq _)⟩)
    (run_seq scopedRefs_eq scopedSems_eq defs main (fun _ => ops) main_eq (fun _ => ops_sub) m ρ)

theorem frame : Cert.quiescent_ReferenceUpDwIdeal := fun m g _ =>
  (θ_run defs _ _).mono (fun r h => ⟨fun c => (h c).2.2, sem_eq_zero_of_no_sems (by decide) r.2⟩)
    (run_main (F := Ideal) m g)

end Cert.UpDw.Ref

end
-- ==== Proof.UpDwValue.lean ====
/-
  What the up projection's weight gradient computes, at the ideal values: each device's block of the reference's results.
-/
module

public import proofs.«01_k».proof.Proof.Reads
public import proofs.«01_k».proof.Proof.UpDwRun
public import proofs.«01_k».proof.Proof.UpDwRef

@[expose] public section

set_option maxRecDepth 16384

noncomputable section

namespace Cert.UpDw

open Cert.KernelUpDwIdeal Cert.KernelUpDwIdeal.Gen Cert.Exchange

open Idealize.ShloMosaic Idealize.ShloMosaic.TcCoe
open Idealize.SL Idealize.SL.Sem
open Idealize.ShloMosaic.Pipeline (Dat Cfg Window)

variable (m : (ℓ : Loc nD τ sig) → Buf (Elt Ideal) ℓ)

theorem index_0 : ∀ t : Fin cfg0.N, win0_0.index t = ![(grid0.coords t 0).val, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 1).val / 2, (grid0.coords t 0).val, (grid0.coords t 1).val % 2] :=
  (by decide +kernel : ∀ t : Fin grid0.N, _)

/-- A device's products: rows of the first argument by columns of the second, four blocks of columns apart. -/
def product (a : S2048x4224.Idx → EReal) (b : S4224x8192.Idx → EReal) : S4x2048x2048.Idx → EReal :=
  fun x => ∑ k : Fin 4224, a (ix2 (x 1) k) * b (ix2 k ⟨(x 0).val * 2048 + (x 2).val, by
    have h0 : (x 0).val < 4 := (x 0).isLt
    have h2 : (x 2).val < 2048 := (x 2).isLt
    omega⟩)

theorem product_end (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  show k0_pay1 (iblk m c 0 t) (iblk m c 1 t) y = _
  pointwise [k0_pay1, product]
  blk_simp [iblk, index_0, index_1, index_2]
  have h1 : (grid0.coords t 1).val < 8 := (grid0.coords t 1).isLt
  idx_bounds y
  refine Finset.sum_congr rfl fun k _ => congrArg₂ (· * ·)
    (congrArg (m ((c : Thread nD τ).loc main_arg0)) ?_) (congrArg (m ((c : Thread nD τ).loc main_arg1)) ?_)
  · blk_ext [index_0, index_2]
  · blk_ext [index_1, index_2]

/-- Where an element of a landing slot lies, -/
theorem slot_emb (k : Fin 4) (h) (r : Fin 1024) (s : Fin 2048) : (slot k.val h).view.emb (ix2 r s) = (ix3 k r s : S4x1024x2048.Idx) := by
  show (Rect.unit (s := S4x1024x2048) ![k.val, 0, 0] S1x1024x2048.size h).emb
    (Shape.reshapeEquiv squeezes_S1x1024x2048_S1024x2048.numel_eq (ix2 r s)) = _
  pointwise
  blk_ext

/-- and one of a source half. -/
theorem half_emb (off : Fin 4 → ℕ) (h) (r : Fin 1024) (s : Fin 2048) (k : Fin 4) (e : Fin 2) (ho : off = ![k.val, e.val, 0, 0]) :
    (half off h).view.emb (ix2 r s) = (ix4 k e r s : S4x2x1024x2048.Idx) := by
  subst ho
  show (Rect.unit (s := S4x2x1024x2048) _ S1x1x1024x2048.size h).emb
    (Shape.reshapeEquiv squeezes_S1x1x1024x2048_S1024x2048.numel_eq (ix2 r s)) = _
  pointwise
  blk_ext

/-- The sibling. -/
def sib (c : Dev nD) : Dev nD := ⟨k0_dev1 c, k0_dev1_lt (grid0.coords t0_0) c cond1_first⟩

theorem sib_val (c : Dev nD) : (sib c).val = (4 * (c.val / 4) + 2 * ((c.val / 2) % 2) + 1) - (c.val % 2) := k0_dev1_eq c

/-- A device's half of the two. -/
def mine (c : Dev nD) : Fin 2 := ⟨c.val % 2, Nat.mod_lt _ (by decide)⟩

theorem mine_sib : ∀ c : Dev nD, 1 - (sib c).val % 2 = (mine c).val := by decide

/-- Slot `k` ends with the sibling's gradients there, its half for this device. -/
theorem landed_at (c : Dev nD) (k : Fin 4) (r : Fin 1024) (s : Fin 2048) :
    ending copies order m c main_v1_1 (ix3 k r s) = m ((sib c : Thread nD τ).loc main_arg2) (ix4 k (mine c) r s) := by
  match k with
  | 0 => exact (congrArg (ending copies order m c main_v1_1) (slot_emb 0 inb_S4x1024x2048_S1x1024x2048_0_0_0 r s)).symm.trans <|
      (ending_at m copies_ok copies_apart c 0 (ix2 r s)).trans (congrArg (m ((sib c : Thread nD τ).loc main_arg2))
      (half_emb (k0_off1 (sib c)) _ r s 0 (mine c) ((k0_off1_eq _).trans (by rw [mine_sib]; rfl))))
  | 1 => exact (congrArg (ending copies order m c main_v1_1) (slot_emb 1 inb_S4x1024x2048_S1x1024x2048_1_0_0 r s)).symm.trans <|
      (ending_at m copies_ok copies_apart c 1 (ix2 r s)).trans (congrArg (m ((sib c : Thread nD τ).loc main_arg2))
      (half_emb (k0_off2 (sib c)) _ r s 1 (mine c) ((k0_off2_eq _).trans (by rw [mine_sib]; rfl))))
  | 2 => exact (congrArg (ending copies order m c main_v1_1) (slot_emb 2 inb_S4x1024x2048_S1x1024x2048_2_0_0 r s)).symm.trans <|
      (ending_at m copies_ok copies_apart c 2 (ix2 r s)).trans (congrArg (m ((sib c : Thread nD τ).loc main_arg2))
      (half_emb (k0_off3 (sib c)) _ r s 2 (mine c) ((k0_off3_eq _).trans (by rw [mine_sib]; rfl))))
  | 3 => exact (congrArg (ending copies order m c main_v1_1) (slot_emb 3 inb_S4x1024x2048_S1x1024x2048_3_0_0 r s)).symm.trans <|
      (ending_at m copies_ok copies_apart c 3 (ix2 r s)).trans (congrArg (m ((sib c : Thread nD τ).loc main_arg2))
      (half_emb (k0_off4 (sib c)) _ r s 3 (mine c) ((k0_off4_eq _).trans (by rw [mine_sib]; rfl))))

/-- A device's block of the reference's products. -/
theorem product_block (c : Dev nD) (a : FVec Ideal Cert.ReferenceUpDwIdeal.S16384x4224 .bf16) (b : FVec Ideal Cert.ReferenceUpDwIdeal.S33792x8192 .bf16) :
    product (Layout.block ⟨2, ![2048, 4224]⟩ ⟨2, ![16384, 4224]⟩ 0 8 c a) (Layout.block ⟨2, ![4224, 8192]⟩ ⟨2, ![33792, 8192]⟩ 0 8 c b)
      = Layout.block ⟨3, ![4, 2048, 2048]⟩ ⟨3, ![32, 2048, 2048]⟩ 0 8 c (Ref.out0 a b) := by
  funext x
  idx_vars x
  rw [block3]
  pointwise [Ref.out0, product]
  have e0 : (c.val * 4 + x0.val) / 4 = c.val := by omega
  have e1 : (c.val * 4 + x0.val) % 4 = x0.val := by omega
  simp only [block2, e0, e1]

/-- A device's block of the halves exchanged. -/
theorem landed_block (c : Dev nD) (g : FVec Ideal Cert.ReferenceUpDwIdeal.S32x2x1024x2048 .bf16) (k : Fin 4) (r : Fin 1024) (s : Fin 2048) :
    (Layout.block ⟨4, ![4, 2, 1024, 2048]⟩ ⟨4, ![32, 2, 1024, 2048]⟩ 0 8 (sib c) g : S4x2x1024x2048.Idx → EReal) (ix4 k (mine c) r s)
      = (Layout.block ⟨3, ![4, 1024, 2048]⟩ ⟨3, ![32, 1024, 2048]⟩ 0 8 c (Ref.out1 g) : S4x1024x2048.Idx → EReal) (ix3 k r s) := by
  rw [block3, block4]
  pointwise [Ref.out1]
  have hc : c.val < 8 := c.isLt
  have hs := sib_val c
  have e0 : (c.val * 4 + k.val) / 4 = c.val := by omega
  have e1 : (c.val * 4 + k.val) % 4 = k.val := by omega
  have e2 : (c.val * 4 + k.val) / 8 = c.val / 2 := by omega
  simp only [e0, e1, e2]
  by_cases hp : c.val % 2 < 1
  · rw [dif_pos hp]
    exact congrArg g (congr_ix4 (show (sib c).val * 4 + k.val = c.val / 2 * 8 + 4 + k.val by omega) (show c.val % 2 = 0 by omega) rfl rfl)
  · rw [dif_neg hp]
    exact congrArg g (congr_ix4 (show (sib c).val * 4 + k.val = c.val / 2 * 8 + k.val by omega) (show c.val % 2 = 1 by omega) rfl rfl)

theorem algebraic : Cert.algebraic_KernelUpDwIdeal_ReferenceUpDwIdeal := by
  intro m g m' g' _ hargs
  refine ⟨_, _, (θ_run Cert.KernelUpDwIdeal.defs _ _).mono (fun r h c => ⟨(h.1 c).1.trans ?_, (h.1 c).2.1.trans ?_, (h.1 c).2.2⟩) (run_main m g),
    (θ_run Cert.ReferenceUpDwIdeal.defs _ _).mono (fun _ h => h 0) (Ref.run_main m' g')⟩
  · rw [product_end, (hargs c).1, (hargs c).2.1]
    exact product_block c _ _
  · funext x
    idx_vars x
    rw [landed_at, (hargs (sib c)).2.2]
    exact landed_block c _ _ _ _

end Cert.UpDw

end
-- ==== Proof.ChipRows.lean ====
/-
  Twelve pairs of rows, each four rows apart in one array, laid end to end: read at a row.
-/
module

public import proofs.«01_k».proof.Proof.Reads
public import Idealize.ShloMosaic.Lib.Pipeline.Value

@[expose] public section

namespace Cert.Exchange

open Idealize.ShloMosaic

/-- Where the pairs start: for each chip in turn, the rows that the three other chips keep for it. -/
def starts : Fin 12 → ℕ := ![16, 8, 24, 25, 1, 17, 2, 26, 10, 11, 19, 3]

/-- A row of the pairs laid end to end is a row of the array: the pairs as a family, -/
theorem rows_at_family {α : Type} {r w : ℕ} (x : (⟨3, ![32, r, w]⟩ : Shape).Idx → α)
    (h : ∀ n, Shape.SlicesBy ⟨3, ![32, r, w]⟩ ![starts n, 0, 0] ![4, 1, 1] ⟨3, ![2, r, w]⟩)
    (hc : Shape.Concatenates ((List.ofFn fun n : Fin 12 => (⟨⟨3, ![2, r, w]⟩, Host.slice ⟨3, ![2, r, w]⟩ ![starts n, 0, 0] ![4, 1, 1] x (h n)⟩ :
      (s : Shape) × (s.Idx → α))).map (·.1)) ⟨3, ![24, r, w]⟩ 0)
    (q : Fin 24) (n : Fin 12) (hn : q.val / 2 = n.val) (a : Fin r) (b : Fin w) (p : Fin 32) (hp : p.val = starts n + 4 * (q.val % 2)) :
    concatenate ⟨3, ![24, r, w]⟩ 0 (List.ofFn fun n : Fin 12 => (⟨⟨3, ![2, r, w]⟩, Host.slice ⟨3, ![2, r, w]⟩ ![starts n, 0, 0] ![4, 1, 1] x (h n)⟩ :
      (s : Shape) × (s.Idx → α))) hc (ix3 q a b) = x (ix3 p a b) := by
  rw [concatenate_ofFn_apply 0 _ hc rfl 2 rfl (ix3 q a b) n hn (ix3 (⟨q.val % 2, Nat.mod_lt _ (by decide)⟩ : Fin 2) a b) rfl
    (fun e he => match e with
      | ⟨0, _⟩ => absurd rfl he
      | ⟨1, _⟩ => rfl
      | ⟨2, _⟩ => rfl)]
  rw [Host.slice_apply]
  refine congrArg x (funext fun e => match e with
      | ⟨0, _⟩ => Fin.ext hp.symm
      | ⟨1, _⟩ => Fin.ext ?_
      | ⟨2, _⟩ => Fin.ext ?_)
  · show 0 + 1 * a.val = a.val
    omega
  · show 0 + 1 * b.val = b.val
    omega

/-- and one by one. -/
theorem rows_at {α : Type} {r w : ℕ} (x : (⟨3, ![32, r, w]⟩ : Shape).Idx → α)
    (h0 : Shape.SlicesBy ⟨3, ![32, r, w]⟩ ![16, 0, 0] ![4, 1, 1] ⟨3, ![2, r, w]⟩)
    (h1 : Shape.SlicesBy ⟨3, ![32, r, w]⟩ ![8, 0, 0] ![4, 1, 1] ⟨3, ![2, r, w]⟩)
    (h2 : Shape.SlicesBy ⟨3, ![32, r, w]⟩ ![24, 0, 0] ![4, 1, 1] ⟨3, ![2, r, w]⟩)
    (h3 : Shape.SlicesBy ⟨3, ![32, r, w]⟩ ![25, 0, 0] ![4, 1, 1] ⟨3, ![2, r, w]⟩)
    (h4 : Shape.SlicesBy ⟨3, ![32, r, w]⟩ ![1, 0, 0] ![4, 1, 1] ⟨3, ![2, r, w]⟩)
    (h5 : Shape.SlicesBy ⟨3, ![32, r, w]⟩ ![17, 0, 0] ![4, 1, 1] ⟨3, ![2, r, w]⟩)
    (h6 : Shape.SlicesBy ⟨3, ![32, r, w]⟩ ![2, 0, 0] ![4, 1, 1] ⟨3, ![2, r, w]⟩)
    (h7 : Shape.SlicesBy ⟨3, ![32, r, w]⟩ ![26, 0, 0] ![4, 1, 1] ⟨3, ![2, r, w]⟩)
    (h8 : Shape.SlicesBy ⟨3, ![32, r, w]⟩ ![10, 0, 0] ![4, 1, 1] ⟨3, ![2, r, w]⟩)
    (h9 : Shape.SlicesBy ⟨3, ![32, r, w]⟩ ![11, 0, 0] ![4, 1, 1] ⟨3, ![2, r, w]⟩)
    (h10 : Shape.SlicesBy ⟨3, ![32, r, w]⟩ ![19, 0, 0] ![4, 1, 1] ⟨3, ![2, r, w]⟩)
    (h11 : Shape.SlicesBy ⟨3, ![32, r, w]⟩ ![3, 0, 0] ![4, 1, 1] ⟨3, ![2, r, w]⟩)
    (hc : Shape.Concatenates [⟨3, ![2, r, w]⟩, ⟨3, ![2, r, w]⟩, ⟨3, ![2, r, w]⟩, ⟨3, ![2, r, w]⟩, ⟨3, ![2, r, w]⟩, ⟨3, ![2, r, w]⟩, ⟨3, ![2, r, w]⟩, ⟨3, ![2, r, w]⟩, ⟨3, ![2, r, w]⟩, ⟨3, ![2, r, w]⟩, ⟨3, ![2, r, w]⟩, ⟨3, ![2, r, w]⟩] ⟨3, ![24, r, w]⟩ 0)
    (q : Fin 24) (n : Fin 12) (hn : q.val / 2 = n.val) (a : Fin r) (b : Fin w) (p : Fin 32) (hp : p.val = starts n + 4 * (q.val % 2)) :
    concatenate ⟨3, ![24, r, w]⟩ 0 [⟨⟨3, ![2, r, w]⟩, Host.slice ⟨3, ![2, r, w]⟩ ![16, 0, 0] ![4, 1, 1] x h0⟩,
      ⟨⟨3, ![2, r, w]⟩, Host.slice ⟨3, ![2, r, w]⟩ ![8, 0, 0] ![4, 1, 1] x h1⟩,
      ⟨⟨3, ![2, r, w]⟩, Host.slice ⟨3, ![2, r, w]⟩ ![24, 0, 0] ![4, 1, 1] x h2⟩,
      ⟨⟨3, ![2, r, w]⟩, Host.slice ⟨3, ![2, r, w]⟩ ![25, 0, 0] ![4, 1, 1] x h3⟩,
      ⟨⟨3, ![2, r, w]⟩, Host.slice ⟨3, ![2, r, w]⟩ ![1, 0, 0] ![4, 1, 1] x h4⟩,
      ⟨⟨3, ![2, r, w]⟩, Host.slice ⟨3, ![2, r, w]⟩ ![17, 0, 0] ![4, 1, 1] x h5⟩,
      ⟨⟨3, ![2, r, w]⟩, Host.slice ⟨3, ![2, r, w]⟩ ![2, 0, 0] ![4, 1, 1] x h6⟩,
      ⟨⟨3, ![2, r, w]⟩, Host.slice ⟨3, ![2, r, w]⟩ ![26, 0, 0] ![4, 1, 1] x h7⟩,
      ⟨⟨3, ![2, r, w]⟩, Host.slice ⟨3, ![2, r, w]⟩ ![10, 0, 0] ![4, 1, 1] x h8⟩,
      ⟨⟨3, ![2, r, w]⟩, Host.slice ⟨3, ![2, r, w]⟩ ![11, 0, 0] ![4, 1, 1] x h9⟩,
      ⟨⟨3, ![2, r, w]⟩, Host.slice ⟨3, ![2, r, w]⟩ ![19, 0, 0] ![4, 1, 1] x h10⟩,
      ⟨⟨3, ![2, r, w]⟩, Host.slice ⟨3, ![2, r, w]⟩ ![3, 0, 0] ![4, 1, 1] x h11⟩] hc (ix3 q a b) = x (ix3 p a b) :=
  rows_at_family x (fun n => match n with
    | 0 => h0 | 1 => h1 | 2 => h2 | 3 => h3 | 4 => h4 | 5 => h5 | 6 => h6 | 7 => h7 | 8 => h8 | 9 => h9 | 10 => h10 | 11 => h11) hc q n hn a b p hp

end Cert.Exchange
-- ==== Proof.SiblingRowsTalk.lean ====
/-
  The copies of the kernel of the projection's weight gradient, sibling's rows, 17 from each device: the sibling gets its half of each slot of an array, of each of 3; the sibling gets the whole of an array, of each of 2; each of the other chips gets its slot of an array.
-/
module

public import proofs.«01_k».proof.Proof.Copies
public import proofs.«01_k».proof.Proof.Gen.KernelSiblingRowsIdeal.Launch
public import proofs.«01_k».proof.Proof.Gen.KernelSiblingRowsIdeal.Frame
public import proofs.«01_k».proof.Proof.Gen.KernelSiblingRowsIdeal.Points
public import proofs.«01_k».proof.Proof.Gen.KernelSiblingRowsIdeal.Skeleton

@[expose] public section

set_option maxRecDepth 8192

noncomputable section

namespace Cert.SiblingRows

open Cert.KernelSiblingRowsIdeal Cert.KernelSiblingRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- The first point of the grid, where the copies are sent. -/
theorem cond1_first : k0_cond1 (grid0.coords t0_0) = 1#1 := by decide

/-- A slot of `main_arg2`. -/
abbrev cut_arg2 (off : Fin 4 → ℕ) (h : ∀ a, off a + S1x1x256x512.size a ≤ S4x2x256x512.size a) : Memref sig .tc .hbm S256x512 .bf16 :=
  ((Memref.whole main_arg2 : Memref sig .tc .hbm S4x2x256x512 .bf16).slice (Rect.unit (s := S4x2x256x512) off S1x1x256x512.size h) (fun _ => rfl)).squeeze
    S256x512 squeezes_S1x1x256x512_S256x512

/-- A slot of `main_v1_1`. -/
abbrev cut_v1_1 (off : Fin 3 → ℕ) (h : ∀ a, off a + S1x256x512.size a ≤ S4x256x512.size a) : Memref sig .tc .hbm S256x512 .bf16 :=
  ((Memref.whole main_v1_1 : Memref sig .tc .hbm S4x256x512 .bf16).slice (Rect.unit (s := S4x256x512) off S1x256x512.size h) (fun _ => rfl)).squeeze
    S256x512 squeezes_S1x256x512_S256x512

/-- A slot of `main_arg3`. -/
abbrev cut_arg3 (off : Fin 4 → ℕ) (h : ∀ a, off a + S1x1x256x256.size a ≤ S4x2x256x256.size a) : Memref sig .tc .hbm S256x256 .bf16 :=
  ((Memref.whole main_arg3 : Memref sig .tc .hbm S4x2x256x256 .bf16).slice (Rect.unit (s := S4x2x256x256) off S1x1x256x256.size h) (fun _ => rfl)).squeeze
    S256x256 squeezes_S1x1x256x256_S256x256

/-- A slot of `main_v1_2`. -/
abbrev cut_v1_2 (off : Fin 3 → ℕ) (h : ∀ a, off a + S1x256x256.size a ≤ S4x256x256.size a) : Memref sig .tc .hbm S256x256 .bf16 :=
  ((Memref.whole main_v1_2 : Memref sig .tc .hbm S4x256x256 .bf16).slice (Rect.unit (s := S4x256x256) off S1x256x256.size h) (fun _ => rfl)).squeeze
    S256x256 squeezes_S1x256x256_S256x256

/-- A slot of `main_arg4`. -/
abbrev cut_arg4 (off : Fin 4 → ℕ) (h : ∀ a, off a + S1x1x256x256.size a ≤ S4x2x256x256.size a) : Memref sig .tc .hbm S256x256 .bf16 :=
  ((Memref.whole main_arg4 : Memref sig .tc .hbm S4x2x256x256 .bf16).slice (Rect.unit (s := S4x2x256x256) off S1x1x256x256.size h) (fun _ => rfl)).squeeze
    S256x256 squeezes_S1x1x256x256_S256x256

/-- A slot of `main_v1_3`. -/
abbrev cut_v1_3 (off : Fin 3 → ℕ) (h : ∀ a, off a + S1x256x256.size a ≤ S4x256x256.size a) : Memref sig .tc .hbm S256x256 .bf16 :=
  ((Memref.whole main_v1_3 : Memref sig .tc .hbm S4x256x256 .bf16).slice (Rect.unit (s := S4x256x256) off S1x256x256.size h) (fun _ => rfl)).squeeze
    S256x256 squeezes_S1x256x256_S256x256

/-- A slot of `main_arg7`. -/
abbrev cut_arg7 (off : Fin 3 → ℕ) (h : ∀ a, off a + S1x256x2048.size a ≤ S4x256x2048.size a) : Memref sig .tc .hbm S256x2048 .bf16 :=
  ((Memref.whole main_arg7 : Memref sig .tc .hbm S4x256x2048 .bf16).slice (Rect.unit (s := S4x256x2048) off S1x256x2048.size h) (fun _ => rfl)).squeeze
    S256x2048 squeezes_S1x256x2048_S256x2048

/-- A slot of `main_v1_6`. -/
abbrev cut_v1_6 (off : Fin 3 → ℕ) (h : ∀ a, off a + S1x256x2048.size a ≤ S3x256x2048.size a) : Memref sig .tc .hbm S256x2048 .bf16 :=
  ((Memref.whole main_v1_6 : Memref sig .tc .hbm S3x256x2048 .bf16).slice (Rect.unit (s := S3x256x2048) off S1x256x2048.size h) (fun _ => rfl)).squeeze
    S256x2048 squeezes_S1x256x2048_S256x2048

/-- Copy 0: `main_arg2` to `main_v1_1`. -/
def copy0 : Copy nD sig where
  s := S256x512
  e := .bf16
  src := fun c => cut_arg2 (k0_off1 c) (k0_off1_inb (grid0.coords t0_0) c cond1_first)
  dst := fun _ => cut_v1_1 ![0, 0, 0] inb_S4x256x512_S1x256x512_0_0_0
  peer := fun c => ⟨k0_dev1 c, k0_dev1_lt (grid0.coords t0_0) c cond1_first⟩
  sS := ((cc0_scratch0.slice (Rect.unit (s := S12) ![0] S1.size inb_S12_S1_0)).squeeze S_ squeezes_S1_S_).sem
  rS := ((cc0_scratch1.slice (Rect.unit (s := S12) ![0] S1.size inb_S12_S1_0)).squeeze S_ squeezes_S1_S_).sem
  amt := (cut_v1_1 ![0, 0, 0] inb_S4x256x512_S1x256x512_0_0_0).view.dmaCredit
  amt_eq := fun _ => rfl
  amt_pos := View.dmaCredit_pos _ (by decide)

/-- Copy 1: `main_arg2` to `main_v1_1`. -/
def copy1 : Copy nD sig where
  s := S256x512
  e := .bf16
  src := fun c => cut_arg2 (k0_off2 c) (k0_off2_inb (grid0.coords t0_0) c cond1_first)
  dst := fun _ => cut_v1_1 ![1, 0, 0] inb_S4x256x512_S1x256x512_1_0_0
  peer := fun c => ⟨k0_dev2 c, k0_dev2_lt (grid0.coords t0_0) c cond1_first⟩
  sS := ((cc0_scratch0.slice (Rect.unit (s := S12) ![1] S1.size inb_S12_S1_1)).squeeze S_ squeezes_S1_S_).sem
  rS := ((cc0_scratch1.slice (Rect.unit (s := S12) ![1] S1.size inb_S12_S1_1)).squeeze S_ squeezes_S1_S_).sem
  amt := (cut_v1_1 ![1, 0, 0] inb_S4x256x512_S1x256x512_1_0_0).view.dmaCredit
  amt_eq := fun _ => rfl
  amt_pos := View.dmaCredit_pos _ (by decide)

/-- Copy 2: `main_arg2` to `main_v1_1`. -/
def copy2 : Copy nD sig where
  s := S256x512
  e := .bf16
  src := fun c => cut_arg2 (k0_off3 c) (k0_off3_inb (grid0.coords t0_0) c cond1_first)
  dst := fun _ => cut_v1_1 ![2, 0, 0] inb_S4x256x512_S1x256x512_2_0_0
  peer := fun c => ⟨k0_dev3 c, k0_dev3_lt (grid0.coords t0_0) c cond1_first⟩
  sS := ((cc0_scratch0.slice (Rect.unit (s := S12) ![2] S1.size inb_S12_S1_2)).squeeze S_ squeezes_S1_S_).sem
  rS := ((cc0_scratch1.slice (Rect.unit (s := S12) ![2] S1.size inb_S12_S1_2)).squeeze S_ squeezes_S1_S_).sem
  amt := (cut_v1_1 ![2, 0, 0] inb_S4x256x512_S1x256x512_2_0_0).view.dmaCredit
  amt_eq := fun _ => rfl
  amt_pos := View.dmaCredit_pos _ (by decide)

/-- Copy 3: `main_arg2` to `main_v1_1`. -/
def copy3 : Copy nD sig where
  s := S256x512
  e := .bf16
  src := fun c => cut_arg2 (k0_off4 c) (k0_off4_inb (grid0.coords t0_0) c cond1_first)
  dst := fun _ => cut_v1_1 ![3, 0, 0] inb_S4x256x512_S1x256x512_3_0_0
  peer := fun c => ⟨k0_dev4 c, k0_dev4_lt (grid0.coords t0_0) c cond1_first⟩
  sS := ((cc0_scratch0.slice (Rect.unit (s := S12) ![3] S1.size inb_S12_S1_3)).squeeze S_ squeezes_S1_S_).sem
  rS := ((cc0_scratch1.slice (Rect.unit (s := S12) ![3] S1.size inb_S12_S1_3)).squeeze S_ squeezes_S1_S_).sem
  amt := (cut_v1_1 ![3, 0, 0] inb_S4x256x512_S1x256x512_3_0_0).view.dmaCredit
  amt_eq := fun _ => rfl
  amt_pos := View.dmaCredit_pos _ (by decide)

/-- Copy 4: `main_arg3` to `main_v1_2`. -/
def copy4 : Copy nD sig where
  s := S256x256
  e := .bf16
  src := fun c => cut_arg3 (k0_off5 c) (k0_off5_inb (grid0.coords t0_0) c cond1_first)
  dst := fun _ => cut_v1_2 ![0, 0, 0] inb_S4x256x256_S1x256x256_0_0_0
  peer := fun c => ⟨k0_dev5 c, k0_dev5_lt (grid0.coords t0_0) c cond1_first⟩
  sS := ((cc0_scratch0.slice (Rect.unit (s := S12) ![4] S1.size inb_S12_S1_4)).squeeze S_ squeezes_S1_S_).sem
  rS := ((cc0_scratch1.slice (Rect.unit (s := S12) ![4] S1.size inb_S12_S1_4)).squeeze S_ squeezes_S1_S_).sem
  amt := (cut_v1_2 ![0, 0, 0] inb_S4x256x256_S1x256x256_0_0_0).view.dmaCredit
  amt_eq := fun _ => rfl
  amt_pos := View.dmaCredit_pos _ (by decide)

/-- Copy 5: `main_arg3` to `main_v1_2`. -/
def copy5 : Copy nD sig where
  s := S256x256
  e := .bf16
  src := fun c => cut_arg3 (k0_off6 c) (k0_off6_inb (grid0.coords t0_0) c cond1_first)
  dst := fun _ => cut_v1_2 ![1, 0, 0] inb_S4x256x256_S1x256x256_1_0_0
  peer := fun c => ⟨k0_dev6 c, k0_dev6_lt (grid0.coords t0_0) c cond1_first⟩
  sS := ((cc0_scratch0.slice (Rect.unit (s := S12) ![5] S1.size inb_S12_S1_5)).squeeze S_ squeezes_S1_S_).sem
  rS := ((cc0_scratch1.slice (Rect.unit (s := S12) ![5] S1.size inb_S12_S1_5)).squeeze S_ squeezes_S1_S_).sem
  amt := (cut_v1_2 ![1, 0, 0] inb_S4x256x256_S1x256x256_1_0_0).view.dmaCredit
  amt_eq := fun _ => rfl
  amt_pos := View.dmaCredit_pos _ (by decide)

/-- Copy 6: `main_arg3` to `main_v1_2`. -/
def copy6 : Copy nD sig where
  s := S256x256
  e := .bf16
  src := fun c => cut_arg3 (k0_off7 c) (k0_off7_inb (grid0.coords t0_0) c cond1_first)
  dst := fun _ => cut_v1_2 ![2, 0, 0] inb_S4x256x256_S1x256x256_2_0_0
  peer := fun c => ⟨k0_dev7 c, k0_dev7_lt (grid0.coords t0_0) c cond1_first⟩
  sS := ((cc0_scratch0.slice (Rect.unit (s := S12) ![6] S1.size inb_S12_S1_6)).squeeze S_ squeezes_S1_S_).sem
  rS := ((cc0_scratch1.slice (Rect.unit (s := S12) ![6] S1.size inb_S12_S1_6)).squeeze S_ squeezes_S1_S_).sem
  amt := (cut_v1_2 ![2, 0, 0] inb_S4x256x256_S1x256x256_2_0_0).view.dmaCredit
  amt_eq := fun _ => rfl
  amt_pos := View.dmaCredit_pos _ (by decide)

/-- Copy 7: `main_arg3` to `main_v1_2`. -/
def copy7 : Copy nD sig where
  s := S256x256
  e := .bf16
  src := fun c => cut_arg3 (k0_off8 c) (k0_off8_inb (grid0.coords t0_0) c cond1_first)
  dst := fun _ => cut_v1_2 ![3, 0, 0] inb_S4x256x256_S1x256x256_3_0_0
  peer := fun c => ⟨k0_dev8 c, k0_dev8_lt (grid0.coords t0_0) c cond1_first⟩
  sS := ((cc0_scratch0.slice (Rect.unit (s := S12) ![7] S1.size inb_S12_S1_7)).squeeze S_ squeezes_S1_S_).sem
  rS := ((cc0_scratch1.slice (Rect.unit (s := S12) ![7] S1.size inb_S12_S1_7)).squeeze S_ squeezes_S1_S_).sem
  amt := (cut_v1_2 ![3, 0, 0] inb_S4x256x256_S1x256x256_3_0_0).view.dmaCredit
  amt_eq := fun _ => rfl
  amt_pos := View.dmaCredit_pos _ (by decide)

/-- Copy 8: `main_arg4` to `main_v1_3`. -/
def copy8 : Copy nD sig where
  s := S256x256
  e := .bf16
  src := fun c => cut_arg4 (k0_off5 c) (k0_off5_inb (grid0.coords t0_0) c cond1_first)
  dst := fun _ => cut_v1_3 ![0, 0, 0] inb_S4x256x256_S1x256x256_0_0_0
  peer := fun c => ⟨k0_dev9 c, k0_dev9_lt (grid0.coords t0_0) c cond1_first⟩
  sS := ((cc0_scratch0.slice (Rect.unit (s := S12) ![8] S1.size inb_S12_S1_8)).squeeze S_ squeezes_S1_S_).sem
  rS := ((cc0_scratch1.slice (Rect.unit (s := S12) ![8] S1.size inb_S12_S1_8)).squeeze S_ squeezes_S1_S_).sem
  amt := (cut_v1_3 ![0, 0, 0] inb_S4x256x256_S1x256x256_0_0_0).view.dmaCredit
  amt_eq := fun _ => rfl
  amt_pos := View.dmaCredit_pos _ (by decide)

/-- Copy 9: `main_arg4` to `main_v1_3`. -/
def copy9 : Copy nD sig where
  s := S256x256
  e := .bf16
  src := fun c => cut_arg4 (k0_off6 c) (k0_off6_inb (grid0.coords t0_0) c cond1_first)
  dst := fun _ => cut_v1_3 ![1, 0, 0] inb_S4x256x256_S1x256x256_1_0_0
  peer := fun c => ⟨k0_dev10 c, k0_dev10_lt (grid0.coords t0_0) c cond1_first⟩
  sS := ((cc0_scratch0.slice (Rect.unit (s := S12) ![9] S1.size inb_S12_S1_9)).squeeze S_ squeezes_S1_S_).sem
  rS := ((cc0_scratch1.slice (Rect.unit (s := S12) ![9] S1.size inb_S12_S1_9)).squeeze S_ squeezes_S1_S_).sem
  amt := (cut_v1_3 ![1, 0, 0] inb_S4x256x256_S1x256x256_1_0_0).view.dmaCredit
  amt_eq := fun _ => rfl
  amt_pos := View.dmaCredit_pos _ (by decide)

/-- Copy 10: `main_arg4` to `main_v1_3`. -/
def copy10 : Copy nD sig where
  s := S256x256
  e := .bf16
  src := fun c => cut_arg4 (k0_off7 c) (k0_off7_inb (grid0.coords t0_0) c cond1_first)
  dst := fun _ => cut_v1_3 ![2, 0, 0] inb_S4x256x256_S1x256x256_2_0_0
  peer := fun c => ⟨k0_dev11 c, k0_dev11_lt (grid0.coords t0_0) c cond1_first⟩
  sS := ((cc0_scratch0.slice (Rect.unit (s := S12) ![10] S1.size inb_S12_S1_10)).squeeze S_ squeezes_S1_S_).sem
  rS := ((cc0_scratch1.slice (Rect.unit (s := S12) ![10] S1.size inb_S12_S1_10)).squeeze S_ squeezes_S1_S_).sem
  amt := (cut_v1_3 ![2, 0, 0] inb_S4x256x256_S1x256x256_2_0_0).view.dmaCredit
  amt_eq := fun _ => rfl
  amt_pos := View.dmaCredit_pos _ (by decide)

/-- Copy 11: `main_arg4` to `main_v1_3`. -/
def copy11 : Copy nD sig where
  s := S256x256
  e := .bf16
  src := fun c => cut_arg4 (k0_off8 c) (k0_off8_inb (grid0.coords t0_0) c cond1_first)
  dst := fun _ => cut_v1_3 ![3, 0, 0] inb_S4x256x256_S1x256x256_3_0_0
  peer := fun c => ⟨k0_dev12 c, k0_dev12_lt (grid0.coords t0_0) c cond1_first⟩
  sS := ((cc0_scratch0.slice (Rect.unit (s := S12) ![11] S1.size inb_S12_S1_11)).squeeze S_ squeezes_S1_S_).sem
  rS := ((cc0_scratch1.slice (Rect.unit (s := S12) ![11] S1.size inb_S12_S1_11)).squeeze S_ squeezes_S1_S_).sem
  amt := (cut_v1_3 ![3, 0, 0] inb_S4x256x256_S1x256x256_3_0_0).view.dmaCredit
  amt_eq := fun _ => rfl
  amt_pos := View.dmaCredit_pos _ (by decide)

/-- Copy 12: `main_arg5` to `main_v1_4`. -/
def copy12 : Copy nD sig where
  s := S1024x2048
  e := .f32
  src := fun _ => Memref.whole main_arg5
  dst := fun _ => (Memref.whole main_v1_4 : Memref sig .tc .hbm S1024x2048 .f32)
  peer := fun c => ⟨k0_dev13 c, k0_dev13_lt (grid0.coords t0_0) c cond1_first⟩
  sS := ((cc0_scratch2.slice (Rect.unit (s := S2) ![0] S1.size inb_S2_S1_0)).squeeze S_ squeezes_S1_S_).sem
  rS := ((cc0_scratch3.slice (Rect.unit (s := S2) ![0] S1.size inb_S2_S1_0)).squeeze S_ squeezes_S1_S_).sem
  amt := ((Memref.whole main_v1_4 : Memref sig .tc .hbm S1024x2048 .f32)).view.dmaCredit
  amt_eq := fun _ => rfl
  amt_pos := View.dmaCredit_pos _ (by decide)

/-- Copy 13: `main_arg6` to `main_v1_5`. -/
def copy13 : Copy nD sig where
  s := S1024x2048
  e := .f32
  src := fun _ => Memref.whole main_arg6
  dst := fun _ => (Memref.whole main_v1_5 : Memref sig .tc .hbm S1024x2048 .f32)
  peer := fun c => ⟨k0_dev14 c, k0_dev14_lt (grid0.coords t0_0) c cond1_first⟩
  sS := ((cc0_scratch2.slice (Rect.unit (s := S2) ![1] S1.size inb_S2_S1_1)).squeeze S_ squeezes_S1_S_).sem
  rS := ((cc0_scratch3.slice (Rect.unit (s := S2) ![1] S1.size inb_S2_S1_1)).squeeze S_ squeezes_S1_S_).sem
  amt := ((Memref.whole main_v1_5 : Memref sig .tc .hbm S1024x2048 .f32)).view.dmaCredit
  amt_eq := fun _ => rfl
  amt_pos := View.dmaCredit_pos _ (by decide)

/-- Copy 14: `main_arg7` to `main_v1_6`. -/
def copy14 : Copy nD sig where
  s := S256x2048
  e := .bf16
  src := fun c => cut_arg7 (k0_off9 c) (k0_off9_inb (grid0.coords t0_0) c cond1_first)
  dst := fun _ => cut_v1_6 ![0, 0, 0] inb_S3x256x2048_S1x256x2048_0_0_0
  peer := fun c => ⟨k0_dev15 c, k0_dev15_lt (grid0.coords t0_0) c cond1_first⟩
  sS := ((cc0_scratch4.slice (Rect.unit (s := S3) ![0] S1.size inb_S3_S1_0)).squeeze S_ squeezes_S1_S_).sem
  rS := ((cc0_scratch5.slice (Rect.unit (s := S3) ![0] S1.size inb_S3_S1_0)).squeeze S_ squeezes_S1_S_).sem
  amt := (cut_v1_6 ![0, 0, 0] inb_S3x256x2048_S1x256x2048_0_0_0).view.dmaCredit
  amt_eq := fun _ => rfl
  amt_pos := View.dmaCredit_pos _ (by decide)

/-- Copy 15: `main_arg7` to `main_v1_6`. -/
def copy15 : Copy nD sig where
  s := S256x2048
  e := .bf16
  src := fun c => cut_arg7 (k0_off10 c) (k0_off10_inb (grid0.coords t0_0) c cond1_first)
  dst := fun _ => cut_v1_6 ![1, 0, 0] inb_S3x256x2048_S1x256x2048_1_0_0
  peer := fun c => ⟨k0_dev16 c, k0_dev16_lt (grid0.coords t0_0) c cond1_first⟩
  sS := ((cc0_scratch4.slice (Rect.unit (s := S3) ![1] S1.size inb_S3_S1_1)).squeeze S_ squeezes_S1_S_).sem
  rS := ((cc0_scratch5.slice (Rect.unit (s := S3) ![1] S1.size inb_S3_S1_1)).squeeze S_ squeezes_S1_S_).sem
  amt := (cut_v1_6 ![1, 0, 0] inb_S3x256x2048_S1x256x2048_1_0_0).view.dmaCredit
  amt_eq := fun _ => rfl
  amt_pos := View.dmaCredit_pos _ (by decide)

/-- Copy 16: `main_arg7` to `main_v1_6`. -/
def copy16 : Copy nD sig where
  s := S256x2048
  e := .bf16
  src := fun c => cut_arg7 (k0_off11 c) (k0_off11_inb (grid0.coords t0_0) c cond1_first)
  dst := fun _ => cut_v1_6 ![2, 0, 0] inb_S3x256x2048_S1x256x2048_2_0_0
  peer := fun c => ⟨k0_dev17 c, k0_dev17_lt (grid0.coords t0_0) c cond1_first⟩
  sS := ((cc0_scratch4.slice (Rect.unit (s := S3) ![2] S1.size inb_S3_S1_2)).squeeze S_ squeezes_S1_S_).sem
  rS := ((cc0_scratch5.slice (Rect.unit (s := S3) ![2] S1.size inb_S3_S1_2)).squeeze S_ squeezes_S1_S_).sem
  amt := (cut_v1_6 ![2, 0, 0] inb_S3x256x2048_S1x256x2048_2_0_0).view.dmaCredit
  amt_eq := fun _ => rfl
  amt_pos := View.dmaCredit_pos _ (by decide)

/-- The copies, -/
def copies : Fin 17 → Copy nD sig
  | 0 => copy0
  | 1 => copy1
  | 2 => copy2
  | 3 => copy3
  | 4 => copy4
  | 5 => copy5
  | 6 => copy6
  | 7 => copy7
  | 8 => copy8
  | 9 => copy9
  | 10 => copy10
  | 11 => copy11
  | 12 => copy12
  | 13 => copy13
  | 14 => copy14
  | 15 => copy15
  | 16 => copy16
  | ⟨k + 17, h⟩ => absurd h (Nat.not_lt.2 (Nat.le_add_left _ _))

/-- in the order they are sent. -/
def order : List (Fin 17) := [0, 1, 2, 3, 4, 5, 6, 7, 8, 9, 10, 11, 12, 13, 14, 15, 16]

theorem copies_ok : Copies copies order where
  nodup := by decide
  all := by decide
  peer_peer := by decide +kernel
  inj := by decide +kernel

/-- The arrays copied whole. -/
abbrev wholes : List (Ref sig .tc) := [main_arg5, main_v1_4, main_arg6, main_v1_5]

/-- A number telling the places of one array apart: the slot, where the array is copied by slots. -/
def key (b : Ref sig .tc) (x : b.ty.Idx) : ℕ := if b ∈ wholes then 0 else lead b x

theorem key_whole (b : Ref sig .tc) (h : b ∈ wholes) (x : b.ty.Idx) : key b x = 0 := if_pos h
theorem key_slot (b : Ref sig .tc) (h : b ∉ wholes) (x : b.ty.Idx) : key b x = lead b x := if_neg h

/-- The number of each place. -/
def number (c : Dev nD) : Fin 17 ⊕ Fin 17 → ℕ
  | .inl 0 => 0
  | .inl 1 => 1
  | .inl 2 => 2
  | .inl 3 => 3
  | .inl 4 => 0
  | .inl 5 => 1
  | .inl 6 => 2
  | .inl 7 => 3
  | .inl 8 => 0
  | .inl 9 => 1
  | .inl 10 => 2
  | .inl 11 => 3
  | .inl 12 => 0
  | .inl 13 => 0
  | .inl 14 => (((c.val / 2) % 2) + 2) - 2 * (c.val / 4)
  | .inl 15 => (2 * (c.val / 4) + 1) - ((c.val / 2) % 2)
  | .inl 16 => 3 - (2 * (c.val / 4) + ((c.val / 2) % 2))
  | .inr 0 => 0
  | .inr 1 => 1
  | .inr 2 => 2
  | .inr 3 => 3
  | .inr 4 => 0
  | .inr 5 => 1
  | .inr 6 => 2
  | .inr 7 => 3
  | .inr 8 => 0
  | .inr 9 => 1
  | .inr 10 => 2
  | .inr 11 => 3
  | .inr 12 => 0
  | .inr 13 => 0
  | .inr 14 => 0
  | .inr 15 => 1
  | .inr 16 => 2
  | .inl ⟨k + 17, h⟩ => absurd h (Nat.not_lt.2 (Nat.le_add_left _ _))
  | .inr ⟨k + 17, h⟩ => absurd h (Nat.not_lt.2 (Nat.le_add_left _ _))

theorem number_eq (c : Dev nD) : ∀ j y, key (place copies c j).view.ref ((place copies c j).view.emb y) = number c j
  | .inl 0, y => (key_slot main_arg2 (by decide) _).trans <| (lead_slot main_arg2 (k0_off1 c) S1x1x256x512.size (k0_off1_inb (grid0.coords t0_0) c cond1_first) (fun _ => rfl) S256x512 squeezes_S1x1x256x512_S256x512 (Nat.succ_pos 3) rfl y).trans (by rw [k0_off1_eq]; rfl)
  | .inl 1, y => (key_slot main_arg2 (by decide) _).trans <| (lead_slot main_arg2 (k0_off2 c) S1x1x256x512.size (k0_off2_inb (grid0.coords t0_0) c cond1_first) (fun _ => rfl) S256x512 squeezes_S1x1x256x512_S256x512 (Nat.succ_pos 3) rfl y).trans (by rw [k0_off2_eq]; rfl)
  | .inl 2, y => (key_slot main_arg2 (by decide) _).trans <| (lead_slot main_arg2 (k0_off3 c) S1x1x256x512.size (k0_off3_inb (grid0.coords t0_0) c cond1_first) (fun _ => rfl) S256x512 squeezes_S1x1x256x512_S256x512 (Nat.succ_pos 3) rfl y).trans (by rw [k0_off3_eq]; rfl)
  | .inl 3, y => (key_slot main_arg2 (by decide) _).trans <| (lead_slot main_arg2 (k0_off4 c) S1x1x256x512.size (k0_off4_inb (grid0.coords t0_0) c cond1_first) (fun _ => rfl) S256x512 squeezes_S1x1x256x512_S256x512 (Nat.succ_pos 3) rfl y).trans (by rw [k0_off4_eq]; rfl)
  | .inl 4, y => (key_slot main_arg3 (by decide) _).trans <| (lead_slot main_arg3 (k0_off5 c) S1x1x256x256.size (k0_off5_inb (grid0.coords t0_0) c cond1_first) (fun _ => rfl) S256x256 squeezes_S1x1x256x256_S256x256 (Nat.succ_pos 3) rfl y).trans (by rw [k0_off5_eq]; rfl)
  | .inl 5, y => (key_slot main_arg3 (by decide) _).trans <| (lead_slot main_arg3 (k0_off6 c) S1x1x256x256.size (k0_off6_inb (grid0.coords t0_0) c cond1_first) (fun _ => rfl) S256x256 squeezes_S1x1x256x256_S256x256 (Nat.succ_pos 3) rfl y).trans (by rw [k0_off6_eq]; rfl)
  | .inl 6, y => (key_slot main_arg3 (by decide) _).trans <| (lead_slot main_arg3 (k0_off7 c) S1x1x256x256.size (k0_off7_inb (grid0.coords t0_0) c cond1_first) (fun _ => rfl) S256x256 squeezes_S1x1x256x256_S256x256 (Nat.succ_pos 3) rfl y).trans (by rw [k0_off7_eq]; rfl)
  | .inl 7, y => (key_slot main_arg3 (by decide) _).trans <| (lead_slot main_arg3 (k0_off8 c) S1x1x256x256.size (k0_off8_inb (grid0.coords t0_0) c cond1_first) (fun _ => rfl) S256x256 squeezes_S1x1x256x256_S256x256 (Nat.succ_pos 3) rfl y).trans (by rw [k0_off8_eq]; rfl)
  | .inl 8, y => (key_slot main_arg4 (by decide) _).trans <| (lead_slot main_arg4 (k0_off5 c) S1x1x256x256.size (k0_off5_inb (grid0.coords t0_0) c cond1_first) (fun _ => rfl) S256x256 squeezes_S1x1x256x256_S256x256 (Nat.succ_pos 3) rfl y).trans (by rw [k0_off5_eq]; rfl)
  | .inl 9, y => (key_slot main_arg4 (by decide) _).trans <| (lead_slot main_arg4 (k0_off6 c) S1x1x256x256.size (k0_off6_inb (grid0.coords t0_0) c cond1_first) (fun _ => rfl) S256x256 squeezes_S1x1x256x256_S256x256 (Nat.succ_pos 3) rfl y).trans (by rw [k0_off6_eq]; rfl)
  | .inl 10, y => (key_slot main_arg4 (by decide) _).trans <| (lead_slot main_arg4 (k0_off7 c) S1x1x256x256.size (k0_off7_inb (grid0.coords t0_0) c cond1_first) (fun _ => rfl) S256x256 squeezes_S1x1x256x256_S256x256 (Nat.succ_pos 3) rfl y).trans (by rw [k0_off7_eq]; rfl)
  | .inl 11, y => (key_slot main_arg4 (by decide) _).trans <| (lead_slot main_arg4 (k0_off8 c) S1x1x256x256.size (k0_off8_inb (grid0.coords t0_0) c cond1_first) (fun _ => rfl) S256x256 squeezes_S1x1x256x256_S256x256 (Nat.succ_pos 3) rfl y).trans (by rw [k0_off8_eq]; rfl)
  | .inl 12, _ => key_whole main_arg5 (by decide) _
  | .inl 13, _ => key_whole main_arg6 (by decide) _
  | .inl 14, y => (key_slot main_arg7 (by decide) _).trans <| (lead_slot main_arg7 (k0_off9 c) S1x256x2048.size (k0_off9_inb (grid0.coords t0_0) c cond1_first) (fun _ => rfl) S256x2048 squeezes_S1x256x2048_S256x2048 (Nat.succ_pos 2) rfl y).trans (by rw [k0_off9_eq]; rfl)
  | .inl 15, y => (key_slot main_arg7 (by decide) _).trans <| (lead_slot main_arg7 (k0_off10 c) S1x256x2048.size (k0_off10_inb (grid0.coords t0_0) c cond1_first) (fun _ => rfl) S256x2048 squeezes_S1x256x2048_S256x2048 (Nat.succ_pos 2) rfl y).trans (by rw [k0_off10_eq]; rfl)
  | .inl 16, y => (key_slot main_arg7 (by decide) _).trans <| (lead_slot main_arg7 (k0_off11 c) S1x256x2048.size (k0_off11_inb (grid0.coords t0_0) c cond1_first) (fun _ => rfl) S256x2048 squeezes_S1x256x2048_S256x2048 (Nat.succ_pos 2) rfl y).trans (by rw [k0_off11_eq]; rfl)
  | .inr 0, y => (key_slot main_v1_1 (by decide) _).trans <| lead_slot main_v1_1 ![0, 0, 0] S1x256x512.size inb_S4x256x512_S1x256x512_0_0_0 (fun _ => rfl) S256x512 squeezes_S1x256x512_S256x512 (Nat.succ_pos 2) rfl y
  | .inr 1, y => (key_slot main_v1_1 (by decide) _).trans <| lead_slot main_v1_1 ![1, 0, 0] S1x256x512.size inb_S4x256x512_S1x256x512_1_0_0 (fun _ => rfl) S256x512 squeezes_S1x256x512_S256x512 (Nat.succ_pos 2) rfl y
  | .inr 2, y => (key_slot main_v1_1 (by decide) _).trans <| lead_slot main_v1_1 ![2, 0, 0] S1x256x512.size inb_S4x256x512_S1x256x512_2_0_0 (fun _ => rfl) S256x512 squeezes_S1x256x512_S256x512 (Nat.succ_pos 2) rfl y
  | .inr 3, y => (key_slot main_v1_1 (by decide) _).trans <| lead_slot main_v1_1 ![3, 0, 0] S1x256x512.size inb_S4x256x512_S1x256x512_3_0_0 (fun _ => rfl) S256x512 squeezes_S1x256x512_S256x512 (Nat.succ_pos 2) rfl y
  | .inr 4, y => (key_slot main_v1_2 (by decide) _).trans <| lead_slot main_v1_2 ![0, 0, 0] S1x256x256.size inb_S4x256x256_S1x256x256_0_0_0 (fun _ => rfl) S256x256 squeezes_S1x256x256_S256x256 (Nat.succ_pos 2) rfl y
  | .inr 5, y => (key_slot main_v1_2 (by decide) _).trans <| lead_slot main_v1_2 ![1, 0, 0] S1x256x256.size inb_S4x256x256_S1x256x256_1_0_0 (fun _ => rfl) S256x256 squeezes_S1x256x256_S256x256 (Nat.succ_pos 2) rfl y
  | .inr 6, y => (key_slot main_v1_2 (by decide) _).trans <| lead_slot main_v1_2 ![2, 0, 0] S1x256x256.size inb_S4x256x256_S1x256x256_2_0_0 (fun _ => rfl) S256x256 squeezes_S1x256x256_S256x256 (Nat.succ_pos 2) rfl y
  | .inr 7, y => (key_slot main_v1_2 (by decide) _).trans <| lead_slot main_v1_2 ![3, 0, 0] S1x256x256.size inb_S4x256x256_S1x256x256_3_0_0 (fun _ => rfl) S256x256 squeezes_S1x256x256_S256x256 (Nat.succ_pos 2) rfl y
  | .inr 8, y => (key_slot main_v1_3 (by decide) _).trans <| lead_slot main_v1_3 ![0, 0, 0] S1x256x256.size inb_S4x256x256_S1x256x256_0_0_0 (fun _ => rfl) S256x256 squeezes_S1x256x256_S256x256 (Nat.succ_pos 2) rfl y
  | .inr 9, y => (key_slot main_v1_3 (by decide) _).trans <| lead_slot main_v1_3 ![1, 0, 0] S1x256x256.size inb_S4x256x256_S1x256x256_1_0_0 (fun _ => rfl) S256x256 squeezes_S1x256x256_S256x256 (Nat.succ_pos 2) rfl y
  | .inr 10, y => (key_slot main_v1_3 (by decide) _).trans <| lead_slot main_v1_3 ![2, 0, 0] S1x256x256.size inb_S4x256x256_S1x256x256_2_0_0 (fun _ => rfl) S256x256 squeezes_S1x256x256_S256x256 (Nat.succ_pos 2) rfl y
  | .inr 11, y => (key_slot main_v1_3 (by decide) _).trans <| lead_slot main_v1_3 ![3, 0, 0] S1x256x256.size inb_S4x256x256_S1x256x256_3_0_0 (fun _ => rfl) S256x256 squeezes_S1x256x256_S256x256 (Nat.succ_pos 2) rfl y
  | .inr 12, _ => key_whole main_v1_4 (by decide) _
  | .inr 13, _ => key_whole main_v1_5 (by decide) _
  | .inr 14, y => (key_slot main_v1_6 (by decide) _).trans <| lead_slot main_v1_6 ![0, 0, 0] S1x256x2048.size inb_S3x256x2048_S1x256x2048_0_0_0 (fun _ => rfl) S256x2048 squeezes_S1x256x2048_S256x2048 (Nat.succ_pos 2) rfl y
  | .inr 15, y => (key_slot main_v1_6 (by decide) _).trans <| lead_slot main_v1_6 ![1, 0, 0] S1x256x2048.size inb_S3x256x2048_S1x256x2048_1_0_0 (fun _ => rfl) S256x2048 squeezes_S1x256x2048_S256x2048 (Nat.succ_pos 2) rfl y
  | .inr 16, y => (key_slot main_v1_6 (by decide) _).trans <| lead_slot main_v1_6 ![2, 0, 0] S1x256x2048.size inb_S3x256x2048_S1x256x2048_2_0_0 (fun _ => rfl) S256x2048 squeezes_S1x256x2048_S256x2048 (Nat.succ_pos 2) rfl y
  | .inl ⟨k + 17, h⟩, _ => absurd h (Nat.not_lt.2 (Nat.le_add_left _ _))
  | .inr ⟨k + 17, h⟩, _ => absurd h (Nat.not_lt.2 (Nat.le_add_left _ _))

/-- The places are apart. -/
theorem copies_apart : Apart copies where
  key := ⟨key, number, number_eq, by decide +kernel⟩

/-- The copies' semaphores are neither the staging buffers' nor one another's. -/
theorem ownSems : Pipeline.OwnSemFacts spec0 (semOf copies) := by
  decide +kernel

/-- Every place is in an array that is no window's. -/
theorem places_rest : ∀ c j, (place copies c j).view.ref ∈ restOf cfgs (0 : Fin 1) := by decide +kernel

end Cert.SiblingRows

end
-- ==== Proof.SiblingRowsBody.lean ====
/-
  The kernel body of the projection's weight gradient, sibling's rows, over any float values: at the first grid point it starts the copies,
  at every point it stores the product of its two blocks, at the last point it waits for the copies.
-/
module

public import proofs.«01_k».proof.Proof.SiblingRowsTalk
public import proofs.«01_k».proof.Proof.TalkBody

@[expose] public section

set_option Elab.async false

noncomputable section

namespace Cert.SiblingRows

open Cert.KernelSiblingRowsIdeal Cert.KernelSiblingRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UX nD τ sig) ℕ

variable (m : (ℓ : Loc nD τ sig) → Buf (Elt F) ℓ)

/-- The copies' data. -/
abbrev X : Talk nD τ sig (Elt F) 17 := talkOf copies order m

abbrev 𝒱₀ : Variants := Variants.none

/-- The copies in flight, one by one, -/
theorem flight_list (c : Dev nD) : (X m).flight c = iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ inFlight copies order m c 10 ∗ inFlight copies order m c 11 ∗ inFlight copies order m c 12 ∗ inFlight copies order m c 13 ∗ inFlight copies order m c 14 ∗ inFlight copies order m c 15 ∗ inFlight copies order m c 16 ∗ emp) := flight_eq copies_ok m c
/-- and landed. -/
theorem done_list (c : Dev nD) : (X m).done c = iprop(isDone copies order m c 0 ∗ isDone copies order m c 1 ∗ isDone copies order m c 2 ∗ isDone copies order m c 3 ∗ isDone copies order m c 4 ∗ isDone copies order m c 5 ∗ isDone copies order m c 6 ∗ isDone copies order m c 7 ∗ isDone copies order m c 8 ∗ isDone copies order m c 9 ∗ isDone copies order m c 10 ∗ isDone copies order m c 11 ∗ isDone copies order m c 12 ∗ isDone copies order m c 13 ∗ isDone copies order m c 14 ∗ isDone copies order m c 15 ∗ isDone copies order m c 16 ∗ emp) := done_eq copies_ok m c

/-- The run's data on device `c`: the argument arrays, each point's product, the copies' progress. -/
def dats (_ : Fin 1) (c : Dev nD) : Dat τ (Elt F) Unit ℕ (UX nD τ sig) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := (X m).before grid0.N c t.val
  q _ := fullShare
  owed t := (X m).owedAt c t.val

/-- What the body finds in its two input buffers. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rfl) t d).trans
    (by unfold Dat.fetched Dat.blockOf iblk; rfl)

theorem hz2 : (![0, 0] : Fin 2 → Nat) = fun _ => 0 := funext fun a => by fin_cases a <;> rfl
theorem hz3 : (![0, 0, 0] : Fin 3 → Nat) = fun _ => 0 := funext fun a => by fin_cases a <;> rfl

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 = grid0.N := by decide +kernel

/-- What device `c` holds besides its staging buffers. -/
abbrev stage (c : Dev nD) (t : ℕ) : sProp 𝕄 :=
  iprop((X m).before grid0.N c t ∗ ∃ W, owes (c : Thread nD τ) ((X m).owedAt c t) W)

set_option maxHeartbeats 6400000 in
/-- The body, run symbolically at a point `t`. -/
theorem sound_body (c : Dev nD) (t : Fin cfg0.N) (Q : PUnit → sProp 𝕄) (f2) :
    iprop(stage m c t.val
        ∗ owns (c : Thread nD τ) (st0_0 t) fullShare (iblk m c 0 t) ∗ owns (c : Thread nD τ) (st0_1 t) fullShare (iblk m c 1 t)
        ∗ owns (c : Thread nD τ) (st0_2 t) fullShare f2
        ∗ ((stage m c (t.val + 1)
          ∗ owns (c : Thread nD τ) (st0_0 t) fullShare (iblk m c 0 t) ∗ owns (c : Thread nD τ) (st0_1 t) fullShare (iblk m c 1 t)
          ∗ owns (c : Thread nD τ) (st0_2 t) fullShare (k0_pay1 (iblk m c 0 t) (iblk m c 1 t))) -∗ Q ⟨⟩))
      ⊢ wp frame (wpE (defs₀ (F := F)) 𝒱₀ c none) Set.univ (bodyAt0 (F := F) t) Q := by
  unfold bodyAt0
  simp only [cc0_proj_dw_sibling_rows_eq_skeleton]; unfold cc0_proj_dw_sibling_rows_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [Prog.lift, Prog.bind_op, Prog.bind_ret, Prog.pure_eq_ret]
  iintro ⟨Hst, H0, H1, H2, Hk⟩
  -- the copies are sent at the first point
  iapply (wp_branch 𝒱₀ c (P := stage m c t.val) (R := (X m).mid c) ?hA ?hB) $$ Hst
  case hA =>
    intro h1
    have ht : t.val = 0 := (cond1_iff t).mp h1
    rw [wp_deviceId, ht]
    iintro Hst Hk
    ihave Hst := ((X m).before_first grid0.N c) $$ Hst
    unfold Talk.waiting
    icases Hst with ⟨%K, #HR, HP, %W, HO⟩
    iapply (send_copy copies_ok m 𝒱₀ K c 0 [1, 2, 3, 4, 5, 6, 7, 8, 9, 10, 11, 12, 13, 14, 15, 16] W) $$ [HP HO]
    · isplitr; · iexact HR
      isplitl [HP]; · iexact HP
      iexact HO
    iintro ⟨HF0, HP, HO⟩
    iapply (send_copy copies_ok m 𝒱₀ K c 1 [2, 3, 4, 5, 6, 7, 8, 9, 10, 11, 12, 13, 14, 15, 16] W) $$ [HP HO]
    · isplitr; · iexact HR
      isplitl [HP]; · iexact HP
      iexact HO
    iintro ⟨HF1, HP, HO⟩
    iapply (send_copy copies_ok m 𝒱₀ K c 2 [3, 4, 5, 6, 7, 8, 9, 10, 11, 12, 13, 14, 15, 16] W) $$ [HP HO]
    · isplitr; · iexact HR
      isplitl [HP]; · iexact HP
      iexact HO
    iintro ⟨HF2, HP, HO⟩
    iapply (send_copy copies_ok m 𝒱₀ K c 3 [4, 5, 6, 7, 8, 9, 10, 11, 12, 13, 14, 15, 16] W) $$ [HP HO]
    · isplitr; · iexact HR
      isplitl [HP]; · iexact HP
      iexact HO
    iintro ⟨HF3, HP, HO⟩
    iapply (send_copy copies_ok m 𝒱₀ K c 4 [5, 6, 7, 8, 9, 10, 11, 12, 13, 14, 15, 16] W) $$ [HP HO]
    · isplitr; · iexact HR
      isplitl [HP]; · iexact HP
      iexact HO
    iintro ⟨HF4, HP, HO⟩
    iapply (send_copy copies_ok m 𝒱₀ K c 5 [6, 7, 8, 9, 10, 11, 12, 13, 14, 15, 16] W) $$ [HP HO]
    · isplitr; · iexact HR
      isplitl [HP]; · iexact HP
      iexact HO
    iintro ⟨HF5, HP, HO⟩
    iapply (send_copy copies_ok m 𝒱₀ K c 6 [7, 8, 9, 10, 11, 12, 13, 14, 15, 16] W) $$ [HP HO]
    · isplitr; · iexact HR
      isplitl [HP]; · iexact HP
      iexact HO
    iintro ⟨HF6, HP, HO⟩
    iapply (send_copy copies_ok m 𝒱₀ K c 7 [8, 9, 10, 11, 12, 13, 14, 15, 16] W) $$ [HP HO]
    · isplitr; · iexact HR
      isplitl [HP]; · iexact HP
      iexact HO
    iintro ⟨HF7, HP, HO⟩
    iapply (send_copy copies_ok m 𝒱₀ K c 8 [9, 10, 11, 12, 13, 14, 15, 16] W) $$ [HP HO]
    · isplitr; · iexact HR
      isplitl [HP]; · iexact HP
      iexact HO
    iintro ⟨HF8, HP, HO⟩
    iapply (send_copy copies_ok m 𝒱₀ K c 9 [10, 11, 12, 13, 14, 15, 16] W) $$ [HP HO]
    · isplitr; · iexact HR
      isplitl [HP]; · iexact HP
      iexact HO
    iintro ⟨HF9, HP, HO⟩
    iapply (send_copy copies_ok m 𝒱₀ K c 10 [11, 12, 13, 14, 15, 16] W) $$ [HP HO]
    · isplitr; · iexact HR
      isplitl [HP]; · iexact HP
      iexact HO
    iintro ⟨HF10, HP, HO⟩
    iapply (send_copy copies_ok m 𝒱₀ K c 11 [12, 13, 14, 15, 16] W) $$ [HP HO]
    · isplitr; · iexact HR
      isplitl [HP]; · iexact HP
      iexact HO
    iintro ⟨HF11, HP, HO⟩
    iapply (send_copy copies_ok m 𝒱₀ K c 12 [13, 14, 15, 16] W) $$ [HP HO]
    · isplitr; · iexact HR
      isplitl [HP]; · iexact HP
      iexact HO
    iintro ⟨HF12, HP, HO⟩
    iapply (send_copy copies_ok m 𝒱₀ K c 13 [14, 15, 16] W) $$ [HP HO]
    · isplitr; · iexact HR
      isplitl [HP]; · iexact HP
      iexact HO
    iintro ⟨HF13, HP, HO⟩
    iapply (send_copy copies_ok m 𝒱₀ K c 14 [15, 16] W) $$ [HP HO]
    · isplitr; · iexact HR
      isplitl [HP]; · iexact HP
      iexact HO
    iintro ⟨HF14, HP, HO⟩
    iapply (send_copy copies_ok m 𝒱₀ K c 15 [16] W) $$ [HP HO]
    · isplitr; · iexact HR
      isplitl [HP]; · iexact HP
      iexact HO
    iintro ⟨HF15, HP, HO⟩
    iapply (send_copy copies_ok m 𝒱₀ K c 16 [] W) $$ [HP HO]
    · isplitr; · iexact HR
      isplitl [HP]; · iexact HP
      iexact HO
    iintro ⟨HF16, HP, HO⟩
    iapply Hk
    unfold Talk.mid
    iexists K
    isplitr; · iexact HR
    isplitr [HO]
    · iapply (show iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ inFlight copies order m c 10 ∗ inFlight copies order m c 11 ∗ inFlight copies order m c 12 ∗ inFlight copies order m c 13 ∗ inFlight copies order m c 14 ∗ inFlight copies order m c 15 ∗ inFlight copies order m c 16 ∗ emp)
        ⊢ (X m).flight c from Entails.of_eq (flight_list m c).symm)
      unfold inFlight
      isplitl [HF0]; · iexact HF0
      isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      isplitl [HF9]; · iexact HF9
      isplitl [HF10]; · iexact HF10
      isplitl [HF11]; · iexact HF11
      isplitl [HF12]; · iexact HF12
      isplitl [HF13]; · iexact HF13
      isplitl [HF14]; · iexact HF14
      isplitl [HF15]; · iexact HF15
      isplitl [HF16]; · iexact HF16
      iempintro
    iexists W; iexact HO
  case hB =>
    intro h1
    exact (X m).before_later grid0.N c t.val (fun e => h1 ((cond1_iff t).mpr e)) t.isLt
  iintro Hmid
  -- the product of the point's blocks
  iapply (load_full 𝒱₀ c hz2 (iblk m c 0 t)) $$ H0; iintro H0
  iapply (load_full 𝒱₀ c hz2 (iblk m c 1 t)) $$ H1; iintro H1
  iapply (load_full 𝒱₀ c hz3 f2) $$ H2; iintro H2
  iapply (store_full 𝒱₀ c hz3 f2) $$ H2; iintro H2
  -- the copies are waited for at the last point
  iapply (wp_branch 𝒱₀ c (P := (X m).mid c) (R := stage m c (t.val + 1)) ?hA2 ?hB2) $$ Hmid
  case hA2 =>
    intro h2
    have ht : t.val + 1 = grid0.N := (cond2_iff t).mp h2
    rw [wp_deviceId]
    iintro Hmid Hk
    unfold Talk.mid
    icases Hmid with ⟨%K, #HR, HF, %W, HO⟩
    ihave HF := (show (X m).flight c ⊢ iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ inFlight copies order m c 10 ∗ inFlight copies order m c 11 ∗ inFlight copies order m c 12 ∗ inFlight copies order m c 13 ∗ inFlight copies order m c 14 ∗ inFlight copies order m c 15 ∗ inFlight copies order m c 16 ∗ emp) from Entails.of_eq (flight_list m c)) $$ HF
    unfold inFlight
    icases HF with ⟨⟨HS0, HV0⟩, ⟨HS1, HV1⟩, ⟨HS2, HV2⟩, ⟨HS3, HV3⟩, ⟨HS4, HV4⟩, ⟨HS5, HV5⟩, ⟨HS6, HV6⟩, ⟨HS7, HV7⟩, ⟨HS8, HV8⟩, ⟨HS9, HV9⟩, ⟨HS10, HV10⟩, ⟨HS11, HV11⟩, ⟨HS12, HV12⟩, ⟨HS13, HV13⟩, ⟨HS14, HV14⟩, ⟨HS15, HV15⟩, ⟨HS16, HV16⟩, -⟩
    iapply ((copies_ok.facts copies order m).wait_recv 𝒱₀ K c 0 _ rfl) $$ [HV0 HO]
    · isplitr; · iexact HR
      isplitl [HV0]; · iexact HV0
      iexact HO
    iintro ⟨HV0, HO⟩
    iapply ((copies_ok.facts copies order m).wait_recv 𝒱₀ K c 1 _ rfl) $$ [HV1 HO]
    · isplitr; · iexact HR
      isplitl [HV1]; · iexact HV1
      iexact HO
    iintro ⟨HV1, HO⟩
    iapply ((copies_ok.facts copies order m).wait_recv 𝒱₀ K c 2 _ rfl) $$ [HV2 HO]
    · isplitr; · iexact HR
      isplitl [HV2]; · iexact HV2
      iexact HO
    iintro ⟨HV2, HO⟩
    iapply ((copies_ok.facts copies order m).wait_recv 𝒱₀ K c 3 _ rfl) $$ [HV3 HO]
    · isplitr; · iexact HR
      isplitl [HV3]; · iexact HV3
      iexact HO
    iintro ⟨HV3, HO⟩
    iapply ((copies_ok.facts copies order m).wait_recv 𝒱₀ K c 4 _ rfl) $$ [HV4 HO]
    · isplitr; · iexact HR
      isplitl [HV4]; · iexact HV4
      iexact HO
    iintro ⟨HV4, HO⟩
    iapply ((copies_ok.facts copies order m).wait_recv 𝒱₀ K c 5 _ rfl) $$ [HV5 HO]
    · isplitr; · iexact HR
      isplitl [HV5]; · iexact HV5
      iexact HO
    iintro ⟨HV5, HO⟩
    iapply ((copies_ok.facts copies order m).wait_recv 𝒱₀ K c 6 _ rfl) $$ [HV6 HO]
    · isplitr; · iexact HR
      isplitl [HV6]; · iexact HV6
      iexact HO
    iintro ⟨HV6, HO⟩
    iapply ((copies_ok.facts copies order m).wait_recv 𝒱₀ K c 7 _ rfl) $$ [HV7 HO]
    · isplitr; · iexact HR
      isplitl [HV7]; · iexact HV7
      iexact HO
    iintro ⟨HV7, HO⟩
    iapply ((copies_ok.facts copies order m).wait_recv 𝒱₀ K c 8 _ rfl) $$ [HV8 HO]
    · isplitr; · iexact HR
      isplitl [HV8]; · iexact HV8
      iexact HO
    iintro ⟨HV8, HO⟩
    iapply ((copies_ok.facts copies order m).wait_recv 𝒱₀ K c 9 _ rfl) $$ [HV9 HO]
    · isplitr; · iexact HR
      isplitl [HV9]; · iexact HV9
      iexact HO
    iintro ⟨HV9, HO⟩
    iapply ((copies_ok.facts copies order m).wait_recv 𝒱₀ K c 10 _ rfl) $$ [HV10 HO]
    · isplitr; · iexact HR
      isplitl [HV10]; · iexact HV10
      iexact HO
    iintro ⟨HV10, HO⟩
    iapply ((copies_ok.facts copies order m).wait_recv 𝒱₀ K c 11 _ rfl) $$ [HV11 HO]
    · isplitr; · iexact HR
      isplitl [HV11]; · iexact HV11
      iexact HO
    iintro ⟨HV11, HO⟩
    iapply ((copies_ok.facts copies order m).wait_send 𝒱₀ K c 0 _ rfl) $$ [HS0 HO]
    · isplitr; · iexact HR
      isplitl [HS0]; · iexact HS0
      iexact HO
    iintro ⟨HS0, HO⟩
    iapply ((copies_ok.facts copies order m).wait_send 𝒱₀ K c 1 _ rfl) $$ [HS1 HO]
    · isplitr; · iexact HR
      isplitl [HS1]; · iexact HS1
      iexact HO
    iintro ⟨HS1, HO⟩
    iapply ((copies_ok.facts copies order m).wait_send 𝒱₀ K c 2 _ rfl) $$ [HS2 HO]
    · isplitr; · iexact HR
      isplitl [HS2]; · iexact HS2
      iexact HO
    iintro ⟨HS2, HO⟩
    iapply ((copies_ok.facts copies order m).wait_send 𝒱₀ K c 3 _ rfl) $$ [HS3 HO]
    · isplitr; · iexact HR
      isplitl [HS3]; · iexact HS3
      iexact HO
    iintro ⟨HS3, HO⟩
    iapply ((copies_ok.facts copies order m).wait_send 𝒱₀ K c 4 _ rfl) $$ [HS4 HO]
    · isplitr; · iexact HR
      isplitl [HS4]; · iexact HS4
      iexact HO
    iintro ⟨HS4, HO⟩
    iapply ((copies_ok.facts copies order m).wait_send 𝒱₀ K c 5 _ rfl) $$ [HS5 HO]
    · isplitr; · iexact HR
      isplitl [HS5]; · iexact HS5
      iexact HO
    iintro ⟨HS5, HO⟩
    iapply ((copies_ok.facts copies order m).wait_send 𝒱₀ K c 6 _ rfl) $$ [HS6 HO]
    · isplitr; · iexact HR
      isplitl [HS6]; · iexact HS6
      iexact HO
    iintro ⟨HS6, HO⟩
    iapply ((copies_ok.facts copies order m).wait_send 𝒱₀ K c 7 _ rfl) $$ [HS7 HO]
    · isplitr; · iexact HR
      isplitl [HS7]; · iexact HS7
      iexact HO
    iintro ⟨HS7, HO⟩
    iapply ((copies_ok.facts copies order m).wait_send 𝒱₀ K c 8 _ rfl) $$ [HS8 HO]
    · isplitr; · iexact HR
      isplitl [HS8]; · iexact HS8
      iexact HO
    iintro ⟨HS8, HO⟩
    iapply ((copies_ok.facts copies order m).wait_send 𝒱₀ K c 9 _ rfl) $$ [HS9 HO]
    · isplitr; · iexact HR
      isplitl [HS9]; · iexact HS9
      iexact HO
    iintro ⟨HS9, HO⟩
    iapply ((copies_ok.facts copies order m).wait_send 𝒱₀ K c 10 _ rfl) $$ [HS10 HO]
    · isplitr; · iexact HR
      isplitl [HS10]; · iexact HS10
      iexact HO
    iintro ⟨HS10, HO⟩
    iapply ((copies_ok.facts copies order m).wait_send 𝒱₀ K c 11 _ rfl) $$ [HS11 HO]
    · isplitr; · iexact HR
      isplitl [HS11]; · iexact HS11
      iexact HO
    iintro ⟨HS11, HO⟩
    iapply ((copies_ok.facts copies order m).wait_recv 𝒱₀ K c 12 _ rfl) $$ [HV12 HO]
    · isplitr; · iexact HR
      isplitl [HV12]; · iexact HV12
      iexact HO
    iintro ⟨HV12, HO⟩
    iapply ((copies_ok.facts copies order m).wait_recv 𝒱₀ K c 13 _ rfl) $$ [HV13 HO]
    · isplitr; · iexact HR
      isplitl [HV13]; · iexact HV13
      iexact HO
    iintro ⟨HV13, HO⟩
    iapply ((copies_ok.facts copies order m).wait_send 𝒱₀ K c 12 _ rfl) $$ [HS12 HO]
    · isplitr; · iexact HR
      isplitl [HS12]; · iexact HS12
      iexact HO
    iintro ⟨HS12, HO⟩
    iapply ((copies_ok.facts copies order m).wait_send 𝒱₀ K c 13 _ rfl) $$ [HS13 HO]
    · isplitr; · iexact HR
      isplitl [HS13]; · iexact HS13
      iexact HO
    iintro ⟨HS13, HO⟩
    iapply ((copies_ok.facts copies order m).wait_recv 𝒱₀ K c 14 _ rfl) $$ [HV14 HO]
    · isplitr; · iexact HR
      isplitl [HV14]; · iexact HV14
      iexact HO
    iintro ⟨HV14, HO⟩
    iapply ((copies_ok.facts copies order m).wait_recv 𝒱₀ K c 15 _ rfl) $$ [HV15 HO]
    · isplitr; · iexact HR
      isplitl [HV15]; · iexact HV15
      iexact HO
    iintro ⟨HV15, HO⟩
    iapply ((copies_ok.facts copies order m).wait_recv 𝒱₀ K c 16 _ rfl) $$ [HV16 HO]
    · isplitr; · iexact HR
      isplitl [HV16]; · iexact HV16
      iexact HO
    iintro ⟨HV16, HO⟩
    iapply ((copies_ok.facts copies order m).wait_send 𝒱₀ K c 14 _ rfl) $$ [HS14 HO]
    · isplitr; · iexact HR
      isplitl [HS14]; · iexact HS14
      iexact HO
    iintro ⟨HS14, HO⟩
    iapply ((copies_ok.facts copies order m).wait_send 𝒱₀ K c 15 _ rfl) $$ [HS15 HO]
    · isplitr; · iexact HR
      isplitl [HS15]; · iexact HS15
      iexact HO
    iintro ⟨HS15, HO⟩
    iapply ((copies_ok.facts copies order m).wait_send 𝒱₀ K c 16 _ rfl) $$ [HS16 HO]
    · isplitr; · iexact HR
      isplitl [HS16]; · iexact HS16
      iexact HO
    iintro ⟨HS16, HO⟩
    iapply Hk
    iapply ((X m).after_last grid0.N c t.val ht)
    unfold Talk.landed
    isplitr [HO]
    · iapply (show iprop(isDone copies order m c 0 ∗ isDone copies order m c 1 ∗ isDone copies order m c 2 ∗ isDone copies order m c 3 ∗ isDone copies order m c 4 ∗ isDone copies order m c 5 ∗ isDone copies order m c 6 ∗ isDone copies order m c 7 ∗ isDone copies order m c 8 ∗ isDone copies order m c 9 ∗ isDone copies order m c 10 ∗ isDone copies order m c 11 ∗ isDone copies order m c 12 ∗ isDone copies order m c 13 ∗ isDone copies order m c 14 ∗ isDone copies order m c 15 ∗ isDone copies order m c 16 ∗ emp)
        ⊢ (X m).done c from Entails.of_eq (done_list m c).symm)
      unfold isDone
      isplitl [HS0 HV0]
      · isplitl [HS0]; · iexact HS0
        iexact HV0
      isplitl [HS1 HV1]
      · isplitl [HS1]; · iexact HS1
        iexact HV1
      isplitl [HS2 HV2]
      · isplitl [HS2]; · iexact HS2
        iexact HV2
      isplitl [HS3 HV3]
      · isplitl [HS3]; · iexact HS3
        iexact HV3
      isplitl [HS4 HV4]
      · isplitl [HS4]; · iexact HS4
        iexact HV4
      isplitl [HS5 HV5]
      · isplitl [HS5]; · iexact HS5
        iexact HV5
      isplitl [HS6 HV6]
      · isplitl [HS6]; · iexact HS6
        iexact HV6
      isplitl [HS7 HV7]
      · isplitl [HS7]; · iexact HS7
        iexact HV7
      isplitl [HS8 HV8]
      · isplitl [HS8]; · iexact HS8
        iexact HV8
      isplitl [HS9 HV9]
      · isplitl [HS9]; · iexact HS9
        iexact HV9
      isplitl [HS10 HV10]
      · isplitl [HS10]; · iexact HS10
        iexact HV10
      isplitl [HS11 HV11]
      · isplitl [HS11]; · iexact HS11
        iexact HV11
      isplitl [HS12 HV12]
      · isplitl [HS12]; · iexact HS12
        iexact HV12
      isplitl [HS13 HV13]
      · isplitl [HS13]; · iexact HS13
        iexact HV13
      isplitl [HS14 HV14]
      · isplitl [HS14]; · iexact HS14
        iexact HV14
      isplitl [HS15 HV15]
      · isplitl [HS15]; · iexact HS15
        iexact HV15
      isplitl [HS16 HV16]
      · isplitl [HS16]; · iexact HS16
        iexact HV16
      iempintro
    iexists _; iexact HO
  case hB2 =>
    intro h2
    exact (X m).after_between grid0.N c t.val (Nat.lt_of_le_of_ne t.isLt fun e => h2 ((cond2_iff t).mpr e))
  iintro Hst
  rw [wp_ret]; imodintro
  iapply Hk
  isplitl [Hst]; · iexact Hst
  isplitl [H0]; · iexact H0
  isplitl [H1]; · iexact H1
  iexact H2

/-- The body obligation. -/
theorem body_obligation (c : Dev nD) : BodyObligation (dats m 0 c) (defs₀ (F := F)) 𝒱₀ () Set.univ := fun t => by
  rw [bigSep_W0, bigSep_W0]
  show iprop((X m).before grid0.N c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 (F := F) t) fun _ =>
      iprop((X m).before grid0.N c (t.val + 1) ∗ (dats m 0 c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (k0_pay1 (iblk m c 0 t) (iblk m c 1 t)))
  iintro ⟨HΦ, Ho, ⟨%d0, H0⟩, ⟨%d1, H1⟩, ⟨%d2, H2⟩⟩
  rw [before_0, before_1]
  unfold Dat.owesAt Pipeline.owesWithin
  icases Ho with ⟨%W, %hW, HO⟩
  iapply (sound_body m c t _ ((dats m 0 c).before 2 t d2))
  isplitl [HΦ HO]
  · isplitl [HΦ]; · iexact HΦ
    iexists W; iexact HO
  isplitl [H0]; · iexact H0
  isplitl [H1]; · iexact H1
  isplitl [H2]; · iexact H2
  iintro ⟨⟨HΦ, %W', HO⟩, H0, H1, H2⟩
  isplitl [HΦ]; · iexact HΦ
  isplitl [HO]
  · iexists W'
    isplitr; · ipureintro; exact fun _ _ => Or.inl trivial
    iexact HO
  isplitl [H0]; · iexact H0
  isplitl [H1]; · iexact H1
  iexact H2

end Cert.SiblingRows

end
-- ==== Proof.SiblingRowsRun.lean ====
/-
  The whole run of the kernel of the projection's weight gradient, sibling's rows, over any float values: where its results end, its
  arguments unchanged and every semaphore back at zero. Both frames are this run.
-/
module

public import proofs.«01_k».proof.Defs
public import proofs.«01_k».proof.Proof.SiblingRowsBody
public import proofs.«01_k».proof.Proof.Landing
public import proofs.«01_k».proof.Proof.Gen.KernelSiblingRows

@[expose] public section

set_option Elab.async false

noncomputable section

namespace Cert.SiblingRows

open Cert.KernelSiblingRowsIdeal Cert.KernelSiblingRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ)

/-- No source shares an array with a landing place. -/
theorem spots_apart : ∀ c k k', (spot copies c k').view.ref ≠ ((copies k).src c).view.ref := by decide +kernel

/-- Nothing lands in an argument. -/
theorem spots_ne_arg2 : ∀ c k, (spot copies c k).view.ref ≠ main_arg2 := by decide +kernel
theorem spots_ne_arg3 : ∀ c k, (spot copies c k).view.ref ≠ main_arg3 := by decide +kernel
theorem spots_ne_arg4 : ∀ c k, (spot copies c k).view.ref ≠ main_arg4 := by decide +kernel
theorem spots_ne_arg5 : ∀ c k, (spot copies c k).view.ref ≠ main_arg5 := by decide +kernel
theorem spots_ne_arg6 : ∀ c k, (spot copies c k).view.ref ≠ main_arg6 := by decide +kernel
theorem spots_ne_arg7 : ∀ c k, (spot copies c k).view.ref ≠ main_arg7 := by decide +kernel

theorem run_main (g : Dev nD → PrngReg) :
    θ_run (Cert.KernelSiblingRowsIdeal.defs (F := F)) (onTc (τ := τ) (main (F := F))) ⟨m, fun _ => 0, g⟩ (fun r => (∀ c : Dev nD,
      r.2.mem ((c : Thread nD τ).loc main_v1_0) = (dats m 0 c).arrAt 2 cfg0.N
      ∧ r.2.mem ((c : Thread nD τ).loc main_v1_1) = ending copies order m c main_v1_1
      ∧ r.2.mem ((c : Thread nD τ).loc main_v1_2) = ending copies order m c main_v1_2
      ∧ r.2.mem ((c : Thread nD τ).loc main_v1_3) = ending copies order m c main_v1_3
      ∧ r.2.mem ((c : Thread nD τ).loc main_v1_4) = ending copies order m c main_v1_4
      ∧ r.2.mem ((c : Thread nD τ).loc main_v1_5) = ending copies order m c main_v1_5
      ∧ r.2.mem ((c : Thread nD τ).loc main_v1_6) = ending copies order m c main_v1_6
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) := by
  refine (θ_run Cert.KernelSiblingRowsIdeal.defs _ _).mono (fun r h => ⟨fun c => ⟨(h.1 c).1 2, ?_, ?_, ?_, ?_, ?_, ?_, ?_, ?_, ?_, ?_, ?_, ?_, ?_, ?_⟩, sem_eq_zero_of_scoped (by decide) h.2⟩)
    (θ_run_talk cfgs (dats m) 0 launch0 (X m) (copies_ok.facts copies order m) ownSems defs₀ 𝒱₀ m g (main (F := F))
      (fun c => rfl) (fun c => (body_obligation m c).loose) (fun c w => rfl) (fun c w => by fin_cases w <;> rfl)
      (fun c => rfl) (fun c t => (X m).owedAt_or c t.val) (fun c => rfl)
      (fun c => ?_) (fun c => ?_) (kept copies m cfgs 0) (ending copies order m)
      (splits copies order m cfgs 0 copies_apart places_rest _ (ending_lands m cfgs 0 copies_ok copies_apart spots_apart)))
  · exact (h.1 c).2 main_v1_1 (Pipeline.mem_restRefs_of main_v1_1 (by decide) (by decide))
  · exact (h.1 c).2 main_v1_2 (Pipeline.mem_restRefs_of main_v1_2 (by decide) (by decide))
  · exact (h.1 c).2 main_v1_3 (Pipeline.mem_restRefs_of main_v1_3 (by decide) (by decide))
  · exact (h.1 c).2 main_v1_4 (Pipeline.mem_restRefs_of main_v1_4 (by decide) (by decide))
  · exact (h.1 c).2 main_v1_5 (Pipeline.mem_restRefs_of main_v1_5 (by decide) (by decide))
  · exact (h.1 c).2 main_v1_6 (Pipeline.mem_restRefs_of main_v1_6 (by decide) (by decide))
  · exact ((h.1 c).1 0).trans ((dats m 0 c).arrAt_in 0 rfl _)
  · exact ((h.1 c).1 1).trans ((dats m 0 c).arrAt_in 1 rfl _)
  · exact ((h.1 c).2 main_arg2 (Pipeline.mem_restRefs_of main_arg2 (by decide) (by decide))).trans (ending_ne copies order m c main_arg2 (spots_ne_arg2 c))
  · exact ((h.1 c).2 main_arg3 (Pipeline.mem_restRefs_of main_arg3 (by decide) (by decide))).trans (ending_ne copies order m c main_arg3 (spots_ne_arg3 c))
  · exact ((h.1 c).2 main_arg4 (Pipeline.mem_restRefs_of main_arg4 (by decide) (by decide))).trans (ending_ne copies order m c main_arg4 (spots_ne_arg4 c))
  · exact ((h.1 c).2 main_arg5 (Pipeline.mem_restRefs_of main_arg5 (by decide) (by decide))).trans (ending_ne copies order m c main_arg5 (spots_ne_arg5 c))
  · exact ((h.1 c).2 main_arg6 (Pipeline.mem_restRefs_of main_arg6 (by decide) (by decide))).trans (ending_ne copies order m c main_arg6 (spots_ne_arg6 c))
  · exact ((h.1 c).2 main_arg7 (Pipeline.mem_restRefs_of main_arg7 (by decide) (by decide))).trans (ending_ne copies order m c main_arg7 (spots_ne_arg7 c))
  · show _ ⊢ (X m).before grid0.N c 0
    unfold Talk.before
    rw [if_pos rfl]
    iintro ⟨H, -⟩; iexact H
  · show (X m).before grid0.N c grid0.N ⊢ _
    unfold Talk.before
    rw [if_neg (by decide), if_neg (Nat.lt_irrefl _), scopedRest0_eq]
    iintro H
    isplitl [H]; · iexact H
    iempintro

/-- The arguments end unchanged, the semaphores at zero. -/
theorem run_frame (g : Dev nD → PrngReg) :
    θ_run (Cert.KernelSiblingRowsIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run Cert.KernelSiblingRowsIdeal.defs _ _).mono (fun _ h => ⟨fun c => (h.1 c).2.2.2.2.2.2.2, h.2⟩) (run_main m g)

theorem frame_ideal : Cert.quiescent_KernelSiblingRowsIdeal := fun m g _ => run_frame (F := Ideal) m g

/-- The two printed programs have one body table. -/
theorem bodies_eq : Cert.KernelSiblingRows.defs₀ (F := F) = Cert.KernelSiblingRowsIdeal.defs₀ (F := F) :=
  congrArg (Defs.onTc (τ := Cert.KernelSiblingRows.τ)) (funext fun b => funext fun a => match b, a with
    | ⟨0, _⟩, (t, s) => rfl
    | ⟨_ + 1, h⟩, _ => absurd h (Nat.not_lt.2 (Nat.le_add_left _ _)))

theorem defs_eq : Cert.KernelSiblingRows.defs (F := F) = Cert.KernelSiblingRowsIdeal.defs (F := F) := by
  unfold Cert.KernelSiblingRows.defs Cert.KernelSiblingRowsIdeal.defs
  rw [bodies_eq]
  rfl

theorem frame_kernel : Cert.quiescent_KernelSiblingRows := fun m g _ => by
  rw [defs_eq]
  exact run_frame (F := Bits) m g

end Cert.SiblingRows

end
-- ==== Proof.SiblingRowsRef.lean ====
/-
  The run of the reference of the sibling's rows' products and exchanges: on its one device, over any float values, where its results end and its
  arguments unchanged.
-/
module

public import Idealize.ShloMosaic.Lib.StableHlo.Run
public import Idealize.ShloMosaic.Lib.Pipeline.Frame
public import proofs.«01_k».proof.Defs
public import proofs.«01_k».proof.Proof.Gen.ReferenceSiblingRowsIdeal

@[expose] public section

noncomputable section

namespace Cert.SiblingRows.Ref

open Cert.ReferenceSiblingRowsIdeal Cert.ReferenceSiblingRowsIdeal.Gen
open Idealize.ShloMosaic Idealize.ShloMosaic.TcCoe Idealize.ShloMosaic.StableHlo Idealize.SL.Sem

variable {F : FTy → Type} [FloatOps F]

/-- Result 0 of the arguments. -/
def out0 (x0 : FVec F S8192x4224 .bf16) (x1 : FVec F S33792x10240 .bf16) : FVec F S32x1024x2560 .bf16 :=
  (shapeCast S32x1024x2560 (transpose S8x4x1024x2560 [0, 2, 1, 3] (shapeCast S8x1024x4x2560 (truncf .bf16 (Host.dotGeneral dot_S8x1024x4224_S8x4224x10240_S8x1024x10240_2_1_1_2_0_0 none (shapeCast S8x1024x4224 x0 shapeCasts_S8192x4224_S8x1024x4224) (shapeCast S8x4224x10240 x1 shapeCasts_S33792x10240_S8x4224x10240)) bitsLt_bf16_f32) shapeCasts_S8x1024x10240_S8x1024x4x2560) transposes_S8x1024x4x2560_S8x4x1024x2560_0_2_1_3) shapeCasts_S8x4x1024x2560_S32x1024x2560)

/-- Result 1, stage by stage: main_v7, -/
def out1_0 (x2 : FVec F S32x2x256x512 .bf16) : FVec F S4x2x4x2x256x512 .bf16 :=
  (shapeCast S4x2x4x2x256x512 x2 shapeCasts_S32x2x256x512_S4x2x4x2x256x512)

/-- its end, -/
def out1_1 (t : FVec F S4x2x4x2x256x512 .bf16) : FVec F S32x256x512 .bf16 :=
  (shapeCast S32x256x512 (concatenate S4x2x4x256x512 1 [⟨S4x1x4x256x512, (broadcastInDim S4x1x4x256x512 ![0, 2, 3, 4] bcast_S4x4x256x512_S4x1x4x256x512_0_2_3_4 (shapeCast S4x4x256x512 (extractStridedSlice S4x1x4x1x256x512 ![0, 1, 0, 0, 0, 0] t slices_S4x2x4x2x256x512_S4x1x4x1x256x512_0_1_0_0_0_0) shapeCasts_S4x1x4x1x256x512_S4x4x256x512))⟩, ⟨S4x1x4x256x512, (broadcastInDim S4x1x4x256x512 ![0, 2, 3, 4] bcast_S4x4x256x512_S4x1x4x256x512_0_2_3_4 (shapeCast S4x4x256x512 (extractStridedSlice S4x1x4x1x256x512 ![0, 0, 0, 1, 0, 0] t slices_S4x2x4x2x256x512_S4x1x4x1x256x512_0_0_0_1_0_0) shapeCasts_S4x1x4x1x256x512_S4x4x256x512))⟩] concatenates_S4x1x4x256x512_S4x1x4x256x512_S4x2x4x256x512_d1) shapeCasts_S4x2x4x256x512_S32x256x512)

/-- and the whole. -/
def out1 (x2 : FVec F S32x2x256x512 .bf16) : FVec F S32x256x512 .bf16 :=
  out1_1 (out1_0 x2)

/-- Result 2, stage by stage: main_v16, -/
def out2_0 (x3 : FVec F S32x2x256x256 .bf16) : FVec F S4x2x4x2x256x256 .bf16 :=
  (shapeCast S4x2x4x2x256x256 x3 shapeCasts_S32x2x256x256_S4x2x4x2x256x256)

/-- its end, -/
def out2_1 (t : FVec F S4x2x4x2x256x256 .bf16) : FVec F S32x256x256 .bf16 :=
  (shapeCast S32x256x256 (concatenate S4x2x4x256x256 1 [⟨S4x1x4x256x256, (broadcastInDim S4x1x4x256x256 ![0, 2, 3, 4] bcast_S4x4x256x256_S4x1x4x256x256_0_2_3_4 (shapeCast S4x4x256x256 (extractStridedSlice S4x1x4x1x256x256 ![0, 1, 0, 0, 0, 0] t slices_S4x2x4x2x256x256_S4x1x4x1x256x256_0_1_0_0_0_0) shapeCasts_S4x1x4x1x256x256_S4x4x256x256))⟩, ⟨S4x1x4x256x256, (broadcastInDim S4x1x4x256x256 ![0, 2, 3, 4] bcast_S4x4x256x256_S4x1x4x256x256_0_2_3_4 (shapeCast S4x4x256x256 (extractStridedSlice S4x1x4x1x256x256 ![0, 0, 0, 1, 0, 0] t slices_S4x2x4x2x256x256_S4x1x4x1x256x256_0_0_0_1_0_0) shapeCasts_S4x1x4x1x256x256_S4x4x256x256))⟩] concatenates_S4x1x4x256x256_S4x1x4x256x256_S4x2x4x256x256_d1) shapeCasts_S4x2x4x256x256_S32x256x256)

/-- and the whole. -/
def out2 (x3 : FVec F S32x2x256x256 .bf16) : FVec F S32x256x256 .bf16 :=
  out2_1 (out2_0 x3)

/-- Results 4 and 5 of the arguments. -/
def out4 (x5 : FVec F S8192x2048 .f32) : FVec F S8192x2048 .f32 :=
  (shapeCast S8192x2048 (Host.reverse [1] (shapeCast S4x2x1024x2048 x5 shapeCasts_S8192x2048_S4x2x1024x2048)) shapeCasts_S4x2x1024x2048_S8192x2048)

/-- Result 6 of the arguments. -/
def out6 (x7 : FVec F S32x256x2048 .bf16) : FVec F S24x256x2048 .bf16 :=
  (shapeCast S24x256x2048 (transpose S4x2x3x256x2048 [0, 2, 1, 3, 4] (shapeCast S4x3x2x256x2048 (concatenate S24x256x2048 0 [⟨S2x256x2048, (Host.slice S2x256x2048 ![16, 0, 0] ![4, 1, 1] x7 slicesBy_S32x256x2048_S2x256x2048_16s4_0s1_0s1)⟩, ⟨S2x256x2048, (Host.slice S2x256x2048 ![8, 0, 0] ![4, 1, 1] x7 slicesBy_S32x256x2048_S2x256x2048_8s4_0s1_0s1)⟩, ⟨S2x256x2048, (Host.slice S2x256x2048 ![24, 0, 0] ![4, 1, 1] x7 slicesBy_S32x256x2048_S2x256x2048_24s4_0s1_0s1)⟩, ⟨S2x256x2048, (Host.slice S2x256x2048 ![25, 0, 0] ![4, 1, 1] x7 slicesBy_S32x256x2048_S2x256x2048_25s4_0s1_0s1)⟩, ⟨S2x256x2048, (Host.slice S2x256x2048 ![1, 0, 0] ![4, 1, 1] x7 slicesBy_S32x256x2048_S2x256x2048_1s4_0s1_0s1)⟩, ⟨S2x256x2048, (Host.slice S2x256x2048 ![17, 0, 0] ![4, 1, 1] x7 slicesBy_S32x256x2048_S2x256x2048_17s4_0s1_0s1)⟩, ⟨S2x256x2048, (Host.slice S2x256x2048 ![2, 0, 0] ![4, 1, 1] x7 slicesBy_S32x256x2048_S2x256x2048_2s4_0s1_0s1)⟩, ⟨S2x256x2048, (Host.slice S2x256x2048 ![26, 0, 0] ![4, 1, 1] x7 slicesBy_S32x256x2048_S2x256x2048_26s4_0s1_0s1)⟩, ⟨S2x256x2048, (Host.slice S2x256x2048 ![10, 0, 0] ![4, 1, 1] x7 slicesBy_S32x256x2048_S2x256x2048_10s4_0s1_0s1)⟩, ⟨S2x256x2048, (Host.slice S2x256x2048 ![11, 0, 0] ![4, 1, 1] x7 slicesBy_S32x256x2048_S2x256x2048_11s4_0s1_0s1)⟩, ⟨S2x256x2048, (Host.slice S2x256x2048 ![19, 0, 0] ![4, 1, 1] x7 slicesBy_S32x256x2048_S2x256x2048_19s4_0s1_0s1)⟩, ⟨S2x256x2048, (Host.slice S2x256x2048 ![3, 0, 0] ![4, 1, 1] x7 slicesBy_S32x256x2048_S2x256x2048_3s4_0s1_0s1)⟩] concatenates_S2x256x2048_S2x256x2048_S2x256x2048_S2x256x2048_S2x256x2048_S2x256x2048_S2x256x2048_S2x256x2048_S2x256x2048_S2x256x2048_S2x256x2048_S2x256x2048_S24x256x2048_d0) shapeCasts_S24x256x2048_S4x3x2x256x2048) transposes_S4x3x2x256x2048_S4x2x3x256x2048_0_2_1_3_4) shapeCasts_S4x2x3x256x2048_S24x256x2048)

/-- The operations of the run, in order. -/
abbrev ops : List (HloOp τ sig (Elt F)) :=
  [ reshape main_arg0 main_v0 rfl shapeCasts_S8192x4224_S8x1024x4224,
    reshape main_arg1 main_v1 rfl shapeCasts_S33792x10240_S8x4224x10240,
    binary main_v0 main_v1 main_v2 (fun l r => Host.dotGeneral dot_S8x1024x4224_S8x4224x10240_S8x1024x10240_2_1_1_2_0_0 none l r),
    unary main_v2 main_v3 (truncf .bf16 · bitsLt_bf16_f32),
    reshape main_v3 main_v4 rfl shapeCasts_S8x1024x10240_S8x1024x4x2560,
    unary main_v4 main_v5 (transpose S8x4x1024x2560 [0, 2, 1, 3] · transposes_S8x1024x4x2560_S8x4x1024x2560_0_2_1_3),
    reshape main_v5 main_v6 rfl shapeCasts_S8x4x1024x2560_S32x1024x2560,
    reshape main_arg2 main_v7 rfl shapeCasts_S32x2x256x512_S4x2x4x2x256x512,
    unary main_v7 main_v8 (extractStridedSlice S4x1x4x1x256x512 ![0, 1, 0, 0, 0, 0] · slices_S4x2x4x2x256x512_S4x1x4x1x256x512_0_1_0_0_0_0),
    reshape main_v8 main_v9 rfl shapeCasts_S4x1x4x1x256x512_S4x4x256x512,
    unary main_v7 main_v10 (extractStridedSlice S4x1x4x1x256x512 ![0, 0, 0, 1, 0, 0] · slices_S4x2x4x2x256x512_S4x1x4x1x256x512_0_0_0_1_0_0),
    reshape main_v10 main_v11 rfl shapeCasts_S4x1x4x1x256x512_S4x4x256x512,
    unary main_v9 main_v12 (broadcastInDim S4x1x4x256x512 ![0, 2, 3, 4] bcast_S4x4x256x512_S4x1x4x256x512_0_2_3_4),
    unary main_v11 main_v13 (broadcastInDim S4x1x4x256x512 ![0, 2, 3, 4] bcast_S4x4x256x512_S4x1x4x256x512_0_2_3_4),
    binary main_v12 main_v13 main_v14 (fun a b => concatenate S4x2x4x256x512 1 [⟨S4x1x4x256x512, a⟩, ⟨S4x1x4x256x512, b⟩] concatenates_S4x1x4x256x512_S4x1x4x256x512_S4x2x4x256x512_d1),
    reshape main_v14 main_v15 rfl shapeCasts_S4x2x4x256x512_S32x256x512,
    reshape main_arg3 main_v16 rfl shapeCasts_S32x2x256x256_S4x2x4x2x256x256,
    unary main_v16 main_v17 (extractStridedSlice S4x1x4x1x256x256 ![0, 1, 0, 0, 0, 0] · slices_S4x2x4x2x256x256_S4x1x4x1x256x256_0_1_0_0_0_0),
    reshape main_v17 main_v18 rfl shapeCasts_S4x1x4x1x256x256_S4x4x256x256,
    unary main_v16 main_v19 (extractStridedSlice S4x1x4x1x256x256 ![0, 0, 0, 1, 0, 0] · slices_S4x2x4x2x256x256_S4x1x4x1x256x256_0_0_0_1_0_0),
    reshape main_v19 main_v20 rfl shapeCasts_S4x1x4x1x256x256_S4x4x256x256,
    unary main_v18 main_v21 (broadcastInDim S4x1x4x256x256 ![0, 2, 3, 4] bcast_S4x4x256x256_S4x1x4x256x256_0_2_3_4),
    unary main_v20 main_v22 (broadcastInDim S4x1x4x256x256 ![0, 2, 3, 4] bcast_S4x4x256x256_S4x1x4x256x256_0_2_3_4),
    binary main_v21 main_v22 main_v23 (fun a b => concatenate S4x2x4x256x256 1 [⟨S4x1x4x256x256, a⟩, ⟨S4x1x4x256x256, b⟩] concatenates_S4x1x4x256x256_S4x1x4x256x256_S4x2x4x256x256_d1),
    reshape main_v23 main_v24 rfl shapeCasts_S4x2x4x256x256_S32x256x256,
    reshape main_arg4 main_v25 rfl shapeCasts_S32x2x256x256_S4x2x4x2x256x256,
    unary main_v25 main_v26 (extractStridedSlice S4x1x4x1x256x256 ![0, 1, 0, 0, 0, 0] · slices_S4x2x4x2x256x256_S4x1x4x1x256x256_0_1_0_0_0_0),
    reshape main_v26 main_v27 rfl shapeCasts_S4x1x4x1x256x256_S4x4x256x256,
    unary main_v25 main_v28 (extractStridedSlice S4x1x4x1x256x256 ![0, 0, 0, 1, 0, 0] · slices_S4x2x4x2x256x256_S4x1x4x1x256x256_0_0_0_1_0_0),
    reshape main_v28 main_v29 rfl shapeCasts_S4x1x4x1x256x256_S4x4x256x256,
    unary main_v27 main_v30 (broadcastInDim S4x1x4x256x256 ![0, 2, 3, 4] bcast_S4x4x256x256_S4x1x4x256x256_0_2_3_4),
    unary main_v29 main_v31 (broadcastInDim S4x1x4x256x256 ![0, 2, 3, 4] bcast_S4x4x256x256_S4x1x4x256x256_0_2_3_4),
    binary main_v30 main_v31 main_v32 (fun a b => concatenate S4x2x4x256x256 1 [⟨S4x1x4x256x256, a⟩, ⟨S4x1x4x256x256, b⟩] concatenates_S4x1x4x256x256_S4x1x4x256x256_S4x2x4x256x256_d1),
    reshape main_v32 main_v33 rfl shapeCasts_S4x2x4x256x256_S32x256x256,
    reshape main_arg5 main_v34 rfl shapeCasts_S8192x2048_S4x2x1024x2048,
    unary main_v34 main_v35 (Host.reverse [1]),
    reshape main_v35 main_v36 rfl shapeCasts_S4x2x1024x2048_S8192x2048,
    reshape main_arg6 main_v37 rfl shapeCasts_S8192x2048_S4x2x1024x2048,
    unary main_v37 main_v38 (Host.reverse [1]),
    reshape main_v38 main_v39 rfl shapeCasts_S4x2x1024x2048_S8192x2048,
    unary main_arg7 main_v40 (Host.slice S2x256x2048 ![16, 0, 0] ![4, 1, 1] · slicesBy_S32x256x2048_S2x256x2048_16s4_0s1_0s1),
    unary main_arg7 main_v41 (Host.slice S2x256x2048 ![8, 0, 0] ![4, 1, 1] · slicesBy_S32x256x2048_S2x256x2048_8s4_0s1_0s1),
    unary main_arg7 main_v42 (Host.slice S2x256x2048 ![24, 0, 0] ![4, 1, 1] · slicesBy_S32x256x2048_S2x256x2048_24s4_0s1_0s1),
    unary main_arg7 main_v43 (Host.slice S2x256x2048 ![25, 0, 0] ![4, 1, 1] · slicesBy_S32x256x2048_S2x256x2048_25s4_0s1_0s1),
    unary main_arg7 main_v44 (Host.slice S2x256x2048 ![1, 0, 0] ![4, 1, 1] · slicesBy_S32x256x2048_S2x256x2048_1s4_0s1_0s1),
    unary main_arg7 main_v45 (Host.slice S2x256x2048 ![17, 0, 0] ![4, 1, 1] · slicesBy_S32x256x2048_S2x256x2048_17s4_0s1_0s1),
    unary main_arg7 main_v46 (Host.slice S2x256x2048 ![2, 0, 0] ![4, 1, 1] · slicesBy_S32x256x2048_S2x256x2048_2s4_0s1_0s1),
    unary main_arg7 main_v47 (Host.slice S2x256x2048 ![26, 0, 0] ![4, 1, 1] · slicesBy_S32x256x2048_S2x256x2048_26s4_0s1_0s1),
    unary main_arg7 main_v48 (Host.slice S2x256x2048 ![10, 0, 0] ![4, 1, 1] · slicesBy_S32x256x2048_S2x256x2048_10s4_0s1_0s1),
    unary main_arg7 main_v49 (Host.slice S2x256x2048 ![11, 0, 0] ![4, 1, 1] · slicesBy_S32x256x2048_S2x256x2048_11s4_0s1_0s1),
    unary main_arg7 main_v50 (Host.slice S2x256x2048 ![19, 0, 0] ![4, 1, 1] · slicesBy_S32x256x2048_S2x256x2048_19s4_0s1_0s1),
    unary main_arg7 main_v51 (Host.slice S2x256x2048 ![3, 0, 0] ![4, 1, 1] · slicesBy_S32x256x2048_S2x256x2048_3s4_0s1_0s1),
    nary ![main_v40, main_v41, main_v42, main_v43, main_v44, main_v45, main_v46, main_v47, main_v48, main_v49, main_v50, main_v51] main_v52 (fun u => (concatenate S24x256x2048 0 [⟨S2x256x2048, (u 0 : (⟨S2x256x2048, .bf16⟩ : BufTy).Contents (Elt F))⟩, ⟨S2x256x2048, (u 1 : (⟨S2x256x2048, .bf16⟩ : BufTy).Contents (Elt F))⟩, ⟨S2x256x2048, (u 2 : (⟨S2x256x2048, .bf16⟩ : BufTy).Contents (Elt F))⟩, ⟨S2x256x2048, (u 3 : (⟨S2x256x2048, .bf16⟩ : BufTy).Contents (Elt F))⟩, ⟨S2x256x2048, (u 4 : (⟨S2x256x2048, .bf16⟩ : BufTy).Contents (Elt F))⟩, ⟨S2x256x2048, (u 5 : (⟨S2x256x2048, .bf16⟩ : BufTy).Contents (Elt F))⟩, ⟨S2x256x2048, (u 6 : (⟨S2x256x2048, .bf16⟩ : BufTy).Contents (Elt F))⟩, ⟨S2x256x2048, (u 7 : (⟨S2x256x2048, .bf16⟩ : BufTy).Contents (Elt F))⟩, ⟨S2x256x2048, (u 8 : (⟨S2x256x2048, .bf16⟩ : BufTy).Contents (Elt F))⟩, ⟨S2x256x2048, (u 9 : (⟨S2x256x2048, .bf16⟩ : BufTy).Contents (Elt F))⟩, ⟨S2x256x2048, (u 10 : (⟨S2x256x2048, .bf16⟩ : BufTy).Contents (Elt F))⟩, ⟨S2x256x2048, (u 11 : (⟨S2x256x2048, .bf16⟩ : BufTy).Contents (Elt F))⟩] concatenates_S2x256x2048_S2x256x2048_S2x256x2048_S2x256x2048_S2x256x2048_S2x256x2048_S2x256x2048_S2x256x2048_S2x256x2048_S2x256x2048_S2x256x2048_S2x256x2048_S24x256x2048_d0 : (⟨S24x256x2048, .bf16⟩ : BufTy).Contents (Elt F))),
    reshape main_v52 main_v53 rfl shapeCasts_S24x256x2048_S4x3x2x256x2048,
    unary main_v53 main_v54 (transpose S4x2x3x256x2048 [0, 2, 1, 3, 4] · transposes_S4x3x2x256x2048_S4x2x3x256x2048_0_2_1_3_4),
    reshape main_v54 main_v55 rfl shapeCasts_S4x2x3x256x2048_S24x256x2048 ]

theorem main_eq (c : Dev nD) : main (F := F) c = seq ops := rfl

theorem out0_eq (V : Valuation τ sig (Elt F)) : after ops V (main_v6 : DevRef τ sig) = out0 (V (main_arg0 : DevRef τ sig)) (V (main_arg1 : DevRef τ sig)) := by
  after_results
  rfl

theorem out1_eq (V : Valuation τ sig (Elt F)) : after ops V (main_v15 : DevRef τ sig) = out1 (V (main_arg2 : DevRef τ sig)) := by
  after_results
  rfl

theorem out2_eq (V : Valuation τ sig (Elt F)) : after ops V (main_v24 : DevRef τ sig) = out2 (V (main_arg3 : DevRef τ sig)) := by
  after_results
  rfl

theorem out3_eq (V : Valuation τ sig (Elt F)) : after ops V (main_v33 : DevRef τ sig) = out2 (V (main_arg4 : DevRef τ sig)) := by
  after_results
  rfl

theorem out4_eq (V : Valuation τ sig (Elt F)) : after ops V (main_v36 : DevRef τ sig) = out4 (V (main_arg5 : DevRef τ sig)) := by
  after_results
  rfl

theorem out5_eq (V : Valuation τ sig (Elt F)) : after ops V (main_v39 : DevRef τ sig) = out4 (V (main_arg6 : DevRef τ sig)) := by
  after_results
  rfl

theorem out6_eq (V : Valuation τ sig (Elt F)) : after ops V (main_v55 : DevRef τ sig) = out6 (V (main_arg7 : DevRef τ sig)) := by
  after_results
  rfl

theorem x0_eq (V : Valuation τ sig (Elt F)) : after ops V (main_arg0 : DevRef τ sig) = V (main_arg0 : DevRef τ sig) := by
  after_results

theorem x1_eq (V : Valuation τ sig (Elt F)) : after ops V (main_arg1 : DevRef τ sig) = V (main_arg1 : DevRef τ sig) := by
  after_results

theorem x2_eq (V : Valuation τ sig (Elt F)) : after ops V (main_arg2 : DevRef τ sig) = V (main_arg2 : DevRef τ sig) := by
  after_results

theorem x3_eq (V : Valuation τ sig (Elt F)) : after ops V (main_arg3 : DevRef τ sig) = V (main_arg3 : DevRef τ sig) := by
  after_results

theorem x4_eq (V : Valuation τ sig (Elt F)) : after ops V (main_arg4 : DevRef τ sig) = V (main_arg4 : DevRef τ sig) := by
  after_results

theorem x5_eq (V : Valuation τ sig (Elt F)) : after ops V (main_arg5 : DevRef τ sig) = V (main_arg5 : DevRef τ sig) := by
  after_results

theorem x6_eq (V : Valuation τ sig (Elt F)) : after ops V (main_arg6 : DevRef τ sig) = V (main_arg6 : DevRef τ sig) := by
  after_results

theorem x7_eq (V : Valuation τ sig (Elt F)) : after ops V (main_arg7 : DevRef τ sig) = V (main_arg7 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., binary_bufs_sub .., unary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., reshape_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v6) = out0 (m ((c : Thread nD τ).loc main_arg0)) (m ((c : Thread nD τ).loc main_arg1))
      ∧ r.2.mem ((c : Thread nD τ).loc main_v15) = out1 (m ((c : Thread nD τ).loc main_arg2))
      ∧ r.2.mem ((c : Thread nD τ).loc main_v24) = out2 (m ((c : Thread nD τ).loc main_arg3))
      ∧ r.2.mem ((c : Thread nD τ).loc main_v33) = out2 (m ((c : Thread nD τ).loc main_arg4))
      ∧ r.2.mem ((c : Thread nD τ).loc main_v36) = out4 (m ((c : Thread nD τ).loc main_arg5))
      ∧ r.2.mem ((c : Thread nD τ).loc main_v39) = out4 (m ((c : Thread nD τ).loc main_arg6))
      ∧ r.2.mem ((c : Thread nD τ).loc main_v55) = out6 (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c main_v6).trans (out0_eq _), (h c main_v15).trans (out1_eq _), (h c main_v24).trans (out2_eq _), (h c main_v33).trans (out3_eq _), (h c main_v36).trans (out4_eq _), (h c main_v39).trans (out5_eq _), (h c main_v55).trans (out6_eq _), (h c main_arg0).trans (x0_eq _), (h c main_arg1).trans (x1_eq _), (h c main_arg2).trans (x2_eq _), (h c main_arg3).trans (x3_eq _), (h c main_arg4).trans (x4_eq _), (h c main_arg5).trans (x5_eq _), (h c main_arg6).trans (x6_eq _), (h c main_arg7).trans (x7_eq _)⟩)
    (run_seq scopedRefs_eq scopedSems_eq defs main (fun _ => ops) main_eq (fun _ => ops_sub) m ρ)

theorem frame : Cert.quiescent_ReferenceSiblingRowsIdeal := fun m g _ =>
  (θ_run defs _ _).mono (fun r h => ⟨fun c => (h c).2.2.2.2.2.2.2, sem_eq_zero_of_no_sems (by decide) r.2⟩)
    (run_main (F := Ideal) m g)

end Cert.SiblingRows.Ref

end
-- ==== Proof.SiblingRowsValue.lean ====
/-
  What the projection's weight gradient, sibling's rows computes, at the ideal values: each device's block of the reference's results.
-/
module

public import proofs.«01_k».proof.Proof.ChipRows
public import proofs.«01_k».proof.Proof.SiblingRowsRun
public import proofs.«01_k».proof.Proof.SiblingRowsRef

@[expose] public section

set_option maxRecDepth 16384

noncomputable section

namespace Cert.SiblingRows

open Cert.KernelSiblingRowsIdeal Cert.KernelSiblingRowsIdeal.Gen Cert.Exchange

open Idealize.ShloMosaic Idealize.ShloMosaic.TcCoe
open Idealize.SL Idealize.SL.Sem
open Idealize.ShloMosaic.Pipeline (Dat Cfg Window)

variable (m : (ℓ : Loc nD τ sig) → Buf (Elt Ideal) ℓ)

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 1).val / 2, 0, (grid0.coords t 1).val % 2] :=
  (by decide +kernel : ∀ t : Fin grid0.N, _)

/-- A device's products: rows of the first argument by columns of the second, four blocks of columns apart. -/
def product (a : S1024x4224.Idx → EReal) (b : S4224x10240.Idx → EReal) : S4x1024x2560.Idx → EReal :=
  fun x => ∑ k : Fin 4224, a (ix2 (x 1) k) * b (ix2 k ⟨(x 0).val * 2560 + (x 2).val, by
    have h0 : (x 0).val < 4 := (x 0).isLt
    have h2 : (x 2).val < 2560 := (x 2).isLt
    omega⟩)

theorem product_end (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  show k0_pay1 (iblk m c 0 t) (iblk m c 1 t) y = _
  pointwise [k0_pay1, product]
  blk_simp [iblk, index_0, index_1, index_2]
  have h1 : (grid0.coords t 1).val < 8 := (grid0.coords t 1).isLt
  idx_bounds y
  refine Finset.sum_congr rfl fun k _ => congrArg₂ (· * ·)
    (congrArg (m ((c : Thread nD τ).loc main_arg0)) ?_) (congrArg (m ((c : Thread nD τ).loc main_arg1)) ?_)
  · blk_ext [index_0, index_2]
  · blk_ext [index_1, index_2]

/-- A device's block of the reference's products. -/
theorem product_block (c : Dev nD) (a : FVec Ideal Cert.ReferenceSiblingRowsIdeal.S8192x4224 .bf16) (b : FVec Ideal Cert.ReferenceSiblingRowsIdeal.S33792x10240 .bf16) :
    product (Layout.block ⟨2, ![1024, 4224]⟩ ⟨2, ![8192, 4224]⟩ 0 8 c a) (Layout.block ⟨2, ![4224, 10240]⟩ ⟨2, ![33792, 10240]⟩ 0 8 c b)
      = Layout.block ⟨3, ![4, 1024, 2560]⟩ ⟨3, ![32, 1024, 2560]⟩ 0 8 c (Ref.out0 a b) := by
  funext x
  idx_vars x
  rw [block3]
  pointwise [Ref.out0, product]
  have e0 : (c.val * 4 + x0.val) / 4 = c.val := by omega
  have e1 : (c.val * 4 + x0.val) % 4 = x0.val := by omega
  simp only [block2, e0, e1]

/-- The sibling. -/
def sib (c : Dev nD) : Dev nD := ⟨k0_dev1 c, k0_dev1_lt (grid0.coords t0_0) c cond1_first⟩

theorem sib_val : ∀ c : Dev nD, (sib c).val = 4 * (c.val / 4) + 2 * ((c.val / 2) % 2) + 1 - c.val % 2 := by decide +kernel

/-- A device's half of the two. -/
def mine (c : Dev nD) : Fin 2 := ⟨c.val % 2, Nat.mod_lt _ (by decide)⟩

/-- The device of the same core on each other chip: along the first axis, along the second, across. -/
def chip (j : Fin 3) (c : Dev nD) : Dev nD :=
  match j with
  | 0 => ⟨k0_dev15 c, k0_dev15_lt (grid0.coords t0_0) c cond1_first⟩
  | 1 => ⟨k0_dev16 c, k0_dev16_lt (grid0.coords t0_0) c cond1_first⟩
  | 2 => ⟨k0_dev17 c, k0_dev17_lt (grid0.coords t0_0) c cond1_first⟩

/-- A device's chip, the slot kept for it. -/
def spot (c : Dev nD) : Fin 4 := ⟨c.val / 2, by have : c.val < 8 := c.isLt; omega⟩

/-- Which of the reference's rows is the slot kept for a device. -/
theorem rows_start : ∀ (c : Dev nD) (j : Fin 3), (chip j c).val * 4 + (spot c).val
    = starts ⟨(c.val * 3 + j.val) / 6 * 3 + (c.val * 3 + j.val) % 3, by have : c.val < 8 := c.isLt; have := j.isLt; omega⟩
      + 4 * ((c.val * 3 + j.val) / 3 % 2) := by decide +kernel

/-- Where an element of a slot of `main_arg2` lies. -/
theorem emb_arg2 (off : Fin 4 → ℕ) (h) (r : Fin 256) (s : Fin 512) (k : Fin 4) (e : Fin 2) (ho : off = ![k.val, e.val, 0, 0]) :
    (cut_arg2 off h).view.emb (ix2 r s) = (ix4 k e r s : S4x2x256x512.Idx) := by
  subst ho
  show (Rect.unit (s := S4x2x256x512) _ S1x1x256x512.size h).emb (Shape.reshapeEquiv squeezes_S1x1x256x512_S256x512.numel_eq (ix2 r s)) = _
  pointwise
  blk_ext

/-- Where an element of a slot of `main_v1_1` lies. -/
theorem emb_v1_1 (off : Fin 3 → ℕ) (h) (r : Fin 256) (s : Fin 512) (k : Fin 4) (ho : off = ![k.val, 0, 0]) :
    (cut_v1_1 off h).view.emb (ix2 r s) = (ix3 k r s : S4x256x512.Idx) := by
  subst ho
  show (Rect.unit (s := S4x256x512) _ S1x256x512.size h).emb (Shape.reshapeEquiv squeezes_S1x256x512_S256x512.numel_eq (ix2 r s)) = _
  pointwise
  blk_ext

theorem source_1_0 : ∀ c : Dev nD, k0_off1 (sib c) = ![0, (mine c).val, 0, 0] := by decide +kernel

theorem landed_1_0 (c : Dev nD) (r : Fin 256) (s : Fin 512) :
    ending copies order m c main_v1_1 (ix3 (0 : Fin 4) r s) = m ((sib c : Thread nD τ).loc main_arg2) (ix4 (0 : Fin 4) (mine c) r s) :=
  (congrArg (ending copies order m c main_v1_1) (emb_v1_1 _ inb_S4x256x512_S1x256x512_0_0_0 r s 0 rfl)).symm.trans <|
    (ending_at m copies_ok copies_apart c 0 (ix2 r s)).trans (congrArg (m ((sib c : Thread nD τ).loc main_arg2))
      (emb_arg2 (k0_off1 (sib c)) _ r s 0 (mine c) (source_1_0 c)))

theorem source_1_1 : ∀ c : Dev nD, k0_off2 (sib c) = ![1, (mine c).val, 0, 0] := by decide +kernel

theorem landed_1_1 (c : Dev nD) (r : Fin 256) (s : Fin 512) :
    ending copies order m c main_v1_1 (ix3 (1 : Fin 4) r s) = m ((sib c : Thread nD τ).loc main_arg2) (ix4 (1 : Fin 4) (mine c) r s) :=
  (congrArg (ending copies order m c main_v1_1) (emb_v1_1 _ inb_S4x256x512_S1x256x512_1_0_0 r s 1 rfl)).symm.trans <|
    (ending_at m copies_ok copies_apart c 1 (ix2 r s)).trans (congrArg (m ((sib c : Thread nD τ).loc main_arg2))
      (emb_arg2 (k0_off2 (sib c)) _ r s 1 (mine c) (source_1_1 c)))

theorem source_1_2 : ∀ c : Dev nD, k0_off3 (sib c) = ![2, (mine c).val, 0, 0] := by decide +kernel

theorem landed_1_2 (c : Dev nD) (r : Fin 256) (s : Fin 512) :
    ending copies order m c main_v1_1 (ix3 (2 : Fin 4) r s) = m ((sib c : Thread nD τ).loc main_arg2) (ix4 (2 : Fin 4) (mine c) r s) :=
  (congrArg (ending copies order m c main_v1_1) (emb_v1_1 _ inb_S4x256x512_S1x256x512_2_0_0 r s 2 rfl)).symm.trans <|
    (ending_at m copies_ok copies_apart c 2 (ix2 r s)).trans (congrArg (m ((sib c : Thread nD τ).loc main_arg2))
      (emb_arg2 (k0_off3 (sib c)) _ r s 2 (mine c) (source_1_2 c)))

theorem source_1_3 : ∀ c : Dev nD, k0_off4 (sib c) = ![3, (mine c).val, 0, 0] := by decide +kernel

theorem landed_1_3 (c : Dev nD) (r : Fin 256) (s : Fin 512) :
    ending copies order m c main_v1_1 (ix3 (3 : Fin 4) r s) = m ((sib c : Thread nD τ).loc main_arg2) (ix4 (3 : Fin 4) (mine c) r s) :=
  (congrArg (ending copies order m c main_v1_1) (emb_v1_1 _ inb_S4x256x512_S1x256x512_3_0_0 r s 3 rfl)).symm.trans <|
    (ending_at m copies_ok copies_apart c 3 (ix2 r s)).trans (congrArg (m ((sib c : Thread nD τ).loc main_arg2))
      (emb_arg2 (k0_off4 (sib c)) _ r s 3 (mine c) (source_1_3 c)))

/-- Slot `k` of `main_v1_1` ends as the sibling's `main_arg2` there, its half for this device, -/
theorem landed_1 (c : Dev nD) (k : Fin 4) (r : Fin 256) (s : Fin 512) :
    ending copies order m c main_v1_1 (ix3 k r s) = m ((sib c : Thread nD τ).loc main_arg2) (ix4 k (mine c) r s) :=
  match k with
  | 0 => landed_1_0 m c r s
  | 1 => landed_1_1 m c r s
  | 2 => landed_1_2 m c r s
  | 3 => landed_1_3 m c r s

/-- the reference's block. -/
theorem block_1 (c : Dev nD) (g : FVec Ideal Cert.ReferenceSiblingRowsIdeal.S32x2x256x512 .bf16) (k : Fin 4) (r : Fin 256) (s : Fin 512) :
    (Layout.block ⟨4, ![4, 2, 256, 512]⟩ ⟨4, ![32, 2, 256, 512]⟩ 0 8 (sib c) g : S4x2x256x512.Idx → EReal) (ix4 k (mine c) r s)
      = (Layout.block ⟨3, ![4, 256, 512]⟩ ⟨3, ![32, 256, 512]⟩ 0 8 c (Ref.out1 g) : S4x256x512.Idx → EReal) (ix3 k r s) := by
  rw [block3, block4]
  pointwise [Ref.out1, Ref.out1_0, Ref.out1_1]
  have hc : c.val < 8 := c.isLt
  have hs := sib_val c
  have e0 : (c.val * 4 + k.val) / 4 = c.val := by omega
  have e1 : (c.val * 4 + k.val) % 4 = k.val := by omega
  have e2 : (c.val * 4 + k.val) / 8 = c.val / 2 := by omega
  simp only [e0, e1, e2]
  by_cases hp : c.val % 2 < 1
  · rw [dif_pos hp]
    exact congrArg g (congr_ix4 (show (sib c).val * 4 + k.val = c.val / 2 * 8 + 4 + k.val by omega) (show c.val % 2 = 0 by omega) rfl rfl)
  · rw [dif_neg hp]
    exact congrArg g (congr_ix4 (show (sib c).val * 4 + k.val = c.val / 2 * 8 + k.val by omega) (show c.val % 2 = 1 by omega) rfl rfl)

/-- Where an element of a slot of `main_arg3` lies. -/
theorem emb_arg3 (off : Fin 4 → ℕ) (h) (r : Fin 256) (s : Fin 256) (k : Fin 4) (e : Fin 2) (ho : off = ![k.val, e.val, 0, 0]) :
    (cut_arg3 off h).view.emb (ix2 r s) = (ix4 k e r s : S4x2x256x256.Idx) := by
  subst ho
  show (Rect.unit (s := S4x2x256x256) _ S1x1x256x256.size h).emb (Shape.reshapeEquiv squeezes_S1x1x256x256_S256x256.numel_eq (ix2 r s)) = _
  pointwise
  blk_ext

/-- Where an element of a slot of `main_v1_2` lies. -/
theorem emb_v1_2 (off : Fin 3 → ℕ) (h) (r : Fin 256) (s : Fin 256) (k : Fin 4) (ho : off = ![k.val, 0, 0]) :
    (cut_v1_2 off h).view.emb (ix2 r s) = (ix3 k r s : S4x256x256.Idx) := by
  subst ho
  show (Rect.unit (s := S4x256x256) _ S1x256x256.size h).emb (Shape.reshapeEquiv squeezes_S1x256x256_S256x256.numel_eq (ix2 r s)) = _
  pointwise
  blk_ext

theorem source_2_0 : ∀ c : Dev nD, k0_off5 (sib c) = ![0, (mine c).val, 0, 0] := by decide +kernel

theorem landed_2_0 (c : Dev nD) (r : Fin 256) (s : Fin 256) :
    ending copies order m c main_v1_2 (ix3 (0 : Fin 4) r s) = m ((sib c : Thread nD τ).loc main_arg3) (ix4 (0 : Fin 4) (mine c) r s) :=
  (congrArg (ending copies order m c main_v1_2) (emb_v1_2 _ inb_S4x256x256_S1x256x256_0_0_0 r s 0 rfl)).symm.trans <|
    (ending_at m copies_ok copies_apart c 4 (ix2 r s)).trans (congrArg (m ((sib c : Thread nD τ).loc main_arg3))
      (emb_arg3 (k0_off5 (sib c)) _ r s 0 (mine c) (source_2_0 c)))

theorem source_2_1 : ∀ c : Dev nD, k0_off6 (sib c) = ![1, (mine c).val, 0, 0] := by decide +kernel

theorem landed_2_1 (c : Dev nD) (r : Fin 256) (s : Fin 256) :
    ending copies order m c main_v1_2 (ix3 (1 : Fin 4) r s) = m ((sib c : Thread nD τ).loc main_arg3) (ix4 (1 : Fin 4) (mine c) r s) :=
  (congrArg (ending copies order m c main_v1_2) (emb_v1_2 _ inb_S4x256x256_S1x256x256_1_0_0 r s 1 rfl)).symm.trans <|
    (ending_at m copies_ok copies_apart c 5 (ix2 r s)).trans (congrArg (m ((sib c : Thread nD τ).loc main_arg3))
      (emb_arg3 (k0_off6 (sib c)) _ r s 1 (mine c) (source_2_1 c)))

theorem source_2_2 : ∀ c : Dev nD, k0_off7 (sib c) = ![2, (mine c).val, 0, 0] := by decide +kernel

theorem landed_2_2 (c : Dev nD) (r : Fin 256) (s : Fin 256) :
    ending copies order m c main_v1_2 (ix3 (2 : Fin 4) r s) = m ((sib c : Thread nD τ).loc main_arg3) (ix4 (2 : Fin 4) (mine c) r s) :=
  (congrArg (ending copies order m c main_v1_2) (emb_v1_2 _ inb_S4x256x256_S1x256x256_2_0_0 r s 2 rfl)).symm.trans <|
    (ending_at m copies_ok copies_apart c 6 (ix2 r s)).trans (congrArg (m ((sib c : Thread nD τ).loc main_arg3))
      (emb_arg3 (k0_off7 (sib c)) _ r s 2 (mine c) (source_2_2 c)))

theorem source_2_3 : ∀ c : Dev nD, k0_off8 (sib c) = ![3, (mine c).val, 0, 0] := by decide +kernel

theorem landed_2_3 (c : Dev nD) (r : Fin 256) (s : Fin 256) :
    ending copies order m c main_v1_2 (ix3 (3 : Fin 4) r s) = m ((sib c : Thread nD τ).loc main_arg3) (ix4 (3 : Fin 4) (mine c) r s) :=
  (congrArg (ending copies order m c main_v1_2) (emb_v1_2 _ inb_S4x256x256_S1x256x256_3_0_0 r s 3 rfl)).symm.trans <|
    (ending_at m copies_ok copies_apart c 7 (ix2 r s)).trans (congrArg (m ((sib c : Thread nD τ).loc main_arg3))
      (emb_arg3 (k0_off8 (sib c)) _ r s 3 (mine c) (source_2_3 c)))

/-- Slot `k` of `main_v1_2` ends as the sibling's `main_arg3` there, its half for this device, -/
theorem landed_2 (c : Dev nD) (k : Fin 4) (r : Fin 256) (s : Fin 256) :
    ending copies order m c main_v1_2 (ix3 k r s) = m ((sib c : Thread nD τ).loc main_arg3) (ix4 k (mine c) r s) :=
  match k with
  | 0 => landed_2_0 m c r s
  | 1 => landed_2_1 m c r s
  | 2 => landed_2_2 m c r s
  | 3 => landed_2_3 m c r s

/-- the reference's block. -/
theorem block_2 (c : Dev nD) (g : FVec Ideal Cert.ReferenceSiblingRowsIdeal.S32x2x256x256 .bf16) (k : Fin 4) (r : Fin 256) (s : Fin 256) :
    (Layout.block ⟨4, ![4, 2, 256, 256]⟩ ⟨4, ![32, 2, 256, 256]⟩ 0 8 (sib c) g : S4x2x256x256.Idx → EReal) (ix4 k (mine c) r s)
      = (Layout.block ⟨3, ![4, 256, 256]⟩ ⟨3, ![32, 256, 256]⟩ 0 8 c (Ref.out2 g) : S4x256x256.Idx → EReal) (ix3 k r s) := by
  rw [block3, block4]
  pointwise [Ref.out2, Ref.out2_0, Ref.out2_1]
  have hc : c.val < 8 := c.isLt
  have hs := sib_val c
  have e0 : (c.val * 4 + k.val) / 4 = c.val := by omega
  have e1 : (c.val * 4 + k.val) % 4 = k.val := by omega
  have e2 : (c.val * 4 + k.val) / 8 = c.val / 2 := by omega
  simp only [e0, e1, e2]
  by_cases hp : c.val % 2 < 1
  · rw [dif_pos hp]
    exact congrArg g (congr_ix4 (show (sib c).val * 4 + k.val = c.val / 2 * 8 + 4 + k.val by omega) (show c.val % 2 = 0 by omega) rfl rfl)
  · rw [dif_neg hp]
    exact congrArg g (congr_ix4 (show (sib c).val * 4 + k.val = c.val / 2 * 8 + k.val by omega) (show c.val % 2 = 1 by omega) rfl rfl)

/-- Where an element of a slot of `main_arg4` lies. -/
theorem emb_arg4 (off : Fin 4 → ℕ) (h) (r : Fin 256) (s : Fin 256) (k : Fin 4) (e : Fin 2) (ho : off = ![k.val, e.val, 0, 0]) :
    (cut_arg4 off h).view.emb (ix2 r s) = (ix4 k e r s : S4x2x256x256.Idx) := emb_arg3 off h r s k e ho

theorem landed_3_0 (c : Dev nD) (r : Fin 256) (s : Fin 256) :
    ending copies order m c main_v1_3 (ix3 (0 : Fin 4) r s) = m ((sib c : Thread nD τ).loc main_arg4) (ix4 (0 : Fin 4) (mine c) r s) :=
  (congrArg (ending copies order m c main_v1_3) (emb_v1_2 _ inb_S4x256x256_S1x256x256_0_0_0 r s 0 rfl)).symm.trans <|
    (ending_at m copies_ok copies_apart c 8 (ix2 r s)).trans (congrArg (m ((sib c : Thread nD τ).loc main_arg4))
      (emb_arg4 (k0_off5 (sib c)) _ r s 0 (mine c) (source_2_0 c)))

theorem landed_3_1 (c : Dev nD) (r : Fin 256) (s : Fin 256) :
    ending copies order m c main_v1_3 (ix3 (1 : Fin 4) r s) = m ((sib c : Thread nD τ).loc main_arg4) (ix4 (1 : Fin 4) (mine c) r s) :=
  (congrArg (ending copies order m c main_v1_3) (emb_v1_2 _ inb_S4x256x256_S1x256x256_1_0_0 r s 1 rfl)).symm.trans <|
    (ending_at m copies_ok copies_apart c 9 (ix2 r s)).trans (congrArg (m ((sib c : Thread nD τ).loc main_arg4))
      (emb_arg4 (k0_off6 (sib c)) _ r s 1 (mine c) (source_2_1 c)))

theorem landed_3_2 (c : Dev nD) (r : Fin 256) (s : Fin 256) :
    ending copies order m c main_v1_3 (ix3 (2 : Fin 4) r s) = m ((sib c : Thread nD τ).loc main_arg4) (ix4 (2 : Fin 4) (mine c) r s) :=
  (congrArg (ending copies order m c main_v1_3) (emb_v1_2 _ inb_S4x256x256_S1x256x256_2_0_0 r s 2 rfl)).symm.trans <|
    (ending_at m copies_ok copies_apart c 10 (ix2 r s)).trans (congrArg (m ((sib c : Thread nD τ).loc main_arg4))
      (emb_arg4 (k0_off7 (sib c)) _ r s 2 (mine c) (source_2_2 c)))

theorem landed_3_3 (c : Dev nD) (r : Fin 256) (s : Fin 256) :
    ending copies order m c main_v1_3 (ix3 (3 : Fin 4) r s) = m ((sib c : Thread nD τ).loc main_arg4) (ix4 (3 : Fin 4) (mine c) r s) :=
  (congrArg (ending copies order m c main_v1_3) (emb_v1_2 _ inb_S4x256x256_S1x256x256_3_0_0 r s 3 rfl)).symm.trans <|
    (ending_at m copies_ok copies_apart c 11 (ix2 r s)).trans (congrArg (m ((sib c : Thread nD τ).loc main_arg4))
      (emb_arg4 (k0_off8 (sib c)) _ r s 3 (mine c) (source_2_3 c)))

/-- Slot `k` of `main_v1_3` ends as the sibling's `main_arg4` there, its half for this device, -/
theorem landed_3 (c : Dev nD) (k : Fin 4) (r : Fin 256) (s : Fin 256) :
    ending copies order m c main_v1_3 (ix3 k r s) = m ((sib c : Thread nD τ).loc main_arg4) (ix4 k (mine c) r s) :=
  match k with
  | 0 => landed_3_0 m c r s
  | 1 => landed_3_1 m c r s
  | 2 => landed_3_2 m c r s
  | 3 => landed_3_3 m c r s

/-- `main_v1_4` ends as the sibling's `main_arg5`, -/
theorem landed_4 (c : Dev nD) : ending copies order m c main_v1_4 = m ((sib c : Thread nD τ).loc main_arg5) :=
  funext fun y => ending_at m copies_ok copies_apart c 12 y

/-- the reference's block. -/
theorem block_4 (c : Dev nD) (g : FVec Ideal Cert.ReferenceSiblingRowsIdeal.S8192x2048 .f32) :
    Layout.block ⟨2, ![1024, 2048]⟩ ⟨2, ![8192, 2048]⟩ 0 8 (sib c) g = Layout.block ⟨2, ![1024, 2048]⟩ ⟨2, ![8192, 2048]⟩ 0 8 c (Ref.out4 g) := by
  funext x
  idx_vars x
  rw [block2, block2]
  pointwise [Ref.out4]
  have hc : c.val < 8 := c.isLt
  have hs := sib_val c
  refine congrArg g (congr_ix2 (show (sib c).val * 1024 + x0.val = (c.val * 1024 + x0.val) / 2048 * 2048
    + (Fin.rev (⟨(c.val * 1024 + x0.val) / 1024 % 2, Nat.mod_lt _ (by decide)⟩ : Fin 2)).val * 1024 + x0.val from ?_) rfl)
  rw [Fin.val_rev]
  show (sib c).val * 1024 + x0.val = (c.val * 1024 + x0.val) / 2048 * 2048 + (2 - ((c.val * 1024 + x0.val) / 1024 % 2 + 1)) * 1024 + x0.val
  omega

/-- `main_v1_5` ends as the sibling's `main_arg6`, -/
theorem landed_5 (c : Dev nD) : ending copies order m c main_v1_5 = m ((sib c : Thread nD τ).loc main_arg6) :=
  funext fun y => ending_at m copies_ok copies_apart c 13 y

/-- Where an element of a slot of `main_arg7` lies. -/
theorem emb_arg7 (off : Fin 3 → ℕ) (h) (r : Fin 256) (s : Fin 2048) (k : Fin 4) (ho : off = ![k.val, 0, 0]) :
    (cut_arg7 off h).view.emb (ix2 r s) = (ix3 k r s : S4x256x2048.Idx) := by
  subst ho
  show (Rect.unit (s := S4x256x2048) _ S1x256x2048.size h).emb (Shape.reshapeEquiv squeezes_S1x256x2048_S256x2048.numel_eq (ix2 r s)) = _
  pointwise
  blk_ext

/-- Where an element of a slot of `main_v1_6` lies. -/
theorem emb_v1_6 (off : Fin 3 → ℕ) (h) (r : Fin 256) (s : Fin 2048) (k : Fin 3) (ho : off = ![k.val, 0, 0]) :
    (cut_v1_6 off h).view.emb (ix2 r s) = (ix3 k r s : S3x256x2048.Idx) := by
  subst ho
  show (Rect.unit (s := S3x256x2048) _ S1x256x2048.size h).emb (Shape.reshapeEquiv squeezes_S1x256x2048_S256x2048.numel_eq (ix2 r s)) = _
  pointwise
  blk_ext

/-- Rows by chip, by chip come from, by core, regrouped by chip, core, chip come from. -/
theorem regroup_256_2048 {α : Type} (y : (⟨3, ![24, 256, 2048]⟩ : Shape).Idx → α) (h1 h2 h3) (q : Fin 24) (r : Fin 256) (s : Fin 2048) :
    shapeCast ⟨3, ![24, 256, 2048]⟩ (transpose ⟨5, ![4, 2, 3, 256, 2048]⟩ [0, 2, 1, 3, 4] (shapeCast ⟨5, ![4, 3, 2, 256, 2048]⟩ y h1) h2) h3 (ix3 q r s)
      = y (ix3 ⟨q.val / 6 * 6 + q.val % 3 * 2 + q.val / 3 % 2, by omega⟩ r s) := by
  pointwise

/-- Slot `j` of `main_v1_6` ends as the slot kept for this device of another chip's `main_arg7`, -/
theorem landed_6 (c : Dev nD) (j : Fin 3) (r : Fin 256) (s : Fin 2048) :
    ending copies order m c main_v1_6 (ix3 j r s) = m ((chip j c : Thread nD τ).loc main_arg7) (ix3 (spot c) r s) := by
  match j with
  | 0 => exact (congrArg (ending copies order m c main_v1_6) (emb_v1_6 _ inb_S3x256x2048_S1x256x2048_0_0_0 r s 0 rfl)).symm.trans <|
      (ending_at m copies_ok copies_apart c 14 (ix2 r s)).trans (congrArg (m ((chip 0 c : Thread nD τ).loc main_arg7))
      (emb_arg7 (k0_off9 (chip 0 c)) _ r s (spot c) ((by decide +kernel : ∀ c : Dev nD, k0_off9 (chip 0 c) = ![(spot c).val, 0, 0]) c)))
  | 1 => exact (congrArg (ending copies order m c main_v1_6) (emb_v1_6 _ inb_S3x256x2048_S1x256x2048_1_0_0 r s 1 rfl)).symm.trans <|
      (ending_at m copies_ok copies_apart c 15 (ix2 r s)).trans (congrArg (m ((chip 1 c : Thread nD τ).loc main_arg7))
      (emb_arg7 (k0_off10 (chip 1 c)) _ r s (spot c) ((by decide +kernel : ∀ c : Dev nD, k0_off10 (chip 1 c) = ![(spot c).val, 0, 0]) c)))
  | 2 => exact (congrArg (ending copies order m c main_v1_6) (emb_v1_6 _ inb_S3x256x2048_S1x256x2048_2_0_0 r s 2 rfl)).symm.trans <|
      (ending_at m copies_ok copies_apart c 16 (ix2 r s)).trans (congrArg (m ((chip 2 c : Thread nD τ).loc main_arg7))
      (emb_arg7 (k0_off11 (chip 2 c)) _ r s (spot c) ((by decide +kernel : ∀ c : Dev nD, k0_off11 (chip 2 c) = ![(spot c).val, 0, 0]) c)))

/-- and the reference, read at an element, -/
theorem at_6 (g : FVec Ideal Cert.ReferenceSiblingRowsIdeal.S32x256x2048 .bf16) (q : Fin 24) (r : Fin 256) (s : Fin 2048) (p : Fin 32)
    (hp : p.val = starts ⟨q.val / 6 * 3 + q.val % 3, by omega⟩ + 4 * (q.val / 3 % 2)) : Ref.out6 g (ix3 q r s) = g (ix3 p r s) :=
  (regroup_256_2048 _ _ _ _ q r s).trans (rows_at g _ _ _ _ _ _ _ _ _ _ _ _ _ _ ⟨q.val / 6 * 3 + q.val % 3, by omega⟩ (by
      show (q.val / 6 * 6 + q.val % 3 * 2 + q.val / 3 % 2) / 2 = q.val / 6 * 3 + q.val % 3
      omega) r s p (by
      show _ = _ + 4 * ((q.val / 6 * 6 + q.val % 3 * 2 + q.val / 3 % 2) % 2)
      have : (q.val / 6 * 6 + q.val % 3 * 2 + q.val / 3 % 2) % 2 = q.val / 3 % 2 := by omega
      rw [this]; exact hp))

/-- has that as its block. -/
theorem block_6 (c : Dev nD) (g : FVec Ideal Cert.ReferenceSiblingRowsIdeal.S32x256x2048 .bf16) (j : Fin 3) (r : Fin 256) (s : Fin 2048) :
    (Layout.block ⟨3, ![4, 256, 2048]⟩ ⟨3, ![32, 256, 2048]⟩ 0 8 (chip j c) g : S4x256x2048.Idx → EReal) (ix3 (spot c) r s)
      = (Layout.block ⟨3, ![3, 256, 2048]⟩ ⟨3, ![24, 256, 2048]⟩ 0 8 c (Ref.out6 g) : S3x256x2048.Idx → EReal) (ix3 j r s) := by
  rw [block3, block3]
  exact (at_6 g _ r s _ (rows_start c j)).symm

theorem algebraic : Cert.algebraic_KernelSiblingRowsIdeal_ReferenceSiblingRowsIdeal := by
  intro m g m' g' _ hargs
  refine ⟨_, _, _, _, _, _, _, (θ_run Cert.KernelSiblingRowsIdeal.defs _ _).mono (fun r h c => ⟨(h.1 c).1.trans ?_, (h.1 c).2.1.trans ?_, (h.1 c).2.2.1.trans ?_, (h.1 c).2.2.2.1.trans ?_, (h.1 c).2.2.2.2.1.trans ?_, (h.1 c).2.2.2.2.2.1.trans ?_, (h.1 c).2.2.2.2.2.2.1.trans ?_, (h.1 c).2.2.2.2.2.2.2⟩) (run_main m g),
    (θ_run Cert.ReferenceSiblingRowsIdeal.defs _ _).mono (fun _ h => h 0) (Ref.run_main m' g')⟩
  · rw [product_end, (hargs c).1, (hargs c).2.1]
    exact product_block c _ _
  · funext x
    idx_vars x
    rw [landed_1, (hargs (sib c)).2.2.1]
    exact block_1 c _ _ _ _
  · funext x
    idx_vars x
    rw [landed_2, (hargs (sib c)).2.2.2.1]
    exact block_2 c _ _ _ _
  · funext x
    idx_vars x
    rw [landed_3, (hargs (sib c)).2.2.2.2.1]
    exact block_2 c _ _ _ _
  · rw [landed_4, (hargs (sib c)).2.2.2.2.2.1]
    exact block_4 c _
  · rw [landed_5, (hargs (sib c)).2.2.2.2.2.2.1]
    exact block_4 c _
  · funext x
    idx_vars x
    rw [landed_6, (hargs (chip x0 c)).2.2.2.2.2.2.2]
    exact block_6 c _ _ _ _

end Cert.SiblingRows

end
-- ==== Proof.OwnRowsTalk.lean ====
/-
  The copies of the kernel of the projection's weight gradient, own rows, 10 from each device: the sibling gets the whole of an array; each of the other chips gets its slot of an array, of each of 3.
-/
module

public import proofs.«01_k».proof.Proof.Copies
public import proofs.«01_k».proof.Proof.Gen.KernelOwnRowsIdeal.Launch
public import proofs.«01_k».proof.Proof.Gen.KernelOwnRowsIdeal.Frame
public import proofs.«01_k».proof.Proof.Gen.KernelOwnRowsIdeal.Points
public import proofs.«01_k».proof.Proof.Gen.KernelOwnRowsIdeal.Skeleton

@[expose] public section

set_option maxRecDepth 8192

noncomputable section

namespace Cert.OwnRows

open Cert.KernelOwnRowsIdeal Cert.KernelOwnRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- The first point of the grid, where the copies are sent. -/
theorem cond1_first : k0_cond1 (grid0.coords t0_0) = 1#1 := by decide

/-- A slot of `main_arg3`. -/
abbrev cut_arg3 (off : Fin 3 → ℕ) (h : ∀ a, off a + S1x256x512.size a ≤ S4x256x512.size a) : Memref sig .tc .hbm S256x512 .bf16 :=
  ((Memref.whole main_arg3 : Memref sig .tc .hbm S4x256x512 .bf16).slice (Rect.unit (s := S4x256x512) off S1x256x512.size h) (fun _ => rfl)).squeeze
    S256x512 squeezes_S1x256x512_S256x512

/-- A slot of `main_v1_2`. -/
abbrev cut_v1_2 (off : Fin 3 → ℕ) (h : ∀ a, off a + S1x256x512.size a ≤ S3x256x512.size a) : Memref sig .tc .hbm S256x512 .bf16 :=
  ((Memref.whole main_v1_2 : Memref sig .tc .hbm S3x256x512 .bf16).slice (Rect.unit (s := S3x256x512) off S1x256x512.size h) (fun _ => rfl)).squeeze
    S256x512 squeezes_S1x256x512_S256x512

/-- A slot of `main_arg4`. -/
abbrev cut_arg4 (off : Fin 3 → ℕ) (h : ∀ a, off a + S1x256x256.size a ≤ S4x256x256.size a) : Memref sig .tc .hbm S256x256 .bf16 :=
  ((Memref.whole main_arg4 : Memref sig .tc .hbm S4x256x256 .bf16).slice (Rect.unit (s := S4x256x256) off S1x256x256.size h) (fun _ => rfl)).squeeze
    S256x256 squeezes_S1x256x256_S256x256

/-- A slot of `main_v1_3`. -/
abbrev cut_v1_3 (off : Fin 3 → ℕ) (h : ∀ a, off a + S1x256x256.size a ≤ S3x256x256.size a) : Memref sig .tc .hbm S256x256 .bf16 :=
  ((Memref.whole main_v1_3 : Memref sig .tc .hbm S3x256x256 .bf16).slice (Rect.unit (s := S3x256x256) off S1x256x256.size h) (fun _ => rfl)).squeeze
    S256x256 squeezes_S1x256x256_S256x256

/-- A slot of `main_arg5`. -/
abbrev cut_arg5 (off : Fin 3 → ℕ) (h : ∀ a, off a + S1x256x256.size a ≤ S4x256x256.size a) : Memref sig .tc .hbm S256x256 .bf16 :=
  ((Memref.whole main_arg5 : Memref sig .tc .hbm S4x256x256 .bf16).slice (Rect.unit (s := S4x256x256) off S1x256x256.size h) (fun _ => rfl)).squeeze
    S256x256 squeezes_S1x256x256_S256x256

/-- A slot of `main_v1_4`. -/
abbrev cut_v1_4 (off : Fin 3 → ℕ) (h : ∀ a, off a + S1x256x256.size a ≤ S3x256x256.size a) : Memref sig .tc .hbm S256x256 .bf16 :=
  ((Memref.whole main_v1_4 : Memref sig .tc .hbm S3x256x256 .bf16).slice (Rect.unit (s := S3x256x256) off S1x256x256.size h) (fun _ => rfl)).squeeze
    S256x256 squeezes_S1x256x256_S256x256

/-- Copy 0: `main_arg2` to `main_v1_1`. -/
def copy0 : Copy nD sig where
  s := S4x1024x2560
  e := .bf16
  src := fun _ => Memref.whole main_arg2
  dst := fun _ => (Memref.whole main_v1_1 : Memref sig .tc .hbm S4x1024x2560 .bf16)
  peer := fun c => ⟨k0_dev1 c, k0_dev1_lt (grid0.coords t0_0) c cond1_first⟩
  sS := ((cc0_scratch0.slice (Rect.unit (s := S1) ![0] S1.size inb_S1_S1_0)).squeeze S_ squeezes_S1_S_).sem
  rS := ((cc0_scratch1.slice (Rect.unit (s := S1) ![0] S1.size inb_S1_S1_0)).squeeze S_ squeezes_S1_S_).sem
  amt := ((Memref.whole main_v1_1 : Memref sig .tc .hbm S4x1024x2560 .bf16)).view.dmaCredit
  amt_eq := fun _ => rfl
  amt_pos := View.dmaCredit_pos _ (by decide)

/-- Copy 1: `main_arg3` to `main_v1_2`. -/
def copy1 : Copy nD sig where
  s := S256x512
  e := .bf16
  src := fun c => cut_arg3 (k0_off1 c) (k0_off1_inb (grid0.coords t0_0) c cond1_first)
  dst := fun _ => cut_v1_2 ![0, 0, 0] inb_S3x256x512_S1x256x512_0_0_0
  peer := fun c => ⟨k0_dev2 c, k0_dev2_lt (grid0.coords t0_0) c cond1_first⟩
  sS := ((cc0_scratch2.slice (Rect.unit (s := S9) ![0] S1.size inb_S9_S1_0)).squeeze S_ squeezes_S1_S_).sem
  rS := ((cc0_scratch3.slice (Rect.unit (s := S9) ![0] S1.size inb_S9_S1_0)).squeeze S_ squeezes_S1_S_).sem
  amt := (cut_v1_2 ![0, 0, 0] inb_S3x256x512_S1x256x512_0_0_0).view.dmaCredit
  amt_eq := fun _ => rfl
  amt_pos := View.dmaCredit_pos _ (by decide)

/-- Copy 2: `main_arg3` to `main_v1_2`. -/
def copy2 : Copy nD sig where
  s := S256x512
  e := .bf16
  src := fun c => cut_arg3 (k0_off2 c) (k0_off2_inb (grid0.coords t0_0) c cond1_first)
  dst := fun _ => cut_v1_2 ![1, 0, 0] inb_S3x256x512_S1x256x512_1_0_0
  peer := fun c => ⟨k0_dev3 c, k0_dev3_lt (grid0.coords t0_0) c cond1_first⟩
  sS := ((cc0_scratch2.slice (Rect.unit (s := S9) ![1] S1.size inb_S9_S1_1)).squeeze S_ squeezes_S1_S_).sem
  rS := ((cc0_scratch3.slice (Rect.unit (s := S9) ![1] S1.size inb_S9_S1_1)).squeeze S_ squeezes_S1_S_).sem
  amt := (cut_v1_2 ![1, 0, 0] inb_S3x256x512_S1x256x512_1_0_0).view.dmaCredit
  amt_eq := fun _ => rfl
  amt_pos := View.dmaCredit_pos _ (by decide)

/-- Copy 3: `main_arg3` to `main_v1_2`. -/
def copy3 : Copy nD sig where
  s := S256x512
  e := .bf16
  src := fun c => cut_arg3 (k0_off3 c) (k0_off3_inb (grid0.coords t0_0) c cond1_first)
  dst := fun _ => cut_v1_2 ![2, 0, 0] inb_S3x256x512_S1x256x512_2_0_0
  peer := fun c => ⟨k0_dev4 c, k0_dev4_lt (grid0.coords t0_0) c cond1_first⟩
  sS := ((cc0_scratch2.slice (Rect.unit (s := S9) ![2] S1.size inb_S9_S1_2)).squeeze S_ squeezes_S1_S_).sem
  rS := ((cc0_scratch3.slice (Rect.unit (s := S9) ![2] S1.size inb_S9_S1_2)).squeeze S_ squeezes_S1_S_).sem
  amt := (cut_v1_2 ![2, 0, 0] inb_S3x256x512_S1x256x512_2_0_0).view.dmaCredit
  amt_eq := fun _ => rfl
  amt_pos := View.dmaCredit_pos _ (by decide)

/-- Copy 4: `main_arg4` to `main_v1_3`. -/
def copy4 : Copy nD sig where
  s := S256x256
  e := .bf16
  src := fun c => cut_arg4 (k0_off4 c) (k0_off4_inb (grid0.coords t0_0) c cond1_first)
  dst := fun _ => cut_v1_3 ![0, 0, 0] inb_S3x256x256_S1x256x256_0_0_0
  peer := fun c => ⟨k0_dev5 c, k0_dev5_lt (grid0.coords t0_0) c cond1_first⟩
  sS := ((cc0_scratch2.slice (Rect.unit (s := S9) ![3] S1.size inb_S9_S1_3)).squeeze S_ squeezes_S1_S_).sem
  rS := ((cc0_scratch3.slice (Rect.unit (s := S9) ![3] S1.size inb_S9_S1_3)).squeeze S_ squeezes_S1_S_).sem
  amt := (cut_v1_3 ![0, 0, 0] inb_S3x256x256_S1x256x256_0_0_0).view.dmaCredit
  amt_eq := fun _ => rfl
  amt_pos := View.dmaCredit_pos _ (by decide)

/-- Copy 5: `main_arg4` to `main_v1_3`. -/
def copy5 : Copy nD sig where
  s := S256x256
  e := .bf16
  src := fun c => cut_arg4 (k0_off5 c) (k0_off5_inb (grid0.coords t0_0) c cond1_first)
  dst := fun _ => cut_v1_3 ![1, 0, 0] inb_S3x256x256_S1x256x256_1_0_0
  peer := fun c => ⟨k0_dev6 c, k0_dev6_lt (grid0.coords t0_0) c cond1_first⟩
  sS := ((cc0_scratch2.slice (Rect.unit (s := S9) ![4] S1.size inb_S9_S1_4)).squeeze S_ squeezes_S1_S_).sem
  rS := ((cc0_scratch3.slice (Rect.unit (s := S9) ![4] S1.size inb_S9_S1_4)).squeeze S_ squeezes_S1_S_).sem
  amt := (cut_v1_3 ![1, 0, 0] inb_S3x256x256_S1x256x256_1_0_0).view.dmaCredit
  amt_eq := fun _ => rfl
  amt_pos := View.dmaCredit_pos _ (by decide)

/-- Copy 6: `main_arg4` to `main_v1_3`. -/
def copy6 : Copy nD sig where
  s := S256x256
  e := .bf16
  src := fun c => cut_arg4 (k0_off6 c) (k0_off6_inb (grid0.coords t0_0) c cond1_first)
  dst := fun _ => cut_v1_3 ![2, 0, 0] inb_S3x256x256_S1x256x256_2_0_0
  peer := fun c => ⟨k0_dev7 c, k0_dev7_lt (grid0.coords t0_0) c cond1_first⟩
  sS := ((cc0_scratch2.slice (Rect.unit (s := S9) ![5] S1.size inb_S9_S1_5)).squeeze S_ squeezes_S1_S_).sem
  rS := ((cc0_scratch3.slice (Rect.unit (s := S9) ![5] S1.size inb_S9_S1_5)).squeeze S_ squeezes_S1_S_).sem
  amt := (cut_v1_3 ![2, 0, 0] inb_S3x256x256_S1x256x256_2_0_0).view.dmaCredit
  amt_eq := fun _ => rfl
  amt_pos := View.dmaCredit_pos _ (by decide)

/-- Copy 7: `main_arg5` to `main_v1_4`. -/
def copy7 : Copy nD sig where
  s := S256x256
  e := .bf16
  src := fun c => cut_arg5 (k0_off4 c) (k0_off4_inb (grid0.coords t0_0) c cond1_first)
  dst := fun _ => cut_v1_4 ![0, 0, 0] inb_S3x256x256_S1x256x256_0_0_0
  peer := fun c => ⟨k0_dev8 c, k0_dev8_lt (grid0.coords t0_0) c cond1_first⟩
  sS := ((cc0_scratch2.slice (Rect.unit (s := S9) ![6] S1.size inb_S9_S1_6)).squeeze S_ squeezes_S1_S_).sem
  rS := ((cc0_scratch3.slice (Rect.unit (s := S9) ![6] S1.size inb_S9_S1_6)).squeeze S_ squeezes_S1_S_).sem
  amt := (cut_v1_4 ![0, 0, 0] inb_S3x256x256_S1x256x256_0_0_0).view.dmaCredit
  amt_eq := fun _ => rfl
  amt_pos := View.dmaCredit_pos _ (by decide)

/-- Copy 8: `main_arg5` to `main_v1_4`. -/
def copy8 : Copy nD sig where
  s := S256x256
  e := .bf16
  src := fun c => cut_arg5 (k0_off5 c) (k0_off5_inb (grid0.coords t0_0) c cond1_first)
  dst := fun _ => cut_v1_4 ![1, 0, 0] inb_S3x256x256_S1x256x256_1_0_0
  peer := fun c => ⟨k0_dev9 c, k0_dev9_lt (grid0.coords t0_0) c cond1_first⟩
  sS := ((cc0_scratch2.slice (Rect.unit (s := S9) ![7] S1.size inb_S9_S1_7)).squeeze S_ squeezes_S1_S_).sem
  rS := ((cc0_scratch3.slice (Rect.unit (s := S9) ![7] S1.size inb_S9_S1_7)).squeeze S_ squeezes_S1_S_).sem
  amt := (cut_v1_4 ![1, 0, 0] inb_S3x256x256_S1x256x256_1_0_0).view.dmaCredit
  amt_eq := fun _ => rfl
  amt_pos := View.dmaCredit_pos _ (by decide)

/-- Copy 9: `main_arg5` to `main_v1_4`. -/
def copy9 : Copy nD sig where
  s := S256x256
  e := .bf16
  src := fun c => cut_arg5 (k0_off6 c) (k0_off6_inb (grid0.coords t0_0) c cond1_first)
  dst := fun _ => cut_v1_4 ![2, 0, 0] inb_S3x256x256_S1x256x256_2_0_0
  peer := fun c => ⟨k0_dev10 c, k0_dev10_lt (grid0.coords t0_0) c cond1_first⟩
  sS := ((cc0_scratch2.slice (Rect.unit (s := S9) ![8] S1.size inb_S9_S1_8)).squeeze S_ squeezes_S1_S_).sem
  rS := ((cc0_scratch3.slice (Rect.unit (s := S9) ![8] S1.size inb_S9_S1_8)).squeeze S_ squeezes_S1_S_).sem
  amt := (cut_v1_4 ![2, 0, 0] inb_S3x256x256_S1x256x256_2_0_0).view.dmaCredit
  amt_eq := fun _ => rfl
  amt_pos := View.dmaCredit_pos _ (by decide)

/-- The copies, -/
def copies : Fin 10 → Copy nD sig
  | 0 => copy0
  | 1 => copy1
  | 2 => copy2
  | 3 => copy3
  | 4 => copy4
  | 5 => copy5
  | 6 => copy6
  | 7 => copy7
  | 8 => copy8
  | 9 => copy9

/-- in the order they are sent. -/
def order : List (Fin 10) := [0, 1, 2, 3, 4, 5, 6, 7, 8, 9]

theorem copies_ok : Copies copies order where
  nodup := by decide
  all := by decide
  peer_peer := by decide +kernel
  inj := by decide +kernel

/-- The arrays copied whole. -/
abbrev wholes : List (Ref sig .tc) := [main_arg2, main_v1_1]

/-- A number telling the places of one array apart: the slot, where the array is copied by slots. -/
def key (b : Ref sig .tc) (x : b.ty.Idx) : ℕ := if b ∈ wholes then 0 else lead b x

theorem key_whole (b : Ref sig .tc) (h : b ∈ wholes) (x : b.ty.Idx) : key b x = 0 := if_pos h
theorem key_slot (b : Ref sig .tc) (h : b ∉ wholes) (x : b.ty.Idx) : key b x = lead b x := if_neg h

/-- The number of each place. -/
def number (c : Dev nD) : Fin 10 ⊕ Fin 10 → ℕ
  | .inl 0 => 0
  | .inl 1 => (((c.val / 2) % 2) + 2) - 2 * (c.val / 4)
  | .inl 2 => (2 * (c.val / 4) + 1) - ((c.val / 2) % 2)
  | .inl 3 => 3 - (2 * (c.val / 4) + ((c.val / 2) % 2))
  | .inl 4 => (((c.val / 2) % 2) + 2) - 2 * (c.val / 4)
  | .inl 5 => (2 * (c.val / 4) + 1) - ((c.val / 2) % 2)
  | .inl 6 => 3 - (2 * (c.val / 4) + ((c.val / 2) % 2))
  | .inl 7 => (((c.val / 2) % 2) + 2) - 2 * (c.val / 4)
  | .inl 8 => (2 * (c.val / 4) + 1) - ((c.val / 2) % 2)
  | .inl 9 => 3 - (2 * (c.val / 4) + ((c.val / 2) % 2))
  | .inr 0 => 0
  | .inr 1 => 0
  | .inr 2 => 1
  | .inr 3 => 2
  | .inr 4 => 0
  | .inr 5 => 1
  | .inr 6 => 2
  | .inr 7 => 0
  | .inr 8 => 1
  | .inr 9 => 2

theorem number_eq (c : Dev nD) : ∀ j y, key (place copies c j).view.ref ((place copies c j).view.emb y) = number c j
  | .inl 0, _ => key_whole main_arg2 (by decide) _
  | .inl 1, y => (key_slot main_arg3 (by decide) _).trans <| (lead_slot main_arg3 (k0_off1 c) S1x256x512.size (k0_off1_inb (grid0.coords t0_0) c cond1_first) (fun _ => rfl) S256x512 squeezes_S1x256x512_S256x512 (Nat.succ_pos 2) rfl y).trans (by rw [k0_off1_eq]; rfl)
  | .inl 2, y => (key_slot main_arg3 (by decide) _).trans <| (lead_slot main_arg3 (k0_off2 c) S1x256x512.size (k0_off2_inb (grid0.coords t0_0) c cond1_first) (fun _ => rfl) S256x512 squeezes_S1x256x512_S256x512 (Nat.succ_pos 2) rfl y).trans (by rw [k0_off2_eq]; rfl)
  | .inl 3, y => (key_slot main_arg3 (by decide) _).trans <| (lead_slot main_arg3 (k0_off3 c) S1x256x512.size (k0_off3_inb (grid0.coords t0_0) c cond1_first) (fun _ => rfl) S256x512 squeezes_S1x256x512_S256x512 (Nat.succ_pos 2) rfl y).trans (by rw [k0_off3_eq]; rfl)
  | .inl 4, y => (key_slot main_arg4 (by decide) _).trans <| (lead_slot main_arg4 (k0_off4 c) S1x256x256.size (k0_off4_inb (grid0.coords t0_0) c cond1_first) (fun _ => rfl) S256x256 squeezes_S1x256x256_S256x256 (Nat.succ_pos 2) rfl y).trans (by rw [k0_off4_eq]; rfl)
  | .inl 5, y => (key_slot main_arg4 (by decide) _).trans <| (lead_slot main_arg4 (k0_off5 c) S1x256x256.size (k0_off5_inb (grid0.coords t0_0) c cond1_first) (fun _ => rfl) S256x256 squeezes_S1x256x256_S256x256 (Nat.succ_pos 2) rfl y).trans (by rw [k0_off5_eq]; rfl)
  | .inl 6, y => (key_slot main_arg4 (by decide) _).trans <| (lead_slot main_arg4 (k0_off6 c) S1x256x256.size (k0_off6_inb (grid0.coords t0_0) c cond1_first) (fun _ => rfl) S256x256 squeezes_S1x256x256_S256x256 (Nat.succ_pos 2) rfl y).trans (by rw [k0_off6_eq]; rfl)
  | .inl 7, y => (key_slot main_arg5 (by decide) _).trans <| (lead_slot main_arg5 (k0_off4 c) S1x256x256.size (k0_off4_inb (grid0.coords t0_0) c cond1_first) (fun _ => rfl) S256x256 squeezes_S1x256x256_S256x256 (Nat.succ_pos 2) rfl y).trans (by rw [k0_off4_eq]; rfl)
  | .inl 8, y => (key_slot main_arg5 (by decide) _).trans <| (lead_slot main_arg5 (k0_off5 c) S1x256x256.size (k0_off5_inb (grid0.coords t0_0) c cond1_first) (fun _ => rfl) S256x256 squeezes_S1x256x256_S256x256 (Nat.succ_pos 2) rfl y).trans (by rw [k0_off5_eq]; rfl)
  | .inl 9, y => (key_slot main_arg5 (by decide) _).trans <| (lead_slot main_arg5 (k0_off6 c) S1x256x256.size (k0_off6_inb (grid0.coords t0_0) c cond1_first) (fun _ => rfl) S256x256 squeezes_S1x256x256_S256x256 (Nat.succ_pos 2) rfl y).trans (by rw [k0_off6_eq]; rfl)
  | .inr 0, _ => key_whole main_v1_1 (by decide) _
  | .inr 1, y => (key_slot main_v1_2 (by decide) _).trans <| lead_slot main_v1_2 ![0, 0, 0] S1x256x512.size inb_S3x256x512_S1x256x512_0_0_0 (fun _ => rfl) S256x512 squeezes_S1x256x512_S256x512 (Nat.succ_pos 2) rfl y
  | .inr 2, y => (key_slot main_v1_2 (by decide) _).trans <| lead_slot main_v1_2 ![1, 0, 0] S1x256x512.size inb_S3x256x512_S1x256x512_1_0_0 (fun _ => rfl) S256x512 squeezes_S1x256x512_S256x512 (Nat.succ_pos 2) rfl y
  | .inr 3, y => (key_slot main_v1_2 (by decide) _).trans <| lead_slot main_v1_2 ![2, 0, 0] S1x256x512.size inb_S3x256x512_S1x256x512_2_0_0 (fun _ => rfl) S256x512 squeezes_S1x256x512_S256x512 (Nat.succ_pos 2) rfl y
  | .inr 4, y => (key_slot main_v1_3 (by decide) _).trans <| lead_slot main_v1_3 ![0, 0, 0] S1x256x256.size inb_S3x256x256_S1x256x256_0_0_0 (fun _ => rfl) S256x256 squeezes_S1x256x256_S256x256 (Nat.succ_pos 2) rfl y
  | .inr 5, y => (key_slot main_v1_3 (by decide) _).trans <| lead_slot main_v1_3 ![1, 0, 0] S1x256x256.size inb_S3x256x256_S1x256x256_1_0_0 (fun _ => rfl) S256x256 squeezes_S1x256x256_S256x256 (Nat.succ_pos 2) rfl y
  | .inr 6, y => (key_slot main_v1_3 (by decide) _).trans <| lead_slot main_v1_3 ![2, 0, 0] S1x256x256.size inb_S3x256x256_S1x256x256_2_0_0 (fun _ => rfl) S256x256 squeezes_S1x256x256_S256x256 (Nat.succ_pos 2) rfl y
  | .inr 7, y => (key_slot main_v1_4 (by decide) _).trans <| lead_slot main_v1_4 ![0, 0, 0] S1x256x256.size inb_S3x256x256_S1x256x256_0_0_0 (fun _ => rfl) S256x256 squeezes_S1x256x256_S256x256 (Nat.succ_pos 2) rfl y
  | .inr 8, y => (key_slot main_v1_4 (by decide) _).trans <| lead_slot main_v1_4 ![1, 0, 0] S1x256x256.size inb_S3x256x256_S1x256x256_1_0_0 (fun _ => rfl) S256x256 squeezes_S1x256x256_S256x256 (Nat.succ_pos 2) rfl y
  | .inr 9, y => (key_slot main_v1_4 (by decide) _).trans <| lead_slot main_v1_4 ![2, 0, 0] S1x256x256.size inb_S3x256x256_S1x256x256_2_0_0 (fun _ => rfl) S256x256 squeezes_S1x256x256_S256x256 (Nat.succ_pos 2) rfl y

/-- The places are apart. -/
theorem copies_apart : Apart copies where
  key := ⟨key, number, number_eq, by decide +kernel⟩

/-- The copies' semaphores are neither the staging buffers' nor one another's. -/
theorem ownSems : Pipeline.OwnSemFacts spec0 (semOf copies) := by
  decide +kernel

/-- Every place is in an array that is no window's. -/
theorem places_rest : ∀ c j, (place copies c j).view.ref ∈ restOf cfgs (0 : Fin 1) := by decide +kernel

end Cert.OwnRows

end
-- ==== Proof.OwnRowsBody.lean ====
/-
  The kernel body of the projection's weight gradient, own rows, over any float values: at the first grid point it starts the copies,
  at every point it stores the product of its two blocks, at the last point it waits for the copies.
-/
module

public import proofs.«01_k».proof.Proof.OwnRowsTalk
public import proofs.«01_k».proof.Proof.TalkBody

@[expose] public section

set_option Elab.async false

noncomputable section

namespace Cert.OwnRows

open Cert.KernelOwnRowsIdeal Cert.KernelOwnRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UX nD τ sig) ℕ

variable (m : (ℓ : Loc nD τ sig) → Buf (Elt F) ℓ)

/-- The copies' data. -/
abbrev X : Talk nD τ sig (Elt F) 10 := talkOf copies order m

abbrev 𝒱₀ : Variants := Variants.none

/-- The copies in flight, one by one, -/
theorem flight_list (c : Dev nD) : (X m).flight c = iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ emp) := flight_eq copies_ok m c
/-- and landed. -/
theorem done_list (c : Dev nD) : (X m).done c = iprop(isDone copies order m c 0 ∗ isDone copies order m c 1 ∗ isDone copies order m c 2 ∗ isDone copies order m c 3 ∗ isDone copies order m c 4 ∗ isDone copies order m c 5 ∗ isDone copies order m c 6 ∗ isDone copies order m c 7 ∗ isDone copies order m c 8 ∗ isDone copies order m c 9 ∗ emp) := done_eq copies_ok m c

/-- The run's data on device `c`: the argument arrays, each point's product, the copies' progress. -/
def dats (_ : Fin 1) (c : Dev nD) : Dat τ (Elt F) Unit ℕ (UX nD τ sig) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ t := (X m).before grid0.N c t.val
  q _ := fullShare
  owed t := (X m).owedAt c t.val

/-- What the body finds in its two input buffers. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rfl) t d).trans
    (by unfold Dat.fetched Dat.blockOf iblk; rfl)

theorem hz2 : (![0, 0] : Fin 2 → Nat) = fun _ => 0 := funext fun a => by fin_cases a <;> rfl
theorem hz3 : (![0, 0, 0] : Fin 3 → Nat) = fun _ => 0 := funext fun a => by fin_cases a <;> rfl

theorem cond1_iff : ∀ t : Fin grid0.N, k0_cond1 (grid0.coords t) = 1#1 ↔ t.val = 0 := by decide +kernel
theorem cond2_iff : ∀ t : Fin grid0.N, k0_cond2 (grid0.coords t) = 1#1 ↔ t.val + 1 = grid0.N := by decide +kernel

/-- What device `c` holds besides its staging buffers. -/
abbrev stage (c : Dev nD) (t : ℕ) : sProp 𝕄 :=
  iprop((X m).before grid0.N c t ∗ ∃ W, owes (c : Thread nD τ) ((X m).owedAt c t) W)

set_option maxHeartbeats 6400000 in
/-- The body, run symbolically at a point `t`. -/
theorem sound_body (c : Dev nD) (t : Fin cfg0.N) (Q : PUnit → sProp 𝕄) (f2) :
    iprop(stage m c t.val
        ∗ owns (c : Thread nD τ) (st0_0 t) fullShare (iblk m c 0 t) ∗ owns (c : Thread nD τ) (st0_1 t) fullShare (iblk m c 1 t)
        ∗ owns (c : Thread nD τ) (st0_2 t) fullShare f2
        ∗ ((stage m c (t.val + 1)
          ∗ owns (c : Thread nD τ) (st0_0 t) fullShare (iblk m c 0 t) ∗ owns (c : Thread nD τ) (st0_1 t) fullShare (iblk m c 1 t)
          ∗ owns (c : Thread nD τ) (st0_2 t) fullShare (k0_pay1 (iblk m c 0 t) (iblk m c 1 t))) -∗ Q ⟨⟩))
      ⊢ wp frame (wpE (defs₀ (F := F)) 𝒱₀ c none) Set.univ (bodyAt0 (F := F) t) Q := by
  unfold bodyAt0
  simp only [cc0_proj_dw_own_rows_eq_skeleton]; unfold cc0_proj_dw_own_rows_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret]
  iintro ⟨Hst, H0, H1, H2, Hk⟩
  -- the copies are sent at the first point
  iapply (wp_branch 𝒱₀ c (P := stage m c t.val) (R := (X m).mid c) ?hA ?hB) $$ Hst
  case hA =>
    intro h1
    have ht : t.val = 0 := (cond1_iff t).mp h1
    rw [wp_deviceId, ht]
    iintro Hst Hk
    ihave Hst := ((X m).before_first grid0.N c) $$ Hst
    unfold Talk.waiting
    icases Hst with ⟨%K, #HR, HP, %W, HO⟩
    iapply (send_copy copies_ok m 𝒱₀ K c 0 [1, 2, 3, 4, 5, 6, 7, 8, 9] W) $$ [HP HO]
    · isplitr; · iexact HR
      isplitl [HP]; · iexact HP
      iexact HO
    iintro ⟨HF0, HP, HO⟩
    iapply (send_copy copies_ok m 𝒱₀ K c 1 [2, 3, 4, 5, 6, 7, 8, 9] W) $$ [HP HO]
    · isplitr; · iexact HR
      isplitl [HP]; · iexact HP
      iexact HO
    iintro ⟨HF1, HP, HO⟩
    iapply (send_copy copies_ok m 𝒱₀ K c 2 [3, 4, 5, 6, 7, 8, 9] W) $$ [HP HO]
    · isplitr; · iexact HR
      isplitl [HP]; · iexact HP
      iexact HO
    iintro ⟨HF2, HP, HO⟩
    iapply (send_copy copies_ok m 𝒱₀ K c 3 [4, 5, 6, 7, 8, 9] W) $$ [HP HO]
    · isplitr; · iexact HR
      isplitl [HP]; · iexact HP
      iexact HO
    iintro ⟨HF3, HP, HO⟩
    iapply (send_copy copies_ok m 𝒱₀ K c 4 [5, 6, 7, 8, 9] W) $$ [HP HO]
    · isplitr; · iexact HR
      isplitl [HP]; · iexact HP
      iexact HO
    iintro ⟨HF4, HP, HO⟩
    iapply (send_copy copies_ok m 𝒱₀ K c 5 [6, 7, 8, 9] W) $$ [HP HO]
    · isplitr; · iexact HR
      isplitl [HP]; · iexact HP
      iexact HO
    iintro ⟨HF5, HP, HO⟩
    iapply (send_copy copies_ok m 𝒱₀ K c 6 [7, 8, 9] W) $$ [HP HO]
    · isplitr; · iexact HR
      isplitl [HP]; · iexact HP
      iexact HO
    iintro ⟨HF6, HP, HO⟩
    iapply (send_copy copies_ok m 𝒱₀ K c 7 [8, 9] W) $$ [HP HO]
    · isplitr; · iexact HR
      isplitl [HP]; · iexact HP
      iexact HO
    iintro ⟨HF7, HP, HO⟩
    iapply (send_copy copies_ok m 𝒱₀ K c 8 [9] W) $$ [HP HO]
    · isplitr; · iexact HR
      isplitl [HP]; · iexact HP
      iexact HO
    iintro ⟨HF8, HP, HO⟩
    iapply (send_copy copies_ok m 𝒱₀ K c 9 [] W) $$ [HP HO]
    · isplitr; · iexact HR
      isplitl [HP]; · iexact HP
      iexact HO
    iintro ⟨HF9, HP, HO⟩
    iapply Hk
    unfold Talk.mid
    iexists K
    isplitr; · iexact HR
    isplitr [HO]
    · iapply (show iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ emp)
        ⊢ (X m).flight c from Entails.of_eq (flight_list m c).symm)
      unfold inFlight
      isplitl [HF0]; · iexact HF0
      isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      isplitl [HF9]; · iexact HF9
      iempintro
    iexists W; iexact HO
  case hB =>
    intro h1
    exact (X m).before_later grid0.N c t.val (fun e => h1 ((cond1_iff t).mpr e)) t.isLt
  iintro Hmid
  -- the product of the point's blocks
  iapply (load_full 𝒱₀ c hz2 (iblk m c 0 t)) $$ H0; iintro H0
  iapply (load_full 𝒱₀ c hz2 (iblk m c 1 t)) $$ H1; iintro H1
  iapply (load_full 𝒱₀ c hz3 f2) $$ H2; iintro H2
  iapply (store_full 𝒱₀ c hz3 f2) $$ H2; iintro H2
  -- the copies are waited for at the last point
  iapply (wp_branch 𝒱₀ c (P := (X m).mid c) (R := stage m c (t.val + 1)) ?hA2 ?hB2) $$ Hmid
  case hA2 =>
    intro h2
    have ht : t.val + 1 = grid0.N := (cond2_iff t).mp h2
    rw [wp_deviceId]
    iintro Hmid Hk
    unfold Talk.mid
    icases Hmid with ⟨%K, #HR, HF, %W, HO⟩
    ihave HF := (show (X m).flight c ⊢ iprop(inFlight copies order m c 0 ∗ inFlight copies order m c 1 ∗ inFlight copies order m c 2 ∗ inFlight copies order m c 3 ∗ inFlight copies order m c 4 ∗ inFlight copies order m c 5 ∗ inFlight copies order m c 6 ∗ inFlight copies order m c 7 ∗ inFlight copies order m c 8 ∗ inFlight copies order m c 9 ∗ emp) from Entails.of_eq (flight_list m c)) $$ HF
    unfold inFlight
    icases HF with ⟨⟨HS0, HV0⟩, ⟨HS1, HV1⟩, ⟨HS2, HV2⟩, ⟨HS3, HV3⟩, ⟨HS4, HV4⟩, ⟨HS5, HV5⟩, ⟨HS6, HV6⟩, ⟨HS7, HV7⟩, ⟨HS8, HV8⟩, ⟨HS9, HV9⟩, -⟩
    iapply ((copies_ok.facts copies order m).wait_recv 𝒱₀ K c 0 _ rfl) $$ [HV0 HO]
    · isplitr; · iexact HR
      isplitl [HV0]; · iexact HV0
      iexact HO
    iintro ⟨HV0, HO⟩
    iapply ((copies_ok.facts copies order m).wait_send 𝒱₀ K c 0 _ rfl) $$ [HS0 HO]
    · isplitr; · iexact HR
      isplitl [HS0]; · iexact HS0
      iexact HO
    iintro ⟨HS0, HO⟩
    iapply ((copies_ok.facts copies order m).wait_recv 𝒱₀ K c 1 _ rfl) $$ [HV1 HO]
    · isplitr; · iexact HR
      isplitl [HV1]; · iexact HV1
      iexact HO
    iintro ⟨HV1, HO⟩
    iapply ((copies_ok.facts copies order m).wait_recv 𝒱₀ K c 2 _ rfl) $$ [HV2 HO]
    · isplitr; · iexact HR
      isplitl [HV2]; · iexact HV2
      iexact HO
    iintro ⟨HV2, HO⟩
    iapply ((copies_ok.facts copies order m).wait_recv 𝒱₀ K c 3 _ rfl) $$ [HV3 HO]
    · isplitr; · iexact HR
      isplitl [HV3]; · iexact HV3
      iexact HO
    iintro ⟨HV3, HO⟩
    iapply ((copies_ok.facts copies order m).wait_recv 𝒱₀ K c 4 _ rfl) $$ [HV4 HO]
    · isplitr; · iexact HR
      isplitl [HV4]; · iexact HV4
      iexact HO
    iintro ⟨HV4, HO⟩
    iapply ((copies_ok.facts copies order m).wait_recv 𝒱₀ K c 5 _ rfl) $$ [HV5 HO]
    · isplitr; · iexact HR
      isplitl [HV5]; · iexact HV5
      iexact HO
    iintro ⟨HV5, HO⟩
    iapply ((copies_ok.facts copies order m).wait_recv 𝒱₀ K c 6 _ rfl) $$ [HV6 HO]
    · isplitr; · iexact HR
      isplitl [HV6]; · iexact HV6
      iexact HO
    iintro ⟨HV6, HO⟩
    iapply ((copies_ok.facts copies order m).wait_recv 𝒱₀ K c 7 _ rfl) $$ [HV7 HO]
    · isplitr; · iexact HR
      isplitl [HV7]; · iexact HV7
      iexact HO
    iintro ⟨HV7, HO⟩
    iapply ((copies_ok.facts copies order m).wait_recv 𝒱₀ K c 8 _ rfl) $$ [HV8 HO]
    · isplitr; · iexact HR
      isplitl [HV8]; · iexact HV8
      iexact HO
    iintro ⟨HV8, HO⟩
    iapply ((copies_ok.facts copies order m).wait_recv 𝒱₀ K c 9 _ rfl) $$ [HV9 HO]
    · isplitr; · iexact HR
      isplitl [HV9]; · iexact HV9
      iexact HO
    iintro ⟨HV9, HO⟩
    iapply ((copies_ok.facts copies order m).wait_send 𝒱₀ K c 1 _ rfl) $$ [HS1 HO]
    · isplitr; · iexact HR
      isplitl [HS1]; · iexact HS1
      iexact HO
    iintro ⟨HS1, HO⟩
    iapply ((copies_ok.facts copies order m).wait_send 𝒱₀ K c 2 _ rfl) $$ [HS2 HO]
    · isplitr; · iexact HR
      isplitl [HS2]; · iexact HS2
      iexact HO
    iintro ⟨HS2, HO⟩
    iapply ((copies_ok.facts copies order m).wait_send 𝒱₀ K c 3 _ rfl) $$ [HS3 HO]
    · isplitr; · iexact HR
      isplitl [HS3]; · iexact HS3
      iexact HO
    iintro ⟨HS3, HO⟩
    iapply ((copies_ok.facts copies order m).wait_send 𝒱₀ K c 4 _ rfl) $$ [HS4 HO]
    · isplitr; · iexact HR
      isplitl [HS4]; · iexact HS4
      iexact HO
    iintro ⟨HS4, HO⟩
    iapply ((copies_ok.facts copies order m).wait_send 𝒱₀ K c 5 _ rfl) $$ [HS5 HO]
    · isplitr; · iexact HR
      isplitl [HS5]; · iexact HS5
      iexact HO
    iintro ⟨HS5, HO⟩
    iapply ((copies_ok.facts copies order m).wait_send 𝒱₀ K c 6 _ rfl) $$ [HS6 HO]
    · isplitr; · iexact HR
      isplitl [HS6]; · iexact HS6
      iexact HO
    iintro ⟨HS6, HO⟩
    iapply ((copies_ok.facts copies order m).wait_send 𝒱₀ K c 7 _ rfl) $$ [HS7 HO]
    · isplitr; · iexact HR
      isplitl [HS7]; · iexact HS7
      iexact HO
    iintro ⟨HS7, HO⟩
    iapply ((copies_ok.facts copies order m).wait_send 𝒱₀ K c 8 _ rfl) $$ [HS8 HO]
    · isplitr; · iexact HR
      isplitl [HS8]; · iexact HS8
      iexact HO
    iintro ⟨HS8, HO⟩
    iapply ((copies_ok.facts copies order m).wait_send 𝒱₀ K c 9 _ rfl) $$ [HS9 HO]
    · isplitr; · iexact HR
      isplitl [HS9]; · iexact HS9
      iexact HO
    iintro ⟨HS9, HO⟩
    iapply Hk
    iapply ((X m).after_last grid0.N c t.val ht)
    unfold Talk.landed
    isplitr [HO]
    · iapply (show iprop(isDone copies order m c 0 ∗ isDone copies order m c 1 ∗ isDone copies order m c 2 ∗ isDone copies order m c 3 ∗ isDone copies order m c 4 ∗ isDone copies order m c 5 ∗ isDone copies order m c 6 ∗ isDone copies order m c 7 ∗ isDone copies order m c 8 ∗ isDone copies order m c 9 ∗ emp)
        ⊢ (X m).done c from Entails.of_eq (done_list m c).symm)
      unfold isDone
      isplitl [HS0 HV0]
      · isplitl [HS0]; · iexact HS0
        iexact HV0
      isplitl [HS1 HV1]
      · isplitl [HS1]; · iexact HS1
        iexact HV1
      isplitl [HS2 HV2]
      · isplitl [HS2]; · iexact HS2
        iexact HV2
      isplitl [HS3 HV3]
      · isplitl [HS3]; · iexact HS3
        iexact HV3
      isplitl [HS4 HV4]
      · isplitl [HS4]; · iexact HS4
        iexact HV4
      isplitl [HS5 HV5]
      · isplitl [HS5]; · iexact HS5
        iexact HV5
      isplitl [HS6 HV6]
      · isplitl [HS6]; · iexact HS6
        iexact HV6
      isplitl [HS7 HV7]
      · isplitl [HS7]; · iexact HS7
        iexact HV7
      isplitl [HS8 HV8]
      · isplitl [HS8]; · iexact HS8
        iexact HV8
      isplitl [HS9 HV9]
      · isplitl [HS9]; · iexact HS9
        iexact HV9
      iempintro
    iexists _; iexact HO
  case hB2 =>
    intro h2
    exact (X m).after_between grid0.N c t.val (Nat.lt_of_le_of_ne t.isLt fun e => h2 ((cond2_iff t).mpr e))
  iintro Hst
  rw [wp_ret]; imodintro
  iapply Hk
  isplitl [Hst]; · iexact Hst
  isplitl [H0]; · iexact H0
  isplitl [H1]; · iexact H1
  iexact H2

/-- The body obligation. -/
theorem body_obligation (c : Dev nD) : BodyObligation (dats m 0 c) (defs₀ (F := F)) 𝒱₀ () Set.univ := fun t => by
  rw [bigSep_W0, bigSep_W0]
  show iprop((X m).before grid0.N c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 (F := F) t) fun _ =>
      iprop((X m).before grid0.N c (t.val + 1) ∗ (dats m 0 c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (k0_pay1 (iblk m c 0 t) (iblk m c 1 t)))
  iintro ⟨HΦ, Ho, ⟨%d0, H0⟩, ⟨%d1, H1⟩, ⟨%d2, H2⟩⟩
  rw [before_0, before_1]
  unfold Dat.owesAt Pipeline.owesWithin
  icases Ho with ⟨%W, %hW, HO⟩
  iapply (sound_body m c t _ ((dats m 0 c).before 2 t d2))
  isplitl [HΦ HO]
  · isplitl [HΦ]; · iexact HΦ
    iexists W; iexact HO
  isplitl [H0]; · iexact H0
  isplitl [H1]; · iexact H1
  isplitl [H2]; · iexact H2
  iintro ⟨⟨HΦ, %W', HO⟩, H0, H1, H2⟩
  isplitl [HΦ]; · iexact HΦ
  isplitl [HO]
  · iexists W'
    isplitr; · ipureintro; exact fun _ _ => Or.inl trivial
    iexact HO
  isplitl [H0]; · iexact H0
  isplitl [H1]; · iexact H1
  iexact H2

end Cert.OwnRows

end
-- ==== Proof.OwnRowsRun.lean ====
/-
  The whole run of the kernel of the projection's weight gradient, own rows, over any float values: where its results end, its
  arguments unchanged and every semaphore back at zero. Both frames are this run.
-/
module

public import proofs.«01_k».proof.Defs
public import proofs.«01_k».proof.Proof.OwnRowsBody
public import proofs.«01_k».proof.Proof.Landing
public import proofs.«01_k».proof.Proof.Gen.KernelOwnRows

@[expose] public section

set_option Elab.async false

noncomputable section

namespace Cert.OwnRows

open Cert.KernelOwnRowsIdeal Cert.KernelOwnRowsIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ)

/-- No source shares an array with a landing place. -/
theorem spots_apart : ∀ c k k', (spot copies c k').view.ref ≠ ((copies k).src c).view.ref := by decide +kernel

/-- Nothing lands in an argument. -/
theorem spots_ne_arg2 : ∀ c k, (spot copies c k).view.ref ≠ main_arg2 := by decide +kernel
theorem spots_ne_arg3 : ∀ c k, (spot copies c k).view.ref ≠ main_arg3 := by decide +kernel
theorem spots_ne_arg4 : ∀ c k, (spot copies c k).view.ref ≠ main_arg4 := by decide +kernel
theorem spots_ne_arg5 : ∀ c k, (spot copies c k).view.ref ≠ main_arg5 := by decide +kernel

theorem run_main (g : Dev nD → PrngReg) :
    θ_run (Cert.KernelOwnRowsIdeal.defs (F := F)) (onTc (τ := τ) (main (F := F))) ⟨m, fun _ => 0, g⟩ (fun r => (∀ c : Dev nD,
      r.2.mem ((c : Thread nD τ).loc main_v1_0) = (dats m 0 c).arrAt 2 cfg0.N
      ∧ r.2.mem ((c : Thread nD τ).loc main_v1_1) = ending copies order m c main_v1_1
      ∧ r.2.mem ((c : Thread nD τ).loc main_v1_2) = ending copies order m c main_v1_2
      ∧ r.2.mem ((c : Thread nD τ).loc main_v1_3) = ending copies order m c main_v1_3
      ∧ r.2.mem ((c : Thread nD τ).loc main_v1_4) = ending copies order m c main_v1_4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) := by
  refine (θ_run Cert.KernelOwnRowsIdeal.defs _ _).mono (fun r h => ⟨fun c => ⟨(h.1 c).1 2, ?_, ?_, ?_, ?_, ?_, ?_, ?_, ?_, ?_, ?_⟩, sem_eq_zero_of_scoped (by decide) h.2⟩)
    (θ_run_talk cfgs (dats m) 0 launch0 (X m) (copies_ok.facts copies order m) ownSems defs₀ 𝒱₀ m g (main (F := F))
      (fun c => rfl) (fun c => (body_obligation m c).loose) (fun c w => rfl) (fun c w => by fin_cases w <;> rfl)
      (fun c => rfl) (fun c t => (X m).owedAt_or c t.val) (fun c => rfl)
      (fun c => ?_) (fun c => ?_) (kept copies m cfgs 0) (ending copies order m)
      (splits copies order m cfgs 0 copies_apart places_rest _ (ending_lands m cfgs 0 copies_ok copies_apart spots_apart)))
  · exact (h.1 c).2 main_v1_1 (Pipeline.mem_restRefs_of main_v1_1 (by decide) (by decide))
  · exact (h.1 c).2 main_v1_2 (Pipeline.mem_restRefs_of main_v1_2 (by decide) (by decide))
  · exact (h.1 c).2 main_v1_3 (Pipeline.mem_restRefs_of main_v1_3 (by decide) (by decide))
  · exact (h.1 c).2 main_v1_4 (Pipeline.mem_restRefs_of main_v1_4 (by decide) (by decide))
  · exact ((h.1 c).1 0).trans ((dats m 0 c).arrAt_in 0 rfl _)
  · exact ((h.1 c).1 1).trans ((dats m 0 c).arrAt_in 1 rfl _)
  · exact ((h.1 c).2 main_arg2 (Pipeline.mem_restRefs_of main_arg2 (by decide) (by decide))).trans (ending_ne copies order m c main_arg2 (spots_ne_arg2 c))
  · exact ((h.1 c).2 main_arg3 (Pipeline.mem_restRefs_of main_arg3 (by decide) (by decide))).trans (ending_ne copies order m c main_arg3 (spots_ne_arg3 c))
  · exact ((h.1 c).2 main_arg4 (Pipeline.mem_restRefs_of main_arg4 (by decide) (by decide))).trans (ending_ne copies order m c main_arg4 (spots_ne_arg4 c))
  · exact ((h.1 c).2 main_arg5 (Pipeline.mem_restRefs_of main_arg5 (by decide) (by decide))).trans (ending_ne copies order m c main_arg5 (spots_ne_arg5 c))
  · show _ ⊢ (X m).before grid0.N c 0
    unfold Talk.before
    rw [if_pos rfl]
    iintro ⟨H, -⟩; iexact H
  · show (X m).before grid0.N c grid0.N ⊢ _
    unfold Talk.before
    rw [if_neg (by decide), if_neg (Nat.lt_irrefl _), scopedRest0_eq]
    iintro H
    isplitl [H]; · iexact H
    iempintro

/-- The arguments end unchanged, the semaphores at zero. -/
theorem run_frame (g : Dev nD → PrngReg) :
    θ_run (Cert.KernelOwnRowsIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run Cert.KernelOwnRowsIdeal.defs _ _).mono (fun _ h => ⟨fun c => (h.1 c).2.2.2.2.2, h.2⟩) (run_main m g)

theorem frame_ideal : Cert.quiescent_KernelOwnRowsIdeal := fun m g _ => run_frame (F := Ideal) m g

/-- The two printed programs have one body table. -/
theorem bodies_eq : Cert.KernelOwnRows.defs₀ (F := F) = Cert.KernelOwnRowsIdeal.defs₀ (F := F) :=
  congrArg (Defs.onTc (τ := Cert.KernelOwnRows.τ)) (funext fun b => funext fun a => match b, a with
    | ⟨0, _⟩, (t, s) => rfl
    | ⟨_ + 1, h⟩, _ => absurd h (Nat.not_lt.2 (Nat.le_add_left _ _)))

theorem defs_eq : Cert.KernelOwnRows.defs (F := F) = Cert.KernelOwnRowsIdeal.defs (F := F) := by
  unfold Cert.KernelOwnRows.defs Cert.KernelOwnRowsIdeal.defs
  rw [bodies_eq]
  rfl

theorem frame_kernel : Cert.quiescent_KernelOwnRows := fun m g _ => by
  rw [defs_eq]
  exact run_frame (F := Bits) m g

end Cert.OwnRows

end
-- ==== Proof.OwnRowsRef.lean ====
/-
  The run of the reference of the own rows' products and exchanges: on its one device, over any float values, where its results end and its
  arguments unchanged.
-/
module

public import Idealize.ShloMosaic.Lib.StableHlo.Run
public import Idealize.ShloMosaic.Lib.Pipeline.Frame
public import proofs.«01_k».proof.Defs
public import proofs.«01_k».proof.Proof.Gen.ReferenceOwnRowsIdeal

@[expose] public section

noncomputable section

namespace Cert.OwnRows.Ref

open Cert.ReferenceOwnRowsIdeal Cert.ReferenceOwnRowsIdeal.Gen
open Idealize.ShloMosaic Idealize.ShloMosaic.TcCoe Idealize.ShloMosaic.StableHlo Idealize.SL.Sem

variable {F : FTy → Type} [FloatOps F]

/-- Result 0 of the arguments. -/
def out0 (x0 : FVec F S8192x4224 .bf16) (x1 : FVec F S33792x10240 .bf16) : FVec F S32x1024x2560 .bf16 :=
  (shapeCast S32x1024x2560 (transpose S8x4x1024x2560 [0, 2, 1, 3] (shapeCast S8x1024x4x2560 (truncf .bf16 (Host.dotGeneral dot_S8x1024x4224_S8x4224x10240_S8x1024x10240_2_1_1_2_0_0 none (shapeCast S8x1024x4224 x0 shapeCasts_S8192x4224_S8x1024x4224) (shapeCast S8x4224x10240 x1 shapeCasts_S33792x10240_S8x4224x10240)) bitsLt_bf16_f32) shapeCasts_S8x1024x10240_S8x1024x4x2560) transposes_S8x1024x4x2560_S8x4x1024x2560_0_2_1_3) shapeCasts_S8x4x1024x2560_S32x1024x2560)

/-- Result 1 of the arguments. -/
def out1 (x2 : FVec F S32x1024x2560 .bf16) : FVec F S32x1024x2560 .bf16 :=
  (shapeCast S32x1024x2560 (Host.reverse [1] (shapeCast S4x2x4x1024x2560 x2 shapeCasts_S32x1024x2560_S4x2x4x1024x2560)) shapeCasts_S4x2x4x1024x2560_S32x1024x2560)

/-- Result 2 of the arguments. -/
def out2 (x3 : FVec F S32x256x512 .bf16) : FVec F S24x256x512 .bf16 :=
  (shapeCast S24x256x512 (transpose S4x2x3x256x512 [0, 2, 1, 3, 4] (shapeCast S4x3x2x256x512 (concatenate S24x256x512 0 [⟨S2x256x512, (Host.slice S2x256x512 ![16, 0, 0] ![4, 1, 1] x3 slicesBy_S32x256x512_S2x256x512_16s4_0s1_0s1)⟩, ⟨S2x256x512, (Host.slice S2x256x512 ![8, 0, 0] ![4, 1, 1] x3 slicesBy_S32x256x512_S2x256x512_8s4_0s1_0s1)⟩, ⟨S2x256x512, (Host.slice S2x256x512 ![24, 0, 0] ![4, 1, 1] x3 slicesBy_S32x256x512_S2x256x512_24s4_0s1_0s1)⟩, ⟨S2x256x512, (Host.slice S2x256x512 ![25, 0, 0] ![4, 1, 1] x3 slicesBy_S32x256x512_S2x256x512_25s4_0s1_0s1)⟩, ⟨S2x256x512, (Host.slice S2x256x512 ![1, 0, 0] ![4, 1, 1] x3 slicesBy_S32x256x512_S2x256x512_1s4_0s1_0s1)⟩, ⟨S2x256x512, (Host.slice S2x256x512 ![17, 0, 0] ![4, 1, 1] x3 slicesBy_S32x256x512_S2x256x512_17s4_0s1_0s1)⟩, ⟨S2x256x512, (Host.slice S2x256x512 ![2, 0, 0] ![4, 1, 1] x3 slicesBy_S32x256x512_S2x256x512_2s4_0s1_0s1)⟩, ⟨S2x256x512, (Host.slice S2x256x512 ![26, 0, 0] ![4, 1, 1] x3 slicesBy_S32x256x512_S2x256x512_26s4_0s1_0s1)⟩, ⟨S2x256x512, (Host.slice S2x256x512 ![10, 0, 0] ![4, 1, 1] x3 slicesBy_S32x256x512_S2x256x512_10s4_0s1_0s1)⟩, ⟨S2x256x512, (Host.slice S2x256x512 ![11, 0, 0] ![4, 1, 1] x3 slicesBy_S32x256x512_S2x256x512_11s4_0s1_0s1)⟩, ⟨S2x256x512, (Host.slice S2x256x512 ![19, 0, 0] ![4, 1, 1] x3 slicesBy_S32x256x512_S2x256x512_19s4_0s1_0s1)⟩, ⟨S2x256x512, (Host.slice S2x256x512 ![3, 0, 0] ![4, 1, 1] x3 slicesBy_S32x256x512_S2x256x512_3s4_0s1_0s1)⟩] concatenates_S2x256x512_S2x256x512_S2x256x512_S2x256x512_S2x256x512_S2x256x512_S2x256x512_S2x256x512_S2x256x512_S2x256x512_S2x256x512_S2x256x512_S24x256x512_d0) shapeCasts_S24x256x512_S4x3x2x256x512) transposes_S4x3x2x256x512_S4x2x3x256x512_0_2_1_3_4) shapeCasts_S4x2x3x256x512_S24x256x512)

/-- Results 3 and 4 of the arguments. -/
def out3 (x4 : FVec F S32x256x256 .bf16) : FVec F S24x256x256 .bf16 :=
  (shapeCast S24x256x256 (transpose S4x2x3x256x256 [0, 2, 1, 3, 4] (shapeCast S4x3x2x256x256 (concatenate S24x256x256 0 [⟨S2x256x256, (Host.slice S2x256x256 ![16, 0, 0] ![4, 1, 1] x4 slicesBy_S32x256x256_S2x256x256_16s4_0s1_0s1)⟩, ⟨S2x256x256, (Host.slice S2x256x256 ![8, 0, 0] ![4, 1, 1] x4 slicesBy_S32x256x256_S2x256x256_8s4_0s1_0s1)⟩, ⟨S2x256x256, (Host.slice S2x256x256 ![24, 0, 0] ![4, 1, 1] x4 slicesBy_S32x256x256_S2x256x256_24s4_0s1_0s1)⟩, ⟨S2x256x256, (Host.slice S2x256x256 ![25, 0, 0] ![4, 1, 1] x4 slicesBy_S32x256x256_S2x256x256_25s4_0s1_0s1)⟩, ⟨S2x256x256, (Host.slice S2x256x256 ![1, 0, 0] ![4, 1, 1] x4 slicesBy_S32x256x256_S2x256x256_1s4_0s1_0s1)⟩, ⟨S2x256x256, (Host.slice S2x256x256 ![17, 0, 0] ![4, 1, 1] x4 slicesBy_S32x256x256_S2x256x256_17s4_0s1_0s1)⟩, ⟨S2x256x256, (Host.slice S2x256x256 ![2, 0, 0] ![4, 1, 1] x4 slicesBy_S32x256x256_S2x256x256_2s4_0s1_0s1)⟩, ⟨S2x256x256, (Host.slice S2x256x256 ![26, 0, 0] ![4, 1, 1] x4 slicesBy_S32x256x256_S2x256x256_26s4_0s1_0s1)⟩, ⟨S2x256x256, (Host.slice S2x256x256 ![10, 0, 0] ![4, 1, 1] x4 slicesBy_S32x256x256_S2x256x256_10s4_0s1_0s1)⟩, ⟨S2x256x256, (Host.slice S2x256x256 ![11, 0, 0] ![4, 1, 1] x4 slicesBy_S32x256x256_S2x256x256_11s4_0s1_0s1)⟩, ⟨S2x256x256, (Host.slice S2x256x256 ![19, 0, 0] ![4, 1, 1] x4 slicesBy_S32x256x256_S2x256x256_19s4_0s1_0s1)⟩, ⟨S2x256x256, (Host.slice S2x256x256 ![3, 0, 0] ![4, 1, 1] x4 slicesBy_S32x256x256_S2x256x256_3s4_0s1_0s1)⟩] concatenates_S2x256x256_S2x256x256_S2x256x256_S2x256x256_S2x256x256_S2x256x256_S2x256x256_S2x256x256_S2x256x256_S2x256x256_S2x256x256_S2x256x256_S24x256x256_d0) shapeCasts_S24x256x256_S4x3x2x256x256) transposes_S4x3x2x256x256_S4x2x3x256x256_0_2_1_3_4) shapeCasts_S4x2x3x256x256_S24x256x256)

/-- The operations of the run, in order. -/
abbrev ops : List (HloOp τ sig (Elt F)) :=
  [ reshape main_arg0 main_v0 rfl shapeCasts_S8192x4224_S8x1024x4224,
    reshape main_arg1 main_v1 rfl shapeCasts_S33792x10240_S8x4224x10240,
    binary main_v0 main_v1 main_v2 (fun l r => Host.dotGeneral dot_S8x1024x4224_S8x4224x10240_S8x1024x10240_2_1_1_2_0_0 none l r),
    unary main_v2 main_v3 (truncf .bf16 · bitsLt_bf16_f32),
    reshape main_v3 main_v4 rfl shapeCasts_S8x1024x10240_S8x1024x4x2560,
    unary main_v4 main_v5 (transpose S8x4x1024x2560 [0, 2, 1, 3] · transposes_S8x1024x4x2560_S8x4x1024x2560_0_2_1_3),
    reshape main_v5 main_v6 rfl shapeCasts_S8x4x1024x2560_S32x1024x2560,
    reshape main_arg2 main_v7 rfl shapeCasts_S32x1024x2560_S4x2x4x1024x2560,
    unary main_v7 main_v8 (Host.reverse [1]),
    reshape main_v8 main_v9 rfl shapeCasts_S4x2x4x1024x2560_S32x1024x2560,
    unary main_arg3 main_v10 (Host.slice S2x256x512 ![16, 0, 0] ![4, 1, 1] · slicesBy_S32x256x512_S2x256x512_16s4_0s1_0s1),
    unary main_arg3 main_v11 (Host.slice S2x256x512 ![8, 0, 0] ![4, 1, 1] · slicesBy_S32x256x512_S2x256x512_8s4_0s1_0s1),
    unary main_arg3 main_v12 (Host.slice S2x256x512 ![24, 0, 0] ![4, 1, 1] · slicesBy_S32x256x512_S2x256x512_24s4_0s1_0s1),
    unary main_arg3 main_v13 (Host.slice S2x256x512 ![25, 0, 0] ![4, 1, 1] · slicesBy_S32x256x512_S2x256x512_25s4_0s1_0s1),
    unary main_arg3 main_v14 (Host.slice S2x256x512 ![1, 0, 0] ![4, 1, 1] · slicesBy_S32x256x512_S2x256x512_1s4_0s1_0s1),
    unary main_arg3 main_v15 (Host.slice S2x256x512 ![17, 0, 0] ![4, 1, 1] · slicesBy_S32x256x512_S2x256x512_17s4_0s1_0s1),
    unary main_arg3 main_v16 (Host.slice S2x256x512 ![2, 0, 0] ![4, 1, 1] · slicesBy_S32x256x512_S2x256x512_2s4_0s1_0s1),
    unary main_arg3 main_v17 (Host.slice S2x256x512 ![26, 0, 0] ![4, 1, 1] · slicesBy_S32x256x512_S2x256x512_26s4_0s1_0s1),
    unary main_arg3 main_v18 (Host.slice S2x256x512 ![10, 0, 0] ![4, 1, 1] · slicesBy_S32x256x512_S2x256x512_10s4_0s1_0s1),
    unary main_arg3 main_v19 (Host.slice S2x256x512 ![11, 0, 0] ![4, 1, 1] · slicesBy_S32x256x512_S2x256x512_11s4_0s1_0s1),
    unary main_arg3 main_v20 (Host.slice S2x256x512 ![19, 0, 0] ![4, 1, 1] · slicesBy_S32x256x512_S2x256x512_19s4_0s1_0s1),
    unary main_arg3 main_v21 (Host.slice S2x256x512 ![3, 0, 0] ![4, 1, 1] · slicesBy_S32x256x512_S2x256x512_3s4_0s1_0s1),
    nary ![main_v10, main_v11, main_v12, main_v13, main_v14, main_v15, main_v16, main_v17, main_v18, main_v19, main_v20, main_v21] main_v22 (fun u => (concatenate S24x256x512 0 [⟨S2x256x512, (u 0 : (⟨S2x256x512, .bf16⟩ : BufTy).Contents (Elt F))⟩, ⟨S2x256x512, (u 1 : (⟨S2x256x512, .bf16⟩ : BufTy).Contents (Elt F))⟩, ⟨S2x256x512, (u 2 : (⟨S2x256x512, .bf16⟩ : BufTy).Contents (Elt F))⟩, ⟨S2x256x512, (u 3 : (⟨S2x256x512, .bf16⟩ : BufTy).Contents (Elt F))⟩, ⟨S2x256x512, (u 4 : (⟨S2x256x512, .bf16⟩ : BufTy).Contents (Elt F))⟩, ⟨S2x256x512, (u 5 : (⟨S2x256x512, .bf16⟩ : BufTy).Contents (Elt F))⟩, ⟨S2x256x512, (u 6 : (⟨S2x256x512, .bf16⟩ : BufTy).Contents (Elt F))⟩, ⟨S2x256x512, (u 7 : (⟨S2x256x512, .bf16⟩ : BufTy).Contents (Elt F))⟩, ⟨S2x256x512, (u 8 : (⟨S2x256x512, .bf16⟩ : BufTy).Contents (Elt F))⟩, ⟨S2x256x512, (u 9 : (⟨S2x256x512, .bf16⟩ : BufTy).Contents (Elt F))⟩, ⟨S2x256x512, (u 10 : (⟨S2x256x512, .bf16⟩ : BufTy).Contents (Elt F))⟩, ⟨S2x256x512, (u 11 : (⟨S2x256x512, .bf16⟩ : BufTy).Contents (Elt F))⟩] concatenates_S2x256x512_S2x256x512_S2x256x512_S2x256x512_S2x256x512_S2x256x512_S2x256x512_S2x256x512_S2x256x512_S2x256x512_S2x256x512_S2x256x512_S24x256x512_d0 : (⟨S24x256x512, .bf16⟩ : BufTy).Contents (Elt F))),
    reshape main_v22 main_v23 rfl shapeCasts_S24x256x512_S4x3x2x256x512,
    unary main_v23 main_v24 (transpose S4x2x3x256x512 [0, 2, 1, 3, 4] · transposes_S4x3x2x256x512_S4x2x3x256x512_0_2_1_3_4),
    reshape main_v24 main_v25 rfl shapeCasts_S4x2x3x256x512_S24x256x512,
    unary main_arg4 main_v26 (Host.slice S2x256x256 ![16, 0, 0] ![4, 1, 1] · slicesBy_S32x256x256_S2x256x256_16s4_0s1_0s1),
    unary main_arg4 main_v27 (Host.slice S2x256x256 ![8, 0, 0] ![4, 1, 1] · slicesBy_S32x256x256_S2x256x256_8s4_0s1_0s1),
    unary main_arg4 main_v28 (Host.slice S2x256x256 ![24, 0, 0] ![4, 1, 1] · slicesBy_S32x256x256_S2x256x256_24s4_0s1_0s1),
    unary main_arg4 main_v29 (Host.slice S2x256x256 ![25, 0, 0] ![4, 1, 1] · slicesBy_S32x256x256_S2x256x256_25s4_0s1_0s1),
    unary main_arg4 main_v30 (Host.slice S2x256x256 ![1, 0, 0] ![4, 1, 1] · slicesBy_S32x256x256_S2x256x256_1s4_0s1_0s1),
    unary main_arg4 main_v31 (Host.slice S2x256x256 ![17, 0, 0] ![4, 1, 1] · slicesBy_S32x256x256_S2x256x256_17s4_0s1_0s1),
    unary main_arg4 main_v32 (Host.slice S2x256x256 ![2, 0, 0] ![4, 1, 1] · slicesBy_S32x256x256_S2x256x256_2s4_0s1_0s1),
    unary main_arg4 main_v33 (Host.slice S2x256x256 ![26, 0, 0] ![4, 1, 1] · slicesBy_S32x256x256_S2x256x256_26s4_0s1_0s1),
    unary main_arg4 main_v34 (Host.slice S2x256x256 ![10, 0, 0] ![4, 1, 1] · slicesBy_S32x256x256_S2x256x256_10s4_0s1_0s1),
    unary main_arg4 main_v35 (Host.slice S2x256x256 ![11, 0, 0] ![4, 1, 1] · slicesBy_S32x256x256_S2x256x256_11s4_0s1_0s1),
    unary main_arg4 main_v36 (Host.slice S2x256x256 ![19, 0, 0] ![4, 1, 1] · slicesBy_S32x256x256_S2x256x256_19s4_0s1_0s1),
    unary main_arg4 main_v37 (Host.slice S2x256x256 ![3, 0, 0] ![4, 1, 1] · slicesBy_S32x256x256_S2x256x256_3s4_0s1_0s1),
    nary ![main_v26, main_v27, main_v28, main_v29, main_v30, main_v31, main_v32, main_v33, main_v34, main_v35, main_v36, main_v37] main_v38 (fun u => (concatenate S24x256x256 0 [⟨S2x256x256, (u 0 : (⟨S2x256x256, .bf16⟩ : BufTy).Contents (Elt F))⟩, ⟨S2x256x256, (u 1 : (⟨S2x256x256, .bf16⟩ : BufTy).Contents (Elt F))⟩, ⟨S2x256x256, (u 2 : (⟨S2x256x256, .bf16⟩ : BufTy).Contents (Elt F))⟩, ⟨S2x256x256, (u 3 : (⟨S2x256x256, .bf16⟩ : BufTy).Contents (Elt F))⟩, ⟨S2x256x256, (u 4 : (⟨S2x256x256, .bf16⟩ : BufTy).Contents (Elt F))⟩, ⟨S2x256x256, (u 5 : (⟨S2x256x256, .bf16⟩ : BufTy).Contents (Elt F))⟩, ⟨S2x256x256, (u 6 : (⟨S2x256x256, .bf16⟩ : BufTy).Contents (Elt F))⟩, ⟨S2x256x256, (u 7 : (⟨S2x256x256, .bf16⟩ : BufTy).Contents (Elt F))⟩, ⟨S2x256x256, (u 8 : (⟨S2x256x256, .bf16⟩ : BufTy).Contents (Elt F))⟩, ⟨S2x256x256, (u 9 : (⟨S2x256x256, .bf16⟩ : BufTy).Contents (Elt F))⟩, ⟨S2x256x256, (u 10 : (⟨S2x256x256, .bf16⟩ : BufTy).Contents (Elt F))⟩, ⟨S2x256x256, (u 11 : (⟨S2x256x256, .bf16⟩ : BufTy).Contents (Elt F))⟩] concatenates_S2x256x256_S2x256x256_S2x256x256_S2x256x256_S2x256x256_S2x256x256_S2x256x256_S2x256x256_S2x256x256_S2x256x256_S2x256x256_S2x256x256_S24x256x256_d0 : (⟨S24x256x256, .bf16⟩ : BufTy).Contents (Elt F))),
    reshape main_v38 main_v39 rfl shapeCasts_S24x256x256_S4x3x2x256x256,
    unary main_v39 main_v40 (transpose S4x2x3x256x256 [0, 2, 1, 3, 4] · transposes_S4x3x2x256x256_S4x2x3x256x256_0_2_1_3_4),
    reshape main_v40 main_v41 rfl shapeCasts_S4x2x3x256x256_S24x256x256,
    unary main_arg5 main_v42 (Host.slice S2x256x256 ![16, 0, 0] ![4, 1, 1] · slicesBy_S32x256x256_S2x256x256_16s4_0s1_0s1),
    unary main_arg5 main_v43 (Host.slice S2x256x256 ![8, 0, 0] ![4, 1, 1] · slicesBy_S32x256x256_S2x256x256_8s4_0s1_0s1),
    unary main_arg5 main_v44 (Host.slice S2x256x256 ![24, 0, 0] ![4, 1, 1] · slicesBy_S32x256x256_S2x256x256_24s4_0s1_0s1),
    unary main_arg5 main_v45 (Host.slice S2x256x256 ![25, 0, 0] ![4, 1, 1] · slicesBy_S32x256x256_S2x256x256_25s4_0s1_0s1),
    unary main_arg5 main_v46 (Host.slice S2x256x256 ![1, 0, 0] ![4, 1, 1] · slicesBy_S32x256x256_S2x256x256_1s4_0s1_0s1),
    unary main_arg5 main_v47 (Host.slice S2x256x256 ![17, 0, 0] ![4, 1, 1] · slicesBy_S32x256x256_S2x256x256_17s4_0s1_0s1),
    unary main_arg5 main_v48 (Host.slice S2x256x256 ![2, 0, 0] ![4, 1, 1] · slicesBy_S32x256x256_S2x256x256_2s4_0s1_0s1),
    unary main_arg5 main_v49 (Host.slice S2x256x256 ![26, 0, 0] ![4, 1, 1] · slicesBy_S32x256x256_S2x256x256_26s4_0s1_0s1),
    unary main_arg5 main_v50 (Host.slice S2x256x256 ![10, 0, 0] ![4, 1, 1] · slicesBy_S32x256x256_S2x256x256_10s4_0s1_0s1),
    unary main_arg5 main_v51 (Host.slice S2x256x256 ![11, 0, 0] ![4, 1, 1] · slicesBy_S32x256x256_S2x256x256_11s4_0s1_0s1),
    unary main_arg5 main_v52 (Host.slice S2x256x256 ![19, 0, 0] ![4, 1, 1] · slicesBy_S32x256x256_S2x256x256_19s4_0s1_0s1),
    unary main_arg5 main_v53 (Host.slice S2x256x256 ![3, 0, 0] ![4, 1, 1] · slicesBy_S32x256x256_S2x256x256_3s4_0s1_0s1),
    nary ![main_v42, main_v43, main_v44, main_v45, main_v46, main_v47, main_v48, main_v49, main_v50, main_v51, main_v52, main_v53] main_v54 (fun u => (concatenate S24x256x256 0 [⟨S2x256x256, (u 0 : (⟨S2x256x256, .bf16⟩ : BufTy).Contents (Elt F))⟩, ⟨S2x256x256, (u 1 : (⟨S2x256x256, .bf16⟩ : BufTy).Contents (Elt F))⟩, ⟨S2x256x256, (u 2 : (⟨S2x256x256, .bf16⟩ : BufTy).Contents (Elt F))⟩, ⟨S2x256x256, (u 3 : (⟨S2x256x256, .bf16⟩ : BufTy).Contents (Elt F))⟩, ⟨S2x256x256, (u 4 : (⟨S2x256x256, .bf16⟩ : BufTy).Contents (Elt F))⟩, ⟨S2x256x256, (u 5 : (⟨S2x256x256, .bf16⟩ : BufTy).Contents (Elt F))⟩, ⟨S2x256x256, (u 6 : (⟨S2x256x256, .bf16⟩ : BufTy).Contents (Elt F))⟩, ⟨S2x256x256, (u 7 : (⟨S2x256x256, .bf16⟩ : BufTy).Contents (Elt F))⟩, ⟨S2x256x256, (u 8 : (⟨S2x256x256, .bf16⟩ : BufTy).Contents (Elt F))⟩, ⟨S2x256x256, (u 9 : (⟨S2x256x256, .bf16⟩ : BufTy).Contents (Elt F))⟩, ⟨S2x256x256, (u 10 : (⟨S2x256x256, .bf16⟩ : BufTy).Contents (Elt F))⟩, ⟨S2x256x256, (u 11 : (⟨S2x256x256, .bf16⟩ : BufTy).Contents (Elt F))⟩] concatenates_S2x256x256_S2x256x256_S2x256x256_S2x256x256_S2x256x256_S2x256x256_S2x256x256_S2x256x256_S2x256x256_S2x256x256_S2x256x256_S2x256x256_S24x256x256_d0 : (⟨S24x256x256, .bf16⟩ : BufTy).Contents (Elt F))),
    reshape main_v54 main_v55 rfl shapeCasts_S24x256x256_S4x3x2x256x256,
    unary main_v55 main_v56 (transpose S4x2x3x256x256 [0, 2, 1, 3, 4] · transposes_S4x3x2x256x256_S4x2x3x256x256_0_2_1_3_4),
    reshape main_v56 main_v57 rfl shapeCasts_S4x2x3x256x256_S24x256x256 ]

theorem main_eq (c : Dev nD) : main (F := F) c = seq ops := rfl

theorem out0_eq (V : Valuation τ sig (Elt F)) : after ops V (main_v6 : DevRef τ sig) = out0 (V (main_arg0 : DevRef τ sig)) (V (main_arg1 : DevRef τ sig)) := by
  after_results
  rfl

theorem out1_eq (V : Valuation τ sig (Elt F)) : after ops V (main_v9 : DevRef τ sig) = out1 (V (main_arg2 : DevRef τ sig)) := by
  after_results
  rfl

theorem out2_eq (V : Valuation τ sig (Elt F)) : after ops V (main_v25 : DevRef τ sig) = out2 (V (main_arg3 : DevRef τ sig)) := by
  after_results
  rfl

theorem out3_eq (V : Valuation τ sig (Elt F)) : after ops V (main_v41 : DevRef τ sig) = out3 (V (main_arg4 : DevRef τ sig)) := by
  after_results
  rfl

theorem out4_eq (V : Valuation τ sig (Elt F)) : after ops V (main_v57 : DevRef τ sig) = out3 (V (main_arg5 : DevRef τ sig)) := by
  after_results
  rfl

theorem x0_eq (V : Valuation τ sig (Elt F)) : after ops V (main_arg0 : DevRef τ sig) = V (main_arg0 : DevRef τ sig) := by
  after_results

theorem x1_eq (V : Valuation τ sig (Elt F)) : after ops V (main_arg1 : DevRef τ sig) = V (main_arg1 : DevRef τ sig) := by
  after_results

theorem x2_eq (V : Valuation τ sig (Elt F)) : after ops V (main_arg2 : DevRef τ sig) = V (main_arg2 : DevRef τ sig) := by
  after_results

theorem x3_eq (V : Valuation τ sig (Elt F)) : after ops V (main_arg3 : DevRef τ sig) = V (main_arg3 : DevRef τ sig) := by
  after_results

theorem x4_eq (V : Valuation τ sig (Elt F)) : after ops V (main_arg4 : DevRef τ sig) = V (main_arg4 : DevRef τ sig) := by
  after_results

theorem x5_eq (V : Valuation τ sig (Elt F)) : after ops V (main_arg5 : DevRef τ sig) = V (main_arg5 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., binary_bufs_sub .., unary_bufs_sub .., reshape_bufs_sub .., unary_bufs_sub .., reshape_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v6) = out0 (m ((c : Thread nD τ).loc main_arg0)) (m ((c : Thread nD τ).loc main_arg1))
      ∧ r.2.mem ((c : Thread nD τ).loc main_v9) = out1 (m ((c : Thread nD τ).loc main_arg2))
      ∧ r.2.mem ((c : Thread nD τ).loc main_v25) = out2 (m ((c : Thread nD τ).loc main_arg3))
      ∧ r.2.mem ((c : Thread nD τ).loc main_v41) = out3 (m ((c : Thread nD τ).loc main_arg4))
      ∧ r.2.mem ((c : Thread nD τ).loc main_v57) = out3 (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c main_v6).trans (out0_eq _), (h c main_v9).trans (out1_eq _), (h c main_v25).trans (out2_eq _), (h c main_v41).trans (out3_eq _), (h c main_v57).trans (out4_eq _), (h c main_arg0).trans (x0_eq _), (h c main_arg1).trans (x1_eq _), (h c main_arg2).trans (x2_eq _), (h c main_arg3).trans (x3_eq _), (h c main_arg4).trans (x4_eq _), (h c main_arg5).trans (x5_eq _)⟩)
    (run_seq scopedRefs_eq scopedSems_eq defs main (fun _ => ops) main_eq (fun _ => ops_sub) m ρ)

theorem frame : Cert.quiescent_ReferenceOwnRowsIdeal := fun m g _ =>
  (θ_run defs _ _).mono (fun r h => ⟨fun c => (h c).2.2.2.2.2, sem_eq_zero_of_no_sems (by decide) r.2⟩)
    (run_main (F := Ideal) m g)

end Cert.OwnRows.Ref

end
-- ==== Proof.OwnRowsValue.lean ====
/-
  What the projection's weight gradient, own rows computes, at the ideal values: each device's block of the reference's results.
-/
module

public import proofs.«01_k».proof.Proof.ChipRows
public import proofs.«01_k».proof.Proof.OwnRowsRun
public import proofs.«01_k».proof.Proof.OwnRowsRef

@[expose] public section

set_option maxRecDepth 16384

noncomputable section

namespace Cert.OwnRows

open Cert.KernelOwnRowsIdeal Cert.KernelOwnRowsIdeal.Gen Cert.Exchange

open Idealize.ShloMosaic Idealize.ShloMosaic.TcCoe
open Idealize.SL Idealize.SL.Sem
open Idealize.ShloMosaic.Pipeline (Dat Cfg Window)

variable (m : (ℓ : Loc nD τ sig) → Buf (Elt Ideal) ℓ)

theorem index_0 : ∀ t : Fin cfg0.N, win0_0.index t = ![0, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 1).val / 2, 0, (grid0.coords t 1).val % 2] :=
  (by decide +kernel : ∀ t : Fin grid0.N, _)

/-- A device's products: rows of the first argument by columns of the second, four blocks of columns apart. -/
def product (a : S1024x4224.Idx → EReal) (b : S4224x10240.Idx → EReal) : S4x1024x2560.Idx → EReal :=
  fun x => ∑ k : Fin 4224, a (ix2 (x 1) k) * b (ix2 k ⟨(x 0).val * 2560 + (x 2).val, by
    have h0 : (x 0).val < 4 := (x 0).isLt
    have h2 : (x 2).val < 2560 := (x 2).isLt
    omega⟩)

theorem product_end (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  show k0_pay1 (iblk m c 0 t) (iblk m c 1 t) y = _
  pointwise [k0_pay1, product]
  blk_simp [iblk, index_0, index_1, index_2]
  have h1 : (grid0.coords t 1).val < 8 := (grid0.coords t 1).isLt
  idx_bounds y
  refine Finset.sum_congr rfl fun k _ => congrArg₂ (· * ·)
    (congrArg (m ((c : Thread nD τ).loc main_arg0)) ?_) (congrArg (m ((c : Thread nD τ).loc main_arg1)) ?_)
  · blk_ext [index_0, index_2]
  · blk_ext [index_1, index_2]

/-- A device's block of the reference's products. -/
theorem product_block (c : Dev nD) (a : FVec Ideal Cert.ReferenceOwnRowsIdeal.S8192x4224 .bf16) (b : FVec Ideal Cert.ReferenceOwnRowsIdeal.S33792x10240 .bf16) :
    product (Layout.block ⟨2, ![1024, 4224]⟩ ⟨2, ![8192, 4224]⟩ 0 8 c a) (Layout.block ⟨2, ![4224, 10240]⟩ ⟨2, ![33792, 10240]⟩ 0 8 c b)
      = Layout.block ⟨3, ![4, 1024, 2560]⟩ ⟨3, ![32, 1024, 2560]⟩ 0 8 c (Ref.out0 a b) := by
  funext x
  idx_vars x
  rw [block3]
  pointwise [Ref.out0, product]
  have e0 : (c.val * 4 + x0.val) / 4 = c.val := by omega
  have e1 : (c.val * 4 + x0.val) % 4 = x0.val := by omega
  simp only [block2, e0, e1]

/-- The sibling. -/
def sib (c : Dev nD) : Dev nD := ⟨k0_dev1 c, k0_dev1_lt (grid0.coords t0_0) c cond1_first⟩

theorem sib_val : ∀ c : Dev nD, (sib c).val = 4 * (c.val / 4) + 2 * ((c.val / 2) % 2) + 1 - c.val % 2 := by decide +kernel

/-- The device of the same core on each other chip: along the first axis, along the second, across. -/
def chip (j : Fin 3) (c : Dev nD) : Dev nD :=
  match j with
  | 0 => ⟨k0_dev2 c, k0_dev2_lt (grid0.coords t0_0) c cond1_first⟩
  | 1 => ⟨k0_dev3 c, k0_dev3_lt (grid0.coords t0_0) c cond1_first⟩
  | 2 => ⟨k0_dev4 c, k0_dev4_lt (grid0.coords t0_0) c cond1_first⟩

/-- A device's chip, the slot kept for it. -/
def spot (c : Dev nD) : Fin 4 := ⟨c.val / 2, by have : c.val < 8 := c.isLt; omega⟩

/-- Which of the reference's rows is the slot kept for a device. -/
theorem rows_start : ∀ (c : Dev nD) (j : Fin 3), (chip j c).val * 4 + (spot c).val
    = starts ⟨(c.val * 3 + j.val) / 6 * 3 + (c.val * 3 + j.val) % 3, by have : c.val < 8 := c.isLt; have := j.isLt; omega⟩
      + 4 * ((c.val * 3 + j.val) / 3 % 2) := by decide +kernel

/-- `main_v1_1` ends as the sibling's `main_arg2`, -/
theorem landed_1 (c : Dev nD) : ending copies order m c main_v1_1 = m ((sib c : Thread nD τ).loc main_arg2) :=
  funext fun y => ending_at m copies_ok copies_apart c 0 y

/-- the reference's block. -/
theorem block_1 (c : Dev nD) (g : FVec Ideal Cert.ReferenceOwnRowsIdeal.S32x1024x2560 .bf16) :
    Layout.block ⟨3, ![4, 1024, 2560]⟩ ⟨3, ![32, 1024, 2560]⟩ 0 8 (sib c) g = Layout.block ⟨3, ![4, 1024, 2560]⟩ ⟨3, ![32, 1024, 2560]⟩ 0 8 c (Ref.out1 g) := by
  funext x
  idx_vars x
  rw [block3, block3]
  pointwise [Ref.out1]
  have hc : c.val < 8 := c.isLt
  have hs := sib_val c
  refine congrArg g (congr_ix3 (show (sib c).val * 4 + x0.val = (c.val * 4 + x0.val) / 8 * 8
    + (Fin.rev (⟨(c.val * 4 + x0.val) / 4 % 2, Nat.mod_lt _ (by decide)⟩ : Fin 2)).val * 4 + x0.val from ?_) rfl rfl)
  rw [Fin.val_rev]
  show (sib c).val * 4 + x0.val = (c.val * 4 + x0.val) / 8 * 8 + (2 - ((c.val * 4 + x0.val) / 4 % 2 + 1)) * 4 + x0.val
  omega

/-- Where an element of a slot of `main_arg3` lies. -/
theorem emb_arg3 (off : Fin 3 → ℕ) (h) (r : Fin 256) (s : Fin 512) (k : Fin 4) (ho : off = ![k.val, 0, 0]) :
    (cut_arg3 off h).view.emb (ix2 r s) = (ix3 k r s : S4x256x512.Idx) := by
  subst ho
  show (Rect.unit (s := S4x256x512) _ S1x256x512.size h).emb (Shape.reshapeEquiv squeezes_S1x256x512_S256x512.numel_eq (ix2 r s)) = _
  pointwise
  blk_ext

/-- Where an element of a slot of `main_v1_2` lies. -/
theorem emb_v1_2 (off : Fin 3 → ℕ) (h) (r : Fin 256) (s : Fin 512) (k : Fin 3) (ho : off = ![k.val, 0, 0]) :
    (cut_v1_2 off h).view.emb (ix2 r s) = (ix3 k r s : S3x256x512.Idx) := by
  subst ho
  show (Rect.unit (s := S3x256x512) _ S1x256x512.size h).emb (Shape.reshapeEquiv squeezes_S1x256x512_S256x512.numel_eq (ix2 r s)) = _
  pointwise
  blk_ext

/-- Rows by chip, by chip come from, by core, regrouped by chip, core, chip come from. -/
theorem regroup_256_512 {α : Type} (y : (⟨3, ![24, 256, 512]⟩ : Shape).Idx → α) (h1 h2 h3) (q : Fin 24) (r : Fin 256) (s : Fin 512) :
    shapeCast ⟨3, ![24, 256, 512]⟩ (transpose ⟨5, ![4, 2, 3, 256, 512]⟩ [0, 2, 1, 3, 4] (shapeCast ⟨5, ![4, 3, 2, 256, 512]⟩ y h1) h2) h3 (ix3 q r s)
      = y (ix3 ⟨q.val / 6 * 6 + q.val % 3 * 2 + q.val / 3 % 2, by omega⟩ r s) := by
  pointwise

/-- Slot `j` of `main_v1_2` ends as the slot kept for this device of another chip's `main_arg3`, -/
theorem landed_2 (c : Dev nD) (j : Fin 3) (r : Fin 256) (s : Fin 512) :
    ending copies order m c main_v1_2 (ix3 j r s) = m ((chip j c : Thread nD τ).loc main_arg3) (ix3 (spot c) r s) := by
  match j with
  | 0 => exact (congrArg (ending copies order m c main_v1_2) (emb_v1_2 _ inb_S3x256x512_S1x256x512_0_0_0 r s 0 rfl)).symm.trans <|
      (ending_at m copies_ok copies_apart c 1 (ix2 r s)).trans (congrArg (m ((chip 0 c : Thread nD τ).loc main_arg3))
      (emb_arg3 (k0_off1 (chip 0 c)) _ r s (spot c) ((by decide +kernel : ∀ c : Dev nD, k0_off1 (chip 0 c) = ![(spot c).val, 0, 0]) c)))
  | 1 => exact (congrArg (ending copies order m c main_v1_2) (emb_v1_2 _ inb_S3x256x512_S1x256x512_1_0_0 r s 1 rfl)).symm.trans <|
      (ending_at m copies_ok copies_apart c 2 (ix2 r s)).trans (congrArg (m ((chip 1 c : Thread nD τ).loc main_arg3))
      (emb_arg3 (k0_off2 (chip 1 c)) _ r s (spot c) ((by decide +kernel : ∀ c : Dev nD, k0_off2 (chip 1 c) = ![(spot c).val, 0, 0]) c)))
  | 2 => exact (congrArg (ending copies order m c main_v1_2) (emb_v1_2 _ inb_S3x256x512_S1x256x512_2_0_0 r s 2 rfl)).symm.trans <|
      (ending_at m copies_ok copies_apart c 3 (ix2 r s)).trans (congrArg (m ((chip 2 c : Thread nD τ).loc main_arg3))
      (emb_arg3 (k0_off3 (chip 2 c)) _ r s (spot c) ((by decide +kernel : ∀ c : Dev nD, k0_off3 (chip 2 c) = ![(spot c).val, 0, 0]) c)))

/-- and the reference, read at an element, -/
theorem at_2 (g : FVec Ideal Cert.ReferenceOwnRowsIdeal.S32x256x512 .bf16) (q : Fin 24) (r : Fin 256) (s : Fin 512) (p : Fin 32)
    (hp : p.val = starts ⟨q.val / 6 * 3 + q.val % 3, by omega⟩ + 4 * (q.val / 3 % 2)) : Ref.out2 g (ix3 q r s) = g (ix3 p r s) :=
  (regroup_256_512 _ _ _ _ q r s).trans (rows_at g _ _ _ _ _ _ _ _ _ _ _ _ _ _ ⟨q.val / 6 * 3 + q.val % 3, by omega⟩ (by
      show (q.val / 6 * 6 + q.val % 3 * 2 + q.val / 3 % 2) / 2 = q.val / 6 * 3 + q.val % 3
      omega) r s p (by
      show _ = _ + 4 * ((q.val / 6 * 6 + q.val % 3 * 2 + q.val / 3 % 2) % 2)
      have : (q.val / 6 * 6 + q.val % 3 * 2 + q.val / 3 % 2) % 2 = q.val / 3 % 2 := by omega
      rw [this]; exact hp))

/-- has that as its block. -/
theorem block_2 (c : Dev nD) (g : FVec Ideal Cert.ReferenceOwnRowsIdeal.S32x256x512 .bf16) (j : Fin 3) (r : Fin 256) (s : Fin 512) :
    (Layout.block ⟨3, ![4, 256, 512]⟩ ⟨3, ![32, 256, 512]⟩ 0 8 (chip j c) g : S4x256x512.Idx → EReal) (ix3 (spot c) r s)
      = (Layout.block ⟨3, ![3, 256, 512]⟩ ⟨3, ![24, 256, 512]⟩ 0 8 c (Ref.out2 g) : S3x256x512.Idx → EReal) (ix3 j r s) := by
  rw [block3, block3]
  exact (at_2 g _ r s _ (rows_start c j)).symm

/-- Where an element of a slot of `main_arg4` lies. -/
theorem emb_arg4 (off : Fin 3 → ℕ) (h) (r : Fin 256) (s : Fin 256) (k : Fin 4) (ho : off = ![k.val, 0, 0]) :
    (cut_arg4 off h).view.emb (ix2 r s) = (ix3 k r s : S4x256x256.Idx) := by
  subst ho
  show (Rect.unit (s := S4x256x256) _ S1x256x256.size h).emb (Shape.reshapeEquiv squeezes_S1x256x256_S256x256.numel_eq (ix2 r s)) = _
  pointwise
  blk_ext

/-- Where an element of a slot of `main_v1_3` lies. -/
theorem emb_v1_3 (off : Fin 3 → ℕ) (h) (r : Fin 256) (s : Fin 256) (k : Fin 3) (ho : off = ![k.val, 0, 0]) :
    (cut_v1_3 off h).view.emb (ix2 r s) = (ix3 k r s : S3x256x256.Idx) := by
  subst ho
  show (Rect.unit (s := S3x256x256) _ S1x256x256.size h).emb (Shape.reshapeEquiv squeezes_S1x256x256_S256x256.numel_eq (ix2 r s)) = _
  pointwise
  blk_ext

/-- Rows by chip, by chip come from, by core, regrouped by chip, core, chip come from. -/
theorem regroup_256_256 {α : Type} (y : (⟨3, ![24, 256, 256]⟩ : Shape).Idx → α) (h1 h2 h3) (q : Fin 24) (r : Fin 256) (s : Fin 256) :
    shapeCast ⟨3, ![24, 256, 256]⟩ (transpose ⟨5, ![4, 2, 3, 256, 256]⟩ [0, 2, 1, 3, 4] (shapeCast ⟨5, ![4, 3, 2, 256, 256]⟩ y h1) h2) h3 (ix3 q r s)
      = y (ix3 ⟨q.val / 6 * 6 + q.val % 3 * 2 + q.val / 3 % 2, by omega⟩ r s) := by
  pointwise

/-- Slot `j` of `main_v1_3` ends as the slot kept for this device of another chip's `main_arg4`, -/
theorem landed_3 (c : Dev nD) (j : Fin 3) (r : Fin 256) (s : Fin 256) :
    ending copies order m c main_v1_3 (ix3 j r s) = m ((chip j c : Thread nD τ).loc main_arg4) (ix3 (spot c) r s) := by
  match j with
  | 0 => exact (congrArg (ending copies order m c main_v1_3) (emb_v1_3 _ inb_S3x256x256_S1x256x256_0_0_0 r s 0 rfl)).symm.trans <|
      (ending_at m copies_ok copies_apart c 4 (ix2 r s)).trans (congrArg (m ((chip 0 c : Thread nD τ).loc main_arg4))
      (emb_arg4 (k0_off4 (chip 0 c)) _ r s (spot c) ((by decide +kernel : ∀ c : Dev nD, k0_off4 (chip 0 c) = ![(spot c).val, 0, 0]) c)))
  | 1 => exact (congrArg (ending copies order m c main_v1_3) (emb_v1_3 _ inb_S3x256x256_S1x256x256_1_0_0 r s 1 rfl)).symm.trans <|
      (ending_at m copies_ok copies_apart c 5 (ix2 r s)).trans (congrArg (m ((chip 1 c : Thread nD τ).loc main_arg4))
      (emb_arg4 (k0_off5 (chip 1 c)) _ r s (spot c) ((by decide +kernel : ∀ c : Dev nD, k0_off5 (chip 1 c) = ![(spot c).val, 0, 0]) c)))
  | 2 => exact (congrArg (ending copies order m c main_v1_3) (emb_v1_3 _ inb_S3x256x256_S1x256x256_2_0_0 r s 2 rfl)).symm.trans <|
      (ending_at m copies_ok copies_apart c 6 (ix2 r s)).trans (congrArg (m ((chip 2 c : Thread nD τ).loc main_arg4))
      (emb_arg4 (k0_off6 (chip 2 c)) _ r s (spot c) ((by decide +kernel : ∀ c : Dev nD, k0_off6 (chip 2 c) = ![(spot c).val, 0, 0]) c)))

/-- and the reference, read at an element, -/
theorem at_3 (g : FVec Ideal Cert.ReferenceOwnRowsIdeal.S32x256x256 .bf16) (q : Fin 24) (r : Fin 256) (s : Fin 256) (p : Fin 32)
    (hp : p.val = starts ⟨q.val / 6 * 3 + q.val % 3, by omega⟩ + 4 * (q.val / 3 % 2)) : Ref.out3 g (ix3 q r s) = g (ix3 p r s) :=
  (regroup_256_256 _ _ _ _ q r s).trans (rows_at g _ _ _ _ _ _ _ _ _ _ _ _ _ _ ⟨q.val / 6 * 3 + q.val % 3, by omega⟩ (by
      show (q.val / 6 * 6 + q.val % 3 * 2 + q.val / 3 % 2) / 2 = q.val / 6 * 3 + q.val % 3
      omega) r s p (by
      show _ = _ + 4 * ((q.val / 6 * 6 + q.val % 3 * 2 + q.val / 3 % 2) % 2)
      have : (q.val / 6 * 6 + q.val % 3 * 2 + q.val / 3 % 2) % 2 = q.val / 3 % 2 := by omega
      rw [this]; exact hp))

/-- has that as its block. -/
theorem block_3 (c : Dev nD) (g : FVec Ideal Cert.ReferenceOwnRowsIdeal.S32x256x256 .bf16) (j : Fin 3) (r : Fin 256) (s : Fin 256) :
    (Layout.block ⟨3, ![4, 256, 256]⟩ ⟨3, ![32, 256, 256]⟩ 0 8 (chip j c) g : S4x256x256.Idx → EReal) (ix3 (spot c) r s)
      = (Layout.block ⟨3, ![3, 256, 256]⟩ ⟨3, ![24, 256, 256]⟩ 0 8 c (Ref.out3 g) : S3x256x256.Idx → EReal) (ix3 j r s) := by
  rw [block3, block3]
  exact (at_3 g _ r s _ (rows_start c j)).symm

/-- Where an element of a slot of `main_arg5` lies. -/
theorem emb_arg5 (off : Fin 3 → ℕ) (h) (r : Fin 256) (s : Fin 256) (k : Fin 4) (ho : off = ![k.val, 0, 0]) :
    (cut_arg5 off h).view.emb (ix2 r s) = (ix3 k r s : S4x256x256.Idx) := emb_arg4 off h r s k ho

/-- Slot `j` of `main_v1_4` ends as the slot kept for this device of another chip's `main_arg5`, -/
theorem landed_4 (c : Dev nD) (j : Fin 3) (r : Fin 256) (s : Fin 256) :
    ending copies order m c main_v1_4 (ix3 j r s) = m ((chip j c : Thread nD τ).loc main_arg5) (ix3 (spot c) r s) := by
  match j with
  | 0 => exact (congrArg (ending copies order m c main_v1_4) (emb_v1_3 _ inb_S3x256x256_S1x256x256_0_0_0 r s 0 rfl)).symm.trans <|
      (ending_at m copies_ok copies_apart c 7 (ix2 r s)).trans (congrArg (m ((chip 0 c : Thread nD τ).loc main_arg5))
      (emb_arg5 (k0_off4 (chip 0 c)) _ r s (spot c) ((by decide +kernel : ∀ c : Dev nD, k0_off4 (chip 0 c) = ![(spot c).val, 0, 0]) c)))
  | 1 => exact (congrArg (ending copies order m c main_v1_4) (emb_v1_3 _ inb_S3x256x256_S1x256x256_1_0_0 r s 1 rfl)).symm.trans <|
      (ending_at m copies_ok copies_apart c 8 (ix2 r s)).trans (congrArg (m ((chip 1 c : Thread nD τ).loc main_arg5))
      (emb_arg5 (k0_off5 (chip 1 c)) _ r s (spot c) ((by decide +kernel : ∀ c : Dev nD, k0_off5 (chip 1 c) = ![(spot c).val, 0, 0]) c)))
  | 2 => exact (congrArg (ending copies order m c main_v1_4) (emb_v1_3 _ inb_S3x256x256_S1x256x256_2_0_0 r s 2 rfl)).symm.trans <|
      (ending_at m copies_ok copies_apart c 9 (ix2 r s)).trans (congrArg (m ((chip 2 c : Thread nD τ).loc main_arg5))
      (emb_arg5 (k0_off6 (chip 2 c)) _ r s (spot c) ((by decide +kernel : ∀ c : Dev nD, k0_off6 (chip 2 c) = ![(spot c).val, 0, 0]) c)))

theorem algebraic : Cert.algebraic_KernelOwnRowsIdeal_ReferenceOwnRowsIdeal := by
  intro m g m' g' _ hargs
  refine ⟨_, _, _, _, _, (θ_run Cert.KernelOwnRowsIdeal.defs _ _).mono (fun r h c => ⟨(h.1 c).1.trans ?_, (h.1 c).2.1.trans ?_, (h.1 c).2.2.1.trans ?_, (h.1 c).2.2.2.1.trans ?_, (h.1 c).2.2.2.2.1.trans ?_, (h.1 c).2.2.2.2.2⟩) (run_main m g),
    (θ_run Cert.ReferenceOwnRowsIdeal.defs _ _).mono (fun _ h => h 0) (Ref.run_main m' g')⟩
  · rw [product_end, (hargs c).1, (hargs c).2.1]
    exact product_block c _ _
  · rw [landed_1, (hargs (sib c)).2.2.1]
    exact block_1 c _
  · funext x
    idx_vars x
    rw [landed_2, (hargs (chip x0 c)).2.2.2.1]
    exact block_2 c _ _ _ _
  · funext x
    idx_vars x
    rw [landed_3, (hargs (chip x0 c)).2.2.2.2.1]
    exact block_3 c _ _ _ _
  · funext x
    idx_vars x
    rw [landed_4, (hargs (chip x0 c)).2.2.2.2.2]
    exact block_3 c _ _ _ _

end Cert.OwnRows

end
-- ==== Proof.ProjDxTalk.lean ====
/-
  The copies of the kernel of the projection's input gradient, 4 from each device: each of the other chips gets its slot of an array; the sibling gets the whole of an array.
-/
module

public import proofs.«01_k».proof.Proof.Copies
public import proofs.«01_k».proof.Proof.Gen.KernelProjDxIdeal.Launch
public import proofs.«01_k».proof.Proof.Gen.KernelProjDxIdeal.Frame
public import proofs.«01_k».proof.Proof.Gen.KernelProjDxIdeal.Points
public import proofs.«01_k».proof.Proof.Gen.KernelProjDxIdeal.Skeleton

@[expose] public section

set_option maxRecDepth 8192

noncomputable section

namespace Cert.ProjDx

open Cert.KernelProjDxIdeal Cert.KernelProjDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- The first point of the grid, -/
abbrev t0_0 : Fin grid0.N := ⟨0, by decide⟩

/-- The first point of the grid, where the copies are sent. -/
theorem cond1_first : k0_cond1 (grid0.coords t0_0) = 1#1 := by decide

/-- A slot of `main_arg2`. -/
abbrev cut_arg2 (off : Fin 3 → ℕ) (h : ∀ a, off a + S1x1024x2560.size a ≤ S4x1024x2560.size a) : Memref sig .tc .hbm S1024x2560 .bf16 :=
  ((Memref.whole main_arg2 : Memref sig .tc .hbm S4x1024x2560 .bf16).slice (Rect.unit (s := S4x1024x2560) off S1x1024x2560.size h) (fun _ => rfl)).squeeze
    S1024x2560 squeezes_S1x1024x2560_S1024x2560

/-- A slot of `main_v1_1`. -/
abbrev cut_v1_1 (off : Fin 3 → ℕ) (h : ∀ a, off a + S1x1024x2560.size a ≤ S3x1024x2560.size a) : Memref sig .tc .hbm S1024x2560 .bf16 :=
  ((Memref.whole main_v1_1 : Memref sig .tc .hbm S3x1024x2560 .bf16).slice (Rect.unit (s := S3x1024x2560) off S1x1024x2560.size h) (fun _ => rfl)).squeeze
    S1024x2560 squeezes_S1x1024x2560_S1024x2560

/-- Copy 0: `main_arg2` to `main_v1_1`. -/
def copy0 : Copy nD sig where
  s := S1024x2560
  e := .bf16
  src := fun c => cut_arg2 (k0_off1 c) (k0_off1_inb (grid0.coords t0_0) c cond1_first)
  dst := fun _ => cut_v1_1 ![0, 0, 0] inb_S3x1024x2560_S1x1024x2560_0_0_0
  peer := fun c => ⟨k0_dev1 c, k0_dev1_lt (grid0.coords t0_0) c cond1_first⟩
  sS := ((cc0_scratch1.slice (Rect.unit (s := S3) ![0] S1.size inb_S3_S1_0)).squeeze S_ squeezes_S1_S_).sem
  rS := ((cc0_scratch2.slice (Rect.unit (s := S3) ![0] S1.size inb_S3_S1_0)).squeeze S_ squeezes_S1_S_).sem
  amt := (cut_v1_1 ![0, 0, 0] inb_S3x1024x2560_S1x1024x2560_0_0_0).view.dmaCredit
  amt_eq := fun _ => rfl
  amt_pos := View.dmaCredit_pos _ (by decide)

/-- Copy 1: `main_arg2` to `main_v1_1`. -/
def copy1 : Copy nD sig where
  s := S1024x2560
  e := .bf16
  src := fun c => cut_arg2 (k0_off2 c) (k0_off2_inb (grid0.coords t0_0) c cond1_first)
  dst := fun _ => cut_v1_1 ![1, 0, 0] inb_S3x1024x2560_S1x1024x2560_1_0_0
  peer := fun c => ⟨k0_dev2 c, k0_dev2_lt (grid0.coords t0_0) c cond1_first⟩
  sS := ((cc0_scratch1.slice (Rect.unit (s := S3) ![1] S1.size inb_S3_S1_1)).squeeze S_ squeezes_S1_S_).sem
  rS := ((cc0_scratch2.slice (Rect.unit (s := S3) ![1] S1.size inb_S3_S1_1)).squeeze S_ squeezes_S1_S_).sem
  amt := (cut_v1_1 ![1, 0, 0] inb_S3x1024x2560_S1x1024x2560_1_0_0).view.dmaCredit
  amt_eq := fun _ => rfl
  amt_pos := View.dmaCredit_pos _ (by decide)

/-- Copy 2: `main_arg2` to `main_v1_1`. -/
def copy2 : Copy nD sig where
  s := S1024x2560
  e := .bf16
  src := fun c => cut_arg2 (k0_off3 c) (k0_off3_inb (grid0.coords t0_0) c cond1_first)
  dst := fun _ => cut_v1_1 ![2, 0, 0] inb_S3x1024x2560_S1x1024x2560_2_0_0
  peer := fun c => ⟨k0_dev3 c, k0_dev3_lt (grid0.coords t0_0) c cond1_first⟩
  sS := ((cc0_scratch1.slice (Rect.unit (s := S3) ![2] S1.size inb_S3_S1_2)).squeeze S_ squeezes_S1_S_).sem
  rS := ((cc0_scratch2.slice (Rect.unit (s := S3) ![2] S1.size inb_S3_S1_2)).squeeze S_ squeezes_S1_S_).sem
  amt := (cut_v1_1 ![2, 0, 0] inb_S3x1024x2560_S1x1024x2560_2_0_0).view.dmaCredit
  amt_eq := fun _ => rfl
  amt_pos := View.dmaCredit_pos _ (by decide)

/-- Copy 3: `main_arg3` to `main_v1_2`. -/
def copy3 : Copy nD sig where
  s := S256x2048
  e := .f32
  src := fun _ => Memref.whole main_arg3
  dst := fun _ => (Memref.whole main_v1_2 : Memref sig .tc .hbm S256x2048 .f32)
  peer := fun c => ⟨k0_dev4 c, k0_dev4_lt (grid0.coords t0_0) c cond1_first⟩
  sS := ((cc0_scratch3.slice (Rect.unit (s := S1) ![0] S1.size inb_S1_S1_0)).squeeze S_ squeezes_S1_S_).sem
  rS := ((cc0_scratch4.slice (Rect.unit (s := S1) ![0] S1.size inb_S1_S1_0)).squeeze S_ squeezes_S1_S_).sem
  amt := ((Memref.whole main_v1_2 : Memref sig .tc .hbm S256x2048 .f32)).view.dmaCredit
  amt_eq := fun _ => rfl
  amt_pos := View.dmaCredit_pos _ (by decide)

/-- The copies, -/
def copies : Fin 4 → Copy nD sig
  | 0 => copy0
  | 1 => copy1
  | 2 => copy2
  | 3 => copy3

/-- in the order they are sent. -/
def order : List (Fin 4) := [0, 1, 2, 3]

theorem copies_ok : Copies copies order where
  nodup := by decide
  all := by decide
  peer_peer := by decide +kernel
  inj := by decide +kernel

/-- The arrays copied whole. -/
abbrev wholes : List (Ref sig .tc) := [main_arg3, main_v1_2]

/-- A number telling the places of one array apart: the slot, where the array is copied by slots. -/
def key (b : Ref sig .tc) (x : b.ty.Idx) : ℕ := if b ∈ wholes then 0 else lead b x

theorem key_whole (b : Ref sig .tc) (h : b ∈ wholes) (x : b.ty.Idx) : key b x = 0 := if_pos h
theorem key_slot (b : Ref sig .tc) (h : b ∉ wholes) (x : b.ty.Idx) : key b x = lead b x := if_neg h

/-- The number of each place. -/
def number (c : Dev nD) : Fin 4 ⊕ Fin 4 → ℕ
  | .inl 0 => (((c.val / 2) % 2) + 2) - 2 * (c.val / 4)
  | .inl 1 => (2 * (c.val / 4) + 1) - ((c.val / 2) % 2)
  | .inl 2 => 3 - (2 * (c.val / 4) + ((c.val / 2) % 2))
  | .inl 3 => 0
  | .inr 0 => 0
  | .inr 1 => 1
  | .inr 2 => 2
  | .inr 3 => 0

theorem number_eq (c : Dev nD) : ∀ j y, key (place copies c j).view.ref ((place copies c j).view.emb y) = number c j
  | .inl 0, y => (key_slot main_arg2 (by decide) _).trans <| (lead_slot main_arg2 (k0_off1 c) S1x1024x2560.size (k0_off1_inb (grid0.coords t0_0) c cond1_first) (fun _ => rfl) S1024x2560 squeezes_S1x1024x2560_S1024x2560 (Nat.succ_pos 2) rfl y).trans (by rw [k0_off1_eq]; rfl)
  | .inl 1, y => (key_slot main_arg2 (by decide) _).trans <| (lead_slot main_arg2 (k0_off2 c) S1x1024x2560.size (k0_off2_inb (grid0.coords t0_0) c cond1_first) (fun _ => rfl) S1024x2560 squeezes_S1x1024x2560_S1024x2560 (Nat.succ_pos 2) rfl y).trans (by rw [k0_off2_eq]; rfl)
  | .inl 2, y => (key_slot main_arg2 (by decide) _).trans <| (lead_slot main_arg2 (k0_off3 c) S1x1024x2560.size (k0_off3_inb (grid0.coords t0_0) c cond1_first) (fun _ => rfl) S1024x2560 squeezes_S1x1024x2560_S1024x2560 (Nat.succ_pos 2) rfl y).trans (by rw [k0_off3_eq]; rfl)
  | .inl 3, _ => key_whole main_arg3 (by decide) _
  | .inr 0, y => (key_slot main_v1_1 (by decide) _).trans <| lead_slot main_v1_1 ![0, 0, 0] S1x1024x2560.size inb_S3x1024x2560_S1x1024x2560_0_0_0 (fun _ => rfl) S1024x2560 squeezes_S1x1024x2560_S1024x2560 (Nat.succ_pos 2) rfl y
  | .inr 1, y => (key_slot main_v1_1 (by decide) _).trans <| lead_slot main_v1_1 ![1, 0, 0] S1x1024x2560.size inb_S3x1024x2560_S1x1024x2560_1_0_0 (fun _ => rfl) S1024x2560 squeezes_S1x1024x2560_S1024x2560 (Nat.succ_pos 2) rfl y
  | .inr 2, y => (key_slot main_v1_1 (by decide) _).trans <| lead_slot main_v1_1 ![2, 0, 0] S1x1024x2560.size inb_S3x1024x2560_S1x1024x2560_2_0_0 (fun _ => rfl) S1024x2560 squeezes_S1x1024x2560_S1024x2560 (Nat.succ_pos 2) rfl y
  | .inr 3, _ => key_whole main_v1_2 (by decide) _

/-- The places are apart. -/
theorem copies_apart : Apart copies where
  key := ⟨key, number, number_eq, by decide +kernel⟩

/-- The copies' semaphores are neither the staging buffers' nor one another's. -/
theorem ownSems : Pipeline.OwnSemFacts spec0 (semOf copies) := by
  decide +kernel

/-- Every place is in an array that is no window's. -/
theorem places_rest : ∀ c j, (place copies c j).view.ref ∈ restOf cfgs (0 : Fin 1) := by decide +kernel

end Cert.ProjDx

end
-- ==== Proof.ProjDxBody.lean ====
/-
  The copies inside the kernel body of the projection's input gradient: all sent at the first grid point, all waited for at the last;
  and the product accumulated over four points in a buffer of its own, rounded and stored at the last of the four.
-/
module

public import proofs.«01_k».proof.Proof.ProjDxTalk
public import proofs.«01_k».proof.Proof.TalkBody

@[expose] public section

set_option Elab.async false

noncomputable section

namespace Cert.ProjDx

open Cert.KernelProjDxIdeal Cert.KernelProjDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UX nD τ sig) ℕ

variable (m : (ℓ : Loc nD τ sig) → Buf (Elt F) ℓ)

/-- The copies' data. -/
abbrev X : Talk nD τ sig (Elt F) 4 := talkOf copies order m

abbrev 𝒱₀ : Variants := Variants.none

/-- The copies in flight, one by one, -/
theorem flight_list (c : Dev nD) : (X m).flight c = iprop(inFlight copies order m c 0 ∗ inFlight copies order m c 1 ∗ inFlight copies order m c 2 ∗ inFlight copies order m c 3 ∗ emp) := flight_eq copies_ok m c
/-- and landed. -/
theorem done_list (c : Dev nD) : (X m).done c = iprop(isDone copies order m c 0 ∗ isDone copies order m c 1 ∗ isDone copies order m c 2 ∗ isDone copies order m c 3 ∗ emp) := done_eq copies_ok m c

/-- The grid's point numbered `n`. -/
def pt (n : ℕ) : Fin cfg0.N := ⟨n % 24, Nat.mod_lt n (by decide)⟩

theorem pt_val (t : Fin cfg0.N) : pt t.val = t := Fin.ext (Nat.mod_eq_of_lt (show t.val < 24 from t.isLt))

/-- What the running sum holds after point `n`: every fourth point starts it with the product of its blocks, the others add to it. -/
def acc (c : Dev nD) : ℕ → FVec F S1408x1024 .f32
  | 0 => k0_pay2 (iblk m c 0 (pt 0)) (iblk m c 1 (pt 0))
  | n + 1 => if (n + 1) % 4 = 0 then k0_pay2 (iblk m c 0 (pt (n + 1))) (iblk m c 1 (pt (n + 1)))
      else k0_pay3 (iblk m c 0 (pt (n + 1))) (iblk m c 1 (pt (n + 1))) (acc c n)

theorem acc_start (c : Dev nD) (t : Fin cfg0.N) (h : t.val % 4 = 0) : acc m c t.val = k0_pay2 (iblk m c 0 t) (iblk m c 1 t) := by
  obtain ⟨n, hn⟩ := t
  cases n with
  | zero => rfl
  | succ n =>
    show acc m c (n + 1) = _
    unfold acc
    rw [if_pos h, show pt (n + 1) = ⟨n + 1, hn⟩ from pt_val ⟨n + 1, hn⟩]

theorem acc_next (c : Dev nD) (t : Fin cfg0.N) (h : t.val % 4 ≠ 0) :
    acc m c t.val = k0_pay3 (iblk m c 0 t) (iblk m c 1 t) (acc m c (t.val - 1)) := by
  obtain ⟨n, hn⟩ := t
  cases n with
  | zero => exact absurd rfl h
  | succ n =>
    show acc m c (n + 1) = k0_pay3 _ _ (acc m c n)
    rw [acc, if_neg h, show pt (n + 1) = ⟨n + 1, hn⟩ from pt_val ⟨n + 1, hn⟩]

/-- The buffer of the running sum before point `t`: within a run of four points it holds the sum so far. -/
def held (c : Dev nD) (t : ℕ) : sProp 𝕄 :=
  iprop(∃ f, ⌜t % 4 ≠ 0 → f = acc m c (t - 1)⌝ ∗ owns (c : Thread nD τ) (Memref.whole cc0_scratch0 : Memref sig .tc .vmem S1408x1024 .f32) fullShare f)

theorem sum_owns (c : Dev nD) (f : cc0_scratch0.ty.Contents (Elt F)) :
    (owns (c : Thread nD τ) (Memref.whole cc0_scratch0 : Memref sig .tc .vmem S1408x1024 .f32) fullShare f : sProp 𝕄) = (((c : Thread nD τ).loc cc0_scratch0) ↦{fullShare} f : sProp 𝕄) :=
  owns_whole (c : Thread nD τ) cc0_scratch0 fullShare f

theorem held_first (c : Dev nD) :
    iprop(∃ f : Buf (Elt F) ((c : Thread nD τ).loc cc0_scratch0), ((c : Thread nD τ).loc cc0_scratch0) ↦{fullShare} f) ⊢ held m c 0 := by
  unfold held
  iintro ⟨%f, H⟩
  iexists f
  isplitr; · ipureintro; exact fun h => absurd rfl h
  iapply (Entails.of_eq (sum_owns c f).symm)
  iexact H

theorem held_last (c : Dev nD) :
    held m c grid0.N ⊢ iprop(∃ f : Buf (Elt F) ((c : Thread nD τ).loc cc0_scratch0), ((c : Thread nD τ).loc cc0_scratch0) ↦{fullShare} f) := by
  unfold held
  iintro ⟨%f, -, H⟩
  iexists f
  iapply (Entails.of_eq (sum_owns c f))
  iexact H

/-- The run's data on device `c`: the argument arrays, each point's running sum rounded, the copies' progress and the buffer of the sum. -/
def dats (_ : Fin 1) (c : Dev nD) : Dat τ (Elt F) Unit ℕ (UX nD τ sig) ℕ cfg0 c where
  A w := V m c (Pipeline.arrRef spec0 w)
  after w t := match w with
    | ⟨0, _⟩ => iblk m c 0 t
    | ⟨1, _⟩ => iblk m c 1 t
    | ⟨2, _⟩ => k0_pay4 (acc m c t.val)
  Φ t := iprop((X m).before grid0.N c t.val ∗ held m c t.val)
  q _ := fullShare
  owed t := (X m).owedAt c t.val

/-- What the body finds in its two input buffers. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rfl) t d).trans
    (by unfold Dat.fetched Dat.blockOf iblk; rfl)

theorem hz2 : (![0, 0] : Fin 2 → Nat) = fun _ => 0 := funext fun a => by fin_cases a <;> rfl
theorem hz3 : (![0, 0, 0] : Fin 3 → Nat) = fun _ => 0 := funext fun a => by fin_cases a <;> rfl

theorem cond1_iff : ∀ t : Fin grid0.N, k0_cond1 (grid0.coords t) = 1#1 ↔ t.val = 0 := by decide +kernel
theorem cond2_iff : ∀ t : Fin grid0.N, k0_cond5 (grid0.coords t) = 1#1 ↔ t.val + 1 = grid0.N := by decide +kernel
/-- The running sum starts at every fourth point, -/
theorem start_iff : ∀ t : Fin grid0.N, Scalar.cmpi .ne (Scalar.extui (Scalar.cmpi .eq (BitVec.ofNat 32 (grid0.coords t 2).val) 0#32) : BitVec 32) 0#32 = 1#1
    ↔ t.val % 4 = 0 := by decide +kernel
/-- goes on at the others, -/
theorem next_iff : ∀ t : Fin grid0.N, Scalar.cmpi .ne (Scalar.extui (Scalar.cmpi .sgt (BitVec.ofNat 32 (grid0.coords t 2).val) 0#32) : BitVec 32) 0#32 = 1#1
    ↔ t.val % 4 ≠ 0 := by decide +kernel
/-- and is stored at the last of each four. -/
theorem store_iff : ∀ t : Fin grid0.N, k0_cond4 (grid0.coords t) = 1#1 ↔ t.val % 4 = 3 := by decide +kernel

/-- What device `c` holds besides its staging buffers and the buffer of the running sum. -/
abbrev stage (c : Dev nD) (t : ℕ) : sProp 𝕄 :=
  iprop((X m).before grid0.N c t ∗ ∃ W, owes (c : Thread nD τ) ((X m).owedAt c t) W)

/-- What the output's buffer holds after point `t`, from what it held. -/
def stored (c : Dev nD) (t : Fin cfg0.N) (f : S1408x1024.Idx → Elt F .bf16) : S1408x1024.Idx → Elt F .bf16 :=
  if t.val % 4 = 3 then k0_pay4 (acc m c t.val) else f

set_option maxHeartbeats 6400000 in
/-- The body, run symbolically at a point `t`. -/
theorem sound_body (c : Dev nD) (t : Fin cfg0.N) (Q : PUnit → sProp 𝕄) (f2) :
    iprop(stage m c t.val ∗ held m c t.val
        ∗ owns (c : Thread nD τ) (st0_0 t) fullShare (iblk m c 0 t) ∗ owns (c : Thread nD τ) (st0_1 t) fullShare (iblk m c 1 t)
        ∗ owns (c : Thread nD τ) (st0_2 t) fullShare f2
        ∗ ((stage m c (t.val + 1) ∗ held m c (t.val + 1)
          ∗ owns (c : Thread nD τ) (st0_0 t) fullShare (iblk m c 0 t) ∗ owns (c : Thread nD τ) (st0_1 t) fullShare (iblk m c 1 t)
          ∗ owns (c : Thread nD τ) (st0_2 t) fullShare (stored m c t f2)) -∗ Q ⟨⟩))
      ⊢ wp frame (wpE (defs₀ (F := F)) 𝒱₀ c none) Set.univ (bodyAt0 (F := F) t) Q := by
  unfold bodyAt0
  simp only [cc0_proj_dx_eq_skeleton]; unfold cc0_proj_dx_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iintro ⟨Hst, Hacc, H0, H1, H2, Hk⟩
  -- the copies are sent at the first point
  iapply (wp_branch 𝒱₀ c (P := stage m c t.val) (R := (X m).mid c) ?hA ?hB) $$ Hst
  case hA =>
    intro h1
    have ht : t.val = 0 := (cond1_iff t).mp h1
    rw [wp_deviceId, ht]
    iintro Hst Hk
    ihave Hst := ((X m).before_first grid0.N c) $$ Hst
    unfold Talk.waiting
    icases Hst with ⟨%K, #HR, HP, %W, HO⟩
    iapply (send_copy copies_ok m 𝒱₀ K c 0 [1, 2, 3] W) $$ [HP HO]
    · isplitr; · iexact HR
      isplitl [HP]; · iexact HP
      iexact HO
    iintro ⟨HF0, HP, HO⟩
    iapply (send_copy copies_ok m 𝒱₀ K c 1 [2, 3] W) $$ [HP HO]
    · isplitr; · iexact HR
      isplitl [HP]; · iexact HP
      iexact HO
    iintro ⟨HF1, HP, HO⟩
    iapply (send_copy copies_ok m 𝒱₀ K c 2 [3] W) $$ [HP HO]
    · isplitr; · iexact HR
      isplitl [HP]; · iexact HP
      iexact HO
    iintro ⟨HF2, HP, HO⟩
    iapply (send_copy copies_ok m 𝒱₀ K c 3 [] W) $$ [HP HO]
    · isplitr; · iexact HR
      isplitl [HP]; · iexact HP
      iexact HO
    iintro ⟨HF3, HP, HO⟩
    iapply Hk
    unfold Talk.mid
    iexists K
    isplitr; · iexact HR
    isplitr [HO]
    · iapply (show iprop(inFlight copies order m c 0 ∗ inFlight copies order m c 1 ∗ inFlight copies order m c 2 ∗ inFlight copies order m c 3 ∗ emp)
        ⊢ (X m).flight c from Entails.of_eq (flight_list m c).symm)
      unfold inFlight
      isplitl [HF0]; · iexact HF0
      isplitl [HF1]; · iexact HF1
      isplitl [HF2]; · iexact HF2
      isplitl [HF3]; · iexact HF3
      iempintro
    iexists W; iexact HO
  case hB =>
    intro h1
    exact (X m).before_later grid0.N c t.val (fun e => h1 ((cond1_iff t).mpr e)) t.isLt
  iintro Hmid
  -- the product of the point's blocks
  iapply (load_full 𝒱₀ c hz2 (iblk m c 0 t)) $$ H0; iintro H0
  iapply (load_full 𝒱₀ c hz3 (iblk m c 1 t)) $$ H1; iintro H1
  -- starts the running sum
  unfold held
  icases Hacc with ⟨%f, %hf, Hacc⟩
  iapply (wp_branch 𝒱₀ c (P := owns (c : Thread nD τ) (Memref.whole cc0_scratch0 : Memref sig .tc .vmem S1408x1024 .f32) fullShare f)
    (R := owns (c : Thread nD τ) (Memref.whole cc0_scratch0 : Memref sig .tc .vmem S1408x1024 .f32) fullShare (if t.val % 4 = 0 then k0_pay2 (iblk m c 0 t) (iblk m c 1 t) else f)) ?hA3 ?hB3) $$ Hacc
  case hA3 =>
    intro h
    rw [if_pos ((start_iff t).mp h)]
    iintro Hacc Hk
    iapply (load_full 𝒱₀ c hz2 f) $$ Hacc; iintro Hacc
    iapply (store_full 𝒱₀ c hz2 f) $$ Hacc; iintro Hacc
    iapply Hk
    iexact Hacc
  case hB3 =>
    intro h
    rw [if_neg (fun e => h ((start_iff t).mpr e))]
  iintro Hacc
  -- or is added to it
  iapply (wp_branch 𝒱₀ c (P := owns (c : Thread nD τ) (Memref.whole cc0_scratch0 : Memref sig .tc .vmem S1408x1024 .f32) fullShare (if t.val % 4 = 0 then k0_pay2 (iblk m c 0 t) (iblk m c 1 t) else f))
    (R := owns (c : Thread nD τ) (Memref.whole cc0_scratch0 : Memref sig .tc .vmem S1408x1024 .f32) fullShare (acc m c t.val)) ?hA4 ?hB4) $$ Hacc
  case hA4 =>
    intro h
    have h0 : t.val % 4 ≠ 0 := (next_iff t).mp h
    rw [if_neg h0, acc_next m c t h0, hf h0]
    iintro Hacc Hk
    iapply (load_full 𝒱₀ c hz2 (acc m c (t.val - 1))) $$ Hacc; iintro Hacc
    iapply (load_full 𝒱₀ c hz2 (acc m c (t.val - 1))) $$ Hacc; iintro Hacc
    iapply (store_full 𝒱₀ c hz2 (acc m c (t.val - 1))) $$ Hacc; iintro Hacc
    iapply Hk
    iexact Hacc
  case hB4 =>
    intro h
    have h0 : t.val % 4 = 0 := Decidable.not_not.mp fun e => h ((next_iff t).mpr e)
    rw [if_pos h0, acc_start m c t h0]
  iintro Hacc
  -- the finished sum is rounded and stored
  ihave Hboth : iprop(owns (c : Thread nD τ) (Memref.whole cc0_scratch0 : Memref sig .tc .vmem S1408x1024 .f32) fullShare (acc m c t.val) ∗ owns (c : Thread nD τ) (st0_2 t) fullShare f2) $$ [Hacc H2]
  · isplitl [Hacc]; · iexact Hacc
    iexact H2
  iapply (wp_branch 𝒱₀ c (P := iprop(owns (c : Thread nD τ) (Memref.whole cc0_scratch0 : Memref sig .tc .vmem S1408x1024 .f32) fullShare (acc m c t.val) ∗ owns (c : Thread nD τ) (st0_2 t) fullShare f2))
    (R := iprop(owns (c : Thread nD τ) (Memref.whole cc0_scratch0 : Memref sig .tc .vmem S1408x1024 .f32) fullShare (acc m c t.val) ∗ owns (c : Thread nD τ) (st0_2 t) fullShare (stored m c t f2))) ?hA5 ?hB5) $$ Hboth
  case hA5 =>
    intro h
    unfold stored
    rw [if_pos ((store_iff t).mp h)]
    iintro ⟨Hacc, H2⟩ Hk
    iapply (load_full 𝒱₀ c hz2 (acc m c t.val)) $$ Hacc; iintro Hacc
    iapply (load_full 𝒱₀ c hz2 f2) $$ H2; iintro H2
    iapply (store_full 𝒱₀ c hz2 f2) $$ H2; iintro H2
    iapply Hk
    isplitl [Hacc]; · iexact Hacc
    iexact H2
  case hB5 =>
    intro h
    unfold stored
    rw [if_neg (fun e => h ((store_iff t).mpr e))]
  iintro ⟨Hacc, H2⟩
  -- the copies are waited for at the last point
  iapply (wp_branch 𝒱₀ c (P := (X m).mid c) (R := stage m c (t.val + 1)) ?hA2 ?hB2) $$ Hmid
  case hA2 =>
    intro h2
    have ht : t.val + 1 = grid0.N := (cond2_iff t).mp h2
    rw [wp_deviceId]
    iintro Hmid Hk
    unfold Talk.mid
    icases Hmid with ⟨%K, #HR, HF, %W, HO⟩
    ihave HF := (show (X m).flight c ⊢ iprop(inFlight copies order m c 0 ∗ inFlight copies order m c 1 ∗ inFlight copies order m c 2 ∗ inFlight copies order m c 3 ∗ emp) from Entails.of_eq (flight_list m c)) $$ HF
    unfold inFlight
    icases HF with ⟨⟨HS0, HV0⟩, ⟨HS1, HV1⟩, ⟨HS2, HV2⟩, ⟨HS3, HV3⟩, -⟩
    iapply ((copies_ok.facts copies order m).wait_recv 𝒱₀ K c 0 _ rfl) $$ [HV0 HO]
    · isplitr; · iexact HR
      isplitl [HV0]; · iexact HV0
      iexact HO
    iintro ⟨HV0, HO⟩
    iapply ((copies_ok.facts copies order m).wait_recv 𝒱₀ K c 1 _ rfl) $$ [HV1 HO]
    · isplitr; · iexact HR
      isplitl [HV1]; · iexact HV1
      iexact HO
    iintro ⟨HV1, HO⟩
    iapply ((copies_ok.facts copies order m).wait_recv 𝒱₀ K c 2 _ rfl) $$ [HV2 HO]
    · isplitr; · iexact HR
      isplitl [HV2]; · iexact HV2
      iexact HO
    iintro ⟨HV2, HO⟩
    iapply ((copies_ok.facts copies order m).wait_send 𝒱₀ K c 0 _ rfl) $$ [HS0 HO]
    · isplitr; · iexact HR
      isplitl [HS0]; · iexact HS0
      iexact HO
    iintro ⟨HS0, HO⟩
    iapply ((copies_ok.facts copies order m).wait_send 𝒱₀ K c 1 _ rfl) $$ [HS1 HO]
    · isplitr; · iexact HR
      isplitl [HS1]; · iexact HS1
      iexact HO
    iintro ⟨HS1, HO⟩
    iapply ((copies_ok.facts copies order m).wait_send 𝒱₀ K c 2 _ rfl) $$ [HS2 HO]
    · isplitr; · iexact HR
      isplitl [HS2]; · iexact HS2
      iexact HO
    iintro ⟨HS2, HO⟩
    iapply ((copies_ok.facts copies order m).wait_recv 𝒱₀ K c 3 _ rfl) $$ [HV3 HO]
    · isplitr; · iexact HR
      isplitl [HV3]; · iexact HV3
      iexact HO
    iintro ⟨HV3, HO⟩
    iapply ((copies_ok.facts copies order m).wait_send 𝒱₀ K c 3 _ rfl) $$ [HS3 HO]
    · isplitr; · iexact HR
      isplitl [HS3]; · iexact HS3
      iexact HO
    iintro ⟨HS3, HO⟩
    iapply Hk
    iapply ((X m).after_last grid0.N c t.val ht)
    unfold Talk.landed
    isplitr [HO]
    · iapply (show iprop(isDone copies order m c 0 ∗ isDone copies order m c 1 ∗ isDone copies order m c 2 ∗ isDone copies order m c 3 ∗ emp)
        ⊢ (X m).done c from Entails.of_eq (done_list m c).symm)
      unfold isDone
      isplitl [HS0 HV0]
      · isplitl [HS0]; · iexact HS0
        iexact HV0
      isplitl [HS1 HV1]
      · isplitl [HS1]; · iexact HS1
        iexact HV1
      isplitl [HS2 HV2]
      · isplitl [HS2]; · iexact HS2
        iexact HV2
      isplitl [HS3 HV3]
      · isplitl [HS3]; · iexact HS3
        iexact HV3
      iempintro
    iexists _; iexact HO
  case hB2 =>
    intro h2
    exact (X m).after_between grid0.N c t.val (Nat.lt_of_le_of_ne t.isLt fun e => h2 ((cond2_iff t).mpr e))
  iintro Hst
  rw [wp_ret]; imodintro
  iapply Hk
  isplitl [Hst]; · iexact Hst
  isplitl [Hacc]
  · iexists acc m c t.val
    isplitr; · ipureintro; exact fun _ => rfl
    iexact Hacc
  isplitl [H0]; · iexact H0
  isplitl [H1]; · iexact H1
  iexact H2

/-- The output's buffer after a point, as the pipeline asks for it. -/
theorem stored_out (c : Dev nD) (t : Fin cfg0.N) (d : S1408x1024.Idx → Elt F .bf16) :
    owns (c : Thread nD τ) (st0_2 t) fullShare (stored m c t ((dats m 0 c).before 2 t d))
      ⊢ (match cfg0.idle 2 (cfg0.grid.coords t) with
        | true => match (cfg0.win 2).flush t with
          | false => iprop(∃ d, owns (c : Thread nD τ) (st0_2 t) fullShare ((dats m 0 c).before 2 t d))
          | true => owns (c : Thread nD τ) (st0_2 t) fullShare (k0_pay4 (acc m c t.val))
        | false => owns (c : Thread nD τ) (st0_2 t) fullShare (k0_pay4 (acc m c t.val)) : sProp 𝕄) := by
  unfold stored
  by_cases h : t.val % 4 = 3
  · rw [if_pos h, show cfg0.idle 2 (cfg0.grid.coords t) = false from by
      show (!(k0_cond4 (grid0.coords t) == 1#1)) = false
      rw [(store_iff t).mpr h]; rfl]
  · rw [if_neg h, show cfg0.idle 2 (cfg0.grid.coords t) = true from by
        show (!(k0_cond4 (grid0.coords t) == 1#1)) = true
        rw [show (k0_cond4 (grid0.coords t) == 1#1) = false from beq_false_of_ne fun e => h ((store_iff t).mp e)]; rfl,
      show (cfg0.win 2).flush t = false from Bool.eq_false_iff.mpr fun e => h ((flush0_2 t).mp e)]
    iintro H
    iexists d
    iexact H

/-- The body obligation. -/
theorem body_obligation (c : Dev nD) : BodyObligation (dats m 0 c) (defs₀ (F := F)) 𝒱₀ () Set.univ := fun t => by
  rw [bigSep_W0, bigSep_W0]
  show iprop(((X m).before grid0.N c t.val ∗ held m c t.val) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 (F := F) t) fun _ =>
      iprop(((X m).before grid0.N c (t.val + 1) ∗ held m c (t.val + 1)) ∗ (dats m 0 c).owesAt () t.succ
        ∗ owns (c : Thread nD τ) (st0_0 t) fullShare (iblk m c 0 t) ∗ owns (c : Thread nD τ) (st0_1 t) fullShare (iblk m c 1 t)
        ∗ (match cfg0.idle 2 (cfg0.grid.coords t) with
          | true => match (cfg0.win 2).flush t with
            | false => iprop(∃ d, owns (c : Thread nD τ) (st0_2 t) fullShare ((dats m 0 c).before 2 t d))
            | true => owns (c : Thread nD τ) (st0_2 t) fullShare (k0_pay4 (acc m c t.val))
          | false => owns (c : Thread nD τ) (st0_2 t) fullShare (k0_pay4 (acc m c t.val))))
  iintro ⟨⟨HΦ, Hacc⟩, Ho, ⟨%d0, H0⟩, ⟨%d1, H1⟩, ⟨%d2, H2⟩⟩
  rw [before_0, before_1]
  unfold Dat.owesAt Pipeline.owesWithin
  icases Ho with ⟨%W, %hW, HO⟩
  iapply (sound_body m c t _ ((dats m 0 c).before 2 t d2))
  isplitl [HΦ HO]
  · isplitl [HΦ]; · iexact HΦ
    iexists W; iexact HO
  isplitl [Hacc]; · iexact Hacc
  isplitl [H0]; · iexact H0
  isplitl [H1]; · iexact H1
  isplitl [H2]; · iexact H2
  iintro ⟨⟨HΦ, %W', HO⟩, Hacc, H0, H1, H2⟩
  isplitl [HΦ Hacc]
  · isplitl [HΦ]; · iexact HΦ
    iexact Hacc
  isplitl [HO]
  · iexists W'
    isplitr; · ipureintro; exact fun _ _ => Or.inl trivial
    iexact HO
  isplitl [H0]; · iexact H0
  isplitl [H1]; · iexact H1
  iapply (stored_out m c t d2)
  iexact H2

end Cert.ProjDx

end
-- ==== Proof.ProjDxRun.lean ====
/-
  The whole run of the kernel of the projection's input gradient, over any float values: where its results end, its
  arguments unchanged and every semaphore back at zero. Both frames are this run.
-/
module

public import proofs.«01_k».proof.Defs
public import proofs.«01_k».proof.Proof.ProjDxBody
public import proofs.«01_k».proof.Proof.Landing
public import proofs.«01_k».proof.Proof.Gen.KernelProjDx

@[expose] public section

set_option Elab.async false

noncomputable section

namespace Cert.ProjDx

open Cert.KernelProjDxIdeal Cert.KernelProjDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ)

/-- No source shares an array with a landing place. -/
theorem spots_apart : ∀ c k k', (spot copies c k').view.ref ≠ ((copies k).src c).view.ref := by decide +kernel

/-- Nothing lands in an argument. -/
theorem spots_ne_arg2 : ∀ c k, (spot copies c k).view.ref ≠ main_arg2 := by decide +kernel
theorem spots_ne_arg3 : ∀ c k, (spot copies c k).view.ref ≠ main_arg3 := by decide +kernel

theorem run_main (g : Dev nD → PrngReg) :
    θ_run (Cert.KernelProjDxIdeal.defs (F := F)) (onTc (τ := τ) (main (F := F))) ⟨m, fun _ => 0, g⟩ (fun r => (∀ c : Dev nD,
      r.2.mem ((c : Thread nD τ).loc main_v1_0) = (dats m 0 c).arrAt 2 cfg0.N
      ∧ r.2.mem ((c : Thread nD τ).loc main_v1_1) = ending copies order m c main_v1_1
      ∧ r.2.mem ((c : Thread nD τ).loc main_v1_2) = ending copies order m c main_v1_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  refine (θ_run Cert.KernelProjDxIdeal.defs _ _).mono (fun r h => ⟨fun c => ⟨(h.1 c).1 2, ?_, ?_, ?_, ?_, ?_, ?_⟩, sem_eq_zero_of_scoped (by decide) h.2⟩)
    (θ_run_talk cfgs (dats m) 0 launch0 (X m) (copies_ok.facts copies order m) ownSems defs₀ 𝒱₀ m g (main (F := F))
      (fun c => rfl) (fun c => (body_obligation m c).loose) (fun c w => rfl) (fun c w => by fin_cases w <;> rfl)
      (fun c => rfl) (fun c t => (X m).owedAt_or c t.val) (fun c => rfl)
      (fun c => ?_) (fun c => ?_) (kept copies m cfgs 0) (ending copies order m)
      (splits copies order m cfgs 0 copies_apart places_rest _ (ending_lands m cfgs 0 copies_ok copies_apart spots_apart)))
  · exact (h.1 c).2 main_v1_1 (Pipeline.mem_restRefs_of main_v1_1 (by decide) (by decide))
  · exact (h.1 c).2 main_v1_2 (Pipeline.mem_restRefs_of main_v1_2 (by decide) (by decide))
  · exact ((h.1 c).1 0).trans ((dats m 0 c).arrAt_in 0 rfl _)
  · exact ((h.1 c).1 1).trans ((dats m 0 c).arrAt_in 1 rfl _)
  · exact ((h.1 c).2 main_arg2 (Pipeline.mem_restRefs_of main_arg2 (by decide) (by decide))).trans (ending_ne copies order m c main_arg2 (spots_ne_arg2 c))
  · exact ((h.1 c).2 main_arg3 (Pipeline.mem_restRefs_of main_arg3 (by decide) (by decide))).trans (ending_ne copies order m c main_arg3 (spots_ne_arg3 c))
  · show _ ⊢ iprop((X m).before grid0.N c 0 ∗ held m c 0)
    unfold Talk.before
    rw [if_pos rfl, scopedRest0_eq]
    iintro ⟨H, HA⟩
    isplitl [H]; · iexact H
    iapply (held_first m c); iexact HA
  · show iprop((X m).before grid0.N c grid0.N ∗ held m c grid0.N) ⊢ _
    unfold Talk.before
    rw [if_neg (by decide), if_neg (Nat.lt_irrefl _), scopedRest0_eq]
    iintro ⟨H, HA⟩
    isplitl [H]; · iexact H
    iapply (held_last m c); iexact HA

/-- The arguments end unchanged, the semaphores at zero. -/
theorem run_frame (g : Dev nD → PrngReg) :
    θ_run (Cert.KernelProjDxIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run Cert.KernelProjDxIdeal.defs _ _).mono (fun _ h => ⟨fun c => (h.1 c).2.2.2, h.2⟩) (run_main m g)

theorem frame_ideal : Cert.quiescent_KernelProjDxIdeal := fun m g _ => run_frame (F := Ideal) m g

/-- The two printed programs have one body table. -/
theorem bodies_eq : Cert.KernelProjDx.defs₀ (F := F) = Cert.KernelProjDxIdeal.defs₀ (F := F) :=
  congrArg (Defs.onTc (τ := Cert.KernelProjDx.τ)) (funext fun b => funext fun a => match b, a with
    | ⟨0, _⟩, (t, s) => rfl
    | ⟨_ + 1, h⟩, _ => absurd h (Nat.not_lt.2 (Nat.le_add_left _ _)))

theorem defs_eq : Cert.KernelProjDx.defs (F := F) = Cert.KernelProjDxIdeal.defs (F := F) := by
  unfold Cert.KernelProjDx.defs Cert.KernelProjDxIdeal.defs
  rw [bodies_eq]
  rfl

theorem frame_kernel : Cert.quiescent_KernelProjDx := fun m g _ => by
  rw [defs_eq]
  exact run_frame (F := Bits) m g

end Cert.ProjDx

end
-- ==== Proof.ProjDxRef.lean ====
/-
  The run of the reference of the projection's input gradient: on its one device, over any float values, where its results end and its
  arguments unchanged.
-/
module

public import Idealize.ShloMosaic.Lib.StableHlo.Run
public import Idealize.ShloMosaic.Lib.Pipeline.Frame
public import proofs.«01_k».proof.Defs
public import proofs.«01_k».proof.Proof.Gen.ReferenceProjDxIdeal

@[expose] public section

noncomputable section

namespace Cert.ProjDx.Ref

open Cert.ReferenceProjDxIdeal Cert.ReferenceProjDxIdeal.Gen
open Idealize.ShloMosaic Idealize.ShloMosaic.TcCoe Idealize.ShloMosaic.StableHlo Idealize.SL.Sem

variable {F : FTy → Type} [FloatOps F]

/-- Result 0 of the arguments. -/
def out0 (x0 : FVec F S33792x10240 .bf16) (x1 : FVec F S32x2048x2560 .bf16) : FVec F S33792x2048 .bf16 :=
  (shapeCast S33792x2048 (truncf .bf16 (Host.dotGeneral dot_S8x4224x10240_S8x2048x10240_S8x4224x2048_2_2_1_1_0_0 none (shapeCast S8x4224x10240 x0 shapeCasts_S33792x10240_S8x4224x10240) (shapeCast S8x2048x10240 (transpose S8x2048x4x2560 [0, 2, 1, 3] (shapeCast S8x4x2048x2560 x1 shapeCasts_S32x2048x2560_S8x4x2048x2560) transposes_S8x4x2048x2560_S8x2048x4x2560_0_2_1_3) shapeCasts_S8x2048x4x2560_S8x2048x10240)) bitsLt_bf16_f32) shapeCasts_S8x4224x2048_S33792x2048)

/-- Result 1 of the arguments. -/
def out1 (x2 : FVec F S32x1024x2560 .bf16) : FVec F S24x1024x2560 .bf16 :=
  (shapeCast S24x1024x2560 (transpose S4x2x3x1024x2560 [0, 2, 1, 3, 4] (shapeCast S4x3x2x1024x2560 (concatenate S24x1024x2560 0 [⟨S2x1024x2560, (Host.slice S2x1024x2560 ![16, 0, 0] ![4, 1, 1] x2 slicesBy_S32x1024x2560_S2x1024x2560_16s4_0s1_0s1)⟩, ⟨S2x1024x2560, (Host.slice S2x1024x2560 ![8, 0, 0] ![4, 1, 1] x2 slicesBy_S32x1024x2560_S2x1024x2560_8s4_0s1_0s1)⟩, ⟨S2x1024x2560, (Host.slice S2x1024x2560 ![24, 0, 0] ![4, 1, 1] x2 slicesBy_S32x1024x2560_S2x1024x2560_24s4_0s1_0s1)⟩, ⟨S2x1024x2560, (Host.slice S2x1024x2560 ![25, 0, 0] ![4, 1, 1] x2 slicesBy_S32x1024x2560_S2x1024x2560_25s4_0s1_0s1)⟩, ⟨S2x1024x2560, (Host.slice S2x1024x2560 ![1, 0, 0] ![4, 1, 1] x2 slicesBy_S32x1024x2560_S2x1024x2560_1s4_0s1_0s1)⟩, ⟨S2x1024x2560, (Host.slice S2x1024x2560 ![17, 0, 0] ![4, 1, 1] x2 slicesBy_S32x1024x2560_S2x1024x2560_17s4_0s1_0s1)⟩, ⟨S2x1024x2560, (Host.slice S2x1024x2560 ![2, 0, 0] ![4, 1, 1] x2 slicesBy_S32x1024x2560_S2x1024x2560_2s4_0s1_0s1)⟩, ⟨S2x1024x2560, (Host.slice S2x1024x2560 ![26, 0, 0] ![4, 1, 1] x2 slicesBy_S32x1024x2560_S2x1024x2560_26s4_0s1_0s1)⟩, ⟨S2x1024x2560, (Host.slice S2x1024x2560 ![10, 0, 0] ![4, 1, 1] x2 slicesBy_S32x1024x2560_S2x1024x2560_10s4_0s1_0s1)⟩, ⟨S2x1024x2560, (Host.slice S2x1024x2560 ![11, 0, 0] ![4, 1, 1] x2 slicesBy_S32x1024x2560_S2x1024x2560_11s4_0s1_0s1)⟩, ⟨S2x1024x2560, (Host.slice S2x1024x2560 ![19, 0, 0] ![4, 1, 1] x2 slicesBy_S32x1024x2560_S2x1024x2560_19s4_0s1_0s1)⟩, ⟨S2x1024x2560, (Host.slice S2x1024x2560 ![3, 0, 0] ![4, 1, 1] x2 slicesBy_S32x1024x2560_S2x1024x2560_3s4_0s1_0s1)⟩] concatenates_S2x1024x2560_S2x1024x2560_S2x1024x2560_S2x1024x2560_S2x1024x2560_S2x1024x2560_S2x1024x2560_S2x1024x2560_S2x1024x2560_S2x1024x2560_S2x1024x2560_S2x1024x2560_S24x1024x2560_d0) shapeCasts_S24x1024x2560_S4x3x2x1024x2560) transposes_S4x3x2x1024x2560_S4x2x3x1024x2560_0_2_1_3_4) shapeCasts_S4x2x3x1024x2560_S24x1024x2560)

/-- Result 2 of the arguments. -/
def out2 (x3 : FVec F S2048x2048 .f32) : FVec F S2048x2048 .f32 :=
  (shapeCast S2048x2048 (Host.reverse [1] (shapeCast S4x2x256x2048 x3 shapeCasts_S2048x2048_S4x2x256x2048)) shapeCasts_S4x2x256x2048_S2048x2048)

/-- The operations of the run, in order. -/
abbrev ops : List (HloOp τ sig (Elt F)) :=
  [ reshape main_arg1 main_v0 rfl shapeCasts_S32x2048x2560_S8x4x2048x2560,
    unary main_v0 main_v1 (transpose S8x2048x4x2560 [0, 2, 1, 3] · transposes_S8x4x2048x2560_S8x2048x4x2560_0_2_1_3),
    reshape main_v1 main_v2 rfl shapeCasts_S8x2048x4x2560_S8x2048x10240,
    reshape main_arg0 main_v3 rfl shapeCasts_S33792x10240_S8x4224x10240,
    binary main_v3 main_v2 main_v4 (fun l r => Host.dotGeneral dot_S8x4224x10240_S8x2048x10240_S8x4224x2048_2_2_1_1_0_0 none l r),
    unary main_v4 main_v5 (truncf .bf16 · bitsLt_bf16_f32),
    reshape main_v5 main_v6 rfl shapeCasts_S8x4224x2048_S33792x2048,
    unary main_arg2 main_v7 (Host.slice S2x1024x2560 ![16, 0, 0] ![4, 1, 1] · slicesBy_S32x1024x2560_S2x1024x2560_16s4_0s1_0s1),
    unary main_arg2 main_v8 (Host.slice S2x1024x2560 ![8, 0, 0] ![4, 1, 1] · slicesBy_S32x1024x2560_S2x1024x2560_8s4_0s1_0s1),
    unary main_arg2 main_v9 (Host.slice S2x1024x2560 ![24, 0, 0] ![4, 1, 1] · slicesBy_S32x1024x2560_S2x1024x2560_24s4_0s1_0s1),
    unary main_arg2 main_v10 (Host.slice S2x1024x2560 ![25, 0, 0] ![4, 1, 1] · slicesBy_S32x1024x2560_S2x1024x2560_25s4_0s1_0s1),
    unary main_arg2 main_v11 (Host.slice S2x1024x2560 ![1, 0, 0] ![4, 1, 1] · slicesBy_S32x1024x2560_S2x1024x2560_1s4_0s1_0s1),
    unary main_arg2 main_v12 (Host.slice S2x1024x2560 ![17, 0, 0] ![4, 1, 1] · slicesBy_S32x1024x2560_S2x1024x2560_17s4_0s1_0s1),
    unary main_arg2 main_v13 (Host.slice S2x1024x2560 ![2, 0, 0] ![4, 1, 1] · slicesBy_S32x1024x2560_S2x1024x2560_2s4_0s1_0s1),
    unary main_arg2 main_v14 (Host.slice S2x1024x2560 ![26, 0, 0] ![4, 1, 1] · slicesBy_S32x1024x2560_S2x1024x2560_26s4_0s1_0s1),
    unary main_arg2 main_v15 (Host.slice S2x1024x2560 ![10, 0, 0] ![4, 1, 1] · slicesBy_S32x1024x2560_S2x1024x2560_10s4_0s1_0s1),
    unary main_arg2 main_v16 (Host.slice S2x1024x2560 ![11, 0, 0] ![4, 1, 1] · slicesBy_S32x1024x2560_S2x1024x2560_11s4_0s1_0s1),
    unary main_arg2 main_v17 (Host.slice S2x1024x2560 ![19, 0, 0] ![4, 1, 1] · slicesBy_S32x1024x2560_S2x1024x2560_19s4_0s1_0s1),
    unary main_arg2 main_v18 (Host.slice S2x1024x2560 ![3, 0, 0] ![4, 1, 1] · slicesBy_S32x1024x2560_S2x1024x2560_3s4_0s1_0s1),
    nary ![main_v7, main_v8, main_v9, main_v10, main_v11, main_v12, main_v13, main_v14, main_v15, main_v16, main_v17, main_v18] main_v19 (fun u => (concatenate S24x1024x2560 0 [⟨S2x1024x2560, (u 0 : (⟨S2x1024x2560, .bf16⟩ : BufTy).Contents (Elt F))⟩, ⟨S2x1024x2560, (u 1 : (⟨S2x1024x2560, .bf16⟩ : BufTy).Contents (Elt F))⟩, ⟨S2x1024x2560, (u 2 : (⟨S2x1024x2560, .bf16⟩ : BufTy).Contents (Elt F))⟩, ⟨S2x1024x2560, (u 3 : (⟨S2x1024x2560, .bf16⟩ : BufTy).Contents (Elt F))⟩, ⟨S2x1024x2560, (u 4 : (⟨S2x1024x2560, .bf16⟩ : BufTy).Contents (Elt F))⟩, ⟨S2x1024x2560, (u 5 : (⟨S2x1024x2560, .bf16⟩ : BufTy).Contents (Elt F))⟩, ⟨S2x1024x2560, (u 6 : (⟨S2x1024x2560, .bf16⟩ : BufTy).Contents (Elt F))⟩, ⟨S2x1024x2560, (u 7 : (⟨S2x1024x2560, .bf16⟩ : BufTy).Contents (Elt F))⟩, ⟨S2x1024x2560, (u 8 : (⟨S2x1024x2560, .bf16⟩ : BufTy).Contents (Elt F))⟩, ⟨S2x1024x2560, (u 9 : (⟨S2x1024x2560, .bf16⟩ : BufTy).Contents (Elt F))⟩, ⟨S2x1024x2560, (u 10 : (⟨S2x1024x2560, .bf16⟩ : BufTy).Contents (Elt F))⟩, ⟨S2x1024x2560, (u 11 : (⟨S2x1024x2560, .bf16⟩ : BufTy).Contents (Elt F))⟩] concatenates_S2x1024x2560_S2x1024x2560_S2x1024x2560_S2x1024x2560_S2x1024x2560_S2x1024x2560_S2x1024x2560_S2x1024x2560_S2x1024x2560_S2x1024x2560_S2x1024x2560_S2x1024x2560_S24x1024x2560_d0 : (⟨S24x1024x2560, .bf16⟩ : BufTy).Contents (Elt F))),
    reshape main_v19 main_v20 rfl shapeCasts_S24x1024x2560_S4x3x2x1024x2560,
    unary main_v20 main_v21 (transpose S4x2x3x1024x2560 [0, 2, 1, 3, 4] · transposes_S4x3x2x1024x2560_S4x2x3x1024x2560_0_2_1_3_4),
    reshape main_v21 main_v22 rfl shapeCasts_S4x2x3x1024x2560_S24x1024x2560,
    reshape main_arg3 main_v23 rfl shapeCasts_S2048x2048_S4x2x256x2048,
    unary main_v23 main_v24 (Host.reverse [1]),
    reshape main_v24 main_v25 rfl shapeCasts_S4x2x256x2048_S2048x2048 ]

theorem main_eq (c : Dev nD) : main (F := F) c = seq ops := rfl

theorem out0_eq (V : Valuation τ sig (Elt F)) : after ops V (main_v6 : DevRef τ sig) = out0 (V (main_arg0 : DevRef τ sig)) (V (main_arg1 : DevRef τ sig)) := by
  after_results
  rfl

theorem out1_eq (V : Valuation τ sig (Elt F)) : after ops V (main_v22 : DevRef τ sig) = out1 (V (main_arg2 : DevRef τ sig)) := by
  after_results
  rfl

theorem out2_eq (V : Valuation τ sig (Elt F)) : after ops V (main_v25 : DevRef τ sig) = out2 (V (main_arg3 : DevRef τ sig)) := by
  after_results
  rfl

theorem x0_eq (V : Valuation τ sig (Elt F)) : after ops V (main_arg0 : DevRef τ sig) = V (main_arg0 : DevRef τ sig) := by
  after_results

theorem x1_eq (V : Valuation τ sig (Elt F)) : after ops V (main_arg1 : DevRef τ sig) = V (main_arg1 : DevRef τ sig) := by
  after_results

theorem x2_eq (V : Valuation τ sig (Elt F)) : after ops V (main_arg2 : DevRef τ sig) = V (main_arg2 : DevRef τ sig) := by
  after_results

theorem x3_eq (V : Valuation τ sig (Elt F)) : after ops V (main_arg3 : DevRef τ sig) = V (main_arg3 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., reshape_bufs_sub .., binary_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., reshape_bufs_sub .., unary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v6) = out0 (m ((c : Thread nD τ).loc main_arg0)) (m ((c : Thread nD τ).loc main_arg1))
      ∧ r.2.mem ((c : Thread nD τ).loc main_v22) = out1 (m ((c : Thread nD τ).loc main_arg2))
      ∧ r.2.mem ((c : Thread nD τ).loc main_v25) = out2 (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c main_v6).trans (out0_eq _), (h c main_v22).trans (out1_eq _), (h c main_v25).trans (out2_eq _), (h c main_arg0).trans (x0_eq _), (h c main_arg1).trans (x1_eq _), (h c main_arg2).trans (x2_eq _), (h c main_arg3).trans (x3_eq _)⟩)
    (run_seq scopedRefs_eq scopedSems_eq defs main (fun _ => ops) main_eq (fun _ => ops_sub) m ρ)

theorem frame : Cert.quiescent_ReferenceProjDxIdeal := fun m g _ =>
  (θ_run defs _ _).mono (fun r h => ⟨fun c => (h c).2.2.2, sem_eq_zero_of_no_sems (by decide) r.2⟩)
    (run_main (F := Ideal) m g)

end Cert.ProjDx.Ref

end
-- ==== Proof.ProjDxValue.lean ====
/-
  What the projection's input gradient computes, at the ideal values: each device's block of the reference's results.
-/
module

public import proofs.«01_k».proof.Proof.ChipRows
public import proofs.«01_k».proof.Proof.ProjDxRun
public import proofs.«01_k».proof.Proof.ProjDxRef

@[expose] public section

set_option maxRecDepth 16384

noncomputable section

namespace Cert.ProjDx

open Cert.KernelProjDxIdeal Cert.KernelProjDxIdeal.Gen Cert.Exchange

open Idealize.ShloMosaic Idealize.ShloMosaic.TcCoe
open Idealize.SL Idealize.SL.Sem
open Idealize.ShloMosaic.Pipeline (Dat Cfg Window)

variable (m : (ℓ : Loc nD τ sig) → Buf (Elt Ideal) ℓ)

theorem index_0 : ∀ t : Fin cfg0.N, win0_0.index t = ![t.val / 8, t.val % 4] := (by decide +kernel : ∀ t : Fin grid0.N, _)
theorem index_1 : ∀ t : Fin cfg0.N, win0_1.index t = ![t.val % 4, t.val / 4 % 2, 0] := (by decide +kernel : ∀ t : Fin grid0.N, _)
theorem index_2 : ∀ t : Fin cfg0.N, win0_2.index t = ![t.val / 8, t.val / 4 % 2] := (by decide +kernel : ∀ t : Fin grid0.N, _)

/-- A block's share of a product: the sum over the block's columns. -/
def share (a : S4224x10240.Idx → EReal) (b : S4x2048x2560.Idx → EReal) (r : Fin 4224) (s : Fin 2048) (j : Fin 4) : EReal :=
  ∑ k : Fin 2560, a (ix2 r ⟨j.val * 2560 + k.val, by omega⟩) * b (ix3 j s k)

/-- A device's products: rows of the first argument by rows of the second, whose columns come in four blocks. -/
def product (a : S4224x10240.Idx → EReal) (b : S4x2048x2560.Idx → EReal) : S4224x2048.Idx → EReal :=
  fun x => ∑ j : Fin 4, share a b (x 0) (x 1) j

/-- The product of a point's blocks is its block's share. -/
theorem point_share (c : Dev nD) (t : Fin cfg0.N) (y0 : Fin 1408) (y1 : Fin 1024) (r : Fin 4224) (s : Fin 2048) (j : Fin 4)
    (hr : r.val = t.val / 8 * 1408 + y0.val) (hs : s.val = t.val / 4 % 2 * 1024 + y1.val) (hj : j.val = t.val % 4) :
    k0_pay1 (iblk m c 0 t) (iblk m c 1 t) (ix2 y0 y1)
      = share (m ((c : Thread nD τ).loc main_arg0)) (m ((c : Thread nD τ).loc main_arg1)) r s j := by
  pointwise [k0_pay1, share]
  blk_simp [iblk, index_0, index_1]
  refine Finset.sum_congr rfl fun k _ => congrArg₂ (· * ·)
    (congrArg (m ((c : Thread nD τ).loc main_arg0)) ?_) (congrArg (m ((c : Thread nD τ).loc main_arg1)) ?_)
  · blk_ext [index_0, hr, hj]
  · blk_ext [index_1, hs, hj]

/-- The running sum, read at an element: it starts with the first point's product, -/
theorem sum_start (c : Dev nD) (u : Fin cfg0.N) (hu : u.val % 4 = 0) (y0 : Fin 1408) (y1 : Fin 1024) :
    acc m c u.val (ix2 y0 y1) = k0_pay1 (iblk m c 0 u) (iblk m c 1 u) (ix2 y0 y1) := by
  rw [acc_start m c u hu]
  generalize iblk m c 0 u = a
  generalize iblk m c 1 u = b
  unfold k0_pay2
  pointwise

/-- and each other point's is added. -/
theorem sum_next (c : Dev nD) (u v : Fin cfg0.N) (hv : u.val = v.val + 1) (hu : u.val % 4 ≠ 0) (y0 : Fin 1408) (y1 : Fin 1024) :
    acc m c u.val (ix2 y0 y1) = acc m c v.val (ix2 y0 y1) + k0_pay1 (iblk m c 0 u) (iblk m c 1 u) (ix2 y0 y1) := by
  rw [acc_next m c u hu, show u.val - 1 = v.val by omega]
  generalize iblk m c 0 u = a
  generalize iblk m c 1 u = b
  generalize acc m c v.val = f
  unfold k0_pay3
  pointwise

/-- The running sum at the last of four points is the whole product. -/
theorem sum_end (c : Dev nD) (u0 u1 u2 u3 : Fin cfg0.N) (h : u3.val % 4 = 3) (h3 : u3.val = u2.val + 1) (h2 : u2.val = u1.val + 1)
    (h1 : u1.val = u0.val + 1) (y0 : Fin 1408) (y1 : Fin 1024) (r : Fin 4224) (s : Fin 2048)
    (hr : r.val = u3.val / 8 * 1408 + y0.val) (hs : s.val = u3.val / 4 % 2 * 1024 + y1.val) :
    acc m c u3.val (ix2 y0 y1) = product (m ((c : Thread nD τ).loc main_arg0)) (m ((c : Thread nD τ).loc main_arg1)) (ix2 r s) := by
  rw [sum_next m c u3 u2 h3 (by omega), sum_next m c u2 u1 h2 (by omega), sum_next m c u1 u0 h1 (by omega), sum_start m c u0 (by omega),
    point_share m c u3 y0 y1 r s ⟨3, by decide⟩ hr hs (show 3 = _ by omega),
    point_share m c u2 y0 y1 r s ⟨2, by decide⟩ (by omega) (by omega) (show 2 = _ by omega),
    point_share m c u1 y0 y1 r s ⟨1, by decide⟩ (by omega) (by omega) (show 1 = _ by omega),
    point_share m c u0 y0 y1 r s ⟨0, by decide⟩ (by omega) (by omega) (show 0 = _ by omega)]
  exact (Fin.sum_univ_four fun j => share (m ((c : Thread nD τ).loc main_arg0)) (m ((c : Thread nD τ).loc main_arg1)) r s j).symm

theorem product_end (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  have hN : t.val < 24 := t.isLt
  blk_simp
  show k0_pay4 (acc m c t.val) y = _
  idx_vars y
  pointwise [k0_pay4]
  rw [sum_end m c ⟨t.val - 3, show t.val - 3 < 24 by omega⟩ ⟨t.val - 2, show t.val - 2 < 24 by omega⟩ ⟨t.val - 1, show t.val - 1 < 24 by omega⟩ t h
    (show t.val = t.val - 1 + 1 by omega) (show t.val - 1 = t.val - 2 + 1 by omega) (show t.val - 2 = t.val - 3 + 1 by omega) y0 y1
    ⟨t.val / 8 * 1408 + y0.val, by omega⟩ ⟨t.val / 4 % 2 * 1024 + y1.val, by omega⟩ rfl rfl]
  refine congrArg (product (m ((c : Thread nD τ).loc main_arg0)) (m ((c : Thread nD τ).loc main_arg1))) ?_
  blk_ext [index_2]

/-- A device's block of the reference's products. -/
theorem product_block (c : Dev nD) (a : FVec Ideal Cert.ReferenceProjDxIdeal.S33792x10240 .bf16) (b : FVec Ideal Cert.ReferenceProjDxIdeal.S32x2048x2560 .bf16) :
    product (Layout.block ⟨2, ![4224, 10240]⟩ ⟨2, ![33792, 10240]⟩ 0 8 c a) (Layout.block ⟨3, ![4, 2048, 2560]⟩ ⟨3, ![32, 2048, 2560]⟩ 0 8 c b)
      = Layout.block ⟨2, ![4224, 2048]⟩ ⟨2, ![33792, 2048]⟩ 0 8 c (Ref.out0 a b) := by
  funext x
  idx_vars x
  rw [block2]
  pointwise [Ref.out0]
  have hc : c.val < 8 := c.isLt
  show ∑ j : Fin 4, share _ _ x0 x1 j = _
  unfold share
  simp only [block2, block3]
  rw [Fin.sum_univ_tiles 4 2560 rfl]
  refine Finset.sum_congr rfl fun j _ => Finset.sum_congr rfl fun k _ => congrArg₂ (· * ·) rfl (congrArg b ?_)
  have hj := j.isLt
  have hk := k.isLt
  have e0 : (j.val * 2560 + k.val) / 2560 = j.val := by omega
  have e1 : (j.val * 2560 + k.val) % 2560 = k.val := by omega
  exact congr_ix3 (show c.val * 4 + j.val = c.val * 4 + (j.val * 2560 + k.val) / 2560 by rw [e0]) rfl e1.symm

/-- The sibling. -/
def sib (c : Dev nD) : Dev nD := ⟨k0_dev4 c, k0_dev4_lt (grid0.coords t0_0) c cond1_first⟩

theorem sib_val : ∀ c : Dev nD, (sib c).val = 4 * (c.val / 4) + 2 * ((c.val / 2) % 2) + 1 - c.val % 2 := by decide +kernel

/-- The device of the same core on each other chip: along the first axis, along the second, across. -/
def chip (j : Fin 3) (c : Dev nD) : Dev nD :=
  match j with
  | 0 => ⟨k0_dev1 c, k0_dev1_lt (grid0.coords t0_0) c cond1_first⟩
  | 1 => ⟨k0_dev2 c, k0_dev2_lt (grid0.coords t0_0) c cond1_first⟩
  | 2 => ⟨k0_dev3 c, k0_dev3_lt (grid0.coords t0_0) c cond1_first⟩

/-- A device's chip, the slot kept for it. -/
def spot (c : Dev nD) : Fin 4 := ⟨c.val / 2, by have : c.val < 8 := c.isLt; omega⟩

/-- Which of the reference's rows is the slot kept for a device. -/
theorem rows_start : ∀ (c : Dev nD) (j : Fin 3), (chip j c).val * 4 + (spot c).val
    = starts ⟨(c.val * 3 + j.val) / 6 * 3 + (c.val * 3 + j.val) % 3, by have : c.val < 8 := c.isLt; have := j.isLt; omega⟩
      + 4 * ((c.val * 3 + j.val) / 3 % 2) := by decide +kernel

/-- Where an element of a slot of `main_arg2` lies. -/
theorem emb_arg2 (off : Fin 3 → ℕ) (h) (r : Fin 1024) (s : Fin 2560) (k : Fin 4) (ho : off = ![k.val, 0, 0]) :
    (cut_arg2 off h).view.emb (ix2 r s) = (ix3 k r s : S4x1024x2560.Idx) := by
  subst ho
  show (Rect.unit (s := S4x1024x2560) _ S1x1024x2560.size h).emb (Shape.reshapeEquiv squeezes_S1x1024x2560_S1024x2560.numel_eq (ix2 r s)) = _
  pointwise
  blk_ext

/-- Where an element of a slot of `main_v1_1` lies. -/
theorem emb_v1_1 (off : Fin 3 → ℕ) (h) (r : Fin 1024) (s : Fin 2560) (k : Fin 3) (ho : off = ![k.val, 0, 0]) :
    (cut_v1_1 off h).view.emb (ix2 r s) = (ix3 k r s : S3x1024x2560.Idx) := by
  subst ho
  show (Rect.unit (s := S3x1024x2560) _ S1x1024x2560.size h).emb (Shape.reshapeEquiv squeezes_S1x1024x2560_S1024x2560.numel_eq (ix2 r s)) = _
  pointwise
  blk_ext

/-- Rows by chip, by chip come from, by core, regrouped by chip, core, chip come from. -/
theorem regroup_1024_2560 {α : Type} (y : (⟨3, ![24, 1024, 2560]⟩ : Shape).Idx → α) (h1 h2 h3) (q : Fin 24) (r : Fin 1024) (s : Fin 2560) :
    shapeCast ⟨3, ![24, 1024, 2560]⟩ (transpose ⟨5, ![4, 2, 3, 1024, 2560]⟩ [0, 2, 1, 3, 4] (shapeCast ⟨5, ![4, 3, 2, 1024, 2560]⟩ y h1) h2) h3 (ix3 q r s)
      = y (ix3 ⟨q.val / 6 * 6 + q.val % 3 * 2 + q.val / 3 % 2, by omega⟩ r s) := by
  pointwise

/-- Slot `j` of `main_v1_1` ends as the slot kept for this device of another chip's `main_arg2`, -/
theorem landed_1 (c : Dev nD) (j : Fin 3) (r : Fin 1024) (s : Fin 2560) :
    ending copies order m c main_v1_1 (ix3 j r s) = m ((chip j c : Thread nD τ).loc main_arg2) (ix3 (spot c) r s) := by
  match j with
  | 0 => exact (congrArg (ending copies order m c main_v1_1) (emb_v1_1 _ inb_S3x1024x2560_S1x1024x2560_0_0_0 r s 0 rfl)).symm.trans <|
      (ending_at m copies_ok copies_apart c 0 (ix2 r s)).trans (congrArg (m ((chip 0 c : Thread nD τ).loc main_arg2))
      (emb_arg2 (k0_off1 (chip 0 c)) _ r s (spot c) ((by decide +kernel : ∀ c : Dev nD, k0_off1 (chip 0 c) = ![(spot c).val, 0, 0]) c)))
  | 1 => exact (congrArg (ending copies order m c main_v1_1) (emb_v1_1 _ inb_S3x1024x2560_S1x1024x2560_1_0_0 r s 1 rfl)).symm.trans <|
      (ending_at m copies_ok copies_apart c 1 (ix2 r s)).trans (congrArg (m ((chip 1 c : Thread nD τ).loc main_arg2))
      (emb_arg2 (k0_off2 (chip 1 c)) _ r s (spot c) ((by decide +kernel : ∀ c : Dev nD, k0_off2 (chip 1 c) = ![(spot c).val, 0, 0]) c)))
  | 2 => exact (congrArg (ending copies order m c main_v1_1) (emb_v1_1 _ inb_S3x1024x2560_S1x1024x2560_2_0_0 r s 2 rfl)).symm.trans <|
      (ending_at m copies_ok copies_apart c 2 (ix2 r s)).trans (congrArg (m ((chip 2 c : Thread nD τ).loc main_arg2))
      (emb_arg2 (k0_off3 (chip 2 c)) _ r s (spot c) ((by decide +kernel : ∀ c : Dev nD, k0_off3 (chip 2 c) = ![(spot c).val, 0, 0]) c)))

/-- and the reference, read at an element, -/
theorem at_1 (g : FVec Ideal Cert.ReferenceProjDxIdeal.S32x1024x2560 .bf16) (q : Fin 24) (r : Fin 1024) (s : Fin 2560) (p : Fin 32)
    (hp : p.val = starts ⟨q.val / 6 * 3 + q.val % 3, by omega⟩ + 4 * (q.val / 3 % 2)) : Ref.out1 g (ix3 q r s) = g (ix3 p r s) :=
  (regroup_1024_2560 _ _ _ _ q r s).trans (rows_at g _ _ _ _ _ _ _ _ _ _ _ _ _ _ ⟨q.val / 6 * 3 + q.val % 3, by omega⟩ (by
      show (q.val / 6 * 6 + q.val % 3 * 2 + q.val / 3 % 2) / 2 = q.val / 6 * 3 + q.val % 3
      omega) r s p (by
      show _ = _ + 4 * ((q.val / 6 * 6 + q.val % 3 * 2 + q.val / 3 % 2) % 2)
      have : (q.val / 6 * 6 + q.val % 3 * 2 + q.val / 3 % 2) % 2 = q.val / 3 % 2 := by omega
      rw [this]; exact hp))

/-- has that as its block. -/
theorem block_1 (c : Dev nD) (g : FVec Ideal Cert.ReferenceProjDxIdeal.S32x1024x2560 .bf16) (j : Fin 3) (r : Fin 1024) (s : Fin 2560) :
    (Layout.block ⟨3, ![4, 1024, 2560]⟩ ⟨3, ![32, 1024, 2560]⟩ 0 8 (chip j c) g : S4x1024x2560.Idx → EReal) (ix3 (spot c) r s)
      = (Layout.block ⟨3, ![3, 1024, 2560]⟩ ⟨3, ![24, 1024, 2560]⟩ 0 8 c (Ref.out1 g) : S3x1024x2560.Idx → EReal) (ix3 j r s) := by
  rw [block3, block3]
  exact (at_1 g _ r s _ (rows_start c j)).symm

/-- `main_v1_2` ends as the sibling's `main_arg3`, -/
theorem landed_2 (c : Dev nD) : ending copies order m c main_v1_2 = m ((sib c : Thread nD τ).loc main_arg3) :=
  funext fun y => ending_at m copies_ok copies_apart c 3 y

/-- the reference's block. -/
theorem block_2 (c : Dev nD) (g : FVec Ideal Cert.ReferenceProjDxIdeal.S2048x2048 .f32) :
    Layout.block ⟨2, ![256, 2048]⟩ ⟨2, ![2048, 2048]⟩ 0 8 (sib c) g = Layout.block ⟨2, ![256, 2048]⟩ ⟨2, ![2048, 2048]⟩ 0 8 c (Ref.out2 g) := by
  funext x
  idx_vars x
  rw [block2, block2]
  pointwise [Ref.out2]
  have hc : c.val < 8 := c.isLt
  have hs := sib_val c
  refine congrArg g (congr_ix2 (show (sib c).val * 256 + x0.val = (c.val * 256 + x0.val) / 512 * 512
    + (Fin.rev (⟨(c.val * 256 + x0.val) / 256 % 2, Nat.mod_lt _ (by decide)⟩ : Fin 2)).val * 256 + x0.val from ?_) rfl)
  rw [Fin.val_rev]
  show (sib c).val * 256 + x0.val = (c.val * 256 + x0.val) / 512 * 512 + (2 - ((c.val * 256 + x0.val) / 256 % 2 + 1)) * 256 + x0.val
  omega

theorem algebraic : Cert.algebraic_KernelProjDxIdeal_ReferenceProjDxIdeal := by
  intro m g m' g' _ hargs
  refine ⟨_, _, _, (θ_run Cert.KernelProjDxIdeal.defs _ _).mono (fun r h c => ⟨(h.1 c).1.trans ?_, (h.1 c).2.1.trans ?_, (h.1 c).2.2.1.trans ?_, (h.1 c).2.2.2⟩) (run_main m g),
    (θ_run Cert.ReferenceProjDxIdeal.defs _ _).mono (fun _ h => h 0) (Ref.run_main m' g')⟩
  · rw [product_end, (hargs c).1, (hargs c).2.1]
    exact product_block c _ _
  · funext x
    idx_vars x
    rw [landed_1, (hargs (chip x0 c)).2.2.1]
    exact block_1 c _ _ _ _
  · rw [landed_2, (hargs (sib c)).2.2.2]
    exact block_2 c _

end Cert.ProjDx

end
-- ==== Proof.UpDxTalk.lean ====
/-
  The copies of the kernel of the up projection's input gradient, 6 from each device: each of the other chips gets its slot of an array; the sibling gets its half of each slot of an array.
-/
module

public import proofs.«01_k».proof.Proof.Copies
public import proofs.«01_k».proof.Proof.Gen.KernelUpDxIdeal.Launch
public import proofs.«01_k».proof.Proof.Gen.KernelUpDxIdeal.Frame
public import proofs.«01_k».proof.Proof.Gen.KernelUpDxIdeal.Points
public import proofs.«01_k».proof.Proof.Gen.KernelUpDxIdeal.Skeleton

@[expose] public section

set_option maxRecDepth 8192

noncomputable section

namespace Cert.UpDx

open Cert.KernelUpDxIdeal Cert.KernelUpDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- The first point of the grid, -/
abbrev t0_0 : Fin grid0.N := ⟨0, by decide⟩

/-- The first point of the grid, where the copies are sent. -/
theorem cond1_first : k0_cond1 (grid0.coords t0_0) = 1#1 := by decide

/-- A slot of `main_arg2`. -/
abbrev cut_arg2 (off : Fin 3 → ℕ) (h : ∀ a, off a + S1x1024x2048.size a ≤ S4x1024x2048.size a) : Memref sig .tc .hbm S1024x2048 .bf16 :=
  ((Memref.whole main_arg2 : Memref sig .tc .hbm S4x1024x2048 .bf16).slice (Rect.unit (s := S4x1024x2048) off S1x1024x2048.size h) (fun _ => rfl)).squeeze
    S1024x2048 squeezes_S1x1024x2048_S1024x2048

/-- A slot of `main_v1_1`. -/
abbrev cut_v1_1 (off : Fin 3 → ℕ) (h : ∀ a, off a + S1x1024x2048.size a ≤ S3x1024x2048.size a) : Memref sig .tc .hbm S1024x2048 .bf16 :=
  ((Memref.whole main_v1_1 : Memref sig .tc .hbm S3x1024x2048 .bf16).slice (Rect.unit (s := S3x1024x2048) off S1x1024x2048.size h) (fun _ => rfl)).squeeze
    S1024x2048 squeezes_S1x1024x2048_S1024x2048

/-- A slot of `main_arg3`. -/
abbrev cut_arg3 (off : Fin 4 → ℕ) (h : ∀ a, off a + S1x1x1024x2048.size a ≤ S4x2x1024x2048.size a) : Memref sig .tc .hbm S1024x2048 .bf16 :=
  ((Memref.whole main_arg3 : Memref sig .tc .hbm S4x2x1024x2048 .bf16).slice (Rect.unit (s := S4x2x1024x2048) off S1x1x1024x2048.size h) (fun _ => rfl)).squeeze
    S1024x2048 squeezes_S1x1x1024x2048_S1024x2048

/-- A slot of `main_v1_2`. -/
abbrev cut_v1_2 (off : Fin 3 → ℕ) (h : ∀ a, off a + S1x1024x2048.size a ≤ S4x1024x2048.size a) : Memref sig .tc .hbm S1024x2048 .bf16 :=
  ((Memref.whole main_v1_2 : Memref sig .tc .hbm S4x1024x2048 .bf16).slice (Rect.unit (s := S4x1024x2048) off S1x1024x2048.size h) (fun _ => rfl)).squeeze
    S1024x2048 squeezes_S1x1024x2048_S1024x2048

/-- Copy 0: `main_arg2` to `main_v1_1`. -/
def copy0 : Copy nD sig where
  s := S1024x2048
  e := .bf16
  src := fun c => cut_arg2 (k0_off1 c) (k0_off1_inb (grid0.coords t0_0) c cond1_first)
  dst := fun _ => cut_v1_1 ![0, 0, 0] inb_S3x1024x2048_S1x1024x2048_0_0_0
  peer := fun c => ⟨k0_dev1 c, k0_dev1_lt (grid0.coords t0_0) c cond1_first⟩
  sS := ((cc0_scratch1.slice (Rect.unit (s := S2) ![0] S1.size inb_S2_S1_0)).squeeze S_ squeezes_S1_S_).sem
  rS := ((cc0_scratch2.slice (Rect.unit (s := S2) ![0] S1.size inb_S2_S1_0)).squeeze S_ squeezes_S1_S_).sem
  amt := (cut_v1_1 ![0, 0, 0] inb_S3x1024x2048_S1x1024x2048_0_0_0).view.dmaCredit
  amt_eq := fun _ => rfl
  amt_pos := View.dmaCredit_pos _ (by decide)

/-- Copy 1: `main_arg2` to `main_v1_1`. -/
def copy1 : Copy nD sig where
  s := S1024x2048
  e := .bf16
  src := fun c => cut_arg2 (k0_off2 c) (k0_off2_inb (grid0.coords t0_0) c cond1_first)
  dst := fun _ => cut_v1_1 ![1, 0, 0] inb_S3x1024x2048_S1x1024x2048_1_0_0
  peer := fun c => ⟨k0_dev2 c, k0_dev2_lt (grid0.coords t0_0) c cond1_first⟩
  sS := ((cc0_scratch1.slice (Rect.unit (s := S2) ![1] S1.size inb_S2_S1_1)).squeeze S_ squeezes_S1_S_).sem
  rS := ((cc0_scratch2.slice (Rect.unit (s := S2) ![1] S1.size inb_S2_S1_1)).squeeze S_ squeezes_S1_S_).sem
  amt := (cut_v1_1 ![1, 0, 0] inb_S3x1024x2048_S1x1024x2048_1_0_0).view.dmaCredit
  amt_eq := fun _ => rfl
  amt_pos := View.dmaCredit_pos _ (by decide)

/-- Copy 2: `main_arg3` to `main_v1_2`. -/
def copy2 : Copy nD sig where
  s := S1024x2048
  e := .bf16
  src := fun c => cut_arg3 (k0_off3 c) (k0_off3_inb (grid0.coords t0_0) c cond1_first)
  dst := fun _ => cut_v1_2 ![0, 0, 0] inb_S4x1024x2048_S1x1024x2048_0_0_0
  peer := fun c => ⟨k0_dev3 c, k0_dev3_lt (grid0.coords t0_0) c cond1_first⟩
  sS := ((cc0_scratch3.slice (Rect.unit (s := S4) ![0] S1.size inb_S4_S1_0)).squeeze S_ squeezes_S1_S_).sem
  rS := ((cc0_scratch4.slice (Rect.unit (s := S4) ![0] S1.size inb_S4_S1_0)).squeeze S_ squeezes_S1_S_).sem
  amt := (cut_v1_2 ![0, 0, 0] inb_S4x1024x2048_S1x1024x2048_0_0_0).view.dmaCredit
  amt_eq := fun _ => rfl
  amt_pos := View.dmaCredit_pos _ (by decide)

/-- Copy 3: `main_arg3` to `main_v1_2`. -/
def copy3 : Copy nD sig where
  s := S1024x2048
  e := .bf16
  src := fun c => cut_arg3 (k0_off4 c) (k0_off4_inb (grid0.coords t0_0) c cond1_first)
  dst := fun _ => cut_v1_2 ![1, 0, 0] inb_S4x1024x2048_S1x1024x2048_1_0_0
  peer := fun c => ⟨k0_dev4 c, k0_dev4_lt (grid0.coords t0_0) c cond1_first⟩
  sS := ((cc0_scratch3.slice (Rect.unit (s := S4) ![1] S1.size inb_S4_S1_1)).squeeze S_ squeezes_S1_S_).sem
  rS := ((cc0_scratch4.slice (Rect.unit (s := S4) ![1] S1.size inb_S4_S1_1)).squeeze S_ squeezes_S1_S_).sem
  amt := (cut_v1_2 ![1, 0, 0] inb_S4x1024x2048_S1x1024x2048_1_0_0).view.dmaCredit
  amt_eq := fun _ => rfl
  amt_pos := View.dmaCredit_pos _ (by decide)

/-- Copy 4: `main_arg3` to `main_v1_2`. -/
def copy4 : Copy nD sig where
  s := S1024x2048
  e := .bf16
  src := fun c => cut_arg3 (k0_off5 c) (k0_off5_inb (grid0.coords t0_0) c cond1_first)
  dst := fun _ => cut_v1_2 ![2, 0, 0] inb_S4x1024x2048_S1x1024x2048_2_0_0
  peer := fun c => ⟨k0_dev5 c, k0_dev5_lt (grid0.coords t0_0) c cond1_first⟩
  sS := ((cc0_scratch3.slice (Rect.unit (s := S4) ![2] S1.size inb_S4_S1_2)).squeeze S_ squeezes_S1_S_).sem
  rS := ((cc0_scratch4.slice (Rect.unit (s := S4) ![2] S1.size inb_S4_S1_2)).squeeze S_ squeezes_S1_S_).sem
  amt := (cut_v1_2 ![2, 0, 0] inb_S4x1024x2048_S1x1024x2048_2_0_0).view.dmaCredit
  amt_eq := fun _ => rfl
  amt_pos := View.dmaCredit_pos _ (by decide)

/-- Copy 5: `main_arg3` to `main_v1_2`. -/
def copy5 : Copy nD sig where
  s := S1024x2048
  e := .bf16
  src := fun c => cut_arg3 (k0_off6 c) (k0_off6_inb (grid0.coords t0_0) c cond1_first)
  dst := fun _ => cut_v1_2 ![3, 0, 0] inb_S4x1024x2048_S1x1024x2048_3_0_0
  peer := fun c => ⟨k0_dev6 c, k0_dev6_lt (grid0.coords t0_0) c cond1_first⟩
  sS := ((cc0_scratch3.slice (Rect.unit (s := S4) ![3] S1.size inb_S4_S1_3)).squeeze S_ squeezes_S1_S_).sem
  rS := ((cc0_scratch4.slice (Rect.unit (s := S4) ![3] S1.size inb_S4_S1_3)).squeeze S_ squeezes_S1_S_).sem
  amt := (cut_v1_2 ![3, 0, 0] inb_S4x1024x2048_S1x1024x2048_3_0_0).view.dmaCredit
  amt_eq := fun _ => rfl
  amt_pos := View.dmaCredit_pos _ (by decide)

/-- The copies, -/
def copies : Fin 6 → Copy nD sig
  | 0 => copy0
  | 1 => copy1
  | 2 => copy2
  | 3 => copy3
  | 4 => copy4
  | 5 => copy5

/-- in the order they are sent. -/
def order : List (Fin 6) := [0, 1, 2, 3, 4, 5]

theorem copies_ok : Copies copies order where
  nodup := by decide
  all := by decide
  peer_peer := by decide +kernel
  inj := by decide +kernel

/-- The arrays copied whole. -/
abbrev wholes : List (Ref sig .tc) := []

/-- A number telling the places of one array apart: the slot, where the array is copied by slots. -/
def key (b : Ref sig .tc) (x : b.ty.Idx) : ℕ := if b ∈ wholes then 0 else lead b x

theorem key_whole (b : Ref sig .tc) (h : b ∈ wholes) (x : b.ty.Idx) : key b x = 0 := if_pos h
theorem key_slot (b : Ref sig .tc) (h : b ∉ wholes) (x : b.ty.Idx) : key b x = lead b x := if_neg h

/-- The number of each place. -/
def number (c : Dev nD) : Fin 6 ⊕ Fin 6 → ℕ
  | .inl 0 => (((c.val / 2) % 2) + 2) - 2 * (c.val / 4)
  | .inl 1 => (2 * (c.val / 4) + 1) - ((c.val / 2) % 2)
  | .inl 2 => 0
  | .inl 3 => 1
  | .inl 4 => 2
  | .inl 5 => 3
  | .inr 0 => 0
  | .inr 1 => 1
  | .inr 2 => 0
  | .inr 3 => 1
  | .inr 4 => 2
  | .inr 5 => 3

theorem number_eq (c : Dev nD) : ∀ j y, key (place copies c j).view.ref ((place copies c j).view.emb y) = number c j
  | .inl 0, y => (key_slot main_arg2 (by decide) _).trans <| (lead_slot main_arg2 (k0_off1 c) S1x1024x2048.size (k0_off1_inb (grid0.coords t0_0) c cond1_first) (fun _ => rfl) S1024x2048 squeezes_S1x1024x2048_S1024x2048 (Nat.succ_pos 2) rfl y).trans (by rw [k0_off1_eq]; rfl)
  | .inl 1, y => (key_slot main_arg2 (by decide) _).trans <| (lead_slot main_arg2 (k0_off2 c) S1x1024x2048.size (k0_off2_inb (grid0.coords t0_0) c cond1_first) (fun _ => rfl) S1024x2048 squeezes_S1x1024x2048_S1024x2048 (Nat.succ_pos 2) rfl y).trans (by rw [k0_off2_eq]; rfl)
  | .inl 2, y => (key_slot main_arg3 (by decide) _).trans <| (lead_slot main_arg3 (k0_off3 c) S1x1x1024x2048.size (k0_off3_inb (grid0.coords t0_0) c cond1_first) (fun _ => rfl) S1024x2048 squeezes_S1x1x1024x2048_S1024x2048 (Nat.succ_pos 3) rfl y).trans (by rw [k0_off3_eq]; rfl)
  | .inl 3, y => (key_slot main_arg3 (by decide) _).trans <| (lead_slot main_arg3 (k0_off4 c) S1x1x1024x2048.size (k0_off4_inb (grid0.coords t0_0) c cond1_first) (fun _ => rfl) S1024x2048 squeezes_S1x1x1024x2048_S1024x2048 (Nat.succ_pos 3) rfl y).trans (by rw [k0_off4_eq]; rfl)
  | .inl 4, y => (key_slot main_arg3 (by decide) _).trans <| (lead_slot main_arg3 (k0_off5 c) S1x1x1024x2048.size (k0_off5_inb (grid0.coords t0_0) c cond1_first) (fun _ => rfl) S1024x2048 squeezes_S1x1x1024x2048_S1024x2048 (Nat.succ_pos 3) rfl y).trans (by rw [k0_off5_eq]; rfl)
  | .inl 5, y => (key_slot main_arg3 (by decide) _).trans <| (lead_slot main_arg3 (k0_off6 c) S1x1x1024x2048.size (k0_off6_inb (grid0.coords t0_0) c cond1_first) (fun _ => rfl) S1024x2048 squeezes_S1x1x1024x2048_S1024x2048 (Nat.succ_pos 3) rfl y).trans (by rw [k0_off6_eq]; rfl)
  | .inr 0, y => (key_slot main_v1_1 (by decide) _).trans <| lead_slot main_v1_1 ![0, 0, 0] S1x1024x2048.size inb_S3x1024x2048_S1x1024x2048_0_0_0 (fun _ => rfl) S1024x2048 squeezes_S1x1024x2048_S1024x2048 (Nat.succ_pos 2) rfl y
  | .inr 1, y => (key_slot main_v1_1 (by decide) _).trans <| lead_slot main_v1_1 ![1, 0, 0] S1x1024x2048.size inb_S3x1024x2048_S1x1024x2048_1_0_0 (fun _ => rfl) S1024x2048 squeezes_S1x1024x2048_S1024x2048 (Nat.succ_pos 2) rfl y
  | .inr 2, y => (key_slot main_v1_2 (by decide) _).trans <| lead_slot main_v1_2 ![0, 0, 0] S1x1024x2048.size inb_S4x1024x2048_S1x1024x2048_0_0_0 (fun _ => rfl) S1024x2048 squeezes_S1x1024x2048_S1024x2048 (Nat.succ_pos 2) rfl y
  | .inr 3, y => (key_slot main_v1_2 (by decide) _).trans <| lead_slot main_v1_2 ![1, 0, 0] S1x1024x2048.size inb_S4x1024x2048_S1x1024x2048_1_0_0 (fun _ => rfl) S1024x2048 squeezes_S1x1024x2048_S1024x2048 (Nat.succ_pos 2) rfl y
  | .inr 4, y => (key_slot main_v1_2 (by decide) _).trans <| lead_slot main_v1_2 ![2, 0, 0] S1x1024x2048.size inb_S4x1024x2048_S1x1024x2048_2_0_0 (fun _ => rfl) S1024x2048 squeezes_S1x1024x2048_S1024x2048 (Nat.succ_pos 2) rfl y
  | .inr 5, y => (key_slot main_v1_2 (by decide) _).trans <| lead_slot main_v1_2 ![3, 0, 0] S1x1024x2048.size inb_S4x1024x2048_S1x1024x2048_3_0_0 (fun _ => rfl) S1024x2048 squeezes_S1x1024x2048_S1024x2048 (Nat.succ_pos 2) rfl y

/-- The places are apart. -/
theorem copies_apart : Apart copies where
  key := ⟨key, number, number_eq, by decide +kernel⟩

/-- The copies' semaphores are neither the staging buffers' nor one another's. -/
theorem ownSems : Pipeline.OwnSemFacts spec0 (semOf copies) := by
  decide +kernel

/-- Every place is in an array that is no window's. -/
theorem places_rest : ∀ c j, (place copies c j).view.ref ∈ restOf cfgs (0 : Fin 1) := by decide +kernel

end Cert.UpDx

end
-- ==== Proof.UpDxBody.lean ====
/-
  The copies inside the kernel body of the up projection's input gradient: all sent at the first grid point, all waited for at the last;
  and the product accumulated over four points in a buffer of its own, rounded and stored at the last of the four.
-/
module

public import proofs.«01_k».proof.Proof.UpDxTalk
public import proofs.«01_k».proof.Proof.TalkBody

@[expose] public section

set_option Elab.async false

noncomputable section

namespace Cert.UpDx

open Cert.KernelUpDxIdeal Cert.KernelUpDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UX nD τ sig) ℕ

variable (m : (ℓ : Loc nD τ sig) → Buf (Elt F) ℓ)

/-- The copies' data. -/
abbrev X : Talk nD τ sig (Elt F) 6 := talkOf copies order m

abbrev 𝒱₀ : Variants := Variants.none

/-- The copies in flight, one by one, -/
theorem flight_list (c : Dev nD) : (X m).flight c = iprop(inFlight copies order m c 0 ∗ inFlight copies order m c 1 ∗ inFlight copies order m c 2 ∗ inFlight copies order m c 3 ∗ inFlight copies order m c 4 ∗ inFlight copies order m c 5 ∗ emp) := flight_eq copies_ok m c
/-- and landed. -/
theorem done_list (c : Dev nD) : (X m).done c = iprop(isDone copies order m c 0 ∗ isDone copies order m c 1 ∗ isDone copies order m c 2 ∗ isDone copies order m c 3 ∗ isDone copies order m c 4 ∗ isDone copies order m c 5 ∗ emp) := done_eq copies_ok m c

/-- The grid's point numbered `n`. -/
def pt (n : ℕ) : Fin cfg0.N := ⟨n % 24, Nat.mod_lt n (by decide)⟩

theorem pt_val (t : Fin cfg0.N) : pt t.val = t := Fin.ext (Nat.mod_eq_of_lt (show t.val < 24 from t.isLt))

/-- What the running sum holds after point `n`: every fourth point starts it with the product of its blocks, the others add to it. -/
def acc (c : Dev nD) : ℕ → FVec F S1408x1024 .f32
  | 0 => k0_pay2 (iblk m c 0 (pt 0)) (iblk m c 1 (pt 0))
  | n + 1 => if (n + 1) % 4 = 0 then k0_pay2 (iblk m c 0 (pt (n + 1))) (iblk m c 1 (pt (n + 1)))
      else k0_pay3 (iblk m c 0 (pt (n + 1))) (iblk m c 1 (pt (n + 1))) (acc c n)

theorem acc_start (c : Dev nD) (t : Fin cfg0.N) (h : t.val % 4 = 0) : acc m c t.val = k0_pay2 (iblk m c 0 t) (iblk m c 1 t) := by
  obtain ⟨n, hn⟩ := t
  cases n with
  | zero => rfl
  | succ n =>
    show acc m c (n + 1) = _
    unfold acc
    rw [if_pos h, show pt (n + 1) = ⟨n + 1, hn⟩ from pt_val ⟨n + 1, hn⟩]

theorem acc_next (c : Dev nD) (t : Fin cfg0.N) (h : t.val % 4 ≠ 0) :
    acc m c t.val = k0_pay3 (iblk m c 0 t) (iblk m c 1 t) (acc m c (t.val - 1)) := by
  obtain ⟨n, hn⟩ := t
  cases n with
  | zero => exact absurd rfl h
  | succ n =>
    show acc m c (n + 1) = k0_pay3 _ _ (acc m c n)
    rw [acc, if_neg h, show pt (n + 1) = ⟨n + 1, hn⟩ from pt_val ⟨n + 1, hn⟩]

/-- The buffer of the running sum before point `t`: within a run of four points it holds the sum so far. -/
def held (c : Dev nD) (t : ℕ) : sProp 𝕄 :=
  iprop(∃ f, ⌜t % 4 ≠ 0 → f = acc m c (t - 1)⌝ ∗ owns (c : Thread nD τ) (Memref.whole cc0_scratch0 : Memref sig .tc .vmem S1408x1024 .f32) fullShare f)

theorem sum_owns (c : Dev nD) (f : cc0_scratch0.ty.Contents (Elt F)) :
    (owns (c : Thread nD τ) (Memref.whole cc0_scratch0 : Memref sig .tc .vmem S1408x1024 .f32) fullShare f : sProp 𝕄) = (((c : Thread nD τ).loc cc0_scratch0) ↦{fullShare} f : sProp 𝕄) :=
  owns_whole (c : Thread nD τ) cc0_scratch0 fullShare f

theorem held_first (c : Dev nD) :
    iprop(∃ f : Buf (Elt F) ((c : Thread nD τ).loc cc0_scratch0), ((c : Thread nD τ).loc cc0_scratch0) ↦{fullShare} f) ⊢ held m c 0 := by
  unfold held
  iintro ⟨%f, H⟩
  iexists f
  isplitr; · ipureintro; exact fun h => absurd rfl h
  iapply (Entails.of_eq (sum_owns c f).symm)
  iexact H

theorem held_last (c : Dev nD) :
    held m c grid0.N ⊢ iprop(∃ f : Buf (Elt F) ((c : Thread nD τ).loc cc0_scratch0), ((c : Thread nD τ).loc cc0_scratch0) ↦{fullShare} f) := by
  unfold held
  iintro ⟨%f, -, H⟩
  iexists f
  iapply (Entails.of_eq (sum_owns c f))
  iexact H

/-- The run's data on device `c`: the argument arrays, each point's running sum rounded, the copies' progress and the buffer of the sum. -/
def dats (_ : Fin 1) (c : Dev nD) : Dat τ (Elt F) Unit ℕ (UX nD τ sig) ℕ cfg0 c where
  A w := V m c (Pipeline.arrRef spec0 w)
  after w t := match w with
    | ⟨0, _⟩ => iblk m c 0 t
    | ⟨1, _⟩ => iblk m c 1 t
    | ⟨2, _⟩ => k0_pay4 (acc m c t.val)
  Φ t := iprop((X m).before grid0.N c t.val ∗ held m c t.val)
  q _ := fullShare
  owed t := (X m).owedAt c t.val

/-- What the body finds in its two input buffers. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [show (dats m 0 c).after 0 t = iblk m c 0 t from rfl]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [show (dats m 0 c).after 1 t = iblk m c 1 t from rfl]; unfold Dat.blockOf iblk; rfl) t d).trans
    (by unfold Dat.fetched Dat.blockOf iblk; rfl)

theorem hz2 : (![0, 0] : Fin 2 → Nat) = fun _ => 0 := funext fun a => by fin_cases a <;> rfl
theorem hz3 : (![0, 0, 0] : Fin 3 → Nat) = fun _ => 0 := funext fun a => by fin_cases a <;> rfl

theorem cond1_iff : ∀ t : Fin grid0.N, k0_cond1 (grid0.coords t) = 1#1 ↔ t.val = 0 := by decide +kernel
theorem cond2_iff : ∀ t : Fin grid0.N, k0_cond5 (grid0.coords t) = 1#1 ↔ t.val + 1 = grid0.N := by decide +kernel
/-- The running sum starts at every fourth point, -/
theorem start_iff : ∀ t : Fin grid0.N, Scalar.cmpi .ne (Scalar.extui (Scalar.cmpi .eq (BitVec.ofNat 32 (grid0.coords t 2).val) 0#32) : BitVec 32) 0#32 = 1#1
    ↔ t.val % 4 = 0 := by decide +kernel
/-- goes on at the others, -/
theorem next_iff : ∀ t : Fin grid0.N, Scalar.cmpi .ne (Scalar.extui (Scalar.cmpi .sgt (BitVec.ofNat 32 (grid0.coords t 2).val) 0#32) : BitVec 32) 0#32 = 1#1
    ↔ t.val % 4 ≠ 0 := by decide +kernel
/-- and is stored at the last of each four. -/
theorem store_iff : ∀ t : Fin grid0.N, k0_cond4 (grid0.coords t) = 1#1 ↔ t.val % 4 = 3 := by decide +kernel

/-- What device `c` holds besides its staging buffers and the buffer of the running sum. -/
abbrev stage (c : Dev nD) (t : ℕ) : sProp 𝕄 :=
  iprop((X m).before grid0.N c t ∗ ∃ W, owes (c : Thread nD τ) ((X m).owedAt c t) W)

/-- What the output's buffer holds after point `t`, from what it held. -/
def stored (c : Dev nD) (t : Fin cfg0.N) (f : S1408x1024.Idx → Elt F .bf16) : S1408x1024.Idx → Elt F .bf16 :=
  if t.val % 4 = 3 then k0_pay4 (acc m c t.val) else f

set_option maxHeartbeats 6400000 in
/-- The body, run symbolically at a point `t`. -/
theorem sound_body (c : Dev nD) (t : Fin cfg0.N) (Q : PUnit → sProp 𝕄) (f2) :
    iprop(stage m c t.val ∗ held m c t.val
        ∗ owns (c : Thread nD τ) (st0_0 t) fullShare (iblk m c 0 t) ∗ owns (c : Thread nD τ) (st0_1 t) fullShare (iblk m c 1 t)
        ∗ owns (c : Thread nD τ) (st0_2 t) fullShare f2
        ∗ ((stage m c (t.val + 1) ∗ held m c (t.val + 1)
          ∗ owns (c : Thread nD τ) (st0_0 t) fullShare (iblk m c 0 t) ∗ owns (c : Thread nD τ) (st0_1 t) fullShare (iblk m c 1 t)
          ∗ owns (c : Thread nD τ) (st0_2 t) fullShare (stored m c t f2)) -∗ Q ⟨⟩))
      ⊢ wp frame (wpE (defs₀ (F := F)) 𝒱₀ c none) Set.univ (bodyAt0 (F := F) t) Q := by
  unfold bodyAt0
  simp only [cc0_mlp_up_dx_eq_skeleton]; unfold cc0_mlp_up_dx_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  iintro ⟨Hst, Hacc, H0, H1, H2, Hk⟩
  -- the copies are sent at the first point
  iapply (wp_branch 𝒱₀ c (P := stage m c t.val) (R := (X m).mid c) ?hA ?hB) $$ Hst
  case hA =>
    intro h1
    have ht : t.val = 0 := (cond1_iff t).mp h1
    rw [wp_deviceId, ht]
    iintro Hst Hk
    ihave Hst := ((X m).before_first grid0.N c) $$ Hst
    unfold Talk.waiting
    icases Hst with ⟨%K, #HR, HP, %W, HO⟩
    iapply (send_copy copies_ok m 𝒱₀ K c 0 [1, 2, 3, 4, 5] W) $$ [HP HO]
    · isplitr; · iexact HR
      isplitl [HP]; · iexact HP
      iexact HO
    iintro ⟨HF0, HP, HO⟩
    iapply (send_copy copies_ok m 𝒱₀ K c 1 [2, 3, 4, 5] W) $$ [HP HO]
    · isplitr; · iexact HR
      isplitl [HP]; · iexact HP
      iexact HO
    iintro ⟨HF1, HP, HO⟩
    iapply (send_copy copies_ok m 𝒱₀ K c 2 [3, 4, 5] W) $$ [HP HO]
    · isplitr; · iexact HR
      isplitl [HP]; · iexact HP
      iexact HO
    iintro ⟨HF2, HP, HO⟩
    iapply (send_copy copies_ok m 𝒱₀ K c 3 [4, 5] W) $$ [HP HO]
    · isplitr; · iexact HR
      isplitl [HP]; · iexact HP
      iexact HO
    iintro ⟨HF3, HP, HO⟩
    iapply (send_copy copies_ok m 𝒱₀ K c 4 [5] W) $$ [HP HO]
    · isplitr; · iexact HR
      isplitl [HP]; · iexact HP
      iexact HO
    iintro ⟨HF4, HP, HO⟩
    iapply (send_copy copies_ok m 𝒱₀ K c 5 [] W) $$ [HP HO]
    · isplitr; · iexact HR
      isplitl [HP]; · iexact HP
      iexact HO
    iintro ⟨HF5, HP, HO⟩
    iapply Hk
    unfold Talk.mid
    iexists K
    isplitr; · iexact HR
    isplitr [HO]
    · iapply (show iprop(inFlight copies order m c 0 ∗ inFlight copies order m c 1 ∗ inFlight copies order m c 2 ∗ inFlight copies order m c 3 ∗ inFlight copies order m c 4 ∗ inFlight copies order m c 5 ∗ emp)
        ⊢ (X m).flight c from Entails.of_eq (flight_list m c).symm)
      unfold inFlight
      isplitl [HF0]; · iexact HF0
      isplitl [HF1]; · iexact HF1
      isplitl [HF2]; · iexact HF2
      isplitl [HF3]; · iexact HF3
      isplitl [HF4]; · iexact HF4
      isplitl [HF5]; · iexact HF5
      iempintro
    iexists W; iexact HO
  case hB =>
    intro h1
    exact (X m).before_later grid0.N c t.val (fun e => h1 ((cond1_iff t).mpr e)) t.isLt
  iintro Hmid
  -- the product of the point's blocks
  iapply (load_full 𝒱₀ c hz2 (iblk m c 0 t)) $$ H0; iintro H0
  iapply (load_full 𝒱₀ c hz3 (iblk m c 1 t)) $$ H1; iintro H1
  -- starts the running sum
  unfold held
  icases Hacc with ⟨%f, %hf, Hacc⟩
  iapply (wp_branch 𝒱₀ c (P := owns (c : Thread nD τ) (Memref.whole cc0_scratch0 : Memref sig .tc .vmem S1408x1024 .f32) fullShare f)
    (R := owns (c : Thread nD τ) (Memref.whole cc0_scratch0 : Memref sig .tc .vmem S1408x1024 .f32) fullShare (if t.val % 4 = 0 then k0_pay2 (iblk m c 0 t) (iblk m c 1 t) else f)) ?hA3 ?hB3) $$ Hacc
  case hA3 =>
    intro h
    rw [if_pos ((start_iff t).mp h)]
    iintro Hacc Hk
    iapply (load_full 𝒱₀ c hz2 f) $$ Hacc; iintro Hacc
    iapply (store_full 𝒱₀ c hz2 f) $$ Hacc; iintro Hacc
    iapply Hk
    iexact Hacc
  case hB3 =>
    intro h
    rw [if_neg (fun e => h ((start_iff t).mpr e))]
  iintro Hacc
  -- or is added to it
  iapply (wp_branch 𝒱₀ c (P := owns (c : Thread nD τ) (Memref.whole cc0_scratch0 : Memref sig .tc .vmem S1408x1024 .f32) fullShare (if t.val % 4 = 0 then k0_pay2 (iblk m c 0 t) (iblk m c 1 t) else f))
    (R := owns (c : Thread nD τ) (Memref.whole cc0_scratch0 : Memref sig .tc .vmem S1408x1024 .f32) fullShare (acc m c t.val)) ?hA4 ?hB4) $$ Hacc
  case hA4 =>
    intro h
    have h0 : t.val % 4 ≠ 0 := (next_iff t).mp h
    rw [if_neg h0, acc_next m c t h0, hf h0]
    iintro Hacc Hk
    iapply (load_full 𝒱₀ c hz2 (acc m c (t.val - 1))) $$ Hacc; iintro Hacc
    iapply (load_full 𝒱₀ c hz2 (acc m c (t.val - 1))) $$ Hacc; iintro Hacc
    iapply (store_full 𝒱₀ c hz2 (acc m c (t.val - 1))) $$ Hacc; iintro Hacc
    iapply Hk
    iexact Hacc
  case hB4 =>
    intro h
    have h0 : t.val % 4 = 0 := Decidable.not_not.mp fun e => h ((next_iff t).mpr e)
    rw [if_pos h0, acc_start m c t h0]
  iintro Hacc
  -- the finished sum is rounded and stored
  ihave Hboth : iprop(owns (c : Thread nD τ) (Memref.whole cc0_scratch0 : Memref sig .tc .vmem S1408x1024 .f32) fullShare (acc m c t.val) ∗ owns (c : Thread nD τ) (st0_2 t) fullShare f2) $$ [Hacc H2]
  · isplitl [Hacc]; · iexact Hacc
    iexact H2
  iapply (wp_branch 𝒱₀ c (P := iprop(owns (c : Thread nD τ) (Memref.whole cc0_scratch0 : Memref sig .tc .vmem S1408x1024 .f32) fullShare (acc m c t.val) ∗ owns (c : Thread nD τ) (st0_2 t) fullShare f2))
    (R := iprop(owns (c : Thread nD τ) (Memref.whole cc0_scratch0 : Memref sig .tc .vmem S1408x1024 .f32) fullShare (acc m c t.val) ∗ owns (c : Thread nD τ) (st0_2 t) fullShare (stored m c t f2))) ?hA5 ?hB5) $$ Hboth
  case hA5 =>
    intro h
    unfold stored
    rw [if_pos ((store_iff t).mp h)]
    iintro ⟨Hacc, H2⟩ Hk
    iapply (load_full 𝒱₀ c hz2 (acc m c t.val)) $$ Hacc; iintro Hacc
    iapply (load_full 𝒱₀ c hz2 f2) $$ H2; iintro H2
    iapply (store_full 𝒱₀ c hz2 f2) $$ H2; iintro H2
    iapply Hk
    isplitl [Hacc]; · iexact Hacc
    iexact H2
  case hB5 =>
    intro h
    unfold stored
    rw [if_neg (fun e => h ((store_iff t).mpr e))]
  iintro ⟨Hacc, H2⟩
  -- the copies are waited for at the last point
  iapply (wp_branch 𝒱₀ c (P := (X m).mid c) (R := stage m c (t.val + 1)) ?hA2 ?hB2) $$ Hmid
  case hA2 =>
    intro h2
    have ht : t.val + 1 = grid0.N := (cond2_iff t).mp h2
    rw [wp_deviceId]
    iintro Hmid Hk
    unfold Talk.mid
    icases Hmid with ⟨%K, #HR, HF, %W, HO⟩
    ihave HF := (show (X m).flight c ⊢ iprop(inFlight copies order m c 0 ∗ inFlight copies order m c 1 ∗ inFlight copies order m c 2 ∗ inFlight copies order m c 3 ∗ inFlight copies order m c 4 ∗ inFlight copies order m c 5 ∗ emp) from Entails.of_eq (flight_list m c)) $$ HF
    unfold inFlight
    icases HF with ⟨⟨HS0, HV0⟩, ⟨HS1, HV1⟩, ⟨HS2, HV2⟩, ⟨HS3, HV3⟩, ⟨HS4, HV4⟩, ⟨HS5, HV5⟩, -⟩
    iapply ((copies_ok.facts copies order m).wait_recv 𝒱₀ K c 0 _ rfl) $$ [HV0 HO]
    · isplitr; · iexact HR
      isplitl [HV0]; · iexact HV0
      iexact HO
    iintro ⟨HV0, HO⟩
    iapply ((copies_ok.facts copies order m).wait_recv 𝒱₀ K c 1 _ rfl) $$ [HV1 HO]
    · isplitr; · iexact HR
      isplitl [HV1]; · iexact HV1
      iexact HO
    iintro ⟨HV1, HO⟩
    iapply ((copies_ok.facts copies order m).wait_send 𝒱₀ K c 0 _ rfl) $$ [HS0 HO]
    · isplitr; · iexact HR
      isplitl [HS0]; · iexact HS0
      iexact HO
    iintro ⟨HS0, HO⟩
    iapply ((copies_ok.facts copies order m).wait_send 𝒱₀ K c 1 _ rfl) $$ [HS1 HO]
    · isplitr; · iexact HR
      isplitl [HS1]; · iexact HS1
      iexact HO
    iintro ⟨HS1, HO⟩
    iapply ((copies_ok.facts copies order m).wait_recv 𝒱₀ K c 2 _ rfl) $$ [HV2 HO]
    · isplitr; · iexact HR
      isplitl [HV2]; · iexact HV2
      iexact HO
    iintro ⟨HV2, HO⟩
    iapply ((copies_ok.facts copies order m).wait_recv 𝒱₀ K c 3 _ rfl) $$ [HV3 HO]
    · isplitr; · iexact HR
      isplitl [HV3]; · iexact HV3
      iexact HO
    iintro ⟨HV3, HO⟩
    iapply ((copies_ok.facts copies order m).wait_recv 𝒱₀ K c 4 _ rfl) $$ [HV4 HO]
    · isplitr; · iexact HR
      isplitl [HV4]; · iexact HV4
      iexact HO
    iintro ⟨HV4, HO⟩
    iapply ((copies_ok.facts copies order m).wait_recv 𝒱₀ K c 5 _ rfl) $$ [HV5 HO]
    · isplitr; · iexact HR
      isplitl [HV5]; · iexact HV5
      iexact HO
    iintro ⟨HV5, HO⟩
    iapply ((copies_ok.facts copies order m).wait_send 𝒱₀ K c 2 _ rfl) $$ [HS2 HO]
    · isplitr; · iexact HR
      isplitl [HS2]; · iexact HS2
      iexact HO
    iintro ⟨HS2, HO⟩
    iapply ((copies_ok.facts copies order m).wait_send 𝒱₀ K c 3 _ rfl) $$ [HS3 HO]
    · isplitr; · iexact HR
      isplitl [HS3]; · iexact HS3
      iexact HO
    iintro ⟨HS3, HO⟩
    iapply ((copies_ok.facts copies order m).wait_send 𝒱₀ K c 4 _ rfl) $$ [HS4 HO]
    · isplitr; · iexact HR
      isplitl [HS4]; · iexact HS4
      iexact HO
    iintro ⟨HS4, HO⟩
    iapply ((copies_ok.facts copies order m).wait_send 𝒱₀ K c 5 _ rfl) $$ [HS5 HO]
    · isplitr; · iexact HR
      isplitl [HS5]; · iexact HS5
      iexact HO
    iintro ⟨HS5, HO⟩
    iapply Hk
    iapply ((X m).after_last grid0.N c t.val ht)
    unfold Talk.landed
    isplitr [HO]
    · iapply (show iprop(isDone copies order m c 0 ∗ isDone copies order m c 1 ∗ isDone copies order m c 2 ∗ isDone copies order m c 3 ∗ isDone copies order m c 4 ∗ isDone copies order m c 5 ∗ emp)
        ⊢ (X m).done c from Entails.of_eq (done_list m c).symm)
      unfold isDone
      isplitl [HS0 HV0]
      · isplitl [HS0]; · iexact HS0
        iexact HV0
      isplitl [HS1 HV1]
      · isplitl [HS1]; · iexact HS1
        iexact HV1
      isplitl [HS2 HV2]
      · isplitl [HS2]; · iexact HS2
        iexact HV2
      isplitl [HS3 HV3]
      · isplitl [HS3]; · iexact HS3
        iexact HV3
      isplitl [HS4 HV4]
      · isplitl [HS4]; · iexact HS4
        iexact HV4
      isplitl [HS5 HV5]
      · isplitl [HS5]; · iexact HS5
        iexact HV5
      iempintro
    iexists _; iexact HO
  case hB2 =>
    intro h2
    exact (X m).after_between grid0.N c t.val (Nat.lt_of_le_of_ne t.isLt fun e => h2 ((cond2_iff t).mpr e))
  iintro Hst
  rw [wp_ret]; imodintro
  iapply Hk
  isplitl [Hst]; · iexact Hst
  isplitl [Hacc]
  · iexists acc m c t.val
    isplitr; · ipureintro; exact fun _ => rfl
    iexact Hacc
  isplitl [H0]; · iexact H0
  isplitl [H1]; · iexact H1
  iexact H2

/-- The output's buffer after a point, as the pipeline asks for it. -/
theorem stored_out (c : Dev nD) (t : Fin cfg0.N) (d : S1408x1024.Idx → Elt F .bf16) :
    owns (c : Thread nD τ) (st0_2 t) fullShare (stored m c t ((dats m 0 c).before 2 t d))
      ⊢ (match cfg0.idle 2 (cfg0.grid.coords t) with
        | true => match (cfg0.win 2).flush t with
          | false => iprop(∃ d, owns (c : Thread nD τ) (st0_2 t) fullShare ((dats m 0 c).before 2 t d))
          | true => owns (c : Thread nD τ) (st0_2 t) fullShare (k0_pay4 (acc m c t.val))
        | false => owns (c : Thread nD τ) (st0_2 t) fullShare (k0_pay4 (acc m c t.val)) : sProp 𝕄) := by
  unfold stored
  by_cases h : t.val % 4 = 3
  · rw [if_pos h, show cfg0.idle 2 (cfg0.grid.coords t) = false from by
      show (!(k0_cond4 (grid0.coords t) == 1#1)) = false
      rw [(store_iff t).mpr h]; rfl]
  · rw [if_neg h, show cfg0.idle 2 (cfg0.grid.coords t) = true from by
        show (!(k0_cond4 (grid0.coords t) == 1#1)) = true
        rw [show (k0_cond4 (grid0.coords t) == 1#1) = false from beq_false_of_ne fun e => h ((store_iff t).mp e)]; rfl,
      show (cfg0.win 2).flush t = false from Bool.eq_false_iff.mpr fun e => h ((flush0_2 t).mp e)]
    iintro H
    iexists d
    iexact H

/-- The body obligation. -/
theorem body_obligation (c : Dev nD) : BodyObligation (dats m 0 c) (defs₀ (F := F)) 𝒱₀ () Set.univ := fun t => by
  rw [bigSep_W0, bigSep_W0]
  show iprop(((X m).before grid0.N c t.val ∗ held m c t.val) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) 𝒱₀ c none) Set.univ (bodyAt0 (F := F) t) fun _ =>
      iprop(((X m).before grid0.N c (t.val + 1) ∗ held m c (t.val + 1)) ∗ (dats m 0 c).owesAt () t.succ
        ∗ owns (c : Thread nD τ) (st0_0 t) fullShare (iblk m c 0 t) ∗ owns (c : Thread nD τ) (st0_1 t) fullShare (iblk m c 1 t)
        ∗ (match cfg0.idle 2 (cfg0.grid.coords t) with
          | true => match (cfg0.win 2).flush t with
            | false => iprop(∃ d, owns (c : Thread nD τ) (st0_2 t) fullShare ((dats m 0 c).before 2 t d))
            | true => owns (c : Thread nD τ) (st0_2 t) fullShare (k0_pay4 (acc m c t.val))
          | false => owns (c : Thread nD τ) (st0_2 t) fullShare (k0_pay4 (acc m c t.val))))
  iintro ⟨⟨HΦ, Hacc⟩, Ho, ⟨%d0, H0⟩, ⟨%d1, H1⟩, ⟨%d2, H2⟩⟩
  rw [before_0, before_1]
  unfold Dat.owesAt Pipeline.owesWithin
  icases Ho with ⟨%W, %hW, HO⟩
  iapply (sound_body m c t _ ((dats m 0 c).before 2 t d2))
  isplitl [HΦ HO]
  · isplitl [HΦ]; · iexact HΦ
    iexists W; iexact HO
  isplitl [Hacc]; · iexact Hacc
  isplitl [H0]; · iexact H0
  isplitl [H1]; · iexact H1
  isplitl [H2]; · iexact H2
  iintro ⟨⟨HΦ, %W', HO⟩, Hacc, H0, H1, H2⟩
  isplitl [HΦ Hacc]
  · isplitl [HΦ]; · iexact HΦ
    iexact Hacc
  isplitl [HO]
  · iexists W'
    isplitr; · ipureintro; exact fun _ _ => Or.inl trivial
    iexact HO
  isplitl [H0]; · iexact H0
  isplitl [H1]; · iexact H1
  iapply (stored_out m c t d2)
  iexact H2

end Cert.UpDx

end
-- ==== Proof.UpDxRun.lean ====
/-
  The whole run of the kernel of the up projection's input gradient, over any float values: where its results end, its
  arguments unchanged and every semaphore back at zero. Both frames are this run.
-/
module

public import proofs.«01_k».proof.Defs
public import proofs.«01_k».proof.Proof.UpDxBody
public import proofs.«01_k».proof.Proof.Landing
public import proofs.«01_k».proof.Proof.Gen.KernelUpDx

@[expose] public section

set_option Elab.async false

noncomputable section

namespace Cert.UpDx

open Cert.KernelUpDxIdeal Cert.KernelUpDxIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable (m : (ℓ : Loc nD τ sig) → Buf (Elt F) ℓ)

/-- No source shares an array with a landing place. -/
theorem spots_apart : ∀ c k k', (spot copies c k').view.ref ≠ ((copies k).src c).view.ref := by decide +kernel

/-- Nothing lands in an argument. -/
theorem spots_ne_arg2 : ∀ c k, (spot copies c k).view.ref ≠ main_arg2 := by decide +kernel
theorem spots_ne_arg3 : ∀ c k, (spot copies c k).view.ref ≠ main_arg3 := by decide +kernel

theorem run_main (g : Dev nD → PrngReg) :
    θ_run (Cert.KernelUpDxIdeal.defs (F := F)) (onTc (τ := τ) (main (F := F))) ⟨m, fun _ => 0, g⟩ (fun r => (∀ c : Dev nD,
      r.2.mem ((c : Thread nD τ).loc main_v1_0) = (dats m 0 c).arrAt 2 cfg0.N
      ∧ r.2.mem ((c : Thread nD τ).loc main_v1_1) = ending copies order m c main_v1_1
      ∧ r.2.mem ((c : Thread nD τ).loc main_v1_2) = ending copies order m c main_v1_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  refine (θ_run Cert.KernelUpDxIdeal.defs _ _).mono (fun r h => ⟨fun c => ⟨(h.1 c).1 2, ?_, ?_, ?_, ?_, ?_, ?_⟩, sem_eq_zero_of_scoped (by decide) h.2⟩)
    (θ_run_talk cfgs (dats m) 0 launch0 (X m) (copies_ok.facts copies order m) ownSems defs₀ 𝒱₀ m g (main (F := F))
      (fun c => rfl) (fun c => (body_obligation m c).loose) (fun c w => rfl) (fun c w => by fin_cases w <;> rfl)
      (fun c => rfl) (fun c t => (X m).owedAt_or c t.val) (fun c => rfl)
      (fun c => ?_) (fun c => ?_) (kept copies m cfgs 0) (ending copies order m)
      (splits copies order m cfgs 0 copies_apart places_rest _ (ending_lands m cfgs 0 copies_ok copies_apart spots_apart)))
  · exact (h.1 c).2 main_v1_1 (Pipeline.mem_restRefs_of main_v1_1 (by decide) (by decide))
  · exact (h.1 c).2 main_v1_2 (Pipeline.mem_restRefs_of main_v1_2 (by decide) (by decide))
  · exact ((h.1 c).1 0).trans ((dats m 0 c).arrAt_in 0 rfl _)
  · exact ((h.1 c).1 1).trans ((dats m 0 c).arrAt_in 1 rfl _)
  · exact ((h.1 c).2 main_arg2 (Pipeline.mem_restRefs_of main_arg2 (by decide) (by decide))).trans (ending_ne copies order m c main_arg2 (spots_ne_arg2 c))
  · exact ((h.1 c).2 main_arg3 (Pipeline.mem_restRefs_of main_arg3 (by decide) (by decide))).trans (ending_ne copies order m c main_arg3 (spots_ne_arg3 c))
  · show _ ⊢ iprop((X m).before grid0.N c 0 ∗ held m c 0)
    unfold Talk.before
    rw [if_pos rfl, scopedRest0_eq]
    iintro ⟨H, HA⟩
    isplitl [H]; · iexact H
    iapply (held_first m c); iexact HA
  · show iprop((X m).before grid0.N c grid0.N ∗ held m c grid0.N) ⊢ _
    unfold Talk.before
    rw [if_neg (by decide), if_neg (Nat.lt_irrefl _), scopedRest0_eq]
    iintro ⟨H, HA⟩
    isplitl [H]; · iexact H
    iapply (held_last m c); iexact HA

/-- The arguments end unchanged, the semaphores at zero. -/
theorem run_frame (g : Dev nD → PrngReg) :
    θ_run (Cert.KernelUpDxIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run Cert.KernelUpDxIdeal.defs _ _).mono (fun _ h => ⟨fun c => (h.1 c).2.2.2, h.2⟩) (run_main m g)

theorem frame_ideal : Cert.quiescent_KernelUpDxIdeal := fun m g _ => run_frame (F := Ideal) m g

/-- The two printed programs have one body table. -/
theorem bodies_eq : Cert.KernelUpDx.defs₀ (F := F) = Cert.KernelUpDxIdeal.defs₀ (F := F) :=
  congrArg (Defs.onTc (τ := Cert.KernelUpDx.τ)) (funext fun b => funext fun a => match b, a with
    | ⟨0, _⟩, (t, s) => rfl
    | ⟨_ + 1, h⟩, _ => absurd h (Nat.not_lt.2 (Nat.le_add_left _ _)))

theorem defs_eq : Cert.KernelUpDx.defs (F := F) = Cert.KernelUpDxIdeal.defs (F := F) := by
  unfold Cert.KernelUpDx.defs Cert.KernelUpDxIdeal.defs
  rw [bodies_eq]
  rfl

theorem frame_kernel : Cert.quiescent_KernelUpDx := fun m g _ => by
  rw [defs_eq]
  exact run_frame (F := Bits) m g

end Cert.UpDx

end
-- ==== Proof.UpDxRef.lean ====
/-
  The run of the reference of the up projection's input gradient: on its one device, over any float values, where its results end and its
  arguments unchanged.
-/
module

public import Idealize.ShloMosaic.Lib.StableHlo.Run
public import Idealize.ShloMosaic.Lib.Pipeline.Frame
public import proofs.«01_k».proof.Defs
public import proofs.«01_k».proof.Proof.Gen.ReferenceUpDxIdeal

@[expose] public section

noncomputable section

namespace Cert.UpDx.Ref

open Cert.ReferenceUpDxIdeal Cert.ReferenceUpDxIdeal.Gen
open Idealize.ShloMosaic Idealize.ShloMosaic.TcCoe Idealize.ShloMosaic.StableHlo Idealize.SL.Sem

variable {F : FTy → Type} [FloatOps F]

/-- Result 0 of the arguments. -/
def out0 (x0 : FVec F S33792x8192 .bf16) (x1 : FVec F S32x2048x2048 .bf16) : FVec F S33792x2048 .bf16 :=
  (shapeCast S33792x2048 (truncf .bf16 (Host.dotGeneral dot_S8x4224x8192_S8x2048x8192_S8x4224x2048_2_2_1_1_0_0 none (shapeCast S8x4224x8192 x0 shapeCasts_S33792x8192_S8x4224x8192) (shapeCast S8x2048x8192 (transpose S8x2048x4x2048 [0, 2, 1, 3] (shapeCast S8x4x2048x2048 x1 shapeCasts_S32x2048x2048_S8x4x2048x2048) transposes_S8x4x2048x2048_S8x2048x4x2048_0_2_1_3) shapeCasts_S8x2048x4x2048_S8x2048x8192)) bitsLt_bf16_f32) shapeCasts_S8x4224x2048_S33792x2048)

/-- Result 1 of the arguments. -/
def out1 (x2 : FVec F S32x1024x2048 .bf16) : FVec F S24x1024x2048 .bf16 :=
  (shapeCast S24x1024x2048 (transpose S4x2x3x1024x2048 [0, 2, 1, 3, 4] (shapeCast S4x3x2x1024x2048 (concatenate S24x1024x2048 0 [⟨S2x1024x2048, (Host.slice S2x1024x2048 ![16, 0, 0] ![4, 1, 1] x2 slicesBy_S32x1024x2048_S2x1024x2048_16s4_0s1_0s1)⟩, ⟨S2x1024x2048, (Host.slice S2x1024x2048 ![8, 0, 0] ![4, 1, 1] x2 slicesBy_S32x1024x2048_S2x1024x2048_8s4_0s1_0s1)⟩, ⟨S2x1024x2048, (Host.slice S2x1024x2048 ![24, 0, 0] ![4, 1, 1] x2 slicesBy_S32x1024x2048_S2x1024x2048_24s4_0s1_0s1)⟩, ⟨S2x1024x2048, (Host.slice S2x1024x2048 ![25, 0, 0] ![4, 1, 1] x2 slicesBy_S32x1024x2048_S2x1024x2048_25s4_0s1_0s1)⟩, ⟨S2x1024x2048, (Host.slice S2x1024x2048 ![1, 0, 0] ![4, 1, 1] x2 slicesBy_S32x1024x2048_S2x1024x2048_1s4_0s1_0s1)⟩, ⟨S2x1024x2048, (Host.slice S2x1024x2048 ![17, 0, 0] ![4, 1, 1] x2 slicesBy_S32x1024x2048_S2x1024x2048_17s4_0s1_0s1)⟩, ⟨S2x1024x2048, (Host.slice S2x1024x2048 ![2, 0, 0] ![4, 1, 1] x2 slicesBy_S32x1024x2048_S2x1024x2048_2s4_0s1_0s1)⟩, ⟨S2x1024x2048, (Host.slice S2x1024x2048 ![26, 0, 0] ![4, 1, 1] x2 slicesBy_S32x1024x2048_S2x1024x2048_26s4_0s1_0s1)⟩, ⟨S2x1024x2048, (Host.slice S2x1024x2048 ![10, 0, 0] ![4, 1, 1] x2 slicesBy_S32x1024x2048_S2x1024x2048_10s4_0s1_0s1)⟩, ⟨S2x1024x2048, (Host.slice S2x1024x2048 ![11, 0, 0] ![4, 1, 1] x2 slicesBy_S32x1024x2048_S2x1024x2048_11s4_0s1_0s1)⟩, ⟨S2x1024x2048, (Host.slice S2x1024x2048 ![19, 0, 0] ![4, 1, 1] x2 slicesBy_S32x1024x2048_S2x1024x2048_19s4_0s1_0s1)⟩, ⟨S2x1024x2048, (Host.slice S2x1024x2048 ![3, 0, 0] ![4, 1, 1] x2 slicesBy_S32x1024x2048_S2x1024x2048_3s4_0s1_0s1)⟩] concatenates_S2x1024x2048_S2x1024x2048_S2x1024x2048_S2x1024x2048_S2x1024x2048_S2x1024x2048_S2x1024x2048_S2x1024x2048_S2x1024x2048_S2x1024x2048_S2x1024x2048_S2x1024x2048_S24x1024x2048_d0) shapeCasts_S24x1024x2048_S4x3x2x1024x2048) transposes_S4x3x2x1024x2048_S4x2x3x1024x2048_0_2_1_3_4) shapeCasts_S4x2x3x1024x2048_S24x1024x2048)

/-- Result 2, stage by stage: main_v23, -/
def out2_0 (x3 : FVec F S32x2x1024x2048 .bf16) : FVec F S4x2x4x2x1024x2048 .bf16 :=
  (shapeCast S4x2x4x2x1024x2048 x3 shapeCasts_S32x2x1024x2048_S4x2x4x2x1024x2048)

/-- its end, -/
def out2_1 (t : FVec F S4x2x4x2x1024x2048 .bf16) : FVec F S32x1024x2048 .bf16 :=
  (shapeCast S32x1024x2048 (concatenate S4x2x4x1024x2048 1 [⟨S4x1x4x1024x2048, (broadcastInDim S4x1x4x1024x2048 ![0, 2, 3, 4] bcast_S4x4x1024x2048_S4x1x4x1024x2048_0_2_3_4 (shapeCast S4x4x1024x2048 (extractStridedSlice S4x1x4x1x1024x2048 ![0, 1, 0, 0, 0, 0] t slices_S4x2x4x2x1024x2048_S4x1x4x1x1024x2048_0_1_0_0_0_0) shapeCasts_S4x1x4x1x1024x2048_S4x4x1024x2048))⟩, ⟨S4x1x4x1024x2048, (broadcastInDim S4x1x4x1024x2048 ![0, 2, 3, 4] bcast_S4x4x1024x2048_S4x1x4x1024x2048_0_2_3_4 (shapeCast S4x4x1024x2048 (extractStridedSlice S4x1x4x1x1024x2048 ![0, 0, 0, 1, 0, 0] t slices_S4x2x4x2x1024x2048_S4x1x4x1x1024x2048_0_0_0_1_0_0) shapeCasts_S4x1x4x1x1024x2048_S4x4x1024x2048))⟩] concatenates_S4x1x4x1024x2048_S4x1x4x1024x2048_S4x2x4x1024x2048_d1) shapeCasts_S4x2x4x1024x2048_S32x1024x2048)

/-- and the whole. -/
def out2 (x3 : FVec F S32x2x1024x2048 .bf16) : FVec F S32x1024x2048 .bf16 :=
  out2_1 (out2_0 x3)

/-- The operations of the run, in order. -/
abbrev ops : List (HloOp τ sig (Elt F)) :=
  [ reshape main_arg1 main_v0 rfl shapeCasts_S32x2048x2048_S8x4x2048x2048,
    unary main_v0 main_v1 (transpose S8x2048x4x2048 [0, 2, 1, 3] · transposes_S8x4x2048x2048_S8x2048x4x2048_0_2_1_3),
    reshape main_v1 main_v2 rfl shapeCasts_S8x2048x4x2048_S8x2048x8192,
    reshape main_arg0 main_v3 rfl shapeCasts_S33792x8192_S8x4224x8192,
    binary main_v3 main_v2 main_v4 (fun l r => Host.dotGeneral dot_S8x4224x8192_S8x2048x8192_S8x4224x2048_2_2_1_1_0_0 none l r),
    unary main_v4 main_v5 (truncf .bf16 · bitsLt_bf16_f32),
    reshape main_v5 main_v6 rfl shapeCasts_S8x4224x2048_S33792x2048,
    unary main_arg2 main_v7 (Host.slice S2x1024x2048 ![16, 0, 0] ![4, 1, 1] · slicesBy_S32x1024x2048_S2x1024x2048_16s4_0s1_0s1),
    unary main_arg2 main_v8 (Host.slice S2x1024x2048 ![8, 0, 0] ![4, 1, 1] · slicesBy_S32x1024x2048_S2x1024x2048_8s4_0s1_0s1),
    unary main_arg2 main_v9 (Host.slice S2x1024x2048 ![24, 0, 0] ![4, 1, 1] · slicesBy_S32x1024x2048_S2x1024x2048_24s4_0s1_0s1),
    unary main_arg2 main_v10 (Host.slice S2x1024x2048 ![25, 0, 0] ![4, 1, 1] · slicesBy_S32x1024x2048_S2x1024x2048_25s4_0s1_0s1),
    unary main_arg2 main_v11 (Host.slice S2x1024x2048 ![1, 0, 0] ![4, 1, 1] · slicesBy_S32x1024x2048_S2x1024x2048_1s4_0s1_0s1),
    unary main_arg2 main_v12 (Host.slice S2x1024x2048 ![17, 0, 0] ![4, 1, 1] · slicesBy_S32x1024x2048_S2x1024x2048_17s4_0s1_0s1),
    unary main_arg2 main_v13 (Host.slice S2x1024x2048 ![2, 0, 0] ![4, 1, 1] · slicesBy_S32x1024x2048_S2x1024x2048_2s4_0s1_0s1),
    unary main_arg2 main_v14 (Host.slice S2x1024x2048 ![26, 0, 0] ![4, 1, 1] · slicesBy_S32x1024x2048_S2x1024x2048_26s4_0s1_0s1),
    unary main_arg2 main_v15 (Host.slice S2x1024x2048 ![10, 0, 0] ![4, 1, 1] · slicesBy_S32x1024x2048_S2x1024x2048_10s4_0s1_0s1),
    unary main_arg2 main_v16 (Host.slice S2x1024x2048 ![11, 0, 0] ![4, 1, 1] · slicesBy_S32x1024x2048_S2x1024x2048_11s4_0s1_0s1),
    unary main_arg2 main_v17 (Host.slice S2x1024x2048 ![19, 0, 0] ![4, 1, 1] · slicesBy_S32x1024x2048_S2x1024x2048_19s4_0s1_0s1),
    unary main_arg2 main_v18 (Host.slice S2x1024x2048 ![3, 0, 0] ![4, 1, 1] · slicesBy_S32x1024x2048_S2x1024x2048_3s4_0s1_0s1),
    nary ![main_v7, main_v8, main_v9, main_v10, main_v11, main_v12, main_v13, main_v14, main_v15, main_v16, main_v17, main_v18] main_v19 (fun u => (concatenate S24x1024x2048 0 [⟨S2x1024x2048, (u 0 : (⟨S2x1024x2048, .bf16⟩ : BufTy).Contents (Elt F))⟩, ⟨S2x1024x2048, (u 1 : (⟨S2x1024x2048, .bf16⟩ : BufTy).Contents (Elt F))⟩, ⟨S2x1024x2048, (u 2 : (⟨S2x1024x2048, .bf16⟩ : BufTy).Contents (Elt F))⟩, ⟨S2x1024x2048, (u 3 : (⟨S2x1024x2048, .bf16⟩ : BufTy).Contents (Elt F))⟩, ⟨S2x1024x2048, (u 4 : (⟨S2x1024x2048, .bf16⟩ : BufTy).Contents (Elt F))⟩, ⟨S2x1024x2048, (u 5 : (⟨S2x1024x2048, .bf16⟩ : BufTy).Contents (Elt F))⟩, ⟨S2x1024x2048, (u 6 : (⟨S2x1024x2048, .bf16⟩ : BufTy).Contents (Elt F))⟩, ⟨S2x1024x2048, (u 7 : (⟨S2x1024x2048, .bf16⟩ : BufTy).Contents (Elt F))⟩, ⟨S2x1024x2048, (u 8 : (⟨S2x1024x2048, .bf16⟩ : BufTy).Contents (Elt F))⟩, ⟨S2x1024x2048, (u 9 : (⟨S2x1024x2048, .bf16⟩ : BufTy).Contents (Elt F))⟩, ⟨S2x1024x2048, (u 10 : (⟨S2x1024x2048, .bf16⟩ : BufTy).Contents (Elt F))⟩, ⟨S2x1024x2048, (u 11 : (⟨S2x1024x2048, .bf16⟩ : BufTy).Contents (Elt F))⟩] concatenates_S2x1024x2048_S2x1024x2048_S2x1024x2048_S2x1024x2048_S2x1024x2048_S2x1024x2048_S2x1024x2048_S2x1024x2048_S2x1024x2048_S2x1024x2048_S2x1024x2048_S2x1024x2048_S24x1024x2048_d0 : (⟨S24x1024x2048, .bf16⟩ : BufTy).Contents (Elt F))),
    reshape main_v19 main_v20 rfl shapeCasts_S24x1024x2048_S4x3x2x1024x2048,
    unary main_v20 main_v21 (transpose S4x2x3x1024x2048 [0, 2, 1, 3, 4] · transposes_S4x3x2x1024x2048_S4x2x3x1024x2048_0_2_1_3_4),
    reshape main_v21 main_v22 rfl shapeCasts_S4x2x3x1024x2048_S24x1024x2048,
    reshape main_arg3 main_v23 rfl shapeCasts_S32x2x1024x2048_S4x2x4x2x1024x2048,
    unary main_v23 main_v24 (extractStridedSlice S4x1x4x1x1024x2048 ![0, 1, 0, 0, 0, 0] · slices_S4x2x4x2x1024x2048_S4x1x4x1x1024x2048_0_1_0_0_0_0),
    reshape main_v24 main_v25 rfl shapeCasts_S4x1x4x1x1024x2048_S4x4x1024x2048,
    unary main_v23 main_v26 (extractStridedSlice S4x1x4x1x1024x2048 ![0, 0, 0, 1, 0, 0] · slices_S4x2x4x2x1024x2048_S4x1x4x1x1024x2048_0_0_0_1_0_0),
    reshape main_v26 main_v27 rfl shapeCasts_S4x1x4x1x1024x2048_S4x4x1024x2048,
    unary main_v25 main_v28 (broadcastInDim S4x1x4x1024x2048 ![0, 2, 3, 4] bcast_S4x4x1024x2048_S4x1x4x1024x2048_0_2_3_4),
    unary main_v27 main_v29 (broadcastInDim S4x1x4x1024x2048 ![0, 2, 3, 4] bcast_S4x4x1024x2048_S4x1x4x1024x2048_0_2_3_4),
    binary main_v28 main_v29 main_v30 (fun a b => concatenate S4x2x4x1024x2048 1 [⟨S4x1x4x1024x2048, a⟩, ⟨S4x1x4x1024x2048, b⟩] concatenates_S4x1x4x1024x2048_S4x1x4x1024x2048_S4x2x4x1024x2048_d1),
    reshape main_v30 main_v31 rfl shapeCasts_S4x2x4x1024x2048_S32x1024x2048 ]

theorem main_eq (c : Dev nD) : main (F := F) c = seq ops := rfl

theorem out0_eq (V : Valuation τ sig (Elt F)) : after ops V (main_v6 : DevRef τ sig) = out0 (V (main_arg0 : DevRef τ sig)) (V (main_arg1 : DevRef τ sig)) := by
  after_results
  rfl

theorem out1_eq (V : Valuation τ sig (Elt F)) : after ops V (main_v22 : DevRef τ sig) = out1 (V (main_arg2 : DevRef τ sig)) := by
  after_results
  rfl

theorem out2_eq (V : Valuation τ sig (Elt F)) : after ops V (main_v31 : DevRef τ sig) = out2 (V (main_arg3 : DevRef τ sig)) := by
  after_results
  rfl

theorem x0_eq (V : Valuation τ sig (Elt F)) : after ops V (main_arg0 : DevRef τ sig) = V (main_arg0 : DevRef τ sig) := by
  after_results

theorem x1_eq (V : Valuation τ sig (Elt F)) : after ops V (main_arg1 : DevRef τ sig) = V (main_arg1 : DevRef τ sig) := by
  after_results

theorem x2_eq (V : Valuation τ sig (Elt F)) : after ops V (main_arg2 : DevRef τ sig) = V (main_arg2 : DevRef τ sig) := by
  after_results

theorem x3_eq (V : Valuation τ sig (Elt F)) : after ops V (main_arg3 : DevRef τ sig) = V (main_arg3 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., reshape_bufs_sub .., reshape_bufs_sub .., binary_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., reshape_bufs_sub .., unary_bufs_sub .., reshape_bufs_sub .., unary_bufs_sub .., reshape_bufs_sub .., unary_bufs_sub .., unary_bufs_sub .., binary_bufs_sub .., reshape_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c : Thread nD τ).loc main_v6) = out0 (m ((c : Thread nD τ).loc main_arg0)) (m ((c : Thread nD τ).loc main_arg1))
      ∧ r.2.mem ((c : Thread nD τ).loc main_v22) = out1 (m ((c : Thread nD τ).loc main_arg2))
      ∧ r.2.mem ((c : Thread nD τ).loc main_v31) = out2 (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c main_v6).trans (out0_eq _), (h c main_v22).trans (out1_eq _), (h c main_v31).trans (out2_eq _), (h c main_arg0).trans (x0_eq _), (h c main_arg1).trans (x1_eq _), (h c main_arg2).trans (x2_eq _), (h c main_arg3).trans (x3_eq _)⟩)
    (run_seq scopedRefs_eq scopedSems_eq defs main (fun _ => ops) main_eq (fun _ => ops_sub) m ρ)

theorem frame : Cert.quiescent_ReferenceUpDxIdeal := fun m g _ =>
  (θ_run defs _ _).mono (fun r h => ⟨fun c => (h c).2.2.2, sem_eq_zero_of_no_sems (by decide) r.2⟩)
    (run_main (F := Ideal) m g)

end Cert.UpDx.Ref

end
-- ==== Proof.UpDxValue.lean ====
/-
  What the up projection's input gradient computes, at the ideal values: each device's block of the reference's results.
-/
module

public import proofs.«01_k».proof.Proof.ChipRows
public import proofs.«01_k».proof.Proof.UpDxRun
public import proofs.«01_k».proof.Proof.UpDxRef
public import proofs.«01_k».proof.Proof.Gen.On_near_chips

@[expose] public section

set_option maxRecDepth 16384

noncomputable section

namespace Cert.UpDx

open Cert.KernelUpDxIdeal Cert.KernelUpDxIdeal.Gen Cert.Exchange

open Idealize.ShloMosaic Idealize.ShloMosaic.TcCoe
open Idealize.SL Idealize.SL.Sem
open Idealize.ShloMosaic.Pipeline (Dat Cfg Window)

variable (m : (ℓ : Loc nD τ sig) → Buf (Elt Ideal) ℓ)

theorem index_0 : ∀ t : Fin cfg0.N, win0_0.index t = ![t.val / 8, t.val % 4] := (by decide +kernel : ∀ t : Fin grid0.N, _)
theorem index_1 : ∀ t : Fin cfg0.N, win0_1.index t = ![t.val % 4, t.val / 4 % 2, 0] := (by decide +kernel : ∀ t : Fin grid0.N, _)
theorem index_2 : ∀ t : Fin cfg0.N, win0_2.index t = ![t.val / 8, t.val / 4 % 2] := (by decide +kernel : ∀ t : Fin grid0.N, _)

/-- A block's share of a product: the sum over the block's columns. -/
def share (a : S4224x8192.Idx → EReal) (b : S4x2048x2048.Idx → EReal) (r : Fin 4224) (s : Fin 2048) (j : Fin 4) : EReal :=
  ∑ k : Fin 2048, a (ix2 r ⟨j.val * 2048 + k.val, by omega⟩) * b (ix3 j s k)

/-- A device's products: rows of the first argument by rows of the second, whose columns come in four blocks. -/
def product (a : S4224x8192.Idx → EReal) (b : S4x2048x2048.Idx → EReal) : S4224x2048.Idx → EReal :=
  fun x => ∑ j : Fin 4, share a b (x 0) (x 1) j

/-- The product of a point's blocks is its block's share. -/
theorem point_share (c : Dev nD) (t : Fin cfg0.N) (y0 : Fin 1408) (y1 : Fin 1024) (r : Fin 4224) (s : Fin 2048) (j : Fin 4)
    (hr : r.val = t.val / 8 * 1408 + y0.val) (hs : s.val = t.val / 4 % 2 * 1024 + y1.val) (hj : j.val = t.val % 4) :
    k0_pay1 (iblk m c 0 t) (iblk m c 1 t) (ix2 y0 y1)
      = share (m ((c : Thread nD τ).loc main_arg0)) (m ((c : Thread nD τ).loc main_arg1)) r s j := by
  pointwise [k0_pay1, share]
  blk_simp [iblk, index_0, index_1]
  refine Finset.sum_congr rfl fun k _ => congrArg₂ (· * ·)
    (congrArg (m ((c : Thread nD τ).loc main_arg0)) ?_) (congrArg (m ((c : Thread nD τ).loc main_arg1)) ?_)
  · blk_ext [index_0, hr, hj]
  · blk_ext [index_1, hs, hj]

/-- The running sum, read at an element: it starts with the first point's product, -/
theorem sum_start (c : Dev nD) (u : Fin cfg0.N) (hu : u.val % 4 = 0) (y0 : Fin 1408) (y1 : Fin 1024) :
    acc m c u.val (ix2 y0 y1) = k0_pay1 (iblk m c 0 u) (iblk m c 1 u) (ix2 y0 y1) := by
  rw [acc_start m c u hu]
  generalize iblk m c 0 u = a
  generalize iblk m c 1 u = b
  unfold k0_pay2
  pointwise

/-- and each other point's is added. -/
theorem sum_next (c : Dev nD) (u v : Fin cfg0.N) (hv : u.val = v.val + 1) (hu : u.val % 4 ≠ 0) (y0 : Fin 1408) (y1 : Fin 1024) :
    acc m c u.val (ix2 y0 y1) = acc m c v.val (ix2 y0 y1) + k0_pay1 (iblk m c 0 u) (iblk m c 1 u) (ix2 y0 y1) := by
  rw [acc_next m c u hu, show u.val - 1 = v.val by omega]
  generalize iblk m c 0 u = a
  generalize iblk m c 1 u = b
  generalize acc m c v.val = f
  unfold k0_pay3
  pointwise

/-- The running sum at the last of four points is the whole product. -/
theorem sum_end (c : Dev nD) (u0 u1 u2 u3 : Fin cfg0.N) (h : u3.val % 4 = 3) (h3 : u3.val = u2.val + 1) (h2 : u2.val = u1.val + 1)
    (h1 : u1.val = u0.val + 1) (y0 : Fin 1408) (y1 : Fin 1024) (r : Fin 4224) (s : Fin 2048)
    (hr : r.val = u3.val / 8 * 1408 + y0.val) (hs : s.val = u3.val / 4 % 2 * 1024 + y1.val) :
    acc m c u3.val (ix2 y0 y1) = product (m ((c : Thread nD τ).loc main_arg0)) (m ((c : Thread nD τ).loc main_arg1)) (ix2 r s) := by
  rw [sum_next m c u3 u2 h3 (by omega), sum_next m c u2 u1 h2 (by omega), sum_next m c u1 u0 h1 (by omega), sum_start m c u0 (by omega),
    point_share m c u3 y0 y1 r s ⟨3, by decide⟩ hr hs (show 3 = _ by omega),
    point_share m c u2 y0 y1 r s ⟨2, by decide⟩ (by omega) (by omega) (show 2 = _ by omega),
    point_share m c u1 y0 y1 r s ⟨1, by decide⟩ (by omega) (by omega) (show 1 = _ by omega),
    point_share m c u0 y0 y1 r s ⟨0, by decide⟩ (by omega) (by omega) (show 0 = _ by omega)]
  exact (Fin.sum_univ_four fun j => share (m ((c : Thread nD τ).loc main_arg0)) (m ((c : Thread nD τ).loc main_arg1)) r s j).symm

theorem product_end (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  have hN : t.val < 24 := t.isLt
  blk_simp
  show k0_pay4 (acc m c t.val) y = _
  idx_vars y
  pointwise [k0_pay4]
  rw [sum_end m c ⟨t.val - 3, show t.val - 3 < 24 by omega⟩ ⟨t.val - 2, show t.val - 2 < 24 by omega⟩ ⟨t.val - 1, show t.val - 1 < 24 by omega⟩ t h
    (show t.val = t.val - 1 + 1 by omega) (show t.val - 1 = t.val - 2 + 1 by omega) (show t.val - 2 = t.val - 3 + 1 by omega) y0 y1
    ⟨t.val / 8 * 1408 + y0.val, by omega⟩ ⟨t.val / 4 % 2 * 1024 + y1.val, by omega⟩ rfl rfl]
  refine congrArg (product (m ((c : Thread nD τ).loc main_arg0)) (m ((c : Thread nD τ).loc main_arg1))) ?_
  blk_ext [index_2]

/-- A device's block of the reference's products. -/
theorem product_block (c : Dev nD) (a : FVec Ideal Cert.ReferenceUpDxIdeal.S33792x8192 .bf16) (b : FVec Ideal Cert.ReferenceUpDxIdeal.S32x2048x2048 .bf16) :
    product (Layout.block ⟨2, ![4224, 8192]⟩ ⟨2, ![33792, 8192]⟩ 0 8 c a) (Layout.block ⟨3, ![4, 2048, 2048]⟩ ⟨3, ![32, 2048, 2048]⟩ 0 8 c b)
      = Layout.block ⟨2, ![4224, 2048]⟩ ⟨2, ![33792, 2048]⟩ 0 8 c (Ref.out0 a b) := by
  funext x
  idx_vars x
  rw [block2]
  pointwise [Ref.out0]
  have hc : c.val < 8 := c.isLt
  show ∑ j : Fin 4, share _ _ x0 x1 j = _
  unfold share
  simp only [block2, block3]
  rw [Fin.sum_univ_tiles 4 2048 rfl]
  refine Finset.sum_congr rfl fun j _ => Finset.sum_congr rfl fun k _ => congrArg₂ (· * ·) rfl (congrArg b ?_)
  have hj := j.isLt
  have hk := k.isLt
  have e0 : (j.val * 2048 + k.val) / 2048 = j.val := by omega
  have e1 : (j.val * 2048 + k.val) % 2048 = k.val := by omega
  exact congr_ix3 (show c.val * 4 + j.val = c.val * 4 + (j.val * 2048 + k.val) / 2048 by rw [e0]) rfl e1.symm

/-- The sibling. -/
def sib (c : Dev nD) : Dev nD := ⟨k0_dev3 c, k0_dev3_lt (grid0.coords t0_0) c cond1_first⟩

theorem sib_val : ∀ c : Dev nD, (sib c).val = 4 * (c.val / 4) + 2 * ((c.val / 2) % 2) + 1 - c.val % 2 := by decide +kernel

/-- The device of the same core on each near chip: along the first axis, along the second. -/
def chip (j : Fin 2) (c : Dev nD) : Dev nD :=
  match j with
  | 0 => ⟨k0_dev1 c, k0_dev1_lt (grid0.coords t0_0) c cond1_first⟩
  | 1 => ⟨k0_dev2 c, k0_dev2_lt (grid0.coords t0_0) c cond1_first⟩

/-- A device's chip, the slot kept for it. -/
def spot (c : Dev nD) : Fin 4 := ⟨c.val / 2, by have : c.val < 8 := c.isLt; omega⟩

/-- Which of the reference's rows is the slot kept for a device. -/
theorem rows_start : ∀ (c : Dev nD) (j : Fin 2), (chip j c).val * 4 + (spot c).val
    = starts ⟨(c.val * 3 + j.val) / 6 * 3 + (c.val * 3 + j.val) % 3, by have : c.val < 8 := c.isLt; have := j.isLt; omega⟩
      + 4 * ((c.val * 3 + j.val) / 3 % 2) := by decide +kernel

/-- Where an element of a slot of `main_arg2` lies. -/
theorem emb_arg2 (off : Fin 3 → ℕ) (h) (r : Fin 1024) (s : Fin 2048) (k : Fin 4) (ho : off = ![k.val, 0, 0]) :
    (cut_arg2 off h).view.emb (ix2 r s) = (ix3 k r s : S4x1024x2048.Idx) := by
  subst ho
  show (Rect.unit (s := S4x1024x2048) _ S1x1024x2048.size h).emb (Shape.reshapeEquiv squeezes_S1x1024x2048_S1024x2048.numel_eq (ix2 r s)) = _
  pointwise
  blk_ext

/-- Where an element of a slot of `main_v1_1` lies. -/
theorem emb_v1_1 (off : Fin 3 → ℕ) (h) (r : Fin 1024) (s : Fin 2048) (k : Fin 3) (ho : off = ![k.val, 0, 0]) :
    (cut_v1_1 off h).view.emb (ix2 r s) = (ix3 k r s : S3x1024x2048.Idx) := by
  subst ho
  show (Rect.unit (s := S3x1024x2048) _ S1x1024x2048.size h).emb (Shape.reshapeEquiv squeezes_S1x1024x2048_S1024x2048.numel_eq (ix2 r s)) = _
  pointwise
  blk_ext

/-- Rows by chip, by chip come from, by core, regrouped by chip, core, chip come from. -/
theorem regroup_1024_2048 {α : Type} (y : (⟨3, ![24, 1024, 2048]⟩ : Shape).Idx → α) (h1 h2 h3) (q : Fin 24) (r : Fin 1024) (s : Fin 2048) :
    shapeCast ⟨3, ![24, 1024, 2048]⟩ (transpose ⟨5, ![4, 2, 3, 1024, 2048]⟩ [0, 2, 1, 3, 4] (shapeCast ⟨5, ![4, 3, 2, 1024, 2048]⟩ y h1) h2) h3 (ix3 q r s)
      = y (ix3 ⟨q.val / 6 * 6 + q.val % 3 * 2 + q.val / 3 % 2, by omega⟩ r s) := by
  pointwise

/-- Slot `j` of `main_v1_1` ends as the slot kept for this device of another chip's `main_arg2`, -/
theorem landed_1 (c : Dev nD) (j : Fin 2) (r : Fin 1024) (s : Fin 2048) :
    ending copies order m c main_v1_1 (ix3 (j.castSucc : Fin 3) r s) = m ((chip j c : Thread nD τ).loc main_arg2) (ix3 (spot c) r s) := by
  match j with
  | 0 => exact (congrArg (ending copies order m c main_v1_1) (emb_v1_1 _ inb_S3x1024x2048_S1x1024x2048_0_0_0 r s 0 rfl)).symm.trans <|
      (ending_at m copies_ok copies_apart c 0 (ix2 r s)).trans (congrArg (m ((chip 0 c : Thread nD τ).loc main_arg2))
      (emb_arg2 (k0_off1 (chip 0 c)) _ r s (spot c) ((by decide +kernel : ∀ c : Dev nD, k0_off1 (chip 0 c) = ![(spot c).val, 0, 0]) c)))
  | 1 => exact (congrArg (ending copies order m c main_v1_1) (emb_v1_1 _ inb_S3x1024x2048_S1x1024x2048_1_0_0 r s 1 rfl)).symm.trans <|
      (ending_at m copies_ok copies_apart c 1 (ix2 r s)).trans (congrArg (m ((chip 1 c : Thread nD τ).loc main_arg2))
      (emb_arg2 (k0_off2 (chip 1 c)) _ r s (spot c) ((by decide +kernel : ∀ c : Dev nD, k0_off2 (chip 1 c) = ![(spot c).val, 0, 0]) c)))

/-- and the reference, read at an element, -/
theorem at_1 (g : FVec Ideal Cert.ReferenceUpDxIdeal.S32x1024x2048 .bf16) (q : Fin 24) (r : Fin 1024) (s : Fin 2048) (p : Fin 32)
    (hp : p.val = starts ⟨q.val / 6 * 3 + q.val % 3, by omega⟩ + 4 * (q.val / 3 % 2)) : Ref.out1 g (ix3 q r s) = g (ix3 p r s) :=
  (regroup_1024_2048 _ _ _ _ q r s).trans (rows_at g _ _ _ _ _ _ _ _ _ _ _ _ _ _ ⟨q.val / 6 * 3 + q.val % 3, by omega⟩ (by
      show (q.val / 6 * 6 + q.val % 3 * 2 + q.val / 3 % 2) / 2 = q.val / 6 * 3 + q.val % 3
      omega) r s p (by
      show _ = _ + 4 * ((q.val / 6 * 6 + q.val % 3 * 2 + q.val / 3 % 2) % 2)
      have : (q.val / 6 * 6 + q.val % 3 * 2 + q.val / 3 % 2) % 2 = q.val / 3 % 2 := by omega
      rw [this]; exact hp))

/-- has that as its block. -/
theorem block_1 (c : Dev nD) (g : FVec Ideal Cert.ReferenceUpDxIdeal.S32x1024x2048 .bf16) (j : Fin 2) (r : Fin 1024) (s : Fin 2048) :
    (Layout.block ⟨3, ![4, 1024, 2048]⟩ ⟨3, ![32, 1024, 2048]⟩ 0 8 (chip j c) g : S4x1024x2048.Idx → EReal) (ix3 (spot c) r s)
      = (Layout.block ⟨3, ![3, 1024, 2048]⟩ ⟨3, ![24, 1024, 2048]⟩ 0 8 c (Ref.out1 g) : S3x1024x2048.Idx → EReal) (ix3 (j.castSucc : Fin 3) r s) := by
  rw [block3, block3]
  exact (at_1 g _ r s _ (rows_start c j)).symm

/-- A device's half of the two. -/
def mine (c : Dev nD) : Fin 2 := ⟨c.val % 2, Nat.mod_lt _ (by decide)⟩

/-- Where an element of a slot of `main_arg3` lies. -/
theorem emb_arg3 (off : Fin 4 → ℕ) (h) (r : Fin 1024) (s : Fin 2048) (k : Fin 4) (e : Fin 2) (ho : off = ![k.val, e.val, 0, 0]) :
    (cut_arg3 off h).view.emb (ix2 r s) = (ix4 k e r s : S4x2x1024x2048.Idx) := by
  subst ho
  show (Rect.unit (s := S4x2x1024x2048) _ S1x1x1024x2048.size h).emb (Shape.reshapeEquiv squeezes_S1x1x1024x2048_S1024x2048.numel_eq (ix2 r s)) = _
  pointwise
  blk_ext

/-- Where an element of a slot of `main_v1_2` lies. -/
theorem emb_v1_2 (off : Fin 3 → ℕ) (h) (r : Fin 1024) (s : Fin 2048) (k : Fin 4) (ho : off = ![k.val, 0, 0]) :
    (cut_v1_2 off h).view.emb (ix2 r s) = (ix3 k r s : S4x1024x2048.Idx) := by
  subst ho
  show (Rect.unit (s := S4x1024x2048) _ S1x1024x2048.size h).emb (Shape.reshapeEquiv squeezes_S1x1024x2048_S1024x2048.numel_eq (ix2 r s)) = _
  pointwise
  blk_ext

/-- Slot `k` of `main_v1_2` ends as the sibling's `main_arg3` there, its half for this device, -/
theorem landed_2 (c : Dev nD) (k : Fin 4) (r : Fin 1024) (s : Fin 2048) :
    ending copies order m c main_v1_2 (ix3 k r s) = m ((sib c : Thread nD τ).loc main_arg3) (ix4 k (mine c) r s) :=
  match k with
  | 0 => (congrArg (ending copies order m c main_v1_2) (emb_v1_2 _ inb_S4x1024x2048_S1x1024x2048_0_0_0 r s 0 rfl)).symm.trans <|
      (ending_at m copies_ok copies_apart c 2 (ix2 r s)).trans (congrArg (m ((sib c : Thread nD τ).loc main_arg3))
      (emb_arg3 (k0_off3 (sib c)) _ r s 0 (mine c) ((by decide +kernel : ∀ c : Dev nD, k0_off3 (sib c) = ![0, (mine c).val, 0, 0]) c)))
  | 1 => (congrArg (ending copies order m c main_v1_2) (emb_v1_2 _ inb_S4x1024x2048_S1x1024x2048_1_0_0 r s 1 rfl)).symm.trans <|
      (ending_at m copies_ok copies_apart c 3 (ix2 r s)).trans (congrArg (m ((sib c : Thread nD τ).loc main_arg3))
      (emb_arg3 (k0_off4 (sib c)) _ r s 1 (mine c) ((by decide +kernel : ∀ c : Dev nD, k0_off4 (sib c) = ![1, (mine c).val, 0, 0]) c)))
  | 2 => (congrArg (ending copies order m c main_v1_2) (emb_v1_2 _ inb_S4x1024x2048_S1x1024x2048_2_0_0 r s 2 rfl)).symm.trans <|
      (ending_at m copies_ok copies_apart c 4 (ix2 r s)).trans (congrArg (m ((sib c : Thread nD τ).loc main_arg3))
      (emb_arg3 (k0_off5 (sib c)) _ r s 2 (mine c) ((by decide +kernel : ∀ c : Dev nD, k0_off5 (sib c) = ![2, (mine c).val, 0, 0]) c)))
  | 3 => (congrArg (ending copies order m c main_v1_2) (emb_v1_2 _ inb_S4x1024x2048_S1x1024x2048_3_0_0 r s 3 rfl)).symm.trans <|
      (ending_at m copies_ok copies_apart c 5 (ix2 r s)).trans (congrArg (m ((sib c : Thread nD τ).loc main_arg3))
      (emb_arg3 (k0_off6 (sib c)) _ r s 3 (mine c) ((by decide +kernel : ∀ c : Dev nD, k0_off6 (sib c) = ![3, (mine c).val, 0, 0]) c)))

/-- the reference's block. -/
theorem block_2 (c : Dev nD) (g : FVec Ideal Cert.ReferenceUpDxIdeal.S32x2x1024x2048 .bf16) (k : Fin 4) (r : Fin 1024) (s : Fin 2048) :
    (Layout.block ⟨4, ![4, 2, 1024, 2048]⟩ ⟨4, ![32, 2, 1024, 2048]⟩ 0 8 (sib c) g : S4x2x1024x2048.Idx → EReal) (ix4 k (mine c) r s)
      = (Layout.block ⟨3, ![4, 1024, 2048]⟩ ⟨3, ![32, 1024, 2048]⟩ 0 8 c (Ref.out2 g) : S4x1024x2048.Idx → EReal) (ix3 k r s) := by
  rw [block3, block4]
  pointwise [Ref.out2, Ref.out2_0, Ref.out2_1]
  have hc : c.val < 8 := c.isLt
  have hs := sib_val c
  have e0 : (c.val * 4 + k.val) / 4 = c.val := by omega
  have e1 : (c.val * 4 + k.val) % 4 = k.val := by omega
  have e2 : (c.val * 4 + k.val) / 8 = c.val / 2 := by omega
  simp only [e0, e1, e2]
  by_cases hp : c.val % 2 < 1
  · rw [dif_pos hp]
    exact congrArg g (congr_ix4 (show (sib c).val * 4 + k.val = c.val / 2 * 8 + 4 + k.val by omega) (show c.val % 2 = 0 by omega) rfl rfl)
  · rw [dif_neg hp]
    exact congrArg g (congr_ix4 (show (sib c).val * 4 + k.val = c.val / 2 * 8 + k.val by omega) (show c.val % 2 = 1 by omega) rfl rfl)

/-- The mask leaves out the slot of the chip across. -/
theorem mask_near (c : Dev nD) (a0 a1 a2 a3) (j : Fin 3) (r : Fin 1024) (s : Fin 2048)
    (h : (Layout.block ⟨3, ![3, 1024, 2048]⟩ ⟨3, ![24, 1024, 2048]⟩ 0 8 c (Cert.On_near_chips.fn (F := Ideal) a0 a1 a2 a3).2.1 : S3x1024x2048.Idx → BitVec 1) (ix3 j r s) = 1#1) :
    ∃ k : Fin 2, j = k.castSucc := by
  refine (by decide : ∀ j : Fin 3, j ≠ 2 → ∃ k : Fin 2, j = k.castSucc) j ?_
  rintro rfl
  rw [block3] at h
  revert h
  show ¬ _ = _
  pointwise [Cert.On_near_chips.fn, Cert.On_near_chips.fn_remainder, Cert.On_near_chips.fn_where]
  clear * -
  revert c
  decide +kernel

theorem algebraic : Cert.algebraic_KernelUpDxIdeal_ReferenceUpDxIdeal_on_near_chips := by
  intro m g m' g' _ hargs
  refine ⟨Ref.out0 (F := Ideal) (m' ((0 : Dev Cert.ReferenceUpDxIdeal.nD).tc.loc Cert.ReferenceUpDxIdeal.main_arg0)) (m' ((0 : Dev Cert.ReferenceUpDxIdeal.nD).tc.loc Cert.ReferenceUpDxIdeal.main_arg1)),
    Ref.out1 (F := Ideal) (m' ((0 : Dev Cert.ReferenceUpDxIdeal.nD).tc.loc Cert.ReferenceUpDxIdeal.main_arg2)), Ref.out2 (F := Ideal) (m' ((0 : Dev Cert.ReferenceUpDxIdeal.nD).tc.loc Cert.ReferenceUpDxIdeal.main_arg3)),
    (θ_run Cert.KernelUpDxIdeal.defs _ _).mono (fun r h c => ⟨fun i _ => congrFun ((h.1 c).1.trans ?prod) i, fun i hi => (congrFun (h.1 c).2.1 i).trans ?near,
      fun i _ => congrFun ((h.1 c).2.2.1.trans ?half) i, (h.1 c).2.2.2⟩) (run_main m g),
    (θ_run Cert.ReferenceUpDxIdeal.defs _ _).mono (fun _ h => ⟨fun i _ => by rw [(h 0).1], fun i _ => by rw [(h 0).2.1], fun i _ => by rw [(h 0).2.2.1], (h 0).2.2.2⟩)
      (Ref.run_main m' g')⟩
  case prod =>
    rw [product_end, (hargs c).1, (hargs c).2.1]
    exact product_block c _ _
  case near =>
    idx_vars i
    obtain ⟨k, rfl⟩ := mask_near c _ _ _ _ i0 i1 i2 hi
    rw [landed_1, (hargs (chip k c)).2.2.1]
    exact block_1 c _ k i1 i2
  case half =>
    funext x
    idx_vars x
    rw [landed_2, (hargs (sib c)).2.2.2]
    exact block_2 c _ _ _ _

end Cert.UpDx

end
-- ==== Proof.StepRow.lean ====
/-
  The update of a parameter held in one row: what the call leaves is the reference's step.
-/
module

public import proofs.«01_k».proof.Defs
public import proofs.«01_k».proof.Proof.Gen.KernelStepRow
public import proofs.«01_k».proof.Proof.Gen.KernelStepRowIdeal.Value
public import proofs.«01_k».proof.Proof.Gen.ReferenceStepRowIdeal.Run

@[expose] public section

noncomputable section

namespace Cert.StepRow

open Idealize.ShloMosaic Idealize.SL.Sem
open Cert.KernelStepRowIdeal

variable {F : FTy → Type} [FloatOps F]

theorem frame_ideal : Cert.quiescent_KernelStepRowIdeal := fun m g _ => Gen.frame m g

/-- The two printed programs have one body table. -/
theorem bodies_eq : Cert.KernelStepRow.defs₀ (F := F) = Cert.KernelStepRowIdeal.defs₀ (F := F) :=
  congrArg (Defs.onTc (τ := Cert.KernelStepRow.τ)) (funext fun b => funext fun a => match b, a with
    | ⟨0, _⟩, (t, s) => rfl
    | ⟨_ + 1, h⟩, _ => absurd h (Nat.not_lt.2 (Nat.le_add_left _ _)))

theorem defs_eq : Cert.KernelStepRow.defs (F := F) = Cert.KernelStepRowIdeal.defs (F := F) := by
  unfold Cert.KernelStepRow.defs Cert.KernelStepRowIdeal.defs
  rw [bodies_eq]
  rfl

theorem frame_kernel : Cert.quiescent_KernelStepRow := fun m g _ => by
  rw [defs_eq]
  exact Gen.frame (F := Bits) m g

theorem frame_ref : Cert.quiescent_ReferenceStepRowIdeal := fun m g _ =>
  (θ_run _ _ _).mono (fun r h => ⟨fun c => (h c).2.2.2.2, sem_eq_zero_of_no_sems (by decide) r.2⟩)
    (Cert.ReferenceStepRowIdeal.Value.run m g)

/-- The gradient comes back as it was, and the step and the two moments are the reference's, element by element the same operations. -/
theorem algebraic : Cert.algebraic_KernelStepRowIdeal_ReferenceStepRowIdeal := by
  intro m g m' g' _ hargs
  refine ⟨_, _, _, _, (θ_run _ _ _).mono (fun r h c => ?_) (Value.run m g),
    (θ_run _ _ _).mono (fun _ h => h) (Cert.ReferenceStepRowIdeal.Value.run m' g')⟩
  obtain ⟨h0, h1, h2, h3, hk⟩ := h c
  obtain ⟨e0, e1, e2, e3⟩ := hargs c
  refine ⟨h0.trans ?_, h1.trans ?_, h2.trans ?_, h3.trans ?_, hk⟩
  · exact e1.symm
  · rw [e0, e1, e2, e3]; rfl
  · rw [e1, e2]; rfl
  · rw [e1, e3]; rfl

end Cert.StepRow

end
-- ==== Proof.StepMeta.lean ====
/-
  The update of the meta tokens: what the call leaves is the reference's step.
-/
module

public import proofs.«01_k».proof.Defs
public import proofs.«01_k».proof.Proof.Gen.KernelStepMeta
public import proofs.«01_k».proof.Proof.Gen.KernelStepMetaIdeal.Value
public import proofs.«01_k».proof.Proof.Gen.ReferenceStepMetaIdeal.Run

@[expose] public section

noncomputable section

namespace Cert.StepMeta

open Idealize.ShloMosaic Idealize.SL.Sem
open Cert.KernelStepMetaIdeal

variable {F : FTy → Type} [FloatOps F]

theorem frame_ideal : Cert.quiescent_KernelStepMetaIdeal := fun m g _ => Gen.frame m g

/-- The two printed programs have one body table. -/
theorem bodies_eq : Cert.KernelStepMeta.defs₀ (F := F) = Cert.KernelStepMetaIdeal.defs₀ (F := F) :=
  congrArg (Defs.onTc (τ := Cert.KernelStepMeta.τ)) (funext fun b => funext fun a => match b, a with
    | ⟨0, _⟩, (t, s) => rfl
    | ⟨_ + 1, h⟩, _ => absurd h (Nat.not_lt.2 (Nat.le_add_left _ _)))

theorem defs_eq : Cert.KernelStepMeta.defs (F := F) = Cert.KernelStepMetaIdeal.defs (F := F) := by
  unfold Cert.KernelStepMeta.defs Cert.KernelStepMetaIdeal.defs
  rw [bodies_eq]
  rfl

theorem frame_kernel : Cert.quiescent_KernelStepMeta := fun m g _ => by
  rw [defs_eq]
  exact Gen.frame (F := Bits) m g

theorem frame_ref : Cert.quiescent_ReferenceStepMetaIdeal := fun m g _ =>
  (θ_run _ _ _).mono (fun r h => ⟨fun c => (h c).2.2.2.2, sem_eq_zero_of_no_sems (by decide) r.2⟩)
    (Cert.ReferenceStepMetaIdeal.Value.run m g)

/-- The gradient comes back as it was, and the step and the two moments are the reference's, element by element the same operations. -/
theorem algebraic : Cert.algebraic_KernelStepMetaIdeal_ReferenceStepMetaIdeal := by
  intro m g m' g' _ hargs
  refine ⟨_, _, _, _, (θ_run _ _ _).mono (fun r h c => ?_) (Value.run m g),
    (θ_run _ _ _).mono (fun _ h => h) (Cert.ReferenceStepMetaIdeal.Value.run m' g')⟩
  obtain ⟨h0, h1, h2, h3, hk⟩ := h c
  obtain ⟨e0, e1, e2, e3⟩ := hargs c
  refine ⟨h0.trans ?_, h1.trans ?_, h2.trans ?_, h3.trans ?_, hk⟩
  · exact e1.symm
  · rw [e0, e1, e2, e3]; rfl
  · rw [e1, e2]; rfl
  · rw [e1, e3]; rfl

end Cert.StepMeta

end
-- ==== Proof.StepConv.lean ====
/-
  The update of the convolution's taps: what the call leaves is the reference's step.
-/
module

public import proofs.«01_k».proof.Defs
public import proofs.«01_k».proof.Proof.Gen.KernelStepConv
public import proofs.«01_k».proof.Proof.Gen.KernelStepConvIdeal.Value
public import proofs.«01_k».proof.Proof.Gen.ReferenceStepConvIdeal.Run

@[expose] public section

noncomputable section

namespace Cert.StepConv

open Idealize.ShloMosaic Idealize.SL.Sem
open Cert.KernelStepConvIdeal

variable {F : FTy → Type} [FloatOps F]

theorem frame_ideal : Cert.quiescent_KernelStepConvIdeal := fun m g _ => Gen.frame m g

/-- The two printed programs have one body table. -/
theorem bodies_eq : Cert.KernelStepConv.defs₀ (F := F) = Cert.KernelStepConvIdeal.defs₀ (F := F) :=
  congrArg (Defs.onTc (τ := Cert.KernelStepConv.τ)) (funext fun b => funext fun a => match b, a with
    | ⟨0, _⟩, (t, s) => rfl
    | ⟨_ + 1, h⟩, _ => absurd h (Nat.not_lt.2 (Nat.le_add_left _ _)))

theorem defs_eq : Cert.KernelStepConv.defs (F := F) = Cert.KernelStepConvIdeal.defs (F := F) := by
  unfold Cert.KernelStepConv.defs Cert.KernelStepConvIdeal.defs
  rw [bodies_eq]
  rfl

theorem frame_kernel : Cert.quiescent_KernelStepConv := fun m g _ => by
  rw [defs_eq]
  exact Gen.frame (F := Bits) m g

theorem frame_ref : Cert.quiescent_ReferenceStepConvIdeal := fun m g _ =>
  (θ_run _ _ _).mono (fun r h => ⟨fun c => (h c).2.2.2.2, sem_eq_zero_of_no_sems (by decide) r.2⟩)
    (Cert.ReferenceStepConvIdeal.Value.run m g)

/-- The gradient comes back as it was, and the step and the two moments are the reference's, element by element the same operations. -/
theorem algebraic : Cert.algebraic_KernelStepConvIdeal_ReferenceStepConvIdeal := by
  intro m g m' g' _ hargs
  refine ⟨_, _, _, _, (θ_run _ _ _).mono (fun r h c => ?_) (Value.run m g),
    (θ_run _ _ _).mono (fun _ h => h) (Cert.ReferenceStepConvIdeal.Value.run m' g')⟩
  obtain ⟨h0, h1, h2, h3, hk⟩ := h c
  obtain ⟨e0, e1, e2, e3⟩ := hargs c
  refine ⟨h0.trans ?_, h1.trans ?_, h2.trans ?_, h3.trans ?_, hk⟩
  · exact e1.symm
  · rw [e0, e1, e2, e3]; rfl
  · rw [e1, e2]; rfl
  · rw [e1, e3]; rfl

end Cert.StepConv

end
-- ==== Proof.StepBias.lean ====
/-
  The update of a gate's bias: what the call leaves is the reference's step.
-/
module

public import proofs.«01_k».proof.Defs
public import proofs.«01_k».proof.Proof.Gen.KernelStepBias
public import proofs.«01_k».proof.Proof.Gen.KernelStepBiasIdeal.Value
public import proofs.«01_k».proof.Proof.Gen.ReferenceStepBiasIdeal.Run

@[expose] public section

noncomputable section

namespace Cert.StepBias

open Idealize.ShloMosaic Idealize.SL.Sem
open Cert.KernelStepBiasIdeal

variable {F : FTy → Type} [FloatOps F]

theorem frame_ideal : Cert.quiescent_KernelStepBiasIdeal := fun m g _ => Gen.frame m g

/-- The two printed programs have one body table. -/
theorem bodies_eq : Cert.KernelStepBias.defs₀ (F := F) = Cert.KernelStepBiasIdeal.defs₀ (F := F) :=
  congrArg (Defs.onTc (τ := Cert.KernelStepBias.τ)) (funext fun b => funext fun a => match b, a with
    | ⟨0, _⟩, (t, s) => rfl
    | ⟨_ + 1, h⟩, _ => absurd h (Nat.not_lt.2 (Nat.le_add_left _ _)))

theorem defs_eq : Cert.KernelStepBias.defs (F := F) = Cert.KernelStepBiasIdeal.defs (F := F) := by
  unfold Cert.KernelStepBias.defs Cert.KernelStepBiasIdeal.defs
  rw [bodies_eq]
  rfl

theorem frame_kernel : Cert.quiescent_KernelStepBias := fun m g _ => by
  rw [defs_eq]
  exact Gen.frame (F := Bits) m g

theorem frame_ref : Cert.quiescent_ReferenceStepBiasIdeal := fun m g _ =>
  (θ_run _ _ _).mono (fun r h => ⟨fun c => (h c).2.2.2.2, sem_eq_zero_of_no_sems (by decide) r.2⟩)
    (Cert.ReferenceStepBiasIdeal.Value.run m g)

/-- The gradient comes back as it was, and the step and the two moments are the reference's, element by element the same operations. -/
theorem algebraic : Cert.algebraic_KernelStepBiasIdeal_ReferenceStepBiasIdeal := by
  intro m g m' g' _ hargs
  refine ⟨_, _, _, _, (θ_run _ _ _).mono (fun r h c => ?_) (Value.run m g),
    (θ_run _ _ _).mono (fun _ h => h) (Cert.ReferenceStepBiasIdeal.Value.run m' g')⟩
  obtain ⟨h0, h1, h2, h3, hk⟩ := h c
  obtain ⟨e0, e1, e2, e3⟩ := hargs c
  refine ⟨h0.trans ?_, h1.trans ?_, h2.trans ?_, h3.trans ?_, hk⟩
  · exact e1.symm
  · rw [e0, e1, e2, e3]; rfl
  · rw [e1, e2]; rfl
  · rw [e1, e3]; rfl

end Cert.StepBias

end
-- ==== Proof.Adam.lean ====
/-
  The step of the optimiser, element by element, and the choice between two halves of a gradient.
-/
module

public import proofs.«01_k».proof.Proof.Reads
public import Idealize.ShloMosaic.Lib.Affine

@[expose] public section

noncomputable section

namespace Cert.Adam

open Idealize.ShloMosaic

variable {s t : Shape}

/-- A constant everywhere. -/
abbrev all (s : Shape) (b : BitVec 32) : FVec Ideal s .f32 := broadcast s (Scalar.ofBits (F := Ideal) .f32 b)

/-- The first moment after the step, -/
def first (m g : FVec Ideal s .f32) : FVec Ideal s .f32 :=
  addf (mulf (all s 0x3F666666#32) m) (mulf (all s 0x3DCCCCCD#32) g)

/-- the second, -/
def second (v g : FVec Ideal s .f32) : FVec Ideal s .f32 :=
  addf (mulf (all s 0x3F7FBE77#32) v) (mulf (all s 0x3A83126F#32) (mulf g g))

/-- and the step itself. -/
def delta (w g m v : FVec Ideal s .f32) : FVec Ideal s .f32 :=
  mulf (all s 0xBA83126F#32) (addf (divf (divf (first m g) (all s 0x3F26BD02#32))
    (addf (sqrt (divf (second v g) (all s 0x3C231ACC#32))) (all s 0x322BCC77#32))) (mulf (all s 0x3C23D70A#32) w))

/-- Each reads its operands at the one element. -/
theorem first_at {m g : FVec Ideal s .f32} {m' g' : FVec Ideal t .f32} {x : s.Idx} {y : t.Idx}
    (hm : m x = m' y) (hg : g x = g' y) : first m g x = first m' g' y :=
  show first (fun _ : s.Idx => m x) (fun _ => g x) x = first (fun _ : t.Idx => m' y) (fun _ => g' y) y by rw [hm, hg]; rfl

theorem second_at {v g : FVec Ideal s .f32} {v' g' : FVec Ideal t .f32} {x : s.Idx} {y : t.Idx}
    (hv : v x = v' y) (hg : g x = g' y) : second v g x = second v' g' y :=
  show second (fun _ : s.Idx => v x) (fun _ => g x) x = second (fun _ : t.Idx => v' y) (fun _ => g' y) y by rw [hv, hg]; rfl

theorem delta_at {w g m v : FVec Ideal s .f32} {w' g' m' v' : FVec Ideal t .f32} {x : s.Idx} {y : t.Idx}
    (hw : w x = w' y) (hg : g x = g' y) (hm : m x = m' y) (hv : v x = v' y) : delta w g m v x = delta w' g' m' v' y :=
  show delta (fun _ : s.Idx => w x) (fun _ => g x) (fun _ => m x) (fun _ => v x) x
    = delta (fun _ : t.Idx => w' y) (fun _ => g' y) (fun _ => m' y) (fun _ => v' y) y by rw [hw, hg, hm, hv]; rfl

/-- Which half a core holds is compared by its number. -/
theorem pick_eq {α : Type} (a b : BitVec 32) (x y : α) : Scalar.select (Scalar.cmpi .eq a b) x y = if a = b then x else y :=
  if_congr IntOp.cmpi_eq rfl rfl

/-! A parameter lies as two halves of `R` rows of `w` elements, and a call takes `b` rows of a half at a time, `n` times. -/

section Halves

variable {n b w R : ℕ}

/-- The whole gradient of its halves: the one of the core's number is its own. -/
def grad (mine theirs : (⟨2, ![R, w]⟩ : Shape).Idx → EReal) (c : BitVec 32) : (⟨3, ![2, R, w]⟩ : Shape).Idx → EReal :=
  fun x => if BitVec.ofNat 32 (x 0).val = c then mine (ix2 (x 1) (x 2)) else theirs (ix2 (x 1) (x 2))

/-- Where a row and a column of a block lie in the parameter. -/
def place (hR : n * b = R) (h : Fin 2) (i : Fin n) (r : Fin b) (s : Fin w) : (⟨3, ![2, R, w]⟩ : Shape).Idx :=
  ix3 h ⟨i.val * b + r.val, hR ▸ calc
    i.val * b + r.val < i.val * b + b := Nat.add_lt_add_left r.isLt _
    _ = (i.val + 1) * b := (Nat.succ_mul _ _).symm
    _ ≤ n * b := Nat.mul_le_mul_right b i.isLt⟩ s

theorem place_val (hR : n * b = R) (h : Fin 2) (i : Fin n) (r : Fin b) (s : Fin w) (a : Fin 3) :
    (![h.val, i.val, 0] : Fin 3 → ℕ) a * (![1, b, w] : Fin 3 → ℕ) a + ((ix3 0 r s : (⟨3, ![1, b, w]⟩ : Shape).Idx) a).val
      = (place hR h i r s a).val := by
  match a with
  | 0 => show h.val * 1 + 0 = h.val; omega
  | 1 => rfl
  | 2 => show 0 * w + s.val = s.val; omega

/-- A block lies inside a half. -/
theorem inside (hR : n * b = R) (hn : n ≤ 256) (i : Fin n) (k : BitVec 32) (h : k = 0#32 ∨ k = BitVec.ofNat 32 i.val) (a : Fin 2) :
    ((![k.toNat, 0] : Fin 2 → ℕ) a + 1) * (![b, w] : Fin 2 → ℕ) a ≤ (![R, w] : Fin 2 → ℕ) a := by
  have h1 := i.isLt
  have hk : k.toNat < n := by
    rcases h with rfl | rfl
    · exact Nat.zero_lt_of_lt h1
    · rw [BitVec.toNat_ofNat, Nat.mod_eq_of_lt (by omega)]
      exact h1
  match a with
  | 0 => exact hR ▸ Nat.mul_le_mul_right b hk
  | 1 => show (0 + 1) * w ≤ w; omega

/-- The half's block at work is the one the point's number names. -/
theorem half_val (hR : n * b = R) (hn : n ≤ 256) (h : Fin 2) (i : Fin n) (k : BitVec 32) (hk : k = BitVec.ofNat 32 i.val) (r : Fin b) (s : Fin w)
    (a : Fin 2) : (![k.toNat, 0] : Fin 2 → ℕ) a * (![b, w] : Fin 2 → ℕ) a + ((ix2 r s : (⟨2, ![b, w]⟩ : Shape).Idx) a).val
      = ((ix2 (place hR h i r s 1) (place hR h i r s 2) : (⟨2, ![R, w]⟩ : Shape).Idx) a).val := by
  have h1 := i.isLt
  subst hk
  match a with
  | 0 =>
    show (BitVec.ofNat 32 i.val).toNat * b + r.val = i.val * b + r.val
    rw [BitVec.toNat_ofNat, Nat.mod_eq_of_lt (by omega)]
  | 1 => show 0 * w + s.val = s.val; omega

/-- One element has one index, -/
theorem only (i : (⟨1, ![1]⟩ : Shape).Idx) : i = ix1 0 := by
  idx_vars i
  exact congrArg ix1 (Subsingleton.elim _ _)

/-- and a block's first axis has one. -/
theorem ix_eq (y : (⟨3, ![1, b, w]⟩ : Shape).Idx) : y = ix3 0 (y 1) (y 2) := by
  funext a
  match a with
  | 0 => exact Subsingleton.elim (α := Fin 1) _ _
  | 1 => rfl
  | 2 => rfl

end Halves

end Cert.Adam

end
-- ==== Proof.StepPool.lean ====
/-
  The update of the pooling weight from the two halves of its gradient: what the call leaves is the reference's step.
-/
module

public import proofs.«01_k».proof.Defs
public import proofs.«01_k».proof.Proof.Adam
public import Idealize.ShloMosaic.Lib.Pipeline.Value
public import Idealize.ShloMosaic.Lib.Pipeline.ValueKit
public import proofs.«01_k».proof.Proof.Gen.KernelStepPool
public import proofs.«01_k».proof.Proof.Gen.KernelStepPoolIdeal.Frame
public import proofs.«01_k».proof.Proof.Gen.ReferenceStepPoolIdeal.Run

@[expose] public section

set_option maxRecDepth 16384

noncomputable section

namespace Cert.ReferenceStepPoolIdeal

open Idealize.ShloMosaic Gen

/-- The reference's choice between the halves. -/
abbrev together (a b : FVec Ideal S256x512 .f32) (k : IVec S1 32) : FVec Ideal S2x256x512 .f32 :=
  select (broadcastInDim S2x256x512 ![0, 1, 2] bcast_S2x1x1_S2x256x512_0_1_2
      (cmpi .eq (broadcastInDim S2x1x1 ![0] bcast_S2_S2x1x1_0 (iotaInDim S2 32 0))
        (broadcastInDim S2x1x1 ![] bcast_S_S2x1x1 (shapeCast _ k shapeCasts_S1_S_))))
    (broadcastInDim S2x256x512 ![0, 1, 2] bcast_S1x256x512_S2x256x512_0_1_2 (broadcastInDim S1x256x512 ![1, 2] bcast_S256x512_S1x256x512_1_2 a))
    (broadcastInDim S2x256x512 ![0, 1, 2] bcast_S1x256x512_S2x256x512_0_1_2 (broadcastInDim S1x256x512 ![1, 2] bcast_S256x512_S1x256x512_1_2 b))

end Cert.ReferenceStepPoolIdeal

namespace Cert.StepPool

open Cert.KernelStepPoolIdeal Cert.KernelStepPoolIdeal.Gen Cert.Exchange Cert.Adam

open Idealize.ShloMosaic Idealize.ShloMosaic.TcCoe
open Idealize.SL Idealize.SL.Sem
open Idealize.ShloMosaic.Pipeline (Dat Cfg Window)

variable {F : FTy → Type} [FloatOps F]

/-- The core's number, as the call reads it. -/
def core (pf : pre0.Contents (Elt F)) : BitVec 32 := pf.at 0 (Rect.unit (s := S1) ![0] S1.size inb_S1_S1_0) numel1_S1

theorem transform_1 (pf : pre0.Contents (Elt F)) (i : grid0.Coords) : cc0_transform_1 inb_S1_S1_0 numel1_S1 pf i
    = ![(if BitVec.ofNat 32 (i 0).val = core pf then BitVec.ofNat 32 (i 1).val else 0#32).toNat, 0] := by
  show ![(Scalar.select (Scalar.cmpi .eq (BitVec.ofNat 32 (i 0).val) (core pf)) (BitVec.ofNat 32 (i 1).val) 0#32).toNat, 0] = _
  rw [pick_eq]

theorem transform_2 (pf : pre0.Contents (Elt F)) (i : grid0.Coords) : cc0_transform_2 inb_S1_S1_0 numel1_S1 pf i
    = ![(if BitVec.ofNat 32 (i 0).val = core pf then 0#32 else BitVec.ofNat 32 (i 1).val).toNat, 0] := by
  show ![(Scalar.select (Scalar.cmpi .eq (BitVec.ofNat 32 (i 0).val) (core pf)) 0#32 (BitVec.ofNat 32 (i 1).val)).toNat, 0] = _
  rw [pick_eq]

/-- So every block lies inside, whatever the core's number. -/
theorem ok (m : (ℓ : Loc nD τ sig) → Buf (Elt F) ℓ) : Gen.Ok m := by
  refine ⟨fun i => ⟨fun a => ?_, .inl rfl⟩, fun i => ⟨fun a => ?_, .inl rfl⟩⟩
  · rw [transform_1]
    exact inside (b := 256) (R := 256) (w := 512) rfl (by decide) (i 1) _ (by split <;> simp) a
  · rw [transform_2]
    exact inside (b := 256) (R := 256) (w := 512) rfl (by decide) (i 1) _ (by split <;> simp) a

theorem frame_ideal : Cert.quiescent_KernelStepPoolIdeal := fun m g _ => Gen.frame m g (ok m)

/-- The two printed programs have one body table. -/
theorem bodies_eq : Cert.KernelStepPool.defs₀ (F := F) = Cert.KernelStepPoolIdeal.defs₀ (F := F) :=
  congrArg (Defs.onTc (τ := Cert.KernelStepPool.τ)) (funext fun b => funext fun a => match b, a with
    | ⟨0, _⟩, (t, s) => rfl
    | ⟨_ + 1, h⟩, _ => absurd h (Nat.not_lt.2 (Nat.le_add_left _ _)))

theorem defs_eq : Cert.KernelStepPool.defs (F := F) = Cert.KernelStepPoolIdeal.defs (F := F) := by
  unfold Cert.KernelStepPool.defs Cert.KernelStepPoolIdeal.defs
  rw [bodies_eq]
  rfl

theorem frame_kernel : Cert.quiescent_KernelStepPool := fun m g _ => by
  rw [defs_eq]
  exact Gen.frame (F := Bits) m g (ok m)

theorem frame_ref : Cert.quiescent_ReferenceStepPoolIdeal := fun m g _ =>
  (θ_run _ _ _).mono (fun r h => ⟨fun c => (h c).2.2.2.2, sem_eq_zero_of_no_sems (by decide) r.2⟩)
    (Cert.ReferenceStepPoolIdeal.Value.run m g)

variable (m : (ℓ : Loc nD τ sig) → Buf (Elt Ideal) ℓ)

/-- Where a point's row and column lie in the arrays. -/
abbrev spot (t : Fin grid0.N) (r : Fin 256) (s : Fin 512) : S2x256x512.Idx :=
  place (n := 1) rfl (grid0.coords t 0) (grid0.coords t 1) r s

theorem index : ∀ t : Fin grid0.N, cc0_transform_0 (grid0.coords t) = ![(grid0.coords t 0).val, (grid0.coords t 1).val, 0] := by
  decide +kernel

theorem spot_val (t : Fin grid0.N) (r : Fin 256) (s : Fin 512) (a : Fin 3) :
    cc0_transform_0 (grid0.coords t) a * S1x256x512.size a + ((ix3 0 r s : S1x256x512.Idx) a).val = (spot t r s a).val := by
  rw [index]
  exact place_val (n := 1) rfl (grid0.coords t 0) (grid0.coords t 1) r s a

/-- The pipeline at the launch memory. -/
abbrev C := cfgM m (ok m)

variable (c : Dev nD) (t : Fin (C m).N) (r : Fin 256) (s : Fin 512)

theorem emb_0 :
    (((C m).win 0).blk t).view.emb (ix3 0 r s : S1x256x512.Idx) = spot t r s :=
  funext fun a => Fin.ext ((Window.rect_emb_val ((C m).win 0) t (ix3 0 r s : S1x256x512.Idx) a).trans (spot_val t r s a))
theorem emb_3 :
    (((C m).win 3).blk t).view.emb (ix3 0 r s : S1x256x512.Idx) = spot t r s :=
  funext fun a => Fin.ext ((Window.rect_emb_val ((C m).win 3) t (ix3 0 r s : S1x256x512.Idx) a).trans (spot_val t r s a))
theorem emb_4 :
    (((C m).win 4).blk t).view.emb (ix3 0 r s : S1x256x512.Idx) = spot t r s :=
  funext fun a => Fin.ext ((Window.rect_emb_val ((C m).win 4) t (ix3 0 r s : S1x256x512.Idx) a).trans (spot_val t r s a))
theorem emb_5 :
    (((C m).win 5).blk t).view.emb (ix3 0 r s : S1x256x512.Idx) = spot t r s :=
  funext fun a => Fin.ext ((Window.rect_emb_val ((C m).win 5) t (ix3 0 r s : S1x256x512.Idx) a).trans (spot_val t r s a))
theorem emb_6 :
    (((C m).win 6).blk t).view.emb (ix3 0 r s : S1x256x512.Idx) = spot t r s :=
  funext fun a => Fin.ext ((Window.rect_emb_val ((C m).win 6) t (ix3 0 r s : S1x256x512.Idx) a).trans (spot_val t r s a))
theorem emb_7 :
    (((C m).win 7).blk t).view.emb (ix3 0 r s : S1x256x512.Idx) = spot t r s :=
  funext fun a => Fin.ext ((Window.rect_emb_val ((C m).win 7) t (ix3 0 r s : S1x256x512.Idx) a).trans (spot_val t r s a))
theorem emb_8 :
    (((C m).win 8).blk t).view.emb (ix3 0 r s : S1x256x512.Idx) = spot t r s :=
  funext fun a => Fin.ext ((Window.rect_emb_val ((C m).win 8) t (ix3 0 r s : S1x256x512.Idx) a).trans (spot_val t r s a))

/-- Every block is some point's. -/
theorem points : ∀ β : (a : Fin 3) → Fin (((C m).win 5).nblk a), ∃ t : Fin grid0.N, ∀ a, cc0_transform_5 (grid0.coords t) a = (β a).val :=
  (by decide +kernel : ∀ β : (a : Fin 3) → Fin ((S2x256x512.size a + S1x256x512.size a - 1) / S1x256x512.size a), ∃ t : Fin grid0.N, ∀ a, cc0_transform_5 (grid0.coords t) a = (β a).val)

theorem covers_5 : ((C m).win 5).Covers :=
  ⟨(by decide : ∀ a : Fin 3, 0 < S1x256x512.size a), fun β => (points m β).imp fun t h => ⟨flush0_5 _ t, fun a => ⟨h a, .inl rfl⟩⟩⟩
theorem covers_6 : ((C m).win 6).Covers :=
  ⟨(by decide : ∀ a : Fin 3, 0 < S1x256x512.size a), fun β => (points m β).imp fun t h => ⟨flush0_6 _ t, fun a => ⟨h a, .inl rfl⟩⟩⟩
theorem covers_7 : ((C m).win 7).Covers :=
  ⟨(by decide : ∀ a : Fin 3, 0 < S1x256x512.size a), fun β => (points m β).imp fun t h => ⟨flush0_7 _ t, fun a => ⟨h a, .inl rfl⟩⟩⟩
theorem covers_8 : ((C m).win 8).Covers :=
  ⟨(by decide : ∀ a : Fin 3, 0 < S1x256x512.size a), fun β => (points m β).imp fun t h => ⟨flush0_8 _ t, fun a => ⟨h a, .inl rfl⟩⟩⟩

/-- The arguments' blocks at a point. -/
def blkW : Vec Ideal S1x256x512 .f32 := iblk m (ok m) c 0 t
def blkMine : Vec Ideal S256x512 .f32 := iblk m (ok m) c 1 t
def blkTheirs : Vec Ideal S256x512 .f32 := iblk m (ok m) c 2 t
def blkM : Vec Ideal S1x256x512 .f32 := iblk m (ok m) c 3 t
def blkV : Vec Ideal S1x256x512 .f32 := iblk m (ok m) c 4 t

theorem blkW_at :
    blkW m c t (ix3 0 r s) = m ((c : Thread nD τ).loc main_arg0) (spot t r s) :=
  congrArg (m ((c : Thread nD τ).loc main_arg0)) (emb_0 m t r s)
theorem blkM_at :
    blkM m c t (ix3 0 r s) = m ((c : Thread nD τ).loc main_arg3) (spot t r s) :=
  congrArg (m ((c : Thread nD τ).loc main_arg3)) (emb_3 m t r s)
theorem blkV_at :
    blkV m c t (ix3 0 r s) = m ((c : Thread nD τ).loc main_arg4) (spot t r s) :=
  congrArg (m ((c : Thread nD τ).loc main_arg4)) (emb_4 m t r s)

/-- The gradient's half at a point. -/
abbrev half : Vec Ideal S256x512 .f32 :=
  k0_pay4 (grid0.coords t) (core (tbl m)) (blkMine m c t) (blkTheirs m c t)

theorem half_at :
    half m c t (ix2 r s)
      = grad (m ((c : Thread nD τ).loc main_arg1)) (m ((c : Thread nD τ).loc main_arg2)) (core (tbl m)) (spot t r s) := by
  show (Scalar.select (Scalar.cmpi .eq (BitVec.ofNat 32 (grid0.coords t 0).val) (core (tbl m))) (blkMine m c t) (blkTheirs m c t)) (ix2 r s)
    = if BitVec.ofNat 32 (grid0.coords t 0).val = core (tbl m) then _ else _
  rw [pick_eq]
  by_cases h : BitVec.ofNat 32 (grid0.coords t 0).val = core (tbl m)
  · rw [if_pos h, if_pos h]
    exact congrArg (m ((c : Thread nD τ).loc main_arg1)) (funext fun a => Fin.ext
      ((Window.rect_emb_val ((C m).win 1) t (ix2 r s : S256x512.Idx) a).trans
        ((congrArg (fun f : Fin 2 → ℕ => f a * S256x512.size a + ((ix2 r s : S256x512.Idx) a).val) (transform_1 (tbl m) (grid0.coords t))).trans
          (half_val (n := 1) rfl (by decide) (grid0.coords t 0) (grid0.coords t 1) _ (if_pos h) r s a))))
  · rw [if_neg h, if_neg h]
    exact congrArg (m ((c : Thread nD τ).loc main_arg2)) (funext fun a => Fin.ext
      ((Window.rect_emb_val ((C m).win 2) t (ix2 r s : S256x512.Idx) a).trans
        ((congrArg (fun f : Fin 2 → ℕ => f a * S256x512.size a + ((ix2 r s : S256x512.Idx) a).val) (transform_2 (tbl m) (grid0.coords t))).trans
          (half_val (n := 1) rfl (by decide) (grid0.coords t 0) (grid0.coords t 1) _ (if_neg h) r s a))))

/-- A block's rows, as the body takes them, and as it leaves them. -/
abbrev rows (x : Vec Ideal S1x256x512 .f32) : Vec Ideal S256x512 .f32 := shapeCast S256x512 x shapeCasts_S1x256x512_S256x512
abbrev block (x : Vec Ideal S256x512 .f32) : Vec Ideal S1x256x512 .f32 := shapeCast S1x256x512 x shapeCasts_S256x512_S1x256x512

theorem rows_at (x : Vec Ideal S1x256x512 .f32) (r : Fin 256) (s : Fin 512) : rows x (ix2 r s) = x (ix3 0 r s) := by
  pointwise

theorem block_at (x : Vec Ideal S256x512 .f32) (r : Fin 256) (s : Fin 512) : block x (ix3 0 r s) = x (ix2 r s) := by
  pointwise

/-- What the body leaves in the four results' blocks, of the five arguments' blocks and the core's number. -/
def left (i : grid0.Coords) (k : BitVec 32) (w : Vec Ideal S1x256x512 .f32) (a b : Vec Ideal S256x512 .f32) (x v : Vec Ideal S1x256x512 .f32) :
    Vec Ideal S1x256x512 .f32 × Vec Ideal S1x256x512 .f32 × Vec Ideal S1x256x512 .f32 × Vec Ideal S1x256x512 .f32 :=
  (block (k0_pay4 i k a b), block (delta (rows w) (k0_pay4 i k a b) (rows x) (rows v)), block (first (rows x) (k0_pay4 i k a b)),
    block (second (rows v) (k0_pay4 i k a b)))

set_option maxHeartbeats 1000000 in
theorem outs_eq : outsAt0 m (ok m) c t
    = left (grid0.coords t) (core (tbl m)) (blkW m c t) (blkMine m c t) (blkTheirs m c t) (blkM m c t) (blkV m c t) := by
  have e : left (grid0.coords t) (core (tbl m))
      ((ms0_0 m (ok m) t).view.read (Elt Ideal) ((hs0_0 m (ok m) t).unread (blkW m c t)))
      ((ms0_1 m (ok m) t).view.read (Elt Ideal) ((hs0_1 m (ok m) t).unread (blkMine m c t)))
      ((ms0_2 m (ok m) t).view.read (Elt Ideal) ((hs0_2 m (ok m) t).unread (blkTheirs m c t)))
      ((ms0_3 m (ok m) t).view.read (Elt Ideal) ((hs0_3 m (ok m) t).unread (blkM m c t)))
      ((ms0_4 m (ok m) t).view.read (Elt Ideal) ((hs0_4 m (ok m) t).unread (blkV m c t)))
      = left (grid0.coords t) (core (tbl m)) (blkW m c t) (blkMine m c t) (blkTheirs m c t) (blkM m c t) (blkV m c t) := by
    rw [Memref.IsWhole.read_unread, Memref.IsWhole.read_unread, Memref.IsWhole.read_unread, Memref.IsWhole.read_unread, Memref.IsWhole.read_unread]
  unfold outsAt0
  refine Prod.ext ?_ <| Prod.ext ?_ <| Prod.ext ?_ ?_
  · frame_out
    exact congrArg (·.1) e
  · frame_out
    exact congrArg (·.2.1) e
  · frame_out
    exact congrArg (·.2.2.1) e
  · frame_out
    exact congrArg (·.2.2.2) e

/-- The whole gradient, of the launch memory. -/
def whole : FVec Ideal S2x256x512 .f32 :=
  grad (m ((c : Thread nD τ).loc main_arg1)) (m ((c : Thread nD τ).loc main_arg2)) (core (tbl m))

/-- The halves put together, -/
theorem grad_end : (dats m (ok m) 0 c).arrAt 5 (C m).N
    = (whole m c) := by
  refine (dats m (ok m) 0 c).arrAt_eq_of_covers 5 _ (covers_5 m) fun t hf (y : S1x256x512.Idx) => ?_
  rw [ix_eq (b := 256) (w := 512) y]
  refine (congrFun ((after0_5 m (ok m) c t).trans (congrArg (·.1) (outs_eq m c t))) _).trans ((block_at (half m c t) _ _).trans ?_)
  exact (half_at m c t _ _).trans (congrArg ((whole m c)) (emb_5 m t _ _)).symm

/-- the step, -/
theorem delta_end : (dats m (ok m) 0 c).arrAt 6 (C m).N
    = delta (m ((c : Thread nD τ).loc main_arg0)) (whole m c) (m ((c : Thread nD τ).loc main_arg3)) (m ((c : Thread nD τ).loc main_arg4)) := by
  refine (dats m (ok m) 0 c).arrAt_eq_of_covers 6 _ (covers_6 m) fun t hf (y : S1x256x512.Idx) => ?_
  rw [ix_eq (b := 256) (w := 512) y]
  refine (congrFun ((after0_6 m (ok m) c t).trans (congrArg (·.2.1) (outs_eq m c t))) _).trans ((block_at (delta (rows (blkW m c t)) (half m c t) (rows (blkM m c t)) (rows (blkV m c t))) _ _).trans ?_)
  exact (delta_at ((rows_at _ _ _).trans (blkW_at m c t _ _)) (half_at m c t _ _) ((rows_at _ _ _).trans (blkM_at m c t _ _)) ((rows_at _ _ _).trans (blkV_at m c t _ _))).trans (congrArg (delta (m ((c : Thread nD τ).loc main_arg0)) (whole m c) (m ((c : Thread nD τ).loc main_arg3)) (m ((c : Thread nD τ).loc main_arg4))) (emb_6 m t _ _)).symm

/-- and the two moments. -/
theorem first_end : (dats m (ok m) 0 c).arrAt 7 (C m).N
    = first (m ((c : Thread nD τ).loc main_arg3)) (whole m c) := by
  refine (dats m (ok m) 0 c).arrAt_eq_of_covers 7 _ (covers_7 m) fun t hf (y : S1x256x512.Idx) => ?_
  rw [ix_eq (b := 256) (w := 512) y]
  refine (congrFun ((after0_7 m (ok m) c t).trans (congrArg (·.2.2.1) (outs_eq m c t))) _).trans ((block_at (first (rows (blkM m c t)) (half m c t)) _ _).trans ?_)
  exact (first_at ((rows_at _ _ _).trans (blkM_at m c t _ _)) (half_at m c t _ _)).trans (congrArg (first (m ((c : Thread nD τ).loc main_arg3)) (whole m c)) (emb_7 m t _ _)).symm

theorem second_end : (dats m (ok m) 0 c).arrAt 8 (C m).N
    = second (m ((c : Thread nD τ).loc main_arg4)) (whole m c) := by
  refine (dats m (ok m) 0 c).arrAt_eq_of_covers 8 _ (covers_8 m) fun t hf (y : S1x256x512.Idx) => ?_
  rw [ix_eq (b := 256) (w := 512) y]
  refine (congrFun ((after0_8 m (ok m) c t).trans (congrArg (·.2.2.2) (outs_eq m c t))) _).trans ((block_at (second (rows (blkV m c t)) (half m c t)) _ _).trans ?_)
  exact (second_at ((rows_at _ _ _).trans (blkV_at m c t _ _)) (half_at m c t _ _)).trans (congrArg (second (m ((c : Thread nD τ).loc main_arg4)) (whole m c)) (emb_8 m t _ _)).symm

/-- The core's number is the last argument's one element. -/
theorem core_eq (c : Dev nD) : core (tbl m) = (m ((c : Thread nD τ).loc main_arg5) : S1.Idx → BitVec 32) (ix1 0) := by
  obtain rfl : c = 0 := Subsingleton.elim _ _
  exact congrArg (m (((0 : Dev nD) : Thread nD τ).loc main_arg5)) (only _)

/-- The gradient as the reference puts it together. -/
theorem whole_eq (c : Dev nD) (a b : FVec Ideal S256x512 .f32) (k : IVec S1 32) (ha : a = m ((c : Thread nD τ).loc main_arg1))
    (hb : b = m ((c : Thread nD τ).loc main_arg2)) (hk : k = m ((c : Thread nD τ).loc main_arg5)) :
    whole m c = Cert.ReferenceStepPoolIdeal.together a b k := by
  subst ha hb hk
  funext x
  rw [whole, core_eq m c, grad, ← pick_eq]
  pointwise
  rfl

theorem algebraic : Cert.algebraic_KernelStepPoolIdeal_ReferenceStepPoolIdeal := by
  intro m g m' g' _ hargs
  refine ⟨_, _, _, _, (θ_run _ _ _).mono (fun r h c => ?_) (θ_run_and (Gen.run_main m g (ok m)) (Gen.unchanged m g (ok m))),
    (θ_run _ _ _).mono (fun _ h => h) (Cert.ReferenceStepPoolIdeal.Value.run m' g')⟩
  obtain ⟨e0, e1, e2, e3, e4, e5⟩ := hargs c
  have e := whole_eq m c _ _ _ e1 e2 e5
  refine ⟨((h.1 c).1 5).trans ((grad_end m c).trans e), ((h.1 c).1 6).trans ((delta_end m c).trans ?_),
    ((h.1 c).1 7).trans ((first_end m c).trans ?_), ((h.1 c).1 8).trans ((second_end m c).trans ?_), h.2 c⟩
  · rw [e, ← e0, ← e3, ← e4]; rfl
  · rw [e, ← e3]; rfl
  · rw [e, ← e4]; rfl

end Cert.StepPool

end
-- ==== Proof.StepGate.lean ====
/-
  The update of the weight of a gate from the two halves of its gradient: what the call leaves is the reference's step.
-/
module

public import proofs.«01_k».proof.Defs
public import proofs.«01_k».proof.Proof.Adam
public import Idealize.ShloMosaic.Lib.Pipeline.Value
public import Idealize.ShloMosaic.Lib.Pipeline.ValueKit
public import proofs.«01_k».proof.Proof.Gen.KernelStepGate
public import proofs.«01_k».proof.Proof.Gen.KernelStepGateIdeal.Frame
public import proofs.«01_k».proof.Proof.Gen.ReferenceStepGateIdeal.Run

@[expose] public section

set_option maxRecDepth 16384

noncomputable section

namespace Cert.ReferenceStepGateIdeal

open Idealize.ShloMosaic Gen

/-- The reference's choice between the halves. -/
abbrev together (a b : FVec Ideal S256x256 .f32) (k : IVec S1 32) : FVec Ideal S2x256x256 .f32 :=
  select (broadcastInDim S2x256x256 ![0, 1, 2] bcast_S2x1x1_S2x256x256_0_1_2
      (cmpi .eq (broadcastInDim S2x1x1 ![0] bcast_S2_S2x1x1_0 (iotaInDim S2 32 0))
        (broadcastInDim S2x1x1 ![] bcast_S_S2x1x1 (shapeCast _ k shapeCasts_S1_S_))))
    (broadcastInDim S2x256x256 ![0, 1, 2] bcast_S1x256x256_S2x256x256_0_1_2 (broadcastInDim S1x256x256 ![1, 2] bcast_S256x256_S1x256x256_1_2 a))
    (broadcastInDim S2x256x256 ![0, 1, 2] bcast_S1x256x256_S2x256x256_0_1_2 (broadcastInDim S1x256x256 ![1, 2] bcast_S256x256_S1x256x256_1_2 b))

end Cert.ReferenceStepGateIdeal

namespace Cert.StepGate

open Cert.KernelStepGateIdeal Cert.KernelStepGateIdeal.Gen Cert.Exchange Cert.Adam

open Idealize.ShloMosaic Idealize.ShloMosaic.TcCoe
open Idealize.SL Idealize.SL.Sem
open Idealize.ShloMosaic.Pipeline (Dat Cfg Window)

variable {F : FTy → Type} [FloatOps F]

/-- The core's number, as the call reads it. -/
def core (pf : pre0.Contents (Elt F)) : BitVec 32 := pf.at 0 (Rect.unit (s := S1) ![0] S1.size inb_S1_S1_0) numel1_S1

theorem transform_1 (pf : pre0.Contents (Elt F)) (i : grid0.Coords) : cc0_transform_1 inb_S1_S1_0 numel1_S1 pf i
    = ![(if BitVec.ofNat 32 (i 0).val = core pf then BitVec.ofNat 32 (i 1).val else 0#32).toNat, 0] := by
  show ![(Scalar.select (Scalar.cmpi .eq (BitVec.ofNat 32 (i 0).val) (core pf)) (BitVec.ofNat 32 (i 1).val) 0#32).toNat, 0] = _
  rw [pick_eq]

theorem transform_2 (pf : pre0.Contents (Elt F)) (i : grid0.Coords) : cc0_transform_2 inb_S1_S1_0 numel1_S1 pf i
    = ![(if BitVec.ofNat 32 (i 0).val = core pf then 0#32 else BitVec.ofNat 32 (i 1).val).toNat, 0] := by
  show ![(Scalar.select (Scalar.cmpi .eq (BitVec.ofNat 32 (i 0).val) (core pf)) 0#32 (BitVec.ofNat 32 (i 1).val)).toNat, 0] = _
  rw [pick_eq]

/-- So every block lies inside, whatever the core's number. -/
theorem ok (m : (ℓ : Loc nD τ sig) → Buf (Elt F) ℓ) : Gen.Ok m := by
  refine ⟨fun i => ⟨fun a => ?_, .inl rfl⟩, fun i => ⟨fun a => ?_, .inl rfl⟩⟩
  · rw [transform_1]
    exact inside (b := 256) (R := 256) (w := 256) rfl (by decide) (i 1) _ (by split <;> simp) a
  · rw [transform_2]
    exact inside (b := 256) (R := 256) (w := 256) rfl (by decide) (i 1) _ (by split <;> simp) a

theorem frame_ideal : Cert.quiescent_KernelStepGateIdeal := fun m g _ => Gen.frame m g (ok m)

/-- The two printed programs have one body table. -/
theorem bodies_eq : Cert.KernelStepGate.defs₀ (F := F) = Cert.KernelStepGateIdeal.defs₀ (F := F) :=
  congrArg (Defs.onTc (τ := Cert.KernelStepGate.τ)) (funext fun b => funext fun a => match b, a with
    | ⟨0, _⟩, (t, s) => rfl
    | ⟨_ + 1, h⟩, _ => absurd h (Nat.not_lt.2 (Nat.le_add_left _ _)))

theorem defs_eq : Cert.KernelStepGate.defs (F := F) = Cert.KernelStepGateIdeal.defs (F := F) := by
  unfold Cert.KernelStepGate.defs Cert.KernelStepGateIdeal.defs
  rw [bodies_eq]
  rfl

theorem frame_kernel : Cert.quiescent_KernelStepGate := fun m g _ => by
  rw [defs_eq]
  exact Gen.frame (F := Bits) m g (ok m)

theorem frame_ref : Cert.quiescent_ReferenceStepGateIdeal := fun m g _ =>
  (θ_run _ _ _).mono (fun r h => ⟨fun c => (h c).2.2.2.2, sem_eq_zero_of_no_sems (by decide) r.2⟩)
    (Cert.ReferenceStepGateIdeal.Value.run m g)

variable (m : (ℓ : Loc nD τ sig) → Buf (Elt Ideal) ℓ)

/-- Where a point's row and column lie in the arrays. -/
abbrev spot (t : Fin grid0.N) (r : Fin 256) (s : Fin 256) : S2x256x256.Idx :=
  place (n := 1) rfl (grid0.coords t 0) (grid0.coords t 1) r s

theorem index : ∀ t : Fin grid0.N, cc0_transform_0 (grid0.coords t) = ![(grid0.coords t 0).val, (grid0.coords t 1).val, 0] := by
  decide +kernel

theorem spot_val (t : Fin grid0.N) (r : Fin 256) (s : Fin 256) (a : Fin 3) :
    cc0_transform_0 (grid0.coords t) a * S1x256x256.size a + ((ix3 0 r s : S1x256x256.Idx) a).val = (spot t r s a).val := by
  rw [index]
  exact place_val (n := 1) rfl (grid0.coords t 0) (grid0.coords t 1) r s a

/-- The pipeline at the launch memory. -/
abbrev C := cfgM m (ok m)

variable (c : Dev nD) (t : Fin (C m).N) (r : Fin 256) (s : Fin 256)

theorem emb_0 :
    (((C m).win 0).blk t).view.emb (ix3 0 r s : S1x256x256.Idx) = spot t r s :=
  funext fun a => Fin.ext ((Window.rect_emb_val ((C m).win 0) t (ix3 0 r s : S1x256x256.Idx) a).trans (spot_val t r s a))
theorem emb_3 :
    (((C m).win 3).blk t).view.emb (ix3 0 r s : S1x256x256.Idx) = spot t r s :=
  funext fun a => Fin.ext ((Window.rect_emb_val ((C m).win 3) t (ix3 0 r s : S1x256x256.Idx) a).trans (spot_val t r s a))
theorem emb_4 :
    (((C m).win 4).blk t).view.emb (ix3 0 r s : S1x256x256.Idx) = spot t r s :=
  funext fun a => Fin.ext ((Window.rect_emb_val ((C m).win 4) t (ix3 0 r s : S1x256x256.Idx) a).trans (spot_val t r s a))
theorem emb_5 :
    (((C m).win 5).blk t).view.emb (ix3 0 r s : S1x256x256.Idx) = spot t r s :=
  funext fun a => Fin.ext ((Window.rect_emb_val ((C m).win 5) t (ix3 0 r s : S1x256x256.Idx) a).trans (spot_val t r s a))
theorem emb_6 :
    (((C m).win 6).blk t).view.emb (ix3 0 r s : S1x256x256.Idx) = spot t r s :=
  funext fun a => Fin.ext ((Window.rect_emb_val ((C m).win 6) t (ix3 0 r s : S1x256x256.Idx) a).trans (spot_val t r s a))
theorem emb_7 :
    (((C m).win 7).blk t).view.emb (ix3 0 r s : S1x256x256.Idx) = spot t r s :=
  funext fun a => Fin.ext ((Window.rect_emb_val ((C m).win 7) t (ix3 0 r s : S1x256x256.Idx) a).trans (spot_val t r s a))
theorem emb_8 :
    (((C m).win 8).blk t).view.emb (ix3 0 r s : S1x256x256.Idx) = spot t r s :=
  funext fun a => Fin.ext ((Window.rect_emb_val ((C m).win 8) t (ix3 0 r s : S1x256x256.Idx) a).trans (spot_val t r s a))

/-- Every block is some point's. -/
theorem points : ∀ β : (a : Fin 3) → Fin (((C m).win 5).nblk a), ∃ t : Fin grid0.N, ∀ a, cc0_transform_5 (grid0.coords t) a = (β a).val :=
  (by decide +kernel : ∀ β : (a : Fin 3) → Fin ((S2x256x256.size a + S1x256x256.size a - 1) / S1x256x256.size a), ∃ t : Fin grid0.N, ∀ a, cc0_transform_5 (grid0.coords t) a = (β a).val)

theorem covers_5 : ((C m).win 5).Covers :=
  ⟨(by decide : ∀ a : Fin 3, 0 < S1x256x256.size a), fun β => (points m β).imp fun t h => ⟨flush0_5 _ t, fun a => ⟨h a, .inl rfl⟩⟩⟩
theorem covers_6 : ((C m).win 6).Covers :=
  ⟨(by decide : ∀ a : Fin 3, 0 < S1x256x256.size a), fun β => (points m β).imp fun t h => ⟨flush0_6 _ t, fun a => ⟨h a, .inl rfl⟩⟩⟩
theorem covers_7 : ((C m).win 7).Covers :=
  ⟨(by decide : ∀ a : Fin 3, 0 < S1x256x256.size a), fun β => (points m β).imp fun t h => ⟨flush0_7 _ t, fun a => ⟨h a, .inl rfl⟩⟩⟩
theorem covers_8 : ((C m).win 8).Covers :=
  ⟨(by decide : ∀ a : Fin 3, 0 < S1x256x256.size a), fun β => (points m β).imp fun t h => ⟨flush0_8 _ t, fun a => ⟨h a, .inl rfl⟩⟩⟩

/-- The arguments' blocks at a point. -/
def blkW : Vec Ideal S1x256x256 .f32 := iblk m (ok m) c 0 t
def blkMine : Vec Ideal S256x256 .f32 := iblk m (ok m) c 1 t
def blkTheirs : Vec Ideal S256x256 .f32 := iblk m (ok m) c 2 t
def blkM : Vec Ideal S1x256x256 .f32 := iblk m (ok m) c 3 t
def blkV : Vec Ideal S1x256x256 .f32 := iblk m (ok m) c 4 t

theorem blkW_at :
    blkW m c t (ix3 0 r s) = m ((c : Thread nD τ).loc main_arg0) (spot t r s) :=
  congrArg (m ((c : Thread nD τ).loc main_arg0)) (emb_0 m t r s)
theorem blkM_at :
    blkM m c t (ix3 0 r s) = m ((c : Thread nD τ).loc main_arg3) (spot t r s) :=
  congrArg (m ((c : Thread nD τ).loc main_arg3)) (emb_3 m t r s)
theorem blkV_at :
    blkV m c t (ix3 0 r s) = m ((c : Thread nD τ).loc main_arg4) (spot t r s) :=
  congrArg (m ((c : Thread nD τ).loc main_arg4)) (emb_4 m t r s)

/-- The gradient's half at a point. -/
abbrev half : Vec Ideal S256x256 .f32 :=
  k0_pay4 (grid0.coords t) (core (tbl m)) (blkMine m c t) (blkTheirs m c t)

theorem half_at :
    half m c t (ix2 r s)
      = grad (m ((c : Thread nD τ).loc main_arg1)) (m ((c : Thread nD τ).loc main_arg2)) (core (tbl m)) (spot t r s) := by
  show (Scalar.select (Scalar.cmpi .eq (BitVec.ofNat 32 (grid0.coords t 0).val) (core (tbl m))) (blkMine m c t) (blkTheirs m c t)) (ix2 r s)
    = if BitVec.ofNat 32 (grid0.coords t 0).val = core (tbl m) then _ else _
  rw [pick_eq]
  by_cases h : BitVec.ofNat 32 (grid0.coords t 0).val = core (tbl m)
  · rw [if_pos h, if_pos h]
    exact congrArg (m ((c : Thread nD τ).loc main_arg1)) (funext fun a => Fin.ext
      ((Window.rect_emb_val ((C m).win 1) t (ix2 r s : S256x256.Idx) a).trans
        ((congrArg (fun f : Fin 2 → ℕ => f a * S256x256.size a + ((ix2 r s : S256x256.Idx) a).val) (transform_1 (tbl m) (grid0.coords t))).trans
          (half_val (n := 1) rfl (by decide) (grid0.coords t 0) (grid0.coords t 1) _ (if_pos h) r s a))))
  · rw [if_neg h, if_neg h]
    exact congrArg (m ((c : Thread nD τ).loc main_arg2)) (funext fun a => Fin.ext
      ((Window.rect_emb_val ((C m).win 2) t (ix2 r s : S256x256.Idx) a).trans
        ((congrArg (fun f : Fin 2 → ℕ => f a * S256x256.size a + ((ix2 r s : S256x256.Idx) a).val) (transform_2 (tbl m) (grid0.coords t))).trans
          (half_val (n := 1) rfl (by decide) (grid0.coords t 0) (grid0.coords t 1) _ (if_neg h) r s a))))

/-- A block's rows, as the body takes them, and as it leaves them. -/
abbrev rows (x : Vec Ideal S1x256x256 .f32) : Vec Ideal S256x256 .f32 := shapeCast S256x256 x shapeCasts_S1x256x256_S256x256
abbrev block (x : Vec Ideal S256x256 .f32) : Vec Ideal S1x256x256 .f32 := shapeCast S1x256x256 x shapeCasts_S256x256_S1x256x256

theorem rows_at (x : Vec Ideal S1x256x256 .f32) (r : Fin 256) (s : Fin 256) : rows x (ix2 r s) = x (ix3 0 r s) := by
  pointwise

theorem block_at (x : Vec Ideal S256x256 .f32) (r : Fin 256) (s : Fin 256) : block x (ix3 0 r s) = x (ix2 r s) := by
  pointwise

/-- What the body leaves in the four results' blocks, of the five arguments' blocks and the core's number. -/
def left (i : grid0.Coords) (k : BitVec 32) (w : Vec Ideal S1x256x256 .f32) (a b : Vec Ideal S256x256 .f32) (x v : Vec Ideal S1x256x256 .f32) :
    Vec Ideal S1x256x256 .f32 × Vec Ideal S1x256x256 .f32 × Vec Ideal S1x256x256 .f32 × Vec Ideal S1x256x256 .f32 :=
  (block (k0_pay4 i k a b), block (delta (rows w) (k0_pay4 i k a b) (rows x) (rows v)), block (first (rows x) (k0_pay4 i k a b)),
    block (second (rows v) (k0_pay4 i k a b)))

set_option maxHeartbeats 1000000 in
theorem outs_eq : outsAt0 m (ok m) c t
    = left (grid0.coords t) (core (tbl m)) (blkW m c t) (blkMine m c t) (blkTheirs m c t) (blkM m c t) (blkV m c t) := by
  have e : left (grid0.coords t) (core (tbl m))
      ((ms0_0 m (ok m) t).view.read (Elt Ideal) ((hs0_0 m (ok m) t).unread (blkW m c t)))
      ((ms0_1 m (ok m) t).view.read (Elt Ideal) ((hs0_1 m (ok m) t).unread (blkMine m c t)))
      ((ms0_2 m (ok m) t).view.read (Elt Ideal) ((hs0_2 m (ok m) t).unread (blkTheirs m c t)))
      ((ms0_3 m (ok m) t).view.read (Elt Ideal) ((hs0_3 m (ok m) t).unread (blkM m c t)))
      ((ms0_4 m (ok m) t).view.read (Elt Ideal) ((hs0_4 m (ok m) t).unread (blkV m c t)))
      = left (grid0.coords t) (core (tbl m)) (blkW m c t) (blkMine m c t) (blkTheirs m c t) (blkM m c t) (blkV m c t) := by
    rw [Memref.IsWhole.read_unread, Memref.IsWhole.read_unread, Memref.IsWhole.read_unread, Memref.IsWhole.read_unread, Memref.IsWhole.read_unread]
  unfold outsAt0
  refine Prod.ext ?_ <| Prod.ext ?_ <| Prod.ext ?_ ?_
  · frame_out
    exact congrArg (·.1) e
  · frame_out
    exact congrArg (·.2.1) e
  · frame_out
    exact congrArg (·.2.2.1) e
  · frame_out
    exact congrArg (·.2.2.2) e

/-- The whole gradient, of the launch memory. -/
def whole : FVec Ideal S2x256x256 .f32 :=
  grad (m ((c : Thread nD τ).loc main_arg1)) (m ((c : Thread nD τ).loc main_arg2)) (core (tbl m))

/-- The halves put together, -/
theorem grad_end : (dats m (ok m) 0 c).arrAt 5 (C m).N
    = (whole m c) := by
  refine (dats m (ok m) 0 c).arrAt_eq_of_covers 5 _ (covers_5 m) fun t hf (y : S1x256x256.Idx) => ?_
  rw [ix_eq (b := 256) (w := 256) y]
  refine (congrFun ((after0_5 m (ok m) c t).trans (congrArg (·.1) (outs_eq m c t))) _).trans ((block_at (half m c t) _ _).trans ?_)
  exact (half_at m c t _ _).trans (congrArg ((whole m c)) (emb_5 m t _ _)).symm

/-- the step, -/
theorem delta_end : (dats m (ok m) 0 c).arrAt 6 (C m).N
    = delta (m ((c : Thread nD τ).loc main_arg0)) (whole m c) (m ((c : Thread nD τ).loc main_arg3)) (m ((c : Thread nD τ).loc main_arg4)) := by
  refine (dats m (ok m) 0 c).arrAt_eq_of_covers 6 _ (covers_6 m) fun t hf (y : S1x256x256.Idx) => ?_
  rw [ix_eq (b := 256) (w := 256) y]
  refine (congrFun ((after0_6 m (ok m) c t).trans (congrArg (·.2.1) (outs_eq m c t))) _).trans ((block_at (delta (rows (blkW m c t)) (half m c t) (rows (blkM m c t)) (rows (blkV m c t))) _ _).trans ?_)
  exact (delta_at ((rows_at _ _ _).trans (blkW_at m c t _ _)) (half_at m c t _ _) ((rows_at _ _ _).trans (blkM_at m c t _ _)) ((rows_at _ _ _).trans (blkV_at m c t _ _))).trans (congrArg (delta (m ((c : Thread nD τ).loc main_arg0)) (whole m c) (m ((c : Thread nD τ).loc main_arg3)) (m ((c : Thread nD τ).loc main_arg4))) (emb_6 m t _ _)).symm

/-- and the two moments. -/
theorem first_end : (dats m (ok m) 0 c).arrAt 7 (C m).N
    = first (m ((c : Thread nD τ).loc main_arg3)) (whole m c) := by
  refine (dats m (ok m) 0 c).arrAt_eq_of_covers 7 _ (covers_7 m) fun t hf (y : S1x256x256.Idx) => ?_
  rw [ix_eq (b := 256) (w := 256) y]
  refine (congrFun ((after0_7 m (ok m) c t).trans (congrArg (·.2.2.1) (outs_eq m c t))) _).trans ((block_at (first (rows (blkM m c t)) (half m c t)) _ _).trans ?_)
  exact (first_at ((rows_at _ _ _).trans (blkM_at m c t _ _)) (half_at m c t _ _)).trans (congrArg (first (m ((c : Thread nD τ).loc main_arg3)) (whole m c)) (emb_7 m t _ _)).symm

theorem second_end : (dats m (ok m) 0 c).arrAt 8 (C m).N
    = second (m ((c : Thread nD τ).loc main_arg4)) (whole m c) := by
  refine (dats m (ok m) 0 c).arrAt_eq_of_covers 8 _ (covers_8 m) fun t hf (y : S1x256x256.Idx) => ?_
  rw [ix_eq (b := 256) (w := 256) y]
  refine (congrFun ((after0_8 m (ok m) c t).trans (congrArg (·.2.2.2) (outs_eq m c t))) _).trans ((block_at (second (rows (blkV m c t)) (half m c t)) _ _).trans ?_)
  exact (second_at ((rows_at _ _ _).trans (blkV_at m c t _ _)) (half_at m c t _ _)).trans (congrArg (second (m ((c : Thread nD τ).loc main_arg4)) (whole m c)) (emb_8 m t _ _)).symm

/-- The core's number is the last argument's one element. -/
theorem core_eq (c : Dev nD) : core (tbl m) = (m ((c : Thread nD τ).loc main_arg5) : S1.Idx → BitVec 32) (ix1 0) := by
  obtain rfl : c = 0 := Subsingleton.elim _ _
  exact congrArg (m (((0 : Dev nD) : Thread nD τ).loc main_arg5)) (only _)

/-- The gradient as the reference puts it together. -/
theorem whole_eq (c : Dev nD) (a b : FVec Ideal S256x256 .f32) (k : IVec S1 32) (ha : a = m ((c : Thread nD τ).loc main_arg1))
    (hb : b = m ((c : Thread nD τ).loc main_arg2)) (hk : k = m ((c : Thread nD τ).loc main_arg5)) :
    whole m c = Cert.ReferenceStepGateIdeal.together a b k := by
  subst ha hb hk
  funext x
  rw [whole, core_eq m c, grad, ← pick_eq]
  pointwise
  rfl

theorem algebraic : Cert.algebraic_KernelStepGateIdeal_ReferenceStepGateIdeal := by
  intro m g m' g' _ hargs
  refine ⟨_, _, _, _, (θ_run _ _ _).mono (fun r h c => ?_) (θ_run_and (Gen.run_main m g (ok m)) (Gen.unchanged m g (ok m))),
    (θ_run _ _ _).mono (fun _ h => h) (Cert.ReferenceStepGateIdeal.Value.run m' g')⟩
  obtain ⟨e0, e1, e2, e3, e4, e5⟩ := hargs c
  have e := whole_eq m c _ _ _ e1 e2 e5
  refine ⟨((h.1 c).1 5).trans ((grad_end m c).trans e), ((h.1 c).1 6).trans ((delta_end m c).trans ?_),
    ((h.1 c).1 7).trans ((first_end m c).trans ?_), ((h.1 c).1 8).trans ((second_end m c).trans ?_), h.2 c⟩
  · rw [e, ← e0, ← e3, ← e4]; rfl
  · rw [e, ← e3]; rfl
  · rw [e, ← e4]; rfl

end Cert.StepGate

end
-- ==== Proof.StepOut.lean ====
/-
  The update of the output projection's weight from the two halves of its gradient: what the call leaves is the reference's step.
-/
module

public import proofs.«01_k».proof.Defs
public import proofs.«01_k».proof.Proof.Adam
public import Idealize.ShloMosaic.Lib.Pipeline.Value
public import Idealize.ShloMosaic.Lib.Pipeline.ValueKit
public import proofs.«01_k».proof.Proof.Gen.KernelStepOut
public import proofs.«01_k».proof.Proof.Gen.KernelStepOutIdeal.Frame
public import proofs.«01_k».proof.Proof.Gen.ReferenceStepOutIdeal.Run

@[expose] public section

set_option maxRecDepth 16384

noncomputable section

namespace Cert.ReferenceStepOutIdeal

open Idealize.ShloMosaic Gen

/-- The reference's choice between the halves. -/
abbrev together (a b : FVec Ideal S256x2048 .f32) (k : IVec S1 32) : FVec Ideal S2x256x2048 .f32 :=
  select (broadcastInDim S2x256x2048 ![0, 1, 2] bcast_S2x1x1_S2x256x2048_0_1_2
      (cmpi .eq (broadcastInDim S2x1x1 ![0] bcast_S2_S2x1x1_0 (iotaInDim S2 32 0))
        (broadcastInDim S2x1x1 ![] bcast_S_S2x1x1 (shapeCast _ k shapeCasts_S1_S_))))
    (broadcastInDim S2x256x2048 ![0, 1, 2] bcast_S1x256x2048_S2x256x2048_0_1_2 (broadcastInDim S1x256x2048 ![1, 2] bcast_S256x2048_S1x256x2048_1_2 a))
    (broadcastInDim S2x256x2048 ![0, 1, 2] bcast_S1x256x2048_S2x256x2048_0_1_2 (broadcastInDim S1x256x2048 ![1, 2] bcast_S256x2048_S1x256x2048_1_2 b))

end Cert.ReferenceStepOutIdeal

namespace Cert.StepOut

open Cert.KernelStepOutIdeal Cert.KernelStepOutIdeal.Gen Cert.Exchange Cert.Adam

open Idealize.ShloMosaic Idealize.ShloMosaic.TcCoe
open Idealize.SL Idealize.SL.Sem
open Idealize.ShloMosaic.Pipeline (Dat Cfg Window)

variable {F : FTy → Type} [FloatOps F]

/-- The core's number, as the call reads it. -/
def core (pf : pre0.Contents (Elt F)) : BitVec 32 := pf.at 0 (Rect.unit (s := S1) ![0] S1.size inb_S1_S1_0) numel1_S1

theorem transform_1 (pf : pre0.Contents (Elt F)) (i : grid0.Coords) : cc0_transform_1 inb_S1_S1_0 numel1_S1 pf i
    = ![(if BitVec.ofNat 32 (i 0).val = core pf then BitVec.ofNat 32 (i 1).val else 0#32).toNat, 0] := by
  show ![(Scalar.select (Scalar.cmpi .eq (BitVec.ofNat 32 (i 0).val) (core pf)) (BitVec.ofNat 32 (i 1).val) 0#32).toNat, 0] = _
  rw [pick_eq]

theorem transform_2 (pf : pre0.Contents (Elt F)) (i : grid0.Coords) : cc0_transform_2 inb_S1_S1_0 numel1_S1 pf i
    = ![(if BitVec.ofNat 32 (i 0).val = core pf then 0#32 else BitVec.ofNat 32 (i 1).val).toNat, 0] := by
  show ![(Scalar.select (Scalar.cmpi .eq (BitVec.ofNat 32 (i 0).val) (core pf)) 0#32 (BitVec.ofNat 32 (i 1).val)).toNat, 0] = _
  rw [pick_eq]

/-- So every block lies inside, whatever the core's number. -/
theorem ok (m : (ℓ : Loc nD τ sig) → Buf (Elt F) ℓ) : Gen.Ok m := by
  refine ⟨fun i => ⟨fun a => ?_, .inl rfl⟩, fun i => ⟨fun a => ?_, .inl rfl⟩⟩
  · rw [transform_1]
    exact inside (b := 256) (R := 256) (w := 2048) rfl (by decide) (i 1) _ (by split <;> simp) a
  · rw [transform_2]
    exact inside (b := 256) (R := 256) (w := 2048) rfl (by decide) (i 1) _ (by split <;> simp) a

theorem frame_ideal : Cert.quiescent_KernelStepOutIdeal := fun m g _ => Gen.frame m g (ok m)

/-- The two printed programs have one body table. -/
theorem bodies_eq : Cert.KernelStepOut.defs₀ (F := F) = Cert.KernelStepOutIdeal.defs₀ (F := F) :=
  congrArg (Defs.onTc (τ := Cert.KernelStepOut.τ)) (funext fun b => funext fun a => match b, a with
    | ⟨0, _⟩, (t, s) => rfl
    | ⟨_ + 1, h⟩, _ => absurd h (Nat.not_lt.2 (Nat.le_add_left _ _)))

theorem defs_eq : Cert.KernelStepOut.defs (F := F) = Cert.KernelStepOutIdeal.defs (F := F) := by
  unfold Cert.KernelStepOut.defs Cert.KernelStepOutIdeal.defs
  rw [bodies_eq]
  rfl

theorem frame_kernel : Cert.quiescent_KernelStepOut := fun m g _ => by
  rw [defs_eq]
  exact Gen.frame (F := Bits) m g (ok m)

theorem frame_ref : Cert.quiescent_ReferenceStepOutIdeal := fun m g _ =>
  (θ_run _ _ _).mono (fun r h => ⟨fun c => (h c).2.2.2.2, sem_eq_zero_of_no_sems (by decide) r.2⟩)
    (Cert.ReferenceStepOutIdeal.Value.run m g)

variable (m : (ℓ : Loc nD τ sig) → Buf (Elt Ideal) ℓ)

/-- Where a point's row and column lie in the arrays. -/
abbrev spot (t : Fin grid0.N) (r : Fin 256) (s : Fin 2048) : S2x256x2048.Idx :=
  place (n := 1) rfl (grid0.coords t 0) (grid0.coords t 1) r s

theorem index : ∀ t : Fin grid0.N, cc0_transform_0 (grid0.coords t) = ![(grid0.coords t 0).val, (grid0.coords t 1).val, 0] := by
  decide +kernel

theorem spot_val (t : Fin grid0.N) (r : Fin 256) (s : Fin 2048) (a : Fin 3) :
    cc0_transform_0 (grid0.coords t) a * S1x256x2048.size a + ((ix3 0 r s : S1x256x2048.Idx) a).val = (spot t r s a).val := by
  rw [index]
  exact place_val (n := 1) rfl (grid0.coords t 0) (grid0.coords t 1) r s a

/-- The pipeline at the launch memory. -/
abbrev C := cfgM m (ok m)

variable (c : Dev nD) (t : Fin (C m).N) (r : Fin 256) (s : Fin 2048)

theorem emb_0 :
    (((C m).win 0).blk t).view.emb (ix3 0 r s : S1x256x2048.Idx) = spot t r s :=
  funext fun a => Fin.ext ((Window.rect_emb_val ((C m).win 0) t (ix3 0 r s : S1x256x2048.Idx) a).trans (spot_val t r s a))
theorem emb_3 :
    (((C m).win 3).blk t).view.emb (ix3 0 r s : S1x256x2048.Idx) = spot t r s :=
  funext fun a => Fin.ext ((Window.rect_emb_val ((C m).win 3) t (ix3 0 r s : S1x256x2048.Idx) a).trans (spot_val t r s a))
theorem emb_4 :
    (((C m).win 4).blk t).view.emb (ix3 0 r s : S1x256x2048.Idx) = spot t r s :=
  funext fun a => Fin.ext ((Window.rect_emb_val ((C m).win 4) t (ix3 0 r s : S1x256x2048.Idx) a).trans (spot_val t r s a))
theorem emb_5 :
    (((C m).win 5).blk t).view.emb (ix3 0 r s : S1x256x2048.Idx) = spot t r s :=
  funext fun a => Fin.ext ((Window.rect_emb_val ((C m).win 5) t (ix3 0 r s : S1x256x2048.Idx) a).trans (spot_val t r s a))
theorem emb_6 :
    (((C m).win 6).blk t).view.emb (ix3 0 r s : S1x256x2048.Idx) = spot t r s :=
  funext fun a => Fin.ext ((Window.rect_emb_val ((C m).win 6) t (ix3 0 r s : S1x256x2048.Idx) a).trans (spot_val t r s a))
theorem emb_7 :
    (((C m).win 7).blk t).view.emb (ix3 0 r s : S1x256x2048.Idx) = spot t r s :=
  funext fun a => Fin.ext ((Window.rect_emb_val ((C m).win 7) t (ix3 0 r s : S1x256x2048.Idx) a).trans (spot_val t r s a))
theorem emb_8 :
    (((C m).win 8).blk t).view.emb (ix3 0 r s : S1x256x2048.Idx) = spot t r s :=
  funext fun a => Fin.ext ((Window.rect_emb_val ((C m).win 8) t (ix3 0 r s : S1x256x2048.Idx) a).trans (spot_val t r s a))

/-- Every block is some point's. -/
theorem points : ∀ β : (a : Fin 3) → Fin (((C m).win 5).nblk a), ∃ t : Fin grid0.N, ∀ a, cc0_transform_5 (grid0.coords t) a = (β a).val :=
  (by decide +kernel : ∀ β : (a : Fin 3) → Fin ((S2x256x2048.size a + S1x256x2048.size a - 1) / S1x256x2048.size a), ∃ t : Fin grid0.N, ∀ a, cc0_transform_5 (grid0.coords t) a = (β a).val)

theorem covers_5 : ((C m).win 5).Covers :=
  ⟨(by decide : ∀ a : Fin 3, 0 < S1x256x2048.size a), fun β => (points m β).imp fun t h => ⟨flush0_5 _ t, fun a => ⟨h a, .inl rfl⟩⟩⟩
theorem covers_6 : ((C m).win 6).Covers :=
  ⟨(by decide : ∀ a : Fin 3, 0 < S1x256x2048.size a), fun β => (points m β).imp fun t h => ⟨flush0_6 _ t, fun a => ⟨h a, .inl rfl⟩⟩⟩
theorem covers_7 : ((C m).win 7).Covers :=
  ⟨(by decide : ∀ a : Fin 3, 0 < S1x256x2048.size a), fun β => (points m β).imp fun t h => ⟨flush0_7 _ t, fun a => ⟨h a, .inl rfl⟩⟩⟩
theorem covers_8 : ((C m).win 8).Covers :=
  ⟨(by decide : ∀ a : Fin 3, 0 < S1x256x2048.size a), fun β => (points m β).imp fun t h => ⟨flush0_8 _ t, fun a => ⟨h a, .inl rfl⟩⟩⟩

/-- The arguments' blocks at a point. -/
def blkW : Vec Ideal S1x256x2048 .f32 := iblk m (ok m) c 0 t
def blkMine : Vec Ideal S256x2048 .f32 := iblk m (ok m) c 1 t
def blkTheirs : Vec Ideal S256x2048 .f32 := iblk m (ok m) c 2 t
def blkM : Vec Ideal S1x256x2048 .f32 := iblk m (ok m) c 3 t
def blkV : Vec Ideal S1x256x2048 .f32 := iblk m (ok m) c 4 t

theorem blkW_at :
    blkW m c t (ix3 0 r s) = m ((c : Thread nD τ).loc main_arg0) (spot t r s) :=
  congrArg (m ((c : Thread nD τ).loc main_arg0)) (emb_0 m t r s)
theorem blkM_at :
    blkM m c t (ix3 0 r s) = m ((c : Thread nD τ).loc main_arg3) (spot t r s) :=
  congrArg (m ((c : Thread nD τ).loc main_arg3)) (emb_3 m t r s)
theorem blkV_at :
    blkV m c t (ix3 0 r s) = m ((c : Thread nD τ).loc main_arg4) (spot t r s) :=
  congrArg (m ((c : Thread nD τ).loc main_arg4)) (emb_4 m t r s)

/-- The gradient's half at a point. -/
abbrev half : Vec Ideal S256x2048 .f32 :=
  k0_pay4 (grid0.coords t) (core (tbl m)) (blkMine m c t) (blkTheirs m c t)

theorem half_at :
    half m c t (ix2 r s)
      = grad (m ((c : Thread nD τ).loc main_arg1)) (m ((c : Thread nD τ).loc main_arg2)) (core (tbl m)) (spot t r s) := by
  show (Scalar.select (Scalar.cmpi .eq (BitVec.ofNat 32 (grid0.coords t 0).val) (core (tbl m))) (blkMine m c t) (blkTheirs m c t)) (ix2 r s)
    = if BitVec.ofNat 32 (grid0.coords t 0).val = core (tbl m) then _ else _
  rw [pick_eq]
  by_cases h : BitVec.ofNat 32 (grid0.coords t 0).val = core (tbl m)
  · rw [if_pos h, if_pos h]
    exact congrArg (m ((c : Thread nD τ).loc main_arg1)) (funext fun a => Fin.ext
      ((Window.rect_emb_val ((C m).win 1) t (ix2 r s : S256x2048.Idx) a).trans
        ((congrArg (fun f : Fin 2 → ℕ => f a * S256x2048.size a + ((ix2 r s : S256x2048.Idx) a).val) (transform_1 (tbl m) (grid0.coords t))).trans
          (half_val (n := 1) rfl (by decide) (grid0.coords t 0) (grid0.coords t 1) _ (if_pos h) r s a))))
  · rw [if_neg h, if_neg h]
    exact congrArg (m ((c : Thread nD τ).loc main_arg2)) (funext fun a => Fin.ext
      ((Window.rect_emb_val ((C m).win 2) t (ix2 r s : S256x2048.Idx) a).trans
        ((congrArg (fun f : Fin 2 → ℕ => f a * S256x2048.size a + ((ix2 r s : S256x2048.Idx) a).val) (transform_2 (tbl m) (grid0.coords t))).trans
          (half_val (n := 1) rfl (by decide) (grid0.coords t 0) (grid0.coords t 1) _ (if_neg h) r s a))))

/-- A block's rows, as the body takes them, and as it leaves them. -/
abbrev rows (x : Vec Ideal S1x256x2048 .f32) : Vec Ideal S256x2048 .f32 := shapeCast S256x2048 x shapeCasts_S1x256x2048_S256x2048
abbrev block (x : Vec Ideal S256x2048 .f32) : Vec Ideal S1x256x2048 .f32 := shapeCast S1x256x2048 x shapeCasts_S256x2048_S1x256x2048

theorem rows_at (x : Vec Ideal S1x256x2048 .f32) (r : Fin 256) (s : Fin 2048) : rows x (ix2 r s) = x (ix3 0 r s) := by
  pointwise

theorem block_at (x : Vec Ideal S256x2048 .f32) (r : Fin 256) (s : Fin 2048) : block x (ix3 0 r s) = x (ix2 r s) := by
  pointwise

/-- What the body leaves in the four results' blocks, of the five arguments' blocks and the core's number. -/
def left (i : grid0.Coords) (k : BitVec 32) (w : Vec Ideal S1x256x2048 .f32) (a b : Vec Ideal S256x2048 .f32) (x v : Vec Ideal S1x256x2048 .f32) :
    Vec Ideal S1x256x2048 .f32 × Vec Ideal S1x256x2048 .f32 × Vec Ideal S1x256x2048 .f32 × Vec Ideal S1x256x2048 .f32 :=
  (block (k0_pay4 i k a b), block (delta (rows w) (k0_pay4 i k a b) (rows x) (rows v)), block (first (rows x) (k0_pay4 i k a b)),
    block (second (rows v) (k0_pay4 i k a b)))

set_option maxHeartbeats 1000000 in
theorem outs_eq : outsAt0 m (ok m) c t
    = left (grid0.coords t) (core (tbl m)) (blkW m c t) (blkMine m c t) (blkTheirs m c t) (blkM m c t) (blkV m c t) := by
  have e : left (grid0.coords t) (core (tbl m))
      ((ms0_0 m (ok m) t).view.read (Elt Ideal) ((hs0_0 m (ok m) t).unread (blkW m c t)))
      ((ms0_1 m (ok m) t).view.read (Elt Ideal) ((hs0_1 m (ok m) t).unread (blkMine m c t)))
      ((ms0_2 m (ok m) t).view.read (Elt Ideal) ((hs0_2 m (ok m) t).unread (blkTheirs m c t)))
      ((ms0_3 m (ok m) t).view.read (Elt Ideal) ((hs0_3 m (ok m) t).unread (blkM m c t)))
      ((ms0_4 m (ok m) t).view.read (Elt Ideal) ((hs0_4 m (ok m) t).unread (blkV m c t)))
      = left (grid0.coords t) (core (tbl m)) (blkW m c t) (blkMine m c t) (blkTheirs m c t) (blkM m c t) (blkV m c t) := by
    rw [Memref.IsWhole.read_unread, Memref.IsWhole.read_unread, Memref.IsWhole.read_unread, Memref.IsWhole.read_unread, Memref.IsWhole.read_unread]
  unfold outsAt0
  refine Prod.ext ?_ <| Prod.ext ?_ <| Prod.ext ?_ ?_
  · frame_out
    exact congrArg (·.1) e
  · frame_out
    exact congrArg (·.2.1) e
  · frame_out
    exact congrArg (·.2.2.1) e
  · frame_out
    exact congrArg (·.2.2.2) e

/-- The whole gradient, of the launch memory. -/
def whole : FVec Ideal S2x256x2048 .f32 :=
  grad (m ((c : Thread nD τ).loc main_arg1)) (m ((c : Thread nD τ).loc main_arg2)) (core (tbl m))

/-- The halves put together, -/
theorem grad_end : (dats m (ok m) 0 c).arrAt 5 (C m).N
    = (whole m c) := by
  refine (dats m (ok m) 0 c).arrAt_eq_of_covers 5 _ (covers_5 m) fun t hf (y : S1x256x2048.Idx) => ?_
  rw [ix_eq (b := 256) (w := 2048) y]
  refine (congrFun ((after0_5 m (ok m) c t).trans (congrArg (·.1) (outs_eq m c t))) _).trans ((block_at (half m c t) _ _).trans ?_)
  exact (half_at m c t _ _).trans (congrArg ((whole m c)) (emb_5 m t _ _)).symm

/-- the step, -/
theorem delta_end : (dats m (ok m) 0 c).arrAt 6 (C m).N
    = delta (m ((c : Thread nD τ).loc main_arg0)) (whole m c) (m ((c : Thread nD τ).loc main_arg3)) (m ((c : Thread nD τ).loc main_arg4)) := by
  refine (dats m (ok m) 0 c).arrAt_eq_of_covers 6 _ (covers_6 m) fun t hf (y : S1x256x2048.Idx) => ?_
  rw [ix_eq (b := 256) (w := 2048) y]
  refine (congrFun ((after0_6 m (ok m) c t).trans (congrArg (·.2.1) (outs_eq m c t))) _).trans ((block_at (delta (rows (blkW m c t)) (half m c t) (rows (blkM m c t)) (rows (blkV m c t))) _ _).trans ?_)
  exact (delta_at ((rows_at _ _ _).trans (blkW_at m c t _ _)) (half_at m c t _ _) ((rows_at _ _ _).trans (blkM_at m c t _ _)) ((rows_at _ _ _).trans (blkV_at m c t _ _))).trans (congrArg (delta (m ((c : Thread nD τ).loc main_arg0)) (whole m c) (m ((c : Thread nD τ).loc main_arg3)) (m ((c : Thread nD τ).loc main_arg4))) (emb_6 m t _ _)).symm

/-- and the two moments. -/
theorem first_end : (dats m (ok m) 0 c).arrAt 7 (C m).N
    = first (m ((c : Thread nD τ).loc main_arg3)) (whole m c) := by
  refine (dats m (ok m) 0 c).arrAt_eq_of_covers 7 _ (covers_7 m) fun t hf (y : S1x256x2048.Idx) => ?_
  rw [ix_eq (b := 256) (w := 2048) y]
  refine (congrFun ((after0_7 m (ok m) c t).trans (congrArg (·.2.2.1) (outs_eq m c t))) _).trans ((block_at (first (rows (blkM m c t)) (half m c t)) _ _).trans ?_)
  exact (first_at ((rows_at _ _ _).trans (blkM_at m c t _ _)) (half_at m c t _ _)).trans (congrArg (first (m ((c : Thread nD τ).loc main_arg3)) (whole m c)) (emb_7 m t _ _)).symm

theorem second_end : (dats m (ok m) 0 c).arrAt 8 (C m).N
    = second (m ((c : Thread nD τ).loc main_arg4)) (whole m c) := by
  refine (dats m (ok m) 0 c).arrAt_eq_of_covers 8 _ (covers_8 m) fun t hf (y : S1x256x2048.Idx) => ?_
  rw [ix_eq (b := 256) (w := 2048) y]
  refine (congrFun ((after0_8 m (ok m) c t).trans (congrArg (·.2.2.2) (outs_eq m c t))) _).trans ((block_at (second (rows (blkV m c t)) (half m c t)) _ _).trans ?_)
  exact (second_at ((rows_at _ _ _).trans (blkV_at m c t _ _)) (half_at m c t _ _)).trans (congrArg (second (m ((c : Thread nD τ).loc main_arg4)) (whole m c)) (emb_8 m t _ _)).symm

/-- The core's number is the last argument's one element. -/
theorem core_eq (c : Dev nD) : core (tbl m) = (m ((c : Thread nD τ).loc main_arg5) : S1.Idx → BitVec 32) (ix1 0) := by
  obtain rfl : c = 0 := Subsingleton.elim _ _
  exact congrArg (m (((0 : Dev nD) : Thread nD τ).loc main_arg5)) (only _)

/-- The gradient as the reference puts it together. -/
theorem whole_eq (c : Dev nD) (a b : FVec Ideal S256x2048 .f32) (k : IVec S1 32) (ha : a = m ((c : Thread nD τ).loc main_arg1))
    (hb : b = m ((c : Thread nD τ).loc main_arg2)) (hk : k = m ((c : Thread nD τ).loc main_arg5)) :
    whole m c = Cert.ReferenceStepOutIdeal.together a b k := by
  subst ha hb hk
  funext x
  rw [whole, core_eq m c, grad, ← pick_eq]
  pointwise
  rfl

theorem algebraic : Cert.algebraic_KernelStepOutIdeal_ReferenceStepOutIdeal := by
  intro m g m' g' _ hargs
  refine ⟨_, _, _, _, (θ_run _ _ _).mono (fun r h c => ?_) (θ_run_and (Gen.run_main m g (ok m)) (Gen.unchanged m g (ok m))),
    (θ_run _ _ _).mono (fun _ h => h) (Cert.ReferenceStepOutIdeal.Value.run m' g')⟩
  obtain ⟨e0, e1, e2, e3, e4, e5⟩ := hargs c
  have e := whole_eq m c _ _ _ e1 e2 e5
  refine ⟨((h.1 c).1 5).trans ((grad_end m c).trans e), ((h.1 c).1 6).trans ((delta_end m c).trans ?_),
    ((h.1 c).1 7).trans ((first_end m c).trans ?_), ((h.1 c).1 8).trans ((second_end m c).trans ?_), h.2 c⟩
  · rw [e, ← e0, ← e3, ← e4]; rfl
  · rw [e, ← e3]; rfl
  · rw [e, ← e4]; rfl

end Cert.StepOut

end
-- ==== Proof.StepIn.lean ====
/-
  The update of the input projection's weight from the two halves of its gradient: what the call leaves is the reference's step.
-/
module

public import proofs.«01_k».proof.Defs
public import proofs.«01_k».proof.Proof.Adam
public import Idealize.ShloMosaic.Lib.Pipeline.Value
public import Idealize.ShloMosaic.Lib.Pipeline.ValueKit
public import proofs.«01_k».proof.Proof.Gen.KernelStepIn
public import proofs.«01_k».proof.Proof.Gen.KernelStepInIdeal.Frame
public import proofs.«01_k».proof.Proof.Gen.ReferenceStepInIdeal.Run

@[expose] public section

set_option maxRecDepth 16384

noncomputable section

namespace Cert.ReferenceStepInIdeal

open Idealize.ShloMosaic Gen

/-- The reference's choice between the halves. -/
abbrev together (a b : FVec Ideal S1024x2560 .f32) (k : IVec S1 32) : FVec Ideal S2x1024x2560 .f32 :=
  select (broadcastInDim S2x1024x2560 ![0, 1, 2] bcast_S2x1x1_S2x1024x2560_0_1_2
      (cmpi .eq (broadcastInDim S2x1x1 ![0] bcast_S2_S2x1x1_0 (iotaInDim S2 32 0))
        (broadcastInDim S2x1x1 ![] bcast_S_S2x1x1 (shapeCast _ k shapeCasts_S1_S_))))
    (broadcastInDim S2x1024x2560 ![0, 1, 2] bcast_S1x1024x2560_S2x1024x2560_0_1_2 (broadcastInDim S1x1024x2560 ![1, 2] bcast_S1024x2560_S1x1024x2560_1_2 a))
    (broadcastInDim S2x1024x2560 ![0, 1, 2] bcast_S1x1024x2560_S2x1024x2560_0_1_2 (broadcastInDim S1x1024x2560 ![1, 2] bcast_S1024x2560_S1x1024x2560_1_2 b))

end Cert.ReferenceStepInIdeal

namespace Cert.StepIn

open Cert.KernelStepInIdeal Cert.KernelStepInIdeal.Gen Cert.Exchange Cert.Adam

open Idealize.ShloMosaic Idealize.ShloMosaic.TcCoe
open Idealize.SL Idealize.SL.Sem
open Idealize.ShloMosaic.Pipeline (Dat Cfg Window)

variable {F : FTy → Type} [FloatOps F]

/-- The core's number, as the call reads it. -/
def core (pf : pre0.Contents (Elt F)) : BitVec 32 := pf.at 0 (Rect.unit (s := S1) ![0] S1.size inb_S1_S1_0) numel1_S1

theorem transform_1 (pf : pre0.Contents (Elt F)) (i : grid0.Coords) : cc0_transform_1 inb_S1_S1_0 numel1_S1 pf i
    = ![(if BitVec.ofNat 32 (i 0).val = core pf then BitVec.ofNat 32 (i 1).val else 0#32).toNat, 0] := by
  show ![(Scalar.select (Scalar.cmpi .eq (BitVec.ofNat 32 (i 0).val) (core pf)) (BitVec.ofNat 32 (i 1).val) 0#32).toNat, 0] = _
  rw [pick_eq]

theorem transform_2 (pf : pre0.Contents (Elt F)) (i : grid0.Coords) : cc0_transform_2 inb_S1_S1_0 numel1_S1 pf i
    = ![(if BitVec.ofNat 32 (i 0).val = core pf then 0#32 else BitVec.ofNat 32 (i 1).val).toNat, 0] := by
  show ![(Scalar.select (Scalar.cmpi .eq (BitVec.ofNat 32 (i 0).val) (core pf)) 0#32 (BitVec.ofNat 32 (i 1).val)).toNat, 0] = _
  rw [pick_eq]

/-- So every block lies inside, whatever the core's number. -/
theorem ok (m : (ℓ : Loc nD τ sig) → Buf (Elt F) ℓ) : Gen.Ok m := by
  refine ⟨fun i => ⟨fun a => ?_, .inl rfl⟩, fun i => ⟨fun a => ?_, .inl rfl⟩⟩
  · rw [transform_1]
    exact inside (b := 256) (R := 1024) (w := 2560) rfl (by decide) (i 1) _ (by split <;> simp) a
  · rw [transform_2]
    exact inside (b := 256) (R := 1024) (w := 2560) rfl (by decide) (i 1) _ (by split <;> simp) a

theorem frame_ideal : Cert.quiescent_KernelStepInIdeal := fun m g _ => Gen.frame m g (ok m)

/-- The two printed programs have one body table. -/
theorem bodies_eq : Cert.KernelStepIn.defs₀ (F := F) = Cert.KernelStepInIdeal.defs₀ (F := F) :=
  congrArg (Defs.onTc (τ := Cert.KernelStepIn.τ)) (funext fun b => funext fun a => match b, a with
    | ⟨0, _⟩, (t, s) => rfl
    | ⟨_ + 1, h⟩, _ => absurd h (Nat.not_lt.2 (Nat.le_add_left _ _)))

theorem defs_eq : Cert.KernelStepIn.defs (F := F) = Cert.KernelStepInIdeal.defs (F := F) := by
  unfold Cert.KernelStepIn.defs Cert.KernelStepInIdeal.defs
  rw [bodies_eq]
  rfl

theorem frame_kernel : Cert.quiescent_KernelStepIn := fun m g _ => by
  rw [defs_eq]
  exact Gen.frame (F := Bits) m g (ok m)

theorem frame_ref : Cert.quiescent_ReferenceStepInIdeal := fun m g _ =>
  (θ_run _ _ _).mono (fun r h => ⟨fun c => (h c).2.2.2.2, sem_eq_zero_of_no_sems (by decide) r.2⟩)
    (Cert.ReferenceStepInIdeal.Value.run m g)

variable (m : (ℓ : Loc nD τ sig) → Buf (Elt Ideal) ℓ)

/-- Where a point's row and column lie in the arrays. -/
abbrev spot (t : Fin grid0.N) (r : Fin 256) (s : Fin 2560) : S2x1024x2560.Idx :=
  place (n := 4) rfl (grid0.coords t 0) (grid0.coords t 1) r s

theorem index : ∀ t : Fin grid0.N, cc0_transform_0 (grid0.coords t) = ![(grid0.coords t 0).val, (grid0.coords t 1).val, 0] := by
  decide +kernel

theorem spot_val (t : Fin grid0.N) (r : Fin 256) (s : Fin 2560) (a : Fin 3) :
    cc0_transform_0 (grid0.coords t) a * S1x256x2560.size a + ((ix3 0 r s : S1x256x2560.Idx) a).val = (spot t r s a).val := by
  rw [index]
  exact place_val (n := 4) rfl (grid0.coords t 0) (grid0.coords t 1) r s a

/-- The pipeline at the launch memory. -/
abbrev C := cfgM m (ok m)

variable (c : Dev nD) (t : Fin (C m).N) (r : Fin 256) (s : Fin 2560)

theorem emb_0 :
    (((C m).win 0).blk t).view.emb (ix3 0 r s : S1x256x2560.Idx) = spot t r s :=
  funext fun a => Fin.ext ((Window.rect_emb_val ((C m).win 0) t (ix3 0 r s : S1x256x2560.Idx) a).trans (spot_val t r s a))
theorem emb_3 :
    (((C m).win 3).blk t).view.emb (ix3 0 r s : S1x256x2560.Idx) = spot t r s :=
  funext fun a => Fin.ext ((Window.rect_emb_val ((C m).win 3) t (ix3 0 r s : S1x256x2560.Idx) a).trans (spot_val t r s a))
theorem emb_4 :
    (((C m).win 4).blk t).view.emb (ix3 0 r s : S1x256x2560.Idx) = spot t r s :=
  funext fun a => Fin.ext ((Window.rect_emb_val ((C m).win 4) t (ix3 0 r s : S1x256x2560.Idx) a).trans (spot_val t r s a))
theorem emb_5 :
    (((C m).win 5).blk t).view.emb (ix3 0 r s : S1x256x2560.Idx) = spot t r s :=
  funext fun a => Fin.ext ((Window.rect_emb_val ((C m).win 5) t (ix3 0 r s : S1x256x2560.Idx) a).trans (spot_val t r s a))
theorem emb_6 :
    (((C m).win 6).blk t).view.emb (ix3 0 r s : S1x256x2560.Idx) = spot t r s :=
  funext fun a => Fin.ext ((Window.rect_emb_val ((C m).win 6) t (ix3 0 r s : S1x256x2560.Idx) a).trans (spot_val t r s a))
theorem emb_7 :
    (((C m).win 7).blk t).view.emb (ix3 0 r s : S1x256x2560.Idx) = spot t r s :=
  funext fun a => Fin.ext ((Window.rect_emb_val ((C m).win 7) t (ix3 0 r s : S1x256x2560.Idx) a).trans (spot_val t r s a))
theorem emb_8 :
    (((C m).win 8).blk t).view.emb (ix3 0 r s : S1x256x2560.Idx) = spot t r s :=
  funext fun a => Fin.ext ((Window.rect_emb_val ((C m).win 8) t (ix3 0 r s : S1x256x2560.Idx) a).trans (spot_val t r s a))

/-- Every block is some point's. -/
theorem points : ∀ β : (a : Fin 3) → Fin (((C m).win 5).nblk a), ∃ t : Fin grid0.N, ∀ a, cc0_transform_5 (grid0.coords t) a = (β a).val :=
  (by decide +kernel : ∀ β : (a : Fin 3) → Fin ((S2x1024x2560.size a + S1x256x2560.size a - 1) / S1x256x2560.size a), ∃ t : Fin grid0.N, ∀ a, cc0_transform_5 (grid0.coords t) a = (β a).val)

theorem covers_5 : ((C m).win 5).Covers :=
  ⟨(by decide : ∀ a : Fin 3, 0 < S1x256x2560.size a), fun β => (points m β).imp fun t h => ⟨flush0_5 _ t, fun a => ⟨h a, .inl rfl⟩⟩⟩
theorem covers_6 : ((C m).win 6).Covers :=
  ⟨(by decide : ∀ a : Fin 3, 0 < S1x256x2560.size a), fun β => (points m β).imp fun t h => ⟨flush0_6 _ t, fun a => ⟨h a, .inl rfl⟩⟩⟩
theorem covers_7 : ((C m).win 7).Covers :=
  ⟨(by decide : ∀ a : Fin 3, 0 < S1x256x2560.size a), fun β => (points m β).imp fun t h => ⟨flush0_7 _ t, fun a => ⟨h a, .inl rfl⟩⟩⟩
theorem covers_8 : ((C m).win 8).Covers :=
  ⟨(by decide : ∀ a : Fin 3, 0 < S1x256x2560.size a), fun β => (points m β).imp fun t h => ⟨flush0_8 _ t, fun a => ⟨h a, .inl rfl⟩⟩⟩

/-- The arguments' blocks at a point. -/
def blkW : Vec Ideal S1x256x2560 .f32 := iblk m (ok m) c 0 t
def blkMine : Vec Ideal S256x2560 .f32 := iblk m (ok m) c 1 t
def blkTheirs : Vec Ideal S256x2560 .f32 := iblk m (ok m) c 2 t
def blkM : Vec Ideal S1x256x2560 .f32 := iblk m (ok m) c 3 t
def blkV : Vec Ideal S1x256x2560 .f32 := iblk m (ok m) c 4 t

theorem blkW_at :
    blkW m c t (ix3 0 r s) = m ((c : Thread nD τ).loc main_arg0) (spot t r s) :=
  congrArg (m ((c : Thread nD τ).loc main_arg0)) (emb_0 m t r s)
theorem blkM_at :
    blkM m c t (ix3 0 r s) = m ((c : Thread nD τ).loc main_arg3) (spot t r s) :=
  congrArg (m ((c : Thread nD τ).loc main_arg3)) (emb_3 m t r s)
theorem blkV_at :
    blkV m c t (ix3 0 r s) = m ((c : Thread nD τ).loc main_arg4) (spot t r s) :=
  congrArg (m ((c : Thread nD τ).loc main_arg4)) (emb_4 m t r s)

/-- The gradient's half at a point. -/
abbrev half : Vec Ideal S256x2560 .f32 :=
  k0_pay4 (grid0.coords t) (core (tbl m)) (blkMine m c t) (blkTheirs m c t)

theorem half_at :
    half m c t (ix2 r s)
      = grad (m ((c : Thread nD τ).loc main_arg1)) (m ((c : Thread nD τ).loc main_arg2)) (core (tbl m)) (spot t r s) := by
  show (Scalar.select (Scalar.cmpi .eq (BitVec.ofNat 32 (grid0.coords t 0).val) (core (tbl m))) (blkMine m c t) (blkTheirs m c t)) (ix2 r s)
    = if BitVec.ofNat 32 (grid0.coords t 0).val = core (tbl m) then _ else _
  rw [pick_eq]
  by_cases h : BitVec.ofNat 32 (grid0.coords t 0).val = core (tbl m)
  · rw [if_pos h, if_pos h]
    exact congrArg (m ((c : Thread nD τ).loc main_arg1)) (funext fun a => Fin.ext
      ((Window.rect_emb_val ((C m).win 1) t (ix2 r s : S256x2560.Idx) a).trans
        ((congrArg (fun f : Fin 2 → ℕ => f a * S256x2560.size a + ((ix2 r s : S256x2560.Idx) a).val) (transform_1 (tbl m) (grid0.coords t))).trans
          (half_val (n := 4) rfl (by decide) (grid0.coords t 0) (grid0.coords t 1) _ (if_pos h) r s a))))
  · rw [if_neg h, if_neg h]
    exact congrArg (m ((c : Thread nD τ).loc main_arg2)) (funext fun a => Fin.ext
      ((Window.rect_emb_val ((C m).win 2) t (ix2 r s : S256x2560.Idx) a).trans
        ((congrArg (fun f : Fin 2 → ℕ => f a * S256x2560.size a + ((ix2 r s : S256x2560.Idx) a).val) (transform_2 (tbl m) (grid0.coords t))).trans
          (half_val (n := 4) rfl (by decide) (grid0.coords t 0) (grid0.coords t 1) _ (if_neg h) r s a))))

/-- A block's rows, as the body takes them, and as it leaves them. -/
abbrev rows (x : Vec Ideal S1x256x2560 .f32) : Vec Ideal S256x2560 .f32 := shapeCast S256x2560 x shapeCasts_S1x256x2560_S256x2560
abbrev block (x : Vec Ideal S256x2560 .f32) : Vec Ideal S1x256x2560 .f32 := shapeCast S1x256x2560 x shapeCasts_S256x2560_S1x256x2560

theorem rows_at (x : Vec Ideal S1x256x2560 .f32) (r : Fin 256) (s : Fin 2560) : rows x (ix2 r s) = x (ix3 0 r s) := by
  pointwise

theorem block_at (x : Vec Ideal S256x2560 .f32) (r : Fin 256) (s : Fin 2560) : block x (ix3 0 r s) = x (ix2 r s) := by
  pointwise

/-- What the body leaves in the four results' blocks, of the five arguments' blocks and the core's number. -/
def left (i : grid0.Coords) (k : BitVec 32) (w : Vec Ideal S1x256x2560 .f32) (a b : Vec Ideal S256x2560 .f32) (x v : Vec Ideal S1x256x2560 .f32) :
    Vec Ideal S1x256x2560 .f32 × Vec Ideal S1x256x2560 .f32 × Vec Ideal S1x256x2560 .f32 × Vec Ideal S1x256x2560 .f32 :=
  (block (k0_pay4 i k a b), block (delta (rows w) (k0_pay4 i k a b) (rows x) (rows v)), block (first (rows x) (k0_pay4 i k a b)),
    block (second (rows v) (k0_pay4 i k a b)))

set_option maxHeartbeats 1000000 in
theorem outs_eq : outsAt0 m (ok m) c t
    = left (grid0.coords t) (core (tbl m)) (blkW m c t) (blkMine m c t) (blkTheirs m c t) (blkM m c t) (blkV m c t) := by
  have e : left (grid0.coords t) (core (tbl m))
      ((ms0_0 m (ok m) t).view.read (Elt Ideal) ((hs0_0 m (ok m) t).unread (blkW m c t)))
      ((ms0_1 m (ok m) t).view.read (Elt Ideal) ((hs0_1 m (ok m) t).unread (blkMine m c t)))
      ((ms0_2 m (ok m) t).view.read (Elt Ideal) ((hs0_2 m (ok m) t).unread (blkTheirs m c t)))
      ((ms0_3 m (ok m) t).view.read (Elt Ideal) ((hs0_3 m (ok m) t).unread (blkM m c t)))
      ((ms0_4 m (ok m) t).view.read (Elt Ideal) ((hs0_4 m (ok m) t).unread (blkV m c t)))
      = left (grid0.coords t) (core (tbl m)) (blkW m c t) (blkMine m c t) (blkTheirs m c t) (blkM m c t) (blkV m c t) := by
    rw [Memref.IsWhole.read_unread, Memref.IsWhole.read_unread, Memref.IsWhole.read_unread, Memref.IsWhole.read_unread, Memref.IsWhole.read_unread]
  unfold outsAt0
  refine Prod.ext ?_ <| Prod.ext ?_ <| Prod.ext ?_ ?_
  · frame_out
    exact congrArg (·.1) e
  · frame_out
    exact congrArg (·.2.1) e
  · frame_out
    exact congrArg (·.2.2.1) e
  · frame_out
    exact congrArg (·.2.2.2) e

/-- The whole gradient, of the launch memory. -/
def whole : FVec Ideal S2x1024x2560 .f32 :=
  grad (m ((c : Thread nD τ).loc main_arg1)) (m ((c : Thread nD τ).loc main_arg2)) (core (tbl m))

/-- The halves put together, -/
theorem grad_end : (dats m (ok m) 0 c).arrAt 5 (C m).N
    = (whole m c) := by
  refine (dats m (ok m) 0 c).arrAt_eq_of_covers 5 _ (covers_5 m) fun t hf (y : S1x256x2560.Idx) => ?_
  rw [ix_eq (b := 256) (w := 2560) y]
  refine (congrFun ((after0_5 m (ok m) c t).trans (congrArg (·.1) (outs_eq m c t))) _).trans ((block_at (half m c t) _ _).trans ?_)
  exact (half_at m c t _ _).trans (congrArg ((whole m c)) (emb_5 m t _ _)).symm

/-- the step, -/
theorem delta_end : (dats m (ok m) 0 c).arrAt 6 (C m).N
    = delta (m ((c : Thread nD τ).loc main_arg0)) (whole m c) (m ((c : Thread nD τ).loc main_arg3)) (m ((c : Thread nD τ).loc main_arg4)) := by
  refine (dats m (ok m) 0 c).arrAt_eq_of_covers 6 _ (covers_6 m) fun t hf (y : S1x256x2560.Idx) => ?_
  rw [ix_eq (b := 256) (w := 2560) y]
  refine (congrFun ((after0_6 m (ok m) c t).trans (congrArg (·.2.1) (outs_eq m c t))) _).trans ((block_at (delta (rows (blkW m c t)) (half m c t) (rows (blkM m c t)) (rows (blkV m c t))) _ _).trans ?_)
  exact (delta_at ((rows_at _ _ _).trans (blkW_at m c t _ _)) (half_at m c t _ _) ((rows_at _ _ _).trans (blkM_at m c t _ _)) ((rows_at _ _ _).trans (blkV_at m c t _ _))).trans (congrArg (delta (m ((c : Thread nD τ).loc main_arg0)) (whole m c) (m ((c : Thread nD τ).loc main_arg3)) (m ((c : Thread nD τ).loc main_arg4))) (emb_6 m t _ _)).symm

/-- and the two moments. -/
theorem first_end : (dats m (ok m) 0 c).arrAt 7 (C m).N
    = first (m ((c : Thread nD τ).loc main_arg3)) (whole m c) := by
  refine (dats m (ok m) 0 c).arrAt_eq_of_covers 7 _ (covers_7 m) fun t hf (y : S1x256x2560.Idx) => ?_
  rw [ix_eq (b := 256) (w := 2560) y]
  refine (congrFun ((after0_7 m (ok m) c t).trans (congrArg (·.2.2.1) (outs_eq m c t))) _).trans ((block_at (first (rows (blkM m c t)) (half m c t)) _ _).trans ?_)
  exact (first_at ((rows_at _ _ _).trans (blkM_at m c t _ _)) (half_at m c t _ _)).trans (congrArg (first (m ((c : Thread nD τ).loc main_arg3)) (whole m c)) (emb_7 m t _ _)).symm

theorem second_end : (dats m (ok m) 0 c).arrAt 8 (C m).N
    = second (m ((c : Thread nD τ).loc main_arg4)) (whole m c) := by
  refine (dats m (ok m) 0 c).arrAt_eq_of_covers 8 _ (covers_8 m) fun t hf (y : S1x256x2560.Idx) => ?_
  rw [ix_eq (b := 256) (w := 2560) y]
  refine (congrFun ((after0_8 m (ok m) c t).trans (congrArg (·.2.2.2) (outs_eq m c t))) _).trans ((block_at (second (rows (blkV m c t)) (half m c t)) _ _).trans ?_)
  exact (second_at ((rows_at _ _ _).trans (blkV_at m c t _ _)) (half_at m c t _ _)).trans (congrArg (second (m ((c : Thread nD τ).loc main_arg4)) (whole m c)) (emb_8 m t _ _)).symm

/-- The core's number is the last argument's one element. -/
theorem core_eq (c : Dev nD) : core (tbl m) = (m ((c : Thread nD τ).loc main_arg5) : S1.Idx → BitVec 32) (ix1 0) := by
  obtain rfl : c = 0 := Subsingleton.elim _ _
  exact congrArg (m (((0 : Dev nD) : Thread nD τ).loc main_arg5)) (only _)

/-- The gradient as the reference puts it together. -/
theorem whole_eq (c : Dev nD) (a b : FVec Ideal S1024x2560 .f32) (k : IVec S1 32) (ha : a = m ((c : Thread nD τ).loc main_arg1))
    (hb : b = m ((c : Thread nD τ).loc main_arg2)) (hk : k = m ((c : Thread nD τ).loc main_arg5)) :
    whole m c = Cert.ReferenceStepInIdeal.together a b k := by
  subst ha hb hk
  funext x
  rw [whole, core_eq m c, grad, ← pick_eq]
  pointwise
  rfl

theorem algebraic : Cert.algebraic_KernelStepInIdeal_ReferenceStepInIdeal := by
  intro m g m' g' _ hargs
  refine ⟨_, _, _, _, (θ_run _ _ _).mono (fun r h c => ?_) (θ_run_and (Gen.run_main m g (ok m)) (Gen.unchanged m g (ok m))),
    (θ_run _ _ _).mono (fun _ h => h) (Cert.ReferenceStepInIdeal.Value.run m' g')⟩
  obtain ⟨e0, e1, e2, e3, e4, e5⟩ := hargs c
  have e := whole_eq m c _ _ _ e1 e2 e5
  refine ⟨((h.1 c).1 5).trans ((grad_end m c).trans e), ((h.1 c).1 6).trans ((delta_end m c).trans ?_),
    ((h.1 c).1 7).trans ((first_end m c).trans ?_), ((h.1 c).1 8).trans ((second_end m c).trans ?_), h.2 c⟩
  · rw [e, ← e0, ← e3, ← e4]; rfl
  · rw [e, ← e3]; rfl
  · rw [e, ← e4]; rfl

end Cert.StepIn

end
-- ==== Proof.StepMlp.lean ====
/-
  The update of the weight of a layer of the perceptron from the two halves of its gradient: what the call leaves is the reference's step.
-/
module

public import proofs.«01_k».proof.Defs
public import proofs.«01_k».proof.Proof.Adam
public import Idealize.ShloMosaic.Lib.Pipeline.Value
public import Idealize.ShloMosaic.Lib.Pipeline.ValueKit
public import proofs.«01_k».proof.Proof.Gen.KernelStepMlp
public import proofs.«01_k».proof.Proof.Gen.KernelStepMlpIdeal.Frame
public import proofs.«01_k».proof.Proof.Gen.ReferenceStepMlpIdeal.Run

@[expose] public section

set_option maxRecDepth 16384

noncomputable section

namespace Cert.ReferenceStepMlpIdeal

open Idealize.ShloMosaic Gen

/-- The reference's choice between the halves. -/
abbrev together (a b : FVec Ideal S1024x2048 .f32) (k : IVec S1 32) : FVec Ideal S2x1024x2048 .f32 :=
  select (broadcastInDim S2x1024x2048 ![0, 1, 2] bcast_S2x1x1_S2x1024x2048_0_1_2
      (cmpi .eq (broadcastInDim S2x1x1 ![0] bcast_S2_S2x1x1_0 (iotaInDim S2 32 0))
        (broadcastInDim S2x1x1 ![] bcast_S_S2x1x1 (shapeCast _ k shapeCasts_S1_S_))))
    (broadcastInDim S2x1024x2048 ![0, 1, 2] bcast_S1x1024x2048_S2x1024x2048_0_1_2 (broadcastInDim S1x1024x2048 ![1, 2] bcast_S1024x2048_S1x1024x2048_1_2 a))
    (broadcastInDim S2x1024x2048 ![0, 1, 2] bcast_S1x1024x2048_S2x1024x2048_0_1_2 (broadcastInDim S1x1024x2048 ![1, 2] bcast_S1024x2048_S1x1024x2048_1_2 b))

end Cert.ReferenceStepMlpIdeal

namespace Cert.StepMlp

open Cert.KernelStepMlpIdeal Cert.KernelStepMlpIdeal.Gen Cert.Exchange Cert.Adam

open Idealize.ShloMosaic Idealize.ShloMosaic.TcCoe
open Idealize.SL Idealize.SL.Sem
open Idealize.ShloMosaic.Pipeline (Dat Cfg Window)

variable {F : FTy → Type} [FloatOps F]

/-- The core's number, as the call reads it. -/
def core (pf : pre0.Contents (Elt F)) : BitVec 32 := pf.at 0 (Rect.unit (s := S1) ![0] S1.size inb_S1_S1_0) numel1_S1

theorem transform_1 (pf : pre0.Contents (Elt F)) (i : grid0.Coords) : cc0_transform_1 inb_S1_S1_0 numel1_S1 pf i
    = ![(if BitVec.ofNat 32 (i 0).val = core pf then BitVec.ofNat 32 (i 1).val else 0#32).toNat, 0] := by
  show ![(Scalar.select (Scalar.cmpi .eq (BitVec.ofNat 32 (i 0).val) (core pf)) (BitVec.ofNat 32 (i 1).val) 0#32).toNat, 0] = _
  rw [pick_eq]

theorem transform_2 (pf : pre0.Contents (Elt F)) (i : grid0.Coords) : cc0_transform_2 inb_S1_S1_0 numel1_S1 pf i
    = ![(if BitVec.ofNat 32 (i 0).val = core pf then 0#32 else BitVec.ofNat 32 (i 1).val).toNat, 0] := by
  show ![(Scalar.select (Scalar.cmpi .eq (BitVec.ofNat 32 (i 0).val) (core pf)) 0#32 (BitVec.ofNat 32 (i 1).val)).toNat, 0] = _
  rw [pick_eq]

/-- So every block lies inside, whatever the core's number. -/
theorem ok (m : (ℓ : Loc nD τ sig) → Buf (Elt F) ℓ) : Gen.Ok m := by
  refine ⟨fun i => ⟨fun a => ?_, .inl rfl⟩, fun i => ⟨fun a => ?_, .inl rfl⟩⟩
  · rw [transform_1]
    exact inside (b := 256) (R := 1024) (w := 2048) rfl (by decide) (i 1) _ (by split <;> simp) a
  · rw [transform_2]
    exact inside (b := 256) (R := 1024) (w := 2048) rfl (by decide) (i 1) _ (by split <;> simp) a

theorem frame_ideal : Cert.quiescent_KernelStepMlpIdeal := fun m g _ => Gen.frame m g (ok m)

/-- The two printed programs have one body table. -/
theorem bodies_eq : Cert.KernelStepMlp.defs₀ (F := F) = Cert.KernelStepMlpIdeal.defs₀ (F := F) :=
  congrArg (Defs.onTc (τ := Cert.KernelStepMlp.τ)) (funext fun b => funext fun a => match b, a with
    | ⟨0, _⟩, (t, s) => rfl
    | ⟨_ + 1, h⟩, _ => absurd h (Nat.not_lt.2 (Nat.le_add_left _ _)))

theorem defs_eq : Cert.KernelStepMlp.defs (F := F) = Cert.KernelStepMlpIdeal.defs (F := F) := by
  unfold Cert.KernelStepMlp.defs Cert.KernelStepMlpIdeal.defs
  rw [bodies_eq]
  rfl

theorem frame_kernel : Cert.quiescent_KernelStepMlp := fun m g _ => by
  rw [defs_eq]
  exact Gen.frame (F := Bits) m g (ok m)

theorem frame_ref : Cert.quiescent_ReferenceStepMlpIdeal := fun m g _ =>
  (θ_run _ _ _).mono (fun r h => ⟨fun c => (h c).2.2.2.2, sem_eq_zero_of_no_sems (by decide) r.2⟩)
    (Cert.ReferenceStepMlpIdeal.Value.run m g)

variable (m : (ℓ : Loc nD τ sig) → Buf (Elt Ideal) ℓ)

/-- Where a point's row and column lie in the arrays. -/
abbrev spot (t : Fin grid0.N) (r : Fin 256) (s : Fin 2048) : S2x1024x2048.Idx :=
  place (n := 4) rfl (grid0.coords t 0) (grid0.coords t 1) r s

theorem index : ∀ t : Fin grid0.N, cc0_transform_0 (grid0.coords t) = ![(grid0.coords t 0).val, (grid0.coords t 1).val, 0] := by
  decide +kernel

theorem spot_val (t : Fin grid0.N) (r : Fin 256) (s : Fin 2048) (a : Fin 3) :
    cc0_transform_0 (grid0.coords t) a * S1x256x2048.size a + ((ix3 0 r s : S1x256x2048.Idx) a).val = (spot t r s a).val := by
  rw [index]
  exact place_val (n := 4) rfl (grid0.coords t 0) (grid0.coords t 1) r s a

/-- The pipeline at the launch memory. -/
abbrev C := cfgM m (ok m)

variable (c : Dev nD) (t : Fin (C m).N) (r : Fin 256) (s : Fin 2048)

theorem emb_0 :
    (((C m).win 0).blk t).view.emb (ix3 0 r s : S1x256x2048.Idx) = spot t r s :=
  funext fun a => Fin.ext ((Window.rect_emb_val ((C m).win 0) t (ix3 0 r s : S1x256x2048.Idx) a).trans (spot_val t r s a))
theorem emb_3 :
    (((C m).win 3).blk t).view.emb (ix3 0 r s : S1x256x2048.Idx) = spot t r s :=
  funext fun a => Fin.ext ((Window.rect_emb_val ((C m).win 3) t (ix3 0 r s : S1x256x2048.Idx) a).trans (spot_val t r s a))
theorem emb_4 :
    (((C m).win 4).blk t).view.emb (ix3 0 r s : S1x256x2048.Idx) = spot t r s :=
  funext fun a => Fin.ext ((Window.rect_emb_val ((C m).win 4) t (ix3 0 r s : S1x256x2048.Idx) a).trans (spot_val t r s a))
theorem emb_5 :
    (((C m).win 5).blk t).view.emb (ix3 0 r s : S1x256x2048.Idx) = spot t r s :=
  funext fun a => Fin.ext ((Window.rect_emb_val ((C m).win 5) t (ix3 0 r s : S1x256x2048.Idx) a).trans (spot_val t r s a))
theorem emb_6 :
    (((C m).win 6).blk t).view.emb (ix3 0 r s : S1x256x2048.Idx) = spot t r s :=
  funext fun a => Fin.ext ((Window.rect_emb_val ((C m).win 6) t (ix3 0 r s : S1x256x2048.Idx) a).trans (spot_val t r s a))
theorem emb_7 :
    (((C m).win 7).blk t).view.emb (ix3 0 r s : S1x256x2048.Idx) = spot t r s :=
  funext fun a => Fin.ext ((Window.rect_emb_val ((C m).win 7) t (ix3 0 r s : S1x256x2048.Idx) a).trans (spot_val t r s a))
theorem emb_8 :
    (((C m).win 8).blk t).view.emb (ix3 0 r s : S1x256x2048.Idx) = spot t r s :=
  funext fun a => Fin.ext ((Window.rect_emb_val ((C m).win 8) t (ix3 0 r s : S1x256x2048.Idx) a).trans (spot_val t r s a))

/-- Every block is some point's. -/
theorem points : ∀ β : (a : Fin 3) → Fin (((C m).win 5).nblk a), ∃ t : Fin grid0.N, ∀ a, cc0_transform_5 (grid0.coords t) a = (β a).val :=
  (by decide +kernel : ∀ β : (a : Fin 3) → Fin ((S2x1024x2048.size a + S1x256x2048.size a - 1) / S1x256x2048.size a), ∃ t : Fin grid0.N, ∀ a, cc0_transform_5 (grid0.coords t) a = (β a).val)

theorem covers_5 : ((C m).win 5).Covers :=
  ⟨(by decide : ∀ a : Fin 3, 0 < S1x256x2048.size a), fun β => (points m β).imp fun t h => ⟨flush0_5 _ t, fun a => ⟨h a, .inl rfl⟩⟩⟩
theorem covers_6 : ((C m).win 6).Covers :=
  ⟨(by decide : ∀ a : Fin 3, 0 < S1x256x2048.size a), fun β => (points m β).imp fun t h => ⟨flush0_6 _ t, fun a => ⟨h a, .inl rfl⟩⟩⟩
theorem covers_7 : ((C m).win 7).Covers :=
  ⟨(by decide : ∀ a : Fin 3, 0 < S1x256x2048.size a), fun β => (points m β).imp fun t h => ⟨flush0_7 _ t, fun a => ⟨h a, .inl rfl⟩⟩⟩
theorem covers_8 : ((C m).win 8).Covers :=
  ⟨(by decide : ∀ a : Fin 3, 0 < S1x256x2048.size a), fun β => (points m β).imp fun t h => ⟨flush0_8 _ t, fun a => ⟨h a, .inl rfl⟩⟩⟩

/-- The arguments' blocks at a point. -/
def blkW : Vec Ideal S1x256x2048 .f32 := iblk m (ok m) c 0 t
def blkMine : Vec Ideal S256x2048 .f32 := iblk m (ok m) c 1 t
def blkTheirs : Vec Ideal S256x2048 .f32 := iblk m (ok m) c 2 t
def blkM : Vec Ideal S1x256x2048 .f32 := iblk m (ok m) c 3 t
def blkV : Vec Ideal S1x256x2048 .f32 := iblk m (ok m) c 4 t

theorem blkW_at :
    blkW m c t (ix3 0 r s) = m ((c : Thread nD τ).loc main_arg0) (spot t r s) :=
  congrArg (m ((c : Thread nD τ).loc main_arg0)) (emb_0 m t r s)
theorem blkM_at :
    blkM m c t (ix3 0 r s) = m ((c : Thread nD τ).loc main_arg3) (spot t r s) :=
  congrArg (m ((c : Thread nD τ).loc main_arg3)) (emb_3 m t r s)
theorem blkV_at :
    blkV m c t (ix3 0 r s) = m ((c : Thread nD τ).loc main_arg4) (spot t r s) :=
  congrArg (m ((c : Thread nD τ).loc main_arg4)) (emb_4 m t r s)

/-- The gradient's half at a point. -/
abbrev half : Vec Ideal S256x2048 .f32 :=
  k0_pay4 (grid0.coords t) (core (tbl m)) (blkMine m c t) (blkTheirs m c t)

theorem half_at :
    half m c t (ix2 r s)
      = grad (m ((c : Thread nD τ).loc main_arg1)) (m ((c : Thread nD τ).loc main_arg2)) (core (tbl m)) (spot t r s) := by
  show (Scalar.select (Scalar.cmpi .eq (BitVec.ofNat 32 (grid0.coords t 0).val) (core (tbl m))) (blkMine m c t) (blkTheirs m c t)) (ix2 r s)
    = if BitVec.ofNat 32 (grid0.coords t 0).val = core (tbl m) then _ else _
  rw [pick_eq]
  by_cases h : BitVec.ofNat 32 (grid0.coords t 0).val = core (tbl m)
  · rw [if_pos h, if_pos h]
    exact congrArg (m ((c : Thread nD τ).loc main_arg1)) (funext fun a => Fin.ext
      ((Window.rect_emb_val ((C m).win 1) t (ix2 r s : S256x2048.Idx) a).trans
        ((congrArg (fun f : Fin 2 → ℕ => f a * S256x2048.size a + ((ix2 r s : S256x2048.Idx) a).val) (transform_1 (tbl m) (grid0.coords t))).trans
          (half_val (n := 4) rfl (by decide) (grid0.coords t 0) (grid0.coords t 1) _ (if_pos h) r s a))))
  · rw [if_neg h, if_neg h]
    exact congrArg (m ((c : Thread nD τ).loc main_arg2)) (funext fun a => Fin.ext
      ((Window.rect_emb_val ((C m).win 2) t (ix2 r s : S256x2048.Idx) a).trans
        ((congrArg (fun f : Fin 2 → ℕ => f a * S256x2048.size a + ((ix2 r s : S256x2048.Idx) a).val) (transform_2 (tbl m) (grid0.coords t))).trans
          (half_val (n := 4) rfl (by decide) (grid0.coords t 0) (grid0.coords t 1) _ (if_neg h) r s a))))

/-- A block's rows, as the body takes them, and as it leaves them. -/
abbrev rows (x : Vec Ideal S1x256x2048 .f32) : Vec Ideal S256x2048 .f32 := shapeCast S256x2048 x shapeCasts_S1x256x2048_S256x2048
abbrev block (x : Vec Ideal S256x2048 .f32) : Vec Ideal S1x256x2048 .f32 := shapeCast S1x256x2048 x shapeCasts_S256x2048_S1x256x2048

theorem rows_at (x : Vec Ideal S1x256x2048 .f32) (r : Fin 256) (s : Fin 2048) : rows x (ix2 r s) = x (ix3 0 r s) := by
  pointwise

theorem block_at (x : Vec Ideal S256x2048 .f32) (r : Fin 256) (s : Fin 2048) : block x (ix3 0 r s) = x (ix2 r s) := by
  pointwise

/-- What the body leaves in the four results' blocks, of the five arguments' blocks and the core's number. -/
def left (i : grid0.Coords) (k : BitVec 32) (w : Vec Ideal S1x256x2048 .f32) (a b : Vec Ideal S256x2048 .f32) (x v : Vec Ideal S1x256x2048 .f32) :
    Vec Ideal S1x256x2048 .f32 × Vec Ideal S1x256x2048 .f32 × Vec Ideal S1x256x2048 .f32 × Vec Ideal S1x256x2048 .f32 :=
  (block (k0_pay4 i k a b), block (delta (rows w) (k0_pay4 i k a b) (rows x) (rows v)), block (first (rows x) (k0_pay4 i k a b)),
    block (second (rows v) (k0_pay4 i k a b)))

set_option maxHeartbeats 1000000 in
theorem outs_eq : outsAt0 m (ok m) c t
    = left (grid0.coords t) (core (tbl m)) (blkW m c t) (blkMine m c t) (blkTheirs m c t) (blkM m c t) (blkV m c t) := by
  have e : left (grid0.coords t) (core (tbl m))
      ((ms0_0 m (ok m) t).view.read (Elt Ideal) ((hs0_0 m (ok m) t).unread (blkW m c t)))
      ((ms0_1 m (ok m) t).view.read (Elt Ideal) ((hs0_1 m (ok m) t).unread (blkMine m c t)))
      ((ms0_2 m (ok m) t).view.read (Elt Ideal) ((hs0_2 m (ok m) t).unread (blkTheirs m c t)))
      ((ms0_3 m (ok m) t).view.read (Elt Ideal) ((hs0_3 m (ok m) t).unread (blkM m c t)))
      ((ms0_4 m (ok m) t).view.read (Elt Ideal) ((hs0_4 m (ok m) t).unread (blkV m c t)))
      = left (grid0.coords t) (core (tbl m)) (blkW m c t) (blkMine m c t) (blkTheirs m c t) (blkM m c t) (blkV m c t) := by
    rw [Memref.IsWhole.read_unread, Memref.IsWhole.read_unread, Memref.IsWhole.read_unread, Memref.IsWhole.read_unread, Memref.IsWhole.read_unread]
  unfold outsAt0
  refine Prod.ext ?_ <| Prod.ext ?_ <| Prod.ext ?_ ?_
  · frame_out
    exact congrArg (·.1) e
  · frame_out
    exact congrArg (·.2.1) e
  · frame_out
    exact congrArg (·.2.2.1) e
  · frame_out
    exact congrArg (·.2.2.2) e

/-- The whole gradient, of the launch memory. -/
def whole : FVec Ideal S2x1024x2048 .f32 :=
  grad (m ((c : Thread nD τ).loc main_arg1)) (m ((c : Thread nD τ).loc main_arg2)) (core (tbl m))

/-- The halves put together, -/
theorem grad_end : (dats m (ok m) 0 c).arrAt 5 (C m).N
    = (whole m c) := by
  refine (dats m (ok m) 0 c).arrAt_eq_of_covers 5 _ (covers_5 m) fun t hf (y : S1x256x2048.Idx) => ?_
  rw [ix_eq (b := 256) (w := 2048) y]
  refine (congrFun ((after0_5 m (ok m) c t).trans (congrArg (·.1) (outs_eq m c t))) _).trans ((block_at (half m c t) _ _).trans ?_)
  exact (half_at m c t _ _).trans (congrArg ((whole m c)) (emb_5 m t _ _)).symm

/-- the step, -/
theorem delta_end : (dats m (ok m) 0 c).arrAt 6 (C m).N
    = delta (m ((c : Thread nD τ).loc main_arg0)) (whole m c) (m ((c : Thread nD τ).loc main_arg3)) (m ((c : Thread nD τ).loc main_arg4)) := by
  refine (dats m (ok m) 0 c).arrAt_eq_of_covers 6 _ (covers_6 m) fun t hf (y : S1x256x2048.Idx) => ?_
  rw [ix_eq (b := 256) (w := 2048) y]
  refine (congrFun ((after0_6 m (ok m) c t).trans (congrArg (·.2.1) (outs_eq m c t))) _).trans ((block_at (delta (rows (blkW m c t)) (half m c t) (rows (blkM m c t)) (rows (blkV m c t))) _ _).trans ?_)
  exact (delta_at ((rows_at _ _ _).trans (blkW_at m c t _ _)) (half_at m c t _ _) ((rows_at _ _ _).trans (blkM_at m c t _ _)) ((rows_at _ _ _).trans (blkV_at m c t _ _))).trans (congrArg (delta (m ((c : Thread nD τ).loc main_arg0)) (whole m c) (m ((c : Thread nD τ).loc main_arg3)) (m ((c : Thread nD τ).loc main_arg4))) (emb_6 m t _ _)).symm

/-- and the two moments. -/
theorem first_end : (dats m (ok m) 0 c).arrAt 7 (C m).N
    = first (m ((c : Thread nD τ).loc main_arg3)) (whole m c) := by
  refine (dats m (ok m) 0 c).arrAt_eq_of_covers 7 _ (covers_7 m) fun t hf (y : S1x256x2048.Idx) => ?_
  rw [ix_eq (b := 256) (w := 2048) y]
  refine (congrFun ((after0_7 m (ok m) c t).trans (congrArg (·.2.2.1) (outs_eq m c t))) _).trans ((block_at (first (rows (blkM m c t)) (half m c t)) _ _).trans ?_)
  exact (first_at ((rows_at _ _ _).trans (blkM_at m c t _ _)) (half_at m c t _ _)).trans (congrArg (first (m ((c : Thread nD τ).loc main_arg3)) (whole m c)) (emb_7 m t _ _)).symm

theorem second_end : (dats m (ok m) 0 c).arrAt 8 (C m).N
    = second (m ((c : Thread nD τ).loc main_arg4)) (whole m c) := by
  refine (dats m (ok m) 0 c).arrAt_eq_of_covers 8 _ (covers_8 m) fun t hf (y : S1x256x2048.Idx) => ?_
  rw [ix_eq (b := 256) (w := 2048) y]
  refine (congrFun ((after0_8 m (ok m) c t).trans (congrArg (·.2.2.2) (outs_eq m c t))) _).trans ((block_at (second (rows (blkV m c t)) (half m c t)) _ _).trans ?_)
  exact (second_at ((rows_at _ _ _).trans (blkV_at m c t _ _)) (half_at m c t _ _)).trans (congrArg (second (m ((c : Thread nD τ).loc main_arg4)) (whole m c)) (emb_8 m t _ _)).symm

/-- The core's number is the last argument's one element. -/
theorem core_eq (c : Dev nD) : core (tbl m) = (m ((c : Thread nD τ).loc main_arg5) : S1.Idx → BitVec 32) (ix1 0) := by
  obtain rfl : c = 0 := Subsingleton.elim _ _
  exact congrArg (m (((0 : Dev nD) : Thread nD τ).loc main_arg5)) (only _)

/-- The gradient as the reference puts it together. -/
theorem whole_eq (c : Dev nD) (a b : FVec Ideal S1024x2048 .f32) (k : IVec S1 32) (ha : a = m ((c : Thread nD τ).loc main_arg1))
    (hb : b = m ((c : Thread nD τ).loc main_arg2)) (hk : k = m ((c : Thread nD τ).loc main_arg5)) :
    whole m c = Cert.ReferenceStepMlpIdeal.together a b k := by
  subst ha hb hk
  funext x
  rw [whole, core_eq m c, grad, ← pick_eq]
  pointwise
  rfl

theorem algebraic : Cert.algebraic_KernelStepMlpIdeal_ReferenceStepMlpIdeal := by
  intro m g m' g' _ hargs
  refine ⟨_, _, _, _, (θ_run _ _ _).mono (fun r h c => ?_) (θ_run_and (Gen.run_main m g (ok m)) (Gen.unchanged m g (ok m))),
    (θ_run _ _ _).mono (fun _ h => h) (Cert.ReferenceStepMlpIdeal.Value.run m' g')⟩
  obtain ⟨e0, e1, e2, e3, e4, e5⟩ := hargs c
  have e := whole_eq m c _ _ _ e1 e2 e5
  refine ⟨((h.1 c).1 5).trans ((grad_end m c).trans e), ((h.1 c).1 6).trans ((delta_end m c).trans ?_),
    ((h.1 c).1 7).trans ((first_end m c).trans ?_), ((h.1 c).1 8).trans ((second_end m c).trans ?_), h.2 c⟩
  · rw [e, ← e0, ← e3, ← e4]; rfl
  · rw [e, ← e3]; rfl
  · rw [e, ← e4]; rfl

end Cert.StepMlp

end
-- ==== Proof.NormRow.lean ====
/-
  The input gradient of a normalised row, in the form the call computes it and in the form the reference does: equal over the
  extended reals, whatever the row holds.
-/
module

public import Idealize.ShloMosaic.PureOps.Ideal

@[expose] public section

noncomputable section

namespace Cert.NormRow

open Idealize.ShloMosaic

variable {ι : Type} [Fintype ι]

theorem div_real (y : EReal) {n : ℝ} (hn : 0 < n) : Ideal.div y (n : EReal) = y * ((n⁻¹ : ℝ) : EReal) := by
  unfold Ideal.div
  rw [if_neg (by exact_mod_cast hn.ne'), EReal.coe_inv]

/-- A positive real passes through a sum. -/
theorem mul_sum_real (r : ℝ) (hr : 0 < r) (S : Finset ι) (f : ι → EReal) : (r : EReal) * ∑ k ∈ S, f k = ∑ k ∈ S, (r : EReal) * f k := by
  classical
  induction S using Finset.induction with
  | empty => simp
  | insert a S ha ih =>
    rw [Finset.sum_insert ha, Finset.sum_insert ha, ← ih,
      EReal.left_distrib_of_nonneg_of_ne_top (by exact_mod_cast hr.le) (EReal.coe_ne_top r)]

theorem add_self (y : EReal) : y + y = ((2 : ℝ) : EReal) * y := by
  induction y with
  | bot => rw [EReal.coe_mul_bot_of_pos two_pos]; rfl
  | top => rw [EReal.coe_mul_top_of_pos two_pos]; rfl
  | coe y => rw [← EReal.coe_add, ← EReal.coe_mul, two_mul]

/-- A square is not below zero, and finite only of a finite element. -/
theorem sq_nonneg (y : EReal) : 0 ≤ y * y := by
  induction y with
  | bot => simp
  | top => simp
  | coe y => exact_mod_cast mul_self_nonneg y

theorem sq_real {y : EReal} (h : y * y ≠ ⊤) : ∃ r : ℝ, y = r := by
  induction y with
  | bot => exact absurd EReal.bot_mul_bot h
  | top => exact absurd EReal.top_mul_top h
  | coe y => exact ⟨y, rfl⟩

/-- The mean square plus a constant, -/
def level (x : ι → EReal) (n ε : EReal) : EReal := Ideal.div (∑ k, x k * x k) n + ε

/-- the gradient as the call computes it, -/
def called (x w : ι → EReal) (n ε : EReal) (d : EReal) (s : ι) : EReal :=
  d + Ideal.rsqrt (level x n ε) * (w s - x s * Ideal.rsqrt (level x n ε) * Ideal.div (∑ k, w k * (x k * Ideal.rsqrt (level x n ε))) n)

/-- the part of a row's gradient that reaches each of its elements through the mean square, -/
def through (x w : ι → EReal) (n ε h : EReal) : EReal :=
  Ideal.div ((∑ k, x k * w k) * (h * Ideal.div (Ideal.rsqrt (level x n ε)) (level x n ε))) n

/-- and the gradient as the reference computes it. -/
def plain (x w : ι → EReal) (n ε h : EReal) (d : EReal) (s : ι) : EReal :=
  d + (w s * Ideal.rsqrt (level x n ε) + x s * through x w n ε h + through x w n ε h * x s)

theorem called_eq_plain (x w : ι → EReal) {n ε : ℝ} (hn : 0 < n) (hε : 0 < ε) (d : EReal) (s : ι) :
    called x w n ε d s = plain x w n ε ((-1 / 2 : ℝ) : EReal) d s := by
  unfold called plain through
  have h0 : 0 ≤ ∑ k, x k * x k := Finset.sum_nonneg fun k _ => sq_nonneg (x k)
  rcases eq_or_ne (∑ k, x k * x k) ⊤ with ht | ht
  · have e : level x n ε = ⊤ := by
      unfold level
      rw [ht, div_real _ hn, EReal.top_mul_coe_of_pos (inv_pos.mpr hn), EReal.top_add_coe]
    rw [e, Ideal.rsqrt_top, zero_mul, div_real _ hn]
    unfold Ideal.div
    simp
  · obtain ⟨σ, hσ⟩ : ∃ σ : ℝ, ∑ k, x k * x k = σ :=
      ⟨_, (EReal.coe_toReal ht (fun h => by rw [h] at h0; exact absurd h0 (by simp))).symm⟩
    have hσ0 : 0 ≤ σ := by rw [hσ] at h0; exact_mod_cast h0
    have hx : ∀ k, ∃ r : ℝ, x k = r := fun k => sq_real fun h => ht (top_le_iff.mp (h ▸
      Finset.single_le_sum (f := fun k => x k * x k) (fun k _ => sq_nonneg (x k)) (Finset.mem_univ k)))
    choose ξ hξ using hx
    obtain rfl : x = fun k => (ξ k : EReal) := funext hξ
    have hδ0 : 0 < σ * n⁻¹ + ε := by positivity
    have e : level (fun k => (ξ k : EReal)) n ε = ((σ * n⁻¹ + ε : ℝ) : EReal) := by
      unfold level
      rw [hσ, div_real _ hn]; push_cast; rfl
    rw [e, Ideal.rsqrt_coe, if_neg hδ0.not_gt, if_neg hδ0.ne']
    generalize σ * n⁻¹ + ε = δ at hδ0
    have hρ0 : 0 < (Real.sqrt δ)⁻¹ := inv_pos.mpr (Real.sqrt_pos.mpr hδ0)
    have hρ : δ⁻¹ = (Real.sqrt δ)⁻¹ * (Real.sqrt δ)⁻¹ := by rw [← mul_inv, Real.mul_self_sqrt hδ0.le]
    rw [div_real _ hδ0, div_real _ hn, div_real _ hn, hρ]
    generalize (Real.sqrt δ)⁻¹ = ρ at hρ0
    dsimp only
    have hsum : ∑ k, w k * ((ξ k : EReal) * (ρ : EReal)) = (ρ : EReal) * ∑ k, (ξ k : EReal) * w k := by
      rw [mul_sum_real ρ hρ0]
      exact Finset.sum_congr rfl fun k _ => by rw [mul_comm (w k), mul_comm (ξ k : EReal) ρ, mul_assoc]
    rw [hsum]
    generalize (∑ k, (ξ k : EReal) * w k) = T
    have hk : (ξ s : EReal) * (ρ : EReal) * ((ρ : EReal) * T * ((n⁻¹ : ℝ) : EReal)) = ((ξ s * ρ * ρ * n⁻¹ : ℝ) : EReal) * T := by
      push_cast; ac_rfl
    have hy : (T * (((-1 / 2 : ℝ) : EReal) * ((ρ : EReal) * ((ρ * ρ : ℝ) : EReal))) * ((n⁻¹ : ℝ) : EReal)) * (ξ s : EReal)
        = ((-1 / 2 * (ρ * (ρ * ρ)) * n⁻¹ * ξ s : ℝ) : EReal) * T := by
      simp only [EReal.coe_mul]; ac_rfl
    rw [hk, mul_comm (ξ s : EReal) (_ * _), hy, add_assoc, add_self, ← mul_assoc, ← EReal.coe_mul, sub_eq_add_neg,
      EReal.left_distrib_of_nonneg_of_ne_top (by exact_mod_cast hρ0.le) (EReal.coe_ne_top ρ), mul_comm (w s), ← EReal.neg_mul,
      ← EReal.coe_neg, ← mul_assoc, ← EReal.coe_mul]
    congr 4
    ring

end Cert.NormRow

end
-- ==== Proof.NormDxBody.lean ====
/-
  The body of the first normalisation's backward pass at one block of rows: what it leaves in the buffer of the input
  gradient; of its other two outputs only that they are held.
-/
module

public import proofs.«01_k».proof.Proof.Gen.KernelNormDxIdeal.Frame
public import proofs.«01_k».proof.Proof.Gen.KernelNormDxIdeal.Skeleton
public import Idealize.ShloMosaic.Lib.Pipeline.Frame
public import Idealize.ShloMosaic.Lib.Pipeline.Value
public import Idealize.ShloMosaic.Lib.Tactic

@[expose] public section

set_option maxRecDepth 16384

noncomputable section

namespace Cert.NormDx

open Cert.KernelNormDxIdeal Cert.KernelNormDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch's condition. -/
abbrev first (i : grid0.Coords) : BitVec 1 :=
  Scalar.cmpi .ne (Scalar.extui (Scalar.cmpi .eq (BitVec.ofNat 32 (i 0).val) 0#32) : BitVec 32) 0#32

/-- Which branches a point takes. -/
theorem branches : ∀ t : Fin cfg0.N,
    (first (grid0.coords t) = 1#1 ∧ k0_cond2 (grid0.coords t) = 1#1 ∧ ¬ k0_cond3 (grid0.coords t) = 1#1)
    ∨ (¬ first (grid0.coords t) = 1#1 ∧ k0_cond2 (grid0.coords t) = 1#1 ∧ ¬ k0_cond3 (grid0.coords t) = 1#1)
    ∨ (¬ first (grid0.coords t) = 1#1 ∧ ¬ k0_cond2 (grid0.coords t) = 1#1 ∧ k0_cond3 (grid0.coords t) = 1#1) :=
  (by decide +kernel : ∀ t : Fin grid0.N, _)

theorem writes_iff : ∀ t : Fin cfg0.N, k0_cond2 (grid0.coords t) = 1#1 ↔ t.val < 32 := (by decide +kernel : ∀ t : Fin grid0.N, _)

theorem flush_iff : ∀ t : Fin cfg0.N, (cfg0.win 4).flush t = true ↔ t.val ≠ 31 :=
  (by decide +kernel : ∀ t : Fin grid0.N, win0_4.flush t = true ↔ t.val ≠ 31)

theorem zero2 : (![0, 0] : Fin 2 → ℕ) = fun _ => 0 := by decide

abbrev rBlk : Rect S128x2048 := Rect.unit (s := S128x2048) ![0, 0] S128x2048.size inb_S128x2048_S128x2048_0_0
abbrev rRow : Rect S1x2048 := Rect.unit (s := S1x2048) ![0, 0] S1x2048.size inb_S1x2048_S1x2048_0_0

/-- The stored block, as the body's loads read its operands. -/
theorem stored_eq (x0 : Vec F S128x2048 .f32) (x1 : Vec F S1x2048 .f32) (x2 : Vec F S128x2048 .bf16) (x3 : Vec F S128x2048 .bf16) :
    View.canon [(⟨rBlk, k0_pay6 (View.ld x2 rBlk) (View.ld x0 rBlk) (View.ld x1 rRow) (View.ld x3 rBlk)⟩ : View.Piece (Elt F) S128x2048 .f32)]
      = k0_pay6 x2 x0 x1 x3 := by
  rw [View.canon_unit_zero zero2, View.ld_unit_zero zero2, View.ld_unit_zero zero2, View.ld_unit_zero zero2, View.ld_unit_zero zero2]

theorem cover (p : Vec F S128x2048 .f32) (y : S128x2048.Idx) :
    ∃ pc ∈ ([⟨rBlk, p⟩] : List (View.Piece (Elt F) S128x2048 .f32)), y ∈ pc.1.set :=
  View.cover_of_tiled [⟨rBlk, p⟩] S128x2048.size (by rfl) y

set_option maxHeartbeats 4000000 in
/-- The body on whole buffers: the arguments as they were, the input gradient's block stored where the point stores it, the
    other two outputs at whatever they hold. -/
theorem sound_kernel (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .f32) (harg5 : arg5.IsWhole) (arg6 : Memref sig .tc .vmem S16x2048 .f32) (harg6 : arg6.IsWhole) (arg7 : Memref sig .tc .vmem S8x2048 .f32) (harg7 : arg7.IsWhole)
    (hi : (first i = 1#1 ∧ k0_cond2 i = 1#1 ∧ ¬ k0_cond3 i = 1#1) ∨ (¬ first i = 1#1 ∧ k0_cond2 i = 1#1 ∧ ¬ k0_cond3 i = 1#1)
      ∨ (¬ first i = 1#1 ∧ ¬ k0_cond2 i = 1#1 ∧ k0_cond3 i = 1#1))
    (x0 : Vec F S128x2048 .f32) (x1 : Vec F S1x2048 .f32) (x2 : Vec F S128x2048 .bf16) (x3 : Vec F S128x2048 .bf16) (x4 : Vec F S128x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if k0_cond2 i = 1#1 then k0_pay6 x2 x0 x1 x3 else x4) ∗ (∃ d, owns (c : Thread nD τ) arg6 fullShare d) ∗ (∃ d, owns (c : Thread nD τ) arg7 fullShare d)) -∗ K ⟨⟩))
      ⊢ wp frame (wpE (defs₀ (F := F)) Variants.none c none) Set.univ (cc0_norm1_bwd i arg1 harg1 arg2 harg2 arg3 harg3 arg4 harg4 arg5 harg5 arg6 harg6 arg7 harg7) K := by
  simp only [cc0_norm1_bwd_eq_skeleton]; unfold cc0_norm1_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  rcases hi with ⟨h1, h2, h3⟩ | ⟨h1, h2, h3⟩ | ⟨h1, h2, h3⟩ <;> sl_exec <;> sl_step <;> iapply Hk <;>
    (isplitl [H0]
     · iexists f0; isplitr; · ipureintro; rfl
       iexact H0) <;>
    (isplitl [H1]
     · iexists f1; isplitr; · ipureintro; rfl
       iexact H1) <;>
    (isplitl [H2]
     · iexists f2; isplitr; · ipureintro; rfl
       iexact H2) <;>
    (isplitl [H3]
     · iexists f3; isplitr; · ipureintro; rfl
       iexact H3) <;>
    (isplitl [H4]
     · iexists _; isplitr
       swap; · iexact H4
       ipureintro
       first
         | (rw [if_pos h2]; exact (View.read_writes_eq_canon _ _ _ (cover _)).trans (stored_eq _ _ _ _))
         | rw [if_neg h2]) <;>
    (isplitl [H5]
     · iexists _; iexists _; isplitr
       swap; · iexact H5
       ipureintro; rfl) <;>
    (iexists _; iexists _; isplitr
     swap; · iexact H6
     ipureintro; rfl)

/-! ## The run -/

/-- The point that stores what a point writes back. -/
def from_ (t : Fin cfg0.N) : Fin cfg0.N := ⟨min t.val 31, Nat.lt_of_le_of_lt (Nat.min_le_left _ _) t.isLt⟩

/-- The input gradient's block of a point. -/
def pay (c : Dev nD) (t : Fin cfg0.N) : Vec F S128x2048 .f32 := k0_pay6 (iblk m c 2 t) (iblk m c 0 t) (iblk m c 1 t) (iblk m c 3 t)

/-- What the body leaves: the arguments' blocks, the input gradient's block last stored; the other two outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pay m c (from_ t)
    | ⟨5, _⟩ => Dat.unnamed (cfg := cfg0) 5 t
    | ⟨6, _⟩ => Dat.unnamed (cfg := cfg0) 6 t
  Φ _ := Pipeline.ΦA spec0 c
  q _ := fullShare
  owed _ := 0

/-- The other two outputs. -/
def forgets : Fin 7 → Bool := ![false, false, false, false, false, true, true]

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = pay m c (from_ t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

theorem idle_of_writes (t : Fin cfg0.N) (h : t.val < 32) : cfg0.idle 4 (cfg0.grid.coords t) = false := by
  show (!(k0_cond2 (grid0.coords t) == 1#1)) = false
  rw [(writes_iff t).mpr h]; rfl

/-- At the last point the buffer still holds the block stored at the point before. -/
theorem before_4 (c : Dev nD) (t : Fin cfg0.N) (h : ¬ t.val < 32) (d) : (dats m 0 c).before 4 t d = pay m c (from_ t) := by
  have hN : t.val < 33 := t.isLt
  have ht : t.val - 1 = 31 := by omega
  have e : (⟨t.val - 1, Nat.lt_of_le_of_lt (Nat.sub_le _ _) t.isLt⟩ : Fin cfg0.N) = from_ t := Fin.ext (by unfold from_; dsimp only; omega)
  have e' : from_ (from_ t) = from_ t := Fin.ext (by unfold from_; dsimp only; omega)
  have hv : (from_ t).val = 31 := by unfold from_; dsimp only; omega
  rw [(dats m 0 c).before_of_pos 4 t (by omega) ((cfg0.win 4).fetch_out rfl t), e,
    show (cfg0.win 4).flush (from_ t) = false from Bool.eq_false_iff.mpr fun h => (flush_iff _).mp h hv, if_neg Bool.false_ne_true]
  unfold Dat.left
  rw [idle_of_writes _ (by omega)]
  show (dats m 0 c).after 4 (from_ t) = _
  rw [after_4, e']

/-- What a point leaves in that buffer, as the pipeline asks for it. -/
theorem left_4 (c : Dev nD) (t : Fin cfg0.N) (d : S128x2048.Idx → Elt F .f32) :
    owns (c : Thread nD τ) (st0_4 t) fullShare (if k0_cond2 (grid0.coords t) = 1#1 then pay m c t else (dats m 0 c).before 4 t d)
      ⊢ (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) : sProp 𝕄) := by
  by_cases h : t.val < 32
  · rw [if_pos ((writes_iff t).mpr h), idle_of_writes t h, after_4,
      show from_ t = t from Fin.ext (by unfold from_; dsimp only; omega)]
  · have hN : t.val < 33 := t.isLt
    rw [if_neg fun e => h ((writes_iff t).mp e), before_4 m c t h d, show cfg0.idle 4 (cfg0.grid.coords t) = true from by
        show (!(k0_cond2 (grid0.coords t) == 1#1)) = true
        rw [show (k0_cond2 (grid0.coords t) == 1#1) = false from beq_false_of_ne fun e => h ((writes_iff t).mp e)]; rfl,
      (flush_iff t).mpr (by omega), after_4]

/-- The body obligation, the other two outputs forgotten. -/
theorem body_obligation (c : Dev nD) : BodyObligation (dats (F := F) m 0 c) (defs₀ (F := F)) Variants.none () Set.univ forgets := fun t => by
  rw [bigSep_W0, bigSep_W0]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare d)
      ∗ (∃ d, owns (c : Thread nD τ) (st0_6 t) fullShare d))
    ⊢ wp frame (wpE (defs₀ (F := F)) Variants.none c none) Set.univ (bodyAt0 t) (fun _ => iprop((dats m 0 c).Φ t.castSucc ∗ (dats m 0 c).owesAt () t.castSucc
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t))
      ∗ (∃ d, owns (c : Thread nD τ) (st0_5 t) fullShare d)
      ∗ (∃ d, owns (c : Thread nD τ) (st0_6 t) fullShare d)))
  unfold bodyAt0
  simp only [before_0, before_1, before_2, before_3]
  iintro ⟨HΦ, Ho, ⟨%d0, H0⟩, ⟨%d1, H1⟩, ⟨%d2, H2⟩, ⟨%d3, H3⟩, ⟨%d4, H4⟩, H5, H6⟩
  iapply (sound_kernel c (grid0.coords t) _ _ _ _ _ _ _ _ _ _ _ _ _ _ (branches t) (iblk m c 0 t) (iblk m c 1 t) (iblk m c 2 t) (iblk m c 3 t) ((dats m 0 c).before 4 t d4) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (left_4 m c t d4)
    iexact H4
  isplitl [H5]; · iexact H5
  iexact H6

set_option backward.isDefEq.respectTransparency.types false in
set_option maxHeartbeats 800000 in
theorem run_forget : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Where the run ends: the input gradient at its blocks, the arguments unchanged, every semaphore back at zero. -/
theorem run_main : θ_run defs (onTc (τ := τ) (main (F := F))) ⟨m, fun _ => 0, ρ⟩ (fun r => (∀ c : Dev nD,
      r.2.mem ((c : Thread nD τ).loc main_v0_0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c =>
    ⟨((dats m 0 c).toRForget_arrAt_iff (fgt := forgets) (w := 4) rfl cfg0.N _).mp ((h.1 c).1 4),
      (((dats m 0 c).toRForget_arrAt_iff (fgt := forgets) (w := 0) rfl cfg0.N _).mp ((h.1 c).1 0)).trans ((dats m 0 c).arrAt_in 0 rfl _),
      (((dats m 0 c).toRForget_arrAt_iff (fgt := forgets) (w := 1) rfl cfg0.N _).mp ((h.1 c).1 1)).trans ((dats m 0 c).arrAt_in 1 rfl _),
      (((dats m 0 c).toRForget_arrAt_iff (fgt := forgets) (w := 2) rfl cfg0.N _).mp ((h.1 c).1 2)).trans ((dats m 0 c).arrAt_in 2 rfl _),
      (((dats m 0 c).toRForget_arrAt_iff (fgt := forgets) (w := 3) rfl cfg0.N _).mp ((h.1 c).1 3)).trans ((dats m 0 c).arrAt_in 3 rfl _)⟩, h.2⟩)
    (run_forget m ρ)

end Cert.NormDx

end
-- ==== Proof.NormDx.lean ====
/-
  The first normalisation's backward pass: the input gradient the call leaves is the reference's; and its two frames.
-/
module

public import proofs.«01_k».proof.Defs
public import proofs.«01_k».proof.Proof.Reads
public import proofs.«01_k».proof.Proof.NormRow
public import proofs.«01_k».proof.Proof.NormDxBody
public import proofs.«01_k».proof.Proof.Gen.KernelNormDx
public import proofs.«01_k».proof.Proof.Gen.ReferenceNormDxIdeal.Run
public import Idealize.ShloMosaic.Lib.Affine
public import Idealize.ShloMosaic.Lib.Pipeline.ValueKit

@[expose] public section

set_option maxRecDepth 16384

noncomputable section

namespace Cert.NormDx

open Cert.KernelNormDxIdeal Cert.KernelNormDxIdeal.Gen Cert.Exchange Cert.NormRow

open Idealize.ShloMosaic Idealize.ShloMosaic.TcCoe
open Idealize.SL Idealize.SL.Sem
open Idealize.ShloMosaic.Pipeline (Dat Cfg Window)

section Frames

variable {F : FTy → Type} [FloatOps F]

/-- The arguments end unchanged, the semaphores at zero. -/
theorem run_frame (m : (ℓ : Loc nD τ sig) → Buf (Elt F) ℓ) (g : Dev nD → PrngReg) :
    θ_run (Cert.KernelNormDxIdeal.defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run Cert.KernelNormDxIdeal.defs _ _).mono (fun _ h => ⟨fun c => (h.1 c).2, h.2⟩) (run_main m g)

theorem frame_ideal : Cert.quiescent_KernelNormDxIdeal := fun m g _ => run_frame (F := Ideal) m g

/-- The two printed programs have one body table. -/
theorem bodies_eq : Cert.KernelNormDx.defs₀ (F := F) = Cert.KernelNormDxIdeal.defs₀ (F := F) :=
  congrArg (Defs.onTc (τ := Cert.KernelNormDx.τ)) (funext fun b => funext fun a => match b, a with
    | ⟨0, _⟩, (t, s) => rfl
    | ⟨_ + 1, h⟩, _ => absurd h (Nat.not_lt.2 (Nat.le_add_left _ _)))

theorem defs_eq : Cert.KernelNormDx.defs (F := F) = Cert.KernelNormDxIdeal.defs (F := F) := by
  unfold Cert.KernelNormDx.defs Cert.KernelNormDxIdeal.defs
  rw [bodies_eq]
  rfl

theorem frame_kernel : Cert.quiescent_KernelNormDx := fun m g _ => by
  rw [defs_eq]
  exact run_frame (F := Bits) m g

theorem frame_ref : Cert.quiescent_ReferenceNormDxIdeal := fun m g _ =>
  (θ_run _ _ _).mono (fun r h => ⟨fun c => (h c).2, sem_eq_zero_of_no_sems (by decide) r.2⟩)
    (Cert.ReferenceNormDxIdeal.Value.run m g)

end Frames

/-! The three constants. -/

theorem length_eq : Ideal.ofBits FTy.f32 0x45000000#32 = ((2048 : ℝ) : EReal) := by
  simp [Ideal.ofBits, Ideal.ieee, -EReal.coe_mul] <;> norm_num

theorem half_eq : Ideal.ofBits FTy.f32 0xBF000000#32 = ((-1 / 2 : ℝ) : EReal) := by
  simp [Ideal.ofBits, Ideal.ieee, -EReal.coe_mul] <;> norm_num

theorem eps_eq : ∃ ε : ℝ, 0 < ε ∧ Ideal.ofBits FTy.f32 0x358637BD#32 = (ε : EReal) :=
  ⟨8796093 / 2 ^ 43, by positivity, by simp [Ideal.ofBits, Ideal.ieee, -EReal.coe_mul] <;> norm_num⟩

abbrev len : EReal := Ideal.ofBits FTy.f32 0x45000000#32
abbrev eps : EReal := Ideal.ofBits FTy.f32 0x358637BD#32
abbrev neg : EReal := Ideal.ofBits FTy.f32 0xBF000000#32

/-- The input gradient at a row and a column, of the arguments. -/
def grad (h : S4224x2048.Idx → EReal) (g : S1x2048.Idx → EReal) (u d : S4224x2048.Idx → EReal) (R : Fin 4224) (s : Fin 2048) : EReal :=
  called (fun k => h (ix2 R k)) (fun k => u (ix2 R k) * g (ix2 0 k)) len eps (d (ix2 R s)) s

theorem pay_at (x : Vec Ideal S128x2048 .f32) (g : Vec Ideal S1x2048 .f32) (u d : Vec Ideal S128x2048 .bf16) (r : Fin 128) (s : Fin 2048) :
    k0_pay6 u x g d (ix2 r s) = called (fun k => x (ix2 r k)) (fun k => u (ix2 r k) * g (ix2 0 k)) len eps (d (ix2 r s)) s := by
  pointwise [k0_pay6, k0_pay5, k0_pay4, k0_pay3, called, level]

/-- The first rows of the arguments are the result's. -/
abbrev up (r : Fin 4096) : Fin 4224 := ⟨r.val, Nat.lt_of_lt_of_le r.isLt (by decide)⟩

variable (m : (ℓ : Loc nD τ sig) → Buf (Elt Ideal) ℓ)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![min t.val 31, 0] := (by decide +kernel : ∀ t : Fin grid0.N, _)

/-- A point's row of a block in the arguments. -/
abbrev row (t : Fin cfg0.N) (r : Fin 128) : Fin 4224 := ⟨t.val * 128 + r.val, by
  have ht : t.val < 33 := t.isLt
  have := r.isLt
  omega⟩

theorem blk_0 (c : Dev nD) (t : Fin cfg0.N) (r : Fin 128) (k : Fin 2048) :
    iblk m c 0 t (ix2 r k : S128x2048.Idx) = m ((c : Thread nD τ).loc main_arg0) (ix2 (row t r) k) := by
  blk_simp [iblk, index_0]
  refine congrArg (m ((c : Thread nD τ).loc main_arg0)) ?_
  blk_ext [index_0]
theorem blk_1 (c : Dev nD) (t : Fin cfg0.N) (k : Fin 2048) :
    iblk m c 1 t (ix2 0 k : S1x2048.Idx) = m ((c : Thread nD τ).loc main_arg1) (ix2 0 k) := by
  blk_simp [iblk, index_1]
  refine congrArg (m ((c : Thread nD τ).loc main_arg1)) ?_
  blk_ext [index_1]
theorem blk_2 (c : Dev nD) (t : Fin cfg0.N) (r : Fin 128) (k : Fin 2048) :
    iblk m c 2 t (ix2 r k : S128x2048.Idx) = m ((c : Thread nD τ).loc main_arg2) (ix2 (row t r) k) := by
  blk_simp [iblk, index_2]
  refine congrArg (m ((c : Thread nD τ).loc main_arg2)) ?_
  blk_ext [index_2]
theorem blk_3 (c : Dev nD) (t : Fin cfg0.N) (r : Fin 128) (k : Fin 2048) :
    iblk m c 3 t (ix2 r k : S128x2048.Idx) = m ((c : Thread nD τ).loc main_arg3) (ix2 (row t r) k) := by
  blk_simp [iblk, index_3]
  refine congrArg (m ((c : Thread nD τ).loc main_arg3)) ?_
  blk_ext [index_3]

/-- The input gradient, whole. -/
def whole (c : Dev nD) : S4096x2048.Idx → EReal := fun x =>
  grad (m ((c : Thread nD τ).loc main_arg0)) (m ((c : Thread nD τ).loc main_arg1)) (m ((c : Thread nD τ).loc main_arg2))
    (m ((c : Thread nD τ).loc main_arg3)) (up (x 0)) (x 1)

theorem grad_end (c : Dev nD) : (dats m 0 c).arrAt 4 cfg0.N = whole m c := by
  refine (dats m 0 c).arrAt_eq_of_covers 4 _ (by decide +kernel) fun t hf (y : S128x2048.Idx) => ?_
  idx_vars y
  refine (congrFun (after_4 m c t) _).trans ((pay_at (iblk m c 0 (from_ t)) (iblk m c 1 (from_ t)) (iblk m c 2 (from_ t)) (iblk m c 3 (from_ t)) y0 y1).trans ?_)
  have e : ((cfg0.win 4).blk t).view.emb (ix2 y0 y1 : S128x2048.Idx) = (ix2 ⟨(from_ t).val * 128 + y0.val, by
      have : (from_ t).val ≤ 31 := Nat.min_le_right _ _
      have := y0.isLt
      omega⟩ y1 : S4096x2048.Idx) := by
    blk_ext [index_4]
    rfl
  refine Eq.trans ?_ (congrArg (whole m c) e).symm
  show _ = grad _ _ _ _ (row (from_ t) y0) y1
  unfold grad
  simp only [blk_0, blk_1, blk_2, blk_3]

theorem ref_at (m : (ℓ : Loc Cert.ReferenceNormDxIdeal.nD Cert.ReferenceNormDxIdeal.τ Cert.ReferenceNormDxIdeal.sig) → Buf (Elt Ideal) ℓ)
    (c : Dev Cert.ReferenceNormDxIdeal.nD) (h : S4224x2048.Idx → EReal) (g : S1x2048.Idx → EReal) (u d : S4224x2048.Idx → EReal)
    (eh : m ((c.tc : Thread Cert.ReferenceNormDxIdeal.nD Cert.ReferenceNormDxIdeal.τ).loc Cert.ReferenceNormDxIdeal.main_arg0) = h)
    (eg : m ((c.tc : Thread Cert.ReferenceNormDxIdeal.nD Cert.ReferenceNormDxIdeal.τ).loc Cert.ReferenceNormDxIdeal.main_arg1) = g)
    (eu : m ((c.tc : Thread Cert.ReferenceNormDxIdeal.nD Cert.ReferenceNormDxIdeal.τ).loc Cert.ReferenceNormDxIdeal.main_arg2) = u)
    (ed : m ((c.tc : Thread Cert.ReferenceNormDxIdeal.nD Cert.ReferenceNormDxIdeal.τ).loc Cert.ReferenceNormDxIdeal.main_arg3) = d) (r : Fin 4096) (s : Fin 2048) :
    (Cert.ReferenceNormDxIdeal.Value.res_main_v36 m c : S4096x2048.Idx → EReal) (ix2 r s) = grad h g u d (up r) s := by
  obtain ⟨ε, hε, e⟩ := eps_eq
  unfold grad
  rw [show len = _ from length_eq, show eps = _ from e, called_eq_plain _ _ (by norm_num) hε, ← half_eq, ← length_eq, ← e]
  subst eh eg eu ed
  pointwise [Cert.ReferenceNormDxIdeal.Value.res_main_v36, plain, through, level]
  simp only [Fin.sum_univ_one]

theorem algebraic : Cert.algebraic_KernelNormDxIdeal_ReferenceNormDxIdeal := by
  intro m g m' g' _ hargs
  refine ⟨whole m, (θ_run _ _ _).mono (fun r h c => ⟨(h.1 c).1.trans (grad_end m c), (h.1 c).2⟩) (run_main m g),
    (θ_run _ _ _).mono (fun _ h c => ⟨(h c).1.trans ?_, (h c).2⟩) (Cert.ReferenceNormDxIdeal.Value.run m' g')⟩
  obtain ⟨e0, e1, e2, e3⟩ := hargs c
  funext (x : S4096x2048.Idx)
  idx_vars x
  exact ref_at m' c _ _ _ _ e0 e1 e2 e3 x0 x1

end Cert.NormDx

end
-- ==== Proof.Down.lean ====
/-
  The down projection: the squared relu by the weight, added to what passes it by.
-/
module

public import proofs.«01_k».proof.Defs
public import proofs.«01_k».proof.Proof.Reads
public import proofs.«01_k».proof.Proof.Gen.KernelDown
public import proofs.«01_k».proof.Proof.Gen.KernelDownIdeal.Value
public import proofs.«01_k».proof.Proof.Gen.ReferenceDownIdeal.Run
public import Idealize.ShloMosaic.Lib.Affine
public import Idealize.ShloMosaic.Lib.Pipeline.ValueKit

@[expose] public section

set_option maxRecDepth 16384

noncomputable section

namespace Cert.Down

open Cert.KernelDownIdeal Cert.KernelDownIdeal.Gen Cert.Exchange

open Idealize.ShloMosaic Idealize.ShloMosaic.TcCoe
open Idealize.SL Idealize.SL.Sem
open Idealize.ShloMosaic.Pipeline (Dat Cfg Window)

theorem frame_ideal : Cert.quiescent_KernelDownIdeal := fun m g _ => Gen.frame m g

/-- The two printed programs have one body table. -/
theorem bodies_eq {F : FTy → Type} [FloatOps F] : Cert.KernelDown.defs₀ (F := F) = Cert.KernelDownIdeal.defs₀ (F := F) :=
  congrArg (Defs.onTc (τ := Cert.KernelDown.τ)) (funext fun b => funext fun a => match b, a with
    | ⟨0, _⟩, (t, s) => rfl
    | ⟨_ + 1, h⟩, _ => absurd h (Nat.not_lt.2 (Nat.le_add_left _ _)))

theorem frame_kernel : Cert.quiescent_KernelDown := fun m g _ => by
  rw [show Cert.KernelDown.defs (F := Bits) = Cert.KernelDownIdeal.defs by
    unfold Cert.KernelDown.defs Cert.KernelDownIdeal.defs; rw [bodies_eq]; rfl]
  exact Gen.frame (F := Bits) m g

theorem frame_ref : Cert.quiescent_ReferenceDownIdeal := fun m g _ =>
  (θ_run _ _ _).mono (fun r h => ⟨fun c => (h c).2, sem_eq_zero_of_no_sems (by decide) r.2⟩)
    (Cert.ReferenceDownIdeal.Value.run m g)

variable (m : (ℓ : Loc nD τ sig) → Buf (Elt Ideal) ℓ)

theorem index_0 : ∀ t : Fin cfg0.N, win0_0.index t = ![(grid0.coords t 0).val, 0] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)
theorem index_3 : ∀ t : Fin cfg0.N, win0_3.index t = ![(grid0.coords t 0).val, (grid0.coords t 1).val] := (by decide +kernel : ∀ t : Fin grid0.N, _)

/-- Rows of the squared relu by columns, and what is added. -/
def product (a : S4224x8192.Idx → EReal) (b : S8192x2048.Idx → EReal) (u : S4224x2048.Idx → EReal) : S4224x2048.Idx → EReal :=
  fun x => (∑ k : Fin 8192, max (a (ix2 (x 0) k)) 0 * max (a (ix2 (x 0) k)) 0 * b (ix2 k (x 1))) + u (ix2 (x 0) (x 1))

/-- A point stores one block, whole. -/
theorem stored (x0 x1 x2) : out0_3 (F := Ideal) x0 x1 x2 = k0_pay1 x0 x1 x2 := by
  have z : (![0, 0] : Fin 2 → ℕ) = fun _ => 0 := funext fun x => match x with | ⟨0, _⟩ => rfl | ⟨1, _⟩ => rfl
  unfold out0_3
  rw [View.canon_unit_zero z, View.ld_unit_zero z, View.ld_unit_zero z, View.ld_unit_zero z]

theorem product_end (c : Dev nD) : (dats m 0 c).arrAt 3 cfg0.N = product (m ((c : Thread nD τ).loc main_arg0)) (m ((c : Thread nD τ).loc main_arg1)) (m ((c : Thread nD τ).loc main_arg2)) := by
  refine (dats m 0 c).arrAt_eq_of_covers 3 _ (by decide +kernel) fun t hf y => ?_
  refine (congrFun ((after0_3 m c t).trans (stored (iblk m c 0 t) (iblk m c 1 t) (iblk m c 2 t))) _).trans ?_
  idx_vars y
  pointwise [k0_pay1, product]
  blk_simp [iblk, index_0, index_1, index_2, index_3]
  refine congrArg₂ (fun s v : EReal => s + v) ?_ (congrArg _ ?_)
  swap
  · blk_ext [index_2, index_3] <;> rfl
  refine Finset.sum_congr (M := EReal) rfl fun k _ => congrArg₂ (fun u v : EReal => max u 0 * max u 0 * v) (congrArg _ ?_) (congrArg _ ?_)
  · blk_ext [index_0, index_3] <;> rfl
  · blk_ext [index_1, index_3] <;> rfl

theorem algebraic : Cert.algebraic_KernelDownIdeal_ReferenceDownIdeal := by
  intro m g m' g' _ hargs
  refine ⟨_, (θ_run _ _ _).mono (fun r h c => ⟨(h c).1.trans ((product_end m c).trans ?_), (h c).2⟩) (Value.run_blocks m g),
    (θ_run _ _ _).mono (fun _ h => h) (Cert.ReferenceDownIdeal.Value.run m' g')⟩
  obtain ⟨e0, e1, e2⟩ := hargs c
  rw [e0, e1, e2]
  funext (x : S4224x2048.Idx)
  idx_vars x
  pointwise [product]

end Cert.Down

end
-- ==== Proof.DownDx.lean ====
/-
  The gradient through the down projection and the squared relu before it.
-/
module

public import proofs.«01_k».proof.Defs
public import proofs.«01_k».proof.Proof.Reads
public import proofs.«01_k».proof.Proof.Gen.KernelDownDx
public import proofs.«01_k».proof.Proof.Gen.KernelDownDxIdeal.Value
public import proofs.«01_k».proof.Proof.Gen.ReferenceDownDxIdeal.Run
public import Idealize.ShloMosaic.Lib.Affine
public import Idealize.ShloMosaic.Lib.Pipeline.ValueKit

@[expose] public section

set_option maxRecDepth 16384

noncomputable section

namespace Cert.DownDx

open Cert.KernelDownDxIdeal Cert.KernelDownDxIdeal.Gen Cert.Exchange

open Idealize.ShloMosaic Idealize.ShloMosaic.TcCoe
open Idealize.SL Idealize.SL.Sem
open Idealize.ShloMosaic.Pipeline (Dat Cfg Window)

theorem frame_ideal : Cert.quiescent_KernelDownDxIdeal := fun m g _ => Gen.frame m g

/-- The two printed programs have one body table. -/
theorem bodies_eq {F : FTy → Type} [FloatOps F] : Cert.KernelDownDx.defs₀ (F := F) = Cert.KernelDownDxIdeal.defs₀ (F := F) :=
  congrArg (Defs.onTc (τ := Cert.KernelDownDx.τ)) (funext fun b => funext fun a => match b, a with
    | ⟨0, _⟩, (t, s) => rfl
    | ⟨_ + 1, h⟩, _ => absurd h (Nat.not_lt.2 (Nat.le_add_left _ _)))

theorem frame_kernel : Cert.quiescent_KernelDownDx := fun m g _ => by
  rw [show Cert.KernelDownDx.defs (F := Bits) = Cert.KernelDownDxIdeal.defs by
    unfold Cert.KernelDownDx.defs Cert.KernelDownDxIdeal.defs; rw [bodies_eq]; rfl]
  exact Gen.frame (F := Bits) m g

theorem frame_ref : Cert.quiescent_ReferenceDownDxIdeal := fun m g _ =>
  (θ_run _ _ _).mono (fun r h => ⟨fun c => (h c).2, sem_eq_zero_of_no_sems (by decide) r.2⟩)
    (Cert.ReferenceDownDxIdeal.Value.run m g)

variable (m : (ℓ : Loc nD τ sig) → Buf (Elt Ideal) ℓ)

theorem index_0 : ∀ t : Fin cfg0.N, win0_0.index t = ![(grid0.coords t 0).val, 0] := (by decide +kernel : ∀ t : Fin grid0.N, _)
theorem index_1 : ∀ t : Fin cfg0.N, win0_1.index t = ![(grid0.coords t 1).val, 0] := (by decide +kernel : ∀ t : Fin grid0.N, _)
theorem index_2 : ∀ t : Fin cfg0.N, win0_2.index t = ![(grid0.coords t 0).val, (grid0.coords t 1).val] := (by decide +kernel : ∀ t : Fin grid0.N, _)
theorem index_3 : ∀ t : Fin cfg0.N, win0_3.index t = ![(grid0.coords t 0).val, (grid0.coords t 1).val] := (by decide +kernel : ∀ t : Fin grid0.N, _)

/-- Rows by rows, times the slope of the squared relu, twice its argument where that is positive; the constant is two. -/
def product (a : S4224x2048.Idx → EReal) (b : S8192x2048.Idx → EReal) (u : S4224x8192.Idx → EReal) : S4224x8192.Idx → EReal :=
  fun x => (∑ k : Fin 2048, a (ix2 (x 0) k) * b (ix2 (x 1) k)) * (Ideal.ofBits .f32 0x40000000#32 * max (u (ix2 (x 0) (x 1))) 0)

/-- A point stores one block, whole. -/
theorem stored (x0 x1 x2) : out0_3 (F := Ideal) x0 x1 x2 = k0_pay1 x0 x1 x2 := by
  have z : (![0, 0] : Fin 2 → ℕ) = fun _ => 0 := funext fun x => match x with | ⟨0, _⟩ => rfl | ⟨1, _⟩ => rfl
  unfold out0_3
  rw [View.canon_unit_zero z, View.ld_unit_zero z, View.ld_unit_zero z, View.ld_unit_zero z]

theorem product_end (c : Dev nD) : (dats m 0 c).arrAt 3 cfg0.N = product (m ((c : Thread nD τ).loc main_arg0)) (m ((c : Thread nD τ).loc main_arg1)) (m ((c : Thread nD τ).loc main_arg2)) := by
  refine (dats m 0 c).arrAt_eq_of_covers 3 _ (by decide +kernel) fun t hf y => ?_
  refine (congrFun ((after0_3 m c t).trans (stored (iblk m c 0 t) (iblk m c 1 t) (iblk m c 2 t))) _).trans ?_
  idx_vars y
  pointwise [k0_pay1, product]
  blk_simp [iblk, index_0, index_1, index_2, index_3]
  refine congrArg₂ (fun s v : EReal => s * (Ideal.ofBits .f32 0x40000000#32 * max v 0)) ?_ (congrArg _ ?_)
  swap
  · blk_ext [index_2, index_3] <;> rfl
  refine Finset.sum_congr (M := EReal) rfl fun k _ => congrArg₂ (· * ·) (congrArg _ ?_) (congrArg _ ?_)
  · blk_ext [index_0, index_3] <;> rfl
  · blk_ext [index_1, index_3] <;> rfl

theorem algebraic : Cert.algebraic_KernelDownDxIdeal_ReferenceDownDxIdeal := by
  intro m g m' g' _ hargs
  refine ⟨_, (θ_run _ _ _).mono (fun r h c => ⟨(h c).1.trans ((product_end m c).trans ?_), (h c).2⟩) (Value.run_blocks m g),
    (θ_run _ _ _).mono (fun _ h => h) (Cert.ReferenceDownDxIdeal.Value.run m' g')⟩
  obtain ⟨e0, e1, e2⟩ := hargs c
  rw [e0, e1, e2]
  funext (x : S4224x8192.Idx)
  idx_vars x
  pointwise [product]

end Cert.DownDx

end
-- ==== Proof.DownDw.lean ====
/-
  The gradient of the down projection's weight: columns of the squared relu by columns of the gradient.
-/
module

public import proofs.«01_k».proof.Defs
public import proofs.«01_k».proof.Proof.Reads
public import proofs.«01_k».proof.Proof.Gen.KernelDownDw
public import proofs.«01_k».proof.Proof.Gen.KernelDownDwIdeal.Value
public import proofs.«01_k».proof.Proof.Gen.ReferenceDownDwIdeal.Run
public import Idealize.ShloMosaic.Lib.Affine
public import Idealize.ShloMosaic.Lib.Pipeline.ValueKit

@[expose] public section

set_option maxRecDepth 16384

noncomputable section

namespace Cert.DownDw

open Cert.KernelDownDwIdeal Cert.KernelDownDwIdeal.Gen Cert.Exchange

open Idealize.ShloMosaic Idealize.ShloMosaic.TcCoe
open Idealize.SL Idealize.SL.Sem
open Idealize.ShloMosaic.Pipeline (Dat Cfg Window)

theorem frame_ideal : Cert.quiescent_KernelDownDwIdeal := fun m g _ => Gen.frame m g

/-- The two printed programs have one body table. -/
theorem bodies_eq {F : FTy → Type} [FloatOps F] : Cert.KernelDownDw.defs₀ (F := F) = Cert.KernelDownDwIdeal.defs₀ (F := F) :=
  congrArg (Defs.onTc (τ := Cert.KernelDownDw.τ)) (funext fun b => funext fun a => match b, a with
    | ⟨0, _⟩, (t, s) => rfl
    | ⟨_ + 1, h⟩, _ => absurd h (Nat.not_lt.2 (Nat.le_add_left _ _)))

theorem frame_kernel : Cert.quiescent_KernelDownDw := fun m g _ => by
  rw [show Cert.KernelDownDw.defs (F := Bits) = Cert.KernelDownDwIdeal.defs by
    unfold Cert.KernelDownDw.defs Cert.KernelDownDwIdeal.defs; rw [bodies_eq]; rfl]
  exact Gen.frame (F := Bits) m g

theorem frame_ref : Cert.quiescent_ReferenceDownDwIdeal := fun m g _ =>
  (θ_run _ _ _).mono (fun r h => ⟨fun c => (h c).2, sem_eq_zero_of_no_sems (by decide) r.2⟩)
    (Cert.ReferenceDownDwIdeal.Value.run m g)

variable (m : (ℓ : Loc nD τ sig) → Buf (Elt Ideal) ℓ)

theorem index_0 : ∀ t : Fin cfg0.N, win0_0.index t = ![0, (grid0.coords t 0).val] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)

/-- Columns of the squared relu by columns. -/
def product (a : S4224x8192.Idx → EReal) (b : S4224x2048.Idx → EReal) : S8192x2048.Idx → EReal :=
  fun x => ∑ k : Fin 4224, max (a (ix2 k (x 0))) 0 * max (a (ix2 k (x 0))) 0 * b (ix2 k (x 1))

/-- A point stores one block, whole. -/
theorem stored (x0 x1) : out0_2 (F := Ideal) x0 x1 = k0_pay1 x0 x1 := by
  have z : (![0, 0] : Fin 2 → ℕ) = fun _ => 0 := funext fun x => match x with | ⟨0, _⟩ => rfl | ⟨1, _⟩ => rfl
  unfold out0_2
  rw [View.canon_unit_zero z, View.ld_unit_zero z, View.ld_unit_zero z]

theorem product_end (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine (congrFun ((after0_2 m c t).trans (stored (iblk m c 0 t) (iblk m c 1 t))) _).trans ?_
  idx_vars y
  pointwise [k0_pay1, product]
  blk_simp [iblk, index_0, index_1, index_2]
  refine Finset.sum_congr (M := EReal) rfl fun k _ => congrArg₂ (fun u v : EReal => max u 0 * max u 0 * v) (congrArg _ ?_) (congrArg _ ?_)
  · blk_ext [index_0, index_2] <;> rfl
  · blk_ext [index_1, index_2] <;> rfl

theorem algebraic : Cert.algebraic_KernelDownDwIdeal_ReferenceDownDwIdeal := by
  intro m g m' g' _ hargs
  refine ⟨_, (θ_run _ _ _).mono (fun r h c => ⟨(h c).1.trans ((product_end m c).trans ?_), (h c).2⟩) (Value.run_blocks m g),
    (θ_run _ _ _).mono (fun _ h => h) (Cert.ReferenceDownDwIdeal.Value.run m' g')⟩
  obtain ⟨e0, e1⟩ := hargs c
  rw [e0, e1]
  funext (x : S8192x2048.Idx)
  idx_vars x
  pointwise [product]

end Cert.DownDw

end
-- ==== Proof.OutDx.lean ====
/-
  The gradient through the output projection: rows of the gradient by rows of the weight.
-/
module

public import proofs.«01_k».proof.Defs
public import proofs.«01_k».proof.Proof.Reads
public import proofs.«01_k».proof.Proof.Gen.KernelOutDx
public import proofs.«01_k».proof.Proof.Gen.KernelOutDxIdeal.Value
public import proofs.«01_k».proof.Proof.Gen.ReferenceOutDxIdeal.Run
public import Idealize.ShloMosaic.Lib.Affine
public import Idealize.ShloMosaic.Lib.Pipeline.ValueKit

@[expose] public section

set_option maxRecDepth 16384

noncomputable section

namespace Cert.OutDx

open Cert.KernelOutDxIdeal Cert.KernelOutDxIdeal.Gen Cert.Exchange

open Idealize.ShloMosaic Idealize.ShloMosaic.TcCoe
open Idealize.SL Idealize.SL.Sem
open Idealize.ShloMosaic.Pipeline (Dat Cfg Window)

theorem frame_ideal : Cert.quiescent_KernelOutDxIdeal := fun m g _ => Gen.frame m g

/-- The two printed programs have one body table. -/
theorem bodies_eq {F : FTy → Type} [FloatOps F] : Cert.KernelOutDx.defs₀ (F := F) = Cert.KernelOutDxIdeal.defs₀ (F := F) :=
  congrArg (Defs.onTc (τ := Cert.KernelOutDx.τ)) (funext fun b => funext fun a => match b, a with
    | ⟨0, _⟩, (t, s) => rfl
    | ⟨_ + 1, h⟩, _ => absurd h (Nat.not_lt.2 (Nat.le_add_left _ _)))

theorem frame_kernel : Cert.quiescent_KernelOutDx := fun m g _ => by
  rw [show Cert.KernelOutDx.defs (F := Bits) = Cert.KernelOutDxIdeal.defs by
    unfold Cert.KernelOutDx.defs Cert.KernelOutDxIdeal.defs; rw [bodies_eq]; rfl]
  exact Gen.frame (F := Bits) m g

theorem frame_ref : Cert.quiescent_ReferenceOutDxIdeal := fun m g _ =>
  (θ_run _ _ _).mono (fun r h => ⟨fun c => (h c).2, sem_eq_zero_of_no_sems (by decide) r.2⟩)
    (Cert.ReferenceOutDxIdeal.Value.run m g)

variable (m : (ℓ : Loc nD τ sig) → Buf (Elt Ideal) ℓ)

theorem index_0 : ∀ t : Fin cfg0.N, win0_0.index t = ![(grid0.coords t 0).val, 0] := (by decide +kernel : ∀ t : Fin grid0.N, _)
theorem index_1 : ∀ t : Fin cfg0.N, win0_1.index t = ![(grid0.coords t 1).val, 0] := (by decide +kernel : ∀ t : Fin grid0.N, _)
theorem index_2 : ∀ t : Fin cfg0.N, win0_2.index t = ![(grid0.coords t 0).val, (grid0.coords t 1).val] := (by decide +kernel : ∀ t : Fin grid0.N, _)

/-- Rows by rows. -/
def product (a : S4224x2048.Idx → EReal) (b : S2048x2048.Idx → EReal) : S4224x2048.Idx → EReal :=
  fun x => ∑ k : Fin 2048, a (ix2 (x 0) k) * b (ix2 (x 1) k)

/-- A point stores one block, whole. -/
theorem stored (x0 x1) : out0_2 (F := Ideal) x0 x1 = k0_pay1 x0 x1 := by
  have z : (![0, 0] : Fin 2 → ℕ) = fun _ => 0 := funext fun x => match x with | ⟨0, _⟩ => rfl | ⟨1, _⟩ => rfl
  unfold out0_2
  rw [View.canon_unit_zero z, View.ld_unit_zero z, View.ld_unit_zero z]

theorem product_end (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine (congrFun ((after0_2 m c t).trans (stored (iblk m c 0 t) (iblk m c 1 t))) _).trans ?_
  idx_vars y
  pointwise [k0_pay1, product]
  blk_simp [iblk, index_0, index_1, index_2]
  refine Finset.sum_congr (M := EReal) rfl fun k _ => congrArg₂ (· * ·) (congrArg _ ?_) (congrArg _ ?_)
  · blk_ext [index_0, index_2] <;> rfl
  · blk_ext [index_1, index_2] <;> rfl

theorem algebraic : Cert.algebraic_KernelOutDxIdeal_ReferenceOutDxIdeal := by
  intro m g m' g' _ hargs
  refine ⟨_, (θ_run _ _ _).mono (fun r h c => ⟨(h c).1.trans ((product_end m c).trans ?_), (h c).2⟩) (Value.run_blocks m g),
    (θ_run _ _ _).mono (fun _ h => h) (Cert.ReferenceOutDxIdeal.Value.run m' g')⟩
  obtain ⟨e0, e1⟩ := hargs c
  rw [e0, e1]
  funext (x : S4224x2048.Idx)
  idx_vars x
  pointwise [product]

end Cert.OutDx

end
-- ==== Proof.OutDw.lean ====
/-
  The gradient of the output projection's weight: columns of its input by columns of the gradient.
-/
module

public import proofs.«01_k».proof.Defs
public import proofs.«01_k».proof.Proof.Reads
public import proofs.«01_k».proof.Proof.Gen.KernelOutDw
public import proofs.«01_k».proof.Proof.Gen.KernelOutDwIdeal.Value
public import proofs.«01_k».proof.Proof.Gen.ReferenceOutDwIdeal.Run
public import Idealize.ShloMosaic.Lib.Affine
public import Idealize.ShloMosaic.Lib.Pipeline.ValueKit

@[expose] public section

set_option maxRecDepth 16384

noncomputable section

namespace Cert.OutDw

open Cert.KernelOutDwIdeal Cert.KernelOutDwIdeal.Gen Cert.Exchange

open Idealize.ShloMosaic Idealize.ShloMosaic.TcCoe
open Idealize.SL Idealize.SL.Sem
open Idealize.ShloMosaic.Pipeline (Dat Cfg Window)

theorem frame_ideal : Cert.quiescent_KernelOutDwIdeal := fun m g _ => Gen.frame m g

/-- The two printed programs have one body table. -/
theorem bodies_eq {F : FTy → Type} [FloatOps F] : Cert.KernelOutDw.defs₀ (F := F) = Cert.KernelOutDwIdeal.defs₀ (F := F) :=
  congrArg (Defs.onTc (τ := Cert.KernelOutDw.τ)) (funext fun b => funext fun a => match b, a with
    | ⟨0, _⟩, (t, s) => rfl
    | ⟨_ + 1, h⟩, _ => absurd h (Nat.not_lt.2 (Nat.le_add_left _ _)))

theorem frame_kernel : Cert.quiescent_KernelOutDw := fun m g _ => by
  rw [show Cert.KernelOutDw.defs (F := Bits) = Cert.KernelOutDwIdeal.defs by
    unfold Cert.KernelOutDw.defs Cert.KernelOutDwIdeal.defs; rw [bodies_eq]; rfl]
  exact Gen.frame (F := Bits) m g

theorem frame_ref : Cert.quiescent_ReferenceOutDwIdeal := fun m g _ =>
  (θ_run _ _ _).mono (fun r h => ⟨fun c => (h c).2, sem_eq_zero_of_no_sems (by decide) r.2⟩)
    (Cert.ReferenceOutDwIdeal.Value.run m g)

variable (m : (ℓ : Loc nD τ sig) → Buf (Elt Ideal) ℓ)

theorem index_0 : ∀ t : Fin cfg0.N, win0_0.index t = ![0, (grid0.coords t 0).val] := (by decide +kernel : ∀ t : Fin grid0.N, _)
theorem index_1 : ∀ t : Fin cfg0.N, win0_1.index t = ![0, (grid0.coords t 1).val] := (by decide +kernel : ∀ t : Fin grid0.N, _)
theorem index_2 : ∀ t : Fin cfg0.N, win0_2.index t = ![(grid0.coords t 0).val, (grid0.coords t 1).val] := (by decide +kernel : ∀ t : Fin grid0.N, _)

/-- Columns by columns. -/
def product (a b : S4224x2048.Idx → EReal) : S2048x2048.Idx → EReal :=
  fun x => ∑ k : Fin 4224, a (ix2 k (x 0)) * b (ix2 k (x 1))

/-- A point stores one block, whole. -/
theorem stored (x0 x1) : out0_2 (F := Ideal) x0 x1 = k0_pay1 x0 x1 := by
  have z : (![0, 0] : Fin 2 → ℕ) = fun _ => 0 := funext fun x => match x with | ⟨0, _⟩ => rfl | ⟨1, _⟩ => rfl
  unfold out0_2
  rw [View.canon_unit_zero z, View.ld_unit_zero z, View.ld_unit_zero z]

theorem product_end (c : Dev nD) : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine (congrFun ((after0_2 m c t).trans (stored (iblk m c 0 t) (iblk m c 1 t))) _).trans ?_
  idx_vars y
  pointwise [k0_pay1, product]
  blk_simp [iblk, index_0, index_1, index_2]
  refine Finset.sum_congr (M := EReal) rfl fun k _ => congrArg₂ (· * ·) (congrArg _ ?_) (congrArg _ ?_)
  · blk_ext [index_0, index_2] <;> rfl
  · blk_ext [index_1, index_2] <;> rfl

theorem algebraic : Cert.algebraic_KernelOutDwIdeal_ReferenceOutDwIdeal := by
  intro m g m' g' _ hargs
  refine ⟨_, (θ_run _ _ _).mono (fun r h c => ⟨(h c).1.trans ((product_end m c).trans ?_), (h c).2⟩) (Value.run_blocks m g),
    (θ_run _ _ _).mono (fun _ h => h) (Cert.ReferenceOutDwIdeal.Value.run m' g')⟩
  obtain ⟨e0, e1⟩ := hargs c
  rw [e0, e1]
  funext (x : S2048x2048.Idx)
  idx_vars x
  pointwise [product]

end Cert.OutDw

end
-- ==== Proof.Norm2Dx.lean ====
/-
  The second normalisation's backward pass: the two gradients the call leaves, of the input and of the gain, are the reference's; and its frames.
-/
module

public import proofs.«01_k».proof.Defs
public import proofs.«01_k».proof.Proof.Reads
public import proofs.«01_k».proof.Proof.NormDx
public import proofs.«01_k».proof.Proof.Gen.KernelNorm2Dx
public import proofs.«01_k».proof.Proof.Gen.KernelNorm2DxIdeal.Value
public import proofs.«01_k».proof.Proof.Gen.ReferenceNorm2DxIdeal.Run
public import Idealize.ShloMosaic.Lib.Affine
public import Idealize.ShloMosaic.Lib.VecWindow
public import Idealize.ShloMosaic.Lib.Pipeline.ValueKit

@[expose] public section

set_option maxRecDepth 16384

noncomputable section

namespace Cert.Norm2Dx

open Cert.KernelNorm2DxIdeal Cert.KernelNorm2DxIdeal.Gen Cert.Exchange Cert.NormRow
open Cert.NormDx (len eps grad length_eq half_eq eps_eq)

open Idealize.ShloMosaic Idealize.ShloMosaic.TcCoe
open Idealize.SL Idealize.SL.Sem
open Idealize.ShloMosaic.Pipeline (Dat Cfg Window)

theorem frame_ideal : Cert.quiescent_KernelNorm2DxIdeal := fun m g _ => Gen.frame m g

/-- The two printed programs have one body table. -/
theorem bodies_eq {F : FTy → Type} [FloatOps F] : Cert.KernelNorm2Dx.defs₀ (F := F) = Cert.KernelNorm2DxIdeal.defs₀ (F := F) :=
  congrArg (Defs.onTc (τ := Cert.KernelNorm2Dx.τ)) (funext fun b => funext fun a => match b, a with
    | ⟨0, _⟩, (t, s) => rfl
    | ⟨_ + 1, h⟩, _ => absurd h (Nat.not_lt.2 (Nat.le_add_left _ _)))

theorem frame_kernel : Cert.quiescent_KernelNorm2Dx := fun m g _ => by
  rw [show Cert.KernelNorm2Dx.defs (F := Bits) = Cert.KernelNorm2DxIdeal.defs by
    unfold Cert.KernelNorm2Dx.defs Cert.KernelNorm2DxIdeal.defs; rw [bodies_eq]; rfl]
  exact Gen.frame (F := Bits) m g

theorem frame_ref : Cert.quiescent_ReferenceNorm2DxIdeal := fun m g _ =>
  (θ_run _ _ _).mono (fun r h => ⟨fun c => (h c).2.2, sem_eq_zero_of_no_sems (by decide) r.2⟩)
    (Cert.ReferenceNorm2DxIdeal.Value.run m g)

variable (m : (ℓ : Loc nD τ sig) → Buf (Elt Ideal) ℓ)

/-- A load of a whole buffer reads its contents. -/
theorem read_whole {sp : Space} {s : Shape} {e : EltTy} {b : Memref sig .tc sp s e} (h : b.IsWhole) {off : Fin s.rank → ℕ}
    (inb : ∀ a, off a + s.size a ≤ s.size a) (x : s.Idx → Elt Ideal e) :
    b.view.readAt (Elt Ideal) (Rect.unit off s.size inb).toLoadRect (h.unread x) = x :=
  (View.readAt_full b.view _ inb).trans (h.read_unread x)

/-- A point stores one block of the gradient, whole, at the first point as at the others. -/
theorem stored (c : Dev nD) (t : Fin cfg0.N) :
    (outsAt0 m c t.val t.isLt).1 = k0_pay6 (iblk m c 2 t) (iblk m c 0 t) (iblk m c 1 t) (iblk m c 3 t) := by
  by_cases h : t.val % 11 = 0
  · rw [outsAt0_A m c t h]
    unfold out0_A_4 kernelRun0_A
    dsimp only
    exact (View.read_writes_full _ _ _ _ _).trans (by rw [read_whole, read_whole, read_whole, read_whole])
  · rw [outsAt0_B m c t h]
    unfold out0_B_4 kernelRun0_B
    dsimp only
    exact (View.read_writes_full _ _ _ _ _).trans (by rw [read_whole, read_whole, read_whole, read_whole])

/-- A point's part of the gain's gradient at a column. -/
def part (x u : S384x2048.Idx → EReal) (s : Fin 2048) : EReal :=
  ∑ r : Fin 384, u (ix2 r s) * (x (ix2 r s) * Ideal.rsqrt (level (fun k => x (ix2 r k)) len eps))

theorem sum_at (p : Vec Ideal S1x2048 .f32) (x : Vec Ideal S384x2048 .f32) (u : Vec Ideal S384x2048 .bf16) (s : Fin 2048) :
    k0_pay1 (k0_pay7 p) (k0_pay8 u x) (ix2 0 s) = p (ix2 0 s) + part x u s := by
  pointwise [k0_pay1, k0_pay3, k0_pay4, k0_pay5, k0_pay7, k0_pay8, part, level]

/-- A store of the first row changes that row. -/
theorem row_stored (v : View sig .tc .vmem S8x2048 .f32) (f : v.ty.Contents (Elt Ideal)) (w : S1x2048.Idx → EReal)
    (L : List (View.Piece (Elt Ideal) S8x2048 .f32)) (a : Fin 8) (s : Fin 2048) :
    v.read (Elt Ideal) (v.writes (Elt Ideal) f (⟨Rect.unit (s := S8x2048) ![0, 0] S1x2048.size inb_S8x2048_S1x2048_0_0, w⟩ :: L)) (ix2 a s)
      = if a = 0 then w (ix2 0 s) else v.read (Elt Ideal) (v.writes (Elt Ideal) f L) (ix2 a s) := by
  by_cases h : a = 0
  · subst h
    refine (View.read_writes_cons_unit_of_mem v f inb_S8x2048_S1x2048_0_0 w L _ (ix2 0 s : S1x2048.Idx) rfl fun b => ?_).trans (if_pos rfl).symm
    match b with
    | ⟨0, _⟩ => rfl
    | ⟨1, _⟩ => exact (Nat.zero_add _).symm
  · refine (View.read_writes_cons_unit_of_not_mem v f inb_S8x2048_S1x2048_0_0 w L _ rfl 0 (.inr ?_)).trans (if_neg h).symm
    exact Nat.pos_of_ne_zero fun e => h (Fin.ext e)

theorem zero_at (y : S8x2048.Idx) : k0_pay2 (F := Ideal) y = 0 := by
  pointwise [k0_pay2]

/-- The first point sets the part to zero and adds its own to the first row. -/
theorem gain_first (c : Dev nD) (t : Fin cfg0.N) (h : t.val % 11 = 0) (a : Fin 8) (s : Fin 2048) :
    (outsAt0 m c t.val t.isLt).2 (ix2 a s) = if a = 0 then part (iblk m c 0 t) (iblk m c 2 t) s else 0 := by
  rw [outsAt0_A m c t h]
  unfold out0_A_5 kernelRun0_A
  dsimp only
  unfold kernelRun0_A.sl.r kernelRun0_A.sl.r_1 kernelRun0_A.sl.H5_1 kernelRun0_A.sl.v34
  refine (row_stored _ _ _ _ a s).trans ?_
  rw [sum_at, View.read_writes_full, read_whole, read_whole]
  split
  · rw [show (ms0_5 t).view.readCov kernelRun0_A.sl.H5_1 (Rect.unit (s := S8x2048) ![0, 0] S1x2048.size inb_S8x2048_S1x2048_0_0).toLoadRect
      (ix2 0 s : S1x2048.Idx) = 0 from (congrFun (View.read_writes_full _ _ _ _ _) _).trans (zero_at _), zero_add]
  · exact zero_at _

/-- A later point adds its own. -/
theorem gain_next (c : Dev nD) (t : Fin cfg0.N) (h : ¬ t.val % 11 = 0) (a : Fin 8) (s : Fin 2048) :
    (outsAt0 m c t.val t.isLt).2 (ix2 a s) = (outsAt0 m c (t.val - 1) (Nat.lt_of_le_of_lt (Nat.sub_le _ _) t.isLt)).2 (ix2 a s)
      + if a = 0 then part (iblk m c 0 t) (iblk m c 2 t) s else 0 := by
  rw [outsAt0_B m c t h]
  unfold out0_B_5 kernelRun0_B
  dsimp only
  unfold kernelRun0_B.sl.r kernelRun0_B.sl.r_1
  refine (row_stored _ _ _ _ a s).trans ?_
  rw [sum_at, View.writes_nil, read_whole, read_whole]
  by_cases e : a = 0
  · subst e
    rw [if_pos rfl, if_pos rfl]
    refine congrArg (· + _) ((congrFun ((hs0_5 t).read_unread _) _).trans (congrArg (outsAt0 m c (t.val - 1) _).2 (funext fun b => ?_)))
    match b with
    | ⟨0, _⟩ => rfl
    | ⟨1, _⟩ => exact Fin.ext (by show 0 + 1 * s.val = s.val; omega)
  · rw [if_neg e, if_neg e, add_zero, Memref.IsWhole.read_unread]

/-- The points' parts, as far as a point has come. -/
theorem gain_upto (c : Dev nD) (a : Fin 8) (s : Fin 2048) : ∀ (n : ℕ) (hn : n < cfg0.N), (outsAt0 m c n hn).2 (ix2 a s)
    = if a = 0 then ∑ j : Fin (n + 1), part (iblk m c 0 ⟨j.val, Nat.lt_of_lt_of_le j.isLt hn⟩) (iblk m c 2 ⟨j.val, Nat.lt_of_lt_of_le j.isLt hn⟩) s else 0
  | 0, hn => by
    rw [gain_first m c ⟨0, hn⟩ rfl a s, Fin.sum_univ_one]
    rfl
  | n + 1, hn => by
    have h : n + 1 < 11 := hn
    refine (gain_next m c ⟨n + 1, hn⟩ (by dsimp only; omega) a s).trans ?_
    rw [show (outsAt0 m c ((⟨n + 1, hn⟩ : Fin cfg0.N).val - 1) _).2 (ix2 a s) = _ from gain_upto c a s n (Nat.lt_of_succ_lt hn)]
    split
    · exact (Fin.sum_univ_castSucc (M := EReal) fun j : Fin (n + 2) =>
        part (iblk m c 0 ⟨j.val, Nat.lt_of_lt_of_le j.isLt hn⟩) (iblk m c 2 ⟨j.val, Nat.lt_of_lt_of_le j.isLt hn⟩) s).symm
    · exact add_zero _

theorem pay_at (x : Vec Ideal S384x2048 .f32) (g : Vec Ideal S1x2048 .f32) (u d : Vec Ideal S384x2048 .bf16) (r : Fin 384) (s : Fin 2048) :
    k0_pay6 u x g d (ix2 r s) = called (fun k => x (ix2 r k)) (fun k => u (ix2 r k) * g (ix2 0 k)) len eps (d (ix2 r s)) s := by
  pointwise [k0_pay6, k0_pay5, k0_pay4, k0_pay3, called, level]

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_5 : ∀ t : Fin cfg0.N, win0_5.index t = ![0, 0] := (by decide +kernel : ∀ t : Fin grid0.N, _)
theorem index_4 : ∀ t : Fin cfg0.N, win0_4.index t = ![t.val, 0] := (by decide +kernel : ∀ t : Fin grid0.N, _)

/-- A point's row of a block in the arguments. -/
abbrev row (t : Fin cfg0.N) (r : Fin 384) : Fin 4224 := ⟨t.val * 384 + r.val, by
  have ht : t.val < 11 := t.isLt
  have := r.isLt
  omega⟩

theorem blk_0 (c : Dev nD) (t : Fin cfg0.N) (r : Fin 384) (k : Fin 2048) :
    iblk m c 0 t (ix2 r k : S384x2048.Idx) = m ((c : Thread nD τ).loc main_arg0) (ix2 (row t r) k) := by
  blk_simp [iblk, index_0]
  refine congrArg (m ((c : Thread nD τ).loc main_arg0)) ?_
  blk_ext [index_0]
theorem blk_1 (c : Dev nD) (t : Fin cfg0.N) (k : Fin 2048) :
    iblk m c 1 t (ix2 0 k : S1x2048.Idx) = m ((c : Thread nD τ).loc main_arg1) (ix2 0 k) := by
  blk_simp [iblk, index_1]
  refine congrArg (m ((c : Thread nD τ).loc main_arg1)) ?_
  blk_ext [index_1]
theorem blk_2 (c : Dev nD) (t : Fin cfg0.N) (r : Fin 384) (k : Fin 2048) :
    iblk m c 2 t (ix2 r k : S384x2048.Idx) = m ((c : Thread nD τ).loc main_arg2) (ix2 (row t r) k) := by
  blk_simp [iblk, index_2]
  refine congrArg (m ((c : Thread nD τ).loc main_arg2)) ?_
  blk_ext [index_2]
theorem blk_3 (c : Dev nD) (t : Fin cfg0.N) (r : Fin 384) (k : Fin 2048) :
    iblk m c 3 t (ix2 r k : S384x2048.Idx) = m ((c : Thread nD τ).loc main_arg3) (ix2 (row t r) k) := by
  blk_simp [iblk, index_3]
  refine congrArg (m ((c : Thread nD τ).loc main_arg3)) ?_
  blk_ext [index_3]

/-- The input gradient, whole. -/
def whole (c : Dev nD) : S4224x2048.Idx → EReal := fun x =>
  grad (m ((c : Thread nD τ).loc main_arg0)) (m ((c : Thread nD τ).loc main_arg1)) (m ((c : Thread nD τ).loc main_arg2))
    (m ((c : Thread nD τ).loc main_arg3)) (x 0) (x 1)

theorem grad_end (c : Dev nD) : (dats m 0 c).arrAt 4 cfg0.N = whole m c := by
  refine (dats m 0 c).arrAt_eq_of_covers 4 _ (by decide +kernel) fun t hf (y : S384x2048.Idx) => ?_
  idx_vars y
  refine (congrFun ((after0_4 m c t).trans (stored m c t)) _).trans ((pay_at (iblk m c 0 t) (iblk m c 1 t) (iblk m c 2 t) (iblk m c 3 t) y0 y1).trans ?_)
  have e : ((cfg0.win 4).blk t).view.emb (ix2 y0 y1 : S384x2048.Idx) = (ix2 (row t y0) y1 : S4224x2048.Idx) := by
    blk_ext [index_4]
  refine Eq.trans ?_ (congrArg (whole m c) e).symm
  show _ = grad _ _ _ _ (row t y0) y1
  unfold grad
  simp only [blk_0, blk_1, blk_2, blk_3]

/-- The gain's gradient: its first row the sum over the rows, the other seven zero. -/
def gains (h u : S4224x2048.Idx → EReal) (a : Fin 8) (s : Fin 2048) : EReal :=
  if a = 0 then ∑ r : Fin 4224, u (ix2 r s) * (h (ix2 r s) * Ideal.rsqrt (level (fun k => h (ix2 r k)) len eps)) else 0

/-- The gain's gradient, whole. -/
def gain (c : Dev nD) : S8x2048.Idx → EReal := fun x =>
  gains (m ((c : Thread nD τ).loc main_arg0)) (m ((c : Thread nD τ).loc main_arg2)) (x 0) (x 1)

theorem gain_end (c : Dev nD) : (dats m 0 c).arrAt 5 cfg0.N = gain m c := by
  refine (dats m 0 c).arrAt_eq_of_covers 5 _ (by decide +kernel) fun t hf (y : S8x2048.Idx) => ?_
  have ht : t.val = 10 := by
    have h : t.val < 11 := t.isLt
    have := (flush0_5 t).mp hf
    omega
  idx_vars y
  have e : ((cfg0.win 5).blk t).view.emb (ix2 y0 y1 : S8x2048.Idx) = (ix2 y0 y1 : S8x2048.Idx) := by
    blk_ext [index_5]
  refine Eq.trans ?_ (congrArg (gain m c) e).symm
  obtain rfl : t = ⟨10, by decide⟩ := Fin.ext ht
  refine (congrFun (after0_5 m c _) _).trans ((gain_upto m c y0 y1 10 (by decide)).trans ?_)
  show _ = gains _ _ y0 y1
  unfold gains
  rw [Fin.sum_univ_tiles 11 384 rfl]
  unfold part
  simp only [blk_0, blk_2]

theorem algebraic : Cert.algebraic_KernelNorm2DxIdeal_ReferenceNorm2DxIdeal := by
  intro m g m' g' _ hargs
  refine ⟨whole m, gain m, (θ_run _ _ _).mono (fun r h c => ⟨(h c).1.trans (grad_end m c), (h c).2.1.trans (gain_end m c), (h c).2.2⟩) (Value.run_blocks m g),
    (θ_run _ _ _).mono (fun _ h c => ⟨(h c).1.trans ?_, (h c).2.1.trans ?_, (h c).2.2⟩) (Cert.ReferenceNorm2DxIdeal.Value.run m' g')⟩ <;>
    obtain ⟨e0, e1, e2, e3⟩ := hargs c <;> rw [e0]
  · rw [e1, e2, e3]
    funext (x : S4224x2048.Idx)
    idx_vars x
    obtain ⟨ε, hε, e⟩ := eps_eq
    show _ = grad _ _ _ _ x0 x1
    unfold grad
    rw [show len = _ from length_eq, show eps = _ from e, called_eq_plain _ _ (by norm_num) hε, ← half_eq, ← length_eq, ← e]
    pointwise [plain, through, level]
    simp only [Fin.sum_univ_one]
  · rw [e2]
    funext (x : S8x2048.Idx)
    idx_vars x
    pointwise [gain, gains, level]
    by_cases h : x0 = 0
    · subst h
      exact (dif_pos Nat.zero_lt_one).trans (Eq.trans (Finset.sum_congr (M := EReal) rfl fun r _ => mul_comm _ _) (if_pos rfl).symm)
    · exact (dif_neg fun e => h (Fin.ext (Nat.lt_one_iff.mp e))).trans (Eq.trans (show ((((0#32 : BitVec 32).toInt : ℤ) : ℝ) : EReal) = 0 by simp) (if_neg h).symm)

end Cert.Norm2Dx

end
-- ==== Proof.lean ====
/-
  The claim, from the runs of each call's programs and the values they end with.
-/
module

public import proofs.«01_k».proof.Defs
public import proofs.«01_k».proof.Proof.UpDwValue
public import proofs.«01_k».proof.Proof.Gen.KernelUpDw
public import proofs.«01_k».proof.Proof.SiblingRowsValue
public import proofs.«01_k».proof.Proof.Gen.KernelSiblingRows
public import proofs.«01_k».proof.Proof.OwnRowsValue
public import proofs.«01_k».proof.Proof.Gen.KernelOwnRows
public import proofs.«01_k».proof.Proof.ProjDxValue
public import proofs.«01_k».proof.Proof.Gen.KernelProjDx
public import proofs.«01_k».proof.Proof.UpDxValue
public import proofs.«01_k».proof.Proof.Gen.KernelUpDx
public import proofs.«01_k».proof.Proof.StepRow
public import proofs.«01_k».proof.Proof.StepMeta
public import proofs.«01_k».proof.Proof.StepConv
public import proofs.«01_k».proof.Proof.StepBias
public import proofs.«01_k».proof.Proof.StepPool
public import proofs.«01_k».proof.Proof.StepGate
public import proofs.«01_k».proof.Proof.StepOut
public import proofs.«01_k».proof.Proof.StepIn
public import proofs.«01_k».proof.Proof.StepMlp
public import proofs.«01_k».proof.Proof.NormDx
public import proofs.«01_k».proof.Proof.Down
public import proofs.«01_k».proof.Proof.DownDx
public import proofs.«01_k».proof.Proof.DownDw
public import proofs.«01_k».proof.Proof.OutDx
public import proofs.«01_k».proof.Proof.OutDw
public import proofs.«01_k».proof.Proof.Norm2Dx

@[expose] public section

namespace Cert.Proof

theorem claim : Cert.Claim :=
  ⟨Cert.KernelUpDw.Gen.facts, Cert.KernelUpDwIdeal.Gen.facts, Cert.ReferenceUpDwIdeal.Gen.facts,
    Cert.KernelSiblingRows.Gen.facts, Cert.KernelSiblingRowsIdeal.Gen.facts, Cert.ReferenceSiblingRowsIdeal.Gen.facts,
    Cert.KernelOwnRows.Gen.facts, Cert.KernelOwnRowsIdeal.Gen.facts, Cert.ReferenceOwnRowsIdeal.Gen.facts,
    Cert.KernelProjDx.Gen.facts, Cert.KernelProjDxIdeal.Gen.facts, Cert.ReferenceProjDxIdeal.Gen.facts,
    Cert.KernelUpDx.Gen.facts, Cert.KernelUpDxIdeal.Gen.facts, Cert.ReferenceUpDxIdeal.Gen.facts,
    Cert.KernelStepRow.Gen.facts, Cert.KernelStepRowIdeal.Gen.facts, Cert.ReferenceStepRowIdeal.Gen.facts,
    Cert.KernelStepMeta.Gen.facts, Cert.KernelStepMetaIdeal.Gen.facts, Cert.ReferenceStepMetaIdeal.Gen.facts,
    Cert.KernelStepConv.Gen.facts, Cert.KernelStepConvIdeal.Gen.facts, Cert.ReferenceStepConvIdeal.Gen.facts,
    Cert.KernelStepBias.Gen.facts, Cert.KernelStepBiasIdeal.Gen.facts, Cert.ReferenceStepBiasIdeal.Gen.facts,
    Cert.KernelStepPool.Gen.facts, Cert.KernelStepPoolIdeal.Gen.facts, Cert.ReferenceStepPoolIdeal.Gen.facts,
    Cert.KernelStepGate.Gen.facts, Cert.KernelStepGateIdeal.Gen.facts, Cert.ReferenceStepGateIdeal.Gen.facts,
    Cert.KernelStepOut.Gen.facts, Cert.KernelStepOutIdeal.Gen.facts, Cert.ReferenceStepOutIdeal.Gen.facts,
    Cert.KernelStepIn.Gen.facts, Cert.KernelStepInIdeal.Gen.facts, Cert.ReferenceStepInIdeal.Gen.facts,
    Cert.KernelStepMlp.Gen.facts, Cert.KernelStepMlpIdeal.Gen.facts, Cert.ReferenceStepMlpIdeal.Gen.facts,
    Cert.KernelNormDx.Gen.facts, Cert.KernelNormDxIdeal.Gen.facts, Cert.ReferenceNormDxIdeal.Gen.facts,
    Cert.KernelNorm2Dx.Gen.facts, Cert.KernelNorm2DxIdeal.Gen.facts, Cert.ReferenceNorm2DxIdeal.Gen.facts,
    Cert.KernelDown.Gen.facts, Cert.KernelDownIdeal.Gen.facts, Cert.ReferenceDownIdeal.Gen.facts,
    Cert.KernelDownDx.Gen.facts, Cert.KernelDownDxIdeal.Gen.facts, Cert.ReferenceDownDxIdeal.Gen.facts,
    Cert.KernelDownDw.Gen.facts, Cert.KernelDownDwIdeal.Gen.facts, Cert.ReferenceDownDwIdeal.Gen.facts,
    Cert.KernelOutDx.Gen.facts, Cert.KernelOutDxIdeal.Gen.facts, Cert.ReferenceOutDxIdeal.Gen.facts,
    Cert.KernelOutDw.Gen.facts, Cert.KernelOutDwIdeal.Gen.facts, Cert.ReferenceOutDwIdeal.Gen.facts,
    Cert.On_near_chips.Gen.facts,
    Cert.UpDw.frame_kernel, Cert.UpDw.frame_ideal, Cert.UpDw.Ref.frame,
    Cert.SiblingRows.frame_kernel, Cert.SiblingRows.frame_ideal, Cert.SiblingRows.Ref.frame,
    Cert.OwnRows.frame_kernel, Cert.OwnRows.frame_ideal, Cert.OwnRows.Ref.frame,
    Cert.ProjDx.frame_kernel, Cert.ProjDx.frame_ideal, Cert.ProjDx.Ref.frame,
    Cert.UpDx.frame_kernel, Cert.UpDx.frame_ideal, Cert.UpDx.Ref.frame,
    Cert.StepRow.frame_kernel, Cert.StepRow.frame_ideal, Cert.StepRow.frame_ref,
    Cert.StepMeta.frame_kernel, Cert.StepMeta.frame_ideal, Cert.StepMeta.frame_ref,
    Cert.StepConv.frame_kernel, Cert.StepConv.frame_ideal, Cert.StepConv.frame_ref,
    Cert.StepBias.frame_kernel, Cert.StepBias.frame_ideal, Cert.StepBias.frame_ref,
    Cert.StepPool.frame_kernel, Cert.StepPool.frame_ideal, Cert.StepPool.frame_ref,
    Cert.StepGate.frame_kernel, Cert.StepGate.frame_ideal, Cert.StepGate.frame_ref,
    Cert.StepOut.frame_kernel, Cert.StepOut.frame_ideal, Cert.StepOut.frame_ref,
    Cert.StepIn.frame_kernel, Cert.StepIn.frame_ideal, Cert.StepIn.frame_ref,
    Cert.StepMlp.frame_kernel, Cert.StepMlp.frame_ideal, Cert.StepMlp.frame_ref,
    Cert.NormDx.frame_kernel, Cert.NormDx.frame_ideal, Cert.NormDx.frame_ref,
    Cert.Norm2Dx.frame_kernel, Cert.Norm2Dx.frame_ideal, Cert.Norm2Dx.frame_ref,
    Cert.Down.frame_kernel, Cert.Down.frame_ideal, Cert.Down.frame_ref,
    Cert.DownDx.frame_kernel, Cert.DownDx.frame_ideal, Cert.DownDx.frame_ref,
    Cert.DownDw.frame_kernel, Cert.DownDw.frame_ideal, Cert.DownDw.frame_ref,
    Cert.OutDx.frame_kernel, Cert.OutDx.frame_ideal, Cert.OutDx.frame_ref,
    Cert.OutDw.frame_kernel, Cert.OutDw.frame_ideal, Cert.OutDw.frame_ref,
    trivial, Cert.UpDw.algebraic, trivial, Cert.SiblingRows.algebraic, trivial, Cert.OwnRows.algebraic,
    trivial, Cert.ProjDx.algebraic, trivial, Cert.UpDx.algebraic,
    trivial, Cert.StepRow.algebraic, trivial, Cert.StepMeta.algebraic, trivial, Cert.StepConv.algebraic,
    trivial, Cert.StepBias.algebraic, trivial, Cert.StepPool.algebraic, trivial, Cert.StepGate.algebraic,
    trivial, Cert.StepOut.algebraic, trivial, Cert.StepIn.algebraic, trivial, Cert.StepMlp.algebraic,
    trivial, Cert.NormDx.algebraic, trivial, Cert.Norm2Dx.algebraic, trivial, Cert.Down.algebraic, trivial, Cert.DownDx.algebraic,
    trivial, Cert.DownDw.algebraic, trivial, Cert.OutDx.algebraic, trivial, Cert.OutDw.algebraic⟩

end Cert.Proof
